-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelRgIn (m : (ℓ : Loc Cert.KernelRgIn.nD Cert.KernelRgIn.τ Cert.KernelRgIn.sig) → Buf (Elt Bits) ℓ) : Prop :=
  True

def Pre_KernelRgInIdeal (m : (ℓ : Loc Cert.KernelRgInIdeal.nD Cert.KernelRgInIdeal.τ Cert.KernelRgInIdeal.sig) → Buf (Elt Ideal) ℓ) : Prop :=
  True

def Pre_ReferenceRgInIdeal (m : (ℓ : Loc Cert.ReferenceRgInIdeal.nD Cert.ReferenceRgInIdeal.τ Cert.ReferenceRgInIdeal.sig) → Buf (Elt Ideal) ℓ) : Prop :=
  True

def Pre_KernelRgOut (m : (ℓ : Loc Cert.KernelRgOut.nD Cert.KernelRgOut.τ Cert.KernelRgOut.sig) → Buf (Elt Bits) ℓ) : Prop :=
  True

def Pre_KernelRgOutIdeal (m : (ℓ : Loc Cert.KernelRgOutIdeal.nD Cert.KernelRgOutIdeal.τ Cert.KernelRgOutIdeal.sig) → Buf (Elt Ideal) ℓ) : Prop :=
  True

def Pre_ReferenceRgOutIdeal (m : (ℓ : Loc Cert.ReferenceRgOutIdeal.nD Cert.ReferenceRgOutIdeal.τ Cert.ReferenceRgOutIdeal.sig) → Buf (Elt Ideal) ℓ) : Prop :=
  True

def Pre_KernelSquare (m : (ℓ : Loc Cert.KernelSquare.nD Cert.KernelSquare.τ Cert.KernelSquare.sig) → Buf (Elt Bits) ℓ) : Prop :=
  True

def Pre_KernelSquareIdeal (m : (ℓ : Loc Cert.KernelSquareIdeal.nD Cert.KernelSquareIdeal.τ Cert.KernelSquareIdeal.sig) → Buf (Elt Ideal) ℓ) : Prop :=
  True

def Pre_ReferenceSquareIdeal (m : (ℓ : Loc Cert.ReferenceSquareIdeal.nD Cert.ReferenceSquareIdeal.τ Cert.ReferenceSquareIdeal.sig) → Buf (Elt Ideal) ℓ) : Prop :=
  True

def Pre_KernelQuery (m : (ℓ : Loc Cert.KernelQuery.nD Cert.KernelQuery.τ Cert.KernelQuery.sig) → Buf (Elt Bits) ℓ) : Prop :=
  True

def Pre_KernelQueryIdeal (m : (ℓ : Loc Cert.KernelQueryIdeal.nD Cert.KernelQueryIdeal.τ Cert.KernelQueryIdeal.sig) → Buf (Elt Ideal) ℓ) : Prop :=
  True

def Pre_ReferenceQueryIdeal (m : (ℓ : Loc Cert.ReferenceQueryIdeal.nD Cert.ReferenceQueryIdeal.τ Cert.ReferenceQueryIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelGateDown (m : (ℓ : Loc Cert.KernelGateDown.nD Cert.KernelGateDown.τ Cert.KernelGateDown.sig) → Buf (Elt Bits) ℓ) : Prop :=
  True

def Pre_KernelGateDownIdeal (m : (ℓ : Loc Cert.KernelGateDownIdeal.nD Cert.KernelGateDownIdeal.τ Cert.KernelGateDownIdeal.sig) → Buf (Elt Ideal) ℓ) : Prop :=
  True

def Pre_ReferenceGateDownIdeal (m : (ℓ : Loc Cert.ReferenceGateDownIdeal.nD Cert.ReferenceGateDownIdeal.τ Cert.ReferenceGateDownIdeal.sig) → Buf (Elt Ideal) ℓ) : Prop :=
  True

def Pre_KernelGateUp (m : (ℓ : Loc Cert.KernelGateUp.nD Cert.KernelGateUp.τ Cert.KernelGateUp.sig) → Buf (Elt Bits) ℓ) : Prop :=
  True

def Pre_KernelGateUpIdeal (m : (ℓ : Loc Cert.KernelGateUpIdeal.nD Cert.KernelGateUpIdeal.τ Cert.KernelGateUpIdeal.sig) → Buf (Elt Ideal) ℓ) : Prop :=
  True

def Pre_ReferenceGateUpIdeal (m : (ℓ : Loc Cert.ReferenceGateUpIdeal.nD Cert.ReferenceGateUpIdeal.τ Cert.ReferenceGateUpIdeal.sig) → Buf (Elt Ideal) ℓ) : Prop :=
  True

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def Pre_KernelDecayDown (m : (ℓ : Loc Cert.KernelDecayDown.nD Cert.KernelDecayDown.τ Cert.KernelDecayDown.sig) → Buf (Elt Bits) ℓ) : Prop :=
  True

def Pre_KernelDecayDownIdeal (m : (ℓ : Loc Cert.KernelDecayDownIdeal.nD Cert.KernelDecayDownIdeal.τ Cert.KernelDecayDownIdeal.sig) → Buf (Elt Ideal) ℓ) : Prop :=
  True

def Pre_ReferenceDecayDownIdeal (m : (ℓ : Loc Cert.ReferenceDecayDownIdeal.nD Cert.ReferenceDecayDownIdeal.τ Cert.ReferenceDecayDownIdeal.sig) → Buf (Elt Ideal) ℓ) : Prop :=
  True

def Pre_KernelRateDown (m : (ℓ : Loc Cert.KernelRateDown.nD Cert.KernelRateDown.τ Cert.KernelRateDown.sig) → Buf (Elt Bits) ℓ) : Prop :=
  True

def Pre_KernelRateDownIdeal (m : (ℓ : Loc Cert.KernelRateDownIdeal.nD Cert.KernelRateDownIdeal.τ Cert.KernelRateDownIdeal.sig) → Buf (Elt Ideal) ℓ) : Prop :=
  True

def Pre_ReferenceRateDownIdeal (m : (ℓ : Loc Cert.ReferenceRateDownIdeal.nD Cert.ReferenceRateDownIdeal.τ Cert.ReferenceRateDownIdeal.sig) → Buf (Elt Ideal) ℓ) : Prop :=
  True

def Pre_KernelPairUp (m : (ℓ : Loc Cert.KernelPairUp.nD Cert.KernelPairUp.τ Cert.KernelPairUp.sig) → Buf (Elt Bits) ℓ) : Prop :=
  True

def Pre_KernelPairUpIdeal (m : (ℓ : Loc Cert.KernelPairUpIdeal.nD Cert.KernelPairUpIdeal.τ Cert.KernelPairUpIdeal.sig) → Buf (Elt Ideal) ℓ) : Prop :=
  True

def Pre_ReferencePairUpIdeal (m : (ℓ : Loc Cert.ReferencePairUpIdeal.nD Cert.ReferencePairUpIdeal.τ Cert.ReferencePairUpIdeal.sig) → Buf (Elt Ideal) ℓ) : Prop :=
  True

def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_ReferenceMidIdeal (m : (ℓ : Loc Cert.ReferenceMidIdeal.nD Cert.ReferenceMidIdeal.τ Cert.ReferenceMidIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelRgIn [hKernelRgIn : Cert.KernelRgIn.Facts] : Prop :=
  ∀ (m : (ℓ : Loc Cert.KernelRgIn.nD Cert.KernelRgIn.τ Cert.KernelRgIn.sig) → Buf (Elt Bits) ℓ) (g : Dev Cert.KernelRgIn.nD → PrngReg), Pre_KernelRgIn m →
    θ_run (Cert.KernelRgIn.defs (F := Bits)) (onTc (τ := Cert.KernelRgIn.τ) (Cert.KernelRgIn.main (F := Bits))) ⟨m, fun _ => 0, g⟩ (fun r => (∀ c : Dev Cert.KernelRgIn.nD,
      r.2.mem ((c.tc : Thread Cert.KernelRgIn.nD Cert.KernelRgIn.τ).loc Cert.KernelRgIn.main_arg0) = m ((c.tc : Thread Cert.KernelRgIn.nD Cert.KernelRgIn.τ).loc Cert.KernelRgIn.main_arg0)
      ∧ r.2.mem ((c.tc : Thread Cert.KernelRgIn.nD Cert.KernelRgIn.τ).loc Cert.KernelRgIn.main_arg1) = m ((c.tc : Thread Cert.KernelRgIn.nD Cert.KernelRgIn.τ).loc Cert.KernelRgIn.main_arg1))
      ∧ r.2.sem = fun _ => 0)

def quiescent_KernelRgInIdeal [hKernelRgInIdeal : Cert.KernelRgInIdeal.Facts] : Prop :=
  ∀ (m : (ℓ : Loc Cert.KernelRgInIdeal.nD Cert.KernelRgInIdeal.τ Cert.KernelRgInIdeal.sig) → Buf (Elt Ideal) ℓ) (g : Dev Cert.KernelRgInIdeal.nD → PrngReg), Pre_KernelRgInIdeal m →
    θ_run (Cert.KernelRgInIdeal.defs (F := Ideal)) (onTc (τ := Cert.KernelRgInIdeal.τ) (Cert.KernelRgInIdeal.main (F := Ideal))) ⟨m, fun _ => 0, g⟩ (fun r => (∀ c : Dev Cert.KernelRgInIdeal.nD,
      r.2.mem ((c.tc : Thread Cert.KernelRgInIdeal.nD Cert.KernelRgInIdeal.τ).loc Cert.KernelRgInIdeal.main_arg0) = m ((c.tc : Thread Cert.KernelRgInIdeal.nD Cert.KernelRgInIdeal.τ).loc Cert.KernelRgInIdeal.main_arg0)
      ∧ r.2.mem ((c.tc : Thread Cert.KernelRgInIdeal.nD Cert.KernelRgInIdeal.τ).loc Cert.KernelRgInIdeal.main_arg1) = m ((c.tc : Thread Cert.KernelRgInIdeal.nD Cert.KernelRgInIdeal.τ).loc Cert.KernelRgInIdeal.main_arg1))
      ∧ r.2.sem = fun _ => 0)

def quiescent_ReferenceRgInIdeal [hReferenceRgInIdeal : Cert.ReferenceRgInIdeal.Facts] : Prop :=
  ∀ (m : (ℓ : Loc Cert.ReferenceRgInIdeal.nD Cert.ReferenceRgInIdeal.τ Cert.ReferenceRgInIdeal.sig) → Buf (Elt Ideal) ℓ) (g : Dev Cert.ReferenceRgInIdeal.nD → PrngReg), Pre_ReferenceRgInIdeal m →
    θ_run (Cert.ReferenceRgInIdeal.defs (F := Ideal)) (onTc (τ := Cert.ReferenceRgInIdeal.τ) (Cert.ReferenceRgInIdeal.main (F := Ideal))) ⟨m, fun _ => 0, g⟩ (fun r => (∀ c : Dev Cert.ReferenceRgInIdeal.nD,
      r.2.mem ((c.tc : Thread Cert.ReferenceRgInIdeal.nD Cert.ReferenceRgInIdeal.τ).loc Cert.ReferenceRgInIdeal.main_arg0) = m ((c.tc : Thread Cert.ReferenceRgInIdeal.nD Cert.ReferenceRgInIdeal.τ).loc Cert.ReferenceRgInIdeal.main_arg0)
      ∧ r.2.mem ((c.tc : Thread Cert.ReferenceRgInIdeal.nD Cert.ReferenceRgInIdeal.τ).loc Cert.ReferenceRgInIdeal.main_arg1) = m ((c.tc : Thread Cert.ReferenceRgInIdeal.nD Cert.ReferenceRgInIdeal.τ).loc Cert.ReferenceRgInIdeal.main_arg1))
      ∧ r.2.sem = fun _ => 0)

def quiescent_KernelRgOut [hKernelRgOut : Cert.KernelRgOut.Facts] : Prop :=
  ∀ (m : (ℓ : Loc Cert.KernelRgOut.nD Cert.KernelRgOut.τ Cert.KernelRgOut.sig) → Buf (Elt Bits) ℓ) (g : Dev Cert.KernelRgOut.nD → PrngReg), Pre_KernelRgOut m →
    θ_run (Cert.KernelRgOut.defs (F := Bits)) (onTc (τ := Cert.KernelRgOut.τ) (Cert.KernelRgOut.main (F := Bits))) ⟨m, fun _ => 0, g⟩ (fun r => (∀ c : Dev Cert.KernelRgOut.nD,
      r.2.mem ((c.tc : Thread Cert.KernelRgOut.nD Cert.KernelRgOut.τ).loc Cert.KernelRgOut.main_arg0) = m ((c.tc : Thread Cert.KernelRgOut.nD Cert.KernelRgOut.τ).loc Cert.KernelRgOut.main_arg0)
      ∧ r.2.mem ((c.tc : Thread Cert.KernelRgOut.nD Cert.KernelRgOut.τ).loc Cert.KernelRgOut.main_arg1) = m ((c.tc : Thread Cert.KernelRgOut.nD Cert.KernelRgOut.τ).loc Cert.KernelRgOut.main_arg1)
      ∧ r.2.mem ((c.tc : Thread Cert.KernelRgOut.nD Cert.KernelRgOut.τ).loc Cert.KernelRgOut.main_arg2) = m ((c.tc : Thread Cert.KernelRgOut.nD Cert.KernelRgOut.τ).loc Cert.KernelRgOut.main_arg2))
      ∧ r.2.sem = fun _ => 0)

def quiescent_KernelRgOutIdeal [hKernelRgOutIdeal : Cert.KernelRgOutIdeal.Facts] : Prop :=
  ∀ (m : (ℓ : Loc Cert.KernelRgOutIdeal.nD Cert.KernelRgOutIdeal.τ Cert.KernelRgOutIdeal.sig) → Buf (Elt Ideal) ℓ) (g : Dev Cert.KernelRgOutIdeal.nD → PrngReg), Pre_KernelRgOutIdeal m →
    θ_run (Cert.KernelRgOutIdeal.defs (F := Ideal)) (onTc (τ := Cert.KernelRgOutIdeal.τ) (Cert.KernelRgOutIdeal.main (F := Ideal))) ⟨m, fun _ => 0, g⟩ (fun r => (∀ c : Dev Cert.KernelRgOutIdeal.nD,
      r.2.mem ((c.tc : Thread Cert.KernelRgOutIdeal.nD Cert.KernelRgOutIdeal.τ).loc Cert.KernelRgOutIdeal.main_arg0) = m ((c.tc : Thread Cert.KernelRgOutIdeal.nD Cert.KernelRgOutIdeal.τ).loc Cert.KernelRgOutIdeal.main_arg0)
      ∧ r.2.mem ((c.tc : Thread Cert.KernelRgOutIdeal.nD Cert.KernelRgOutIdeal.τ).loc Cert.KernelRgOutIdeal.main_arg1) = m ((c.tc : Thread Cert.KernelRgOutIdeal.nD Cert.KernelRgOutIdeal.τ).loc Cert.KernelRgOutIdeal.main_arg1)
      ∧ r.2.mem ((c.tc : Thread Cert.KernelRgOutIdeal.nD Cert.KernelRgOutIdeal.τ).loc Cert.KernelRgOutIdeal.main_arg2) = m ((c.tc : Thread Cert.KernelRgOutIdeal.nD Cert.KernelRgOutIdeal.τ).loc Cert.KernelRgOutIdeal.main_arg2))
      ∧ r.2.sem = fun _ => 0)

def quiescent_ReferenceRgOutIdeal [hReferenceRgOutIdeal : Cert.ReferenceRgOutIdeal.Facts] : Prop :=
  ∀ (m : (ℓ : Loc Cert.ReferenceRgOutIdeal.nD Cert.ReferenceRgOutIdeal.τ Cert.ReferenceRgOutIdeal.sig) → Buf (Elt Ideal) ℓ) (g : Dev Cert.ReferenceRgOutIdeal.nD → PrngReg), Pre_ReferenceRgOutIdeal m →
    θ_run (Cert.ReferenceRgOutIdeal.defs (F := Ideal)) (onTc (τ := Cert.ReferenceRgOutIdeal.τ) (Cert.ReferenceRgOutIdeal.main (F := Ideal))) ⟨m, fun _ => 0, g⟩ (fun r => (∀ c : Dev Cert.ReferenceRgOutIdeal.nD,
      r.2.mem ((c.tc : Thread Cert.ReferenceRgOutIdeal.nD Cert.ReferenceRgOutIdeal.τ).loc Cert.ReferenceRgOutIdeal.main_arg0) = m ((c.tc : Thread Cert.ReferenceRgOutIdeal.nD Cert.ReferenceRgOutIdeal.τ).loc Cert.ReferenceRgOutIdeal.main_arg0)
      ∧ r.2.mem ((c.tc : Thread Cert.ReferenceRgOutIdeal.nD Cert.ReferenceRgOutIdeal.τ).loc Cert.ReferenceRgOutIdeal.main_arg1) = m ((c.tc : Thread Cert.ReferenceRgOutIdeal.nD Cert.ReferenceRgOutIdeal.τ).loc Cert.ReferenceRgOutIdeal.main_arg1)
      ∧ r.2.mem ((c.tc : Thread Cert.ReferenceRgOutIdeal.nD Cert.ReferenceRgOutIdeal.τ).loc Cert.ReferenceRgOutIdeal.main_arg2) = m ((c.tc : Thread Cert.ReferenceRgOutIdeal.nD Cert.ReferenceRgOutIdeal.τ).loc Cert.ReferenceRgOutIdeal.main_arg2))
      ∧ r.2.sem = fun _ => 0)

def quiescent_KernelSquare [hKernelSquare : Cert.KernelSquare.Facts] : Prop :=
  ∀ (m : (ℓ : Loc Cert.KernelSquare.nD Cert.KernelSquare.τ Cert.KernelSquare.sig) → Buf (Elt Bits) ℓ) (g : Dev Cert.KernelSquare.nD → PrngReg), Pre_KernelSquare m →
    θ_run (Cert.KernelSquare.defs (F := Bits)) (onTc (τ := Cert.KernelSquare.τ) (Cert.KernelSquare.main (F := Bits))) ⟨m, fun _ => 0, g⟩ (fun r => (∀ c : Dev Cert.KernelSquare.nD,
      r.2.mem ((c.tc : Thread Cert.KernelSquare.nD Cert.KernelSquare.τ).loc Cert.KernelSquare.main_arg0) = m ((c.tc : Thread Cert.KernelSquare.nD Cert.KernelSquare.τ).loc Cert.KernelSquare.main_arg0)
      ∧ r.2.mem ((c.tc : Thread Cert.KernelSquare.nD Cert.KernelSquare.τ).loc Cert.KernelSquare.main_arg1) = m ((c.tc : Thread Cert.KernelSquare.nD Cert.KernelSquare.τ).loc Cert.KernelSquare.main_arg1))
      ∧ r.2.sem = fun _ => 0)

def quiescent_KernelSquareIdeal [hKernelSquareIdeal : Cert.KernelSquareIdeal.Facts] : Prop :=
  ∀ (m : (ℓ : Loc Cert.KernelSquareIdeal.nD Cert.KernelSquareIdeal.τ Cert.KernelSquareIdeal.sig) → Buf (Elt Ideal) ℓ) (g : Dev Cert.KernelSquareIdeal.nD → PrngReg), Pre_KernelSquareIdeal m →
    θ_run (Cert.KernelSquareIdeal.defs (F := Ideal)) (onTc (τ := Cert.KernelSquareIdeal.τ) (Cert.KernelSquareIdeal.main (F := Ideal))) ⟨m, fun _ => 0, g⟩ (fun r => (∀ c : Dev Cert.KernelSquareIdeal.nD,
      r.2.mem ((c.tc : Thread Cert.KernelSquareIdeal.nD Cert.KernelSquareIdeal.τ).loc Cert.KernelSquareIdeal.main_arg0) = m ((c.tc : Thread Cert.KernelSquareIdeal.nD Cert.KernelSquareIdeal.τ).loc Cert.KernelSquareIdeal.main_arg0)
      ∧ r.2.mem ((c.tc : Thread Cert.KernelSquareIdeal.nD Cert.KernelSquareIdeal.τ).loc Cert.KernelSquareIdeal.main_arg1) = m ((c.tc : Thread Cert.KernelSquareIdeal.nD Cert.KernelSquareIdeal.τ).loc Cert.KernelSquareIdeal.main_arg1))
      ∧ r.2.sem = fun _ => 0)

def quiescent_ReferenceSquareIdeal [hReferenceSquareIdeal : Cert.ReferenceSquareIdeal.Facts] : Prop :=
  ∀ (m : (ℓ : Loc Cert.ReferenceSquareIdeal.nD Cert.ReferenceSquareIdeal.τ Cert.ReferenceSquareIdeal.sig) → Buf (Elt Ideal) ℓ) (g : Dev Cert.ReferenceSquareIdeal.nD → PrngReg), Pre_ReferenceSquareIdeal m →
    θ_run (Cert.ReferenceSquareIdeal.defs (F := Ideal)) (onTc (τ := Cert.ReferenceSquareIdeal.τ) (Cert.ReferenceSquareIdeal.main (F := Ideal))) ⟨m, fun _ => 0, g⟩ (fun r => (∀ c : Dev Cert.ReferenceSquareIdeal.nD,
      r.2.mem ((c.tc : Thread Cert.ReferenceSquareIdeal.nD Cert.ReferenceSquareIdeal.τ).loc Cert.ReferenceSquareIdeal.main_arg0) = m ((c.tc : Thread Cert.ReferenceSquareIdeal.nD Cert.ReferenceSquareIdeal.τ).loc Cert.ReferenceSquareIdeal.main_arg0)
      ∧ r.2.mem ((c.tc : Thread Cert.ReferenceSquareIdeal.nD Cert.ReferenceSquareIdeal.τ).loc Cert.ReferenceSquareIdeal.main_arg1) = m ((c.tc : Thread Cert.ReferenceSquareIdeal.nD Cert.ReferenceSquareIdeal.τ).loc Cert.ReferenceSquareIdeal.main_arg1))
      ∧ r.2.sem = fun _ => 0)

def quiescent_KernelQuery [hKernelQuery : Cert.KernelQuery.Facts] : Prop :=
  ∀ (m : (ℓ : Loc Cert.KernelQuery.nD Cert.KernelQuery.τ Cert.KernelQuery.sig) → Buf (Elt Bits) ℓ) (g : Dev Cert.KernelQuery.nD → PrngReg), Pre_KernelQuery m →
    θ_run (Cert.KernelQuery.defs (F := Bits)) (onTc (τ := Cert.KernelQuery.τ) (Cert.KernelQuery.main (F := Bits))) ⟨m, fun _ => 0, g⟩ (fun r => (∀ c : Dev Cert.KernelQuery.nD,
      r.2.mem ((c.tc : Thread Cert.KernelQuery.nD Cert.KernelQuery.τ).loc Cert.KernelQuery.main_arg0) = m ((c.tc : Thread Cert.KernelQuery.nD Cert.KernelQuery.τ).loc Cert.KernelQuery.main_arg0)
      ∧ r.2.mem ((c.tc : Thread Cert.KernelQuery.nD Cert.KernelQuery.τ).loc Cert.KernelQuery.main_arg1) = m ((c.tc : Thread Cert.KernelQuery.nD Cert.KernelQuery.τ).loc Cert.KernelQuery.main_arg1))
      ∧ r.2.sem = fun _ => 0)

def quiescent_KernelQueryIdeal [hKernelQueryIdeal : Cert.KernelQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg), Pre_KernelQueryIdeal m →
    θ_run (Cert.KernelQueryIdeal.defs (F := Ideal)) (onTc (τ := Cert.KernelQueryIdeal.τ) (Cert.KernelQueryIdeal.main (F := Ideal))) ⟨m, fun _ => 0, g⟩ (fun r => (∀ c : Dev Cert.KernelQueryIdeal.nD,
      r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
      ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1))
      ∧ r.2.sem = fun _ => 0)

def quiescent_ReferenceQueryIdeal [hReferenceQueryIdeal : Cert.ReferenceQueryIdeal.Facts] : Prop :=
  ∀ (m : (ℓ : Loc Cert.ReferenceQueryIdeal.nD Cert.ReferenceQueryIdeal.τ Cert.ReferenceQueryIdeal.sig) → Buf (Elt Ideal) ℓ) (g : Dev Cert.ReferenceQueryIdeal.nD → PrngReg), Pre_ReferenceQueryIdeal m →
    θ_run (Cert.ReferenceQueryIdeal.defs (F := Ideal)) (onTc (τ := Cert.ReferenceQueryIdeal.τ) (Cert.ReferenceQueryIdeal.main (F := Ideal))) ⟨m, fun _ => 0, g⟩ (fun r => (∀ c : Dev Cert.ReferenceQueryIdeal.nD,
      r.2.mem ((c.tc : Thread Cert.ReferenceQueryIdeal.nD Cert.ReferenceQueryIdeal.τ).loc Cert.ReferenceQueryIdeal.main_arg0) = m ((c.tc : Thread Cert.ReferenceQueryIdeal.nD Cert.ReferenceQueryIdeal.τ).loc Cert.ReferenceQueryIdeal.main_arg0)
      ∧ r.2.mem ((c.tc : Thread Cert.ReferenceQueryIdeal.nD Cert.ReferenceQueryIdeal.τ).loc Cert.ReferenceQueryIdeal.main_arg1) = m ((c.tc : Thread Cert.ReferenceQueryIdeal.nD Cert.ReferenceQueryIdeal.τ).loc Cert.ReferenceQueryIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3)
      ∧ r.2.mem ((c.tc : Thread Cert.KernelNorm.nD Cert.KernelNorm.τ).loc Cert.KernelNorm.main_arg4) = m ((c.tc : Thread Cert.KernelNorm.nD Cert.KernelNorm.τ).loc Cert.KernelNorm.main_arg4)
      ∧ r.2.mem ((c.tc : Thread Cert.KernelNorm.nD Cert.KernelNorm.τ).loc Cert.KernelNorm.main_arg5) = m ((c.tc : Thread Cert.KernelNorm.nD Cert.KernelNorm.τ).loc Cert.KernelNorm.main_arg5)
      ∧ r.2.mem ((c.tc : Thread Cert.KernelNorm.nD Cert.KernelNorm.τ).loc Cert.KernelNorm.main_arg6) = m ((c.tc : Thread Cert.KernelNorm.nD Cert.KernelNorm.τ).loc Cert.KernelNorm.main_arg6)
      ∧ r.2.mem ((c.tc : Thread Cert.KernelNorm.nD Cert.KernelNorm.τ).loc Cert.KernelNorm.main_arg7) = m ((c.tc : Thread Cert.KernelNorm.nD Cert.KernelNorm.τ).loc Cert.KernelNorm.main_arg7))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4)
      ∧ r.2.mem ((c.tc : Thread Cert.KernelNormIdeal.nD Cert.KernelNormIdeal.τ).loc Cert.KernelNormIdeal.main_arg5) = m ((c.tc : Thread Cert.KernelNormIdeal.nD Cert.KernelNormIdeal.τ).loc Cert.KernelNormIdeal.main_arg5)
      ∧ r.2.mem ((c.tc : Thread Cert.KernelNormIdeal.nD Cert.KernelNormIdeal.τ).loc Cert.KernelNormIdeal.main_arg6) = m ((c.tc : Thread Cert.KernelNormIdeal.nD Cert.KernelNormIdeal.τ).loc Cert.KernelNormIdeal.main_arg6)
      ∧ r.2.mem ((c.tc : Thread Cert.KernelNormIdeal.nD Cert.KernelNormIdeal.τ).loc Cert.KernelNormIdeal.main_arg7) = m ((c.tc : Thread Cert.KernelNormIdeal.nD Cert.KernelNormIdeal.τ).loc Cert.KernelNormIdeal.main_arg7))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4)
      ∧ r.2.mem ((c.tc : Thread Cert.ReferenceNormIdeal.nD Cert.ReferenceNormIdeal.τ).loc Cert.ReferenceNormIdeal.main_arg5) = m ((c.tc : Thread Cert.ReferenceNormIdeal.nD Cert.ReferenceNormIdeal.τ).loc Cert.ReferenceNormIdeal.main_arg5)
      ∧ r.2.mem ((c.tc : Thread Cert.ReferenceNormIdeal.nD Cert.ReferenceNormIdeal.τ).loc Cert.ReferenceNormIdeal.main_arg6) = m ((c.tc : Thread Cert.ReferenceNormIdeal.nD Cert.ReferenceNormIdeal.τ).loc Cert.ReferenceNormIdeal.main_arg6)
      ∧ r.2.mem ((c.tc : Thread Cert.ReferenceNormIdeal.nD Cert.ReferenceNormIdeal.τ).loc Cert.ReferenceNormIdeal.main_arg7) = m ((c.tc : Thread Cert.ReferenceNormIdeal.nD Cert.ReferenceNormIdeal.τ).loc Cert.ReferenceNormIdeal.main_arg7))
      ∧ r.2.sem = fun _ => 0)

def quiescent_KernelGateDown [hKernelGateDown : Cert.KernelGateDown.Facts] : Prop :=
  ∀ (m : (ℓ : Loc Cert.KernelGateDown.nD Cert.KernelGateDown.τ Cert.KernelGateDown.sig) → Buf (Elt Bits) ℓ) (g : Dev Cert.KernelGateDown.nD → PrngReg), Pre_KernelGateDown m →
    θ_run (Cert.KernelGateDown.defs (F := Bits)) (onTc (τ := Cert.KernelGateDown.τ) (Cert.KernelGateDown.main (F := Bits))) ⟨m, fun _ => 0, g⟩ (fun r => (∀ c : Dev Cert.KernelGateDown.nD,
      r.2.mem ((c.tc : Thread Cert.KernelGateDown.nD Cert.KernelGateDown.τ).loc Cert.KernelGateDown.main_arg0) = m ((c.tc : Thread Cert.KernelGateDown.nD Cert.KernelGateDown.τ).loc Cert.KernelGateDown.main_arg0)
      ∧ r.2.mem ((c.tc : Thread Cert.KernelGateDown.nD Cert.KernelGateDown.τ).loc Cert.KernelGateDown.main_arg1) = m ((c.tc : Thread Cert.KernelGateDown.nD Cert.KernelGateDown.τ).loc Cert.KernelGateDown.main_arg1))
      ∧ r.2.sem = fun _ => 0)

def quiescent_KernelGateDownIdeal [hKernelGateDownIdeal : Cert.KernelGateDownIdeal.Facts] : Prop :=
  ∀ (m : (ℓ : Loc Cert.KernelGateDownIdeal.nD Cert.KernelGateDownIdeal.τ Cert.KernelGateDownIdeal.sig) → Buf (Elt Ideal) ℓ) (g : Dev Cert.KernelGateDownIdeal.nD → PrngReg), Pre_KernelGateDownIdeal m →
    θ_run (Cert.KernelGateDownIdeal.defs (F := Ideal)) (onTc (τ := Cert.KernelGateDownIdeal.τ) (Cert.KernelGateDownIdeal.main (F := Ideal))) ⟨m, fun _ => 0, g⟩ (fun r => (∀ c : Dev Cert.KernelGateDownIdeal.nD,
      r.2.mem ((c.tc : Thread Cert.KernelGateDownIdeal.nD Cert.KernelGateDownIdeal.τ).loc Cert.KernelGateDownIdeal.main_arg0) = m ((c.tc : Thread Cert.KernelGateDownIdeal.nD Cert.KernelGateDownIdeal.τ).loc Cert.KernelGateDownIdeal.main_arg0)
      ∧ r.2.mem ((c.tc : Thread Cert.KernelGateDownIdeal.nD Cert.KernelGateDownIdeal.τ).loc Cert.KernelGateDownIdeal.main_arg1) = m ((c.tc : Thread Cert.KernelGateDownIdeal.nD Cert.KernelGateDownIdeal.τ).loc Cert.KernelGateDownIdeal.main_arg1))
      ∧ r.2.sem = fun _ => 0)

def quiescent_ReferenceGateDownIdeal [hReferenceGateDownIdeal : Cert.ReferenceGateDownIdeal.Facts] : Prop :=
  ∀ (m : (ℓ : Loc Cert.ReferenceGateDownIdeal.nD Cert.ReferenceGateDownIdeal.τ Cert.ReferenceGateDownIdeal.sig) → Buf (Elt Ideal) ℓ) (g : Dev Cert.ReferenceGateDownIdeal.nD → PrngReg), Pre_ReferenceGateDownIdeal m →
    θ_run (Cert.ReferenceGateDownIdeal.defs (F := Ideal)) (onTc (τ := Cert.ReferenceGateDownIdeal.τ) (Cert.ReferenceGateDownIdeal.main (F := Ideal))) ⟨m, fun _ => 0, g⟩ (fun r => (∀ c : Dev Cert.ReferenceGateDownIdeal.nD,
      r.2.mem ((c.tc : Thread Cert.ReferenceGateDownIdeal.nD Cert.ReferenceGateDownIdeal.τ).loc Cert.ReferenceGateDownIdeal.main_arg0) = m ((c.tc : Thread Cert.ReferenceGateDownIdeal.nD Cert.ReferenceGateDownIdeal.τ).loc Cert.ReferenceGateDownIdeal.main_arg0)
      ∧ r.2.mem ((c.tc : Thread Cert.ReferenceGateDownIdeal.nD Cert.ReferenceGateDownIdeal.τ).loc Cert.ReferenceGateDownIdeal.main_arg1) = m ((c.tc : Thread Cert.ReferenceGateDownIdeal.nD Cert.ReferenceGateDownIdeal.τ).loc Cert.ReferenceGateDownIdeal.main_arg1))
      ∧ r.2.sem = fun _ => 0)

def quiescent_KernelGateUp [hKernelGateUp : Cert.KernelGateUp.Facts] : Prop :=
  ∀ (m : (ℓ : Loc Cert.KernelGateUp.nD Cert.KernelGateUp.τ Cert.KernelGateUp.sig) → Buf (Elt Bits) ℓ) (g : Dev Cert.KernelGateUp.nD → PrngReg), Pre_KernelGateUp m →
    θ_run (Cert.KernelGateUp.defs (F := Bits)) (onTc (τ := Cert.KernelGateUp.τ) (Cert.KernelGateUp.main (F := Bits))) ⟨m, fun _ => 0, g⟩ (fun r => (∀ c : Dev Cert.KernelGateUp.nD,
      r.2.mem ((c.tc : Thread Cert.KernelGateUp.nD Cert.KernelGateUp.τ).loc Cert.KernelGateUp.main_arg0) = m ((c.tc : Thread Cert.KernelGateUp.nD Cert.KernelGateUp.τ).loc Cert.KernelGateUp.main_arg0)
      ∧ r.2.mem ((c.tc : Thread Cert.KernelGateUp.nD Cert.KernelGateUp.τ).loc Cert.KernelGateUp.main_arg1) = m ((c.tc : Thread Cert.KernelGateUp.nD Cert.KernelGateUp.τ).loc Cert.KernelGateUp.main_arg1))
      ∧ r.2.sem = fun _ => 0)

def quiescent_KernelGateUpIdeal [hKernelGateUpIdeal : Cert.KernelGateUpIdeal.Facts] : Prop :=
  ∀ (m : (ℓ : Loc Cert.KernelGateUpIdeal.nD Cert.KernelGateUpIdeal.τ Cert.KernelGateUpIdeal.sig) → Buf (Elt Ideal) ℓ) (g : Dev Cert.KernelGateUpIdeal.nD → PrngReg), Pre_KernelGateUpIdeal m →
    θ_run (Cert.KernelGateUpIdeal.defs (F := Ideal)) (onTc (τ := Cert.KernelGateUpIdeal.τ) (Cert.KernelGateUpIdeal.main (F := Ideal))) ⟨m, fun _ => 0, g⟩ (fun r => (∀ c : Dev Cert.KernelGateUpIdeal.nD,
      r.2.mem ((c.tc : Thread Cert.KernelGateUpIdeal.nD Cert.KernelGateUpIdeal.τ).loc Cert.KernelGateUpIdeal.main_arg0) = m ((c.tc : Thread Cert.KernelGateUpIdeal.nD Cert.KernelGateUpIdeal.τ).loc Cert.KernelGateUpIdeal.main_arg0)
      ∧ r.2.mem ((c.tc : Thread Cert.KernelGateUpIdeal.nD Cert.KernelGateUpIdeal.τ).loc Cert.KernelGateUpIdeal.main_arg1) = m ((c.tc : Thread Cert.KernelGateUpIdeal.nD Cert.KernelGateUpIdeal.τ).loc Cert.KernelGateUpIdeal.main_arg1))
      ∧ r.2.sem = fun _ => 0)

def quiescent_ReferenceGateUpIdeal [hReferenceGateUpIdeal : Cert.ReferenceGateUpIdeal.Facts] : Prop :=
  ∀ (m : (ℓ : Loc Cert.ReferenceGateUpIdeal.nD Cert.ReferenceGateUpIdeal.τ Cert.ReferenceGateUpIdeal.sig) → Buf (Elt Ideal) ℓ) (g : Dev Cert.ReferenceGateUpIdeal.nD → PrngReg), Pre_ReferenceGateUpIdeal m →
    θ_run (Cert.ReferenceGateUpIdeal.defs (F := Ideal)) (onTc (τ := Cert.ReferenceGateUpIdeal.τ) (Cert.ReferenceGateUpIdeal.main (F := Ideal))) ⟨m, fun _ => 0, g⟩ (fun r => (∀ c : Dev Cert.ReferenceGateUpIdeal.nD,
      r.2.mem ((c.tc : Thread Cert.ReferenceGateUpIdeal.nD Cert.ReferenceGateUpIdeal.τ).loc Cert.ReferenceGateUpIdeal.main_arg0) = m ((c.tc : Thread Cert.ReferenceGateUpIdeal.nD Cert.ReferenceGateUpIdeal.τ).loc Cert.ReferenceGateUpIdeal.main_arg0)
      ∧ r.2.mem ((c.tc : Thread Cert.ReferenceGateUpIdeal.nD Cert.ReferenceGateUpIdeal.τ).loc Cert.ReferenceGateUpIdeal.main_arg1) = m ((c.tc : Thread Cert.ReferenceGateUpIdeal.nD Cert.ReferenceGateUpIdeal.τ).loc Cert.ReferenceGateUpIdeal.main_arg1))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1)
      ∧ r.2.mem ((c.tc : Thread Cert.KernelGates.nD Cert.KernelGates.τ).loc Cert.KernelGates.main_arg2) = m ((c.tc : Thread Cert.KernelGates.nD Cert.KernelGates.τ).loc Cert.KernelGates.main_arg2)
      ∧ r.2.mem ((c.tc : Thread Cert.KernelGates.nD Cert.KernelGates.τ).loc Cert.KernelGates.main_arg3) = m ((c.tc : Thread Cert.KernelGates.nD Cert.KernelGates.τ).loc Cert.KernelGates.main_arg3)
      ∧ r.2.mem ((c.tc : Thread Cert.KernelGates.nD Cert.KernelGates.τ).loc Cert.KernelGates.main_arg4) = m ((c.tc : Thread Cert.KernelGates.nD Cert.KernelGates.τ).loc Cert.KernelGates.main_arg4)
      ∧ r.2.mem ((c.tc : Thread Cert.KernelGates.nD Cert.KernelGates.τ).loc Cert.KernelGates.main_arg5) = m ((c.tc : Thread Cert.KernelGates.nD Cert.KernelGates.τ).loc Cert.KernelGates.main_arg5))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
      ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3)
      ∧ r.2.mem ((c.tc : Thread Cert.KernelGatesIdeal.nD Cert.KernelGatesIdeal.τ).loc Cert.KernelGatesIdeal.main_arg4) = m ((c.tc : Thread Cert.KernelGatesIdeal.nD Cert.KernelGatesIdeal.τ).loc Cert.KernelGatesIdeal.main_arg4)
      ∧ r.2.mem ((c.tc : Thread Cert.KernelGatesIdeal.nD Cert.KernelGatesIdeal.τ).loc Cert.KernelGatesIdeal.main_arg5) = m ((c.tc : Thread Cert.KernelGatesIdeal.nD Cert.KernelGatesIdeal.τ).loc Cert.KernelGatesIdeal.main_arg5))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2)
      ∧ r.2.mem ((c.tc : Thread Cert.ReferenceGatesIdeal.nD Cert.ReferenceGatesIdeal.τ).loc Cert.ReferenceGatesIdeal.main_arg3) = m ((c.tc : Thread Cert.ReferenceGatesIdeal.nD Cert.ReferenceGatesIdeal.τ).loc Cert.ReferenceGatesIdeal.main_arg3)
      ∧ r.2.mem ((c.tc : Thread Cert.ReferenceGatesIdeal.nD Cert.ReferenceGatesIdeal.τ).loc Cert.ReferenceGatesIdeal.main_arg4) = m ((c.tc : Thread Cert.ReferenceGatesIdeal.nD Cert.ReferenceGatesIdeal.τ).loc Cert.ReferenceGatesIdeal.main_arg4)
      ∧ r.2.mem ((c.tc : Thread Cert.ReferenceGatesIdeal.nD Cert.ReferenceGatesIdeal.τ).loc Cert.ReferenceGatesIdeal.main_arg5) = m ((c.tc : Thread Cert.ReferenceGatesIdeal.nD Cert.ReferenceGatesIdeal.τ).loc Cert.ReferenceGatesIdeal.main_arg5))
      ∧ r.2.sem = fun _ => 0)

def quiescent_KernelDecayDown [hKernelDecayDown : Cert.KernelDecayDown.Facts] : Prop :=
  ∀ (m : (ℓ : Loc Cert.KernelDecayDown.nD Cert.KernelDecayDown.τ Cert.KernelDecayDown.sig) → Buf (Elt Bits) ℓ) (g : Dev Cert.KernelDecayDown.nD → PrngReg), Pre_KernelDecayDown m →
    θ_run (Cert.KernelDecayDown.defs (F := Bits)) (onTc (τ := Cert.KernelDecayDown.τ) (Cert.KernelDecayDown.main (F := Bits))) ⟨m, fun _ => 0, g⟩ (fun r => (∀ c : Dev Cert.KernelDecayDown.nD,
      r.2.mem ((c.tc : Thread Cert.KernelDecayDown.nD Cert.KernelDecayDown.τ).loc Cert.KernelDecayDown.main_arg0) = m ((c.tc : Thread Cert.KernelDecayDown.nD Cert.KernelDecayDown.τ).loc Cert.KernelDecayDown.main_arg0)
      ∧ r.2.mem ((c.tc : Thread Cert.KernelDecayDown.nD Cert.KernelDecayDown.τ).loc Cert.KernelDecayDown.main_arg1) = m ((c.tc : Thread Cert.KernelDecayDown.nD Cert.KernelDecayDown.τ).loc Cert.KernelDecayDown.main_arg1))
      ∧ r.2.sem = fun _ => 0)

def quiescent_KernelDecayDownIdeal [hKernelDecayDownIdeal : Cert.KernelDecayDownIdeal.Facts] : Prop :=
  ∀ (m : (ℓ : Loc Cert.KernelDecayDownIdeal.nD Cert.KernelDecayDownIdeal.τ Cert.KernelDecayDownIdeal.sig) → Buf (Elt Ideal) ℓ) (g : Dev Cert.KernelDecayDownIdeal.nD → PrngReg), Pre_KernelDecayDownIdeal m →
    θ_run (Cert.KernelDecayDownIdeal.defs (F := Ideal)) (onTc (τ := Cert.KernelDecayDownIdeal.τ) (Cert.KernelDecayDownIdeal.main (F := Ideal))) ⟨m, fun _ => 0, g⟩ (fun r => (∀ c : Dev Cert.KernelDecayDownIdeal.nD,
      r.2.mem ((c.tc : Thread Cert.KernelDecayDownIdeal.nD Cert.KernelDecayDownIdeal.τ).loc Cert.KernelDecayDownIdeal.main_arg0) = m ((c.tc : Thread Cert.KernelDecayDownIdeal.nD Cert.KernelDecayDownIdeal.τ).loc Cert.KernelDecayDownIdeal.main_arg0)
      ∧ r.2.mem ((c.tc : Thread Cert.KernelDecayDownIdeal.nD Cert.KernelDecayDownIdeal.τ).loc Cert.KernelDecayDownIdeal.main_arg1) = m ((c.tc : Thread Cert.KernelDecayDownIdeal.nD Cert.KernelDecayDownIdeal.τ).loc Cert.KernelDecayDownIdeal.main_arg1))
      ∧ r.2.sem = fun _ => 0)

def quiescent_ReferenceDecayDownIdeal [hReferenceDecayDownIdeal : Cert.ReferenceDecayDownIdeal.Facts] : Prop :=
  ∀ (m : (ℓ : Loc Cert.ReferenceDecayDownIdeal.nD Cert.ReferenceDecayDownIdeal.τ Cert.ReferenceDecayDownIdeal.sig) → Buf (Elt Ideal) ℓ) (g : Dev Cert.ReferenceDecayDownIdeal.nD → PrngReg), Pre_ReferenceDecayDownIdeal m →
    θ_run (Cert.ReferenceDecayDownIdeal.defs (F := Ideal)) (onTc (τ := Cert.ReferenceDecayDownIdeal.τ) (Cert.ReferenceDecayDownIdeal.main (F := Ideal))) ⟨m, fun _ => 0, g⟩ (fun r => (∀ c : Dev Cert.ReferenceDecayDownIdeal.nD,
      r.2.mem ((c.tc : Thread Cert.ReferenceDecayDownIdeal.nD Cert.ReferenceDecayDownIdeal.τ).loc Cert.ReferenceDecayDownIdeal.main_arg0) = m ((c.tc : Thread Cert.ReferenceDecayDownIdeal.nD Cert.ReferenceDecayDownIdeal.τ).loc Cert.ReferenceDecayDownIdeal.main_arg0)
      ∧ r.2.mem ((c.tc : Thread Cert.ReferenceDecayDownIdeal.nD Cert.ReferenceDecayDownIdeal.τ).loc Cert.ReferenceDecayDownIdeal.main_arg1) = m ((c.tc : Thread Cert.ReferenceDecayDownIdeal.nD Cert.ReferenceDecayDownIdeal.τ).loc Cert.ReferenceDecayDownIdeal.main_arg1))
      ∧ r.2.sem = fun _ => 0)

def quiescent_KernelRateDown [hKernelRateDown : Cert.KernelRateDown.Facts] : Prop :=
  ∀ (m : (ℓ : Loc Cert.KernelRateDown.nD Cert.KernelRateDown.τ Cert.KernelRateDown.sig) → Buf (Elt Bits) ℓ) (g : Dev Cert.KernelRateDown.nD → PrngReg), Pre_KernelRateDown m →
    θ_run (Cert.KernelRateDown.defs (F := Bits)) (onTc (τ := Cert.KernelRateDown.τ) (Cert.KernelRateDown.main (F := Bits))) ⟨m, fun _ => 0, g⟩ (fun r => (∀ c : Dev Cert.KernelRateDown.nD,
      r.2.mem ((c.tc : Thread Cert.KernelRateDown.nD Cert.KernelRateDown.τ).loc Cert.KernelRateDown.main_arg0) = m ((c.tc : Thread Cert.KernelRateDown.nD Cert.KernelRateDown.τ).loc Cert.KernelRateDown.main_arg0)
      ∧ r.2.mem ((c.tc : Thread Cert.KernelRateDown.nD Cert.KernelRateDown.τ).loc Cert.KernelRateDown.main_arg1) = m ((c.tc : Thread Cert.KernelRateDown.nD Cert.KernelRateDown.τ).loc Cert.KernelRateDown.main_arg1))
      ∧ r.2.sem = fun _ => 0)

def quiescent_KernelRateDownIdeal [hKernelRateDownIdeal : Cert.KernelRateDownIdeal.Facts] : Prop :=
  ∀ (m : (ℓ : Loc Cert.KernelRateDownIdeal.nD Cert.KernelRateDownIdeal.τ Cert.KernelRateDownIdeal.sig) → Buf (Elt Ideal) ℓ) (g : Dev Cert.KernelRateDownIdeal.nD → PrngReg), Pre_KernelRateDownIdeal m →
    θ_run (Cert.KernelRateDownIdeal.defs (F := Ideal)) (onTc (τ := Cert.KernelRateDownIdeal.τ) (Cert.KernelRateDownIdeal.main (F := Ideal))) ⟨m, fun _ => 0, g⟩ (fun r => (∀ c : Dev Cert.KernelRateDownIdeal.nD,
      r.2.mem ((c.tc : Thread Cert.KernelRateDownIdeal.nD Cert.KernelRateDownIdeal.τ).loc Cert.KernelRateDownIdeal.main_arg0) = m ((c.tc : Thread Cert.KernelRateDownIdeal.nD Cert.KernelRateDownIdeal.τ).loc Cert.KernelRateDownIdeal.main_arg0)
      ∧ r.2.mem ((c.tc : Thread Cert.KernelRateDownIdeal.nD Cert.KernelRateDownIdeal.τ).loc Cert.KernelRateDownIdeal.main_arg1) = m ((c.tc : Thread Cert.KernelRateDownIdeal.nD Cert.KernelRateDownIdeal.τ).loc Cert.KernelRateDownIdeal.main_arg1))
      ∧ r.2.sem = fun _ => 0)

def quiescent_ReferenceRateDownIdeal [hReferenceRateDownIdeal : Cert.ReferenceRateDownIdeal.Facts] : Prop :=
  ∀ (m : (ℓ : Loc Cert.ReferenceRateDownIdeal.nD Cert.ReferenceRateDownIdeal.τ Cert.ReferenceRateDownIdeal.sig) → Buf (Elt Ideal) ℓ) (g : Dev Cert.ReferenceRateDownIdeal.nD → PrngReg), Pre_ReferenceRateDownIdeal m →
    θ_run (Cert.ReferenceRateDownIdeal.defs (F := Ideal)) (onTc (τ := Cert.ReferenceRateDownIdeal.τ) (Cert.ReferenceRateDownIdeal.main (F := Ideal))) ⟨m, fun _ => 0, g⟩ (fun r => (∀ c : Dev Cert.ReferenceRateDownIdeal.nD,
      r.2.mem ((c.tc : Thread Cert.ReferenceRateDownIdeal.nD Cert.ReferenceRateDownIdeal.τ).loc Cert.ReferenceRateDownIdeal.main_arg0) = m ((c.tc : Thread Cert.ReferenceRateDownIdeal.nD Cert.ReferenceRateDownIdeal.τ).loc Cert.ReferenceRateDownIdeal.main_arg0)
      ∧ r.2.mem ((c.tc : Thread Cert.ReferenceRateDownIdeal.nD Cert.ReferenceRateDownIdeal.τ).loc Cert.ReferenceRateDownIdeal.main_arg1) = m ((c.tc : Thread Cert.ReferenceRateDownIdeal.nD Cert.ReferenceRateDownIdeal.τ).loc Cert.ReferenceRateDownIdeal.main_arg1))
      ∧ r.2.sem = fun _ => 0)

def quiescent_KernelPairUp [hKernelPairUp : Cert.KernelPairUp.Facts] : Prop :=
  ∀ (m : (ℓ : Loc Cert.KernelPairUp.nD Cert.KernelPairUp.τ Cert.KernelPairUp.sig) → Buf (Elt Bits) ℓ) (g : Dev Cert.KernelPairUp.nD → PrngReg), Pre_KernelPairUp m →
    θ_run (Cert.KernelPairUp.defs (F := Bits)) (onTc (τ := Cert.KernelPairUp.τ) (Cert.KernelPairUp.main (F := Bits))) ⟨m, fun _ => 0, g⟩ (fun r => (∀ c : Dev Cert.KernelPairUp.nD,
      r.2.mem ((c.tc : Thread Cert.KernelPairUp.nD Cert.KernelPairUp.τ).loc Cert.KernelPairUp.main_arg0) = m ((c.tc : Thread Cert.KernelPairUp.nD Cert.KernelPairUp.τ).loc Cert.KernelPairUp.main_arg0)
      ∧ r.2.mem ((c.tc : Thread Cert.KernelPairUp.nD Cert.KernelPairUp.τ).loc Cert.KernelPairUp.main_arg1) = m ((c.tc : Thread Cert.KernelPairUp.nD Cert.KernelPairUp.τ).loc Cert.KernelPairUp.main_arg1))
      ∧ r.2.sem = fun _ => 0)

def quiescent_KernelPairUpIdeal [hKernelPairUpIdeal : Cert.KernelPairUpIdeal.Facts] : Prop :=
  ∀ (m : (ℓ : Loc Cert.KernelPairUpIdeal.nD Cert.KernelPairUpIdeal.τ Cert.KernelPairUpIdeal.sig) → Buf (Elt Ideal) ℓ) (g : Dev Cert.KernelPairUpIdeal.nD → PrngReg), Pre_KernelPairUpIdeal m →
    θ_run (Cert.KernelPairUpIdeal.defs (F := Ideal)) (onTc (τ := Cert.KernelPairUpIdeal.τ) (Cert.KernelPairUpIdeal.main (F := Ideal))) ⟨m, fun _ => 0, g⟩ (fun r => (∀ c : Dev Cert.KernelPairUpIdeal.nD,
      r.2.mem ((c.tc : Thread Cert.KernelPairUpIdeal.nD Cert.KernelPairUpIdeal.τ).loc Cert.KernelPairUpIdeal.main_arg0) = m ((c.tc : Thread Cert.KernelPairUpIdeal.nD Cert.KernelPairUpIdeal.τ).loc Cert.KernelPairUpIdeal.main_arg0)
      ∧ r.2.mem ((c.tc : Thread Cert.KernelPairUpIdeal.nD Cert.KernelPairUpIdeal.τ).loc Cert.KernelPairUpIdeal.main_arg1) = m ((c.tc : Thread Cert.KernelPairUpIdeal.nD Cert.KernelPairUpIdeal.τ).loc Cert.KernelPairUpIdeal.main_arg1))
      ∧ r.2.sem = fun _ => 0)

def quiescent_ReferencePairUpIdeal [hReferencePairUpIdeal : Cert.ReferencePairUpIdeal.Facts] : Prop :=
  ∀ (m : (ℓ : Loc Cert.ReferencePairUpIdeal.nD Cert.ReferencePairUpIdeal.τ Cert.ReferencePairUpIdeal.sig) → Buf (Elt Ideal) ℓ) (g : Dev Cert.ReferencePairUpIdeal.nD → PrngReg), Pre_ReferencePairUpIdeal m →
    θ_run (Cert.ReferencePairUpIdeal.defs (F := Ideal)) (onTc (τ := Cert.ReferencePairUpIdeal.τ) (Cert.ReferencePairUpIdeal.main (F := Ideal))) ⟨m, fun _ => 0, g⟩ (fun r => (∀ c : Dev Cert.ReferencePairUpIdeal.nD,
      r.2.mem ((c.tc : Thread Cert.ReferencePairUpIdeal.nD Cert.ReferencePairUpIdeal.τ).loc Cert.ReferencePairUpIdeal.main_arg0) = m ((c.tc : Thread Cert.ReferencePairUpIdeal.nD Cert.ReferencePairUpIdeal.τ).loc Cert.ReferencePairUpIdeal.main_arg0)
      ∧ r.2.mem ((c.tc : Thread Cert.ReferencePairUpIdeal.nD Cert.ReferencePairUpIdeal.τ).loc Cert.ReferencePairUpIdeal.main_arg1) = m ((c.tc : Thread Cert.ReferencePairUpIdeal.nD Cert.ReferencePairUpIdeal.τ).loc Cert.ReferencePairUpIdeal.main_arg1))
      ∧ r.2.sem = fun _ => 0)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2)
      ∧ r.2.mem ((c.tc : Thread Cert.KernelMid.nD Cert.KernelMid.τ).loc Cert.KernelMid.main_arg3) = m ((c.tc : Thread Cert.KernelMid.nD Cert.KernelMid.τ).loc Cert.KernelMid.main_arg3)
      ∧ r.2.mem ((c.tc : Thread Cert.KernelMid.nD Cert.KernelMid.τ).loc Cert.KernelMid.main_arg4) = m ((c.tc : Thread Cert.KernelMid.nD Cert.KernelMid.τ).loc Cert.KernelMid.main_arg4)
      ∧ r.2.mem ((c.tc : Thread Cert.KernelMid.nD Cert.KernelMid.τ).loc Cert.KernelMid.main_arg5) = m ((c.tc : Thread Cert.KernelMid.nD Cert.KernelMid.τ).loc Cert.KernelMid.main_arg5))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
      ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4)
      ∧ r.2.mem ((c.tc : Thread Cert.ReferenceMidIdeal.nD Cert.ReferenceMidIdeal.τ).loc Cert.ReferenceMidIdeal.main_arg5) = m ((c.tc : Thread Cert.ReferenceMidIdeal.nD Cert.ReferenceMidIdeal.τ).loc Cert.ReferenceMidIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v1) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v1) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)) →
    ∃ (v0 : (c : Dev Cert.KernelMergeIdeal.nD) → Buf (Elt Ideal) ((c.tc : Thread Cert.KernelMergeIdeal.nD Cert.KernelMergeIdeal.τ).loc Cert.KernelMergeIdeal.main_v0)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v50) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v1) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelRgIn_KernelRgInIdeal : Prop :=
  True

def algebraic_KernelRgInIdeal_ReferenceRgInIdeal [hKernelRgInIdeal : Cert.KernelRgInIdeal.Facts] [hReferenceRgInIdeal : Cert.ReferenceRgInIdeal.Facts] : Prop :=
  ∀ (m : (ℓ : Loc Cert.KernelRgInIdeal.nD Cert.KernelRgInIdeal.τ Cert.KernelRgInIdeal.sig) → Buf (Elt Ideal) ℓ) (g : Dev Cert.KernelRgInIdeal.nD → PrngReg)
    (m' : (ℓ : Loc Cert.ReferenceRgInIdeal.nD Cert.ReferenceRgInIdeal.τ Cert.ReferenceRgInIdeal.sig) → Buf (Elt Ideal) ℓ) (g' : Dev Cert.ReferenceRgInIdeal.nD → PrngReg), Pre_KernelRgInIdeal m →
    (∀ c : Dev Cert.KernelRgInIdeal.nD,
      m' ((c.tc : Thread Cert.ReferenceRgInIdeal.nD Cert.ReferenceRgInIdeal.τ).loc Cert.ReferenceRgInIdeal.main_arg0) = m ((c.tc : Thread Cert.KernelRgInIdeal.nD Cert.KernelRgInIdeal.τ).loc Cert.KernelRgInIdeal.main_arg0)
      ∧ m' ((c.tc : Thread Cert.ReferenceRgInIdeal.nD Cert.ReferenceRgInIdeal.τ).loc Cert.ReferenceRgInIdeal.main_arg1) = m ((c.tc : Thread Cert.KernelRgInIdeal.nD Cert.KernelRgInIdeal.τ).loc Cert.KernelRgInIdeal.main_arg1)) →
    ∃ (v0 : (c : Dev Cert.KernelRgInIdeal.nD) → Buf (Elt Ideal) ((c.tc : Thread Cert.KernelRgInIdeal.nD Cert.KernelRgInIdeal.τ).loc Cert.KernelRgInIdeal.main_v1)),
      θ_run (Cert.KernelRgInIdeal.defs (F := Ideal)) (onTc (τ := Cert.KernelRgInIdeal.τ) (Cert.KernelRgInIdeal.main (F := Ideal))) ⟨m, fun _ => 0, g⟩ (fun r => ∀ c : Dev Cert.KernelRgInIdeal.nD,
          r.2.mem ((c.tc : Thread Cert.KernelRgInIdeal.nD Cert.KernelRgInIdeal.τ).loc Cert.KernelRgInIdeal.main_v1) = v0 c
          ∧ r.2.mem ((c.tc : Thread Cert.KernelRgInIdeal.nD Cert.KernelRgInIdeal.τ).loc Cert.KernelRgInIdeal.main_arg0) = m ((c.tc : Thread Cert.KernelRgInIdeal.nD Cert.KernelRgInIdeal.τ).loc Cert.KernelRgInIdeal.main_arg0)
          ∧ r.2.mem ((c.tc : Thread Cert.KernelRgInIdeal.nD Cert.KernelRgInIdeal.τ).loc Cert.KernelRgInIdeal.main_arg1) = m ((c.tc : Thread Cert.KernelRgInIdeal.nD Cert.KernelRgInIdeal.τ).loc Cert.KernelRgInIdeal.main_arg1))
      ∧ θ_run (Cert.ReferenceRgInIdeal.defs (F := Ideal)) (onTc (τ := Cert.ReferenceRgInIdeal.τ) (Cert.ReferenceRgInIdeal.main (F := Ideal))) ⟨m', fun _ => 0, g'⟩ (fun r => ∀ c : Dev Cert.ReferenceRgInIdeal.nD,
          r.2.mem ((c.tc : Thread Cert.ReferenceRgInIdeal.nD Cert.ReferenceRgInIdeal.τ).loc Cert.ReferenceRgInIdeal.main_v1) = v0 c
          ∧ r.2.mem ((c.tc : Thread Cert.ReferenceRgInIdeal.nD Cert.ReferenceRgInIdeal.τ).loc Cert.ReferenceRgInIdeal.main_arg0) = m' ((c.tc : Thread Cert.ReferenceRgInIdeal.nD Cert.ReferenceRgInIdeal.τ).loc Cert.ReferenceRgInIdeal.main_arg0)
          ∧ r.2.mem ((c.tc : Thread Cert.ReferenceRgInIdeal.nD Cert.ReferenceRgInIdeal.τ).loc Cert.ReferenceRgInIdeal.main_arg1) = m' ((c.tc : Thread Cert.ReferenceRgInIdeal.nD Cert.ReferenceRgInIdeal.τ).loc Cert.ReferenceRgInIdeal.main_arg1))

def preserves_KernelRgOut_KernelRgOutIdeal : Prop :=
  True

def algebraic_KernelRgOutIdeal_ReferenceRgOutIdeal [hKernelRgOutIdeal : Cert.KernelRgOutIdeal.Facts] [hReferenceRgOutIdeal : Cert.ReferenceRgOutIdeal.Facts] : Prop :=
  ∀ (m : (ℓ : Loc Cert.KernelRgOutIdeal.nD Cert.KernelRgOutIdeal.τ Cert.KernelRgOutIdeal.sig) → Buf (Elt Ideal) ℓ) (g : Dev Cert.KernelRgOutIdeal.nD → PrngReg)
    (m' : (ℓ : Loc Cert.ReferenceRgOutIdeal.nD Cert.ReferenceRgOutIdeal.τ Cert.ReferenceRgOutIdeal.sig) → Buf (Elt Ideal) ℓ) (g' : Dev Cert.ReferenceRgOutIdeal.nD → PrngReg), Pre_KernelRgOutIdeal m →
    (∀ c : Dev Cert.KernelRgOutIdeal.nD,
      m' ((c.tc : Thread Cert.ReferenceRgOutIdeal.nD Cert.ReferenceRgOutIdeal.τ).loc Cert.ReferenceRgOutIdeal.main_arg0) = m ((c.tc : Thread Cert.KernelRgOutIdeal.nD Cert.KernelRgOutIdeal.τ).loc Cert.KernelRgOutIdeal.main_arg0)
      ∧ m' ((c.tc : Thread Cert.ReferenceRgOutIdeal.nD Cert.ReferenceRgOutIdeal.τ).loc Cert.ReferenceRgOutIdeal.main_arg1) = m ((c.tc : Thread Cert.KernelRgOutIdeal.nD Cert.KernelRgOutIdeal.τ).loc Cert.KernelRgOutIdeal.main_arg1)
      ∧ m' ((c.tc : Thread Cert.ReferenceRgOutIdeal.nD Cert.ReferenceRgOutIdeal.τ).loc Cert.ReferenceRgOutIdeal.main_arg2) = m ((c.tc : Thread Cert.KernelRgOutIdeal.nD Cert.KernelRgOutIdeal.τ).loc Cert.KernelRgOutIdeal.main_arg2)) →
    ∃ (v0 : (c : Dev Cert.KernelRgOutIdeal.nD) → Buf (Elt Ideal) ((c.tc : Thread Cert.KernelRgOutIdeal.nD Cert.KernelRgOutIdeal.τ).loc Cert.KernelRgOutIdeal.main_v1)),
      θ_run (Cert.KernelRgOutIdeal.defs (F := Ideal)) (onTc (τ := Cert.KernelRgOutIdeal.τ) (Cert.KernelRgOutIdeal.main (F := Ideal))) ⟨m, fun _ => 0, g⟩ (fun r => ∀ c : Dev Cert.KernelRgOutIdeal.nD,
          r.2.mem ((c.tc : Thread Cert.KernelRgOutIdeal.nD Cert.KernelRgOutIdeal.τ).loc Cert.KernelRgOutIdeal.main_v1) = v0 c
          ∧ r.2.mem ((c.tc : Thread Cert.KernelRgOutIdeal.nD Cert.KernelRgOutIdeal.τ).loc Cert.KernelRgOutIdeal.main_arg0) = m ((c.tc : Thread Cert.KernelRgOutIdeal.nD Cert.KernelRgOutIdeal.τ).loc Cert.KernelRgOutIdeal.main_arg0)
          ∧ r.2.mem ((c.tc : Thread Cert.KernelRgOutIdeal.nD Cert.KernelRgOutIdeal.τ).loc Cert.KernelRgOutIdeal.main_arg1) = m ((c.tc : Thread Cert.KernelRgOutIdeal.nD Cert.KernelRgOutIdeal.τ).loc Cert.KernelRgOutIdeal.main_arg1)
          ∧ r.2.mem ((c.tc : Thread Cert.KernelRgOutIdeal.nD Cert.KernelRgOutIdeal.τ).loc Cert.KernelRgOutIdeal.main_arg2) = m ((c.tc : Thread Cert.KernelRgOutIdeal.nD Cert.KernelRgOutIdeal.τ).loc Cert.KernelRgOutIdeal.main_arg2))
      ∧ θ_run (Cert.ReferenceRgOutIdeal.defs (F := Ideal)) (onTc (τ := Cert.ReferenceRgOutIdeal.τ) (Cert.ReferenceRgOutIdeal.main (F := Ideal))) ⟨m', fun _ => 0, g'⟩ (fun r => ∀ c : Dev Cert.ReferenceRgOutIdeal.nD,
          r.2.mem ((c.tc : Thread Cert.ReferenceRgOutIdeal.nD Cert.ReferenceRgOutIdeal.τ).loc Cert.ReferenceRgOutIdeal.main_v20) = v0 c
          ∧ r.2.mem ((c.tc : Thread Cert.ReferenceRgOutIdeal.nD Cert.ReferenceRgOutIdeal.τ).loc Cert.ReferenceRgOutIdeal.main_arg0) = m' ((c.tc : Thread Cert.ReferenceRgOutIdeal.nD Cert.ReferenceRgOutIdeal.τ).loc Cert.ReferenceRgOutIdeal.main_arg0)
          ∧ r.2.mem ((c.tc : Thread Cert.ReferenceRgOutIdeal.nD Cert.ReferenceRgOutIdeal.τ).loc Cert.ReferenceRgOutIdeal.main_arg1) = m' ((c.tc : Thread Cert.ReferenceRgOutIdeal.nD Cert.ReferenceRgOutIdeal.τ).loc Cert.ReferenceRgOutIdeal.main_arg1)
          ∧ r.2.mem ((c.tc : Thread Cert.ReferenceRgOutIdeal.nD Cert.ReferenceRgOutIdeal.τ).loc Cert.ReferenceRgOutIdeal.main_arg2) = m' ((c.tc : Thread Cert.ReferenceRgOutIdeal.nD Cert.ReferenceRgOutIdeal.τ).loc Cert.ReferenceRgOutIdeal.main_arg2))

def preserves_KernelSquare_KernelSquareIdeal : Prop :=
  True

def algebraic_KernelSquareIdeal_ReferenceSquareIdeal [hKernelSquareIdeal : Cert.KernelSquareIdeal.Facts] [hReferenceSquareIdeal : Cert.ReferenceSquareIdeal.Facts] : Prop :=
  ∀ (m : (ℓ : Loc Cert.KernelSquareIdeal.nD Cert.KernelSquareIdeal.τ Cert.KernelSquareIdeal.sig) → Buf (Elt Ideal) ℓ) (g : Dev Cert.KernelSquareIdeal.nD → PrngReg)
    (m' : (ℓ : Loc Cert.ReferenceSquareIdeal.nD Cert.ReferenceSquareIdeal.τ Cert.ReferenceSquareIdeal.sig) → Buf (Elt Ideal) ℓ) (g' : Dev Cert.ReferenceSquareIdeal.nD → PrngReg), Pre_KernelSquareIdeal m →
    (∀ c : Dev Cert.KernelSquareIdeal.nD,
      m' ((c.tc : Thread Cert.ReferenceSquareIdeal.nD Cert.ReferenceSquareIdeal.τ).loc Cert.ReferenceSquareIdeal.main_arg0) = m ((c.tc : Thread Cert.KernelSquareIdeal.nD Cert.KernelSquareIdeal.τ).loc Cert.KernelSquareIdeal.main_arg0)
      ∧ m' ((c.tc : Thread Cert.ReferenceSquareIdeal.nD Cert.ReferenceSquareIdeal.τ).loc Cert.ReferenceSquareIdeal.main_arg1) = m ((c.tc : Thread Cert.KernelSquareIdeal.nD Cert.KernelSquareIdeal.τ).loc Cert.KernelSquareIdeal.main_arg1)) →
    ∃ (v0 : (c : Dev Cert.KernelSquareIdeal.nD) → Buf (Elt Ideal) ((c.tc : Thread Cert.KernelSquareIdeal.nD Cert.KernelSquareIdeal.τ).loc Cert.KernelSquareIdeal.main_v1)),
      θ_run (Cert.KernelSquareIdeal.defs (F := Ideal)) (onTc (τ := Cert.KernelSquareIdeal.τ) (Cert.KernelSquareIdeal.main (F := Ideal))) ⟨m, fun _ => 0, g⟩ (fun r => ∀ c : Dev Cert.KernelSquareIdeal.nD,
          r.2.mem ((c.tc : Thread Cert.KernelSquareIdeal.nD Cert.KernelSquareIdeal.τ).loc Cert.KernelSquareIdeal.main_v1) = v0 c
          ∧ r.2.mem ((c.tc : Thread Cert.KernelSquareIdeal.nD Cert.KernelSquareIdeal.τ).loc Cert.KernelSquareIdeal.main_arg0) = m ((c.tc : Thread Cert.KernelSquareIdeal.nD Cert.KernelSquareIdeal.τ).loc Cert.KernelSquareIdeal.main_arg0)
          ∧ r.2.mem ((c.tc : Thread Cert.KernelSquareIdeal.nD Cert.KernelSquareIdeal.τ).loc Cert.KernelSquareIdeal.main_arg1) = m ((c.tc : Thread Cert.KernelSquareIdeal.nD Cert.KernelSquareIdeal.τ).loc Cert.KernelSquareIdeal.main_arg1))
      ∧ θ_run (Cert.ReferenceSquareIdeal.defs (F := Ideal)) (onTc (τ := Cert.ReferenceSquareIdeal.τ) (Cert.ReferenceSquareIdeal.main (F := Ideal))) ⟨m', fun _ => 0, g'⟩ (fun r => ∀ c : Dev Cert.ReferenceSquareIdeal.nD,
          r.2.mem ((c.tc : Thread Cert.ReferenceSquareIdeal.nD Cert.ReferenceSquareIdeal.τ).loc Cert.ReferenceSquareIdeal.main_v1) = v0 c
          ∧ r.2.mem ((c.tc : Thread Cert.ReferenceSquareIdeal.nD Cert.ReferenceSquareIdeal.τ).loc Cert.ReferenceSquareIdeal.main_arg0) = m' ((c.tc : Thread Cert.ReferenceSquareIdeal.nD Cert.ReferenceSquareIdeal.τ).loc Cert.ReferenceSquareIdeal.main_arg0)
          ∧ r.2.mem ((c.tc : Thread Cert.ReferenceSquareIdeal.nD Cert.ReferenceSquareIdeal.τ).loc Cert.ReferenceSquareIdeal.main_arg1) = m' ((c.tc : Thread Cert.ReferenceSquareIdeal.nD Cert.ReferenceSquareIdeal.τ).loc Cert.ReferenceSquareIdeal.main_arg1))

def preserves_KernelQuery_KernelQueryIdeal : Prop :=
  True

def algebraic_KernelQueryIdeal_ReferenceQueryIdeal [hKernelQueryIdeal : Cert.KernelQueryIdeal.Facts] [hReferenceQueryIdeal : Cert.ReferenceQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg)
    (m' : (ℓ : Loc Cert.ReferenceQueryIdeal.nD Cert.ReferenceQueryIdeal.τ Cert.ReferenceQueryIdeal.sig) → Buf (Elt Ideal) ℓ) (g' : Dev Cert.ReferenceQueryIdeal.nD → PrngReg), Pre_KernelQueryIdeal m →
    (∀ c : Dev Cert.KernelQueryIdeal.nD,
      m' ((c.tc : Thread Cert.ReferenceQueryIdeal.nD Cert.ReferenceQueryIdeal.τ).loc Cert.ReferenceQueryIdeal.main_arg0) = m ((c.tc : Thread Cert.KernelQueryIdeal.nD Cert.KernelQueryIdeal.τ).loc Cert.KernelQueryIdeal.main_arg0)
      ∧ m' ((c.tc : Thread Cert.ReferenceQueryIdeal.nD Cert.ReferenceQueryIdeal.τ).loc Cert.ReferenceQueryIdeal.main_arg1) = m ((c.tc : Thread Cert.KernelQueryIdeal.nD Cert.KernelQueryIdeal.τ).loc Cert.KernelQueryIdeal.main_arg1)) →
    ∃ (v0 : (c : Dev Cert.KernelQueryIdeal.nD) → Buf (Elt Ideal) ((c.tc : Thread Cert.KernelQueryIdeal.nD Cert.KernelQueryIdeal.τ).loc Cert.KernelQueryIdeal.main_v1)),
      θ_run (Cert.KernelQueryIdeal.defs (F := Ideal)) (onTc (τ := Cert.KernelQueryIdeal.τ) (Cert.KernelQueryIdeal.main (F := Ideal))) ⟨m, fun _ => 0, g⟩ (fun r => ∀ c : Dev Cert.KernelQueryIdeal.nD,
          r.2.mem ((c.tc : Thread Cert.KernelQueryIdeal.nD Cert.KernelQueryIdeal.τ).loc Cert.KernelQueryIdeal.main_v1) = v0 c
          ∧ r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
          ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1))
      ∧ θ_run (Cert.ReferenceQueryIdeal.defs (F := Ideal)) (onTc (τ := Cert.ReferenceQueryIdeal.τ) (Cert.ReferenceQueryIdeal.main (F := Ideal))) ⟨m', fun _ => 0, g'⟩ (fun r => ∀ c : Dev Cert.ReferenceQueryIdeal.nD,
          r.2.mem ((c.tc : Thread Cert.ReferenceQueryIdeal.nD Cert.ReferenceQueryIdeal.τ).loc Cert.ReferenceQueryIdeal.main_v2) = v0 c
          ∧ r.2.mem ((c.tc : Thread Cert.ReferenceQueryIdeal.nD Cert.ReferenceQueryIdeal.τ).loc Cert.ReferenceQueryIdeal.main_arg0) = m' ((c.tc : Thread Cert.ReferenceQueryIdeal.nD Cert.ReferenceQueryIdeal.τ).loc Cert.ReferenceQueryIdeal.main_arg0)
          ∧ r.2.mem ((c.tc : Thread Cert.ReferenceQueryIdeal.nD Cert.ReferenceQueryIdeal.τ).loc Cert.ReferenceQueryIdeal.main_arg1) = m' ((c.tc : Thread Cert.ReferenceQueryIdeal.nD Cert.ReferenceQueryIdeal.τ).loc Cert.ReferenceQueryIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)
      ∧ m' ((c.tc : Thread Cert.ReferenceNormIdeal.nD Cert.ReferenceNormIdeal.τ).loc Cert.ReferenceNormIdeal.main_arg4) = m ((c.tc : Thread Cert.KernelNormIdeal.nD Cert.KernelNormIdeal.τ).loc Cert.KernelNormIdeal.main_arg4)
      ∧ m' ((c.tc : Thread Cert.ReferenceNormIdeal.nD Cert.ReferenceNormIdeal.τ).loc Cert.ReferenceNormIdeal.main_arg5) = m ((c.tc : Thread Cert.KernelNormIdeal.nD Cert.KernelNormIdeal.τ).loc Cert.KernelNormIdeal.main_arg5)
      ∧ m' ((c.tc : Thread Cert.ReferenceNormIdeal.nD Cert.ReferenceNormIdeal.τ).loc Cert.ReferenceNormIdeal.main_arg6) = m ((c.tc : Thread Cert.KernelNormIdeal.nD Cert.KernelNormIdeal.τ).loc Cert.KernelNormIdeal.main_arg6)
      ∧ m' ((c.tc : Thread Cert.ReferenceNormIdeal.nD Cert.ReferenceNormIdeal.τ).loc Cert.ReferenceNormIdeal.main_arg7) = m ((c.tc : Thread Cert.KernelNormIdeal.nD Cert.KernelNormIdeal.τ).loc Cert.KernelNormIdeal.main_arg7)) →
    ∃ (v0 : (c : Dev Cert.KernelNormIdeal.nD) → Buf (Elt Ideal) ((c.tc : Thread Cert.KernelNormIdeal.nD Cert.KernelNormIdeal.τ).loc Cert.KernelNormIdeal.main_v10_0)) (v1 : (c : Dev Cert.KernelNormIdeal.nD) → Buf (Elt Ideal) ((c.tc : Thread Cert.KernelNormIdeal.nD Cert.KernelNormIdeal.τ).loc Cert.KernelNormIdeal.main_v10_1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v10_0) = v0 c
          ∧ r.2.mem ((c.tc : Thread Cert.KernelNormIdeal.nD Cert.KernelNormIdeal.τ).loc Cert.KernelNormIdeal.main_v10_1) = v1 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
          ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4)
          ∧ r.2.mem ((c.tc : Thread Cert.KernelNormIdeal.nD Cert.KernelNormIdeal.τ).loc Cert.KernelNormIdeal.main_arg5) = m ((c.tc : Thread Cert.KernelNormIdeal.nD Cert.KernelNormIdeal.τ).loc Cert.KernelNormIdeal.main_arg5)
          ∧ r.2.mem ((c.tc : Thread Cert.KernelNormIdeal.nD Cert.KernelNormIdeal.τ).loc Cert.KernelNormIdeal.main_arg6) = m ((c.tc : Thread Cert.KernelNormIdeal.nD Cert.KernelNormIdeal.τ).loc Cert.KernelNormIdeal.main_arg6)
          ∧ r.2.mem ((c.tc : Thread Cert.KernelNormIdeal.nD Cert.KernelNormIdeal.τ).loc Cert.KernelNormIdeal.main_arg7) = m ((c.tc : Thread Cert.KernelNormIdeal.nD Cert.KernelNormIdeal.τ).loc Cert.KernelNormIdeal.main_arg7))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v102) = v0 c
          ∧ r.2.mem ((c.tc : Thread Cert.ReferenceNormIdeal.nD Cert.ReferenceNormIdeal.τ).loc Cert.ReferenceNormIdeal.main_v104) = v1 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3)
          ∧ r.2.mem ((c.tc : Thread Cert.ReferenceNormIdeal.nD Cert.ReferenceNormIdeal.τ).loc Cert.ReferenceNormIdeal.main_arg4) = m' ((c.tc : Thread Cert.ReferenceNormIdeal.nD Cert.ReferenceNormIdeal.τ).loc Cert.ReferenceNormIdeal.main_arg4)
          ∧ r.2.mem ((c.tc : Thread Cert.ReferenceNormIdeal.nD Cert.ReferenceNormIdeal.τ).loc Cert.ReferenceNormIdeal.main_arg5) = m' ((c.tc : Thread Cert.ReferenceNormIdeal.nD Cert.ReferenceNormIdeal.τ).loc Cert.ReferenceNormIdeal.main_arg5)
          ∧ r.2.mem ((c.tc : Thread Cert.ReferenceNormIdeal.nD Cert.ReferenceNormIdeal.τ).loc Cert.ReferenceNormIdeal.main_arg6) = m' ((c.tc : Thread Cert.ReferenceNormIdeal.nD Cert.ReferenceNormIdeal.τ).loc Cert.ReferenceNormIdeal.main_arg6)
          ∧ r.2.mem ((c.tc : Thread Cert.ReferenceNormIdeal.nD Cert.ReferenceNormIdeal.τ).loc Cert.ReferenceNormIdeal.main_arg7) = m' ((c.tc : Thread Cert.ReferenceNormIdeal.nD Cert.ReferenceNormIdeal.τ).loc Cert.ReferenceNormIdeal.main_arg7))

def preserves_KernelGateDown_KernelGateDownIdeal : Prop :=
  True

def algebraic_KernelGateDownIdeal_ReferenceGateDownIdeal [hKernelGateDownIdeal : Cert.KernelGateDownIdeal.Facts] [hReferenceGateDownIdeal : Cert.ReferenceGateDownIdeal.Facts] : Prop :=
  ∀ (m : (ℓ : Loc Cert.KernelGateDownIdeal.nD Cert.KernelGateDownIdeal.τ Cert.KernelGateDownIdeal.sig) → Buf (Elt Ideal) ℓ) (g : Dev Cert.KernelGateDownIdeal.nD → PrngReg)
    (m' : (ℓ : Loc Cert.ReferenceGateDownIdeal.nD Cert.ReferenceGateDownIdeal.τ Cert.ReferenceGateDownIdeal.sig) → Buf (Elt Ideal) ℓ) (g' : Dev Cert.ReferenceGateDownIdeal.nD → PrngReg), Pre_KernelGateDownIdeal m →
    (∀ c : Dev Cert.KernelGateDownIdeal.nD,
      m' ((c.tc : Thread Cert.ReferenceGateDownIdeal.nD Cert.ReferenceGateDownIdeal.τ).loc Cert.ReferenceGateDownIdeal.main_arg0) = m ((c.tc : Thread Cert.KernelGateDownIdeal.nD Cert.KernelGateDownIdeal.τ).loc Cert.KernelGateDownIdeal.main_arg0)
      ∧ m' ((c.tc : Thread Cert.ReferenceGateDownIdeal.nD Cert.ReferenceGateDownIdeal.τ).loc Cert.ReferenceGateDownIdeal.main_arg1) = m ((c.tc : Thread Cert.KernelGateDownIdeal.nD Cert.KernelGateDownIdeal.τ).loc Cert.KernelGateDownIdeal.main_arg1)) →
    ∃ (v0 : (c : Dev Cert.KernelGateDownIdeal.nD) → Buf (Elt Ideal) ((c.tc : Thread Cert.KernelGateDownIdeal.nD Cert.KernelGateDownIdeal.τ).loc Cert.KernelGateDownIdeal.main_v1)),
      θ_run (Cert.KernelGateDownIdeal.defs (F := Ideal)) (onTc (τ := Cert.KernelGateDownIdeal.τ) (Cert.KernelGateDownIdeal.main (F := Ideal))) ⟨m, fun _ => 0, g⟩ (fun r => ∀ c : Dev Cert.KernelGateDownIdeal.nD,
          r.2.mem ((c.tc : Thread Cert.KernelGateDownIdeal.nD Cert.KernelGateDownIdeal.τ).loc Cert.KernelGateDownIdeal.main_v1) = v0 c
          ∧ r.2.mem ((c.tc : Thread Cert.KernelGateDownIdeal.nD Cert.KernelGateDownIdeal.τ).loc Cert.KernelGateDownIdeal.main_arg0) = m ((c.tc : Thread Cert.KernelGateDownIdeal.nD Cert.KernelGateDownIdeal.τ).loc Cert.KernelGateDownIdeal.main_arg0)
          ∧ r.2.mem ((c.tc : Thread Cert.KernelGateDownIdeal.nD Cert.KernelGateDownIdeal.τ).loc Cert.KernelGateDownIdeal.main_arg1) = m ((c.tc : Thread Cert.KernelGateDownIdeal.nD Cert.KernelGateDownIdeal.τ).loc Cert.KernelGateDownIdeal.main_arg1))
      ∧ θ_run (Cert.ReferenceGateDownIdeal.defs (F := Ideal)) (onTc (τ := Cert.ReferenceGateDownIdeal.τ) (Cert.ReferenceGateDownIdeal.main (F := Ideal))) ⟨m', fun _ => 0, g'⟩ (fun r => ∀ c : Dev Cert.ReferenceGateDownIdeal.nD,
          r.2.mem ((c.tc : Thread Cert.ReferenceGateDownIdeal.nD Cert.ReferenceGateDownIdeal.τ).loc Cert.ReferenceGateDownIdeal.main_v8) = v0 c
          ∧ r.2.mem ((c.tc : Thread Cert.ReferenceGateDownIdeal.nD Cert.ReferenceGateDownIdeal.τ).loc Cert.ReferenceGateDownIdeal.main_arg0) = m' ((c.tc : Thread Cert.ReferenceGateDownIdeal.nD Cert.ReferenceGateDownIdeal.τ).loc Cert.ReferenceGateDownIdeal.main_arg0)
          ∧ r.2.mem ((c.tc : Thread Cert.ReferenceGateDownIdeal.nD Cert.ReferenceGateDownIdeal.τ).loc Cert.ReferenceGateDownIdeal.main_arg1) = m' ((c.tc : Thread Cert.ReferenceGateDownIdeal.nD Cert.ReferenceGateDownIdeal.τ).loc Cert.ReferenceGateDownIdeal.main_arg1))

def preserves_KernelGateUp_KernelGateUpIdeal : Prop :=
  True

def algebraic_KernelGateUpIdeal_ReferenceGateUpIdeal [hKernelGateUpIdeal : Cert.KernelGateUpIdeal.Facts] [hReferenceGateUpIdeal : Cert.ReferenceGateUpIdeal.Facts] : Prop :=
  ∀ (m : (ℓ : Loc Cert.KernelGateUpIdeal.nD Cert.KernelGateUpIdeal.τ Cert.KernelGateUpIdeal.sig) → Buf (Elt Ideal) ℓ) (g : Dev Cert.KernelGateUpIdeal.nD → PrngReg)
    (m' : (ℓ : Loc Cert.ReferenceGateUpIdeal.nD Cert.ReferenceGateUpIdeal.τ Cert.ReferenceGateUpIdeal.sig) → Buf (Elt Ideal) ℓ) (g' : Dev Cert.ReferenceGateUpIdeal.nD → PrngReg), Pre_KernelGateUpIdeal m →
    (∀ c : Dev Cert.KernelGateUpIdeal.nD,
      m' ((c.tc : Thread Cert.ReferenceGateUpIdeal.nD Cert.ReferenceGateUpIdeal.τ).loc Cert.ReferenceGateUpIdeal.main_arg0) = m ((c.tc : Thread Cert.KernelGateUpIdeal.nD Cert.KernelGateUpIdeal.τ).loc Cert.KernelGateUpIdeal.main_arg0)
      ∧ m' ((c.tc : Thread Cert.ReferenceGateUpIdeal.nD Cert.ReferenceGateUpIdeal.τ).loc Cert.ReferenceGateUpIdeal.main_arg1) = m ((c.tc : Thread Cert.KernelGateUpIdeal.nD Cert.KernelGateUpIdeal.τ).loc Cert.KernelGateUpIdeal.main_arg1)) →
    ∃ (v0 : (c : Dev Cert.KernelGateUpIdeal.nD) → Buf (Elt Ideal) ((c.tc : Thread Cert.KernelGateUpIdeal.nD Cert.KernelGateUpIdeal.τ).loc Cert.KernelGateUpIdeal.main_v1)),
      θ_run (Cert.KernelGateUpIdeal.defs (F := Ideal)) (onTc (τ := Cert.KernelGateUpIdeal.τ) (Cert.KernelGateUpIdeal.main (F := Ideal))) ⟨m, fun _ => 0, g⟩ (fun r => ∀ c : Dev Cert.KernelGateUpIdeal.nD,
          r.2.mem ((c.tc : Thread Cert.KernelGateUpIdeal.nD Cert.KernelGateUpIdeal.τ).loc Cert.KernelGateUpIdeal.main_v1) = v0 c
          ∧ r.2.mem ((c.tc : Thread Cert.KernelGateUpIdeal.nD Cert.KernelGateUpIdeal.τ).loc Cert.KernelGateUpIdeal.main_arg0) = m ((c.tc : Thread Cert.KernelGateUpIdeal.nD Cert.KernelGateUpIdeal.τ).loc Cert.KernelGateUpIdeal.main_arg0)
          ∧ r.2.mem ((c.tc : Thread Cert.KernelGateUpIdeal.nD Cert.KernelGateUpIdeal.τ).loc Cert.KernelGateUpIdeal.main_arg1) = m ((c.tc : Thread Cert.KernelGateUpIdeal.nD Cert.KernelGateUpIdeal.τ).loc Cert.KernelGateUpIdeal.main_arg1))
      ∧ θ_run (Cert.ReferenceGateUpIdeal.defs (F := Ideal)) (onTc (τ := Cert.ReferenceGateUpIdeal.τ) (Cert.ReferenceGateUpIdeal.main (F := Ideal))) ⟨m', fun _ => 0, g'⟩ (fun r => ∀ c : Dev Cert.ReferenceGateUpIdeal.nD,
          r.2.mem ((c.tc : Thread Cert.ReferenceGateUpIdeal.nD Cert.ReferenceGateUpIdeal.τ).loc Cert.ReferenceGateUpIdeal.main_v1) = v0 c
          ∧ r.2.mem ((c.tc : Thread Cert.ReferenceGateUpIdeal.nD Cert.ReferenceGateUpIdeal.τ).loc Cert.ReferenceGateUpIdeal.main_arg0) = m' ((c.tc : Thread Cert.ReferenceGateUpIdeal.nD Cert.ReferenceGateUpIdeal.τ).loc Cert.ReferenceGateUpIdeal.main_arg0)
          ∧ r.2.mem ((c.tc : Thread Cert.ReferenceGateUpIdeal.nD Cert.ReferenceGateUpIdeal.τ).loc Cert.ReferenceGateUpIdeal.main_arg1) = m' ((c.tc : Thread Cert.ReferenceGateUpIdeal.nD Cert.ReferenceGateUpIdeal.τ).loc Cert.ReferenceGateUpIdeal.main_arg1))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)
      ∧ m' ((c.tc : Thread Cert.ReferenceGatesIdeal.nD Cert.ReferenceGatesIdeal.τ).loc Cert.ReferenceGatesIdeal.main_arg2) = m ((c.tc : Thread Cert.KernelGatesIdeal.nD Cert.KernelGatesIdeal.τ).loc Cert.KernelGatesIdeal.main_arg2)
      ∧ m' ((c.tc : Thread Cert.ReferenceGatesIdeal.nD Cert.ReferenceGatesIdeal.τ).loc Cert.ReferenceGatesIdeal.main_arg3) = m ((c.tc : Thread Cert.KernelGatesIdeal.nD Cert.KernelGatesIdeal.τ).loc Cert.KernelGatesIdeal.main_arg3)
      ∧ m' ((c.tc : Thread Cert.ReferenceGatesIdeal.nD Cert.ReferenceGatesIdeal.τ).loc Cert.ReferenceGatesIdeal.main_arg4) = m ((c.tc : Thread Cert.KernelGatesIdeal.nD Cert.KernelGatesIdeal.τ).loc Cert.KernelGatesIdeal.main_arg4)
      ∧ m' ((c.tc : Thread Cert.ReferenceGatesIdeal.nD Cert.ReferenceGatesIdeal.τ).loc Cert.ReferenceGatesIdeal.main_arg5) = m ((c.tc : Thread Cert.KernelGatesIdeal.nD Cert.KernelGatesIdeal.τ).loc Cert.KernelGatesIdeal.main_arg5)) →
    ∃ (v0 : (c : Dev Cert.KernelGatesIdeal.nD) → Buf (Elt Ideal) ((c.tc : Thread Cert.KernelGatesIdeal.nD Cert.KernelGatesIdeal.τ).loc Cert.KernelGatesIdeal.main_v2_0)) (v1 : (c : Dev Cert.KernelGatesIdeal.nD) → Buf (Elt Ideal) ((c.tc : Thread Cert.KernelGatesIdeal.nD Cert.KernelGatesIdeal.τ).loc Cert.KernelGatesIdeal.main_v2_1)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v2_0) = v0 c
          ∧ r.2.mem ((c.tc : Thread Cert.KernelGatesIdeal.nD Cert.KernelGatesIdeal.τ).loc Cert.KernelGatesIdeal.main_v2_1) = v1 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
          ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
          ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3)
          ∧ r.2.mem ((c.tc : Thread Cert.KernelGatesIdeal.nD Cert.KernelGatesIdeal.τ).loc Cert.KernelGatesIdeal.main_arg4) = m ((c.tc : Thread Cert.KernelGatesIdeal.nD Cert.KernelGatesIdeal.τ).loc Cert.KernelGatesIdeal.main_arg4)
          ∧ r.2.mem ((c.tc : Thread Cert.KernelGatesIdeal.nD Cert.KernelGatesIdeal.τ).loc Cert.KernelGatesIdeal.main_arg5) = m ((c.tc : Thread Cert.KernelGatesIdeal.nD Cert.KernelGatesIdeal.τ).loc Cert.KernelGatesIdeal.main_arg5))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v161) = v0 c
          ∧ r.2.mem ((c.tc : Thread Cert.ReferenceGatesIdeal.nD Cert.ReferenceGatesIdeal.τ).loc Cert.ReferenceGatesIdeal.main_v165) = v1 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1)
          ∧ r.2.mem ((c.tc : Thread Cert.ReferenceGatesIdeal.nD Cert.ReferenceGatesIdeal.τ).loc Cert.ReferenceGatesIdeal.main_arg2) = m' ((c.tc : Thread Cert.ReferenceGatesIdeal.nD Cert.ReferenceGatesIdeal.τ).loc Cert.ReferenceGatesIdeal.main_arg2)
          ∧ r.2.mem ((c.tc : Thread Cert.ReferenceGatesIdeal.nD Cert.ReferenceGatesIdeal.τ).loc Cert.ReferenceGatesIdeal.main_arg3) = m' ((c.tc : Thread Cert.ReferenceGatesIdeal.nD Cert.ReferenceGatesIdeal.τ).loc Cert.ReferenceGatesIdeal.main_arg3)
          ∧ r.2.mem ((c.tc : Thread Cert.ReferenceGatesIdeal.nD Cert.ReferenceGatesIdeal.τ).loc Cert.ReferenceGatesIdeal.main_arg4) = m' ((c.tc : Thread Cert.ReferenceGatesIdeal.nD Cert.ReferenceGatesIdeal.τ).loc Cert.ReferenceGatesIdeal.main_arg4)
          ∧ r.2.mem ((c.tc : Thread Cert.ReferenceGatesIdeal.nD Cert.ReferenceGatesIdeal.τ).loc Cert.ReferenceGatesIdeal.main_arg5) = m' ((c.tc : Thread Cert.ReferenceGatesIdeal.nD Cert.ReferenceGatesIdeal.τ).loc Cert.ReferenceGatesIdeal.main_arg5))

def preserves_KernelDecayDown_KernelDecayDownIdeal : Prop :=
  True

def algebraic_KernelDecayDownIdeal_ReferenceDecayDownIdeal [hKernelDecayDownIdeal : Cert.KernelDecayDownIdeal.Facts] [hReferenceDecayDownIdeal : Cert.ReferenceDecayDownIdeal.Facts] : Prop :=
  ∀ (m : (ℓ : Loc Cert.KernelDecayDownIdeal.nD Cert.KernelDecayDownIdeal.τ Cert.KernelDecayDownIdeal.sig) → Buf (Elt Ideal) ℓ) (g : Dev Cert.KernelDecayDownIdeal.nD → PrngReg)
    (m' : (ℓ : Loc Cert.ReferenceDecayDownIdeal.nD Cert.ReferenceDecayDownIdeal.τ Cert.ReferenceDecayDownIdeal.sig) → Buf (Elt Ideal) ℓ) (g' : Dev Cert.ReferenceDecayDownIdeal.nD → PrngReg), Pre_KernelDecayDownIdeal m →
    (∀ c : Dev Cert.KernelDecayDownIdeal.nD,
      m' ((c.tc : Thread Cert.ReferenceDecayDownIdeal.nD Cert.ReferenceDecayDownIdeal.τ).loc Cert.ReferenceDecayDownIdeal.main_arg0) = m ((c.tc : Thread Cert.KernelDecayDownIdeal.nD Cert.KernelDecayDownIdeal.τ).loc Cert.KernelDecayDownIdeal.main_arg0)
      ∧ m' ((c.tc : Thread Cert.ReferenceDecayDownIdeal.nD Cert.ReferenceDecayDownIdeal.τ).loc Cert.ReferenceDecayDownIdeal.main_arg1) = m ((c.tc : Thread Cert.KernelDecayDownIdeal.nD Cert.KernelDecayDownIdeal.τ).loc Cert.KernelDecayDownIdeal.main_arg1)) →
    ∃ (v0 : (c : Dev Cert.KernelDecayDownIdeal.nD) → Buf (Elt Ideal) ((c.tc : Thread Cert.KernelDecayDownIdeal.nD Cert.KernelDecayDownIdeal.τ).loc Cert.KernelDecayDownIdeal.main_v8)),
      θ_run (Cert.KernelDecayDownIdeal.defs (F := Ideal)) (onTc (τ := Cert.KernelDecayDownIdeal.τ) (Cert.KernelDecayDownIdeal.main (F := Ideal))) ⟨m, fun _ => 0, g⟩ (fun r => ∀ c : Dev Cert.KernelDecayDownIdeal.nD,
          r.2.mem ((c.tc : Thread Cert.KernelDecayDownIdeal.nD Cert.KernelDecayDownIdeal.τ).loc Cert.KernelDecayDownIdeal.main_v8) = v0 c
          ∧ r.2.mem ((c.tc : Thread Cert.KernelDecayDownIdeal.nD Cert.KernelDecayDownIdeal.τ).loc Cert.KernelDecayDownIdeal.main_arg0) = m ((c.tc : Thread Cert.KernelDecayDownIdeal.nD Cert.KernelDecayDownIdeal.τ).loc Cert.KernelDecayDownIdeal.main_arg0)
          ∧ r.2.mem ((c.tc : Thread Cert.KernelDecayDownIdeal.nD Cert.KernelDecayDownIdeal.τ).loc Cert.KernelDecayDownIdeal.main_arg1) = m ((c.tc : Thread Cert.KernelDecayDownIdeal.nD Cert.KernelDecayDownIdeal.τ).loc Cert.KernelDecayDownIdeal.main_arg1))
      ∧ θ_run (Cert.ReferenceDecayDownIdeal.defs (F := Ideal)) (onTc (τ := Cert.ReferenceDecayDownIdeal.τ) (Cert.ReferenceDecayDownIdeal.main (F := Ideal))) ⟨m', fun _ => 0, g'⟩ (fun r => ∀ c : Dev Cert.ReferenceDecayDownIdeal.nD,
          r.2.mem ((c.tc : Thread Cert.ReferenceDecayDownIdeal.nD Cert.ReferenceDecayDownIdeal.τ).loc Cert.ReferenceDecayDownIdeal.main_v12) = v0 c
          ∧ r.2.mem ((c.tc : Thread Cert.ReferenceDecayDownIdeal.nD Cert.ReferenceDecayDownIdeal.τ).loc Cert.ReferenceDecayDownIdeal.main_arg0) = m' ((c.tc : Thread Cert.ReferenceDecayDownIdeal.nD Cert.ReferenceDecayDownIdeal.τ).loc Cert.ReferenceDecayDownIdeal.main_arg0)
          ∧ r.2.mem ((c.tc : Thread Cert.ReferenceDecayDownIdeal.nD Cert.ReferenceDecayDownIdeal.τ).loc Cert.ReferenceDecayDownIdeal.main_arg1) = m' ((c.tc : Thread Cert.ReferenceDecayDownIdeal.nD Cert.ReferenceDecayDownIdeal.τ).loc Cert.ReferenceDecayDownIdeal.main_arg1))

def preserves_KernelRateDown_KernelRateDownIdeal : Prop :=
  True

def algebraic_KernelRateDownIdeal_ReferenceRateDownIdeal [hKernelRateDownIdeal : Cert.KernelRateDownIdeal.Facts] [hReferenceRateDownIdeal : Cert.ReferenceRateDownIdeal.Facts] : Prop :=
  ∀ (m : (ℓ : Loc Cert.KernelRateDownIdeal.nD Cert.KernelRateDownIdeal.τ Cert.KernelRateDownIdeal.sig) → Buf (Elt Ideal) ℓ) (g : Dev Cert.KernelRateDownIdeal.nD → PrngReg)
    (m' : (ℓ : Loc Cert.ReferenceRateDownIdeal.nD Cert.ReferenceRateDownIdeal.τ Cert.ReferenceRateDownIdeal.sig) → Buf (Elt Ideal) ℓ) (g' : Dev Cert.ReferenceRateDownIdeal.nD → PrngReg), Pre_KernelRateDownIdeal m →
    (∀ c : Dev Cert.KernelRateDownIdeal.nD,
      m' ((c.tc : Thread Cert.ReferenceRateDownIdeal.nD Cert.ReferenceRateDownIdeal.τ).loc Cert.ReferenceRateDownIdeal.main_arg0) = m ((c.tc : Thread Cert.KernelRateDownIdeal.nD Cert.KernelRateDownIdeal.τ).loc Cert.KernelRateDownIdeal.main_arg0)
      ∧ m' ((c.tc : Thread Cert.ReferenceRateDownIdeal.nD Cert.ReferenceRateDownIdeal.τ).loc Cert.ReferenceRateDownIdeal.main_arg1) = m ((c.tc : Thread Cert.KernelRateDownIdeal.nD Cert.KernelRateDownIdeal.τ).loc Cert.KernelRateDownIdeal.main_arg1)) →
    ∃ (v0 : (c : Dev Cert.KernelRateDownIdeal.nD) → Buf (Elt Ideal) ((c.tc : Thread Cert.KernelRateDownIdeal.nD Cert.KernelRateDownIdeal.τ).loc Cert.KernelRateDownIdeal.main_v8)),
      θ_run (Cert.KernelRateDownIdeal.defs (F := Ideal)) (onTc (τ := Cert.KernelRateDownIdeal.τ) (Cert.KernelRateDownIdeal.main (F := Ideal))) ⟨m, fun _ => 0, g⟩ (fun r => ∀ c : Dev Cert.KernelRateDownIdeal.nD,
          r.2.mem ((c.tc : Thread Cert.KernelRateDownIdeal.nD Cert.KernelRateDownIdeal.τ).loc Cert.KernelRateDownIdeal.main_v8) = v0 c
          ∧ r.2.mem ((c.tc : Thread Cert.KernelRateDownIdeal.nD Cert.KernelRateDownIdeal.τ).loc Cert.KernelRateDownIdeal.main_arg0) = m ((c.tc : Thread Cert.KernelRateDownIdeal.nD Cert.KernelRateDownIdeal.τ).loc Cert.KernelRateDownIdeal.main_arg0)
          ∧ r.2.mem ((c.tc : Thread Cert.KernelRateDownIdeal.nD Cert.KernelRateDownIdeal.τ).loc Cert.KernelRateDownIdeal.main_arg1) = m ((c.tc : Thread Cert.KernelRateDownIdeal.nD Cert.KernelRateDownIdeal.τ).loc Cert.KernelRateDownIdeal.main_arg1))
      ∧ θ_run (Cert.ReferenceRateDownIdeal.defs (F := Ideal)) (onTc (τ := Cert.ReferenceRateDownIdeal.τ) (Cert.ReferenceRateDownIdeal.main (F := Ideal))) ⟨m', fun _ => 0, g'⟩ (fun r => ∀ c : Dev Cert.ReferenceRateDownIdeal.nD,
          r.2.mem ((c.tc : Thread Cert.ReferenceRateDownIdeal.nD Cert.ReferenceRateDownIdeal.τ).loc Cert.ReferenceRateDownIdeal.main_v10) = v0 c
          ∧ r.2.mem ((c.tc : Thread Cert.ReferenceRateDownIdeal.nD Cert.ReferenceRateDownIdeal.τ).loc Cert.ReferenceRateDownIdeal.main_arg0) = m' ((c.tc : Thread Cert.ReferenceRateDownIdeal.nD Cert.ReferenceRateDownIdeal.τ).loc Cert.ReferenceRateDownIdeal.main_arg0)
          ∧ r.2.mem ((c.tc : Thread Cert.ReferenceRateDownIdeal.nD Cert.ReferenceRateDownIdeal.τ).loc Cert.ReferenceRateDownIdeal.main_arg1) = m' ((c.tc : Thread Cert.ReferenceRateDownIdeal.nD Cert.ReferenceRateDownIdeal.τ).loc Cert.ReferenceRateDownIdeal.main_arg1))

def preserves_KernelPairUp_KernelPairUpIdeal : Prop :=
  True

def algebraic_KernelPairUpIdeal_ReferencePairUpIdeal [hKernelPairUpIdeal : Cert.KernelPairUpIdeal.Facts] [hReferencePairUpIdeal : Cert.ReferencePairUpIdeal.Facts] : Prop :=
  ∀ (m : (ℓ : Loc Cert.KernelPairUpIdeal.nD Cert.KernelPairUpIdeal.τ Cert.KernelPairUpIdeal.sig) → Buf (Elt Ideal) ℓ) (g : Dev Cert.KernelPairUpIdeal.nD → PrngReg)
    (m' : (ℓ : Loc Cert.ReferencePairUpIdeal.nD Cert.ReferencePairUpIdeal.τ Cert.ReferencePairUpIdeal.sig) → Buf (Elt Ideal) ℓ) (g' : Dev Cert.ReferencePairUpIdeal.nD → PrngReg), Pre_KernelPairUpIdeal m →
    (∀ c : Dev Cert.KernelPairUpIdeal.nD,
      m' ((c.tc : Thread Cert.ReferencePairUpIdeal.nD Cert.ReferencePairUpIdeal.τ).loc Cert.ReferencePairUpIdeal.main_arg0) = m ((c.tc : Thread Cert.KernelPairUpIdeal.nD Cert.KernelPairUpIdeal.τ).loc Cert.KernelPairUpIdeal.main_arg0)
      ∧ m' ((c.tc : Thread Cert.ReferencePairUpIdeal.nD Cert.ReferencePairUpIdeal.τ).loc Cert.ReferencePairUpIdeal.main_arg1) = m ((c.tc : Thread Cert.KernelPairUpIdeal.nD Cert.KernelPairUpIdeal.τ).loc Cert.KernelPairUpIdeal.main_arg1)) →
    ∃ (v0 : (c : Dev Cert.KernelPairUpIdeal.nD) → Buf (Elt Ideal) ((c.tc : Thread Cert.KernelPairUpIdeal.nD Cert.KernelPairUpIdeal.τ).loc Cert.KernelPairUpIdeal.main_v10)),
      θ_run (Cert.KernelPairUpIdeal.defs (F := Ideal)) (onTc (τ := Cert.KernelPairUpIdeal.τ) (Cert.KernelPairUpIdeal.main (F := Ideal))) ⟨m, fun _ => 0, g⟩ (fun r => ∀ c : Dev Cert.KernelPairUpIdeal.nD,
          r.2.mem ((c.tc : Thread Cert.KernelPairUpIdeal.nD Cert.KernelPairUpIdeal.τ).loc Cert.KernelPairUpIdeal.main_v10) = v0 c
          ∧ r.2.mem ((c.tc : Thread Cert.KernelPairUpIdeal.nD Cert.KernelPairUpIdeal.τ).loc Cert.KernelPairUpIdeal.main_arg0) = m ((c.tc : Thread Cert.KernelPairUpIdeal.nD Cert.KernelPairUpIdeal.τ).loc Cert.KernelPairUpIdeal.main_arg0)
          ∧ r.2.mem ((c.tc : Thread Cert.KernelPairUpIdeal.nD Cert.KernelPairUpIdeal.τ).loc Cert.KernelPairUpIdeal.main_arg1) = m ((c.tc : Thread Cert.KernelPairUpIdeal.nD Cert.KernelPairUpIdeal.τ).loc Cert.KernelPairUpIdeal.main_arg1))
      ∧ θ_run (Cert.ReferencePairUpIdeal.defs (F := Ideal)) (onTc (τ := Cert.ReferencePairUpIdeal.τ) (Cert.ReferencePairUpIdeal.main (F := Ideal))) ⟨m', fun _ => 0, g'⟩ (fun r => ∀ c : Dev Cert.ReferencePairUpIdeal.nD,
          r.2.mem ((c.tc : Thread Cert.ReferencePairUpIdeal.nD Cert.ReferencePairUpIdeal.τ).loc Cert.ReferencePairUpIdeal.main_v11) = v0 c
          ∧ r.2.mem ((c.tc : Thread Cert.ReferencePairUpIdeal.nD Cert.ReferencePairUpIdeal.τ).loc Cert.ReferencePairUpIdeal.main_arg0) = m' ((c.tc : Thread Cert.ReferencePairUpIdeal.nD Cert.ReferencePairUpIdeal.τ).loc Cert.ReferencePairUpIdeal.main_arg0)
          ∧ r.2.mem ((c.tc : Thread Cert.ReferencePairUpIdeal.nD Cert.ReferencePairUpIdeal.τ).loc Cert.ReferencePairUpIdeal.main_arg1) = m' ((c.tc : Thread Cert.ReferencePairUpIdeal.nD Cert.ReferencePairUpIdeal.τ).loc Cert.ReferencePairUpIdeal.main_arg1))

def preserves_KernelMid_KernelMidIdeal : Prop :=
  True

def algebraic_KernelMidIdeal_ReferenceMidIdeal [hKernelMidIdeal : Cert.KernelMidIdeal.Facts] [hReferenceMidIdeal : Cert.ReferenceMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_KernelMidIdeal m →
    (∀ c : Dev Cert.KernelMidIdeal.nD,
      m' ((c.tc : Thread Cert.ReferenceMidIdeal.nD Cert.ReferenceMidIdeal.τ).loc Cert.ReferenceMidIdeal.main_arg0) = m ((c.tc : Thread Cert.KernelMidIdeal.nD Cert.KernelMidIdeal.τ).loc Cert.KernelMidIdeal.main_arg0)
      ∧ m' ((c.tc : Thread Cert.ReferenceMidIdeal.nD Cert.ReferenceMidIdeal.τ).loc Cert.ReferenceMidIdeal.main_arg1) = m ((c.tc : Thread Cert.KernelMidIdeal.nD Cert.KernelMidIdeal.τ).loc Cert.KernelMidIdeal.main_arg1)
      ∧ m' ((c.tc : Thread Cert.ReferenceMidIdeal.nD Cert.ReferenceMidIdeal.τ).loc Cert.ReferenceMidIdeal.main_arg2) = m ((c.tc : Thread Cert.KernelMidIdeal.nD Cert.KernelMidIdeal.τ).loc Cert.KernelMidIdeal.main_arg2)
      ∧ m' ((c.tc : Thread Cert.ReferenceMidIdeal.nD Cert.ReferenceMidIdeal.τ).loc Cert.ReferenceMidIdeal.main_arg3) = m ((c.tc : Thread Cert.KernelMidIdeal.nD Cert.KernelMidIdeal.τ).loc Cert.KernelMidIdeal.main_arg3)
      ∧ m' ((c.tc : Thread Cert.ReferenceMidIdeal.nD Cert.ReferenceMidIdeal.τ).loc Cert.ReferenceMidIdeal.main_arg4) = m ((c.tc : Thread Cert.KernelMidIdeal.nD Cert.KernelMidIdeal.τ).loc Cert.KernelMidIdeal.main_arg4)
      ∧ m' ((c.tc : Thread Cert.ReferenceMidIdeal.nD Cert.ReferenceMidIdeal.τ).loc Cert.ReferenceMidIdeal.main_arg5) = m ((c.tc : Thread Cert.KernelMidIdeal.nD Cert.KernelMidIdeal.τ).loc Cert.KernelMidIdeal.main_arg5)) →
    ∃ (v0 : (c : Dev Cert.KernelMidIdeal.nD) → Buf (Elt Ideal) ((c.tc : Thread Cert.KernelMidIdeal.nD Cert.KernelMidIdeal.τ).loc Cert.KernelMidIdeal.main_v6_0)) (v1 : (c : Dev Cert.KernelMidIdeal.nD) → Buf (Elt Ideal) ((c.tc : Thread Cert.KernelMidIdeal.nD Cert.KernelMidIdeal.τ).loc Cert.KernelMidIdeal.main_v6_1)) (v2 : (c : Dev Cert.KernelMidIdeal.nD) → Buf (Elt Ideal) ((c.tc : Thread Cert.KernelMidIdeal.nD Cert.KernelMidIdeal.τ).loc Cert.KernelMidIdeal.main_v6_2)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v6_0) = v0 c
          ∧ r.2.mem ((c.tc : Thread Cert.KernelMidIdeal.nD Cert.KernelMidIdeal.τ).loc Cert.KernelMidIdeal.main_v6_1) = v1 c
          ∧ r.2.mem ((c.tc : Thread Cert.KernelMidIdeal.nD Cert.KernelMidIdeal.τ).loc Cert.KernelMidIdeal.main_v6_2) = v2 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
          ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
          ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
          ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v96) = v0 c
          ∧ r.2.mem ((c.tc : Thread Cert.ReferenceMidIdeal.nD Cert.ReferenceMidIdeal.τ).loc Cert.ReferenceMidIdeal.main_v98) = v1 c
          ∧ r.2.mem ((c.tc : Thread Cert.ReferenceMidIdeal.nD Cert.ReferenceMidIdeal.τ).loc Cert.ReferenceMidIdeal.main_v99) = v2 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2)
          ∧ r.2.mem ((c.tc : Thread Cert.ReferenceMidIdeal.nD Cert.ReferenceMidIdeal.τ).loc Cert.ReferenceMidIdeal.main_arg3) = m' ((c.tc : Thread Cert.ReferenceMidIdeal.nD Cert.ReferenceMidIdeal.τ).loc Cert.ReferenceMidIdeal.main_arg3)
          ∧ r.2.mem ((c.tc : Thread Cert.ReferenceMidIdeal.nD Cert.ReferenceMidIdeal.τ).loc Cert.ReferenceMidIdeal.main_arg4) = m' ((c.tc : Thread Cert.ReferenceMidIdeal.nD Cert.ReferenceMidIdeal.τ).loc Cert.ReferenceMidIdeal.main_arg4)
          ∧ r.2.mem ((c.tc : Thread Cert.ReferenceMidIdeal.nD Cert.ReferenceMidIdeal.τ).loc Cert.ReferenceMidIdeal.main_arg5) = m' ((c.tc : Thread Cert.ReferenceMidIdeal.nD Cert.ReferenceMidIdeal.τ).loc Cert.ReferenceMidIdeal.main_arg5))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelMerge : Cert.KernelMerge.Facts) (hKernelMergeIdeal : Cert.KernelMergeIdeal.Facts) (hReferenceMergeIdeal : Cert.ReferenceMergeIdeal.Facts) (hKernelOut : Cert.KernelOut.Facts) (hKernelOutIdeal : Cert.KernelOutIdeal.Facts) (hReferenceOutIdeal : Cert.ReferenceOutIdeal.Facts) (hKernelRgIn : Cert.KernelRgIn.Facts) (hKernelRgInIdeal : Cert.KernelRgInIdeal.Facts) (hReferenceRgInIdeal : Cert.ReferenceRgInIdeal.Facts) (hKernelRgOut : Cert.KernelRgOut.Facts) (hKernelRgOutIdeal : Cert.KernelRgOutIdeal.Facts) (hReferenceRgOutIdeal : Cert.ReferenceRgOutIdeal.Facts) (hKernelSquare : Cert.KernelSquare.Facts) (hKernelSquareIdeal : Cert.KernelSquareIdeal.Facts) (hReferenceSquareIdeal : Cert.ReferenceSquareIdeal.Facts) (hKernelQuery : Cert.KernelQuery.Facts) (hKernelQueryIdeal : Cert.KernelQueryIdeal.Facts) (hReferenceQueryIdeal : Cert.ReferenceQueryIdeal.Facts) (hKernelNorm : Cert.KernelNorm.Facts) (hKernelNormIdeal : Cert.KernelNormIdeal.Facts) (hReferenceNormIdeal : Cert.ReferenceNormIdeal.Facts) (hKernelGateDown : Cert.KernelGateDown.Facts) (hKernelGateDownIdeal : Cert.KernelGateDownIdeal.Facts) (hReferenceGateDownIdeal : Cert.ReferenceGateDownIdeal.Facts) (hKernelGateUp : Cert.KernelGateUp.Facts) (hKernelGateUpIdeal : Cert.KernelGateUpIdeal.Facts) (hReferenceGateUpIdeal : Cert.ReferenceGateUpIdeal.Facts) (hKernelGates : Cert.KernelGates.Facts) (hKernelGatesIdeal : Cert.KernelGatesIdeal.Facts) (hReferenceGatesIdeal : Cert.ReferenceGatesIdeal.Facts) (hKernelDecayDown : Cert.KernelDecayDown.Facts) (hKernelDecayDownIdeal : Cert.KernelDecayDownIdeal.Facts) (hReferenceDecayDownIdeal : Cert.ReferenceDecayDownIdeal.Facts) (hKernelRateDown : Cert.KernelRateDown.Facts) (hKernelRateDownIdeal : Cert.KernelRateDownIdeal.Facts) (hReferenceRateDownIdeal : Cert.ReferenceRateDownIdeal.Facts) (hKernelPairUp : Cert.KernelPairUp.Facts) (hKernelPairUpIdeal : Cert.KernelPairUpIdeal.Facts) (hReferencePairUpIdeal : Cert.ReferencePairUpIdeal.Facts) (hKernelMid : Cert.KernelMid.Facts) (hKernelMidIdeal : Cert.KernelMidIdeal.Facts) (hReferenceMidIdeal : Cert.ReferenceMidIdeal.Facts),
    quiescent_Kernel (hKernel := hKernel)
    ∧ quiescent_KernelIdeal (hKernelIdeal := hKernelIdeal)
    ∧ quiescent_ReferenceIdeal (hReferenceIdeal := hReferenceIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelRgIn (hKernelRgIn := hKernelRgIn)
    ∧ quiescent_KernelRgInIdeal (hKernelRgInIdeal := hKernelRgInIdeal)
    ∧ quiescent_ReferenceRgInIdeal (hReferenceRgInIdeal := hReferenceRgInIdeal)
    ∧ quiescent_KernelRgOut (hKernelRgOut := hKernelRgOut)
    ∧ quiescent_KernelRgOutIdeal (hKernelRgOutIdeal := hKernelRgOutIdeal)
    ∧ quiescent_ReferenceRgOutIdeal (hReferenceRgOutIdeal := hReferenceRgOutIdeal)
    ∧ quiescent_KernelSquare (hKernelSquare := hKernelSquare)
    ∧ quiescent_KernelSquareIdeal (hKernelSquareIdeal := hKernelSquareIdeal)
    ∧ quiescent_ReferenceSquareIdeal (hReferenceSquareIdeal := hReferenceSquareIdeal)
    ∧ quiescent_KernelQuery (hKernelQuery := hKernelQuery)
    ∧ quiescent_KernelQueryIdeal (hKernelQueryIdeal := hKernelQueryIdeal)
    ∧ quiescent_ReferenceQueryIdeal (hReferenceQueryIdeal := hReferenceQueryIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelGateDown (hKernelGateDown := hKernelGateDown)
    ∧ quiescent_KernelGateDownIdeal (hKernelGateDownIdeal := hKernelGateDownIdeal)
    ∧ quiescent_ReferenceGateDownIdeal (hReferenceGateDownIdeal := hReferenceGateDownIdeal)
    ∧ quiescent_KernelGateUp (hKernelGateUp := hKernelGateUp)
    ∧ quiescent_KernelGateUpIdeal (hKernelGateUpIdeal := hKernelGateUpIdeal)
    ∧ quiescent_ReferenceGateUpIdeal (hReferenceGateUpIdeal := hReferenceGateUpIdeal)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ quiescent_KernelDecayDown (hKernelDecayDown := hKernelDecayDown)
    ∧ quiescent_KernelDecayDownIdeal (hKernelDecayDownIdeal := hKernelDecayDownIdeal)
    ∧ quiescent_ReferenceDecayDownIdeal (hReferenceDecayDownIdeal := hReferenceDecayDownIdeal)
    ∧ quiescent_KernelRateDown (hKernelRateDown := hKernelRateDown)
    ∧ quiescent_KernelRateDownIdeal (hKernelRateDownIdeal := hKernelRateDownIdeal)
    ∧ quiescent_ReferenceRateDownIdeal (hReferenceRateDownIdeal := hReferenceRateDownIdeal)
    ∧ quiescent_KernelPairUp (hKernelPairUp := hKernelPairUp)
    ∧ quiescent_KernelPairUpIdeal (hKernelPairUpIdeal := hKernelPairUpIdeal)
    ∧ quiescent_ReferencePairUpIdeal (hReferencePairUpIdeal := hReferencePairUpIdeal)
    ∧ quiescent_KernelMid (hKernelMid := hKernelMid)
    ∧ quiescent_KernelMidIdeal (hKernelMidIdeal := hKernelMidIdeal)
    ∧ quiescent_ReferenceMidIdeal (hReferenceMidIdeal := hReferenceMidIdeal)
    ∧ preserves_Kernel_KernelIdeal
    ∧ algebraic_KernelIdeal_ReferenceIdeal (hKernelIdeal := hKernelIdeal) (hReferenceIdeal := hReferenceIdeal)
    ∧ preserves_KernelIn_KernelInIdeal
    ∧ algebraic_KernelInIdeal_ReferenceInIdeal (hKernelInIdeal := hKernelInIdeal) (hReferenceInIdeal := hReferenceInIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelOut_KernelOutIdeal
    ∧ algebraic_KernelOutIdeal_ReferenceOutIdeal (hKernelOutIdeal := hKernelOutIdeal) (hReferenceOutIdeal := hReferenceOutIdeal)
    ∧ preserves_KernelRgIn_KernelRgInIdeal
    ∧ algebraic_KernelRgInIdeal_ReferenceRgInIdeal (hKernelRgInIdeal := hKernelRgInIdeal) (hReferenceRgInIdeal := hReferenceRgInIdeal)
    ∧ preserves_KernelRgOut_KernelRgOutIdeal
    ∧ algebraic_KernelRgOutIdeal_ReferenceRgOutIdeal (hKernelRgOutIdeal := hKernelRgOutIdeal) (hReferenceRgOutIdeal := hReferenceRgOutIdeal)
    ∧ preserves_KernelSquare_KernelSquareIdeal
    ∧ algebraic_KernelSquareIdeal_ReferenceSquareIdeal (hKernelSquareIdeal := hKernelSquareIdeal) (hReferenceSquareIdeal := hReferenceSquareIdeal)
    ∧ preserves_KernelQuery_KernelQueryIdeal
    ∧ algebraic_KernelQueryIdeal_ReferenceQueryIdeal (hKernelQueryIdeal := hKernelQueryIdeal) (hReferenceQueryIdeal := hReferenceQueryIdeal)
    ∧ preserves_KernelNorm_KernelNormIdeal
    ∧ algebraic_KernelNormIdeal_ReferenceNormIdeal (hKernelNormIdeal := hKernelNormIdeal) (hReferenceNormIdeal := hReferenceNormIdeal)
    ∧ preserves_KernelGateDown_KernelGateDownIdeal
    ∧ algebraic_KernelGateDownIdeal_ReferenceGateDownIdeal (hKernelGateDownIdeal := hKernelGateDownIdeal) (hReferenceGateDownIdeal := hReferenceGateDownIdeal)
    ∧ preserves_KernelGateUp_KernelGateUpIdeal
    ∧ algebraic_KernelGateUpIdeal_ReferenceGateUpIdeal (hKernelGateUpIdeal := hKernelGateUpIdeal) (hReferenceGateUpIdeal := hReferenceGateUpIdeal)
    ∧ preserves_KernelGates_KernelGatesIdeal
    ∧ algebraic_KernelGatesIdeal_ReferenceGatesIdeal (hKernelGatesIdeal := hKernelGatesIdeal) (hReferenceGatesIdeal := hReferenceGatesIdeal)
    ∧ preserves_KernelDecayDown_KernelDecayDownIdeal
    ∧ algebraic_KernelDecayDownIdeal_ReferenceDecayDownIdeal (hKernelDecayDownIdeal := hKernelDecayDownIdeal) (hReferenceDecayDownIdeal := hReferenceDecayDownIdeal)
    ∧ preserves_KernelRateDown_KernelRateDownIdeal
    ∧ algebraic_KernelRateDownIdeal_ReferenceRateDownIdeal (hKernelRateDownIdeal := hKernelRateDownIdeal) (hReferenceRateDownIdeal := hReferenceRateDownIdeal)
    ∧ preserves_KernelPairUp_KernelPairUpIdeal
    ∧ algebraic_KernelPairUpIdeal_ReferencePairUpIdeal (hKernelPairUpIdeal := hKernelPairUpIdeal) (hReferencePairUpIdeal := hReferencePairUpIdeal)
    ∧ preserves_KernelMid_KernelMidIdeal
    ∧ algebraic_KernelMidIdeal_ReferenceMidIdeal (hKernelMidIdeal := hKernelMidIdeal) (hReferenceMidIdeal := hReferenceMidIdeal)
-- ==== Kernel.lean ====
abbrev S17408x16384 : Shape := ⟨2, ![17408, 16384]⟩
abbrev S_ : Shape := ⟨0, ![]⟩
abbrev S127 : Shape := ⟨1, ![127]⟩
abbrev S1 : Shape := ⟨1, ![1]⟩
abbrev S128 : Shape := ⟨1, ![128]⟩
abbrev S4352 : Shape := ⟨1, ![4352]⟩
abbrev S4352x1 : Shape := ⟨2, ![4352, 1]⟩
abbrev S1x128 : Shape := ⟨2, ![1, 128]⟩
abbrev S4352x128 : Shape := ⟨2, ![4352, 128]⟩
abbrev S8 : Shape := ⟨1, ![8]⟩
abbrev S8x1x1 : Shape := ⟨3, ![8, 1, 1]⟩
abbrev S128x1 : Shape := ⟨2, ![128, 1]⟩
abbrev S128x128 : Shape := ⟨2, ![128, 128]⟩
abbrev S1x128x128 : Shape := ⟨3, ![1, 128, 128]⟩
abbrev S8x128x128 : Shape := ⟨3, ![8, 128, 128]⟩
abbrev S8x1x128x128 : Shape := ⟨4, ![8, 1, 128, 128]⟩
abbrev S8x2x128x128 : Shape := ⟨4, ![8, 2, 128, 128]⟩
abbrev S8x1 : Shape := ⟨2, ![8, 1]⟩
abbrev S8x128 : Shape := ⟨2, ![8, 128]⟩
abbrev S8x1x128 : Shape := ⟨3, ![8, 1, 128]⟩
abbrev S8x2x128 : Shape := ⟨3, ![8, 2, 128]⟩
abbrev S8x2x128x1 : Shape := ⟨4, ![8, 2, 128, 1]⟩
abbrev S256 : Shape := ⟨1, ![256]⟩
abbrev S1x1x1x256 : Shape := ⟨4, ![1, 1, 1, 256]⟩
abbrev S8x2x128x256 : Shape := ⟨4, ![8, 2, 128, 256]⟩
abbrev S1x512 : Shape := ⟨2, ![1, 512]⟩
abbrev S1x1x512 : Shape := ⟨3, ![1, 1, 512]⟩
abbrev S8x1x512 : Shape := ⟨3, ![8, 1, 512]⟩
abbrev S2x17408x4096 : Shape := ⟨3, ![2, 17408, 4096]⟩
abbrev S128x256 : Shape := ⟨2, ![128, 256]⟩
abbrev S128x512 : Shape := ⟨2, ![128, 512]⟩
abbrev S1x1x128x128 : Shape := ⟨4, ![1, 1, 128, 128]⟩
abbrev S1x1x128x256 : Shape := ⟨4, ![1, 1, 128, 256]⟩
abbrev S1x128x512 : Shape := ⟨3, ![1, 128, 512]⟩
abbrev S256x512 : Shape := ⟨2, ![256, 512]⟩

abbrev nBuf : Space → Nat
  | .hbm => 126
  | .vmem => 21
  | .smem => 0
  | _ => 0

abbrev bufTy : (tb : Table) → Fin (tcTables nBuf tb) → BufTy
  | .hbm, ⟨0, _⟩ => ⟨S17408x16384, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S127, .f32⟩
  | .hbm, ⟨9, _⟩ => ⟨S_, .f32⟩
  | .hbm, ⟨10, _⟩ => ⟨S127, .f32⟩
  | .hbm, ⟨11, _⟩ => ⟨S127, .f32⟩
  | .hbm, ⟨12, _⟩ => ⟨S1, .f32⟩
  | .hbm, ⟨13, _⟩ => ⟨S_, .f32⟩
  | .hbm, ⟨14, _⟩ => ⟨S127, .f32⟩
  | .hbm, ⟨15, _⟩ => ⟨S127, .f32⟩
  | .hbm, ⟨16, _⟩ => ⟨S127, .f32⟩
  | .hbm, ⟨17, _⟩ => ⟨S127, .f32⟩
  | .hbm, ⟨18, _⟩ => ⟨S1, .f32⟩
  | .hbm, ⟨19, _⟩ => ⟨S127, .f32⟩
  | .hbm, ⟨20, _⟩ => ⟨S127, .f32⟩
  | .hbm, ⟨21, _⟩ => ⟨S127, .f32⟩
  | .hbm, ⟨22, _⟩ => ⟨S1, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S4352, .f32⟩
  | .hbm, ⟨31, _⟩ => ⟨S4352x1, .f32⟩
  | .hbm, ⟨32, _⟩ => ⟨S1x128, .f32⟩
  | .hbm, ⟨33, _⟩ => ⟨S4352x128, .f32⟩
  | .hbm, ⟨34, _⟩ => ⟨S4352x128, .f32⟩
  | .hbm, ⟨35, _⟩ => ⟨S4352x128, .f32⟩
  | .hbm, ⟨36, _⟩ => ⟨S4352x128, .f32⟩
  | .hbm, ⟨37, _⟩ => ⟨S4352x128, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S8, .f32⟩
  | .hbm, ⟨46, _⟩ => ⟨S8, .f32⟩
  | .hbm, ⟨47, _⟩ => ⟨S8, .f32⟩
  | .hbm, ⟨48, _⟩ => ⟨S8x1x1, .f32⟩
  | .hbm, ⟨49, _⟩ => ⟨S128, .f32⟩
  | .hbm, ⟨50, _⟩ => ⟨S128x1, .f32⟩
  | .hbm, ⟨51, _⟩ => ⟨S1x128, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S_, .f32⟩
  | .hbm, ⟨56, _⟩ => ⟨S128x128, .f32⟩
  | .hbm, ⟨57, _⟩ => ⟨S128x128, .i1⟩
  | .hbm, ⟨58, _⟩ => ⟨S_, .f32⟩
  | .hbm, ⟨59, _⟩ => ⟨S128x128, .f32⟩
  | .hbm, ⟨60, _⟩ => ⟨S128x128, .f32⟩
  | .hbm, ⟨61, _⟩ => ⟨S1x128x128, .f32⟩
  | .hbm, ⟨62, _⟩ => ⟨S8x128x128, .f32⟩
  | .hbm, ⟨63, _⟩ => ⟨S8x128x128, .f32⟩
  | .hbm, ⟨64, _⟩ => ⟨S8x128x128, .f32⟩
  | .hbm, ⟨65, _⟩ => ⟨S8x128x128, .f32⟩
  | .hbm, ⟨66, _⟩ => ⟨S_, .f32⟩
  | .hbm, ⟨67, _⟩ => ⟨S_, .f32⟩
  | .hbm, ⟨68, _⟩ => ⟨S8x128x128, .i1⟩
  | .hbm, ⟨69, _⟩ => ⟨S8x128x128, .f32⟩
  | .hbm, ⟨70, _⟩ => ⟨S8x128x128, .f32⟩
  | .hbm, ⟨71, _⟩ => ⟨S8x128x128, .f32⟩
  | .hbm, ⟨72, _⟩ => ⟨S8x1x128x128, .f32⟩
  | .hbm, ⟨73, _⟩ => ⟨S8x1x128x128, .f32⟩
  | .hbm, ⟨74, _⟩ => ⟨S8x2x128x128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S8x1, .f32⟩
  | .hbm, ⟨79, _⟩ => ⟨S1x128, .f32⟩
  | .hbm, ⟨80, _⟩ => ⟨S8x128, .f32⟩
  | .hbm, ⟨81, _⟩ => ⟨S8x128, .f32⟩
  | .hbm, ⟨82, _⟩ => ⟨S8x128, .f32⟩
  | .hbm, ⟨83, _⟩ => ⟨S8x128, .f32⟩
  | .hbm, ⟨84, _⟩ => ⟨S8x128, .f32⟩
  | .hbm, ⟨85, _⟩ => ⟨S8x1x128, .f32⟩
  | .hbm, ⟨86, _⟩ => ⟨S8x1x128, .f32⟩
  | .hbm, ⟨87, _⟩ => ⟨S8x2x128, .f32⟩
  | .hbm, ⟨88, _⟩ => ⟨S8x2x128x1, .f32⟩
  | .hbm, ⟨89, _⟩ => ⟨S_, .f32⟩
  | .hbm, ⟨90, _⟩ => ⟨S256, .f32⟩
  | .hbm, ⟨91, _⟩ => ⟨S1x1x1x256, .f32⟩
  | .hbm, ⟨92, _⟩ => ⟨S8x2x128x256, .f32⟩
  | .hbm, ⟨93, _⟩ => ⟨S8x2x128x256, .f32⟩
  | .hbm, ⟨94, _⟩ => ⟨S8x2x128x256, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S8x1, .f32⟩
  | .hbm, ⟨99, _⟩ => ⟨S1x128, .f32⟩
  | .hbm, ⟨100, _⟩ => ⟨S8x128, .f32⟩
  | .hbm, ⟨101, _⟩ => ⟨S8x128, .f32⟩
  | .hbm, ⟨102, _⟩ => ⟨S8x128, .f32⟩
  | .hbm, ⟨103, _⟩ => ⟨S8x128, .f32⟩
  | .hbm, ⟨104, _⟩ => ⟨S8x128, .f32⟩
  | .hbm, ⟨105, _⟩ => ⟨S8x1x128, .f32⟩
  | .hbm, ⟨106, _⟩ => ⟨S8x1x128, .f32⟩
  | .hbm, ⟨107, _⟩ => ⟨S8x2x128, .f32⟩
  | .hbm, ⟨108, _⟩ => ⟨S8x2x128x1, .f32⟩
  | .hbm, ⟨109, _⟩ => ⟨S_, .f32⟩
  | .hbm, ⟨110, _⟩ => ⟨S256, .f32⟩
  | .hbm, ⟨111, _⟩ => ⟨S1x1x1x256, .f32⟩
  | .hbm, ⟨112, _⟩ => ⟨S8x2x128x256, .f32⟩
  | .hbm, ⟨113, _⟩ => ⟨S8x2x128x256, .f32⟩
  | .hbm, ⟨114, _⟩ => ⟨S8x2x128x256, .f32⟩
  | .hbm, ⟨115, _⟩ => ⟨S_, .f32⟩
  | .hbm, ⟨116, _⟩ => ⟨S8x1x1, .f32⟩
  | .hbm, ⟨117, _⟩ => ⟨S8x1x1, .f32⟩
  | .hbm, ⟨118, _⟩ => ⟨S8x1x1, .f32⟩
  | .hbm, ⟨119, _⟩ => ⟨S_, .f32⟩
  | .hbm, ⟨120, _⟩ => ⟨S1x512, .f32⟩
  | .hbm, ⟨121, _⟩ => ⟨S1x1x512, .f32⟩
  | .hbm, ⟨122, _⟩ => ⟨S8x1x512, .f32⟩
  | .hbm, ⟨123, _⟩ => ⟨S8x1x512, .f32⟩
  | .hbm, ⟨124, _⟩ => ⟨S8x1x512, .f32⟩
  | .hbm, ⟨125, _⟩ => ⟨S2x17408x4096, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x512, .f32⟩
  | .local _ .vmem, ⟨5, _⟩ => ⟨S128x512, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x1x128x128, .f32⟩
  | .local _ .vmem, ⟨11, _⟩ => ⟨S1x1x128x128, .f32⟩
  | .local _ .vmem, ⟨12, _⟩ => ⟨S1x1x128x256, .f32⟩
  | .local _ .vmem, ⟨13, _⟩ => ⟨S1x1x128x256, .f32⟩
  | .local _ .vmem, ⟨14, _⟩ => ⟨S1x1x128x256, .f32⟩
  | .local _ .vmem, ⟨15, _⟩ => ⟨S1x1x128x256, .f32⟩
  | .local _ .vmem, ⟨16, _⟩ => ⟨S1x1x512, .f32⟩
  | .local _ .vmem, ⟨17, _⟩ => ⟨S1x1x512, .f32⟩
  | .local _ .vmem, ⟨18, _⟩ => ⟨S1x128x512, .f32⟩
  | .local _ .vmem, ⟨19, _⟩ => ⟨S1x128x512, .f32⟩
  | .local _ .vmem, ⟨20, _⟩ => ⟨S256x512, .f32⟩
  | _, _ => ⟨S17408x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_cst_1 : Ref sig .tc := ⟨.hbm, 24, rfl⟩
abbrev main_v1 : Ref sig .tc := ⟨.hbm, 25, rfl⟩
abbrev main_v2 : Ref sig .tc := ⟨.hbm, 26, rfl⟩
abbrev main_cst_2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_cst_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_5 : Ref sig .tc := ⟨.hbm, 55, rfl⟩
abbrev main_v28 : Ref sig .tc := ⟨.hbm, 56, rfl⟩
abbrev main_v29 : Ref sig .tc := ⟨.hbm, 57, rfl⟩
abbrev main_cst_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_8 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_9 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_10 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_11 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_12 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_13 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨4, ![4, 8, 2, 34], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c34_i32 : BitVec 32 := 34#32
  let v0 : BitVec 32 := Scalar.muli arg0 c34_i32
  let c2_i32 : BitVec 32 := 2#32
  let v1 : BitVec 1 := Scalar.cmpi .slt arg3 c2_i32
  let c1_i32 : BitVec 32 := 1#32
  let v2 : BitVec 32 := Scalar.subi c1_i32 arg3
  let c2_i32_0 : BitVec 32 := 2#32
  let v3 : BitVec 32 := Scalar.subi arg3 c2_i32_0
  let c33_i32 : BitVec 32 := 33#32
  let v4 : BitVec 32 := Scalar.subi c33_i32 v3
  let v5 : BitVec 32 := Scalar.select v1 v2 v4
  let c0_i32 : BitVec 32 := 0#32
  let v6 : BitVec 1 := Scalar.cmpi .eq arg2 c0_i32
  let v7 : BitVec 32 := Scalar.select v6 arg3 v5
  let v8 : BitVec 32 := Scalar.addi v0 v7
  let c0_i32_1 : BitVec 32 := 0#32
  ![v8.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c34_i32 : BitVec 32 := 34#32
  let v0 : BitVec 32 := Scalar.muli arg0 c34_i32
  let c2_i32 : BitVec 32 := 2#32
  let v1 : BitVec 1 := Scalar.cmpi .slt arg3 c2_i32
  let c1_i32 : BitVec 32 := 1#32
  let v2 : BitVec 32 := Scalar.subi c1_i32 arg3
  let c2_i32_0 : BitVec 32 := 2#32
  let v3 : BitVec 32 := Scalar.subi arg3 c2_i32_0
  let c33_i32 : BitVec 32 := 33#32
  let v4 : BitVec 32 := Scalar.subi c33_i32 v3
  let v5 : BitVec 32 := Scalar.select v1 v2 v4
  let c0_i32 : BitVec 32 := 0#32
  let v6 : BitVec 1 := Scalar.cmpi .eq arg2 c0_i32
  let v7 : BitVec 32 := Scalar.select v6 arg3 v5
  let v8 : BitVec 32 := Scalar.addi v0 v7
  let c8_i32 : BitVec 32 := 8#32
  let v9 : BitVec 32 := Scalar.addi c8_i32 arg1
  let c0_i32_1 : BitVec 32 := 0#32
  ![v8.toNat, v9.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c34_i32 : BitVec 32 := 34#32
  let v0 : BitVec 32 := Scalar.muli arg0 c34_i32
  let c2_i32 : BitVec 32 := 2#32
  let v1 : BitVec 1 := Scalar.cmpi .slt arg3 c2_i32
  let c1_i32 : BitVec 32 := 1#32
  let v2 : BitVec 32 := Scalar.subi c1_i32 arg3
  let c2_i32_0 : BitVec 32 := 2#32
  let v3 : BitVec 32 := Scalar.subi arg3 c2_i32_0
  let c33_i32 : BitVec 32 := 33#32
  let v4 : BitVec 32 := Scalar.subi c33_i32 v3
  let v5 : BitVec 32 := Scalar.select v1 v2 v4
  let c0_i32 : BitVec 32 := 0#32
  let v6 : BitVec 1 := Scalar.cmpi .eq arg2 c0_i32
  let v7 : BitVec 32 := Scalar.select v6 arg3 v5
  let v8 : BitVec 32 := Scalar.addi v0 v7
  let c8_i32 : BitVec 32 := 8#32
  let v9 : BitVec 32 := Scalar.addi c8_i32 arg1
  let c0_i32_1 : BitVec 32 := 0#32
  ![v8.toNat, v9.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 1 := Scalar.cmpi .slt arg3 c2_i32
  let c1_i32 : BitVec 32 := 1#32
  let v1 : BitVec 32 := Scalar.subi c1_i32 arg3
  let c2_i32_0 : BitVec 32 := 2#32
  let v2 : BitVec 32 := Scalar.subi arg3 c2_i32_0
  let c33_i32 : BitVec 32 := 33#32
  let v3 : BitVec 32 := Scalar.subi c33_i32 v2
  let v4 : BitVec 32 := Scalar.select v0 v1 v3
  let c0_i32 : BitVec 32 := 0#32
  let v5 : BitVec 1 := Scalar.cmpi .eq arg2 c0_i32
  let v6 : BitVec 32 := Scalar.select v5 arg3 v4
  let c0_i32_1 : BitVec 32 := 0#32
  let c0_i32_2 : BitVec 32 := 0#32
  ![v6.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 1 := Scalar.cmpi .slt arg3 c2_i32
  let c1_i32 : BitVec 32 := 1#32
  let v1 : BitVec 32 := Scalar.subi c1_i32 arg3
  let c2_i32_0 : BitVec 32 := 2#32
  let v2 : BitVec 32 := Scalar.subi arg3 c2_i32_0
  let c33_i32 : BitVec 32 := 33#32
  let v3 : BitVec 32 := Scalar.subi c33_i32 v2
  let v4 : BitVec 32 := Scalar.select v0 v1 v3
  let c0_i32 : BitVec 32 := 0#32
  let v5 : BitVec 1 := Scalar.cmpi .eq arg2 c0_i32
  let v6 : BitVec 32 := Scalar.select v5 arg3 v4
  let c0_i32_1 : BitVec 32 := 0#32
  let c0_i32_2 : BitVec 32 := 0#32
  ![v6.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg1.toNat, arg2.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg1.toNat, arg2.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg1.toNat, arg2.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c34_i32 : BitVec 32 := 34#32
  let v0 : BitVec 32 := Scalar.muli arg0 c34_i32
  let c2_i32 : BitVec 32 := 2#32
  let v1 : BitVec 1 := Scalar.cmpi .slt arg3 c2_i32
  let c1_i32 : BitVec 32 := 1#32
  let v2 : BitVec 32 := Scalar.subi c1_i32 arg3
  let c2_i32_0 : BitVec 32 := 2#32
  let v3 : BitVec 32 := Scalar.subi arg3 c2_i32_0
  let c33_i32 : BitVec 32 := 33#32
  let v4 : BitVec 32 := Scalar.subi c33_i32 v3
  let v5 : BitVec 32 := Scalar.select v1 v2 v4
  let c0_i32 : BitVec 32 := 0#32
  let v6 : BitVec 1 := Scalar.cmpi .eq arg2 c0_i32
  let v7 : BitVec 32 := Scalar.select v6 arg3 v5
  let v8 : BitVec 32 := Scalar.addi v0 v7
  let c0_i32_1 : BitVec 32 := 0#32
  ![arg2.toNat, v8.toNat, arg1.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true, true]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true, false]

abbrev stage0_6 : Fin 2 → Memref sig .tc .vmem S1x1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true, false]

abbrev stage0_7 : Fin 2 → Memref sig .tc .vmem S1x1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true, false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false, false]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true, true]
-- ==== ReferenceIdeal.lean ====
abbrev S17408x16384 : Shape := ⟨2, ![17408, 16384]⟩
abbrev S4x4352x16384 : Shape := ⟨3, ![4, 4352, 16384]⟩
abbrev S8 : Shape := ⟨1, ![8]⟩
abbrev S_ : Shape := ⟨0, ![]⟩
abbrev S4352 : Shape := ⟨1, ![4352]⟩
abbrev S4x4352x2048 : Shape := ⟨3, ![4, 4352, 2048]⟩
abbrev S4x4352x8x256 : Shape := ⟨4, ![4, 4352, 8, 256]⟩
abbrev S127 : Shape := ⟨1, ![127]⟩
abbrev S1 : Shape := ⟨1, ![1]⟩
abbrev S128 : Shape := ⟨1, ![128]⟩
abbrev S4352x1 : Shape := ⟨2, ![4352, 1]⟩
abbrev S1x128 : Shape := ⟨2, ![1, 128]⟩
abbrev S4352x128 : Shape := ⟨2, ![4352, 128]⟩
abbrev S1x4352x1x128 : Shape := ⟨4, ![1, 4352, 1, 128]⟩
abbrev S4x4352x8x128 : Shape := ⟨4, ![4, 4352, 8, 128]⟩
abbrev S4x4352x4096 : Shape := ⟨3, ![4, 4352, 4096]⟩
abbrev S4x4352x8x512 : Shape := ⟨4, ![4, 4352, 8, 512]⟩
abbrev S4x8x4352x256 : Shape := ⟨4, ![4, 8, 4352, 256]⟩
abbrev S4x8x4352x512 : Shape := ⟨4, ![4, 8, 4352, 512]⟩
abbrev S4x8x256x256 : Shape := ⟨4, ![4, 8, 256, 256]⟩
abbrev S4x8x4096x256 : Shape := ⟨4, ![4, 8, 4096, 256]⟩
abbrev S8x8x4352x256 : Shape := ⟨4, ![8, 8, 4352, 256]⟩
abbrev S4x8x256x512 : Shape := ⟨4, ![4, 8, 256, 512]⟩
abbrev S4x8x4096x512 : Shape := ⟨4, ![4, 8, 4096, 512]⟩
abbrev S8x8x4352x512 : Shape := ⟨4, ![8, 8, 4352, 512]⟩
abbrev S8x8x256x512 : Shape := ⟨4, ![8, 8, 256, 512]⟩
abbrev S128x1 : Shape := ⟨2, ![128, 1]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S8x8x34x128x256 : Shape := ⟨5, ![8, 8, 34, 128, 256]⟩
abbrev S34x8x8x128x256 : Shape := ⟨5, ![34, 8, 8, 128, 256]⟩
abbrev S8x8x34x128x512 : Shape := ⟨5, ![8, 8, 34, 128, 512]⟩
abbrev S34x8x8x128x512 : Shape := ⟨5, ![34, 8, 8, 128, 512]⟩
abbrev S1x8x8x128x256 : Shape := ⟨5, ![1, 8, 8, 128, 256]⟩
abbrev S8x8x128x256 : Shape := ⟨4, ![8, 8, 128, 256]⟩
abbrev S1x8x8x128x512 : Shape := ⟨5, ![1, 8, 8, 128, 512]⟩
abbrev S8x8x128x512 : Shape := ⟨4, ![8, 8, 128, 512]⟩
abbrev S8x8x128x128 : Shape := ⟨4, ![8, 8, 128, 128]⟩
abbrev S1x8x128x128 : Shape := ⟨4, ![1, 8, 128, 128]⟩
abbrev S1x8x128x1 : Shape := ⟨4, ![1, 8, 128, 1]⟩
abbrev S1x8x1x1 : Shape := ⟨4, ![1, 8, 1, 1]⟩
abbrev S1x4x8x4352x512 : Shape := ⟨5, ![1, 4, 8, 4352, 512]⟩
abbrev S2x4x8x4352x512 : Shape := ⟨5, ![2, 4, 8, 4352, 512]⟩
abbrev S2x4x4352x8x512 : Shape := ⟨5, ![2, 4, 4352, 8, 512]⟩
abbrev S2x17408x4096 : Shape := ⟨3, ![2, 17408, 4096]⟩

abbrev nBuf : Space → Nat
  | .hbm => 277
  | .vmem => 0
  | .smem => 0
  | _ => 0

abbrev hbmTy0_0 (i : Nat) : BufTy := match i % 128 with
  | 0 => ⟨S17408x16384, .f32⟩
  | 1 => ⟨S4x4352x16384, .f32⟩
  | 2 => ⟨S8, .f32⟩
  | 3 => ⟨S_, .f32⟩
  | 4 => ⟨S8, .f32⟩
  | 5 => ⟨S8, .f32⟩
  | 6 => ⟨S_, .f32⟩
  | 7 => ⟨S8, .f32⟩
  | 8 => ⟨S8, .f32⟩
  | 9 => ⟨S8, .f32⟩
  | 10 => ⟨S8, .f32⟩
  | 11 => ⟨S8, .f32⟩
  | 12 => ⟨S4352, .f32⟩
  | 13 => ⟨S_, .f32⟩
  | 14 => ⟨S4352, .f32⟩
  | 15 => ⟨S4352, .f32⟩
  | 16 => ⟨S4x4352x2048, .f32⟩
  | 17 => ⟨S4x4352x8x256, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S127, .f32⟩
  | 26 => ⟨S_, .f32⟩
  | 27 => ⟨S127, .f32⟩
  | 28 => ⟨S127, .f32⟩
  | 29 => ⟨S1, .f32⟩
  | 30 => ⟨S_, .f32⟩
  | 31 => ⟨S127, .f32⟩
  | 32 => ⟨S127, .f32⟩
  | 33 => ⟨S127, .f32⟩
  | 34 => ⟨S127, .f32⟩
  | 35 => ⟨S1, .f32⟩
  | 36 => ⟨S127, .f32⟩
  | 37 => ⟨S127, .f32⟩
  | 38 => ⟨S127, .f32⟩
  | 39 => ⟨S1, .f32⟩
  | 40 => ⟨S128, .f32⟩
  | 41 => ⟨S_, .f32⟩
  | 42 => ⟨S128, .f32⟩
  | 43 => ⟨S128, .f32⟩
  | 44 => ⟨S_, .f32⟩
  | 45 => ⟨S128, .f32⟩
  | 46 => ⟨S128, .f32⟩
  | 47 => ⟨S4352x1, .f32⟩
  | 48 => ⟨S1x128, .f32⟩
  | 49 => ⟨S4352x128, .f32⟩
  | 50 => ⟨S4352x128, .f32⟩
  | 51 => ⟨S4352x128, .f32⟩
  | 52 => ⟨S4352x128, .f32⟩
  | 53 => ⟨S1x4352x1x128, .f32⟩
  | 54 => ⟨S4352x128, .f32⟩
  | 55 => ⟨S1x4352x1x128, .f32⟩
  | 56 => ⟨S4x4352x8x128, .f32⟩
  | 57 => ⟨S4x4352x8x128, .f32⟩
  | 58 => ⟨S4x4352x8x128, .f32⟩
  | 59 => ⟨S4x4352x8x128, .f32⟩
  | 60 => ⟨S4x4352x8x128, .f32⟩
  | 61 => ⟨S4x4352x8x128, .f32⟩
  | 62 => ⟨S4x4352x8x128, .f32⟩
  | 63 => ⟨S4x4352x8x128, .f32⟩
  | 64 => ⟨S4x4352x8x128, .f32⟩
  | 65 => ⟨S4x4352x8x128, .f32⟩
  | 66 => ⟨S4x4352x8x128, .f32⟩
  | 67 => ⟨S4x4352x8x128, .f32⟩
  | 68 => ⟨S4x4352x8x256, .f32⟩
  | 69 => ⟨S4x4352x2048, .f32⟩
  | 70 => ⟨S4x4352x8x256, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S127, .f32⟩
  | 79 => ⟨S_, .f32⟩
  | 80 => ⟨S127, .f32⟩
  | 81 => ⟨S127, .f32⟩
  | 82 => ⟨S1, .f32⟩
  | 83 => ⟨S_, .f32⟩
  | 84 => ⟨S127, .f32⟩
  | 85 => ⟨S127, .f32⟩
  | 86 => ⟨S127, .f32⟩
  | 87 => ⟨S127, .f32⟩
  | 88 => ⟨S1, .f32⟩
  | 89 => ⟨S127, .f32⟩
  | 90 => ⟨S127, .f32⟩
  | 91 => ⟨S127, .f32⟩
  | 92 => ⟨S1, .f32⟩
  | 93 => ⟨S128, .f32⟩
  | 94 => ⟨S_, .f32⟩
  | 95 => ⟨S128, .f32⟩
  | 96 => ⟨S128, .f32⟩
  | 97 => ⟨S_, .f32⟩
  | 98 => ⟨S128, .f32⟩
  | 99 => ⟨S128, .f32⟩
  | 100 => ⟨S4352x1, .f32⟩
  | 101 => ⟨S1x128, .f32⟩
  | 102 => ⟨S4352x128, .f32⟩
  | 103 => ⟨S4352x128, .f32⟩
  | 104 => ⟨S4352x128, .f32⟩
  | 105 => ⟨S4352x128, .f32⟩
  | 106 => ⟨S1x4352x1x128, .f32⟩
  | 107 => ⟨S4352x128, .f32⟩
  | 108 => ⟨S1x4352x1x128, .f32⟩
  | 109 => ⟨S4x4352x8x128, .f32⟩
  | 110 => ⟨S4x4352x8x128, .f32⟩
  | 111 => ⟨S4x4352x8x128, .f32⟩
  | 112 => ⟨S4x4352x8x128, .f32⟩
  | 113 => ⟨S4x4352x8x128, .f32⟩
  | 114 => ⟨S4x4352x8x128, .f32⟩
  | 115 => ⟨S4x4352x8x128, .f32⟩
  | 116 => ⟨S4x4352x8x128, .f32⟩
  | 117 => ⟨S4x4352x8x128, .f32⟩
  | 118 => ⟨S4x4352x8x128, .f32⟩
  | 119 => ⟨S4x4352x8x128, .f32⟩
  | 120 => ⟨S4x4352x8x128, .f32⟩
  | 121 => ⟨S4x4352x8x256, .f32⟩
  | 122 => ⟨S_, .f32⟩
  | 123 => ⟨S4x4352x8x256, .f32⟩
  | 124 => ⟨S4x4352x8x256, .f32⟩
  | 125 => ⟨S4x4352x4096, .f32⟩
  | 126 => ⟨S4x4352x8x512, .f32⟩
  | 127 => ⟨S4x8x4352x256, .f32⟩
  | _ => ⟨S17408x16384, .f32⟩

abbrev hbmTy0_1 (i : Nat) : BufTy := match i % 128 with
  | 0 => ⟨S4x8x4352x256, .f32⟩
  | 1 => ⟨S4x8x4352x512, .f32⟩
  | 2 => ⟨S4x8x256x256, .f32⟩
  | 3 => ⟨S4x8x256x256, .f32⟩
  | 4 => ⟨S4x8x4096x256, .f32⟩
  | 5 => ⟨S4x8x4096x256, .f32⟩
  | 6 => ⟨S4x8x4352x256, .f32⟩
  | 7 => ⟨S8x8x4352x256, .f32⟩
  | 8 => ⟨S4x8x256x256, .f32⟩
  | 9 => ⟨S4x8x256x256, .f32⟩
  | 10 => ⟨S4x8x4096x256, .f32⟩
  | 11 => ⟨S4x8x4096x256, .f32⟩
  | 12 => ⟨S4x8x4352x256, .f32⟩
  | 13 => ⟨S8x8x4352x256, .f32⟩
  | 14 => ⟨S4x8x256x512, .f32⟩
  | 15 => ⟨S4x8x256x512, .f32⟩
  | 16 => ⟨S4x8x4096x512, .f32⟩
  | 17 => ⟨S4x8x4096x512, .f32⟩
  | 18 => ⟨S4x8x4352x512, .f32⟩
  | 19 => ⟨S8x8x4352x512, .f32⟩
  | 20 => ⟨S_, .f32⟩
  | 21 => ⟨S8x8x256x512, .f32⟩
  | 22 => ⟨S128, .f32⟩
  | 23 => ⟨S128x1, .f32⟩
  | 24 => ⟨S1x128, .f32⟩
  | 25 => ⟨S128x128, .f32⟩
  | 26 => ⟨S128x128, .f32⟩
  | 27 => ⟨S128x128, .f32⟩
  | 28 => ⟨S_, .f32⟩
  | 29 => ⟨S128x128, .f32⟩
  | 30 => ⟨S128x128, .i1⟩
  | 31 => ⟨S_, .f32⟩
  | 32 => ⟨S128x128, .f32⟩
  | 33 => ⟨S128x128, .f32⟩
  | 34 => ⟨S8x1x1, .f32⟩
  | 35 => ⟨S1x128x128, .f32⟩
  | 36 => ⟨S8x128x128, .f32⟩
  | 37 => ⟨S8x128x128, .f32⟩
  | 38 => ⟨S8x128x128, .f32⟩
  | 39 => ⟨S8x128x128, .f32⟩
  | 40 => ⟨S_, .f32⟩
  | 41 => ⟨S_, .f32⟩
  | 42 => ⟨S8x128x128, .i1⟩
  | 43 => ⟨S8x128x128, .f32⟩
  | 44 => ⟨S8x128x128, .f32⟩
  | 45 => ⟨S_, .f32⟩
  | 46 => ⟨S128, .f32⟩
  | 47 => ⟨S128, .f32⟩
  | 48 => ⟨S8x1, .f32⟩
  | 49 => ⟨S1x128, .f32⟩
  | 50 => ⟨S8x128, .f32⟩
  | 51 => ⟨S8x128, .f32⟩
  | 52 => ⟨S8x128, .f32⟩
  | 53 => ⟨S8x128, .f32⟩
  | 54 => ⟨S8x128x1, .f32⟩
  | 55 => ⟨S_, .f32⟩
  | 56 => ⟨S128, .f32⟩
  | 57 => ⟨S128, .f32⟩
  | 58 => ⟨S8x1, .f32⟩
  | 59 => ⟨S1x128, .f32⟩
  | 60 => ⟨S8x128, .f32⟩
  | 61 => ⟨S8x128, .f32⟩
  | 62 => ⟨S8x128, .f32⟩
  | 63 => ⟨S8x128, .f32⟩
  | 64 => ⟨S8x128x1, .f32⟩
  | 65 => ⟨S_, .f32⟩
  | 66 => ⟨S8, .f32⟩
  | 67 => ⟨S8, .f32⟩
  | 68 => ⟨S8, .f32⟩
  | 69 => ⟨S8x1x1, .f32⟩
  | 70 => ⟨S8x8x34x128x256, .f32⟩
  | 71 => ⟨S34x8x8x128x256, .f32⟩
  | 72 => ⟨S8x8x34x128x256, .f32⟩
  | 73 => ⟨S34x8x8x128x256, .f32⟩
  | 74 => ⟨S8x8x34x128x512, .f32⟩
  | 75 => ⟨S34x8x8x128x512, .f32⟩
  | 76 => ⟨S_, .f32⟩
  | 77 => ⟨S34x8x8x128x512, .f32⟩
  | 78 => ⟨S_, .i32⟩
  | 79 => ⟨S34x8x8x128x256, .f32⟩
  | 80 => ⟨S34x8x8x128x256, .f32⟩
  | 81 => ⟨S34x8x8x128x512, .f32⟩
  | 82 => ⟨S8x128x128, .f32⟩
  | 83 => ⟨S8x128x1, .f32⟩
  | 84 => ⟨S8x1x1, .f32⟩
  | 85 => ⟨S8x128x1, .f32⟩
  | 86 => ⟨S_, .i32⟩
  | 87 => ⟨S8x8x256x512, .f32⟩
  | 88 => ⟨S34x8x8x128x512, .f32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S1x8x8x128x256, .f32⟩
  | 96 => ⟨S8x8x128x256, .f32⟩
  | 97 => ⟨S_, .i32⟩
  | 98 => ⟨S_, .i32⟩
  | 99 => ⟨S_, .i32⟩
  | 100 => ⟨S_, .i32⟩
  | 101 => ⟨S1x8x8x128x256, .f32⟩
  | 102 => ⟨S8x8x128x256, .f32⟩
  | 103 => ⟨S_, .i32⟩
  | 104 => ⟨S_, .i32⟩
  | 105 => ⟨S_, .i32⟩
  | 106 => ⟨S_, .i32⟩
  | 107 => ⟨S1x8x8x128x512, .f32⟩
  | 108 => ⟨S8x8x128x512, .f32⟩
  | 109 => ⟨S8x8x128x128, .f32⟩
  | 110 => ⟨S1x8x128x128, .f32⟩
  | 111 => ⟨S8x8x128x128, .f32⟩
  | 112 => ⟨S8x8x128x128, .f32⟩
  | 113 => ⟨S8x8x128x512, .f32⟩
  | 114 => ⟨S1x8x128x1, .f32⟩
  | 115 => ⟨S8x8x128x256, .f32⟩
  | 116 => ⟨S8x8x128x256, .f32⟩
  | 117 => ⟨S8x8x128x512, .f32⟩
  | 118 => ⟨S8x8x128x512, .f32⟩
  | 119 => ⟨S1x8x1x1, .f32⟩
  | 120 => ⟨S8x8x256x512, .f32⟩
  | 121 => ⟨S8x8x256x512, .f32⟩
  | 122 => ⟨S1x8x128x1, .f32⟩
  | 123 => ⟨S8x8x128x256, .f32⟩
  | 124 => ⟨S8x8x128x256, .f32⟩
  | 125 => ⟨S8x8x256x512, .f32⟩
  | 126 => ⟨S8x8x256x512, .f32⟩
  | 127 => ⟨S1x8x8x128x512, .f32⟩
  | _ => ⟨S17408x16384, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S34x8x8x128x512, .f32⟩
  | 5 => ⟨S_, .i32⟩
  | 6 => ⟨S_, .i32⟩
  | 7 => ⟨S8x8x34x128x512, .f32⟩
  | 8 => ⟨S8x8x4352x512, .f32⟩
  | 9 => ⟨S4x8x4352x512, .f32⟩
  | 10 => ⟨S4x8x4352x512, .f32⟩
  | 11 => ⟨S4x8x256x512, .f32⟩
  | 12 => ⟨S4x8x256x512, .f32⟩
  | 13 => ⟨S4x8x4096x512, .f32⟩
  | 14 => ⟨S4x8x4096x512, .f32⟩
  | 15 => ⟨S4x8x4352x512, .f32⟩
  | 16 => ⟨S1x4x8x4352x512, .f32⟩
  | 17 => ⟨S1x4x8x4352x512, .f32⟩
  | 18 => ⟨S2x4x8x4352x512, .f32⟩
  | 19 => ⟨S2x4x4352x8x512, .f32⟩
  | 20 => ⟨S2x17408x4096, .f32⟩
  | _ => ⟨S17408x16384, .f32⟩

abbrev hbmTy (i : Nat) : BufTy := match i / 128 with
  | 0 => hbmTy0_0 i
  | 1 => hbmTy0_1 i
  | 2 => hbmTy0_2 i
  | _ => ⟨S17408x16384, .f32⟩

abbrev bufTy : (tb : Table) → Fin (tcTables nBuf tb) → BufTy
  | .hbm, ⟨i, _⟩ => hbmTy i
  | _, _ => ⟨S17408x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_cst : Ref sig .tc := ⟨.hbm, 23, rfl⟩
abbrev main_call0_v3 : Ref sig .tc := ⟨.hbm, 24, rfl⟩
abbrev main_call0_v4 : Ref sig .tc := ⟨.hbm, 25, rfl⟩
abbrev main_call0_cst_0 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_v14 : Ref sig .tc := ⟨.hbm, 40, rfl⟩
abbrev main_cst_4 : Ref sig .tc := ⟨.hbm, 41, rfl⟩
abbrev main_v15 : Ref sig .tc := ⟨.hbm, 42, rfl⟩
abbrev main_v16 : Ref sig .tc := ⟨.hbm, 43, rfl⟩
abbrev main_cst_5 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_cst_7 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_cst : Ref sig .tc := ⟨.hbm, 76, rfl⟩
abbrev main_call1_v3 : Ref sig .tc := ⟨.hbm, 77, rfl⟩
abbrev main_call1_v4 : Ref sig .tc := ⟨.hbm, 78, rfl⟩
abbrev main_call1_cst_0 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_cst_1 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_v12 : Ref sig .tc := ⟨.hbm, 88, rfl⟩
abbrev main_call1_v13 : Ref sig .tc := ⟨.hbm, 89, rfl⟩
abbrev main_call1_v14 : Ref sig .tc := ⟨.hbm, 90, rfl⟩
abbrev main_call1_v15 : Ref sig .tc := ⟨.hbm, 91, rfl⟩
abbrev main_call1_v16 : Ref sig .tc := ⟨.hbm, 92, rfl⟩
abbrev main_v43 : Ref sig .tc := ⟨.hbm, 93, rfl⟩
abbrev main_cst_8 : Ref sig .tc := ⟨.hbm, 94, rfl⟩
abbrev main_v44 : Ref sig .tc := ⟨.hbm, 95, rfl⟩
abbrev main_v45 : Ref sig .tc := ⟨.hbm, 96, rfl⟩
abbrev main_cst_9 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_cst_10 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_11 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_cst_12 : Ref sig .tc := ⟨.hbm, 156, rfl⟩
abbrev main_v102 : Ref sig .tc := ⟨.hbm, 157, rfl⟩
abbrev main_v103 : Ref sig .tc := ⟨.hbm, 158, rfl⟩
abbrev main_cst_13 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_cst_14 : Ref sig .tc := ⟨.hbm, 168, rfl⟩
abbrev main_call2_v0 : Ref sig .tc := ⟨.hbm, 169, rfl⟩
abbrev main_call2_v1 : Ref sig .tc := ⟨.hbm, 170, rfl⟩
abbrev main_call2_v2 : Ref sig .tc := ⟨.hbm, 171, rfl⟩
abbrev main_v112 : Ref sig .tc := ⟨.hbm, 172, rfl⟩
abbrev main_cst_15 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_cst_16 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_cst_17 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_cst_18 : Ref sig .tc := ⟨.hbm, 204, rfl⟩
abbrev main_v141 : Ref sig .tc := ⟨.hbm, 205, rfl⟩
abbrev main_c : Ref sig .tc := ⟨.hbm, 206, rfl⟩
abbrev main_v142_0 : Ref sig .tc := ⟨.hbm, 207, rfl⟩
abbrev main_v142_1 : Ref sig .tc := ⟨.hbm, 208, rfl⟩
abbrev main_v142_2 : Ref sig .tc := ⟨.hbm, 209, rfl⟩
abbrev main_v142_3 : Ref sig .tc := ⟨.hbm, 210, rfl⟩
abbrev main_v142_4 : Ref sig .tc := ⟨.hbm, 211, rfl⟩
abbrev main_v142_5 : Ref sig .tc := ⟨.hbm, 212, rfl⟩
abbrev main_v142_6 : Ref sig .tc := ⟨.hbm, 213, rfl⟩
abbrev main_v142_7 : Ref sig .tc := ⟨.hbm, 214, rfl⟩
abbrev main_v142_8 : Ref sig .tc := ⟨.hbm, 215, rfl⟩
abbrev main_v142_9 : Ref sig .tc := ⟨.hbm, 216, rfl⟩
abbrev main_while0c_c_28 : Ref sig .tc := ⟨.hbm, 217, rfl⟩
abbrev main_while0c_v157 : Ref sig .tc := ⟨.hbm, 218, rfl⟩
abbrev main_while0b_call3_c : Ref sig .tc := ⟨.hbm, 219, rfl⟩
abbrev main_while0b_call3_c_0 : Ref sig .tc := ⟨.hbm, 220, rfl⟩
abbrev main_while0b_call3_c_1 : Ref sig .tc := ⟨.hbm, 221, rfl⟩
abbrev main_while0b_call3_c_2 : Ref sig .tc := ⟨.hbm, 222, rfl⟩
abbrev main_while0b_call3_v0 : Ref sig .tc := ⟨.hbm, 223, rfl⟩
abbrev main_while0b_v157 : Ref sig .tc := ⟨.hbm, 224, rfl⟩
abbrev main_while0b_call4_c : Ref sig .tc := ⟨.hbm, 225, rfl⟩
abbrev main_while0b_call4_c_0 : Ref sig .tc := ⟨.hbm, 226, rfl⟩
abbrev main_while0b_call4_c_1 : Ref sig .tc := ⟨.hbm, 227, rfl⟩
abbrev main_while0b_call4_c_2 : Ref sig .tc := ⟨.hbm, 228, rfl⟩
abbrev main_while0b_call4_v0 : Ref sig .tc := ⟨.hbm, 229, rfl⟩
abbrev main_while0b_v158 : Ref sig .tc := ⟨.hbm, 230, rfl⟩
abbrev main_while0b_call5_c : Ref sig .tc := ⟨.hbm, 231, rfl⟩
abbrev main_while0b_call5_c_0 : Ref sig .tc := ⟨.hbm, 232, rfl⟩
abbrev main_while0b_call5_c_1 : Ref sig .tc := ⟨.hbm, 233, rfl⟩
abbrev main_while0b_call5_c_2 : Ref sig .tc := ⟨.hbm, 234, rfl⟩
abbrev main_while0b_call5_v0 : Ref sig .tc := ⟨.hbm, 235, rfl⟩
abbrev main_while0b_v159 : Ref sig .tc := ⟨.hbm, 236, rfl⟩
abbrev main_while0b_v160 : Ref sig .tc := ⟨.hbm, 237, rfl⟩
abbrev main_while0b_v161 : Ref sig .tc := ⟨.hbm, 238, rfl⟩
abbrev main_while0b_v162 : Ref sig .tc := ⟨.hbm, 239, rfl⟩
abbrev main_while0b_v163 : Ref sig .tc := ⟨.hbm, 240, rfl⟩
abbrev main_while0b_v164 : Ref sig .tc := ⟨.hbm, 241, rfl⟩
abbrev main_while0b_v165 : Ref sig .tc := ⟨.hbm, 242, rfl⟩
abbrev main_while0b_v166 : Ref sig .tc := ⟨.hbm, 243, rfl⟩
abbrev main_while0b_v167 : Ref sig .tc := ⟨.hbm, 244, rfl⟩
abbrev main_while0b_v168 : Ref sig .tc := ⟨.hbm, 245, rfl⟩
abbrev main_while0b_v169 : Ref sig .tc := ⟨.hbm, 246, rfl⟩
abbrev main_while0b_v170 : Ref sig .tc := ⟨.hbm, 247, rfl⟩
abbrev main_while0b_v171 : Ref sig .tc := ⟨.hbm, 248, rfl⟩
abbrev main_while0b_v172 : Ref sig .tc := ⟨.hbm, 249, rfl⟩
abbrev main_while0b_v173 : Ref sig .tc := ⟨.hbm, 250, rfl⟩
abbrev main_while0b_v174 : Ref sig .tc := ⟨.hbm, 251, rfl⟩
abbrev main_while0b_v175 : Ref sig .tc := ⟨.hbm, 252, rfl⟩
abbrev main_while0b_v176 : Ref sig .tc := ⟨.hbm, 253, rfl⟩
abbrev main_while0b_v177 : Ref sig .tc := ⟨.hbm, 254, rfl⟩
abbrev main_while0b_call6_v0 : Ref sig .tc := ⟨.hbm, 255, rfl⟩
abbrev main_while0b_call6_c : Ref sig .tc := ⟨.hbm, 256, rfl⟩
abbrev main_while0b_call6_c_0 : Ref sig .tc := ⟨.hbm, 257, rfl⟩
abbrev main_while0b_call6_c_1 : Ref sig .tc := ⟨.hbm, 258, rfl⟩
abbrev main_while0b_call6_c_2 : Ref sig .tc := ⟨.hbm, 259, rfl⟩
abbrev main_while0b_v178 : Ref sig .tc := ⟨.hbm, 260, rfl⟩
abbrev main_while0b_c_28 : Ref sig .tc := ⟨.hbm, 261, rfl⟩
abbrev main_while0b_v179 : Ref sig .tc := ⟨.hbm, 262, rfl⟩
abbrev main_v143 : Ref sig .tc := ⟨.hbm, 263, rfl⟩
abbrev main_v144 : Ref sig .tc := ⟨.hbm, 264, rfl⟩
abbrev main_v145 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩
abbrev main_v149 : Ref sig .tc := ⟨.hbm, 269, rfl⟩
abbrev main_v150 : Ref sig .tc := ⟨.hbm, 270, rfl⟩
abbrev main_v151 : Ref sig .tc := ⟨.hbm, 271, rfl⟩
abbrev main_v152 : Ref sig .tc := ⟨.hbm, 272, rfl⟩
abbrev main_v153 : Ref sig .tc := ⟨.hbm, 273, rfl⟩
abbrev main_v154 : Ref sig .tc := ⟨.hbm, 274, rfl⟩
abbrev main_v155 : Ref sig .tc := ⟨.hbm, 275, rfl⟩
abbrev main_v156 : Ref sig .tc := ⟨.hbm, 276, rfl⟩

abbrev nD : Nat := 1
abbrev τ : Topo := Topo.v7x

variable {F : FTy → Type} [FloatOps F]

abbrev main_while0_count : Scf.Loop 32 := ⟨0#32, 34#32, 1#32⟩
-- ==== KernelIn.lean ====
abbrev S17408x2048 : Shape := ⟨2, ![17408, 2048]⟩
abbrev S2048x16384 : Shape := ⟨2, ![2048, 16384]⟩
abbrev S17408x16384 : Shape := ⟨2, ![17408, 16384]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S17408x2048, .bf16⟩
  | .hbm, ⟨1, _⟩ => ⟨S2048x16384, .f32⟩
  | .hbm, ⟨2, _⟩ => ⟨S2048x16384, .bf16⟩
  | .hbm, ⟨3, _⟩ => ⟨S17408x16384, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![34, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelInIdeal.lean ====
abbrev S17408x2048 : Shape := ⟨2, ![17408, 2048]⟩
abbrev S2048x16384 : Shape := ⟨2, ![2048, 16384]⟩
abbrev S17408x16384 : Shape := ⟨2, ![17408, 16384]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S17408x2048, .bf16⟩
  | .hbm, ⟨1, _⟩ => ⟨S2048x16384, .f32⟩
  | .hbm, ⟨2, _⟩ => ⟨S2048x16384, .bf16⟩
  | .hbm, ⟨3, _⟩ => ⟨S17408x16384, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![34, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInIdeal.lean ====
abbrev S17408x2048 : Shape := ⟨2, ![17408, 2048]⟩
abbrev S2048x16384 : Shape := ⟨2, ![2048, 16384]⟩
abbrev S17408x16384 : Shape := ⟨2, ![17408, 16384]⟩

abbrev nBuf : Space → Nat
  | .hbm => 4
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x16384, .f32⟩
  | .hbm, ⟨2, _⟩ => ⟨S17408x2048, .f32⟩
  | .hbm, ⟨3, _⟩ => ⟨S17408x16384, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelMerge.lean ====
abbrev S2x17408x4096 : Shape := ⟨3, ![2, 17408, 4096]⟩
abbrev S17408x16384 : Shape := ⟨2, ![17408, 16384]⟩
abbrev S17408x4096 : Shape := ⟨2, ![17408, 4096]⟩
abbrev S2x256x512 : Shape := ⟨3, ![2, 256, 512]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩

abbrev nBuf : Space → Nat
  | .hbm => 3
  | .vmem => 8
  | .smem => 0
  | _ => 0

abbrev bufTy : (tb : Table) → Fin (tcTables nBuf tb) → BufTy
  | .hbm, ⟨0, _⟩ => ⟨S2x17408x4096, .f32⟩
  | .hbm, ⟨1, _⟩ => ⟨S17408x16384, .f32⟩
  | .hbm, ⟨2, _⟩ => ⟨S17408x4096, .bf16⟩
  | .local _ .vmem, ⟨0, _⟩ => ⟨S2x256x512, .f32⟩
  | .local _ .vmem, ⟨1, _⟩ => ⟨S2x256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | _, _ => ⟨S2x17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![68, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceMergeIdeal.lean ====
abbrev S2x17408x4096 : Shape := ⟨3, ![2, 17408, 4096]⟩
abbrev S17408x16384 : Shape := ⟨2, ![17408, 16384]⟩
abbrev S2x17408x8x512 : Shape := ⟨4, ![2, 17408, 8, 512]⟩
abbrev S1x17408x8x512 : Shape := ⟨4, ![1, 17408, 8, 512]⟩
abbrev S17408x8x512 : Shape := ⟨3, ![17408, 8, 512]⟩
abbrev S17408x4096 : Shape := ⟨2, ![17408, 4096]⟩
abbrev S_ : Shape := ⟨0, ![]⟩
abbrev S17408x8 : Shape := ⟨2, ![17408, 8]⟩
abbrev S17408x8x1 : Shape := ⟨3, ![17408, 8, 1]⟩

abbrev nBuf : Space → Nat
  | .hbm => 79
  | .vmem => 0
  | .smem => 0
  | _ => 0

abbrev bufTy : (tb : Table) → Fin (tcTables nBuf tb) → BufTy
  | .hbm, ⟨0, _⟩ => ⟨S2x17408x4096, .f32⟩
  | .hbm, ⟨1, _⟩ => ⟨S17408x16384, .f32⟩
  | .hbm, ⟨2, _⟩ => ⟨S2x17408x8x512, .f32⟩
  | .hbm, ⟨3, _⟩ => ⟨S1x17408x8x512, .f32⟩
  | .hbm, ⟨4, _⟩ => ⟨S17408x8x512, .f32⟩
  | .hbm, ⟨5, _⟩ => ⟨S1x17408x8x512, .f32⟩
  | .hbm, ⟨6, _⟩ => ⟨S17408x8x512, .f32⟩
  | .hbm, ⟨7, _⟩ => ⟨S17408x4096, .f32⟩
  | .hbm, ⟨8, _⟩ => ⟨S17408x4096, .f32⟩
  | .hbm, ⟨9, _⟩ => ⟨S_, .f32⟩
  | .hbm, ⟨10, _⟩ => ⟨S17408x8, .f32⟩
  | .hbm, ⟨11, _⟩ => ⟨S17408x8x1, .f32⟩
  | .hbm, ⟨12, _⟩ => ⟨S_, .f32⟩
  | .hbm, ⟨13, _⟩ => ⟨S17408x8x1, .f32⟩
  | .hbm, ⟨14, _⟩ => ⟨S17408x8x1, .f32⟩
  | .hbm, ⟨15, _⟩ => ⟨S17408x8x512, .f32⟩
  | .hbm, ⟨16, _⟩ => ⟨S17408x8x512, .f32⟩
  | .hbm, ⟨17, _⟩ => ⟨S17408x8x512, .f32⟩
  | .hbm, ⟨18, _⟩ => ⟨S_, .f32⟩
  | .hbm, ⟨19, _⟩ => ⟨S17408x8, .f32⟩
  | .hbm, ⟨20, _⟩ => ⟨S17408x8x1, .f32⟩
  | .hbm, ⟨21, _⟩ => ⟨S_, .f32⟩
  | .hbm, ⟨22, _⟩ => ⟨S17408x8x1, .f32⟩
  | .hbm, ⟨23, _⟩ => ⟨S17408x8x1, .f32⟩
  | .hbm, ⟨24, _⟩ => ⟨S17408x8x512, .f32⟩
  | .hbm, ⟨25, _⟩ => ⟨S17408x8x512, .f32⟩
  | .hbm, ⟨26, _⟩ => ⟨S_, .f32⟩
  | .hbm, ⟨27, _⟩ => ⟨S17408x8x1, .f32⟩
  | .hbm, ⟨28, _⟩ => ⟨S17408x8x1, .f32⟩
  | .hbm, ⟨29, _⟩ => ⟨S17408x8x1, .f32⟩
  | .hbm, ⟨30, _⟩ => ⟨S17408x8x512, .f32⟩
  | .hbm, ⟨31, _⟩ => ⟨S17408x8x512, .f32⟩
  | .hbm, ⟨32, _⟩ => ⟨S17408x4096, .f32⟩
  | .hbm, ⟨33, _⟩ => ⟨S_, .f32⟩
  | .hbm, ⟨34, _⟩ => ⟨S17408x8, .f32⟩
  | .hbm, ⟨35, _⟩ => ⟨S17408x8x1, .f32⟩
  | .hbm, ⟨36, _⟩ => ⟨S_, .f32⟩
  | .hbm, ⟨37, _⟩ => ⟨S17408x8x1, .f32⟩
  | .hbm, ⟨38, _⟩ => ⟨S17408x8x1, .f32⟩
  | .hbm, ⟨39, _⟩ => ⟨S17408x8x512, .f32⟩
  | .hbm, ⟨40, _⟩ => ⟨S17408x8x512, .f32⟩
  | .hbm, ⟨41, _⟩ => ⟨S17408x8x512, .f32⟩
  | .hbm, ⟨42, _⟩ => ⟨S_, .f32⟩
  | .hbm, ⟨43, _⟩ => ⟨S17408x8, .f32⟩
  | .hbm, ⟨44, _⟩ => ⟨S17408x8x1, .f32⟩
  | .hbm, ⟨45, _⟩ => ⟨S_, .f32⟩
  | .hbm, ⟨46, _⟩ => ⟨S17408x8x1, .f32⟩
  | .hbm, ⟨47, _⟩ => ⟨S17408x8x1, .f32⟩
  | .hbm, ⟨48, _⟩ => ⟨S17408x8x512, .f32⟩
  | .hbm, ⟨49, _⟩ => ⟨S17408x8x512, .f32⟩
  | .hbm, ⟨50, _⟩ => ⟨S_, .f32⟩
  | .hbm, ⟨51, _⟩ => ⟨S17408x8x1, .f32⟩
  | .hbm, ⟨52, _⟩ => ⟨S17408x8x1, .f32⟩
  | .hbm, ⟨53, _⟩ => ⟨S17408x8x1, .f32⟩
  | .hbm, ⟨54, _⟩ => ⟨S17408x8x512, .f32⟩
  | .hbm, ⟨55, _⟩ => ⟨S17408x8x512, .f32⟩
  | .hbm, ⟨56, _⟩ => ⟨S17408x4096, .f32⟩
  | .hbm, ⟨57, _⟩ => ⟨S17408x4096, .f32⟩
  | .hbm, ⟨58, _⟩ => ⟨S17408x4096, .f32⟩
  | .hbm, ⟨59, _⟩ => ⟨S_, .f32⟩
  | .hbm, ⟨60, _⟩ => ⟨S17408x4096, .f32⟩
  | .hbm, ⟨61, _⟩ => ⟨S17408x4096, .f32⟩
  | .hbm, ⟨62, _⟩ => ⟨S_, .f32⟩
  | .hbm, ⟨63, _⟩ => ⟨S17408x4096, .f32⟩
  | .hbm, ⟨64, _⟩ => ⟨S17408x4096, .f32⟩
  | .hbm, ⟨65, _⟩ => ⟨S17408x4096, .f32⟩
  | .hbm, ⟨66, _⟩ => ⟨S17408x4096, .f32⟩
  | .hbm, ⟨67, _⟩ => ⟨S17408x4096, .f32⟩
  | .hbm, ⟨68, _⟩ => ⟨S17408x4096, .f32⟩
  | .hbm, ⟨69, _⟩ => ⟨S_, .f32⟩
  | .hbm, ⟨70, _⟩ => ⟨S17408x4096, .f32⟩
  | .hbm, ⟨71, _⟩ => ⟨S17408x4096, .f32⟩
  | .hbm, ⟨72, _⟩ => ⟨S_, .f32⟩
  | .hbm, ⟨73, _⟩ => ⟨S17408x4096, .f32⟩
  | .hbm, ⟨74, _⟩ => ⟨S17408x4096, .f32⟩
  | .hbm, ⟨75, _⟩ => ⟨S17408x4096, .f32⟩
  | .hbm, ⟨76, _⟩ => ⟨S17408x4096, .f32⟩
  | .hbm, ⟨77, _⟩ => ⟨S17408x4096, .f32⟩
  | .hbm, ⟨78, _⟩ => ⟨S17408x4096, .bf16⟩
  | _, _ => ⟨S2x17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v45 : Ref sig .tc := ⟨.hbm, 65, rfl⟩
abbrev main_v46 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== KernelOut.lean ====
abbrev S17408x4096 : Shape := ⟨2, ![17408, 4096]⟩
abbrev S4096x2048 : Shape := ⟨2, ![4096, 2048]⟩
abbrev S17408x2048 : Shape := ⟨2, ![17408, 2048]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S17408x4096, .bf16⟩
  | .hbm, ⟨1, _⟩ => ⟨S4096x2048, .f32⟩
  | .hbm, ⟨2, _⟩ => ⟨S4096x2048, .bf16⟩
  | .hbm, ⟨3, _⟩ => ⟨S17408x2048, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![34, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelOutIdeal.lean ====
abbrev S17408x4096 : Shape := ⟨2, ![17408, 4096]⟩
abbrev S4096x2048 : Shape := ⟨2, ![4096, 2048]⟩
abbrev S17408x2048 : Shape := ⟨2, ![17408, 2048]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S17408x4096, .bf16⟩
  | .hbm, ⟨1, _⟩ => ⟨S4096x2048, .f32⟩
  | .hbm, ⟨2, _⟩ => ⟨S4096x2048, .bf16⟩
  | .hbm, ⟨3, _⟩ => ⟨S17408x2048, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![34, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOutIdeal.lean ====
abbrev S17408x4096 : Shape := ⟨2, ![17408, 4096]⟩
abbrev S4096x2048 : Shape := ⟨2, ![4096, 2048]⟩
abbrev S17408x2048 : Shape := ⟨2, ![17408, 2048]⟩

abbrev nBuf : Space → Nat
  | .hbm => 4
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S4096x2048, .f32⟩
  | .hbm, ⟨2, _⟩ => ⟨S17408x4096, .f32⟩
  | .hbm, ⟨3, _⟩ => ⟨S17408x2048, .f32⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelRgIn.lean ====
abbrev S17408x2048 : Shape := ⟨2, ![17408, 2048]⟩
abbrev S2048x4096 : Shape := ⟨2, ![2048, 4096]⟩
abbrev S17408x4096 : Shape := ⟨2, ![17408, 4096]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S17408x2048, .bf16⟩
  | .hbm, ⟨1, _⟩ => ⟨S2048x4096, .f32⟩
  | .hbm, ⟨2, _⟩ => ⟨S2048x4096, .bf16⟩
  | .hbm, ⟨3, _⟩ => ⟨S17408x4096, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![34, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelRgInIdeal.lean ====
abbrev S17408x2048 : Shape := ⟨2, ![17408, 2048]⟩
abbrev S2048x4096 : Shape := ⟨2, ![2048, 4096]⟩
abbrev S17408x4096 : Shape := ⟨2, ![17408, 4096]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S17408x2048, .bf16⟩
  | .hbm, ⟨1, _⟩ => ⟨S2048x4096, .f32⟩
  | .hbm, ⟨2, _⟩ => ⟨S2048x4096, .bf16⟩
  | .hbm, ⟨3, _⟩ => ⟨S17408x4096, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![34, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceRgInIdeal.lean ====
abbrev S17408x2048 : Shape := ⟨2, ![17408, 2048]⟩
abbrev S2048x4096 : Shape := ⟨2, ![2048, 4096]⟩
abbrev S17408x4096 : Shape := ⟨2, ![17408, 4096]⟩

abbrev nBuf : Space → Nat
  | .hbm => 4
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x4096, .f32⟩
  | .hbm, ⟨2, _⟩ => ⟨S17408x2048, .f32⟩
  | .hbm, ⟨3, _⟩ => ⟨S17408x4096, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelRgOut.lean ====
abbrev S17408x4096 : Shape := ⟨2, ![17408, 4096]⟩
abbrev S2x17408x2048 : Shape := ⟨3, ![2, 17408, 2048]⟩
abbrev S2048x2048 : Shape := ⟨2, ![2048, 2048]⟩
abbrev S17408x2048 : Shape := ⟨2, ![17408, 2048]⟩
abbrev S256x2048 : Shape := ⟨2, ![256, 2048]⟩
abbrev S2x256x2048 : Shape := ⟨3, ![2, 256, 2048]⟩
abbrev S1x256x2048 : Shape := ⟨3, ![1, 256, 2048]⟩

abbrev nBuf : Space → Nat
  | .hbm => 5
  | .vmem => 7
  | .smem => 0
  | _ => 0

abbrev bufTy : (tb : Table) → Fin (tcTables nBuf tb) → BufTy
  | .hbm, ⟨0, _⟩ => ⟨S17408x4096, .f32⟩
  | .hbm, ⟨1, _⟩ => ⟨S2x17408x2048, .f32⟩
  | .hbm, ⟨2, _⟩ => ⟨S2048x2048, .f32⟩
  | .hbm, ⟨3, _⟩ => ⟨S2048x2048, .bf16⟩
  | .hbm, ⟨4, _⟩ => ⟨S17408x2048, .f32⟩
  | .local _ .vmem, ⟨0, _⟩ => ⟨S256x2048, .f32⟩
  | .local _ .vmem, ⟨1, _⟩ => ⟨S256x2048, .f32⟩
  | .local _ .vmem, ⟨2, _⟩ => ⟨S2x256x2048, .f32⟩
  | .local _ .vmem, ⟨3, _⟩ => ⟨S2x256x2048, .f32⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceRgOutIdeal.lean ====
abbrev S17408x4096 : Shape := ⟨2, ![17408, 4096]⟩
abbrev S2x17408x2048 : Shape := ⟨3, ![2, 17408, 2048]⟩
abbrev S2048x2048 : Shape := ⟨2, ![2048, 2048]⟩
abbrev S17408x2048 : Shape := ⟨2, ![17408, 2048]⟩
abbrev S_ : Shape := ⟨0, ![]⟩
abbrev S1x17408x2048 : Shape := ⟨3, ![1, 17408, 2048]⟩

abbrev nBuf : Space → Nat
  | .hbm => 28
  | .vmem => 0
  | .smem => 0
  | _ => 0

abbrev bufTy : (tb : Table) → Fin (tcTables nBuf tb) → BufTy
  | .hbm, ⟨0, _⟩ => ⟨S17408x4096, .f32⟩
  | .hbm, ⟨1, _⟩ => ⟨S2x17408x2048, .f32⟩
  | .hbm, ⟨2, _⟩ => ⟨S2048x2048, .f32⟩
  | .hbm, ⟨3, _⟩ => ⟨S17408x2048, .f32⟩
  | .hbm, ⟨4, _⟩ => ⟨S17408x2048, .f32⟩
  | .hbm, ⟨5, _⟩ => ⟨S17408x2048, .f32⟩
  | .hbm, ⟨6, _⟩ => ⟨S_, .f32⟩
  | .hbm, ⟨7, _⟩ => ⟨S17408x2048, .f32⟩
  | .hbm, ⟨8, _⟩ => ⟨S17408x2048, .f32⟩
  | .hbm, ⟨9, _⟩ => ⟨S17408x2048, .f32⟩
  | .hbm, ⟨10, _⟩ => ⟨S_, .f32⟩
  | .hbm, ⟨11, _⟩ => ⟨S17408x2048, .f32⟩
  | .hbm, ⟨12, _⟩ => ⟨S17408x2048, .f32⟩
  | .hbm, ⟨13, _⟩ => ⟨S17408x2048, .f32⟩
  | .hbm, ⟨14, _⟩ => ⟨S_, .f32⟩
  | .hbm, ⟨15, _⟩ => ⟨S17408x2048, .f32⟩
  | .hbm, ⟨16, _⟩ => ⟨S17408x2048, .f32⟩
  | .hbm, ⟨17, _⟩ => ⟨S_, .f32⟩
  | .hbm, ⟨18, _⟩ => ⟨S17408x2048, .f32⟩
  | .hbm, ⟨19, _⟩ => ⟨S17408x2048, .f32⟩
  | .hbm, ⟨20, _⟩ => ⟨S17408x2048, .f32⟩
  | .hbm, ⟨21, _⟩ => ⟨S1x17408x2048, .f32⟩
  | .hbm, ⟨22, _⟩ => ⟨S17408x2048, .f32⟩
  | .hbm, ⟨23, _⟩ => ⟨S1x17408x2048, .f32⟩
  | .hbm, ⟨24, _⟩ => ⟨S17408x2048, .f32⟩
  | .hbm, ⟨25, _⟩ => ⟨S17408x2048, .f32⟩
  | .hbm, ⟨26, _⟩ => ⟨S17408x2048, .f32⟩
  | .hbm, ⟨27, _⟩ => ⟨S17408x2048, .f32⟩
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== KernelSquare.lean ====
abbrev S17408x2048 : Shape := ⟨2, ![17408, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S17408x2048, .bf16⟩
  | .hbm, ⟨1, _⟩ => ⟨S2048x2048, .f32⟩
  | .hbm, ⟨2, _⟩ => ⟨S2048x2048, .bf16⟩
  | .hbm, ⟨3, _⟩ => ⟨S17408x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![34, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelSquareIdeal.lean ====
abbrev S17408x2048 : Shape := ⟨2, ![17408, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S17408x2048, .bf16⟩
  | .hbm, ⟨1, _⟩ => ⟨S2048x2048, .f32⟩
  | .hbm, ⟨2, _⟩ => ⟨S2048x2048, .bf16⟩
  | .hbm, ⟨3, _⟩ => ⟨S17408x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![34, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceSquareIdeal.lean ====
abbrev S17408x2048 : Shape := ⟨2, ![17408, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x2048, .f32⟩
  | .hbm, ⟨2, _⟩ => ⟨S17408x2048, .f32⟩
  | .hbm, ⟨3, _⟩ => ⟨S17408x2048, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelQuery.lean ====
abbrev S17408x2048 : Shape := ⟨2, ![17408, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S17408x2048, .bf16⟩
  | .hbm, ⟨1, _⟩ => ⟨S2048x2048, .f32⟩
  | .hbm, ⟨2, _⟩ => ⟨S2048x2048, .bf16⟩
  | .hbm, ⟨3, _⟩ => ⟨S17408x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![34, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQueryIdeal.lean ====
abbrev S17408x2048 : Shape := ⟨2, ![17408, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x2048, .f32⟩
  | .hbm, ⟨2, _⟩ => ⟨S17408x2048, .f32⟩
  | .hbm, ⟨3, _⟩ => ⟨S17408x2048, .f32⟩
  | .hbm, ⟨4, _⟩ => ⟨S17408x2048, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelNorm.lean ====
abbrev S17408x2048 : Shape := ⟨2, ![17408, 2048]⟩
abbrev S6x2048 : Shape := ⟨2, ![6, 2048]⟩
abbrev S4x6x2048 : Shape := ⟨3, ![4, 6, 2048]⟩
abbrev S2048 : Shape := ⟨1, ![2048]⟩
abbrev S4x1x6x2048 : Shape := ⟨4, ![4, 1, 6, 2048]⟩
abbrev S4x2x6x2048 : Shape := ⟨4, ![4, 2, 6, 2048]⟩
abbrev S1x2048 : Shape := ⟨2, ![1, 2048]⟩
abbrev S256x2048 : Shape := ⟨2, ![256, 2048]⟩
abbrev S1x1x6x2048 : Shape := ⟨4, ![1, 1, 6, 2048]⟩
abbrev S1x1x1x2048 : Shape := ⟨4, ![1, 1, 1, 2048]⟩
abbrev S256 : Shape := ⟨1, ![256]⟩
abbrev S256x1 : Shape := ⟨2, ![256, 1]⟩

abbrev nBuf : Space → Nat
  | .hbm => 20
  | .vmem => 14
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S6x2048, .f32⟩
  | .hbm, ⟨3, _⟩ => ⟨S4x6x2048, .f32⟩
  | .hbm, ⟨4, _⟩ => ⟨S6x2048, .f32⟩
  | .hbm, ⟨5, _⟩ => ⟨S4x6x2048, .f32⟩
  | .hbm, ⟨6, _⟩ => ⟨S2048, .f32⟩
  | .hbm, ⟨7, _⟩ => ⟨S2048, .f32⟩
  | .hbm, ⟨8, _⟩ => ⟨S4x6x2048, .f32⟩
  | .hbm, ⟨9, _⟩ => ⟨S4x1x6x2048, .f32⟩
  | .hbm, ⟨10, _⟩ => ⟨S4x1x6x2048, .f32⟩
  | .hbm, ⟨11, _⟩ => ⟨S4x2x6x2048, .f32⟩
  | .hbm, ⟨12, _⟩ => ⟨S4x6x2048, .f32⟩
  | .hbm, ⟨13, _⟩ => ⟨S4x1x6x2048, .f32⟩
  | .hbm, ⟨14, _⟩ => ⟨S4x1x6x2048, .f32⟩
  | .hbm, ⟨15, _⟩ => ⟨S4x2x6x2048, .f32⟩
  | .hbm, ⟨16, _⟩ => ⟨S1x2048, .f32⟩
  | .hbm, ⟨17, _⟩ => ⟨S1x2048, .f32⟩
  | .hbm, ⟨18, _⟩ => ⟨S17408x2048, .f32⟩
  | .hbm, ⟨19, _⟩ => ⟨S17408x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x6x2048, .f32⟩
  | .local _ .vmem, ⟨5, _⟩ => ⟨S1x1x6x2048, .f32⟩
  | .local _ .vmem, ⟨6, _⟩ => ⟨S1x1x6x2048, .f32⟩
  | .local _ .vmem, ⟨7, _⟩ => ⟨S1x1x6x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let c0_i32_5 : BitVec 32 := 0#32
  let v17 : BitVec 1 := Scalar.cmpi .eq c17_i32_4 c0_i32_5
  let c1_i32_6 : BitVec 32 := 1#32
  let v18 : BitVec 32 := Scalar.select v17 c1_i32_6 c17_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 1 := Scalar.cmpi .sge v26 c1_i32_10
  let c1_i32_11 : BitVec 32 := 1#32
  let c0_i32_12 : BitVec 32 := 0#32
  let v28 : BitVec 32 := Scalar.select v27 c1_i32_11 c0_i32_12
  let c0_i32_13 : BitVec 32 := 0#32
  let c0_i32_14 : BitVec 32 := 0#32
  let c0_i32_15 : BitVec 32 := 0#32
  ![v16.toNat, v28.toNat, c0_i32_13.toNat, c0_i32_14.toNat]

def cc0_transform_3 (i : grid0.Coords) : Fin 4 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let c0_i32_5 : BitVec 32 := 0#32
  let v17 : BitVec 1 := Scalar.cmpi .eq c17_i32_4 c0_i32_5
  let c1_i32_6 : BitVec 32 := 1#32
  let v18 : BitVec 32 := Scalar.select v17 c1_i32_6 c17_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 1 := Scalar.cmpi .sge v26 c1_i32_10
  let c1_i32_11 : BitVec 32 := 1#32
  let c0_i32_12 : BitVec 32 := 0#32
  let v28 : BitVec 32 := Scalar.select v27 c1_i32_11 c0_i32_12
  let c0_i32_13 : BitVec 32 := 0#32
  let c0_i32_14 : BitVec 32 := 0#32
  let c0_i32_15 : BitVec 32 := 0#32
  ![v16.toNat, v28.toNat, c0_i32_13.toNat, c0_i32_14.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceNormIdeal.lean ====
abbrev S17408x2048 : Shape := ⟨2, ![17408, 2048]⟩
abbrev S6x2048 : Shape := ⟨2, ![6, 2048]⟩
abbrev S4x6x2048 : Shape := ⟨3, ![4, 6, 2048]⟩
abbrev S2048 : Shape := ⟨1, ![2048]⟩
abbrev S4x4352x2048 : Shape := ⟨3, ![4, 4352, 2048]⟩
abbrev S4x256x2048 : Shape := ⟨3, ![4, 256, 2048]⟩
abbrev S_ : Shape := ⟨0, ![]⟩
abbrev S1x2048 : Shape := ⟨2, ![1, 2048]⟩
abbrev S1x1x2048 : Shape := ⟨3, ![1, 1, 2048]⟩
abbrev S4x256 : Shape := ⟨2, ![4, 256]⟩
abbrev S4x256x1 : Shape := ⟨3, ![4, 256, 1]⟩
abbrev S4x4096x2048 : Shape := ⟨3, ![4, 4096, 2048]⟩
abbrev S4x1x6x2048 : Shape := ⟨4, ![4, 1, 6, 2048]⟩
abbrev S4x1x12288 : Shape := ⟨3, ![4, 1, 12288]⟩
abbrev S4x1x2048 : Shape := ⟨3, ![4, 1, 2048]⟩
abbrev S4x4096 : Shape := ⟨2, ![4, 4096]⟩
abbrev S4x4096x1 : Shape := ⟨3, ![4, 4096, 1]⟩

abbrev nBuf : Space → Nat
  | .hbm => 127
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S6x2048, .f32⟩
  | .hbm, ⟨3, _⟩ => ⟨S4x6x2048, .f32⟩
  | .hbm, ⟨4, _⟩ => ⟨S6x2048, .f32⟩
  | .hbm, ⟨5, _⟩ => ⟨S4x6x2048, .f32⟩
  | .hbm, ⟨6, _⟩ => ⟨S2048, .f32⟩
  | .hbm, ⟨7, _⟩ => ⟨S2048, .f32⟩
  | .hbm, ⟨8, _⟩ => ⟨S4x4352x2048, .f32⟩
  | .hbm, ⟨9, _⟩ => ⟨S4x4352x2048, .f32⟩
  | .hbm, ⟨10, _⟩ => ⟨S4x256x2048, .f32⟩
  | .hbm, ⟨11, _⟩ => ⟨S4x256x2048, .f32⟩
  | .hbm, ⟨12, _⟩ => ⟨S_, .f32⟩
  | .hbm, ⟨13, _⟩ => ⟨S4x256x2048, .f32⟩
  | .hbm, ⟨14, _⟩ => ⟨S4x256x2048, .f32⟩
  | .hbm, ⟨15, _⟩ => ⟨S1x2048, .f32⟩
  | .hbm, ⟨16, _⟩ => ⟨S2048, .f32⟩
  | .hbm, ⟨17, _⟩ => ⟨S1x1x2048, .f32⟩
  | .hbm, ⟨18, _⟩ => ⟨S4x256x2048, .f32⟩
  | .hbm, ⟨19, _⟩ => ⟨S4x256x2048, .f32⟩
  | .hbm, ⟨20, _⟩ => ⟨S4x256x2048, .f32⟩
  | .hbm, ⟨21, _⟩ => ⟨S_, .f32⟩
  | .hbm, ⟨22, _⟩ => ⟨S4x256, .f32⟩
  | .hbm, ⟨23, _⟩ => ⟨S4x256x1, .f32⟩
  | .hbm, ⟨24, _⟩ => ⟨S_, .f32⟩
  | .hbm, ⟨25, _⟩ => ⟨S4x256x1, .f32⟩
  | .hbm, ⟨26, _⟩ => ⟨S4x256x1, .f32⟩
  | .hbm, ⟨27, _⟩ => ⟨S4x256x2048, .f32⟩
  | .hbm, ⟨28, _⟩ => ⟨S4x256x2048, .f32⟩
  | .hbm, ⟨29, _⟩ => ⟨S4x256x2048, .f32⟩
  | .hbm, ⟨30, _⟩ => ⟨S_, .f32⟩
  | .hbm, ⟨31, _⟩ => ⟨S4x256, .f32⟩
  | .hbm, ⟨32, _⟩ => ⟨S4x256x1, .f32⟩
  | .hbm, ⟨33, _⟩ => ⟨S_, .f32⟩
  | .hbm, ⟨34, _⟩ => ⟨S4x256x1, .f32⟩
  | .hbm, ⟨35, _⟩ => ⟨S4x256x1, .f32⟩
  | .hbm, ⟨36, _⟩ => ⟨S4x256x2048, .f32⟩
  | .hbm, ⟨37, _⟩ => ⟨S4x256x2048, .f32⟩
  | .hbm, ⟨38, _⟩ => ⟨S_, .f32⟩
  | .hbm, ⟨39, _⟩ => ⟨S4x256x1, .f32⟩
  | .hbm, ⟨40, _⟩ => ⟨S4x256x1, .f32⟩
  | .hbm, ⟨41, _⟩ => ⟨S4x256x1, .f32⟩
  | .hbm, ⟨42, _⟩ => ⟨S4x256x2048, .f32⟩
  | .hbm, ⟨43, _⟩ => ⟨S4x256x2048, .f32⟩
  | .hbm, ⟨44, _⟩ => ⟨S1x1x2048, .f32⟩
  | .hbm, ⟨45, _⟩ => ⟨S4x256x2048, .f32⟩
  | .hbm, ⟨46, _⟩ => ⟨S4x256x2048, .f32⟩
  | .hbm, ⟨47, _⟩ => ⟨S1x1x2048, .f32⟩
  | .hbm, ⟨48, _⟩ => ⟨S4x256x2048, .f32⟩
  | .hbm, ⟨49, _⟩ => ⟨S4x256x2048, .f32⟩
  | .hbm, ⟨50, _⟩ => ⟨S1x2048, .f32⟩
  | .hbm, ⟨51, _⟩ => ⟨S2048, .f32⟩
  | .hbm, ⟨52, _⟩ => ⟨S1x2048, .f32⟩
  | .hbm, ⟨53, _⟩ => ⟨S2048, .f32⟩
  | .hbm, ⟨54, _⟩ => ⟨S_, .f32⟩
  | .hbm, ⟨55, _⟩ => ⟨S2048, .f32⟩
  | .hbm, ⟨56, _⟩ => ⟨S2048, .f32⟩
  | .hbm, ⟨57, _⟩ => ⟨S1x1x2048, .f32⟩
  | .hbm, ⟨58, _⟩ => ⟨S4x256x2048, .f32⟩
  | .hbm, ⟨59, _⟩ => ⟨S4x256x2048, .f32⟩
  | .hbm, ⟨60, _⟩ => ⟨S1x1x2048, .f32⟩
  | .hbm, ⟨61, _⟩ => ⟨S4x256x2048, .f32⟩
  | .hbm, ⟨62, _⟩ => ⟨S4x256x2048, .f32⟩
  | .hbm, ⟨63, _⟩ => ⟨S4x4096x2048, .f32⟩
  | .hbm, ⟨64, _⟩ => ⟨S4x4096x2048, .f32⟩
  | .hbm, ⟨65, _⟩ => ⟨S4x1x6x2048, .f32⟩
  | .hbm, ⟨66, _⟩ => ⟨S4x1x12288, .f32⟩
  | .hbm, ⟨67, _⟩ => ⟨S4x1x2048, .f32⟩
  | .hbm, ⟨68, _⟩ => ⟨S4x1x2048, .f32⟩
  | .hbm, ⟨69, _⟩ => ⟨S4x1x2048, .f32⟩
  | .hbm, ⟨70, _⟩ => ⟨S4x1x2048, .f32⟩
  | .hbm, ⟨71, _⟩ => ⟨S4x1x2048, .f32⟩
  | .hbm, ⟨72, _⟩ => ⟨S4x1x2048, .f32⟩
  | .hbm, ⟨73, _⟩ => ⟨S4x1x6x2048, .f32⟩
  | .hbm, ⟨74, _⟩ => ⟨S4x1x12288, .f32⟩
  | .hbm, ⟨75, _⟩ => ⟨S4x1x2048, .f32⟩
  | .hbm, ⟨76, _⟩ => ⟨S4x1x2048, .f32⟩
  | .hbm, ⟨77, _⟩ => ⟨S4x1x2048, .f32⟩
  | .hbm, ⟨78, _⟩ => ⟨S4x1x2048, .f32⟩
  | .hbm, ⟨79, _⟩ => ⟨S4x1x2048, .f32⟩
  | .hbm, ⟨80, _⟩ => ⟨S4x1x2048, .f32⟩
  | .hbm, ⟨81, _⟩ => ⟨S_, .f32⟩
  | .hbm, ⟨82, _⟩ => ⟨S4x4096x2048, .f32⟩
  | .hbm, ⟨83, _⟩ => ⟨S4x4096x2048, .f32⟩
  | .hbm, ⟨84, _⟩ => ⟨S4x4096x2048, .f32⟩
  | .hbm, ⟨85, _⟩ => ⟨S4x4096x2048, .f32⟩
  | .hbm, ⟨86, _⟩ => ⟨S4x4096x2048, .f32⟩
  | .hbm, ⟨87, _⟩ => ⟨S_, .f32⟩
  | .hbm, ⟨88, _⟩ => ⟨S4x4096, .f32⟩
  | .hbm, ⟨89, _⟩ => ⟨S4x4096x1, .f32⟩
  | .hbm, ⟨90, _⟩ => ⟨S_, .f32⟩
  | .hbm, ⟨91, _⟩ => ⟨S4x4096x1, .f32⟩
  | .hbm, ⟨92, _⟩ => ⟨S4x4096x1, .f32⟩
  | .hbm, ⟨93, _⟩ => ⟨S4x4096x2048, .f32⟩
  | .hbm, ⟨94, _⟩ => ⟨S4x4096x2048, .f32⟩
  | .hbm, ⟨95, _⟩ => ⟨S4x4096x2048, .f32⟩
  | .hbm, ⟨96, _⟩ => ⟨S_, .f32⟩
  | .hbm, ⟨97, _⟩ => ⟨S4x4096, .f32⟩
  | .hbm, ⟨98, _⟩ => ⟨S4x4096x1, .f32⟩
  | .hbm, ⟨99, _⟩ => ⟨S_, .f32⟩
  | .hbm, ⟨100, _⟩ => ⟨S4x4096x1, .f32⟩
  | .hbm, ⟨101, _⟩ => ⟨S4x4096x1, .f32⟩
  | .hbm, ⟨102, _⟩ => ⟨S4x4096x2048, .f32⟩
  | .hbm, ⟨103, _⟩ => ⟨S4x4096x2048, .f32⟩
  | .hbm, ⟨104, _⟩ => ⟨S_, .f32⟩
  | .hbm, ⟨105, _⟩ => ⟨S4x4096x1, .f32⟩
  | .hbm, ⟨106, _⟩ => ⟨S4x4096x1, .f32⟩
  | .hbm, ⟨107, _⟩ => ⟨S4x4096x1, .f32⟩
  | .hbm, ⟨108, _⟩ => ⟨S4x4096x2048, .f32⟩
  | .hbm, ⟨109, _⟩ => ⟨S4x4096x2048, .f32⟩
  | .hbm, ⟨110, _⟩ => ⟨S1x1x2048, .f32⟩
  | .hbm, ⟨111, _⟩ => ⟨S4x4096x2048, .f32⟩
  | .hbm, ⟨112, _⟩ => ⟨S4x4096x2048, .f32⟩
  | .hbm, ⟨113, _⟩ => ⟨S1x1x2048, .f32⟩
  | .hbm, ⟨114, _⟩ => ⟨S4x4096x2048, .f32⟩
  | .hbm, ⟨115, _⟩ => ⟨S4x4096x2048, .f32⟩
  | .hbm, ⟨116, _⟩ => ⟨S_, .f32⟩
  | .hbm, ⟨117, _⟩ => ⟨S4x1x2048, .f32⟩
  | .hbm, ⟨118, _⟩ => ⟨S4x1x2048, .f32⟩
  | .hbm, ⟨119, _⟩ => ⟨S4x4096x2048, .f32⟩
  | .hbm, ⟨120, _⟩ => ⟨S4x4096x2048, .f32⟩
  | .hbm, ⟨121, _⟩ => ⟨S4x4096x2048, .f32⟩
  | .hbm, ⟨122, _⟩ => ⟨S4x4096x2048, .f32⟩
  | .hbm, ⟨123, _⟩ => ⟨S4x4352x2048, .f32⟩
  | .hbm, ⟨124, _⟩ => ⟨S17408x2048, .f32⟩
  | .hbm, ⟨125, _⟩ => ⟨S4x4352x2048, .f32⟩
  | .hbm, ⟨126, _⟩ => ⟨S17408x2048, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_6 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_7 : Ref sig .tc := ⟨.hbm, 87, rfl⟩
abbrev main_v71 : Ref sig .tc := ⟨.hbm, 88, rfl⟩
abbrev main_v72 : Ref sig .tc := ⟨.hbm, 89, rfl⟩
abbrev main_cst_8 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_9 : Ref sig .tc := ⟨.hbm, 96, rfl⟩
abbrev main_v78 : Ref sig .tc := ⟨.hbm, 97, rfl⟩
abbrev main_v79 : Ref sig .tc := ⟨.hbm, 98, rfl⟩
abbrev main_cst_10 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_11 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_12 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩

abbrev nD : Nat := 1
abbrev τ : Topo := Topo.v7x

variable {F : FTy → Type} [FloatOps F]
-- ==== KernelGateDown.lean ====
abbrev S17408x2048 : Shape := ⟨2, ![17408, 2048]⟩
abbrev S2048x256 : Shape := ⟨2, ![2048, 256]⟩
abbrev S17408x256 : Shape := ⟨2, ![17408, 256]⟩
abbrev S512x2048 : Shape := ⟨2, ![512, 2048]⟩
abbrev S512x256 : Shape := ⟨2, ![512, 256]⟩

abbrev nBuf : Space → Nat
  | .hbm => 4
  | .vmem => 5
  | .smem => 0
  | _ => 0

abbrev bufTy : (tb : Table) → Fin (tcTables nBuf tb) → BufTy
  | .hbm, ⟨0, _⟩ => ⟨S17408x2048, .bf16⟩
  | .hbm, ⟨1, _⟩ => ⟨S2048x256, .f32⟩
  | .hbm, ⟨2, _⟩ => ⟨S2048x256, .bf16⟩
  | .hbm, ⟨3, _⟩ => ⟨S17408x256, .bf16⟩
  | .local _ .vmem, ⟨0, _⟩ => ⟨S512x2048, .bf16⟩
  | .local _ .vmem, ⟨1, _⟩ => ⟨S512x2048, .bf16⟩
  | .local _ .vmem, ⟨2, _⟩ => ⟨S2048x256, .bf16⟩
  | .local _ .vmem, ⟨3, _⟩ => ⟨S512x256, .bf16⟩
  | .local _ .vmem, ⟨4, _⟩ => ⟨S512x256, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![34, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGateDownIdeal.lean ====
abbrev S17408x2048 : Shape := ⟨2, ![17408, 2048]⟩
abbrev S2048x256 : Shape := ⟨2, ![2048, 256]⟩
abbrev S17408x256 : Shape := ⟨2, ![17408, 256]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x256, .f32⟩
  | .hbm, ⟨2, _⟩ => ⟨S17408x2048, .f32⟩
  | .hbm, ⟨3, _⟩ => ⟨S17408x256, .f32⟩
  | .hbm, ⟨4, _⟩ => ⟨S17408x256, .f32⟩
  | .hbm, ⟨5, _⟩ => ⟨S17408x256, .f32⟩
  | .hbm, ⟨6, _⟩ => ⟨S_, .f32⟩
  | .hbm, ⟨7, _⟩ => ⟨S17408x256, .f32⟩
  | .hbm, ⟨8, _⟩ => ⟨S17408x256, .f32⟩
  | .hbm, ⟨9, _⟩ => ⟨S_, .f32⟩
  | .hbm, ⟨10, _⟩ => ⟨S17408x256, .f32⟩
  | .hbm, ⟨11, _⟩ => ⟨S17408x256, .f32⟩
  | .hbm, ⟨12, _⟩ => ⟨S17408x256, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KernelGateUp.lean ====
abbrev S17408x256 : Shape := ⟨2, ![17408, 256]⟩
abbrev S256x2048 : Shape := ⟨2, ![256, 2048]⟩
abbrev S17408x2048 : Shape := ⟨2, ![17408, 2048]⟩
abbrev S512x256 : Shape := ⟨2, ![512, 256]⟩
abbrev S256x512 : Shape := ⟨2, ![256, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S17408x256, .bf16⟩
  | .hbm, ⟨1, _⟩ => ⟨S256x2048, .f32⟩
  | .hbm, ⟨2, _⟩ => ⟨S256x2048, .bf16⟩
  | .hbm, ⟨3, _⟩ => ⟨S17408x2048, .f32⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S256x512, .bf16⟩
  | .local _ .vmem, ⟨4, _⟩ => ⟨S512x512, .f32⟩
  | .local _ .vmem, ⟨5, _⟩ => ⟨S512x512, .f32⟩
  | _, _ => ⟨S17408x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![34, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGateUpIdeal.lean ====
abbrev S17408x256 : Shape := ⟨2, ![17408, 256]⟩
abbrev S256x2048 : Shape := ⟨2, ![256, 2048]⟩
abbrev S17408x2048 : Shape := ⟨2, ![17408, 2048]⟩

abbrev nBuf : Space → Nat
  | .hbm => 4
  | .vmem => 0
  | .smem => 0
  | _ => 0

abbrev bufTy : (tb : Table) → Fin (tcTables nBuf tb) → BufTy
  | .hbm, ⟨0, _⟩ => ⟨S17408x256, .bf16⟩
  | .hbm, ⟨1, _⟩ => ⟨S256x2048, .f32⟩
  | .hbm, ⟨2, _⟩ => ⟨S17408x256, .f32⟩
  | .hbm, ⟨3, _⟩ => ⟨S17408x2048, .f32⟩
  | _, _ => ⟨S17408x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelGates.lean ====
abbrev S17408x4096 : Shape := ⟨2, ![17408, 4096]⟩
abbrev S4x2048 : Shape := ⟨2, ![4, 2048]⟩
abbrev S2048 : Shape := ⟨1, ![2048]⟩
abbrev S2x2x8x256x256 : Shape := ⟨5, ![2, 2, 8, 256, 256]⟩
abbrev S2x2x2048 : Shape := ⟨3, ![2, 2, 2048]⟩
abbrev S2x2048 : Shape := ⟨2, ![2, 2048]⟩
abbrev S1x2048 : Shape := ⟨2, ![1, 2048]⟩
abbrev S2x17408x2048 : Shape := ⟨3, ![2, 17408, 2048]⟩
abbrev S256x2048 : Shape := ⟨2, ![256, 2048]⟩
abbrev S8x2048 : Shape := ⟨2, ![8, 2048]⟩
abbrev S2x256x2048 : Shape := ⟨3, ![2, 256, 2048]⟩
abbrev S256x256 : Shape := ⟨2, ![256, 256]⟩
abbrev S1x256 : Shape := ⟨2, ![1, 256]⟩
abbrev S1x1x1x256x256 : Shape := ⟨5, ![1, 1, 1, 256, 256]⟩
abbrev S1x1x256 : Shape := ⟨3, ![1, 1, 256]⟩
abbrev S1x256x256 : Shape := ⟨3, ![1, 256, 256]⟩

abbrev nBuf : Space → Nat
  | .hbm => 10
  | .vmem => 15
  | .smem => 0
  | _ => 0

abbrev bufTy : (tb : Table) → Fin (tcTables nBuf tb) → BufTy
  | .hbm, ⟨0, _⟩ => ⟨S17408x4096, .f32⟩
  | .hbm, ⟨1, _⟩ => ⟨S4x2048, .f32⟩
  | .hbm, ⟨2, _⟩ => ⟨S2048, .f32⟩
  | .hbm, ⟨3, _⟩ => ⟨S2x2x8x256x256, .f32⟩
  | .hbm, ⟨4, _⟩ => ⟨S2x2x2048, .f32⟩
  | .hbm, ⟨5, _⟩ => ⟨S2x2048, .f32⟩
  | .hbm, ⟨6, _⟩ => ⟨S1x2048, .f32⟩
  | .hbm, ⟨7, _⟩ => ⟨S2x2x8x256x256, .bf16⟩
  | .hbm, ⟨8, _⟩ => ⟨S2x17408x2048, .f32⟩
  | .hbm, ⟨9, _⟩ => ⟨S2x17408x2048, .f32⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S4x2048, .f32⟩
  | .local _ .vmem, ⟨7, _⟩ => ⟨S1x2048, .f32⟩
  | .local _ .vmem, ⟨8, _⟩ => ⟨S2x2x8x256x256, .bf16⟩
  | .local _ .vmem, ⟨9, _⟩ => ⟨S2x2x2048, .f32⟩
  | .local _ .vmem, ⟨10, _⟩ => ⟨S2x2048, .f32⟩
  | .local _ .vmem, ⟨11, _⟩ => ⟨S2x256x2048, .f32⟩
  | .local _ .vmem, ⟨12, _⟩ => ⟨S2x256x2048, .f32⟩
  | .local _ .vmem, ⟨13, _⟩ => ⟨S2x256x2048, .f32⟩
  | .local _ .vmem, ⟨14, _⟩ => ⟨S2x256x2048, .f32⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2175_i32 : BitVec 32 := 2175#32
  let v2 : BitVec 32 := Scalar.minsi v1 c2175_i32
  let c1_i32_0 : BitVec 32 := 1#32
  let c0_i32 : BitVec 32 := 0#32
  ![v2.toNat, c1_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2x8x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceGatesIdeal.lean ====
abbrev S17408x4096 : Shape := ⟨2, ![17408, 4096]⟩
abbrev S4x2048 : Shape := ⟨2, ![4, 2048]⟩
abbrev S2048 : Shape := ⟨1, ![2048]⟩
abbrev S2x2x8x256x256 : Shape := ⟨5, ![2, 2, 8, 256, 256]⟩
abbrev S2x2x2048 : Shape := ⟨3, ![2, 2, 2048]⟩
abbrev S2x2048 : Shape := ⟨2, ![2, 2048]⟩
abbrev S4x4352x4096 : Shape := ⟨3, ![4, 4352, 4096]⟩
abbrev S4x256x2048 : Shape := ⟨3, ![4, 256, 2048]⟩
abbrev S_ : Shape := ⟨0, ![]⟩
abbrev S4x259x2048 : Shape := ⟨3, ![4, 259, 2048]⟩
abbrev S1x2048 : Shape := ⟨2, ![1, 2048]⟩
abbrev S1x1x2048 : Shape := ⟨3, ![1, 1, 2048]⟩
abbrev S4x4096x2048 : Shape := ⟨3, ![4, 4096, 2048]⟩
abbrev S4x4099x2048 : Shape := ⟨3, ![4, 4099, 2048]⟩
abbrev S4x4352x2048 : Shape := ⟨3, ![4, 4352, 2048]⟩
abbrev S1x2x8x256x256 : Shape := ⟨5, ![1, 2, 8, 256, 256]⟩
abbrev S2x8x256x256 : Shape := ⟨4, ![2, 8, 256, 256]⟩
abbrev S1x2x2048 : Shape := ⟨3, ![1, 2, 2048]⟩
abbrev S4x4352x8x256 : Shape := ⟨4, ![4, 4352, 8, 256]⟩
abbrev S8x2x256x4x4352 : Shape := ⟨5, ![8, 2, 256, 4, 4352]⟩
abbrev S2x4x4352x8x256 : Shape := ⟨5, ![2, 4, 4352, 8, 256]⟩
abbrev S2x4x4352x2048 : Shape := ⟨4, ![2, 4, 4352, 2048]⟩
abbrev S2x1x1x2048 : Shape := ⟨4, ![2, 1, 1, 2048]⟩
abbrev S1x4x4352x2048 : Shape := ⟨4, ![1, 4, 4352, 2048]⟩
abbrev S2x17408x2048 : Shape := ⟨3, ![2, 17408, 2048]⟩

abbrev nBuf : Space → Nat
  | .hbm => 216
  | .vmem => 0
  | .smem => 0
  | _ => 0

abbrev hbmTy0_0 (i : Nat) : BufTy := match i % 128 with
  | 0 => ⟨S17408x4096, .f32⟩
  | 1 => ⟨S4x2048, .f32⟩
  | 2 => ⟨S2048, .f32⟩
  | 3 => ⟨S2x2x8x256x256, .f32⟩
  | 4 => ⟨S2x2x2048, .f32⟩
  | 5 => ⟨S2x2048, .f32⟩
  | 6 => ⟨S4x4352x4096, .f32⟩
  | 7 => ⟨S4x256x2048, .f32⟩
  | 8 => ⟨S_, .i32⟩
  | 9 => ⟨S_, .f32⟩
  | 10 => ⟨S4x259x2048, .f32⟩
  | 11 => ⟨S4x256x2048, .f32⟩
  | 12 => ⟨S1x2048, .f32⟩
  | 13 => ⟨S2048, .f32⟩
  | 14 => ⟨S1x1x2048, .f32⟩
  | 15 => ⟨S4x256x2048, .f32⟩
  | 16 => ⟨S4x256x2048, .f32⟩
  | 17 => ⟨S_, .f32⟩
  | 18 => ⟨S4x256x2048, .f32⟩
  | 19 => ⟨S4x256x2048, .f32⟩
  | 20 => ⟨S4x256x2048, .f32⟩
  | 21 => ⟨S1x2048, .f32⟩
  | 22 => ⟨S2048, .f32⟩
  | 23 => ⟨S1x1x2048, .f32⟩
  | 24 => ⟨S4x256x2048, .f32⟩
  | 25 => ⟨S4x256x2048, .f32⟩
  | 26 => ⟨S4x256x2048, .f32⟩
  | 27 => ⟨S4x256x2048, .f32⟩
  | 28 => ⟨S1x2048, .f32⟩
  | 29 => ⟨S2048, .f32⟩
  | 30 => ⟨S1x1x2048, .f32⟩
  | 31 => ⟨S4x256x2048, .f32⟩
  | 32 => ⟨S4x256x2048, .f32⟩
  | 33 => ⟨S4x256x2048, .f32⟩
  | 34 => ⟨S4x256x2048, .f32⟩
  | 35 => ⟨S1x2048, .f32⟩
  | 36 => ⟨S2048, .f32⟩
  | 37 => ⟨S1x1x2048, .f32⟩
  | 38 => ⟨S4x256x2048, .f32⟩
  | 39 => ⟨S4x256x2048, .f32⟩
  | 40 => ⟨S4x256x2048, .f32⟩
  | 41 => ⟨S1x1x2048, .f32⟩
  | 42 => ⟨S4x256x2048, .f32⟩
  | 43 => ⟨S4x256x2048, .f32⟩
  | 44 => ⟨S4x4096x2048, .f32⟩
  | 45 => ⟨S_, .i32⟩
  | 46 => ⟨S_, .f32⟩
  | 47 => ⟨S4x4099x2048, .f32⟩
  | 48 => ⟨S4x4096x2048, .f32⟩
  | 49 => ⟨S1x2048, .f32⟩
  | 50 => ⟨S2048, .f32⟩
  | 51 => ⟨S1x1x2048, .f32⟩
  | 52 => ⟨S4x4096x2048, .f32⟩
  | 53 => ⟨S4x4096x2048, .f32⟩
  | 54 => ⟨S_, .f32⟩
  | 55 => ⟨S4x4096x2048, .f32⟩
  | 56 => ⟨S4x4096x2048, .f32⟩
  | 57 => ⟨S4x4096x2048, .f32⟩
  | 58 => ⟨S1x2048, .f32⟩
  | 59 => ⟨S2048, .f32⟩
  | 60 => ⟨S1x1x2048, .f32⟩
  | 61 => ⟨S4x4096x2048, .f32⟩
  | 62 => ⟨S4x4096x2048, .f32⟩
  | 63 => ⟨S4x4096x2048, .f32⟩
  | 64 => ⟨S4x4096x2048, .f32⟩
  | 65 => ⟨S1x2048, .f32⟩
  | 66 => ⟨S2048, .f32⟩
  | 67 => ⟨S1x1x2048, .f32⟩
  | 68 => ⟨S4x4096x2048, .f32⟩
  | 69 => ⟨S4x4096x2048, .f32⟩
  | 70 => ⟨S4x4096x2048, .f32⟩
  | 71 => ⟨S4x4096x2048, .f32⟩
  | 72 => ⟨S1x2048, .f32⟩
  | 73 => ⟨S2048, .f32⟩
  | 74 => ⟨S1x1x2048, .f32⟩
  | 75 => ⟨S4x4096x2048, .f32⟩
  | 76 => ⟨S4x4096x2048, .f32⟩
  | 77 => ⟨S4x4096x2048, .f32⟩
  | 78 => ⟨S1x1x2048, .f32⟩
  | 79 => ⟨S4x4096x2048, .f32⟩
  | 80 => ⟨S4x4096x2048, .f32⟩
  | 81 => ⟨S4x4352x2048, .f32⟩
  | 82 => ⟨S1x2x8x256x256, .f32⟩
  | 83 => ⟨S2x8x256x256, .f32⟩
  | 84 => ⟨S1x2x2048, .f32⟩
  | 85 => ⟨S2x2048, .f32⟩
  | 86 => ⟨S1x2048, .f32⟩
  | 87 => ⟨S2048, .f32⟩
  | 88 => ⟨S4x4352x8x256, .f32⟩
  | 89 => ⟨S8x2x256x4x4352, .f32⟩
  | 90 => ⟨S2x4x4352x8x256, .f32⟩
  | 91 => ⟨S2x4x4352x2048, .f32⟩
  | 92 => ⟨S2x1x1x2048, .f32⟩
  | 93 => ⟨S2x4x4352x2048, .f32⟩
  | 94 => ⟨S2x4x4352x2048, .f32⟩
  | 95 => ⟨S1x4x4352x2048, .f32⟩
  | 96 => ⟨S4x4352x2048, .f32⟩
  | 97 => ⟨S4x4352x2048, .f32⟩
  | 98 => ⟨S4x4352x2048, .f32⟩
  | 99 => ⟨S_, .f32⟩
  | 100 => ⟨S4x4352x2048, .f32⟩
  | 101 => ⟨S4x4352x2048, .f32⟩
  | 102 => ⟨S_, .f32⟩
  | 103 => ⟨S4x4352x2048, .f32⟩
  | 104 => ⟨S4x4352x2048, .f32⟩
  | 105 => ⟨S1x4x4352x2048, .f32⟩
  | 106 => ⟨S4x4352x2048, .f32⟩
  | 107 => ⟨S4x4352x2048, .f32⟩
  | 108 => ⟨S4x4352x2048, .f32⟩
  | 109 => ⟨S_, .f32⟩
  | 110 => ⟨S4x4352x2048, .f32⟩
  | 111 => ⟨S4x4352x2048, .f32⟩
  | 112 => ⟨S_, .f32⟩
  | 113 => ⟨S4x4352x2048, .f32⟩
  | 114 => ⟨S4x4352x2048, .f32⟩
  | 115 => ⟨S_, .f32⟩
  | 116 => ⟨S4x4352x2048, .f32⟩
  | 117 => ⟨S4x4352x2048, .f32⟩
  | 118 => ⟨S2048, .f32⟩
  | 119 => ⟨S_, .f32⟩
  | 120 => ⟨S2048, .f32⟩
  | 121 => ⟨S2048, .f32⟩
  | 122 => ⟨S2048, .f32⟩
  | 123 => ⟨S2048, .f32⟩
  | 124 => ⟨S2048, .i1⟩
  | 125 => ⟨S2048, .f32⟩
  | 126 => ⟨S2048, .f32⟩
  | 127 => ⟨S2048, .f32⟩
  | _ => ⟨S17408x4096, .f32⟩

abbrev hbmTy0_1 (i : Nat) : BufTy := match i % 128 with
  | 0 => ⟨S2048, .f32⟩
  | 1 => ⟨S2048, .f32⟩
  | 2 => ⟨S2048, .f32⟩
  | 3 => ⟨S2048, .f32⟩
  | 4 => ⟨S2048, .f32⟩
  | 5 => ⟨S1x1x2048, .f32⟩
  | 6 => ⟨S4x4352x2048, .f32⟩
  | 7 => ⟨S4x4352x2048, .f32⟩
  | 8 => ⟨S4x4352x2048, .f32⟩
  | 9 => ⟨S_, .f32⟩
  | 10 => ⟨S4x4352x2048, .f32⟩
  | 11 => ⟨S4x4352x2048, .f32⟩
  | 12 => ⟨S4x4352x2048, .f32⟩
  | 13 => ⟨S4x4352x2048, .f32⟩
  | 14 => ⟨S4x4352x2048, .f32⟩
  | 15 => ⟨S4x4352x2048, .f32⟩
  | 16 => ⟨S4x4352x2048, .f32⟩
  | 17 => ⟨S1x2x8x256x256, .f32⟩
  | 18 => ⟨S2x8x256x256, .f32⟩
  | 19 => ⟨S1x2x2048, .f32⟩
  | 20 => ⟨S2x2048, .f32⟩
  | 21 => ⟨S1x2048, .f32⟩
  | 22 => ⟨S2048, .f32⟩
  | 23 => ⟨S4x4352x8x256, .f32⟩
  | 24 => ⟨S8x2x256x4x4352, .f32⟩
  | 25 => ⟨S2x4x4352x8x256, .f32⟩
  | 26 => ⟨S2x4x4352x2048, .f32⟩
  | 27 => ⟨S2x1x1x2048, .f32⟩
  | 28 => ⟨S2x4x4352x2048, .f32⟩
  | 29 => ⟨S2x4x4352x2048, .f32⟩
  | 30 => ⟨S1x4x4352x2048, .f32⟩
  | 31 => ⟨S4x4352x2048, .f32⟩
  | 32 => ⟨S4x4352x2048, .f32⟩
  | 33 => ⟨S4x4352x2048, .f32⟩
  | 34 => ⟨S_, .f32⟩
  | 35 => ⟨S4x4352x2048, .f32⟩
  | 36 => ⟨S4x4352x2048, .f32⟩
  | 37 => ⟨S_, .f32⟩
  | 38 => ⟨S4x4352x2048, .f32⟩
  | 39 => ⟨S4x4352x2048, .f32⟩
  | 40 => ⟨S1x4x4352x2048, .f32⟩
  | 41 => ⟨S4x4352x2048, .f32⟩
  | 42 => ⟨S4x4352x2048, .f32⟩
  | 43 => ⟨S4x4352x2048, .f32⟩
  | 44 => ⟨S_, .f32⟩
  | 45 => ⟨S4x4352x2048, .f32⟩
  | 46 => ⟨S4x4352x2048, .f32⟩
  | 47 => ⟨S_, .f32⟩
  | 48 => ⟨S4x4352x2048, .f32⟩
  | 49 => ⟨S4x4352x2048, .f32⟩
  | 50 => ⟨S_, .f32⟩
  | 51 => ⟨S4x4352x2048, .f32⟩
  | 52 => ⟨S4x4352x2048, .f32⟩
  | 53 => ⟨S2048, .f32⟩
  | 54 => ⟨S_, .f32⟩
  | 55 => ⟨S2048, .f32⟩
  | 56 => ⟨S2048, .f32⟩
  | 57 => ⟨S2048, .f32⟩
  | 58 => ⟨S2048, .f32⟩
  | 59 => ⟨S2048, .i1⟩
  | 60 => ⟨S2048, .f32⟩
  | 61 => ⟨S2048, .f32⟩
  | 62 => ⟨S2048, .f32⟩
  | 63 => ⟨S2048, .f32⟩
  | 64 => ⟨S2048, .f32⟩
  | 65 => ⟨S2048, .f32⟩
  | 66 => ⟨S2048, .f32⟩
  | 67 => ⟨S2048, .f32⟩
  | 68 => ⟨S1x1x2048, .f32⟩
  | 69 => ⟨S4x4352x2048, .f32⟩
  | 70 => ⟨S4x4352x2048, .f32⟩
  | 71 => ⟨S4x4352x2048, .f32⟩
  | 72 => ⟨S_, .f32⟩
  | 73 => ⟨S4x4352x2048, .f32⟩
  | 74 => ⟨S4x4352x2048, .f32⟩
  | 75 => ⟨S4x4352x2048, .f32⟩
  | 76 => ⟨S4x4352x2048, .f32⟩
  | 77 => ⟨S4x4352x2048, .f32⟩
  | 78 => ⟨S4x4352x2048, .f32⟩
  | 79 => ⟨S4x4352x2048, .f32⟩
  | 80 => ⟨S1x4x4352x2048, .f32⟩
  | 81 => ⟨S1x4x4352x2048, .f32⟩
  | 82 => ⟨S2x4x4352x2048, .f32⟩
  | 83 => ⟨S2x17408x2048, .f32⟩
  | 84 => ⟨S1x4x4352x2048, .f32⟩
  | 85 => ⟨S1x4x4352x2048, .f32⟩
  | 86 => ⟨S2x4x4352x2048, .f32⟩
  | 87 => ⟨S2x17408x2048, .f32⟩
  | _ => ⟨S17408x4096, .f32⟩

abbrev hbmTy (i : Nat) : BufTy := match i / 128 with
  | 0 => hbmTy0_0 i
  | 1 => hbmTy0_1 i
  | _ => ⟨S17408x4096, .f32⟩

abbrev bufTy : (tb : Table) → Fin (tcTables nBuf tb) → BufTy
  | .hbm, ⟨i, _⟩ => hbmTy i
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_0 : Ref sig .tc := ⟨.hbm, 45, rfl⟩
abbrev main_call1_v0 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_1 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_cst_2 : Ref sig .tc := ⟨.hbm, 99, rfl⟩
abbrev main_v87 : Ref sig .tc := ⟨.hbm, 100, rfl⟩
abbrev main_v88 : Ref sig .tc := ⟨.hbm, 101, rfl⟩
abbrev main_cst_3 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_cst_4 : Ref sig .tc := ⟨.hbm, 109, rfl⟩
abbrev main_v95 : Ref sig .tc := ⟨.hbm, 110, rfl⟩
abbrev main_v96 : Ref sig .tc := ⟨.hbm, 111, rfl⟩
abbrev main_cst_5 : Ref sig .tc := ⟨.hbm, 112, rfl⟩
abbrev main_v97 : Ref sig .tc := ⟨.hbm, 113, rfl⟩
abbrev main_v98 : Ref sig .tc := ⟨.hbm, 114, rfl⟩
abbrev main_cst_6 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_call2_cst : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_v6 : Ref sig .tc := ⟨.hbm, 126, rfl⟩
abbrev main_call2_v7 : Ref sig .tc := ⟨.hbm, 127, rfl⟩
abbrev main_call2_v8 : Ref sig .tc := ⟨.hbm, 128, rfl⟩
abbrev main_call2_v9 : Ref sig .tc := ⟨.hbm, 129, rfl⟩
abbrev main_call2_v10 : Ref sig .tc := ⟨.hbm, 130, rfl⟩
abbrev main_call2_v11 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_7 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_cst_8 : Ref sig .tc := ⟨.hbm, 162, rfl⟩
abbrev main_v131 : Ref sig .tc := ⟨.hbm, 163, rfl⟩
abbrev main_v132 : Ref sig .tc := ⟨.hbm, 164, rfl⟩
abbrev main_cst_9 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_10 : Ref sig .tc := ⟨.hbm, 172, rfl⟩
abbrev main_v139 : Ref sig .tc := ⟨.hbm, 173, rfl⟩
abbrev main_v140 : Ref sig .tc := ⟨.hbm, 174, rfl⟩
abbrev main_cst_11 : Ref sig .tc := ⟨.hbm, 175, rfl⟩
abbrev main_v141 : Ref sig .tc := ⟨.hbm, 176, rfl⟩
abbrev main_v142 : Ref sig .tc := ⟨.hbm, 177, rfl⟩
abbrev main_cst_12 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_call3_cst : Ref sig .tc := ⟨.hbm, 182, rfl⟩
abbrev main_call3_v0 : Ref sig .tc := ⟨.hbm, 183, rfl⟩
abbrev main_call3_v1 : Ref sig .tc := ⟨.hbm, 184, rfl⟩
abbrev main_call3_v2 : Ref sig .tc := ⟨.hbm, 185, rfl⟩
abbrev main_call3_v3 : Ref sig .tc := ⟨.hbm, 186, rfl⟩
abbrev main_call3_v4 : Ref sig .tc := ⟨.hbm, 187, rfl⟩
abbrev main_call3_v5 : Ref sig .tc := ⟨.hbm, 188, rfl⟩
abbrev main_call3_v6 : Ref sig .tc := ⟨.hbm, 189, rfl⟩
abbrev main_call3_v7 : Ref sig .tc := ⟨.hbm, 190, rfl⟩
abbrev main_call3_v8 : Ref sig .tc := ⟨.hbm, 191, rfl⟩
abbrev main_call3_v9 : Ref sig .tc := ⟨.hbm, 192, rfl⟩
abbrev main_call3_v10 : Ref sig .tc := ⟨.hbm, 193, rfl⟩
abbrev main_call3_v11 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_cst_13 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩

abbrev nD : Nat := 1
abbrev τ : Topo := Topo.v7x

variable {F : FTy → Type} [FloatOps F]
-- ==== KernelDecayDown.lean ====
abbrev S17408x2048 : Shape := ⟨2, ![17408, 2048]⟩
abbrev S2x2048x96 : Shape := ⟨3, ![2, 2048, 96]⟩
abbrev S1x2048x96 : Shape := ⟨3, ![1, 2048, 96]⟩
abbrev S2048x96 : Shape := ⟨2, ![2048, 96]⟩
abbrev S_ : Shape := ⟨0, ![]⟩
abbrev S2048x128 : Shape := ⟨2, ![2048, 128]⟩
abbrev S2048x256 : Shape := ⟨2, ![2048, 256]⟩
abbrev S17408x256 : Shape := ⟨2, ![17408, 256]⟩
abbrev S512x2048 : Shape := ⟨2, ![512, 2048]⟩
abbrev S512x256 : Shape := ⟨2, ![512, 256]⟩

abbrev nBuf : Space → Nat
  | .hbm => 15
  | .vmem => 5
  | .smem => 0
  | _ => 0

abbrev bufTy : (tb : Table) → Fin (tcTables nBuf tb) → BufTy
  | .hbm, ⟨0, _⟩ => ⟨S17408x2048, .bf16⟩
  | .hbm, ⟨1, _⟩ => ⟨S2x2048x96, .f32⟩
  | .hbm, ⟨2, _⟩ => ⟨S1x2048x96, .f32⟩
  | .hbm, ⟨3, _⟩ => ⟨S2048x96, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S1x2048x96, .f32⟩
  | .hbm, ⟨8, _⟩ => ⟨S2048x96, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x256, .f32⟩
  | .hbm, ⟨13, _⟩ => ⟨S2048x256, .bf16⟩
  | .hbm, ⟨14, _⟩ => ⟨S17408x256, .bf16⟩
  | .local _ .vmem, ⟨0, _⟩ => ⟨S512x2048, .bf16⟩
  | .local _ .vmem, ⟨1, _⟩ => ⟨S512x2048, .bf16⟩
  | .local _ .vmem, ⟨2, _⟩ => ⟨S2048x256, .bf16⟩
  | .local _ .vmem, ⟨3, _⟩ => ⟨S512x256, .bf16⟩
  | .local _ .vmem, ⟨4, _⟩ => ⟨S512x256, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![34, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDecayDownIdeal.lean ====
abbrev S17408x2048 : Shape := ⟨2, ![17408, 2048]⟩
abbrev S2x2048x96 : Shape := ⟨3, ![2, 2048, 96]⟩
abbrev S1x2048x96 : Shape := ⟨3, ![1, 2048, 96]⟩
abbrev S2048x96 : Shape := ⟨2, ![2048, 96]⟩
abbrev S17408x96 : Shape := ⟨2, ![17408, 96]⟩
abbrev S_ : Shape := ⟨0, ![]⟩
abbrev S17408x128 : Shape := ⟨2, ![17408, 128]⟩
abbrev S17408x256 : Shape := ⟨2, ![17408, 256]⟩

abbrev nBuf : Space → Nat
  | .hbm => 19
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2x2048x96, .f32⟩
  | .hbm, ⟨2, _⟩ => ⟨S17408x2048, .f32⟩
  | .hbm, ⟨3, _⟩ => ⟨S1x2048x96, .f32⟩
  | .hbm, ⟨4, _⟩ => ⟨S2048x96, .f32⟩
  | .hbm, ⟨5, _⟩ => ⟨S17408x96, .f32⟩
  | .hbm, ⟨6, _⟩ => ⟨S17408x96, .f32⟩
  | .hbm, ⟨7, _⟩ => ⟨S_, .i32⟩
  | .hbm, ⟨8, _⟩ => ⟨S_, .f32⟩
  | .hbm, ⟨9, _⟩ => ⟨S17408x128, .f32⟩
  | .hbm, ⟨10, _⟩ => ⟨S1x2048x96, .f32⟩
  | .hbm, ⟨11, _⟩ => ⟨S2048x96, .f32⟩
  | .hbm, ⟨12, _⟩ => ⟨S17408x96, .f32⟩
  | .hbm, ⟨13, _⟩ => ⟨S17408x96, .f32⟩
  | .hbm, ⟨14, _⟩ => ⟨S_, .i32⟩
  | .hbm, ⟨15, _⟩ => ⟨S_, .f32⟩
  | .hbm, ⟨16, _⟩ => ⟨S17408x128, .f32⟩
  | .hbm, ⟨17, _⟩ => ⟨S17408x256, .f32⟩
  | .hbm, ⟨18, _⟩ => ⟨S17408x256, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== KernelRateDown.lean ====
abbrev S17408x2048 : Shape := ⟨2, ![17408, 2048]⟩
abbrev S2x2048x96 : Shape := ⟨3, ![2, 2048, 96]⟩
abbrev S1x2048x96 : Shape := ⟨3, ![1, 2048, 96]⟩
abbrev S2048x96 : Shape := ⟨2, ![2048, 96]⟩
abbrev S_ : Shape := ⟨0, ![]⟩
abbrev S2048x128 : Shape := ⟨2, ![2048, 128]⟩
abbrev S2048x256 : Shape := ⟨2, ![2048, 256]⟩
abbrev S17408x256 : Shape := ⟨2, ![17408, 256]⟩
abbrev S512x2048 : Shape := ⟨2, ![512, 2048]⟩
abbrev S512x256 : Shape := ⟨2, ![512, 256]⟩

abbrev nBuf : Space → Nat
  | .hbm => 15
  | .vmem => 5
  | .smem => 0
  | _ => 0

abbrev bufTy : (tb : Table) → Fin (tcTables nBuf tb) → BufTy
  | .hbm, ⟨0, _⟩ => ⟨S17408x2048, .bf16⟩
  | .hbm, ⟨1, _⟩ => ⟨S2x2048x96, .f32⟩
  | .hbm, ⟨2, _⟩ => ⟨S1x2048x96, .f32⟩
  | .hbm, ⟨3, _⟩ => ⟨S2048x96, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S1x2048x96, .f32⟩
  | .hbm, ⟨8, _⟩ => ⟨S2048x96, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x256, .f32⟩
  | .hbm, ⟨13, _⟩ => ⟨S2048x256, .bf16⟩
  | .hbm, ⟨14, _⟩ => ⟨S17408x256, .bf16⟩
  | .local _ .vmem, ⟨0, _⟩ => ⟨S512x2048, .bf16⟩
  | .local _ .vmem, ⟨1, _⟩ => ⟨S512x2048, .bf16⟩
  | .local _ .vmem, ⟨2, _⟩ => ⟨S2048x256, .bf16⟩
  | .local _ .vmem, ⟨3, _⟩ => ⟨S512x256, .bf16⟩
  | .local _ .vmem, ⟨4, _⟩ => ⟨S512x256, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![34, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceRateDownIdeal.lean ====
abbrev S17408x2048 : Shape := ⟨2, ![17408, 2048]⟩
abbrev S2x2048x96 : Shape := ⟨3, ![2, 2048, 96]⟩
abbrev S1x2048x96 : Shape := ⟨3, ![1, 2048, 96]⟩
abbrev S2048x96 : Shape := ⟨2, ![2048, 96]⟩
abbrev S17408x96 : Shape := ⟨2, ![17408, 96]⟩
abbrev S_ : Shape := ⟨0, ![]⟩
abbrev S17408x128 : Shape := ⟨2, ![17408, 128]⟩
abbrev S17408x256 : Shape := ⟨2, ![17408, 256]⟩

abbrev nBuf : Space → Nat
  | .hbm => 17
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2x2048x96, .f32⟩
  | .hbm, ⟨2, _⟩ => ⟨S17408x2048, .f32⟩
  | .hbm, ⟨3, _⟩ => ⟨S1x2048x96, .f32⟩
  | .hbm, ⟨4, _⟩ => ⟨S2048x96, .f32⟩
  | .hbm, ⟨5, _⟩ => ⟨S17408x96, .f32⟩
  | .hbm, ⟨6, _⟩ => ⟨S_, .i32⟩
  | .hbm, ⟨7, _⟩ => ⟨S_, .f32⟩
  | .hbm, ⟨8, _⟩ => ⟨S17408x128, .f32⟩
  | .hbm, ⟨9, _⟩ => ⟨S1x2048x96, .f32⟩
  | .hbm, ⟨10, _⟩ => ⟨S2048x96, .f32⟩
  | .hbm, ⟨11, _⟩ => ⟨S17408x96, .f32⟩
  | .hbm, ⟨12, _⟩ => ⟨S_, .i32⟩
  | .hbm, ⟨13, _⟩ => ⟨S_, .f32⟩
  | .hbm, ⟨14, _⟩ => ⟨S17408x128, .f32⟩
  | .hbm, ⟨15, _⟩ => ⟨S17408x256, .f32⟩
  | .hbm, ⟨16, _⟩ => ⟨S17408x256, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== KernelPairUp.lean ====
abbrev S17408x256 : Shape := ⟨2, ![17408, 256]⟩
abbrev S2x96x2048 : Shape := ⟨3, ![2, 96, 2048]⟩
abbrev S1x96x2048 : Shape := ⟨3, ![1, 96, 2048]⟩
abbrev S96x2048 : Shape := ⟨2, ![96, 2048]⟩
abbrev S_ : Shape := ⟨0, ![]⟩
abbrev S128x2048 : Shape := ⟨2, ![128, 2048]⟩
abbrev S1x128x2048 : Shape := ⟨3, ![1, 128, 2048]⟩
abbrev S2x128x2048 : Shape := ⟨3, ![2, 128, 2048]⟩
abbrev S2x17408x2048 : Shape := ⟨3, ![2, 17408, 2048]⟩
abbrev S512x128 : Shape := ⟨2, ![512, 128]⟩
abbrev S1x128x512 : Shape := ⟨3, ![1, 128, 512]⟩
abbrev S1x512x512 : Shape := ⟨3, ![1, 512, 512]⟩
abbrev S128x512 : Shape := ⟨2, ![128, 512]⟩
abbrev S512x512 : Shape := ⟨2, ![512, 512]⟩

abbrev nBuf : Space → Nat
  | .hbm => 17
  | .vmem => 6
  | .smem => 0
  | _ => 0

abbrev bufTy : (tb : Table) → Fin (tcTables nBuf tb) → BufTy
  | .hbm, ⟨0, _⟩ => ⟨S17408x256, .bf16⟩
  | .hbm, ⟨1, _⟩ => ⟨S2x96x2048, .f32⟩
  | .hbm, ⟨2, _⟩ => ⟨S1x96x2048, .f32⟩
  | .hbm, ⟨3, _⟩ => ⟨S96x2048, .f32⟩
  | .hbm, ⟨4, _⟩ => ⟨S_, .i32⟩
  | .hbm, ⟨5, _⟩ => ⟨S_, .f32⟩
  | .hbm, ⟨6, _⟩ => ⟨S128x2048, .f32⟩
  | .hbm, ⟨7, _⟩ => ⟨S1x96x2048, .f32⟩
  | .hbm, ⟨8, _⟩ => ⟨S96x2048, .f32⟩
  | .hbm, ⟨9, _⟩ => ⟨S_, .i32⟩
  | .hbm, ⟨10, _⟩ => ⟨S_, .f32⟩
  | .hbm, ⟨11, _⟩ => ⟨S128x2048, .f32⟩
  | .hbm, ⟨12, _⟩ => ⟨S1x128x2048, .f32⟩
  | .hbm, ⟨13, _⟩ => ⟨S1x128x2048, .f32⟩
  | .hbm, ⟨14, _⟩ => ⟨S2x128x2048, .f32⟩
  | .hbm, ⟨15, _⟩ => ⟨S2x128x2048, .bf16⟩
  | .hbm, ⟨16, _⟩ => ⟨S2x17408x2048, .f32⟩
  | .local _ .vmem, ⟨0, _⟩ => ⟨S512x128, .bf16⟩
  | .local _ .vmem, ⟨1, _⟩ => ⟨S512x128, .bf16⟩
  | .local _ .vmem, ⟨2, _⟩ => ⟨S1x128x512, .bf16⟩
  | .local _ .vmem, ⟨3, _⟩ => ⟨S1x128x512, .bf16⟩
  | .local _ .vmem, ⟨4, _⟩ => ⟨S1x512x512, .f32⟩
  | .local _ .vmem, ⟨5, _⟩ => ⟨S1x512x512, .f32⟩
  | _, _ => ⟨S17408x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 34, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ReferencePairUpIdeal.lean ====
abbrev S17408x256 : Shape := ⟨2, ![17408, 256]⟩
abbrev S2x96x2048 : Shape := ⟨3, ![2, 96, 2048]⟩
abbrev S17408x96 : Shape := ⟨2, ![17408, 96]⟩
abbrev S1x96x2048 : Shape := ⟨3, ![1, 96, 2048]⟩
abbrev S96x2048 : Shape := ⟨2, ![96, 2048]⟩
abbrev S17408x2048 : Shape := ⟨2, ![17408, 2048]⟩
abbrev S1x17408x2048 : Shape := ⟨3, ![1, 17408, 2048]⟩
abbrev S2x17408x2048 : Shape := ⟨3, ![2, 17408, 2048]⟩

abbrev nBuf : Space → Nat
  | .hbm => 14
  | .vmem => 0
  | .smem => 0
  | _ => 0

abbrev bufTy : (tb : Table) → Fin (tcTables nBuf tb) → BufTy
  | .hbm, ⟨0, _⟩ => ⟨S17408x256, .bf16⟩
  | .hbm, ⟨1, _⟩ => ⟨S2x96x2048, .f32⟩
  | .hbm, ⟨2, _⟩ => ⟨S17408x256, .f32⟩
  | .hbm, ⟨3, _⟩ => ⟨S17408x96, .f32⟩
  | .hbm, ⟨4, _⟩ => ⟨S1x96x2048, .f32⟩
  | .hbm, ⟨5, _⟩ => ⟨S96x2048, .f32⟩
  | .hbm, ⟨6, _⟩ => ⟨S17408x2048, .f32⟩
  | .hbm, ⟨7, _⟩ => ⟨S17408x96, .f32⟩
  | .hbm, ⟨8, _⟩ => ⟨S1x96x2048, .f32⟩
  | .hbm, ⟨9, _⟩ => ⟨S96x2048, .f32⟩
  | .hbm, ⟨10, _⟩ => ⟨S17408x2048, .f32⟩
  | .hbm, ⟨11, _⟩ => ⟨S1x17408x2048, .f32⟩
  | .hbm, ⟨12, _⟩ => ⟨S1x17408x2048, .f32⟩
  | .hbm, ⟨13, _⟩ => ⟨S2x17408x2048, .f32⟩
  | _, _ => ⟨S17408x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== KernelMid.lean ====
abbrev S17408x2048 : Shape := ⟨2, ![17408, 2048]⟩
abbrev S6x2048 : Shape := ⟨2, ![6, 2048]⟩
abbrev S4x6x2048 : Shape := ⟨3, ![4, 6, 2048]⟩
abbrev S2048 : Shape := ⟨1, ![2048]⟩
abbrev S4x1x6x2048 : Shape := ⟨4, ![4, 1, 6, 2048]⟩
abbrev S4x2x6x2048 : Shape := ⟨4, ![4, 2, 6, 2048]⟩
abbrev S1x2048 : Shape := ⟨2, ![1, 2048]⟩
abbrev S2048x17408 : Shape := ⟨2, ![2048, 17408]⟩
abbrev S256x2048 : Shape := ⟨2, ![256, 2048]⟩
abbrev S1x1x6x2048 : Shape := ⟨4, ![1, 1, 6, 2048]⟩
abbrev S2048x256 : Shape := ⟨2, ![2048, 256]⟩
abbrev S1x1x1x2048 : Shape := ⟨4, ![1, 1, 1, 2048]⟩
abbrev S256 : Shape := ⟨1, ![256]⟩
abbrev S256x1 : Shape := ⟨2, ![256, 1]⟩

abbrev nBuf : Space → Nat
  | .hbm => 15
  | .vmem => 16
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S6x2048, .f32⟩
  | .hbm, ⟨3, _⟩ => ⟨S4x6x2048, .f32⟩
  | .hbm, ⟨4, _⟩ => ⟨S2048, .f32⟩
  | .hbm, ⟨5, _⟩ => ⟨S2048, .f32⟩
  | .hbm, ⟨6, _⟩ => ⟨S4x6x2048, .f32⟩
  | .hbm, ⟨7, _⟩ => ⟨S4x1x6x2048, .f32⟩
  | .hbm, ⟨8, _⟩ => ⟨S4x1x6x2048, .f32⟩
  | .hbm, ⟨9, _⟩ => ⟨S4x2x6x2048, .f32⟩
  | .hbm, ⟨10, _⟩ => ⟨S1x2048, .f32⟩
  | .hbm, ⟨11, _⟩ => ⟨S1x2048, .f32⟩
  | .hbm, ⟨12, _⟩ => ⟨S17408x2048, .f32⟩
  | .hbm, ⟨13, _⟩ => ⟨S17408x2048, .bf16⟩
  | .hbm, ⟨14, _⟩ => ⟨S2048x17408, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x6x2048, .f32⟩
  | .local _ .vmem, ⟨5, _⟩ => ⟨S1x1x6x2048, .f32⟩
  | .local _ .vmem, ⟨6, _⟩ => ⟨S1x1x6x2048, .f32⟩
  | .local _ .vmem, ⟨7, _⟩ => ⟨S1x1x6x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S2048x256, .bf16⟩
  | .local _ .vmem, ⟨15, _⟩ => ⟨S2048x256, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let c0_i32_5 : BitVec 32 := 0#32
  let v17 : BitVec 1 := Scalar.cmpi .eq c17_i32_4 c0_i32_5
  let c1_i32_6 : BitVec 32 := 1#32
  let v18 : BitVec 32 := Scalar.select v17 c1_i32_6 c17_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 1 := Scalar.cmpi .sge v26 c1_i32_10
  let c1_i32_11 : BitVec 32 := 1#32
  let c0_i32_12 : BitVec 32 := 0#32
  let v28 : BitVec 32 := Scalar.select v27 c1_i32_11 c0_i32_12
  let c0_i32_13 : BitVec 32 := 0#32
  let c0_i32_14 : BitVec 32 := 0#32
  let c0_i32_15 : BitVec 32 := 0#32
  ![v16.toNat, v28.toNat, c0_i32_13.toNat, c0_i32_14.toNat]

def cc0_transform_3 (i : grid0.Coords) : Fin 4 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let c0_i32_5 : BitVec 32 := 0#32
  let v17 : BitVec 1 := Scalar.cmpi .eq c17_i32_4 c0_i32_5
  let c1_i32_6 : BitVec 32 := 1#32
  let v18 : BitVec 32 := Scalar.select v17 c1_i32_6 c17_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 1 := Scalar.cmpi .sge v26 c1_i32_10
  let c1_i32_11 : BitVec 32 := 1#32
  let c0_i32_12 : BitVec 32 := 0#32
  let v28 : BitVec 32 := Scalar.select v27 c1_i32_11 c0_i32_12
  let c0_i32_13 : BitVec 32 := 0#32
  let c0_i32_14 : BitVec 32 := 0#32
  let c0_i32_15 : BitVec 32 := 0#32
  ![v16.toNat, v28.toNat, c0_i32_13.toNat, c0_i32_14.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMidIdeal.lean ====
abbrev S17408x2048 : Shape := ⟨2, ![17408, 2048]⟩
abbrev S6x2048 : Shape := ⟨2, ![6, 2048]⟩
abbrev S4x6x2048 : Shape := ⟨3, ![4, 6, 2048]⟩
abbrev S2048 : Shape := ⟨1, ![2048]⟩
abbrev S4x4352x2048 : Shape := ⟨3, ![4, 4352, 2048]⟩
abbrev S4x256x2048 : Shape := ⟨3, ![4, 256, 2048]⟩
abbrev S_ : Shape := ⟨0, ![]⟩
abbrev S1x2048 : Shape := ⟨2, ![1, 2048]⟩
abbrev S1x1x2048 : Shape := ⟨3, ![1, 1, 2048]⟩
abbrev S4x256 : Shape := ⟨2, ![4, 256]⟩
abbrev S4x256x1 : Shape := ⟨3, ![4, 256, 1]⟩
abbrev S4x4096x2048 : Shape := ⟨3, ![4, 4096, 2048]⟩
abbrev S4x1x6x2048 : Shape := ⟨4, ![4, 1, 6, 2048]⟩
abbrev S4x1x12288 : Shape := ⟨3, ![4, 1, 12288]⟩
abbrev S4x1x2048 : Shape := ⟨3, ![4, 1, 2048]⟩
abbrev S4x4096 : Shape := ⟨2, ![4, 4096]⟩
abbrev S4x4096x1 : Shape := ⟨3, ![4, 4096, 1]⟩
abbrev S2048x17408 : Shape := ⟨2, ![2048, 17408]⟩

abbrev nBuf : Space → Nat
  | .hbm => 120
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S6x2048, .f32⟩
  | .hbm, ⟨3, _⟩ => ⟨S4x6x2048, .f32⟩
  | .hbm, ⟨4, _⟩ => ⟨S2048, .f32⟩
  | .hbm, ⟨5, _⟩ => ⟨S2048, .f32⟩
  | .hbm, ⟨6, _⟩ => ⟨S4x4352x2048, .f32⟩
  | .hbm, ⟨7, _⟩ => ⟨S4x4352x2048, .f32⟩
  | .hbm, ⟨8, _⟩ => ⟨S4x256x2048, .f32⟩
  | .hbm, ⟨9, _⟩ => ⟨S4x256x2048, .f32⟩
  | .hbm, ⟨10, _⟩ => ⟨S_, .f32⟩
  | .hbm, ⟨11, _⟩ => ⟨S4x256x2048, .f32⟩
  | .hbm, ⟨12, _⟩ => ⟨S4x256x2048, .f32⟩
  | .hbm, ⟨13, _⟩ => ⟨S1x2048, .f32⟩
  | .hbm, ⟨14, _⟩ => ⟨S2048, .f32⟩
  | .hbm, ⟨15, _⟩ => ⟨S1x1x2048, .f32⟩
  | .hbm, ⟨16, _⟩ => ⟨S4x256x2048, .f32⟩
  | .hbm, ⟨17, _⟩ => ⟨S4x256x2048, .f32⟩
  | .hbm, ⟨18, _⟩ => ⟨S4x256x2048, .f32⟩
  | .hbm, ⟨19, _⟩ => ⟨S_, .f32⟩
  | .hbm, ⟨20, _⟩ => ⟨S4x256, .f32⟩
  | .hbm, ⟨21, _⟩ => ⟨S4x256x1, .f32⟩
  | .hbm, ⟨22, _⟩ => ⟨S_, .f32⟩
  | .hbm, ⟨23, _⟩ => ⟨S4x256x1, .f32⟩
  | .hbm, ⟨24, _⟩ => ⟨S4x256x1, .f32⟩
  | .hbm, ⟨25, _⟩ => ⟨S4x256x2048, .f32⟩
  | .hbm, ⟨26, _⟩ => ⟨S4x256x2048, .f32⟩
  | .hbm, ⟨27, _⟩ => ⟨S4x256x2048, .f32⟩
  | .hbm, ⟨28, _⟩ => ⟨S_, .f32⟩
  | .hbm, ⟨29, _⟩ => ⟨S4x256, .f32⟩
  | .hbm, ⟨30, _⟩ => ⟨S4x256x1, .f32⟩
  | .hbm, ⟨31, _⟩ => ⟨S_, .f32⟩
  | .hbm, ⟨32, _⟩ => ⟨S4x256x1, .f32⟩
  | .hbm, ⟨33, _⟩ => ⟨S4x256x1, .f32⟩
  | .hbm, ⟨34, _⟩ => ⟨S4x256x2048, .f32⟩
  | .hbm, ⟨35, _⟩ => ⟨S4x256x2048, .f32⟩
  | .hbm, ⟨36, _⟩ => ⟨S_, .f32⟩
  | .hbm, ⟨37, _⟩ => ⟨S4x256x1, .f32⟩
  | .hbm, ⟨38, _⟩ => ⟨S4x256x1, .f32⟩
  | .hbm, ⟨39, _⟩ => ⟨S4x256x1, .f32⟩
  | .hbm, ⟨40, _⟩ => ⟨S4x256x2048, .f32⟩
  | .hbm, ⟨41, _⟩ => ⟨S4x256x2048, .f32⟩
  | .hbm, ⟨42, _⟩ => ⟨S1x1x2048, .f32⟩
  | .hbm, ⟨43, _⟩ => ⟨S4x256x2048, .f32⟩
  | .hbm, ⟨44, _⟩ => ⟨S4x256x2048, .f32⟩
  | .hbm, ⟨45, _⟩ => ⟨S1x1x2048, .f32⟩
  | .hbm, ⟨46, _⟩ => ⟨S4x256x2048, .f32⟩
  | .hbm, ⟨47, _⟩ => ⟨S4x256x2048, .f32⟩
  | .hbm, ⟨48, _⟩ => ⟨S1x2048, .f32⟩
  | .hbm, ⟨49, _⟩ => ⟨S2048, .f32⟩
  | .hbm, ⟨50, _⟩ => ⟨S1x2048, .f32⟩
  | .hbm, ⟨51, _⟩ => ⟨S2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S1x1x2048, .f32⟩
  | .hbm, ⟨56, _⟩ => ⟨S4x256x2048, .f32⟩
  | .hbm, ⟨57, _⟩ => ⟨S4x256x2048, .f32⟩
  | .hbm, ⟨58, _⟩ => ⟨S1x1x2048, .f32⟩
  | .hbm, ⟨59, _⟩ => ⟨S4x256x2048, .f32⟩
  | .hbm, ⟨60, _⟩ => ⟨S4x256x2048, .f32⟩
  | .hbm, ⟨61, _⟩ => ⟨S4x256x2048, .bf16⟩
  | .hbm, ⟨62, _⟩ => ⟨S4x4096x2048, .f32⟩
  | .hbm, ⟨63, _⟩ => ⟨S4x4096x2048, .f32⟩
  | .hbm, ⟨64, _⟩ => ⟨S4x1x6x2048, .f32⟩
  | .hbm, ⟨65, _⟩ => ⟨S4x1x12288, .f32⟩
  | .hbm, ⟨66, _⟩ => ⟨S4x1x2048, .f32⟩
  | .hbm, ⟨67, _⟩ => ⟨S4x1x2048, .f32⟩
  | .hbm, ⟨68, _⟩ => ⟨S4x1x2048, .f32⟩
  | .hbm, ⟨69, _⟩ => ⟨S4x1x2048, .f32⟩
  | .hbm, ⟨70, _⟩ => ⟨S4x1x2048, .f32⟩
  | .hbm, ⟨71, _⟩ => ⟨S4x1x2048, .f32⟩
  | .hbm, ⟨72, _⟩ => ⟨S_, .f32⟩
  | .hbm, ⟨73, _⟩ => ⟨S4x4096x2048, .f32⟩
  | .hbm, ⟨74, _⟩ => ⟨S4x4096x2048, .f32⟩
  | .hbm, ⟨75, _⟩ => ⟨S4x4096x2048, .f32⟩
  | .hbm, ⟨76, _⟩ => ⟨S4x4096x2048, .f32⟩
  | .hbm, ⟨77, _⟩ => ⟨S4x4096x2048, .f32⟩
  | .hbm, ⟨78, _⟩ => ⟨S_, .f32⟩
  | .hbm, ⟨79, _⟩ => ⟨S4x4096, .f32⟩
  | .hbm, ⟨80, _⟩ => ⟨S4x4096x1, .f32⟩
  | .hbm, ⟨81, _⟩ => ⟨S_, .f32⟩
  | .hbm, ⟨82, _⟩ => ⟨S4x4096x1, .f32⟩
  | .hbm, ⟨83, _⟩ => ⟨S4x4096x1, .f32⟩
  | .hbm, ⟨84, _⟩ => ⟨S4x4096x2048, .f32⟩
  | .hbm, ⟨85, _⟩ => ⟨S4x4096x2048, .f32⟩
  | .hbm, ⟨86, _⟩ => ⟨S4x4096x2048, .f32⟩
  | .hbm, ⟨87, _⟩ => ⟨S_, .f32⟩
  | .hbm, ⟨88, _⟩ => ⟨S4x4096, .f32⟩
  | .hbm, ⟨89, _⟩ => ⟨S4x4096x1, .f32⟩
  | .hbm, ⟨90, _⟩ => ⟨S_, .f32⟩
  | .hbm, ⟨91, _⟩ => ⟨S4x4096x1, .f32⟩
  | .hbm, ⟨92, _⟩ => ⟨S4x4096x1, .f32⟩
  | .hbm, ⟨93, _⟩ => ⟨S4x4096x2048, .f32⟩
  | .hbm, ⟨94, _⟩ => ⟨S4x4096x2048, .f32⟩
  | .hbm, ⟨95, _⟩ => ⟨S_, .f32⟩
  | .hbm, ⟨96, _⟩ => ⟨S4x4096x1, .f32⟩
  | .hbm, ⟨97, _⟩ => ⟨S4x4096x1, .f32⟩
  | .hbm, ⟨98, _⟩ => ⟨S4x4096x1, .f32⟩
  | .hbm, ⟨99, _⟩ => ⟨S4x4096x2048, .f32⟩
  | .hbm, ⟨100, _⟩ => ⟨S4x4096x2048, .f32⟩
  | .hbm, ⟨101, _⟩ => ⟨S1x1x2048, .f32⟩
  | .hbm, ⟨102, _⟩ => ⟨S4x4096x2048, .f32⟩
  | .hbm, ⟨103, _⟩ => ⟨S4x4096x2048, .f32⟩
  | .hbm, ⟨104, _⟩ => ⟨S1x1x2048, .f32⟩
  | .hbm, ⟨105, _⟩ => ⟨S4x4096x2048, .f32⟩
  | .hbm, ⟨106, _⟩ => ⟨S4x4096x2048, .f32⟩
  | .hbm, ⟨107, _⟩ => ⟨S_, .f32⟩
  | .hbm, ⟨108, _⟩ => ⟨S4x1x2048, .f32⟩
  | .hbm, ⟨109, _⟩ => ⟨S4x1x2048, .f32⟩
  | .hbm, ⟨110, _⟩ => ⟨S4x4096x2048, .f32⟩
  | .hbm, ⟨111, _⟩ => ⟨S4x4096x2048, .f32⟩
  | .hbm, ⟨112, _⟩ => ⟨S4x4096x2048, .f32⟩
  | .hbm, ⟨113, _⟩ => ⟨S4x4096x2048, .f32⟩
  | .hbm, ⟨114, _⟩ => ⟨S4x4096x2048, .bf16⟩
  | .hbm, ⟨115, _⟩ => ⟨S4x4352x2048, .f32⟩
  | .hbm, ⟨116, _⟩ => ⟨S17408x2048, .f32⟩
  | .hbm, ⟨117, _⟩ => ⟨S4x4352x2048, .bf16⟩
  | .hbm, ⟨118, _⟩ => ⟨S17408x2048, .bf16⟩
  | .hbm, ⟨119, _⟩ => ⟨S2048x17408, .bf16⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_7 : Ref sig .tc := ⟨.hbm, 78, rfl⟩
abbrev main_v64 : Ref sig .tc := ⟨.hbm, 79, rfl⟩
abbrev main_v65 : Ref sig .tc := ⟨.hbm, 80, rfl⟩
abbrev main_cst_8 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_9 : Ref sig .tc := ⟨.hbm, 87, rfl⟩
abbrev main_v71 : Ref sig .tc := ⟨.hbm, 88, rfl⟩
abbrev main_v72 : Ref sig .tc := ⟨.hbm, 89, rfl⟩
abbrev main_cst_10 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_11 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_12 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩

abbrev nD : Nat := 1
abbrev τ : Topo := Topo.v7x

variable {F : FTy → Type} [FloatOps F]
-- ==== Proof.RetIndex.lean ====
/-
  Which block of its array each window of the kernel stages at a grid point, in closed form over the points.
-/
module

public import proofs.«01_k».proof.Proof.Gen.KernelIdeal.Value

@[expose] public section

set_option maxRecDepth 16384

noncomputable section

namespace Cert.KernelIdeal.RetValue

open Idealize.ShloMosaic Idealize.ShloMosaic.TcCoe
open Cert.KernelIdeal Cert.KernelIdeal.Gen

/-- The chunk of tokens a grid point works on. -/
def chunkAt (t : ℕ) : ℕ := if t / 34 % 2 = 0 then t % 34 else if t % 34 < 2 then 1 - t % 34 else 35 - t % 34

theorem index_q : ∀ t : Fin cfg0.N, win0_0.index t 0 = 34 * (t.val / 544) + chunkAt t.val ∧ win0_0.index t 1 = t.val / 68 % 8 :=
  (by decide +kernel : ∀ t : Fin grid0.N, win0_0.index t 0 = 34 * (t.val / 544) + chunkAt t.val ∧ win0_0.index t 1 = t.val / 68 % 8)
theorem index_k : ∀ t : Fin cfg0.N, win0_1.index t 0 = 34 * (t.val / 544) + chunkAt t.val ∧ win0_1.index t 1 = 8 + t.val / 68 % 8 :=
  (by decide +kernel : ∀ t : Fin grid0.N, win0_1.index t 0 = 34 * (t.val / 544) + chunkAt t.val ∧ win0_1.index t 1 = 8 + t.val / 68 % 8)
theorem index_v : ∀ t : Fin cfg0.N, win0_2.index t 0 = 34 * (t.val / 544) + chunkAt t.val ∧ win0_2.index t 1 = 8 + t.val / 68 % 8 :=
  (by decide +kernel : ∀ t : Fin grid0.N, win0_2.index t 0 = 34 * (t.val / 544) + chunkAt t.val ∧ win0_2.index t 1 = 8 + t.val / 68 % 8)
theorem index_cos : ∀ t : Fin cfg0.N, win0_3.index t 0 = chunkAt t.val ∧ win0_3.index t 1 = 0 :=
  (by decide +kernel : ∀ t : Fin grid0.N, win0_3.index t 0 = chunkAt t.val ∧ win0_3.index t 1 = 0)
theorem index_sin : ∀ t : Fin cfg0.N, win0_4.index t 0 = chunkAt t.val ∧ win0_4.index t 1 = 0 :=
  (by decide +kernel : ∀ t : Fin grid0.N, win0_4.index t 0 = chunkAt t.val ∧ win0_4.index t 1 = 0)
theorem index_mask : ∀ t : Fin cfg0.N, win0_5.index t 0 = t.val / 68 % 8 ∧ win0_5.index t 1 = t.val / 34 % 2 ∧ win0_5.index t 2 = 0 ∧ win0_5.index t 3 = 0 :=
  (by decide +kernel : ∀ t : Fin grid0.N, win0_5.index t 0 = t.val / 68 % 8 ∧ win0_5.index t 1 = t.val / 34 % 2 ∧ win0_5.index t 2 = 0 ∧ win0_5.index t 3 = 0)
theorem index_seen : ∀ t : Fin cfg0.N, win0_6.index t 0 = t.val / 68 % 8 ∧ win0_6.index t 1 = t.val / 34 % 2 ∧ win0_6.index t 2 = 0 ∧ win0_6.index t 3 = 0 :=
  (by decide +kernel : ∀ t : Fin grid0.N, win0_6.index t 0 = t.val / 68 % 8 ∧ win0_6.index t 1 = t.val / 34 % 2 ∧ win0_6.index t 2 = 0 ∧ win0_6.index t 3 = 0)
theorem index_left : ∀ t : Fin cfg0.N, win0_7.index t 0 = t.val / 68 % 8 ∧ win0_7.index t 1 = t.val / 34 % 2 ∧ win0_7.index t 2 = 0 ∧ win0_7.index t 3 = 0 :=
  (by decide +kernel : ∀ t : Fin grid0.N, win0_7.index t 0 = t.val / 68 % 8 ∧ win0_7.index t 1 = t.val / 34 % 2 ∧ win0_7.index t 2 = 0 ∧ win0_7.index t 3 = 0)
theorem index_decay : ∀ t : Fin cfg0.N, win0_8.index t 0 = t.val / 68 % 8 ∧ win0_8.index t 1 = 0 ∧ win0_8.index t 2 = 0 :=
  (by decide +kernel : ∀ t : Fin grid0.N, win0_8.index t 0 = t.val / 68 % 8 ∧ win0_8.index t 1 = 0 ∧ win0_8.index t 2 = 0)
theorem index_out : ∀ t : Fin cfg0.N, win0_9.index t 0 = t.val / 34 % 2 ∧ win0_9.index t 1 = 34 * (t.val / 544) + chunkAt t.val ∧ win0_9.index t 2 = t.val / 68 % 8 :=
  (by decide +kernel : ∀ t : Fin grid0.N, win0_9.index t 0 = t.val / 34 % 2 ∧ win0_9.index t 1 = 34 * (t.val / 544) + chunkAt t.val ∧ win0_9.index t 2 = t.val / 68 % 8)

end Cert.KernelIdeal.RetValue

end
-- ==== Proof.RetTables.lean ====
/-
  The tables the kernel's host operations prepare — angles, decay mask, and the decays of the state — in the words of the
  reference's own tables.
-/
module

public import proofs.«01_k».proof.Proof.Gen.KernelIdeal.Value
public import proofs.«01_k».proof.Proof.Gen.ReferenceIdeal.Step
public import Idealize.ShloMosaic.Lib.StableHlo.RunLoop
public import Idealize.ShloMosaic.Lib.StableHlo.ReadAt

@[expose] public section

set_option maxRecDepth 16384

noncomputable section

namespace Cert.KernelIdeal.RetValue

open Idealize.ShloMosaic Idealize.ShloMosaic.TcCoe Idealize.SL.Sem Idealize.ShloMosaic.StableHlo
open Cert.KernelIdeal Cert.KernelIdeal.Gen
open Cert.ReferenceIdeal.Step (K_main_cst_2 K_main_cst_3 K_main_call0_v15 K_main_call0_v16 K_main_v14 K_main_v18 K_main_v9 K_main_v8 K_main_v96 K_main_v103 K_main_v106
  K_main_v111 K_main_v112 K_main_v117 K_main_v126 K_main_cst_14)

variable {F : FTy → Type} [FloatOps F]
variable {W : Valuation τ sig (Elt F)}

/-- The angle of each token and frequency: the token's position times the frequency. -/
def angle : (⟨S4352x128, .f32⟩ : BufTy).Contents (Elt F) :=
  mulf (broadcastInDim S4352x128 ![0, 1] bcast_S4352x1_S4352x128_0_1 (broadcastInDim S4352x1 ![0] bcast_S4352_S4352x1_0 (K_main_v9 (F := F))))
    (broadcastInDim S4352x128 ![0, 1] bcast_S1x128_S4352x128_0_1 (broadcastInDim S1x128 ![1] bcast_S128_S1x128_1 (K_main_v18 (F := F))))

/-- The cosines of the angles. -/
def cosTab : (⟨S4352x128, .f32⟩ : BufTy).Contents (Elt F) := Host.cos (angle (F := F))
/-- The sines of the angles. -/
def sinTab : (⟨S4352x128, .f32⟩ : BufTy).Contents (Elt F) := Host.sin (angle (F := F))

/-- The mask going forward, with its direction axis. -/
def maskFwd : (⟨S8x1x128x128, .f32⟩ : BufTy).Contents (Elt F) :=
  broadcastInDim S8x1x128x128 ![0, 2, 3] bcast_S8x128x128_S8x1x128x128_0_2_3 (K_main_v112 (F := F))
/-- The mask going backward, with its direction axis. -/
def maskBwd : (⟨S8x1x128x128, .f32⟩ : BufTy).Contents (Elt F) :=
  broadcastInDim S8x1x128x128 ![0, 2, 3] bcast_S8x128x128_S8x1x128x128_0_2_3 (transpose S8x128x128 [0, 2, 1] (K_main_v112 (F := F)) transposes_S8x128x128_S8x128x128_0_2_1)
/-- The mask of both directions. -/
def maskBoth : (⟨S8x2x128x128, .f32⟩ : BufTy).Contents (Elt F) :=
  concatenate S8x2x128x128 1 [⟨S8x1x128x128, (maskFwd (F := F))⟩, ⟨S8x1x128x128, (maskBwd (F := F))⟩] concatenates_S8x1x128x128_S8x1x128x128_S8x2x128x128_d1

/-- Heads' decay rates, as a column. -/
def rates : (⟨S8x128, .f32⟩ : BufTy).Contents (Elt F) :=
  broadcastInDim S8x128 ![0, 1] bcast_S8x1_S8x128_0_1 (shapeCast S8x1 (K_main_v106 (F := F)) shapeCasts_S8x1x1_S8x1)

/-- A table of a head's decays at the 128 places of a chunk, with its direction axis. -/
def oneWay (x : (⟨S8x128, .f32⟩ : BufTy).Contents (Elt F)) : (⟨S8x1x128, .f32⟩ : BufTy).Contents (Elt F) :=
  broadcastInDim S8x1x128 ![0, 2] bcast_S8x128_S8x1x128_0_2 x
/-- The table of both directions: as it is, and with the places turned round. -/
def twoWays (x : (⟨S8x128, .f32⟩ : BufTy).Contents (Elt F)) : (⟨S8x2x128, .f32⟩ : BufTy).Contents (Elt F) :=
  concatenate S8x2x128 1 [⟨S8x1x128, oneWay x⟩, ⟨S8x1x128, oneWay (Host.reverse [1] x)⟩] concatenates_S8x1x128_S8x1x128_S8x2x128_d1
/-- The same numbers along the 256 entries of a row. -/
def alongRow (x : (⟨S8x2x128, .f32⟩ : BufTy).Contents (Elt F)) : (⟨S8x2x128x256, .f32⟩ : BufTy).Contents (Elt F) :=
  mulf (broadcastInDim S8x2x128x256 ![0, 1, 2, 3] bcast_S8x2x128x1_S8x2x128x256_0_1_2_3 (broadcastInDim S8x2x128x1 ![0, 1, 2] bcast_S8x2x128_S8x2x128x1_0_1_2 x))
    (broadcastInDim S8x2x128x256 ![0, 1, 2, 3] bcast_S1x1x1x256_S8x2x128x256_0_1_2_3 (broadcastInDim S1x1x1x256 ![3] bcast_S256_S1x1x1x256_3
      (broadcastInDim S256 ![] bcast_S_S256 (constant S_ .f32 0x3F800000#32))))
/-- How much of the state each place of a chunk still sees. -/
def seen : (⟨S8x128, .f32⟩ : BufTy).Contents (Elt F) := Host.exp (mulf (K_main_v117 (F := F)) (rates (F := F)))
/-- How much of each place of a chunk is left at the chunk's end. -/
def left : (⟨S8x128, .f32⟩ : BufTy).Contents (Elt F) := Host.exp (mulf (K_main_v126 (F := F)) (rates (F := F)))
/-- How much of the state a chunk leaves. -/
def chunkDecay : (⟨S8x1x512, .f32⟩ : BufTy).Contents (Elt F) :=
  mulf (broadcastInDim S8x1x512 ![0, 1, 2] bcast_S8x1x1_S8x1x512_0_1_2 (Host.exp (mulf (broadcastInDim S8x1x1 ![] bcast_S_S8x1x1 (constant S_ .f32 0x43000000#32)) (K_main_v106 (F := F)))))
    (broadcastInDim S8x1x512 ![0, 1, 2] bcast_S1x1x512_S8x1x512_0_1_2 (broadcastInDim S1x1x512 ![1, 2] bcast_S1x512_S1x1x512_1_2 (broadcastInDim S1x512 ![] bcast_S_S1x512 (constant S_ .f32 0x3F800000#32))))

/-- The ramp without its last entry. -/
theorem ramp_part (h0 : W (Proc.devRef .tc main_cst) = K_main_cst_2 (F := F)) (h1 : W (Proc.devRef .tc main_cst_0) = K_main_cst_3 (F := F)) :
    upto hostOps0_1 W 20 (Proc.devRef .tc main_call0_v15) = K_main_call0_v15 (F := F) := by
  after_reads_simp
  rw [h0, h1]
  rfl

/-- The ramp's last entry. -/
theorem ramp_last (h0 : W (Proc.devRef .tc main_cst) = K_main_cst_2 (F := F)) (h1 : W (Proc.devRef .tc main_cst_0) = K_main_cst_3 (F := F)) :
    upto hostOps0_1 W 20 (Proc.devRef .tc main_call0_v16) = K_main_call0_v16 (F := F) := by
  after_reads_simp
  rw [h1]
  rfl

/-- The ramp from 0 to 1 in 128 steps. -/
theorem ramp (h0 : W (Proc.devRef .tc main_cst) = K_main_cst_2 (F := F)) (h1 : W (Proc.devRef .tc main_cst_0) = K_main_cst_3 (F := F)) :
    after hostOps0_1 W (Proc.devRef .tc main_v0) = K_main_v14 (F := F) := by
  after_reads_simp
  rw [ramp_part h0 h1, ramp_last h0 h1]
  rfl

/-- The cosines of the angles. -/
theorem cos_table (h : W (Proc.devRef .tc main_v0) = K_main_v14 (F := F)) :
    after hostOps0_2 W (Proc.devRef .tc main_v11) = cosTab (F := F) := by
  after_reads_simp
  rw [h]
  rfl

/-- The sines of the angles. -/
theorem sin_table (h : W (Proc.devRef .tc main_v0) = K_main_v14 (F := F)) :
    after hostOps0_2 W (Proc.devRef .tc main_v12) = sinTab (F := F) := by
  after_reads_simp
  rw [h]
  rfl

/-- The heads' decay rates. -/
theorem at2_v21  :
    after hostOps0_2 W (Proc.devRef .tc main_v21) = K_main_v106 (F := F) := by
  after_reads_simp
  rfl

/-- The places of a chunk. -/
theorem at2_v22  :
    after hostOps0_2 W (Proc.devRef .tc main_v22) = K_main_v96 (F := F) := by
  after_reads_simp
  rfl

/-- Which place comes no earlier than which. -/
theorem at2_v29  :
    after hostOps0_2 W (Proc.devRef .tc main_v29) = K_main_v103 (F := F) := by
  after_reads_simp
  rfl

/-- The decays between two places. -/
theorem at2_v36  :
    after hostOps0_2 W (Proc.devRef .tc main_v36) = K_main_v111 (F := F) := by
  after_reads_simp
  rfl

/-- Zero. -/
theorem at2_cst_7  :
    after hostOps0_2 W (Proc.devRef .tc main_cst_7) = K_main_cst_14 (F := F) := by
  after_reads_simp
  rfl

/-- The mask going forward. -/
theorem mask3 (h29 : W (Proc.devRef .tc main_v29) = K_main_v103 (F := F)) (h36 : W (Proc.devRef .tc main_v36) = K_main_v111 (F := F)) (h7 : W (Proc.devRef .tc main_cst_7) = K_main_cst_14 (F := F)) :
    after hostOps0_3 W (Proc.devRef .tc main_v37) = K_main_v112 (F := F) := by
  after_reads_simp
  rw [h29, h36, h7]
  rfl

/-- Read off the operations. -/
theorem mask_fwd (h : W (Proc.devRef .tc main_v37) = K_main_v112 (F := F)) :
    upto hostOps0_4 W 3 (Proc.devRef .tc main_v39) = maskFwd (F := F) := by
  after_reads_simp
  rw [h]
  rfl

/-- Read off the operations. -/
theorem mask_bwd (h : W (Proc.devRef .tc main_v37) = K_main_v112 (F := F)) :
    upto hostOps0_4 W 3 (Proc.devRef .tc main_v40) = maskBwd (F := F) := by
  after_reads_simp
  rw [h]
  rfl

/-- The mask of both directions. -/
theorem mask_both (h : W (Proc.devRef .tc main_v37) = K_main_v112 (F := F)) :
    after hostOps0_4 W (Proc.devRef .tc main_v41) = maskBoth (F := F) := by
  after_reads_simp
  rw [mask_fwd h, mask_bwd h]
  rfl

/-- Read off the operations. -/
theorem seen_fwd (h21 : W (Proc.devRef .tc main_v21) = K_main_v106 (F := F)) (h22 : W (Proc.devRef .tc main_v22) = K_main_v96 (F := F)) :
    upto hostOps0_4 W 16 (Proc.devRef .tc main_v51) = oneWay (seen (F := F)) := by
  after_reads_simp
  rw [h21, h22]
  rfl

/-- Read off the operations. -/
theorem seen_bwd (h21 : W (Proc.devRef .tc main_v21) = K_main_v106 (F := F)) (h22 : W (Proc.devRef .tc main_v22) = K_main_v96 (F := F)) :
    upto hostOps0_4 W 16 (Proc.devRef .tc main_v52) = oneWay (Host.reverse [1] (seen (F := F))) := by
  after_reads_simp
  rw [h21, h22]
  rfl

/-- The table of both directions. -/
theorem seen_both (h21 : W (Proc.devRef .tc main_v21) = K_main_v106 (F := F)) (h22 : W (Proc.devRef .tc main_v22) = K_main_v96 (F := F)) :
    after hostOps0_4 W (Proc.devRef .tc main_v59) = alongRow (twoWays (seen (F := F))) := by
  after_reads_simp
  rw [seen_fwd h21 h22, seen_bwd h21 h22]
  rfl

/-- Read off the operations. -/
theorem left_fwd (h21 : W (Proc.devRef .tc main_v21) = K_main_v106 (F := F)) (h22 : W (Proc.devRef .tc main_v22) = K_main_v96 (F := F)) :
    upto hostOps0_4 W 36 (Proc.devRef .tc main_v69) = oneWay (left (F := F)) := by
  after_reads_simp
  rw [h21, h22]
  rfl

/-- Read off the operations. -/
theorem left_bwd (h21 : W (Proc.devRef .tc main_v21) = K_main_v106 (F := F)) (h22 : W (Proc.devRef .tc main_v22) = K_main_v96 (F := F)) :
    upto hostOps0_4 W 36 (Proc.devRef .tc main_v70) = oneWay (Host.reverse [1] (left (F := F))) := by
  after_reads_simp
  rw [h21, h22]
  rfl

/-- The table of both directions. -/
theorem left_both (h21 : W (Proc.devRef .tc main_v21) = K_main_v106 (F := F)) (h22 : W (Proc.devRef .tc main_v22) = K_main_v96 (F := F)) :
    after hostOps0_4 W (Proc.devRef .tc main_v77) = alongRow (twoWays (left (F := F))) := by
  after_reads_simp
  rw [left_fwd h21 h22, left_bwd h21 h22]
  rfl

/-- The state's decay over a chunk. -/
theorem decay_table (h21 : W (Proc.devRef .tc main_v21) = K_main_v106 (F := F)) :
    after hostOps0_4 W (Proc.devRef .tc main_v85) = chunkDecay (F := F) := by
  after_reads_simp
  rw [h21]
  rfl

/-- These operations leave this table as it is. -/
theorem kept4_v11 : after hostOps0_4 W (Proc.devRef .tc main_v11) = W (Proc.devRef .tc main_v11) := by
  after_reads_simp

/-- These operations leave this table as it is. -/
theorem kept4_v12 : after hostOps0_4 W (Proc.devRef .tc main_v12) = W (Proc.devRef .tc main_v12) := by
  after_reads_simp

/-- These operations leave this table as it is. -/
theorem kept3_v11 : after hostOps0_3 W (Proc.devRef .tc main_v11) = W (Proc.devRef .tc main_v11) := by
  after_reads_simp

/-- These operations leave this table as it is. -/
theorem kept3_v12 : after hostOps0_3 W (Proc.devRef .tc main_v12) = W (Proc.devRef .tc main_v12) := by
  after_reads_simp

/-- These operations leave this table as it is. -/
theorem kept3_v21 : after hostOps0_3 W (Proc.devRef .tc main_v21) = W (Proc.devRef .tc main_v21) := by
  after_reads_simp

/-- These operations leave this table as it is. -/
theorem kept3_v22 : after hostOps0_3 W (Proc.devRef .tc main_v22) = W (Proc.devRef .tc main_v22) := by
  after_reads_simp

variable (m : (ℓ : Loc nD τ sig) → Buf (Elt F) ℓ) (c : Dev nD)

/-- The buffers before the host operations. -/
abbrev before : Valuation τ sig (Elt F) := fun b => m (c, b)

/-- The host operations' five stretches, one after the other. -/
theorem V_split (b : Ref sig .tc) :
    V m c b = after hostOps0_4 (after hostOps0_3 (after hostOps0_2 (after hostOps0_1 (after hostOps0 (before m c))))) b := by
  show after _ _ _ = _
  rw [← afterL_eq_after_flatten]
  rfl

theorem at1_v0 : after hostOps0_1 (after hostOps0 (before m c)) (Proc.devRef .tc main_v0) = K_main_v14 (F := F) := by
  apply ramp <;> (after_reads_simp; rfl)

/-- The cosines, as the kernel is entered. -/
theorem V_v11 : V m c main_v11 = cosTab (F := F) :=
  (V_split m c main_v11).trans (kept4_v11.trans (kept3_v11.trans (cos_table (at1_v0 m c))))
/-- The sines. -/
theorem V_v12 : V m c main_v12 = sinTab (F := F) :=
  (V_split m c main_v12).trans (kept4_v12.trans (kept3_v12.trans (sin_table (at1_v0 m c))))
/-- The mask. -/
theorem V_v41 : V m c main_v41 = maskBoth (F := F) :=
  (V_split m c main_v41).trans (mask_both (mask3 at2_v29 at2_v36 at2_cst_7))
/-- What each place still sees of the state. -/
theorem V_v59 : V m c main_v59 = alongRow (twoWays (seen (F := F))) :=
  (V_split m c main_v59).trans (seen_both (kept3_v21.trans at2_v21) (kept3_v22.trans at2_v22))
/-- What is left of each place at the chunk's end. -/
theorem V_v77 : V m c main_v77 = alongRow (twoWays (left (F := F))) :=
  (V_split m c main_v77).trans (left_both (kept3_v21.trans at2_v21) (kept3_v22.trans at2_v22))
/-- The state's decay over a chunk. -/
theorem V_v85 : V m c main_v85 = chunkDecay (F := F) :=
  (V_split m c main_v85).trans (decay_table (kept3_v21.trans at2_v21))

end Cert.KernelIdeal.RetValue

end
-- ==== Proof.RetSpec.lean ====
/-
  The words both programs are read in: rotating a row, and the order in which the backward direction visits the tokens.
-/
module

public import Idealize.ShloMosaic.PureOps.Ideal

@[expose] public section

noncomputable section

namespace Cert.Retention

/-- A row of 256 entries rotated: the two halves turned by the angles whose cosines and sines are given. -/
def rotAt (x : Fin 256 → EReal) (cs sn : Fin 128 → EReal) (e : Fin 256) : EReal :=
  if h : e.val < 128 then x e * cs ⟨e.val, h⟩ - x ⟨128 + e.val, by omega⟩ * sn ⟨e.val, h⟩
  else x ⟨e.val - 128, by omega⟩ * sn ⟨e.val - 128, by omega⟩ + x e * cs ⟨e.val - 128, by omega⟩

/-- The token the backward direction reads at position `p`: the 256 context tokens in reverse, then the 4096 latents in reverse. -/
def back (p : Fin 4352) : Fin 4352 := if h : p.val < 256 then ⟨255 - p.val, by omega⟩ else ⟨4607 - p.val, by omega⟩

/-- The token read at position `p` in direction `d`: `p` itself going forward, `back p` going backward. -/
def tok (d : Fin 2) (p : Fin 4352) : Fin 4352 := if d.val = 0 then p else back p

/-- The place of a chunk that the kernel's row `i` stands for: itself going forward, the mirrored one going backward. -/
def fl (d : Fin 2) (i : Fin 128) : Fin 128 := if d.val = 0 then i else i.rev

/-- The reference's batch entry for direction `d` of sequence `b`. -/
def entry (d : Fin 2) (b : Fin 4) : Fin 8 := ⟨d.val * 4 + b.val, by omega⟩

end Cert.Retention

end
-- ==== Proof.RetTableAt.lean ====
/-
  The kernel's tables index by index, in the words of the reference's tables: in the backward direction the places of a
  chunk are mirrored.
-/
module

public import proofs.«01_k».proof.Proof.RetTables
public import proofs.«01_k».proof.Proof.RetSpec
public import Idealize.ShloMosaic.Lib.Pointwise
public import Idealize.ShloMosaic.Lib.DynamicIndex

@[expose] public section

set_option maxRecDepth 16384

noncomputable section

namespace Cert.KernelIdeal.RetValue

open Idealize.ShloMosaic Idealize.ShloMosaic.TcCoe Idealize.SL.Sem Idealize.ShloMosaic.StableHlo
open Cert.KernelIdeal Cert.KernelIdeal.Gen Cert.Retention
open Cert.ReferenceIdeal.Step

/-- The angle at a token and a frequency. -/
theorem angle_at (p : Fin 4352) (e : Fin 128) :
    angle (F := Ideal) (ix2 p e) = K_main_v9 (F := Ideal) (ix1 p) * K_main_v18 (F := Ideal) (ix1 e) := by
  unfold angle
  generalize K_main_v9 (F := Ideal) = x
  generalize K_main_v18 (F := Ideal) = y
  pointwise

/-- The queries' angle in the reference, which adds a literal zero first. -/
theorem angle_query (p : Fin 4352) (e : Fin 128) : K_main_v23 (F := Ideal) (ix2 p e) = angle (F := Ideal) (ix2 p e) := by
  rw [angle_at]
  unfold K_main_v23 K_main_v22 K_main_v21 K_main_v20 K_main_v19 K_main_v11 K_main_v10 K_main_cst_1
  generalize K_main_v9 (F := Ideal) = x
  generalize K_main_v18 (F := Ideal) = y
  pointwise

/-- The keys' angle in the reference. -/
theorem angle_key (p : Fin 4352) (e : Fin 128) : K_main_v52 (F := Ideal) (ix2 p e) = angle (F := Ideal) (ix2 p e) := by
  rw [angle_at, show K_main_v18 (F := Ideal) = K_main_v47 from rfl]
  unfold K_main_v52 K_main_v51 K_main_v50 K_main_v49 K_main_v48 K_main_v11 K_main_v10 K_main_cst_1
  generalize K_main_v9 (F := Ideal) = x
  generalize K_main_v47 (F := Ideal) = y
  pointwise

theorem cos_query (p : Fin 4352) (e : Fin 128) : K_main_v24 (F := Ideal) (ix2 p e) = cosTab (F := Ideal) (ix2 p e) :=
  congrArg Ideal.cos (angle_query p e)
theorem sin_query (p : Fin 4352) (e : Fin 128) : K_main_v26 (F := Ideal) (ix2 p e) = sinTab (F := Ideal) (ix2 p e) :=
  congrArg Ideal.sin (angle_query p e)
theorem cos_key (p : Fin 4352) (e : Fin 128) : K_main_v53 (F := Ideal) (ix2 p e) = cosTab (F := Ideal) (ix2 p e) :=
  congrArg Ideal.cos (angle_key p e)
theorem sin_key (p : Fin 4352) (e : Fin 128) : K_main_v55 (F := Ideal) (ix2 p e) = sinTab (F := Ideal) (ix2 p e) :=
  congrArg Ideal.sin (angle_key p e)

/-- The place's number. -/
theorem place_at (i : Fin 128) : K_main_v96 (F := Ideal) (ix1 i) = (((i.val : ℤ) : ℝ) : EReal) := by
  unfold K_main_v96
  pointwise
  show (((BitVec.ofNat 32 i.val).toInt : ℝ) : EReal) = _
  rw [toInt_ofNat_of_lt (by omega)]

/-- How far place `j` lies before place `i`. -/
theorem dist_at (i j : Fin 128) : K_main_v101 (F := Ideal) (ix2 i j) = (((i.val : ℤ) : ℝ) : EReal) - (((j.val : ℤ) : ℝ) : EReal) := by
  rw [← place_at i, ← place_at j]
  unfold K_main_v101 K_main_v100 K_main_v99 K_main_v98 K_main_v97
  generalize K_main_v96 (F := Ideal) = x
  pointwise

/-- Mirroring both places swaps them. -/
theorem dist_rev (i j : Fin 128) : K_main_v101 (F := Ideal) (ix2 i.rev j.rev) = K_main_v101 (F := Ideal) (ix2 j i) := by
  rw [dist_at, dist_at, ← EReal.coe_sub, ← EReal.coe_sub]
  congr 1
  have hi : (i.rev.val : ℤ) = 127 - i.val := by rw [Fin.val_rev]; omega
  have hj : (j.rev.val : ℤ) = 127 - j.val := by rw [Fin.val_rev]; omega
  rw [hi, hj]
  push_cast
  ring

/-- The mask is read off the distance of its two places. -/
theorem mask_at (h : Fin 8) (i j : Fin 128) (i' j' : Fin 128)
    (hd : K_main_v101 (F := Ideal) (ix2 i j) = K_main_v101 (F := Ideal) (ix2 i' j')) :
    K_main_v112 (F := Ideal) (ix3 h i j) = K_main_v112 (F := Ideal) (ix3 h i' j') := by
  unfold K_main_v112 K_main_call2_v2 K_main_call2_v1 K_main_call2_v0 K_main_v111 K_main_v110 K_main_v109 K_main_v108 K_main_v107 K_main_v105 K_main_v104 K_main_v103 K_main_v102
  generalize K_main_v106 (F := Ideal) = g at *
  generalize K_main_v101 (F := Ideal) = x at *
  pointwise
  rw [hd]

/-- The kernel's mask. -/
theorem maskBoth_at (h : Fin 8) (d : Fin 2) (i j : Fin 128) :
    maskBoth (F := Ideal) (ix4 h d i j) = K_main_v112 (F := Ideal) (ix3 h (fl d i) (fl d j)) := by
  have hb : K_main_v112 (F := Ideal) (ix3 h j i) = K_main_v112 (F := Ideal) (ix3 h i.rev j.rev) := mask_at h _ _ _ _ (dist_rev i j).symm
  unfold maskBoth maskFwd maskBwd fl
  generalize K_main_v112 (F := Ideal) = x at *
  match d with
  | ⟨0, _⟩ => pointwise
  | ⟨1, _⟩ =>
    show _ = x (ix3 h i.rev j.rev)
    rw [← hb]
    pointwise

/-- The heads' decay rates. -/
theorem rates_at (h : Fin 8) (i : Fin 128) : rates (F := Ideal) (ix2 h i) = K_main_v8 (F := Ideal) (ix1 h) := by
  unfold rates K_main_v106
  generalize K_main_v8 (F := Ideal) = x
  pointwise

theorem rates_seen (h : Fin 8) (i : Fin 128) : K_main_v118 (F := Ideal) (ix2 h i) = K_main_v8 (F := Ideal) (ix1 h) := by
  unfold K_main_v118 K_main_v115
  generalize K_main_v8 (F := Ideal) = x
  pointwise

theorem rates_left (h : Fin 8) (i : Fin 128) : K_main_v127 (F := Ideal) (ix2 h i) = K_main_v8 (F := Ideal) (ix1 h) := by
  unfold K_main_v127 K_main_v124
  generalize K_main_v8 (F := Ideal) = x
  pointwise

/-- How much of the state a place still sees: the reference's table. -/
theorem seen_at (h : Fin 8) (i : Fin 128) : seen (F := Ideal) (ix2 h i) = K_main_v121 (F := Ideal) (ix3 h i 0) := by
  have e : K_main_v121 (F := Ideal) (ix3 h i 0) = Ideal.exp (K_main_v117 (F := Ideal) (ix2 h i) * K_main_v118 (F := Ideal) (ix2 h i)) := by
    unfold K_main_v121 K_main_v120 K_main_v119
    generalize K_main_v117 (F := Ideal) = x
    generalize K_main_v118 (F := Ideal) = y
    pointwise
  rw [e, rates_seen, ← rates_at h i]
  rfl

/-- How much of a place is left at the chunk's end: the reference's table. -/
theorem left_at (h : Fin 8) (i : Fin 128) : left (F := Ideal) (ix2 h i) = K_main_v130 (F := Ideal) (ix3 h i 0) := by
  have e : K_main_v130 (F := Ideal) (ix3 h i 0) = Ideal.exp (K_main_v126 (F := Ideal) (ix2 h i) * K_main_v127 (F := Ideal) (ix2 h i)) := by
    unfold K_main_v130 K_main_v129 K_main_v128
    generalize K_main_v126 (F := Ideal) = x
    generalize K_main_v127 (F := Ideal) = y
    pointwise
  rw [e, rates_left, ← rates_at h i]
  rfl

/-- A table of both directions, along a row. -/
theorem twoWays_at (x : (⟨S8x128, .f32⟩ : BufTy).Contents (Elt Ideal)) (h : Fin 8) (d : Fin 2) (i : Fin 128) (e : Fin 256) :
    alongRow (twoWays x) (ix4 h d i e) = x (ix2 h (fl d i)) := by
  have hrow : ∀ y : (⟨S8x2x128, .f32⟩ : BufTy).Contents (Elt Ideal), alongRow y (ix4 h d i e) = y (ix3 h d i) := by
    intro y
    unfold alongRow
    pointwise
  rw [hrow]
  unfold twoWays oneWay fl
  match d with
  | ⟨0, _⟩ => pointwise
  | ⟨1, _⟩ =>
    show _ = x (ix2 h i.rev)
    pointwise
    rfl

/-- The state's decay over a chunk: the reference's number. -/
theorem chunkDecay_at (h : Fin 8) (w : Fin 512) : chunkDecay (F := Ideal) (ix3 h 0 w) = K_main_v134 (F := Ideal) (ix3 h 0 0) := by
  unfold chunkDecay K_main_v134 K_main_v133 K_main_v132 K_main_v131 K_main_cst_17 K_main_v106
  generalize K_main_v8 (F := Ideal) = x
  pointwise

end Cert.KernelIdeal.RetValue

end
-- ==== Proof.RetBlock.lean ====
/-
  What one grid point of the retention kernel computes. A point reads a block of queries `x0`, keys `x1` and values `x2`,
  the rotary tables `x3` (cosines) and `x4` (sines), the decay mask `x5`, the two decay columns `x6` and `x7`, the
  decay of a whole chunk `x8`, and the running state `R` held in the scratch. It writes `outBlk` and leaves `newState`
  in the scratch; at the first chunk of a sequence the state it starts from is the zero state.
-/
module

public import proofs.«01_k».proof.Proof.Gen.KernelIdeal.Frame
public import proofs.«01_k».proof.Proof.Gen.KernelIdeal.Value

@[expose] public section

set_option maxRecDepth 16384

noncomputable section

namespace Cert.KernelIdeal.RetValue

open Idealize.ShloMosaic Idealize.ShloMosaic.TcCoe Idealize.SL.Sem
open Cert.KernelIdeal Cert.KernelIdeal.Gen

variable {F : FTy → Type} [FloatOps F]

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

/-- The block of outputs: scores times mask times values, plus the decayed queries times the state. -/
abbrev outBlk (x0 x1 : Vec F S128x256 .f32) (x2 : Vec F S128x512 .f32) (x3 x4 : Vec F S128x128 .f32)
    (x5 : Vec F S1x1x128x128 .f32) (x6 : Vec F S1x1x128x256 .f32) (R : Vec F S256x512 .f32) : Vec F S1x128x512 .f32 :=
  k0_pay2 (k0_pay6 x3 x4 x0) (k0_pay8 x2) (k0_pay9 x3 x4 x0 x1 x5) x6 R

/-- The state left for the next chunk: the old one decayed, plus the decayed keys times the values. -/
abbrev newState (x1 : Vec F S128x256 .f32) (x2 : Vec F S128x512 .f32) (x3 x4 : Vec F S128x128 .f32)
    (x7 : Vec F S1x1x128x256 .f32) (x8 : Vec F S1x1x512 .f32) (R : Vec F S256x512 .f32) : Vec F S256x512 .f32 :=
  k0_pay1 (k0_pay7 x3 x4 x1) (k0_pay8 x2) x7 R x8

section
variable (c : Dev nD) (i : grid0.Coords)
  (arg4 : Memref sig .tc .vmem S128x256 .f32) (harg4 : arg4.IsWhole) (arg5 : Memref sig .tc .vmem S128x256 .f32) (harg5 : arg5.IsWhole)
  (arg6 : Memref sig .tc .vmem S128x512 .f32) (harg6 : arg6.IsWhole) (arg7 : Memref sig .tc .vmem S128x128 .f32) (harg7 : arg7.IsWhole)
  (arg8 : Memref sig .tc .vmem S128x128 .f32) (harg8 : arg8.IsWhole) (arg9 : Memref sig .tc .vmem S1x1x128x128 .f32) (harg9 : arg9.IsWhole)
  (arg10 : Memref sig .tc .vmem S1x1x128x256 .f32) (harg10 : arg10.IsWhole) (arg11 : Memref sig .tc .vmem S1x1x128x256 .f32) (harg11 : arg11.IsWhole)
  (arg12 : Memref sig .tc .vmem S1x1x512 .f32) (harg12 : arg12.IsWhole) (arg13 : Memref sig .tc .vmem S1x128x512 .f32) (harg13 : arg13.IsWhole)
  (arg14 : Memref sig .tc .vmem S256x512 .f32) (harg14 : arg14.IsWhole)
  (x0 x1 : Vec F S128x256 .f32) (x2 : Vec F S128x512 .f32) (x3 x4 : Vec F S128x128 .f32) (x5 : Vec F S1x1x128x128 .f32)
  (x6 x7 : Vec F S1x1x128x256 .f32) (x8 : Vec F S1x1x512 .f32) (xs0 : Vec F S256x512 .f32)

/-- At a later chunk the output block is `outBlk` of the state the chunk before left. -/
theorem out_later (hc : ¬cond0_0 i) :
    out0_B_9 c i arg4 harg4 arg5 harg5 arg6 harg6 arg7 harg7 arg8 harg8 arg9 harg9 arg10 harg10 arg11 harg11 arg12 harg12 arg13 harg13 arg14 harg14 hc x0 x1 x2 x3 x4 x5 x6 x7 x8 xs0
      = outBlk x0 x1 x2 x3 x4 x5 x6 xs0 := by
  unfold out0_B_9
  rw [View.read_writes_eq_canon _ _ _ (cover0_B_9 c i arg4 harg4 arg5 harg5 arg6 harg6 arg7 harg7 arg8 harg8 arg9 harg9 arg10 harg10 arg11 harg11 arg12 harg12 arg13 harg13 arg14 harg14 hc x0 x1 x2 x3 x4 x5 x6 x7 x8 xs0)]
  unfold kernelRun0_B
  dsimp only
  sl_unfold_words
  rw [View.canon_unit_zero z3]
  simp only [View.readAt_eq_ld, harg4.read_unread, harg5.read_unread, harg6.read_unread, harg7.read_unread, harg8.read_unread,
    harg9.read_unread, harg10.read_unread, harg11.read_unread, harg12.read_unread, harg14.read_unread,
    View.ld_unit_zero (S := S128x256) z2, View.ld_unit_zero (S := S128x512) z2, View.ld_unit_zero (S := S128x128) z2,
    View.ld_unit_zero (S := S256x512) z2, View.ld_unit_zero (S := S1x1x512) z3, View.ld_unit_zero (S := S1x1x128x128) z4,
    View.ld_unit_zero (S := S1x1x128x256) z4]

/-- At a later chunk the scratch is left holding `newState` of the state the chunk before left. -/
theorem state_later (hc : ¬cond0_0 i) :
    sout0_B_0 c i arg4 harg4 arg5 harg5 arg6 harg6 arg7 harg7 arg8 harg8 arg9 harg9 arg10 harg10 arg11 harg11 arg12 harg12 arg13 harg13 arg14 harg14 hc x0 x1 x2 x3 x4 x5 x6 x7 x8 xs0
      = newState x1 x2 x3 x4 x7 x8 xs0 := by
  unfold sout0_B_0
  rw [View.read_writes_eq_canon _ _ _ (scover0_B_0 c i arg4 harg4 arg5 harg5 arg6 harg6 arg7 harg7 arg8 harg8 arg9 harg9 arg10 harg10 arg11 harg11 arg12 harg12 arg13 harg13 arg14 harg14 hc x0 x1 x2 x3 x4 x5 x6 x7 x8 xs0)]
  unfold kernelRun0_B
  dsimp only
  sl_unfold_words
  rw [View.canon_unit_zero z2]
  simp only [View.readAt_eq_ld, harg4.read_unread, harg5.read_unread, harg6.read_unread, harg7.read_unread, harg8.read_unread,
    harg9.read_unread, harg10.read_unread, harg11.read_unread, harg12.read_unread, harg14.read_unread,
    View.ld_unit_zero (S := S128x256) z2, View.ld_unit_zero (S := S128x512) z2, View.ld_unit_zero (S := S128x128) z2,
    View.ld_unit_zero (S := S256x512) z2, View.ld_unit_zero (S := S1x1x512) z3, View.ld_unit_zero (S := S1x1x128x128) z4,
    View.ld_unit_zero (S := S1x1x128x256) z4]

/-- At the first chunk the output block is `outBlk` of the zero state. -/
theorem out_first (hc : cond0_0 i) :
    out0_A_9 c i arg4 harg4 arg5 harg5 arg6 harg6 arg7 harg7 arg8 harg8 arg9 harg9 arg10 harg10 arg11 harg11 arg12 harg12 arg13 harg13 arg14 harg14 hc x0 x1 x2 x3 x4 x5 x6 x7 x8
      = outBlk x0 x1 x2 x3 x4 x5 x6 k0_pay3 := by
  unfold out0_A_9
  rw [View.read_writes_eq_canon _ _ _ (cover0_A_9 c i arg4 harg4 arg5 harg5 arg6 harg6 arg7 harg7 arg8 harg8 arg9 harg9 arg10 harg10 arg11 harg11 arg12 harg12 arg13 harg13 arg14 harg14 hc x0 x1 x2 x3 x4 x5 x6 x7 x8)]
  unfold kernelRun0_A
  dsimp only
  sl_unfold_words
  rw [View.canon_unit_zero z3]
  simp only [View.readAt_eq_ld, harg4.read_unread, harg5.read_unread, harg6.read_unread, harg7.read_unread, harg8.read_unread,
    harg9.read_unread, harg10.read_unread, harg11.read_unread, harg12.read_unread, harg14.read_unread,
    View.ld_unit_zero (S := S128x256) z2, View.ld_unit_zero (S := S128x512) z2, View.ld_unit_zero (S := S128x128) z2,
    View.ld_unit_zero (S := S256x512) z2, View.ld_unit_zero (S := S1x1x512) z3, View.ld_unit_zero (S := S1x1x128x128) z4,
    View.ld_unit_zero (S := S1x1x128x256) z4, View.readCov_unit_zero (S := S256x512) _ z2]

/-- At the first chunk the scratch is left holding `newState` of the zero state. -/
theorem state_first (hc : cond0_0 i) :
    sout0_A_0 c i arg4 harg4 arg5 harg5 arg6 harg6 arg7 harg7 arg8 harg8 arg9 harg9 arg10 harg10 arg11 harg11 arg12 harg12 arg13 harg13 arg14 harg14 hc x0 x1 x2 x3 x4 x5 x6 x7 x8
      = newState x1 x2 x3 x4 x7 x8 k0_pay3 := by
  unfold sout0_A_0
  rw [View.read_writes_eq_canon _ _ _ (scover0_A_0 c i arg4 harg4 arg5 harg5 arg6 harg6 arg7 harg7 arg8 harg8 arg9 harg9 arg10 harg10 arg11 harg11 arg12 harg12 arg13 harg13 arg14 harg14 hc x0 x1 x2 x3 x4 x5 x6 x7 x8)]
  unfold kernelRun0_A
  dsimp only
  sl_unfold_words
  rw [View.canon_cons_unit_zero (S := S256x512) z2]
  simp only [View.readAt_eq_ld, harg4.read_unread, harg5.read_unread, harg6.read_unread, harg7.read_unread, harg8.read_unread,
    harg9.read_unread, harg10.read_unread, harg11.read_unread, harg12.read_unread, harg14.read_unread,
    View.ld_unit_zero (S := S128x256) z2, View.ld_unit_zero (S := S128x512) z2, View.ld_unit_zero (S := S128x128) z2,
    View.ld_unit_zero (S := S256x512) z2, View.ld_unit_zero (S := S1x1x512) z3, View.ld_unit_zero (S := S1x1x128x128) z4,
    View.ld_unit_zero (S := S1x1x128x256) z4, View.readCov_unit_zero (S := S256x512) _ z2]
end

end Cert.KernelIdeal.RetValue

end
-- ==== Proof.RetBlockAt.lean ====
/-
  The block of outputs and the new state of one grid point, read at an index over the extended reals: sums of products of
  the entries of the blocks the point reads.
-/
module

public import proofs.«01_k».proof.Proof.RetBlock
public import proofs.«01_k».proof.Proof.RetSpec
public import Idealize.ShloMosaic.Lib.Pointwise

@[expose] public section

set_option maxRecDepth 16384

noncomputable section

namespace Cert.KernelIdeal.RetValue

open Idealize.ShloMosaic Idealize.ShloMosaic.TcCoe Idealize.SL.Sem
open Cert.KernelIdeal Cert.KernelIdeal.Gen Cert.Retention

/-- The rotated block at an index. -/
theorem pay6_at (x3 x4 : Vec Ideal S128x128 .f32) (x : Vec Ideal S128x256 .f32) (i : Fin 128) (e : Fin 256) :
    k0_pay6 x3 x4 x (ix2 i e) = rotAt (fun k => x (ix2 i k)) (fun k => x3 (ix2 i k)) (fun k => x4 (ix2 i k)) e := by
  unfold_payloads
  pointwise
  unfold rotAt
  split
  · rfl
  · rename_i h
    have e' : (⟨128 + (e.val - 128), by omega⟩ : Fin 256) = e := Fin.ext (by show 128 + (e.val - 128) = e.val; omega)
    rw [e']

/-- The rotated keys are scaled by the literal one sixteenth. -/
theorem pay7_at (x3 x4 : Vec Ideal S128x128 .f32) (x : Vec Ideal S128x256 .f32) (i : Fin 128) (e : Fin 256) :
    k0_pay7 x3 x4 x (ix2 i e) = k0_pay6 x3 x4 x (ix2 i e) * Ideal.ofBits .f32 0x3D800000#32 := by
  rfl

/-- The new state at an index. -/
theorem newState_at (x1 : Vec Ideal S128x256 .f32) (x2 : Vec Ideal S128x512 .f32) (x3 x4 : Vec Ideal S128x128 .f32)
    (x7 : Vec Ideal S1x1x128x256 .f32) (x8 : Vec Ideal S1x1x512 .f32) (R : Vec Ideal S256x512 .f32) (e : Fin 256) (w : Fin 512) :
    newState x1 x2 x3 x4 x7 x8 R (ix2 e w)
      = R (ix2 e w) * x8 (ix3 0 0 w) + ∑ j : Fin 128, k0_pay7 x3 x4 x1 (ix2 j e) * x7 (ix4 0 0 j e) * x2 (ix2 j w) := by
  unfold newState k0_pay1 k0_pay8
  pointwise

/-- The block of outputs at an index. -/
theorem outBlk_at (x0 x1 : Vec Ideal S128x256 .f32) (x2 : Vec Ideal S128x512 .f32) (x3 x4 : Vec Ideal S128x128 .f32)
    (x5 : Vec Ideal S1x1x128x128 .f32) (x6 : Vec Ideal S1x1x128x256 .f32) (R : Vec Ideal S256x512 .f32) (i : Fin 128) (w : Fin 512) :
    outBlk x0 x1 x2 x3 x4 x5 x6 R (ix3 0 i w)
      = (∑ j : Fin 128, ((∑ e : Fin 256, k0_pay6 x3 x4 x0 (ix2 i e) * k0_pay7 x3 x4 x1 (ix2 j e)) * x5 (ix4 0 0 i j)) * x2 (ix2 j w))
        + ∑ e : Fin 256, k0_pay6 x3 x4 x0 (ix2 i e) * x6 (ix4 0 0 i e) * R (ix2 e w) := by
  unfold outBlk k0_pay2 k0_pay8 k0_pay9
  pointwise

/-- The state a sequence starts from is zero. -/
theorem pay3_at (e : Fin 256) (w : Fin 512) : k0_pay3 (F := Ideal) (ix2 e w) = 0 := by
  unfold k0_pay3
  pointwise

end Cert.KernelIdeal.RetValue

end
-- ==== Proof.RefAt.lean ====
/-
  The reference's queries, keys and values, chunk by chunk, read at an index: entry `(s, B, h, j, e)` of each is an entry of
  the argument (rotated, for queries and keys) at the token the direction of batch entry `B` reads at position `128 s + j`.
-/
module

public import proofs.«01_k».proof.Proof.Gen.ReferenceIdeal.Step
public import proofs.«01_k».proof.Proof.RetSpec
public import Idealize.ShloMosaic.Lib.Pointwise

@[expose] public section

set_option maxRecDepth 16384

noncomputable section

namespace Cert.ReferenceIdeal.RetValue

open Idealize.ShloMosaic
open Cert.ReferenceIdeal Cert.ReferenceIdeal.Gen Cert.ReferenceIdeal.Step Cert.Retention

variable (u : (⟨S17408x16384, .f32⟩ : BufTy).Contents (Elt Ideal))

theorem A0_at (b : Fin 4) (p : Fin 4352) (n : Fin 16384) :
    A_main_v0 u (ix3 b p n) = u (ix2 ⟨b.val * 4352 + p.val, by omega⟩ n) := by
  unfold A_main_v0
  pointwise

/-- The queries before rotation. -/
theorem A13_at (b : Fin 4) (p : Fin 4352) (h : Fin 8) (e : Fin 256) :
    A_main_v13 u (ix4 b p h e) = u (ix2 ⟨b.val * 4352 + p.val, by omega⟩ ⟨h.val * 256 + e.val, by omega⟩) := by
  have h1 : A_main_v13 u (ix4 b p h e) = A_main_v12 u (ix3 b p ⟨h.val * 256 + e.val, by omega⟩) := by
    unfold A_main_v13
    generalize A_main_v12 u = x
    pointwise
  have h2 : A_main_v12 u (ix3 b p ⟨h.val * 256 + e.val, by omega⟩) = A_main_v0 u (ix3 b p ⟨h.val * 256 + e.val, by omega⟩) := by
    unfold A_main_v12
    generalize A_main_v0 u = x
    pointwise
  rw [h1, h2, A0_at]

/-- The keys before rotation. -/
theorem A42_at (b : Fin 4) (p : Fin 4352) (h : Fin 8) (e : Fin 256) :
    A_main_v42 u (ix4 b p h e) = u (ix2 ⟨b.val * 4352 + p.val, by omega⟩ ⟨2048 + (h.val * 256 + e.val), by omega⟩) := by
  have h1 : A_main_v42 u (ix4 b p h e) = A_main_v41 u (ix3 b p ⟨h.val * 256 + e.val, by omega⟩) := by
    unfold A_main_v42
    generalize A_main_v41 u = x
    pointwise
  have h2 : A_main_v41 u (ix3 b p ⟨h.val * 256 + e.val, by omega⟩) = A_main_v0 u (ix3 b p ⟨2048 + (h.val * 256 + e.val), by omega⟩) := by
    unfold A_main_v41
    generalize A_main_v0 u = x
    pointwise
  rw [h1, h2, A0_at]

/-- The values. -/
theorem A73_at (b : Fin 4) (p : Fin 4352) (h : Fin 8) (w : Fin 512) :
    A_main_v73 u (ix4 b p h w) = u (ix2 ⟨b.val * 4352 + p.val, by omega⟩ ⟨4096 + (h.val * 512 + w.val), by omega⟩) := by
  have h1 : A_main_v73 u (ix4 b p h w) = A_main_v72 u (ix3 b p ⟨h.val * 512 + w.val, by omega⟩) := by
    unfold A_main_v73
    generalize A_main_v72 u = x
    pointwise
  have h2 : A_main_v72 u (ix3 b p ⟨h.val * 512 + w.val, by omega⟩) = A_main_v0 u (ix3 b p ⟨4096 + (h.val * 512 + w.val), by omega⟩) := by
    unfold A_main_v72
    generalize A_main_v0 u = x
    pointwise
  rw [h1, h2, A0_at]

/-- The rotated queries. -/
theorem A40_at (b : Fin 4) (p : Fin 4352) (h : Fin 8) (e : Fin 256) :
    A_main_v40 u (ix4 b p h e)
      = rotAt (fun k => A_main_v13 u (ix4 b p h k)) (fun k => K_main_v24 (F := Ideal) (ix2 p k)) (fun k => K_main_v26 (F := Ideal) (ix2 p k)) e := by
  unfold A_main_v40 A_main_v39 A_main_v38 A_main_v36 A_main_v34 A_main_v33 A_main_v31 A_main_v29 A_main_v28 K_main_v30 K_main_v32 K_main_v35 K_main_v37 K_main_v25 K_main_v27
  generalize A_main_v13 u = x
  generalize K_main_v24 (F := Ideal) = cs
  generalize K_main_v26 (F := Ideal) = sn
  pointwise
  unfold rotAt
  split
  · rfl
  · rename_i h'
    have e' : (⟨128 + (e.val - 128), by omega⟩ : Fin 256) = e := Fin.ext (by show 128 + (e.val - 128) = e.val; omega)
    rw [e']

/-- The rotated and scaled keys. -/
theorem A71_at (b : Fin 4) (p : Fin 4352) (h : Fin 8) (e : Fin 256) :
    A_main_v71 u (ix4 b p h e)
      = rotAt (fun k => A_main_v42 u (ix4 b p h k)) (fun k => K_main_v53 (F := Ideal) (ix2 p k)) (fun k => K_main_v55 (F := Ideal) (ix2 p k)) e
        * Ideal.ofBits .f32 0x3D800000#32 := by
  unfold A_main_v71 K_main_v70 K_main_cst_10 A_main_v69 A_main_v68 A_main_v67 A_main_v65 A_main_v63 A_main_v62 A_main_v60 A_main_v58 A_main_v57 K_main_v59 K_main_v61 K_main_v64 K_main_v66 K_main_v54 K_main_v56
  generalize A_main_v42 u = x
  generalize K_main_v53 (F := Ideal) = cs
  generalize K_main_v55 (F := Ideal) = sn
  pointwise
  unfold rotAt
  split
  · rfl
  · rename_i h'
    have e' : (⟨128 + (e.val - 128), by omega⟩ : Fin 256) = e := Fin.ext (by show 128 + (e.val - 128) = e.val; omega)
    rw [e']

/-- The queries read backward: position `p` holds the token at `back p`. -/
theorem v81_at (b : Fin 4) (h : Fin 8) (p : Fin 4352) (e : Fin 256) :
    A_main_v81 u (ix4 b h p e) = A_main_v74 u (ix4 b h (back p) e) := by
  unfold A_main_v81 A_main_v80 A_main_v79 A_main_v78 A_main_v77
  generalize A_main_v74 u = x
  pointwise
  unfold back
  by_cases hp : p.val < 256
  · rw [dif_pos hp, dif_pos hp]
    exact congrArg (fun q => x (ix4 b h q e)) (Fin.ext (by show 256 - (p.val + 1) = 255 - p.val; omega))
  · rw [dif_neg hp, dif_neg hp]
    exact congrArg (fun q => x (ix4 b h q e)) (Fin.ext (by show 256 + (4096 - (p.val - 256 + 1)) = 4607 - p.val; omega))

/-- Batch entries 0 to 3 hold the forward queries, 4 to 7 the backward ones. -/
theorem v82_at (B : Fin 8) (h : Fin 8) (p : Fin 4352) (e : Fin 256) :
    A_main_v82 u (ix4 B h p e) = if hb : B.val < 4 then A_main_v74 u (ix4 ⟨B.val, hb⟩ h p e)
      else A_main_v81 u (ix4 ⟨B.val - 4, by omega⟩ h p e) := by
  unfold A_main_v82
  generalize A_main_v74 u = x
  generalize A_main_v81 u = y
  pointwise

theorem v74_at (b : Fin 4) (h : Fin 8) (p : Fin 4352) (e : Fin 256) :
    A_main_v74 u (ix4 b h p e) = A_main_v40 u (ix4 b p h e) := by
  unfold A_main_v74
  generalize A_main_v40 u = x
  pointwise

/-- Position `128 s + j` lies in chunk `s` at place `j`. -/
theorem v135_at (s : Fin 34) (B : Fin 8) (h : Fin 8) (j : Fin 128) (e : Fin 256) :
    A_main_v135 u (ix5 B h s j e) = A_main_v82 u (ix4 B h ⟨s.val * 128 + j.val, by omega⟩ e) := by
  unfold A_main_v135
  generalize A_main_v82 u = x
  pointwise

/-- Chunk `s`, place `j` of the queries in direction `d` of sequence `b`. -/
theorem v136_at (s : Fin 34) (d : Fin 2) (b : Fin 4) (h : Fin 8) (j : Fin 128) (e : Fin 256) :
    A_main_v136 u (ix5 s (entry d b) h j e) = A_main_v40 u (ix4 b (tok d ⟨s.val * 128 + j.val, by omega⟩) h e) := by
  have h1 : A_main_v136 u (ix5 s (entry d b) h j e) = A_main_v135 u (ix5 (entry d b) h s j e) := by
    unfold A_main_v136
    generalize A_main_v135 u = x
    exact transpose_apply _ _ _ (ix5 s (entry d b) h j e) (ix5 (entry d b) h s j e)
      (fun a => match a with | ⟨0, _⟩ => rfl | ⟨1, _⟩ => rfl | ⟨2, _⟩ => rfl | ⟨3, _⟩ => rfl | ⟨4, _⟩ => rfl)
  rw [h1, v135_at, v82_at]
  obtain ⟨d, hd⟩ := d
  by_cases h0 : d = 0
  · subst h0
    have hB : (entry ⟨0, hd⟩ b).val < 4 := by show 0 * 4 + b.val < 4; omega
    rw [dif_pos hB, v74_at]
    exact congrArg (fun q => A_main_v40 u (ix4 q ⟨s.val * 128 + j.val, by omega⟩ h e)) (Fin.ext (by show 0 * 4 + b.val = b.val; omega))
  · have h1 : d = 1 := by omega
    subst h1
    have hB : ¬ (entry ⟨1, hd⟩ b).val < 4 := by show ¬ 1 * 4 + b.val < 4; omega
    rw [dif_neg hB, v81_at, v74_at]
    exact congrArg (fun q => A_main_v40 u (ix4 q (back ⟨s.val * 128 + j.val, by omega⟩) h e)) (Fin.ext (by show 1 * 4 + b.val - 4 = b.val; omega))

/-- The keys read backward: position `p` holds the token at `back p`. -/
theorem v87_at (b : Fin 4) (h : Fin 8) (p : Fin 4352) (e : Fin 256) :
    A_main_v87 u (ix4 b h p e) = A_main_v75 u (ix4 b h (back p) e) := by
  unfold A_main_v87 A_main_v86 A_main_v85 A_main_v84 A_main_v83
  generalize A_main_v75 u = x
  pointwise
  unfold back
  by_cases hp : p.val < 256
  · rw [dif_pos hp, dif_pos hp]
    exact congrArg (fun q => x (ix4 b h q e)) (Fin.ext (by show 256 - (p.val + 1) = 255 - p.val; omega))
  · rw [dif_neg hp, dif_neg hp]
    exact congrArg (fun q => x (ix4 b h q e)) (Fin.ext (by show 256 + (4096 - (p.val - 256 + 1)) = 4607 - p.val; omega))

/-- Batch entries 0 to 3 hold the forward keys, 4 to 7 the backward ones. -/
theorem v88_at (B : Fin 8) (h : Fin 8) (p : Fin 4352) (e : Fin 256) :
    A_main_v88 u (ix4 B h p e) = if hb : B.val < 4 then A_main_v75 u (ix4 ⟨B.val, hb⟩ h p e)
      else A_main_v87 u (ix4 ⟨B.val - 4, by omega⟩ h p e) := by
  unfold A_main_v88
  generalize A_main_v75 u = x
  generalize A_main_v87 u = y
  pointwise

theorem v75_at (b : Fin 4) (h : Fin 8) (p : Fin 4352) (e : Fin 256) :
    A_main_v75 u (ix4 b h p e) = A_main_v71 u (ix4 b p h e) := by
  unfold A_main_v75
  generalize A_main_v71 u = x
  pointwise

/-- Position `128 s + j` lies in chunk `s` at place `j`. -/
theorem v137_at (s : Fin 34) (B : Fin 8) (h : Fin 8) (j : Fin 128) (e : Fin 256) :
    A_main_v137 u (ix5 B h s j e) = A_main_v88 u (ix4 B h ⟨s.val * 128 + j.val, by omega⟩ e) := by
  unfold A_main_v137
  generalize A_main_v88 u = x
  pointwise

/-- Chunk `s`, place `j` of the keys in direction `d` of sequence `b`. -/
theorem v138_at (s : Fin 34) (d : Fin 2) (b : Fin 4) (h : Fin 8) (j : Fin 128) (e : Fin 256) :
    A_main_v138 u (ix5 s (entry d b) h j e) = A_main_v71 u (ix4 b (tok d ⟨s.val * 128 + j.val, by omega⟩) h e) := by
  have h1 : A_main_v138 u (ix5 s (entry d b) h j e) = A_main_v137 u (ix5 (entry d b) h s j e) := by
    unfold A_main_v138
    generalize A_main_v137 u = x
    exact transpose_apply _ _ _ (ix5 s (entry d b) h j e) (ix5 (entry d b) h s j e)
      (fun a => match a with | ⟨0, _⟩ => rfl | ⟨1, _⟩ => rfl | ⟨2, _⟩ => rfl | ⟨3, _⟩ => rfl | ⟨4, _⟩ => rfl)
  rw [h1, v137_at, v88_at]
  obtain ⟨d, hd⟩ := d
  by_cases h0 : d = 0
  · subst h0
    have hB : (entry ⟨0, hd⟩ b).val < 4 := by show 0 * 4 + b.val < 4; omega
    rw [dif_pos hB, v75_at]
    exact congrArg (fun q => A_main_v71 u (ix4 q ⟨s.val * 128 + j.val, by omega⟩ h e)) (Fin.ext (by show 0 * 4 + b.val = b.val; omega))
  · have h1 : d = 1 := by omega
    subst h1
    have hB : ¬ (entry ⟨1, hd⟩ b).val < 4 := by show ¬ 1 * 4 + b.val < 4; omega
    rw [dif_neg hB, v87_at, v75_at]
    exact congrArg (fun q => A_main_v71 u (ix4 q (back ⟨s.val * 128 + j.val, by omega⟩) h e)) (Fin.ext (by show 1 * 4 + b.val - 4 = b.val; omega))

/-- The values read backward: position `p` holds the token at `back p`. -/
theorem v93_at (b : Fin 4) (h : Fin 8) (p : Fin 4352) (w : Fin 512) :
    A_main_v93 u (ix4 b h p w) = A_main_v76 u (ix4 b h (back p) w) := by
  unfold A_main_v93 A_main_v92 A_main_v91 A_main_v90 A_main_v89
  generalize A_main_v76 u = x
  pointwise
  unfold back
  by_cases hp : p.val < 256
  · rw [dif_pos hp, dif_pos hp]
    exact congrArg (fun q => x (ix4 b h q w)) (Fin.ext (by show 256 - (p.val + 1) = 255 - p.val; omega))
  · rw [dif_neg hp, dif_neg hp]
    exact congrArg (fun q => x (ix4 b h q w)) (Fin.ext (by show 256 + (4096 - (p.val - 256 + 1)) = 4607 - p.val; omega))

/-- Batch entries 0 to 3 hold the forward values, 4 to 7 the backward ones. -/
theorem v94_at (B : Fin 8) (h : Fin 8) (p : Fin 4352) (w : Fin 512) :
    A_main_v94 u (ix4 B h p w) = if hb : B.val < 4 then A_main_v76 u (ix4 ⟨B.val, hb⟩ h p w)
      else A_main_v93 u (ix4 ⟨B.val - 4, by omega⟩ h p w) := by
  unfold A_main_v94
  generalize A_main_v76 u = x
  generalize A_main_v93 u = y
  pointwise

theorem v76_at (b : Fin 4) (h : Fin 8) (p : Fin 4352) (w : Fin 512) :
    A_main_v76 u (ix4 b h p w) = A_main_v73 u (ix4 b p h w) := by
  unfold A_main_v76
  generalize A_main_v73 u = x
  pointwise

/-- Position `128 s + j` lies in chunk `s` at place `j`. -/
theorem v139_at (s : Fin 34) (B : Fin 8) (h : Fin 8) (j : Fin 128) (w : Fin 512) :
    A_main_v139 u (ix5 B h s j w) = A_main_v94 u (ix4 B h ⟨s.val * 128 + j.val, by omega⟩ w) := by
  unfold A_main_v139
  generalize A_main_v94 u = x
  pointwise

/-- Chunk `s`, place `j` of the values in direction `d` of sequence `b`. -/
theorem v140_at (s : Fin 34) (d : Fin 2) (b : Fin 4) (h : Fin 8) (j : Fin 128) (w : Fin 512) :
    A_main_v140 u (ix5 s (entry d b) h j w) = A_main_v73 u (ix4 b (tok d ⟨s.val * 128 + j.val, by omega⟩) h w) := by
  have h1 : A_main_v140 u (ix5 s (entry d b) h j w) = A_main_v139 u (ix5 (entry d b) h s j w) := by
    unfold A_main_v140
    generalize A_main_v139 u = x
    exact transpose_apply _ _ _ (ix5 s (entry d b) h j w) (ix5 (entry d b) h s j w)
      (fun a => match a with | ⟨0, _⟩ => rfl | ⟨1, _⟩ => rfl | ⟨2, _⟩ => rfl | ⟨3, _⟩ => rfl | ⟨4, _⟩ => rfl)
  rw [h1, v139_at, v94_at]
  obtain ⟨d, hd⟩ := d
  by_cases h0 : d = 0
  · subst h0
    have hB : (entry ⟨0, hd⟩ b).val < 4 := by show 0 * 4 + b.val < 4; omega
    rw [dif_pos hB, v76_at]
    exact congrArg (fun q => A_main_v73 u (ix4 q ⟨s.val * 128 + j.val, by omega⟩ h w)) (Fin.ext (by show 0 * 4 + b.val = b.val; omega))
  · have h1 : d = 1 := by omega
    subst h1
    have hB : ¬ (entry ⟨1, hd⟩ b).val < 4 := by show ¬ 1 * 4 + b.val < 4; omega
    rw [dif_neg hB, v93_at, v76_at]
    exact congrArg (fun q => A_main_v73 u (ix4 q (back ⟨s.val * 128 + j.val, by omega⟩) h w)) (Fin.ext (by show 1 * 4 + b.val - 4 = b.val; omega))

end Cert.ReferenceIdeal.RetValue

end
-- ==== Proof.RetInputs.lean ====
/-
  What the kernel's input blocks hold at the grid point of sequence `b`, head `h`, direction `d`, chunk `c`: the reference's
  rotated queries and keys, its values and its decay tables, the places mirrored in the backward direction.
-/
module

public import proofs.«01_k».proof.Proof.RetIndex
public import proofs.«01_k».proof.Proof.RetTableAt
public import proofs.«01_k».proof.Proof.RetBlockAt
public import proofs.«01_k».proof.Proof.RefAt
public import Idealize.ShloMosaic.Lib.Pipeline.ValueKit

@[expose] public section

set_option maxRecDepth 16384

noncomputable section

namespace Cert.KernelIdeal.RetValue

open Idealize.ShloMosaic Idealize.ShloMosaic.TcCoe Idealize.SL.Sem Idealize.ShloMosaic.StableHlo
open Cert.KernelIdeal Cert.KernelIdeal.Gen Cert.Retention
open Cert.ReferenceIdeal.Step Cert.ReferenceIdeal.RetValue

/-- The position in the grid of sequence `b`, head `h`, direction `d`, chunk `c`. -/
def num (b : Fin 4) (h : Fin 8) (d : Fin 2) (c : ℕ) : ℕ := ((b.val * 8 + h.val) * 2 + d.val) * 34 + c

/-- The grid point of sequence `b`, head `h`, direction `d`, chunk `c`. -/
def pt (b : Fin 4) (h : Fin 8) (d : Fin 2) (c : Fin 34) : Fin cfg0.N :=
  ⟨num b h d c.val, by show _ < grid0.N; rw [Gen.N_0]; unfold num; omega⟩

section
variable (b : Fin 4) (h : Fin 8) (d : Fin 2) (c : Fin 34)

theorem pt_val : (pt b h d c).val = ((b.val * 8 + h.val) * 2 + d.val) * 34 + c.val := rfl
theorem pt_b : (pt b h d c).val / 544 = b.val := by rw [pt_val]; omega
theorem pt_h : (pt b h d c).val / 68 % 8 = h.val := by rw [pt_val]; omega
theorem pt_d : (pt b h d c).val / 34 % 2 = d.val := by rw [pt_val]; omega
theorem pt_c : (pt b h d c).val % 34 = c.val := by rw [pt_val]; omega

/-- The token at row `i` of the point's chunk is the one the direction visits at the mirrored place of chunk `c`. -/
theorem token (i : Fin 128) :
    128 * chunkAt (pt b h d c).val + i.val = (tok d ⟨c.val * 128 + (fl d i).val, by omega⟩).val := by
  unfold chunkAt
  rw [pt_d, pt_c]
  unfold tok fl
  by_cases hd : d.val = 0
  · simp only [if_pos hd]; omega
  · simp only [if_neg hd]
    unfold back
    by_cases hc : c.val < 2
    · have hp : c.val * 128 + (i.rev).val < 256 := by omega
      have hr := Fin.val_rev i
      simp only [if_pos hc]
      rw [dif_pos hp]
      show _ = 255 - (c.val * 128 + i.rev.val)
      omega
    · have hp : ¬c.val * 128 + (i.rev).val < 256 := by omega
      have hr := Fin.val_rev i
      simp only [if_neg hc]
      rw [dif_neg hp]
      show _ = 4607 - (c.val * 128 + i.rev.val)
      omega
end

section
variable (m : (ℓ : Loc nD τ sig) → Buf (Elt Ideal) ℓ) (q : Dev nD)
variable (b : Fin 4) (h : Fin 8) (d : Fin 2) (c : Fin 34)

/-- The argument. -/
abbrev arg : (⟨S17408x16384, .f32⟩ : BufTy).Contents (Elt Ideal) := m ((q.tc : Thread nD τ).loc main_arg0)

/-- The queries of the chunk. -/
theorem qBlock_at (i : Fin 128) (e : Fin 256) :
    iblk m q 0 (pt b h d c) (ix2 i e) = A_main_v13 (arg m q) (ix4 b (tok d ⟨c.val * 128 + (fl d i).val, by omega⟩) h e) := by
  rw [A13_at]
  have h0 := index_q (pt b h d c)
  have ht := token b h d c i
  rw [pt_b, pt_h] at h0
  blk_simp [iblk]
  refine (congrFun (V_main_arg0 m q) _).trans (congrArg _ ?_)
  funext a
  refine Fin.ext ?_
  match a with
  | ⟨0, _⟩ => blk_simp; show _ = b.val * 4352 + (tok d ⟨c.val * 128 + (fl d i).val, by omega⟩).val; omega
  | ⟨1, _⟩ => blk_simp; show _ = h.val * 256 + e.val; omega

/-- The keys of the chunk. -/
theorem kBlock_at (j : Fin 128) (e : Fin 256) :
    iblk m q 1 (pt b h d c) (ix2 j e) = A_main_v42 (arg m q) (ix4 b (tok d ⟨c.val * 128 + (fl d j).val, by omega⟩) h e) := by
  rw [A42_at]
  have h0 := index_k (pt b h d c)
  have ht := token b h d c j
  rw [pt_b, pt_h] at h0
  blk_simp [iblk]
  refine (congrFun (V_main_arg0 m q) _).trans (congrArg _ ?_)
  funext a
  refine Fin.ext ?_
  match a with
  | ⟨0, _⟩ => blk_simp; show _ = b.val * 4352 + (tok d ⟨c.val * 128 + (fl d j).val, by omega⟩).val; omega
  | ⟨1, _⟩ => blk_simp; show _ = 2048 + (h.val * 256 + e.val); omega

/-- The values of the chunk. -/
theorem vBlock_at (j : Fin 128) (w : Fin 512) :
    iblk m q 2 (pt b h d c) (ix2 j w) = A_main_v73 (arg m q) (ix4 b (tok d ⟨c.val * 128 + (fl d j).val, by omega⟩) h w) := by
  rw [A73_at]
  have h0 := index_v (pt b h d c)
  have ht := token b h d c j
  rw [pt_b, pt_h] at h0
  blk_simp [iblk]
  refine (congrFun (V_main_arg0 m q) _).trans (congrArg _ ?_)
  funext a
  refine Fin.ext ?_
  match a with
  | ⟨0, _⟩ => blk_simp; show _ = b.val * 4352 + (tok d ⟨c.val * 128 + (fl d j).val, by omega⟩).val; omega
  | ⟨1, _⟩ => blk_simp; show _ = 4096 + (h.val * 512 + w.val); omega

/-- The cosines of the angles of the chunk. -/
theorem cosBlock_at (i : Fin 128) (e : Fin 128) :
    iblk m q 3 (pt b h d c) (ix2 i e) = cosTab (F := Ideal) (ix2 (tok d ⟨c.val * 128 + (fl d i).val, by omega⟩) e) := by
  have h0 := index_cos (pt b h d c)
  have ht := token b h d c i
  blk_simp [iblk]
  refine (congrFun (V_v11 m q) _).trans (congrArg _ ?_)
  funext a
  refine Fin.ext ?_
  match a with
  | ⟨0, _⟩ => blk_simp; show _ = (tok d ⟨c.val * 128 + (fl d i).val, by omega⟩).val; omega
  | ⟨1, _⟩ => blk_simp; show _ = e.val; omega

/-- The sines of the angles of the chunk. -/
theorem sinBlock_at (i : Fin 128) (e : Fin 128) :
    iblk m q 4 (pt b h d c) (ix2 i e) = sinTab (F := Ideal) (ix2 (tok d ⟨c.val * 128 + (fl d i).val, by omega⟩) e) := by
  have h0 := index_sin (pt b h d c)
  have ht := token b h d c i
  blk_simp [iblk]
  refine (congrFun (V_v12 m q) _).trans (congrArg _ ?_)
  funext a
  refine Fin.ext ?_
  match a with
  | ⟨0, _⟩ => blk_simp; show _ = (tok d ⟨c.val * 128 + (fl d i).val, by omega⟩).val; omega
  | ⟨1, _⟩ => blk_simp; show _ = e.val; omega

/-- The mask of the head and direction. -/
theorem maskBlock (i j : Fin 128) :
    iblk m q 5 (pt b h d c) (ix4 0 0 i j) = maskBoth (F := Ideal) (ix4 h d i j) := by
  have h0 := index_mask (pt b h d c)
  rw [pt_h, pt_d] at h0
  blk_simp [iblk]
  refine (congrFun (V_v41 m q) _).trans (congrArg _ ?_)
  funext a
  refine Fin.ext ?_
  match a with
  | ⟨0, _⟩ => blk_simp; show _ = h.val; omega
  | ⟨1, _⟩ => blk_simp; show _ = d.val; omega
  | ⟨2, _⟩ => blk_simp; show _ = i.val; omega
  | ⟨3, _⟩ => blk_simp; show _ = j.val; omega

/-- What the places of a chunk still see of the state. -/
theorem seenBlock (i : Fin 128) (e : Fin 256) :
    iblk m q 6 (pt b h d c) (ix4 0 0 i e) = alongRow (twoWays (seen (F := Ideal))) (ix4 h d i e) := by
  have h0 := index_seen (pt b h d c)
  rw [pt_h, pt_d] at h0
  blk_simp [iblk]
  refine (congrFun (V_v59 m q) _).trans (congrArg _ ?_)
  funext a
  refine Fin.ext ?_
  match a with
  | ⟨0, _⟩ => blk_simp; show _ = h.val; omega
  | ⟨1, _⟩ => blk_simp; show _ = d.val; omega
  | ⟨2, _⟩ => blk_simp; show _ = i.val; omega
  | ⟨3, _⟩ => blk_simp; show _ = e.val; omega

/-- What is left of the places at the chunk's end. -/
theorem leftBlock (j : Fin 128) (e : Fin 256) :
    iblk m q 7 (pt b h d c) (ix4 0 0 j e) = alongRow (twoWays (left (F := Ideal))) (ix4 h d j e) := by
  have h0 := index_left (pt b h d c)
  rw [pt_h, pt_d] at h0
  blk_simp [iblk]
  refine (congrFun (V_v77 m q) _).trans (congrArg _ ?_)
  funext a
  refine Fin.ext ?_
  match a with
  | ⟨0, _⟩ => blk_simp; show _ = h.val; omega
  | ⟨1, _⟩ => blk_simp; show _ = d.val; omega
  | ⟨2, _⟩ => blk_simp; show _ = j.val; omega
  | ⟨3, _⟩ => blk_simp; show _ = e.val; omega

/-- The state's decay over a chunk. -/
theorem decayBlock (w : Fin 512) :
    iblk m q 8 (pt b h d c) (ix3 0 0 w) = chunkDecay (F := Ideal) (ix3 h 0 w) := by
  have h0 := index_decay (pt b h d c)
  rw [pt_h] at h0
  blk_simp [iblk]
  refine (congrFun (V_v85 m q) _).trans (congrArg _ ?_)
  funext a
  refine Fin.ext ?_
  match a with
  | ⟨0, _⟩ => blk_simp; show _ = h.val; omega
  | ⟨1, _⟩ => blk_simp; show _ = 0; omega
  | ⟨2, _⟩ => blk_simp; show _ = w.val; omega

/-- The rotated queries are the reference's. -/
theorem q_at (i : Fin 128) (e : Fin 256) :
    k0_pay6 (iblk m q 3 (pt b h d c)) (iblk m q 4 (pt b h d c)) (iblk m q 0 (pt b h d c)) (ix2 i e)
      = A_main_v136 (arg m q) (ix5 c (entry d b) h (fl d i) e) := by
  refine (pay6_at (iblk m q 3 (pt b h d c)) (iblk m q 4 (pt b h d c)) (iblk m q 0 (pt b h d c)) i e).trans ?_
  rw [v136_at, A40_at]
  congr 1
  · exact funext fun k => qBlock_at m q b h d c i k
  · exact funext fun k => (cosBlock_at m q b h d c i k).trans (cos_query _ k).symm
  · exact funext fun k => (sinBlock_at m q b h d c i k).trans (sin_query _ k).symm

/-- The rotated and scaled keys are the reference's. -/
theorem k_at (j : Fin 128) (e : Fin 256) :
    k0_pay7 (iblk m q 3 (pt b h d c)) (iblk m q 4 (pt b h d c)) (iblk m q 1 (pt b h d c)) (ix2 j e)
      = A_main_v138 (arg m q) (ix5 c (entry d b) h (fl d j) e) := by
  refine (pay7_at (iblk m q 3 (pt b h d c)) (iblk m q 4 (pt b h d c)) (iblk m q 1 (pt b h d c)) j e).trans ?_
  rw [v138_at, A71_at]
  congr 1
  refine (pay6_at (iblk m q 3 (pt b h d c)) (iblk m q 4 (pt b h d c)) (iblk m q 1 (pt b h d c)) j e).trans ?_
  congr 1
  · exact funext fun k => kBlock_at m q b h d c j k
  · exact funext fun k => (cosBlock_at m q b h d c j k).trans (cos_key _ k).symm
  · exact funext fun k => (sinBlock_at m q b h d c j k).trans (sin_key _ k).symm

/-- The values are the reference's. -/
theorem v_at (j : Fin 128) (w : Fin 512) :
    iblk m q 2 (pt b h d c) (ix2 j w) = A_main_v140 (arg m q) (ix5 c (entry d b) h (fl d j) w) :=
  (vBlock_at m q b h d c j w).trans (v140_at _ c d b h (fl d j) w).symm

/-- The mask is the reference's. -/
theorem mask_block_at (i j : Fin 128) :
    iblk m q 5 (pt b h d c) (ix4 0 0 i j) = K_main_v112 (F := Ideal) (ix3 h (fl d i) (fl d j)) :=
  (maskBlock m q b h d c i j).trans (maskBoth_at h d i j)

/-- What a place still sees of the state is the reference's number. -/
theorem seen_block_at (i : Fin 128) (e : Fin 256) :
    iblk m q 6 (pt b h d c) (ix4 0 0 i e) = K_main_v121 (F := Ideal) (ix3 h (fl d i) 0) :=
  (seenBlock m q b h d c i e).trans ((twoWays_at _ h d i e).trans (seen_at h (fl d i)))

/-- What is left of a place at the chunk's end is the reference's number. -/
theorem left_block_at (j : Fin 128) (e : Fin 256) :
    iblk m q 7 (pt b h d c) (ix4 0 0 j e) = K_main_v130 (F := Ideal) (ix3 h (fl d j) 0) :=
  (leftBlock m q b h d c j e).trans ((twoWays_at _ h d j e).trans (left_at h (fl d j)))

/-- The state's decay is the reference's number. -/
theorem decay_block_at (w : Fin 512) : iblk m q 8 (pt b h d c) (ix3 0 0 w) = K_main_v134 (F := Ideal) (ix3 h 0 0) :=
  (decayBlock m q b h d c w).trans (chunkDecay_at h w)
end

end Cert.KernelIdeal.RetValue

end
-- ==== Proof.RefEntry.lean ====
/-
  What the reference's preparing operations leave in the buffers of the queries, keys and values: the closed terms of
  the argument, one joined array at a time.
-/
module

public import proofs.«01_k».proof.Proof.Gen.ReferenceIdeal.Run
public import proofs.«01_k».proof.Proof.Gen.ReferenceIdeal.Step
public import Idealize.ShloMosaic.Lib.StableHlo.ReadAt

@[expose] public section

set_option maxRecDepth 16384

noncomputable section

namespace Cert.ReferenceIdeal.RetValue

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]
variable {W : Valuation τ sig (Elt F)} {u : (⟨S17408x16384, .f32⟩ : BufTy).Contents (Elt F)}

/-- The ramp without its last entry. -/
theorem ramp0_part (h0 : W (Proc.devRef .tc main_cst_2) = K_main_cst_2 (F := F)) (h1 : W (Proc.devRef .tc main_cst_3) = K_main_cst_3 (F := F)) :
    upto hostOps0_1 W 20 (Proc.devRef .tc main_call0_v15) = K_main_call0_v15 (F := F) := by
  after_reads_simp
  rw [h0, h1]
  rfl

/-- The ramp's last entry. -/
theorem ramp0_last (h0 : W (Proc.devRef .tc main_cst_2) = K_main_cst_2 (F := F)) (h1 : W (Proc.devRef .tc main_cst_3) = K_main_cst_3 (F := F)) :
    upto hostOps0_1 W 20 (Proc.devRef .tc main_call0_v16) = K_main_call0_v16 (F := F) := by
  after_reads_simp
  rw [h1]
  rfl

/-- The ramp from 0 to 1 in 128 steps. -/
theorem ramp0 (h0 : W (Proc.devRef .tc main_cst_2) = K_main_cst_2 (F := F)) (h1 : W (Proc.devRef .tc main_cst_3) = K_main_cst_3 (F := F)) :
    after hostOps0_1 W (Proc.devRef .tc main_v14) = K_main_v14 (F := F) := by
  after_reads_simp
  rw [ramp0_part h0 h1, ramp0_last h0 h1]
  rfl

/-- The ramp without its last entry. -/
theorem ramp1_part (h0 : W (Proc.devRef .tc main_cst_6) = K_main_cst_6 (F := F)) (h1 : W (Proc.devRef .tc main_cst_7) = K_main_cst_7 (F := F)) :
    upto hostOps0_3 W 20 (Proc.devRef .tc main_call1_v15) = K_main_call1_v15 (F := F) := by
  after_reads_simp
  rw [h0, h1]
  rfl

/-- The ramp's last entry. -/
theorem ramp1_last (h0 : W (Proc.devRef .tc main_cst_6) = K_main_cst_6 (F := F)) (h1 : W (Proc.devRef .tc main_cst_7) = K_main_cst_7 (F := F)) :
    upto hostOps0_3 W 20 (Proc.devRef .tc main_call1_v16) = K_main_call1_v16 (F := F) := by
  after_reads_simp
  rw [h1]
  rfl

/-- The ramp from 0 to 1 in 128 steps. -/
theorem ramp1 (h0 : W (Proc.devRef .tc main_cst_6) = K_main_cst_6 (F := F)) (h1 : W (Proc.devRef .tc main_cst_7) = K_main_cst_7 (F := F)) :
    after hostOps0_3 W (Proc.devRef .tc main_v43) = K_main_v43 (F := F) := by
  after_reads_simp
  rw [ramp1_part h0 h1, ramp1_last h0 h1]
  rfl

/-- A half of the turned queries. -/
theorem query_v34 (h13 : W (Proc.devRef .tc main_v13) = A_main_v13 u) (h14 : W (Proc.devRef .tc main_v14) = K_main_v14 (F := F)) (h11 : W (Proc.devRef .tc main_v11) = K_main_v11 (F := F)) :
    upto hostOps0_2 W 27 (Proc.devRef .tc main_v34) = A_main_v34 u := by
  after_reads_simp
  rw [h13, h14, h11]
  rfl

/-- A half of the turned queries. -/
theorem query_v39 (h13 : W (Proc.devRef .tc main_v13) = A_main_v13 u) (h14 : W (Proc.devRef .tc main_v14) = K_main_v14 (F := F)) (h11 : W (Proc.devRef .tc main_v11) = K_main_v11 (F := F)) :
    upto hostOps0_2 W 27 (Proc.devRef .tc main_v39) = A_main_v39 u := by
  after_reads_simp
  rw [h13, h14, h11]
  rfl

/-- The turned queries. -/
theorem query (h13 : W (Proc.devRef .tc main_v13) = A_main_v13 u) (h14 : W (Proc.devRef .tc main_v14) = K_main_v14 (F := F)) (h11 : W (Proc.devRef .tc main_v11) = K_main_v11 (F := F)) :
    after hostOps0_2 W (Proc.devRef .tc main_v40) = A_main_v40 u := by
  after_reads_simp
  rw [query_v34 h13 h14 h11, query_v39 h13 h14 h11]
  rfl

/-- A half of the turned keys. -/
theorem key_v63 (h42 : W (Proc.devRef .tc main_v42) = A_main_v42 u) (h43 : W (Proc.devRef .tc main_v43) = K_main_v43 (F := F)) (h11 : W (Proc.devRef .tc main_v11) = K_main_v11 (F := F)) :
    upto hostOps0_4 W 27 (Proc.devRef .tc main_v63) = A_main_v63 u := by
  after_reads_simp
  rw [h42, h43, h11]
  rfl

/-- A half of the turned keys. -/
theorem key_v68 (h42 : W (Proc.devRef .tc main_v42) = A_main_v42 u) (h43 : W (Proc.devRef .tc main_v43) = K_main_v43 (F := F)) (h11 : W (Proc.devRef .tc main_v11) = K_main_v11 (F := F)) :
    upto hostOps0_4 W 27 (Proc.devRef .tc main_v68) = A_main_v68 u := by
  after_reads_simp
  rw [h42, h43, h11]
  rfl

/-- The short stretch turned round. -/
theorem queries_first (h40 : W (Proc.devRef .tc main_v40) = A_main_v40 u) :
    upto hostOps0_4 W 40 (Proc.devRef .tc main_v78) = A_main_v78 u := by
  after_reads_simp
  rw [h40]
  rfl

/-- The long stretch turned round. -/
theorem queries_rest (h40 : W (Proc.devRef .tc main_v40) = A_main_v40 u) :
    upto hostOps0_4 W 40 (Proc.devRef .tc main_v80) = A_main_v80 u := by
  after_reads_simp
  rw [h40]
  rfl

/-- The rows in their own order. -/
theorem queries_there (h40 : W (Proc.devRef .tc main_v40) = A_main_v40 u) :
    upto hostOps0_4 W 41 (Proc.devRef .tc main_v74) = A_main_v74 u := by
  after_reads_simp
  rw [h40]
  rfl

/-- The rows in the turned order. -/
theorem queries_back (h40 : W (Proc.devRef .tc main_v40) = A_main_v40 u) :
    upto hostOps0_4 W 41 (Proc.devRef .tc main_v81) = A_main_v81 u := by
  after_reads_simp
  rw [queries_first h40, queries_rest h40]
  rfl

/-- Both orders, one after the other. -/
theorem queries_joined (h40 : W (Proc.devRef .tc main_v40) = A_main_v40 u) :
    after hostOps0_4 W (Proc.devRef .tc main_v82) = A_main_v82 u := by
  after_reads_simp
  rw [queries_there h40, queries_back h40]
  rfl

/-- The short stretch turned round. -/
theorem keys_first (h42 : W (Proc.devRef .tc main_v42) = A_main_v42 u) (h43 : W (Proc.devRef .tc main_v43) = K_main_v43 (F := F)) (h11 : W (Proc.devRef .tc main_v11) = K_main_v11 (F := F)) :
    upto hostOps0_4 W 46 (Proc.devRef .tc main_v84) = A_main_v84 u := by
  after_reads_simp
  rw [key_v63 h42 h43 h11, key_v68 h42 h43 h11]
  rfl

/-- The long stretch turned round. -/
theorem keys_rest (h42 : W (Proc.devRef .tc main_v42) = A_main_v42 u) (h43 : W (Proc.devRef .tc main_v43) = K_main_v43 (F := F)) (h11 : W (Proc.devRef .tc main_v11) = K_main_v11 (F := F)) :
    upto hostOps0_4 W 46 (Proc.devRef .tc main_v86) = A_main_v86 u := by
  after_reads_simp
  rw [key_v63 h42 h43 h11, key_v68 h42 h43 h11]
  rfl

/-- The rows in their own order. -/
theorem keys_there (h42 : W (Proc.devRef .tc main_v42) = A_main_v42 u) (h43 : W (Proc.devRef .tc main_v43) = K_main_v43 (F := F)) (h11 : W (Proc.devRef .tc main_v11) = K_main_v11 (F := F)) :
    upto hostOps0_4 W 47 (Proc.devRef .tc main_v75) = A_main_v75 u := by
  after_reads_simp
  rw [key_v63 h42 h43 h11, key_v68 h42 h43 h11]
  rfl

/-- The rows in the turned order. -/
theorem keys_back (h42 : W (Proc.devRef .tc main_v42) = A_main_v42 u) (h43 : W (Proc.devRef .tc main_v43) = K_main_v43 (F := F)) (h11 : W (Proc.devRef .tc main_v11) = K_main_v11 (F := F)) :
    upto hostOps0_4 W 47 (Proc.devRef .tc main_v87) = A_main_v87 u := by
  after_reads_simp
  rw [keys_first h42 h43 h11, keys_rest h42 h43 h11]
  rfl

/-- Both orders, one after the other. -/
theorem keys_joined (h42 : W (Proc.devRef .tc main_v42) = A_main_v42 u) (h43 : W (Proc.devRef .tc main_v43) = K_main_v43 (F := F)) (h11 : W (Proc.devRef .tc main_v11) = K_main_v11 (F := F)) :
    after hostOps0_4 W (Proc.devRef .tc main_v88) = A_main_v88 u := by
  after_reads_simp
  rw [keys_there h42 h43 h11, keys_back h42 h43 h11]
  rfl

/-- The short stretch turned round. -/
theorem values_first (h0 : W (Proc.devRef .tc main_v0) = A_main_v0 u) :
    upto hostOps0_4 W 52 (Proc.devRef .tc main_v90) = A_main_v90 u := by
  after_reads_simp
  rw [h0]
  rfl

/-- The long stretch turned round. -/
theorem values_rest (h0 : W (Proc.devRef .tc main_v0) = A_main_v0 u) :
    upto hostOps0_4 W 52 (Proc.devRef .tc main_v92) = A_main_v92 u := by
  after_reads_simp
  rw [h0]
  rfl

/-- The rows in their own order. -/
theorem values_there (h0 : W (Proc.devRef .tc main_v0) = A_main_v0 u) :
    upto hostOps0_4 W 53 (Proc.devRef .tc main_v76) = A_main_v76 u := by
  after_reads_simp
  rw [h0]
  rfl

/-- The rows in the turned order. -/
theorem values_back (h0 : W (Proc.devRef .tc main_v0) = A_main_v0 u) :
    upto hostOps0_4 W 53 (Proc.devRef .tc main_v93) = A_main_v93 u := by
  after_reads_simp
  rw [values_first h0, values_rest h0]
  rfl

/-- Both orders, one after the other. -/
theorem values_joined (h0 : W (Proc.devRef .tc main_v0) = A_main_v0 u) :
    after hostOps0_4 W (Proc.devRef .tc main_v94) = A_main_v94 u := by
  after_reads_simp
  rw [values_there h0, values_back h0]
  rfl

/-- The joined array, cut into chunks. -/
theorem queries_chunked (h : W (Proc.devRef .tc main_v82) = A_main_v82 u) :
    after hostOps0_6 (after hostOps0_5 W) (Proc.devRef .tc main_v142_0) = A_main_v136 u := by
  after_reads_simp
  rw [h]
  rfl

/-- The joined array, cut into chunks. -/
theorem keys_chunked (h : W (Proc.devRef .tc main_v88) = A_main_v88 u) :
    after hostOps0_6 (after hostOps0_5 W) (Proc.devRef .tc main_v142_1) = A_main_v138 u := by
  after_reads_simp
  rw [h]
  rfl

/-- The joined array, cut into chunks. -/
theorem values_chunked (h : W (Proc.devRef .tc main_v94) = A_main_v94 u) :
    after hostOps0_6 (after hostOps0_5 W) (Proc.devRef .tc main_v142_2) = A_main_v140 u := by
  after_reads_simp
  rw [h]
  rfl

/-- The operations of the second ramp leave the turned queries as they are. -/
theorem query_kept : after hostOps0_3 W (Proc.devRef .tc main_v40) = W (Proc.devRef .tc main_v40) := by
  after_reads_simp

variable (m : (ℓ : Loc nD τ sig) → Buf (Elt F) ℓ) (c : Dev nD)

/-- The ramp of the queries' frequencies, at the end of its stretch of operations. -/
theorem at_ramp0 : after hostOps0_1 (after hostOps0 (launchContents m c)) (Proc.devRef .tc main_v14) = K_main_v14 (F := F) := by
  apply ramp0 <;> (after_reads_simp; rfl)

/-- The turned queries, at the end of their stretch of operations. -/
theorem at_query : after hostOps0_2 (after hostOps0_1 (after hostOps0 (launchContents m c))) (Proc.devRef .tc main_v40)
    = A_main_v40 (m ((c.tc : Thread nD τ).loc main_arg0)) := by
  refine query ?_ (at_ramp0 m c) ?_ <;> (after_reads_simp; rfl)

/-- The ramp of the keys' frequencies, at the end of its stretch of operations. -/
theorem at_ramp1 : after hostOps0_3 (after hostOps0_2 (after hostOps0_1 (after hostOps0 (launchContents m c)))) (Proc.devRef .tc main_v43)
    = K_main_v43 (F := F) := by
  apply ramp1 <;> (after_reads_simp; rfl)

/-- The queries of both orders, in chunks, as the loop is entered. -/
theorem entry_queries : entryContents preI m c (Proc.devRef .tc main_v142_0) = A_main_v136 (m ((c.tc : Thread nD τ).loc main_arg0)) := by
  simp only [entryContents, afterL_cons, afterL_nil]
  refine queries_chunked (queries_joined ?_)
  exact query_kept.trans (at_query m c)

/-- The keys of both orders, in chunks, as the loop is entered. -/
theorem entry_keys : entryContents preI m c (Proc.devRef .tc main_v142_1) = A_main_v138 (m ((c.tc : Thread nD τ).loc main_arg0)) := by
  simp only [entryContents, afterL_cons, afterL_nil]
  refine keys_chunked (keys_joined ?_ (at_ramp1 m c) ?_) <;> (after_reads_simp; rfl)

/-- The values of both orders, in chunks, as the loop is entered. -/
theorem entry_values : entryContents preI m c (Proc.devRef .tc main_v142_2) = A_main_v140 (m ((c.tc : Thread nD τ).loc main_arg0)) := by
  simp only [entryContents, afterL_cons, afterL_nil]
  refine values_chunked (values_joined ?_)
  after_reads_simp
  rfl

end Cert.ReferenceIdeal.RetValue

end
-- ==== Proof.RefRun.lean ====
/-
  The reference's run in the words of its step: before trip `k` the loop's buffers hold the `k`-th state of the sequence
  that starts from the prepared arguments and goes on by `step`, so the result is read off state 34.
-/
module

public import proofs.«01_k».proof.Proof.Gen.ReferenceIdeal.Run
public import proofs.«01_k».proof.Proof.Gen.ReferenceIdeal.Step
public import proofs.«01_k».proof.Proof.RefEntry

@[expose] public section

set_option maxRecDepth 16384

noncomputable section

namespace Cert.ReferenceIdeal.RetValue

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init K_main_v112 K_main_v121 K_main_v134 K_main_v130 R_main_v156)

variable {F : FTy → Type} [FloatOps F]

/-- The states of the recurrence over the chunks, from the argument `u`. -/
def states (u : (⟨S17408x16384, .f32⟩ : BufTy).Contents (Elt F)) : ℕ → State F
  | 0 => init u
  | n + 1 => step n (states u n)

/-- What the loop's buffers hold before trip `j`: the state `s`, the four decay tables, and the counter. -/
def AtTrip (V : Valuation τ sig (Elt F)) (s : State F) (j : ℕ) : Prop :=
  (V (Proc.devRef .tc main_v142_8) = s.main_v142_8 ∧ V (Proc.devRef .tc main_v142_9) = s.main_v142_9)
  ∧ (V (Proc.devRef .tc main_v142_0) = s.main_v142_0 ∧ V (Proc.devRef .tc main_v142_1) = s.main_v142_1
    ∧ V (Proc.devRef .tc main_v142_2) = s.main_v142_2)
  ∧ V (Proc.devRef .tc main_v142_7) = constantI S_ 32 (BitVec.ofNat 32 j)
  ∧ V (Proc.devRef .tc main_v142_3) = K_main_v112 (F := F) ∧ V (Proc.devRef .tc main_v142_4) = K_main_v121 (F := F)
  ∧ V (Proc.devRef .tc main_v142_5) = K_main_v134 (F := F) ∧ V (Proc.devRef .tc main_v142_6) = K_main_v130 (F := F)

variable {V : Valuation τ sig (Elt F)} {s : State F} {j : ℕ}

/-- One trip updates the recurrent state as `step` does. -/
theorem trip_state (h : AtTrip V s j) : step_main_v142_8 V = (step j s).main_v142_8 := by
  obtain ⟨⟨h8, h9⟩, ⟨h0, h1, h2⟩, h7, h3, h4, h5, h6⟩ := h
  unfold step_main_v142_8 res_main_while0b_v158 res_main_while0b_v159
  rw [h8, h1, h2, h5, h6, h7]
  rfl

/-- One trip updates the collected output as `step` does. -/
theorem trip_out (h : AtTrip V s j) : step_main_v142_9 V = (step j s).main_v142_9 := by
  obtain ⟨⟨h8, h9⟩, ⟨h0, h1, h2⟩, h7, h3, h4, h5, h6⟩ := h
  unfold step_main_v142_9 res_main_while0b_v157 res_main_while0b_v158 res_main_while0b_v159
  rw [h8, h9, h0, h1, h2, h3, h4, h7]
  rfl

/-- One trip counts one further. -/
theorem trip_count (h : V (Proc.devRef .tc main_v142_7) = constantI S_ 32 (BitVec.ofNat 32 j)) :
    step_main_v142_7 V = constantI S_ 32 (BitVec.ofNat 32 (j + 1)) := by
  unfold step_main_v142_7
  rw [h]
  funext i
  show BitVec.ofNat 32 j + 1#32 = BitVec.ofNat 32 (j + 1)
  rw [BitVec.ofNat_add]

theorem trip (h : AtTrip V s j) : AtTrip (STEP V) (step j s) (j + 1) := by
  have e8 := trip_state h
  have e9 := trip_out h
  obtain ⟨-, ⟨h0, h1, h2⟩, h7, h3, h4, h5, h6⟩ := h
  exact ⟨⟨(STEP_main_v142_8 V).trans e8, (STEP_main_v142_9 V).trans e9⟩,
    ⟨(STEP_main_v142_0 V).trans h0, (STEP_main_v142_1 V).trans h1, (STEP_main_v142_2 V).trans h2⟩,
    (STEP_main_v142_7 V).trans (trip_count h7),
    (STEP_main_v142_3 V).trans h3, (STEP_main_v142_4 V).trans h4,
    (STEP_main_v142_5 V).trans h5, (STEP_main_v142_6 V).trans h6⟩

variable (m : (ℓ : Loc nD τ sig) → Buf (Elt F) ℓ) (c : Dev nD)

set_option maxRecDepth 65536 in
set_option maxHeartbeats 800000 in
/-- The operations before the loop leave the prepared arguments, the tables and the count 0. -/
theorem before_loop : AtTrip (entryContents preI m c) (states (m ((c.tc : Thread nD τ).loc main_arg0)) 0) 0 := by
  refine ⟨⟨?_, ?_⟩, ⟨entry_queries m c, entry_keys m c, entry_values m c⟩, ?_, ?_, ?_, ?_, ?_⟩ <;>
    (simp only [entryContents, afterL_cons, afterL_nil]; after_reads_simp) <;> rfl

theorem before_trip (k : ℕ) :
    AtTrip (STEP^[k] (entryContents preI m c)) (states (m ((c.tc : Thread nD τ).loc main_arg0)) k) k := by
  induction k with
  | zero => exact before_loop m c
  | succ k ih => rw [Function.iterate_succ_apply']; exact trip ih

/-- The result is state 34's collected output, put back in the order of the tokens. -/
theorem result_eq (h : AtTrip V s j) : out_main_v156 V = R_main_v156 s := by
  obtain ⟨⟨-, h9⟩, -⟩ := h
  unfold out_main_v156
  rw [h9]
  rfl

/-- Every run of the reference ends with the result read off state 34 of the recurrence, its argument as it was. -/
theorem run_states (ρ : Dev nD → PrngReg) :
    θ_run (defs (F := F)) (onTc (τ := τ) (main (F := F))) ⟨m, fun _ => 0, ρ⟩ fun r => ∀ c : Dev nD,
      r.2.mem ((c.tc : Thread nD τ).loc main_v156) = R_main_v156 (states (m ((c.tc : Thread nD τ).loc main_arg0)) 34)
      ∧ r.2.mem ((c.tc : Thread nD τ).loc main_arg0) = m ((c.tc : Thread nD τ).loc main_arg0) :=
  (θ_run defs _ _).mono (fun _ h c => ⟨(h c).1.trans (result_eq (before_trip m c 34)), (h c).2⟩) (Value.run m ρ)

end Cert.ReferenceIdeal.RetValue

end
-- ==== Proof.RefStepAt.lean ====
/-
  One trip of the reference read at an index: the chunk's queries, keys and values, the trip's output, the new state, and
  which chunk of the collected output the trip writes.
-/
module

public import proofs.«01_k».proof.Proof.Gen.ReferenceIdeal.Step
public import Idealize.ShloMosaic.Lib.Pointwise
public import Idealize.ShloMosaic.Lib.DynamicIndex
public import Idealize.ShloMosaic.Lib.Pipeline.Value
public import Idealize.ShloMosaic.Lib.WordCmp

@[expose] public section

set_option maxRecDepth 16384

noncomputable section

namespace Cert.ReferenceIdeal.RetValue

open Idealize.ShloMosaic
open Cert.ReferenceIdeal Cert.ReferenceIdeal.Gen Cert.ReferenceIdeal.Step

variable (s : State Ideal) (j : Fin 34)

theorem starts_at (a : Fin 5) :
    ((((![(constantI S_ 32 (BitVec.ofNat 32 j.val) : (⟨S_, .i32⟩ : BufTy).Contents (Elt Ideal)), constantI S_ 32 0#32, constantI S_ 32 0#32,
      constantI S_ 32 0#32, constantI S_ 32 0#32] : Fin 5 → (⟨S_, .i32⟩ : BufTy).Contents (Elt Ideal))) a (Shape.Idx.first h_S_)) : BitVec 32).toInt
      = (((![j.val, 0, 0, 0, 0] : Fin 5 → Nat) a : Nat) : Int) := by
  match a with
  | ⟨0, _⟩ => exact toInt_ofNat_of_lt (by omega)
  | ⟨1, _⟩ => rfl
  | ⟨2, _⟩ => rfl
  | ⟨3, _⟩ => rfl
  | ⟨4, _⟩ => rfl

theorem fits256 : S34x8x8x128x256.Slices (![j.val, 0, 0, 0, 0] : Fin 5 → Nat) S1x8x8x128x256 :=
  ⟨rfl, fun a => match a with
    | ⟨0, _⟩ => by show j.val + 1 ≤ 34; omega
    | ⟨1, _⟩ => by show 0 + 8 ≤ 8; omega
    | ⟨2, _⟩ => by show 0 + 8 ≤ 8; omega
    | ⟨3, _⟩ => by show 0 + 128 ≤ 128; omega
    | ⟨4, _⟩ => by show 0 + 256 ≤ 256; omega⟩

theorem fits512 : S34x8x8x128x512.Slices (![j.val, 0, 0, 0, 0] : Fin 5 → Nat) S1x8x8x128x512 :=
  ⟨rfl, fun a => match a with
    | ⟨0, _⟩ => by show j.val + 1 ≤ 34; omega
    | ⟨1, _⟩ => by show 0 + 8 ≤ 8; omega
    | ⟨2, _⟩ => by show 0 + 8 ≤ 8; omega
    | ⟨3, _⟩ => by show 0 + 128 ≤ 128; omega
    | ⟨4, _⟩ => by show 0 + 512 ≤ 512; omega⟩

/-- A trip's slice of an array of chunks, 256 entries a row, is the chunk with the trip's number. -/
theorem chunk256_at (x : S34x8x8x128x256.Idx → EReal) (B h : Fin 8) (i : Fin 128) (e : Fin 256) :
    extractStridedSlice S1x8x8x128x256 (![j.val, 0, 0, 0, 0] : Fin 5 → Nat) x (fits256 j) (ix5 0 B h i e) = x (ix5 j B h i e) :=
  extractStridedSlice_apply _ _ _ _ _ (fun a => match a with
    | ⟨0, _⟩ => rfl
    | ⟨1, _⟩ => (Nat.zero_add _).symm
    | ⟨2, _⟩ => (Nat.zero_add _).symm
    | ⟨3, _⟩ => (Nat.zero_add _).symm
    | ⟨4, _⟩ => (Nat.zero_add _).symm)

/-- The same, 512 entries a row. -/
theorem chunk512_at (x : S34x8x8x128x512.Idx → EReal) (B h : Fin 8) (i : Fin 128) (e : Fin 512) :
    extractStridedSlice S1x8x8x128x512 (![j.val, 0, 0, 0, 0] : Fin 5 → Nat) x (fits512 j) (ix5 0 B h i e) = x (ix5 j B h i e) :=
  extractStridedSlice_apply _ _ _ _ _ (fun a => match a with
    | ⟨0, _⟩ => rfl
    | ⟨1, _⟩ => (Nat.zero_add _).symm
    | ⟨2, _⟩ => (Nat.zero_add _).symm
    | ⟨3, _⟩ => (Nat.zero_add _).symm
    | ⟨4, _⟩ => (Nat.zero_add _).symm)

/-- The trip's queries. -/
theorem b5_at (B h : Fin 8) (i : Fin 128) (e : Fin 256) :
    b5 j.val s (ix4 B h i e) = s.main_v142_0 (ix5 j B h i e) := by
  have h1 : b5 j.val s (ix4 B h i e) = b4 j.val s (ix5 0 B h i e) := by
    unfold b5
    generalize b4 j.val s = x
    pointwise
  rw [h1]
  unfold b4
  exact (congrFun (Host.dynamicSlice_eq_extractStridedSlice _ _ _ _ _ (fits256 j) (starts_at j)) _).trans (chunk256_at j _ B h i e)

/-- The trip's keys. -/
theorem b11_at (B h : Fin 8) (i : Fin 128) (e : Fin 256) :
    b11 j.val s (ix4 B h i e) = s.main_v142_1 (ix5 j B h i e) := by
  have h1 : b11 j.val s (ix4 B h i e) = b10 j.val s (ix5 0 B h i e) := by
    unfold b11
    generalize b10 j.val s = x
    pointwise
  rw [h1]
  unfold b10
  exact (congrFun (Host.dynamicSlice_eq_extractStridedSlice _ _ _ _ _ (fits256 j) (starts_at j)) _).trans (chunk256_at j _ B h i e)

/-- The trip's values. -/
theorem b17_at (B h : Fin 8) (i : Fin 128) (w : Fin 512) :
    b17 j.val s (ix4 B h i w) = s.main_v142_2 (ix5 j B h i w) := by
  have h1 : b17 j.val s (ix4 B h i w) = b16 j.val s (ix5 0 B h i w) := by
    unfold b17
    generalize b16 j.val s = x
    pointwise
  rw [h1]
  unfold b16
  exact (congrFun (Host.dynamicSlice_eq_extractStridedSlice _ _ _ _ _ (fits512 j) (starts_at j)) _).trans (chunk512_at j _ B h i w)

/-- The trip's output: the masked scores applied to the chunk's values, and the queries, decayed, applied to the state. -/
theorem b27_at (B h : Fin 8) (i : Fin 128) (w : Fin 512) :
    b27 j.val s (ix4 B h i w)
      = (∑ k : Fin 128, ((∑ e : Fin 256, s.main_v142_0 (ix5 j B h i e) * s.main_v142_1 (ix5 j B h k e)) * K_main_v112 (F := Ideal) (ix3 h i k))
          * s.main_v142_2 (ix5 j B h k w))
        + ∑ e : Fin 256, s.main_v142_0 (ix5 j B h i e) * K_main_v121 (F := Ideal) (ix3 h i 0) * s.main_v142_8 (ix4 B h e w) := by
  have h18 : ∀ k : Fin 128, b18 j.val s (ix4 B h i k) = ∑ e : Fin 256, b5 j.val s (ix4 B h i e) * b11 j.val s (ix4 B h k e) := by
    intro k
    unfold b18
    generalize b5 j.val s = x
    generalize b11 j.val s = y
    pointwise
  have h20 : ∀ k : Fin 128, b20 j.val s (ix4 B h i k) = K_main_v112 (F := Ideal) (ix3 h i k) := by
    intro k
    unfold b20 b19
    generalize K_main_v112 (F := Ideal) = x
    pointwise
  have h21 : ∀ k : Fin 128, b21 j.val s (ix4 B h i k) = b18 j.val s (ix4 B h i k) * b20 j.val s (ix4 B h i k) := fun k => rfl
  have h22 : b22 j.val s (ix4 B h i w) = ∑ k : Fin 128, b21 j.val s (ix4 B h i k) * b17 j.val s (ix4 B h k w) := by
    unfold b22
    generalize b21 j.val s = x
    generalize b17 j.val s = y
    pointwise
  have h24 : ∀ e : Fin 256, b24 j.val s (ix4 B h i e) = K_main_v121 (F := Ideal) (ix3 h i 0) := by
    intro e
    unfold b24 b23
    generalize K_main_v121 (F := Ideal) = x
    pointwise
  have h25 : ∀ e : Fin 256, b25 j.val s (ix4 B h i e) = b5 j.val s (ix4 B h i e) * b24 j.val s (ix4 B h i e) := fun e => rfl
  have h26 : b26 j.val s (ix4 B h i w) = ∑ e : Fin 256, b25 j.val s (ix4 B h i e) * s.main_v142_8 (ix4 B h e w) := by
    unfold b26
    generalize b25 j.val s = x
    generalize s.main_v142_8 = y
    pointwise
  have h27 : b27 j.val s (ix4 B h i w) = b22 j.val s (ix4 B h i w) + b26 j.val s (ix4 B h i w) := rfl
  simp only [h27, h22, h26, h21, h18, h20, h25, h24, b5_at, b11_at, b17_at]

/-- The state after the trip: the old one decayed over the chunk, and the chunk's keys, decayed, against its values. -/
theorem b35_at (B h : Fin 8) (e : Fin 256) (w : Fin 512) :
    b35 j.val s (ix4 B h e w)
      = s.main_v142_8 (ix4 B h e w) * K_main_v134 (F := Ideal) (ix3 h 0 0)
        + ∑ k : Fin 128, s.main_v142_1 (ix5 j B h k e) * K_main_v130 (F := Ideal) (ix3 h k 0) * s.main_v142_2 (ix5 j B h k w) := by
  have h29 : b29 j.val s (ix4 B h e w) = K_main_v134 (F := Ideal) (ix3 h 0 0) := by
    unfold b29 b28
    generalize K_main_v134 (F := Ideal) = x
    pointwise
  have h30 : b30 j.val s (ix4 B h e w) = s.main_v142_8 (ix4 B h e w) * b29 j.val s (ix4 B h e w) := rfl
  have h32 : ∀ k : Fin 128, b32 j.val s (ix4 B h k e) = K_main_v130 (F := Ideal) (ix3 h k 0) := by
    intro k
    unfold b32 b31
    generalize K_main_v130 (F := Ideal) = x
    pointwise
  have h33 : ∀ k : Fin 128, b33 j.val s (ix4 B h k e) = b11 j.val s (ix4 B h k e) * b32 j.val s (ix4 B h k e) := fun k => rfl
  have h34 : b34 j.val s (ix4 B h e w) = ∑ k : Fin 128, b33 j.val s (ix4 B h k e) * b17 j.val s (ix4 B h k w) := by
    unfold b34
    generalize b33 j.val s = x
    generalize b17 j.val s = y
    pointwise
  have h35 : b35 j.val s (ix4 B h e w) = b30 j.val s (ix4 B h e w) + b34 j.val s (ix4 B h e w) := rfl
  simp only [h35, h30, h34, h29, h33, h32, b11_at, b17_at]

/-- A trip writes its own chunk of the collected output and no other. -/
theorem b41_at (k : Fin 34) (B h : Fin 8) (i : Fin 128) (w : Fin 512) :
    b41 j.val s (ix5 k B h i w) = if k = j then b27 j.val s (ix4 B h i w) else s.main_v142_9 (ix5 k B h i w) := by
  have h36 : b36 j.val s (ix5 0 B h i w) = b27 j.val s (ix4 B h i w) := by
    unfold b36
    generalize b27 j.val s = x
    pointwise
  unfold b41
  refine (congrFun (Idealize.ShloMosaic.WordCmp.dynamicUpdateSlice_eq_update _ _ _ _ _ (fits512 j) (starts_at j)) _).trans ?_
  unfold updateSlice
  by_cases hk : k = j
  · subst hk
    rw [if_pos rfl, dif_pos]
    · refine Eq.trans (congrArg _ ?_) h36
      funext a
      match a with
      | ⟨0, _⟩ => exact Fin.ext (Nat.sub_self _)
      | ⟨1, _⟩ => rfl
      | ⟨2, _⟩ => rfl
      | ⟨3, _⟩ => rfl
      | ⟨4, _⟩ => rfl
    · intro a
      match a with
      | ⟨0, _⟩ => exact ⟨le_refl _, Nat.lt_succ_self _⟩
      | ⟨1, _⟩ => exact ⟨Nat.zero_le _, (Nat.zero_add 8).symm ▸ B.isLt⟩
      | ⟨2, _⟩ => exact ⟨Nat.zero_le _, (Nat.zero_add 8).symm ▸ h.isLt⟩
      | ⟨3, _⟩ => exact ⟨Nat.zero_le _, (Nat.zero_add 128).symm ▸ i.isLt⟩
      | ⟨4, _⟩ => exact ⟨Nat.zero_le _, (Nat.zero_add 512).symm ▸ w.isLt⟩
  · rw [if_neg hk, dif_neg]
    intro hin
    have h0 := hin 0
    have h1 : j.val ≤ k.val ∧ k.val < j.val + 1 := h0
    exact hk (Fin.ext (by omega))

end Cert.ReferenceIdeal.RetValue

end
-- ==== Proof.RefStates.lean ====
/-
  The reference's sequence of states: the queries, keys and values stay as they were prepared, the running state starts at
  zero, and chunk `k` of the collected output is what trip `k` computed.
-/
module

public import proofs.«01_k».proof.Proof.RefRun
public import proofs.«01_k».proof.Proof.RefStepAt

@[expose] public section

set_option maxRecDepth 16384

noncomputable section

namespace Cert.ReferenceIdeal.RetValue

open Idealize.ShloMosaic
open Cert.ReferenceIdeal Cert.ReferenceIdeal.Gen Cert.ReferenceIdeal.Step

variable (u : (⟨S17408x16384, .f32⟩ : BufTy).Contents (Elt Ideal))

theorem step_queries (n : ℕ) (s : State Ideal) : (step n s).main_v142_0 = s.main_v142_0 := by unfold step; rfl
theorem step_keys (n : ℕ) (s : State Ideal) : (step n s).main_v142_1 = s.main_v142_1 := by unfold step; rfl
theorem step_values (n : ℕ) (s : State Ideal) : (step n s).main_v142_2 = s.main_v142_2 := by unfold step; rfl

/-- Every state carries the prepared queries, keys and values. -/
theorem states_kept (n : ℕ) :
    (states u n).main_v142_0 = A_main_v136 u ∧ (states u n).main_v142_1 = A_main_v138 u ∧ (states u n).main_v142_2 = A_main_v140 u := by
  induction n with
  | zero => exact ⟨rfl, rfl, rfl⟩
  | succ n ih =>
    exact ⟨(step_queries n (states u n)).trans ih.1, (step_keys n (states u n)).trans ih.2.1, (step_values n (states u n)).trans ih.2.2⟩

/-- The running state starts at zero. -/
theorem states_start (B h : Fin 8) (e : Fin 256) (w : Fin 512) : (states u 0).main_v142_8 (ix4 B h e w) = 0 := by
  show K_main_v95 (F := Ideal) (ix4 B h e w) = 0
  unfold K_main_v95 K_main_cst_11
  pointwise

/-- The running state after a trip. -/
theorem states_next (n : Fin 34) (B h : Fin 8) (e : Fin 256) (w : Fin 512) :
    (states u (n.val + 1)).main_v142_8 (ix4 B h e w) = b35 n.val (states u n.val) (ix4 B h e w) :=
  congrFun (step_main_v142_8 n.val (states u n.val)) _

/-- Chunk `k` of the collected output, once trip `k` is done. -/
theorem states_out (n : ℕ) (hn : n ≤ 34) (k : Fin 34) (hk : k.val < n) (B h : Fin 8) (i : Fin 128) (w : Fin 512) :
    (states u n).main_v142_9 (ix5 k B h i w) = b27 k.val (states u k.val) (ix4 B h i w) := by
  induction n with
  | zero => exact absurd hk (Nat.not_lt_zero _)
  | succ n ih =>
    refine (congrFun (step_main_v142_9 n (states u n)) _).trans ?_
    refine (b41_at (states u n) ⟨n, by omega⟩ k B h i w).trans ?_
    by_cases e : k.val = n
    · have e' : k = ⟨n, by omega⟩ := Fin.ext e
      rw [if_pos e']
      subst e
      rfl
    · rw [if_neg (fun c => e (congrArg Fin.val c))]
      exact ih (by omega) (by omega)

end Cert.ReferenceIdeal.RetValue

end
-- ==== Proof.RetFold.lean ====
/-
  The kernel's scratch and output blocks along a sequence of chunks: after chunk `c` the scratch holds the reference's
  state after trip `c`, and the block of outputs is what the reference's trip `c` collects, the places mirrored in the
  backward direction.
-/
module

public import proofs.«01_k».proof.Proof.RetInputs
public import proofs.«01_k».proof.Proof.RetBlock
public import proofs.«01_k».proof.Proof.RefStates

@[expose] public section

set_option maxRecDepth 16384

noncomputable section

namespace Cert.KernelIdeal.RetValue

open Idealize.ShloMosaic Idealize.ShloMosaic.TcCoe Idealize.SL.Sem
open Cert.KernelIdeal Cert.KernelIdeal.Gen Cert.Retention
open Cert.ReferenceIdeal.Step Cert.ReferenceIdeal.RetValue

/-- A sum over the places of a chunk may be taken in either order. -/
theorem sum_fl (d : Fin 2) (f : Fin 128 → EReal) : ∑ j : Fin 128, f (fl d j) = ∑ j : Fin 128, f j := by
  unfold fl
  by_cases hd : d.val = 0
  · simp only [if_pos hd]
  · simp only [if_neg hd]
    exact Equiv.sum_comp Fin.revPerm f

variable (m : (ℓ : Loc nD τ sig) → Buf (Elt Ideal) ℓ) (q : Dev nD)
variable (b : Fin 4) (h : Fin 8) (d : Fin 2) (c : Fin 34)

/-- From the reference's state the kernel's body computes the reference's next state. -/
theorem state_step (R : Vec Ideal S256x512 .f32)
    (hR : ∀ (e : Fin 256) (w : Fin 512), R (ix2 e w) = (states (arg m q) c.val).main_v142_8 (ix4 (entry d b) h e w)) (e : Fin 256) (w : Fin 512) :
    newState (iblk m q 1 (pt b h d c)) (iblk m q 2 (pt b h d c)) (iblk m q 3 (pt b h d c)) (iblk m q 4 (pt b h d c))
        (iblk m q 7 (pt b h d c)) (iblk m q 8 (pt b h d c)) R (ix2 e w)
      = (states (arg m q) (c.val + 1)).main_v142_8 (ix4 (entry d b) h e w) := by
  refine (newState_at (iblk m q 1 (pt b h d c)) (iblk m q 2 (pt b h d c)) (iblk m q 3 (pt b h d c)) (iblk m q 4 (pt b h d c))
    (iblk m q 7 (pt b h d c)) (iblk m q 8 (pt b h d c)) R e w).trans ?_
  rw [states_next, b35_at, (states_kept (arg m q) c.val).2.1, (states_kept (arg m q) c.val).2.2]
  refine congrArg₂ (· + ·) (congrArg₂ (· * ·) (hR e w) (decay_block_at m q b h d c w)) ?_
  refine Eq.trans (Finset.sum_congr rfl fun j _ => ?_) (sum_fl d fun k => A_main_v138 (arg m q) (ix5 c (entry d b) h k e)
    * K_main_v130 (F := Ideal) (ix3 h k 0) * A_main_v140 (arg m q) (ix5 c (entry d b) h k w))
  exact congrArg₂ (· * ·) (congrArg₂ (· * ·) (k_at m q b h d c j e) (left_block_at m q b h d c j e)) (v_at m q b h d c j w)

/-- From the reference's state the kernel's body computes the reference's outputs of the chunk. -/
theorem out_step (R : Vec Ideal S256x512 .f32)
    (hR : ∀ (e : Fin 256) (w : Fin 512), R (ix2 e w) = (states (arg m q) c.val).main_v142_8 (ix4 (entry d b) h e w)) (i : Fin 128) (w : Fin 512) :
    outBlk (iblk m q 0 (pt b h d c)) (iblk m q 1 (pt b h d c)) (iblk m q 2 (pt b h d c)) (iblk m q 3 (pt b h d c)) (iblk m q 4 (pt b h d c))
        (iblk m q 5 (pt b h d c)) (iblk m q 6 (pt b h d c)) R (ix3 0 i w)
      = b27 c.val (states (arg m q) c.val) (ix4 (entry d b) h (fl d i) w) := by
  refine (outBlk_at (iblk m q 0 (pt b h d c)) (iblk m q 1 (pt b h d c)) (iblk m q 2 (pt b h d c)) (iblk m q 3 (pt b h d c)) (iblk m q 4 (pt b h d c))
    (iblk m q 5 (pt b h d c)) (iblk m q 6 (pt b h d c)) R i w).trans ?_
  rw [b27_at, (states_kept (arg m q) c.val).1, (states_kept (arg m q) c.val).2.1, (states_kept (arg m q) c.val).2.2]
  refine congrArg₂ (· + ·) ?_ (Finset.sum_congr rfl fun e _ => ?_)
  · refine Eq.trans (Finset.sum_congr rfl fun j _ => ?_) (sum_fl d fun k =>
      ((∑ e : Fin 256, A_main_v136 (arg m q) (ix5 c (entry d b) h (fl d i) e) * A_main_v138 (arg m q) (ix5 c (entry d b) h k e))
        * K_main_v112 (F := Ideal) (ix3 h (fl d i) k)) * A_main_v140 (arg m q) (ix5 c (entry d b) h k w))
    refine congrArg₂ (· * ·) (congrArg₂ (· * ·) (Finset.sum_congr rfl fun e _ => ?_) (mask_block_at m q b h d c i j)) (v_at m q b h d c j w)
    exact congrArg₂ (· * ·) (q_at m q b h d c i e) (k_at m q b h d c j e)
  · exact congrArg₂ (· * ·) (congrArg₂ (· * ·) (q_at m q b h d c i e) (seen_block_at m q b h d c i e)) (hR e w)

/-- At the first chunk the kernel starts from zero, as the reference does. -/
theorem start_zero (u : (⟨Cert.ReferenceIdeal.S17408x16384, .f32⟩ : BufTy).Contents (Elt Ideal)) (n : ℕ) (hn : n = 0)
    (R : Vec Ideal S256x512 .f32) (hR : R = k0_pay3 (F := Ideal)) (e : Fin 256) (w : Fin 512) :
    R (ix2 e w) = (states u n).main_v142_8 (ix4 (entry d b) h e w) := by
  subst hn
  exact ((congrFun hR (ix2 e w)).trans (pay3_at e w)).trans (states_start u (entry d b) h e w).symm

/-- What the first point of a sequence leaves: the body's values over the zero state. -/
theorem outs_first (t : Fin cfg0.N) (h0 : t.val % 34 = 0) (R : Vec Ideal S256x512 .f32) (hR : R = k0_pay3 (F := Ideal)) :
    outsAt0 m q t.val t.isLt
      = (outBlk (iblk m q 0 t) (iblk m q 1 t) (iblk m q 2 t) (iblk m q 3 t) (iblk m q 4 t) (iblk m q 5 t) (iblk m q 6 t) R,
         newState (iblk m q 1 t) (iblk m q 2 t) (iblk m q 3 t) (iblk m q 4 t) (iblk m q 7 t) (iblk m q 8 t) R) := by
  rw [hR]
  exact (outsAt0_A m q t h0).trans (congrArg₂ Prod.mk (out_first ..) (state_first ..))

/-- What a later point leaves: the body's values over the state the point before left. -/
theorem outs_later (t : Fin cfg0.N) (h0 : ¬t.val % 34 = 0) :
    outsAt0 m q t.val t.isLt
      = (outBlk (iblk m q 0 t) (iblk m q 1 t) (iblk m q 2 t) (iblk m q 3 t) (iblk m q 4 t) (iblk m q 5 t) (iblk m q 6 t)
           (outsAt0 m q (t.val - 1) (lt_of_le_of_lt (Nat.sub_le _ _) t.isLt)).2,
         newState (iblk m q 1 t) (iblk m q 2 t) (iblk m q 3 t) (iblk m q 4 t) (iblk m q 7 t) (iblk m q 8 t)
           (outsAt0 m q (t.val - 1) (lt_of_le_of_lt (Nat.sub_le _ _) t.isLt)).2) :=
  (outsAt0_B m q t h0).trans (congrArg₂ Prod.mk (out_later ..) (state_later ..))

/-- The same point, its number written in two ways. -/
theorem outs_congr {n n' : ℕ} (e : n = n') (hn : n < cfg0.N) (hn' : n' < cfg0.N) : outsAt0 m q n hn = outsAt0 m q n' hn' := by
  subst e
  rfl

/-- After chunk `c` the scratch holds the reference's state after trip `c`. -/
theorem scratch_at (n : ℕ) : ∀ (c : Fin 34), c.val = n → ∀ (e : Fin 256) (w : Fin 512),
    (outsAt0 m q (pt b h d c).val (pt b h d c).isLt).2 (ix2 e w)
      = (states (arg m q) (c.val + 1)).main_v142_8 (ix4 (entry d b) h e w) := by
  induction n with
  | zero =>
    intro c hc e w
    have h0 : (pt b h d c).val % 34 = 0 := (pt_c b h d c).trans hc
    obtain ⟨R, hR⟩ : ∃ R : Vec Ideal S256x512 .f32, R = k0_pay3 (F := Ideal) := ⟨_, rfl⟩
    refine (congrFun (congrArg Prod.snd (outs_first m q (pt b h d c) h0 R hR)) _).trans ?_
    exact state_step m q b h d c R (start_zero b h d (arg m q) c.val hc R hR) e w
  | succ n ih =>
    intro c hc e w
    have h0 : ¬(pt b h d c).val % 34 = 0 := by rw [pt_c b h d c, hc]; exact Nat.succ_ne_zero n
    refine (congrFun (congrArg Prod.snd (outs_later m q (pt b h d c) h0)) _).trans ?_
    refine state_step m q b h d c _ (fun e w => ?_) e w
    obtain ⟨c', hc'⟩ : ∃ c' : Fin 34, c'.val = n := ⟨⟨n, by omega⟩, rfl⟩
    have hp : (pt b h d c).val - 1 = (pt b h d c').val := by rw [pt_val, pt_val]; omega
    refine (congrFun (congrArg Prod.snd (outs_congr m q hp _ (pt b h d c').isLt)) _).trans ?_
    refine (ih c' hc' e w).trans ?_
    rw [hc', hc]

/-- The block of outputs of chunk `c` is what the reference's trip `c` collects. -/
theorem outBlock_at (c : Fin 34) (i : Fin 128) (w : Fin 512) :
    (outsAt0 m q (pt b h d c).val (pt b h d c).isLt).1 (ix3 0 i w)
      = b27 c.val (states (arg m q) c.val) (ix4 (entry d b) h (fl d i) w) := by
  by_cases hc : c.val = 0
  · have h0 : (pt b h d c).val % 34 = 0 := (pt_c b h d c).trans hc
    obtain ⟨R, hR⟩ : ∃ R : Vec Ideal S256x512 .f32, R = k0_pay3 (F := Ideal) := ⟨_, rfl⟩
    refine (congrFun (congrArg Prod.fst (outs_first m q (pt b h d c) h0 R hR)) _).trans ?_
    exact out_step m q b h d c R (start_zero b h d (arg m q) c.val hc R hR) i w
  · have h0 : ¬(pt b h d c).val % 34 = 0 := by rw [pt_c b h d c]; exact hc
    refine (congrFun (congrArg Prod.fst (outs_later m q (pt b h d c) h0)) _).trans ?_
    refine out_step m q b h d c _ (fun e w => ?_) i w
    obtain ⟨c', hc'⟩ : ∃ c' : Fin 34, c'.val + 1 = c.val := ⟨⟨c.val - 1, by omega⟩, by show c.val - 1 + 1 = c.val; omega⟩
    have hp : (pt b h d c).val - 1 = (pt b h d c').val := by rw [pt_val, pt_val]; omega
    refine (congrFun (congrArg Prod.snd (outs_congr m q hp _ (pt b h d c').isLt)) _).trans ?_
    refine (scratch_at m q b h d c'.val c' rfl e w).trans ?_
    rw [hc']

end Cert.KernelIdeal.RetValue

end
-- ==== Proof.RefResult.lean ====
/-
  The reference's result read at an index: token `p` of sequence `b` in direction `d`, head `h`, is row `tok d p` of the
  collected output's batch entry `entry d b`.
-/
module

public import proofs.«01_k».proof.Proof.Gen.ReferenceIdeal.Step
public import proofs.«01_k».proof.Proof.RetSpec
public import Idealize.ShloMosaic.Lib.Pointwise
public import Idealize.ShloMosaic.Lib.Pipeline.Value

@[expose] public section

set_option maxRecDepth 16384

noncomputable section

namespace Cert.ReferenceIdeal.RetValue

open Idealize.ShloMosaic
open Cert.ReferenceIdeal Cert.ReferenceIdeal.Gen Cert.ReferenceIdeal.Step Cert.Retention

/-- The chunks laid out along the tokens. -/
def unrolled (y : S34x8x8x128x512.Idx → EReal) : S8x8x4352x512.Idx → EReal :=
  shapeCast _ (transpose S8x8x34x128x512 [1, 2, 0, 3, 4] y transposes_S34x8x8x128x512_S8x8x34x128x512_1_2_0_3_4) shapeCasts_S8x8x34x128x512_S8x8x4352x512

theorem unrolled_at (y : S34x8x8x128x512.Idx → EReal) (B h : Fin 8) (p : Fin 4352) (w : Fin 512) :
    unrolled y (ix4 B h p w) = y (ix5 ⟨p.val / 128, by omega⟩ B h ⟨p.val % 128, by omega⟩ w) := by
  unfold unrolled
  refine (shapeCast_apply _ _ (ix4 B h p w) (ix5 B h ⟨p.val / 128, by omega⟩ ⟨p.val % 128, by omega⟩ w) ?_).trans ?_
  · rw [Shape.rowMajor_val_five, Shape.rowMajor_val_four]
    show (((B.val * 8 + h.val) * 34 + p.val / 128) * 128 + p.val % 128) * 512 + w.val = ((B.val * 8 + h.val) * 4352 + p.val) * 512 + w.val
    omega
  · exact transpose_apply _ _ _ _ (ix5 ⟨p.val / 128, by omega⟩ B h ⟨p.val % 128, by omega⟩ w)
      (fun a => match a with | ⟨0, _⟩ => rfl | ⟨1, _⟩ => rfl | ⟨2, _⟩ => rfl | ⟨3, _⟩ => rfl | ⟨4, _⟩ => rfl)

/-- The forward half of the batch entries. -/
def fwdHalf (x : S8x8x4352x512.Idx → EReal) : S4x8x4352x512.Idx → EReal :=
  extractStridedSlice S4x8x4352x512 ![0, 0, 0, 0] x slices_S8x8x4352x512_S4x8x4352x512_0_0_0_0

theorem fwdHalf_at (x : S8x8x4352x512.Idx → EReal) (b : Fin 4) (h : Fin 8) (p : Fin 4352) (w : Fin 512) :
    fwdHalf x (ix4 b h p w) = x (ix4 ⟨b.val, by omega⟩ h p w) := by
  unfold fwdHalf
  pointwise

/-- The backward half of the batch entries. -/
def bwdHalf (x : S8x8x4352x512.Idx → EReal) : S4x8x4352x512.Idx → EReal :=
  extractStridedSlice S4x8x4352x512 ![4, 0, 0, 0] x slices_S8x8x4352x512_S4x8x4352x512_4_0_0_0

theorem bwdHalf_at (x : S8x8x4352x512.Idx → EReal) (b : Fin 4) (h : Fin 8) (p : Fin 4352) (w : Fin 512) :
    bwdHalf x (ix4 b h p w) = x (ix4 ⟨4 + b.val, by omega⟩ h p w) := by
  unfold bwdHalf
  pointwise

/-- The backward half put back in the order of the tokens. -/
def turned (x : S4x8x4352x512.Idx → EReal) : S4x8x4352x512.Idx → EReal :=
  concatenate S4x8x4352x512 2 [⟨S4x8x256x512, (Host.reverse [2] (extractStridedSlice S4x8x256x512 ![0, 0, 0, 0] x slices_S4x8x4352x512_S4x8x256x512_0_0_0_0))⟩, ⟨S4x8x4096x512, (Host.reverse [2] (extractStridedSlice S4x8x4096x512 ![0, 0, 256, 0] x slices_S4x8x4352x512_S4x8x4096x512_0_0_256_0))⟩] concatenates_S4x8x256x512_S4x8x4096x512_S4x8x4352x512_d2

theorem turned_at (x : S4x8x4352x512.Idx → EReal) (b : Fin 4) (h : Fin 8) (p : Fin 4352) (w : Fin 512) :
    turned x (ix4 b h p w) = x (ix4 b h (back p) w) := by
  unfold turned
  pointwise
  unfold back
  by_cases hp : p.val < 256
  · rw [dif_pos hp, dif_pos hp]
    exact congrArg (fun q => x (ix4 b h q w)) (Fin.ext (by show 256 - (p.val + 1) = 255 - p.val; omega))
  · rw [dif_neg hp, dif_neg hp]
    exact congrArg (fun q => x (ix4 b h q w)) (Fin.ext (by show 256 + (4096 - (p.val - 256 + 1)) = 4607 - p.val; omega))

/-- The two directions stacked. -/
def bothDirs (x y : S4x8x4352x512.Idx → EReal) : S2x4x8x4352x512.Idx → EReal :=
  concatenate S2x4x8x4352x512 0 [⟨S1x4x8x4352x512, (broadcastInDim S1x4x8x4352x512 ![1, 2, 3, 4] bcast_S4x8x4352x512_S1x4x8x4352x512_1_2_3_4 x)⟩, ⟨S1x4x8x4352x512, (broadcastInDim S1x4x8x4352x512 ![1, 2, 3, 4] bcast_S4x8x4352x512_S1x4x8x4352x512_1_2_3_4 y)⟩] concatenates_S1x4x8x4352x512_S1x4x8x4352x512_S2x4x8x4352x512_d0

theorem stacked_at (x : S4x8x4352x512.Idx → EReal) (b : Fin 4) (h : Fin 8) (p : Fin 4352) (w : Fin 512) :
    broadcastInDim S1x4x8x4352x512 ![1, 2, 3, 4] bcast_S4x8x4352x512_S1x4x8x4352x512_1_2_3_4 x (ix5 0 b h p w) = x (ix4 b h p w) :=
  broadcastInDim_apply _ _ _ (ix5 0 b h p w) (ix4 b h p w) (fun a => match a with
    | ⟨0, _⟩ => rfl
    | ⟨1, _⟩ => rfl
    | ⟨2, _⟩ => rfl
    | ⟨3, _⟩ => rfl)

theorem bothDirs_fwd (x y : S4x8x4352x512.Idx → EReal) (b : Fin 4) (h : Fin 8) (p : Fin 4352) (w : Fin 512) :
    bothDirs x y (ix5 0 b h p w) = x (ix4 b h p w) := by
  unfold bothDirs
  refine (concatenate_pair_apply_left (t := S2x4x8x4352x512) (s₁ := S1x4x8x4352x512) (s₂ := S1x4x8x4352x512) (0 : Fin 5) _ _ _ (ix5 0 b h p w) rfl (ix5 0 b h p w) ?_).trans (stacked_at x b h p w)
  exact fun a => match a with | ⟨0, _⟩ => rfl | ⟨1, _⟩ => rfl | ⟨2, _⟩ => rfl | ⟨3, _⟩ => rfl | ⟨4, _⟩ => rfl

theorem bothDirs_bwd (x y : S4x8x4352x512.Idx → EReal) (b : Fin 4) (h : Fin 8) (p : Fin 4352) (w : Fin 512) :
    bothDirs x y (ix5 1 b h p w) = y (ix4 b h p w) := by
  unfold bothDirs
  refine (concatenate_pair_apply_right (t := S2x4x8x4352x512) (s₁ := S1x4x8x4352x512) (s₂ := S1x4x8x4352x512) (0 : Fin 5) _ _ _ (ix5 1 b h p w) rfl rfl (ix5 0 b h p w) ?_ rfl).trans (stacked_at y b h p w)
  exact fun a ha => match a, ha with
    | ⟨0, _⟩, ha => absurd rfl ha
    | ⟨1, _⟩, _ => rfl
    | ⟨2, _⟩, _ => rfl
    | ⟨3, _⟩, _ => rfl
    | ⟨4, _⟩, _ => rfl

/-- The heads side by side, the sequences one after the other. -/
def asRows (x : S2x4x8x4352x512.Idx → EReal) : S2x17408x4096.Idx → EReal :=
  shapeCast _ (transpose S2x4x4352x8x512 [0, 1, 3, 2, 4] x transposes_S2x4x8x4352x512_S2x4x4352x8x512_0_1_3_2_4) shapeCasts_S2x4x4352x8x512_S2x17408x4096

theorem asRows_at (x : S2x4x8x4352x512.Idx → EReal) (d : Fin 2) (b : Fin 4) (h : Fin 8) (p : Fin 4352) (w : Fin 512) :
    asRows x (ix3 d ⟨b.val * 4352 + p.val, by omega⟩ ⟨h.val * 512 + w.val, by omega⟩) = x (ix5 d b h p w) := by
  unfold asRows
  refine (shapeCast_apply _ _ _ (ix5 d b p h w) ?_).trans ?_
  · rw [Shape.rowMajor_val_five, Shape.rowMajor_val_three]
    show (((d.val * 4 + b.val) * 4352 + p.val) * 8 + h.val) * 512 + w.val = (d.val * 17408 + (b.val * 4352 + p.val)) * 4096 + (h.val * 512 + w.val)
    omega
  · exact transpose_apply _ _ _ _ (ix5 d b h p w)
      (fun a => match a with | ⟨0, _⟩ => rfl | ⟨1, _⟩ => rfl | ⟨2, _⟩ => rfl | ⟨3, _⟩ => rfl | ⟨4, _⟩ => rfl)

theorem result_stages (s : State Ideal) :
    R_main_v156 s = asRows (bothDirs (fwdHalf (unrolled s.main_v142_9)) (turned (bwdHalf (unrolled s.main_v142_9)))) := rfl

/-- The result at an index. -/
theorem result_at (s : State Ideal) (d : Fin 2) (b : Fin 4) (h : Fin 8) (p : Fin 4352) (w : Fin 512) :
    R_main_v156 s (ix3 d ⟨b.val * 4352 + p.val, by omega⟩ ⟨h.val * 512 + w.val, by omega⟩)
      = s.main_v142_9 (ix5 ⟨(tok d p).val / 128, by omega⟩ (entry d b) h ⟨(tok d p).val % 128, by omega⟩ w) := by
  rw [result_stages, asRows_at]
  obtain ⟨d, hd⟩ := d
  by_cases h0 : d = 0
  · subst h0
    refine (bothDirs_fwd _ _ b h p w).trans ?_
    rw [fwdHalf_at, unrolled_at]
    exact congrArg (fun q => s.main_v142_9 (ix5 ⟨p.val / 128, by omega⟩ q h ⟨p.val % 128, by omega⟩ w)) (Fin.ext (by show b.val = 0 * 4 + b.val; omega))
  · have h1 : d = 1 := by omega
    subst h1
    refine (bothDirs_bwd _ _ b h p w).trans ?_
    rw [turned_at, bwdHalf_at, unrolled_at]
    exact congrArg (fun q => s.main_v142_9 (ix5 ⟨(back p).val / 128, by omega⟩ q h ⟨(back p).val % 128, by omega⟩ w)) (Fin.ext (by show 4 + b.val = 1 * 4 + b.val; omega))

end Cert.ReferenceIdeal.RetValue

end
-- ==== Proof.RetArray.lean ====
/-
  The array the kernel leaves is the reference's result: at every grid point the block written back is the reference's
  result at the tokens of the block, and the blocks cover the array.
-/
module

public import proofs.«01_k».proof.Proof.RetFold
public import proofs.«01_k».proof.Proof.RefResult

@[expose] public section

set_option maxRecDepth 16384

noncomputable section

namespace Cert.KernelIdeal.RetValue

open Idealize.ShloMosaic Idealize.ShloMosaic.TcCoe Idealize.SL.Sem
open Cert.KernelIdeal Cert.KernelIdeal.Gen Cert.Retention
open Cert.ReferenceIdeal.Step Cert.ReferenceIdeal.RetValue

/-- The token visited at a position is visited at the position with that token's number. -/
theorem tok_tok (d : Fin 2) (p : Fin 4352) : tok d (tok d p) = p := by
  unfold tok
  by_cases hd : d.val = 0
  · simp only [if_pos hd]
  · simp only [if_neg hd]
    refine Fin.ext ?_
    unfold back
    by_cases hp : p.val < 256
    · have h2 : 255 - p.val < 256 := by omega
      simp only [dif_pos hp, dif_pos h2]
      omega
    · have h2 : ¬4607 - p.val < 256 := by omega
      simp only [dif_neg hp, dif_neg h2]
      omega

variable (m : (ℓ : Loc nD τ sig) → Buf (Elt Ideal) ℓ) (q : Dev nD)

/-- The reference's result at the kernel's argument. -/
abbrev result : (⟨S2x17408x4096, .f32⟩ : BufTy).Contents (Elt Ideal) := R_main_v156 (states (arg m q) 34)

/-- The reference's result at the token that row `i` of a point's block stands for. -/
theorem result_block (b : Fin 4) (h : Fin 8) (d : Fin 2) (c : Fin 34) (i : Fin 128) (w : Fin 512) (n : Fin 17408) (k : Fin 4096)
    (hn : n.val = b.val * 4352 + (tok d ⟨c.val * 128 + (fl d i).val, by omega⟩).val) (hk : k.val = h.val * 512 + w.val) :
    result m q (ix3 d n k) = b27 c.val (states (arg m q) c.val) (ix4 (entry d b) h (fl d i) w) := by
  obtain ⟨p, hp⟩ : ∃ p, p = tok d ⟨c.val * 128 + (fl d i).val, by omega⟩ := ⟨_, rfl⟩
  have en : n = ⟨b.val * 4352 + p.val, by omega⟩ := Fin.ext (hn.trans (by subst hp; rfl))
  have ek : k = ⟨h.val * 512 + w.val, by omega⟩ := Fin.ext hk
  have ht : (tok d p).val = c.val * 128 + (fl d i).val := by rw [hp, tok_tok]
  rw [en, ek]
  refine (result_at (states (arg m q) 34) d b h p w).trans ?_
  have e1 : (⟨(tok d p).val / 128, by omega⟩ : Fin 34) = c := Fin.ext (by show (tok d p).val / 128 = c.val; omega)
  have e2 : (⟨(tok d p).val % 128, by omega⟩ : Fin 128) = fl d i := Fin.ext (by show (tok d p).val % 128 = (fl d i).val; omega)
  rw [e1, e2]
  exact states_out (arg m q) 34 (Nat.le_refl _) c c.isLt (entry d b) h (fl d i) w

/-- Every grid point is the point of some sequence, head, direction and chunk. -/
theorem exists_pt (t : Fin cfg0.N) : ∃ (b : Fin 4) (h : Fin 8) (d : Fin 2) (c : Fin 34), t = pt b h d c := by
  have ht : t.val < 2176 := lt_of_lt_of_eq t.isLt (show cfg0.N = 2176 from N_0)
  refine ⟨⟨t.val / 544, by omega⟩, ⟨t.val / 68 % 8, by omega⟩, ⟨t.val / 34 % 2, by omega⟩, ⟨t.val % 34, by omega⟩, Fin.ext ?_⟩
  rw [pt_val]
  show t.val = ((t.val / 544 * 8 + t.val / 68 % 8) * 2 + t.val / 34 % 2) * 34 + t.val % 34
  omega

/-- What a grid point writes back is the reference's result at the block's tokens. -/
theorem written_at (b : Fin 4) (h : Fin 8) (d : Fin 2) (c : Fin 34) (x : Fin 1) (i : Fin 128) (w : Fin 512) :
    (dats m 0 q).after 9 (pt b h d c) (ix3 x i w) = result m q (((cfg0.win 9).blk (pt b h d c)).view.emb (ix3 x i w)) := by
  have hx : x = 0 := Subsingleton.elim _ _
  subst hx
  rw [after0_9]
  refine (outBlock_at m q b h d c i w).trans ?_
  have h0 := index_out (pt b h d c)
  have ht := token b h d c i
  rw [pt_b, pt_h, pt_d] at h0
  have hr := (tok d ⟨c.val * 128 + (fl d i).val, by omega⟩).isLt
  refine (result_block m q b h d c i w ⟨b.val * 4352 + (tok d ⟨c.val * 128 + (fl d i).val, by omega⟩).val, by omega⟩
    ⟨h.val * 512 + w.val, by omega⟩ rfl rfl).symm.trans (congrArg (result m q) ?_)
  funext a
  refine Fin.ext ?_
  match a with
  | ⟨0, _⟩ => blk_simp; show d.val = _; omega
  | ⟨1, _⟩ => blk_simp; show b.val * 4352 + (tok d ⟨c.val * 128 + (fl d i).val, by omega⟩).val = _; omega
  | ⟨2, _⟩ => blk_simp; show h.val * 512 + w.val = _; omega

/-- Every index of the array lies in the block of some grid point. -/
theorem covered (j : S2x17408x4096.Idx) : ∃ t : Fin cfg0.N, (cfg0.win 9).flush t = true ∧ j ∈ ((cfg0.win 9).blk t).view.set := by
  have h0 : (j 0).val < 2 := (j 0).isLt
  have h1 : (j 1).val < 17408 := (j 1).isLt
  have h2 : (j 2).val < 4096 := (j 2).isLt
  obtain ⟨c, hc⟩ : ∃ c : Fin 34, (if (j 0).val = 0 then c.val else if c.val < 2 then 1 - c.val else 35 - c.val) = (j 1).val / 128 % 34 := by
    by_cases hd : (j 0).val = 0
    · exact ⟨⟨(j 1).val / 128 % 34, by omega⟩, by rw [if_pos hd]⟩
    · by_cases hk : (j 1).val / 128 % 34 < 2
      · refine ⟨⟨1 - (j 1).val / 128 % 34, by omega⟩, ?_⟩
        have h' : 1 - (j 1).val / 128 % 34 < 2 := by omega
        simp only [if_neg hd, if_pos h']
        omega
      · refine ⟨⟨35 - (j 1).val / 128 % 34, by omega⟩, ?_⟩
        have h' : ¬35 - (j 1).val / 128 % 34 < 2 := by omega
        simp only [if_neg hd, if_neg h']
        omega
  obtain ⟨t, ht⟩ : ∃ t : Fin cfg0.N, t = pt ⟨(j 1).val / 4352, by omega⟩ ⟨(j 2).val / 512, by omega⟩ ⟨(j 0).val, h0⟩ c := ⟨_, rfl⟩
  refine ⟨t, flush0_9 t, ?_⟩
  have hi := index_out t
  have hcv : chunkAt t.val = (j 1).val / 128 % 34 := by
    unfold chunkAt
    rw [ht, pt_d, pt_c]
    exact hc
  have e544 : t.val / 544 = (j 1).val / 4352 := by rw [ht, pt_b]
  have e68 : t.val / 68 % 8 = (j 2).val / 512 := by rw [ht, pt_h]
  have e34 : t.val / 34 % 2 = (j 0).val := by rw [ht, pt_d]
  rw [hcv, e544, e68, e34] at hi
  mem_blk
  omega

/-- The array the kernel leaves. -/
theorem array_eq : (dats m 0 q).arrAt 9 cfg0.N = result m q := by
  refine (dats m 0 q).arrAt_eq_of_emb 9 (result m q) (fun t _ y => ?_) covered
  obtain ⟨b, h, d, c, rfl⟩ := exists_pt t
  have hy : ∃ (x : Fin 1) (i : Fin 128) (w : Fin 512), y = ix3 x i w := ⟨y 0, y 1, y 2, by
    funext a
    match a with
    | ⟨0, _⟩ => rfl
    | ⟨1, _⟩ => rfl
    | ⟨2, _⟩ => rfl⟩
  obtain ⟨x, i, w, rfl⟩ := hy
  exact written_at m q b h d c x i w

end Cert.KernelIdeal.RetValue

end
-- ==== Proof.RetClaims.lean ====
/-
  The claims about the retention: the frames of the three programs, and that the kernel at the reals computes what the
  reference computes.
-/
module

public import proofs.«01_k».proof.Defs
public import proofs.«01_k».proof.Proof.RetArray
public import proofs.«01_k».proof.Proof.RefRun
public import proofs.«01_k».proof.Proof.Gen.Kernel.Frame
public import proofs.«01_k».proof.Proof.Gen.KernelIdeal.Value
public import Idealize.ShloMosaic.Lib.Quiescent

@[expose] public section

noncomputable section

namespace Cert.Retention

open Idealize.ShloMosaic Idealize.SL.Sem

/-- The kernel ends on every run, its argument unchanged and its counters at zero. -/
theorem frame_kernel : Cert.quiescent_Kernel (hKernel := Cert.Kernel.Gen.facts) :=
  fun m ρ _ => Cert.Kernel.Gen.frame m ρ

/-- The same of the kernel read over the extended reals. -/
theorem frame_kernel_ideal : Cert.quiescent_KernelIdeal (hKernelIdeal := Cert.KernelIdeal.Gen.facts) :=
  fun m ρ _ => Cert.KernelIdeal.Gen.frame m ρ

/-- The same of the reference read over the extended reals; it declares no semaphore. -/
theorem frame_reference_ideal : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.RetValue.run_states (F := Ideal) m ρ)

/-- Over the extended reals the kernel's array and the reference's are one array, whatever the argument: the reference's
    result after the recurrence's last state. -/
theorem kernel_is_reference : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.RetValue.result m c, ?_, ?_⟩
  · exact (θ_run Cert.KernelIdeal.defs _ _).mono
      (fun _ h c => ⟨(h c).1.trans (Cert.KernelIdeal.RetValue.array_eq m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.RetValue.run_states (F := Ideal) m' ρ')
    rw [hagree c]

end Cert.Retention

end
-- ==== Proof.ProjIn.lean ====
/-
  The retention's input projection: 17408 rows of 2048 against the weights' 16384 columns.
  A grid point multiplies 512 rows by 512 columns over the whole depth, so its block is the block of the product.
-/
module

public import proofs.«01_k».proof.Defs
public import proofs.«01_k».proof.Proof.Gen.KernelIn.Frame
public import proofs.«01_k».proof.Proof.Gen.KernelInIdeal.Value
public import proofs.«01_k».proof.Proof.Gen.ReferenceInIdeal.Run
public import Idealize.ShloMosaic.Lib.Pipeline.ValueKit
public import Idealize.ShloMosaic.Lib.Quiescent

@[expose] public section

set_option maxRecDepth 16384

noncomputable section

namespace Cert.KernelInIdeal.ProjValue

open Idealize.ShloMosaic Idealize.ShloMosaic.TcCoe Idealize.SL.Sem Idealize.ShloMosaic.StableHlo
open Cert.KernelInIdeal Cert.KernelInIdeal.Gen

theorem z2 : (![0, 0] : Fin 2 → Nat) = fun _ => 0 := funext fun a => by fin_cases a <;> rfl

theorem index_rows : ∀ t : Fin cfg0.N, win0_0.index t 0 = t.val / 32 ∧ win0_0.index t 1 = 0 :=
  (by decide +kernel : ∀ t : Fin grid0.N, win0_0.index t 0 = t.val / 32 ∧ win0_0.index t 1 = 0)
theorem index_columns : ∀ t : Fin cfg0.N, win0_1.index t 0 = 0 ∧ win0_1.index t 1 = t.val % 32 :=
  (by decide +kernel : ∀ t : Fin grid0.N, win0_1.index t 0 = 0 ∧ win0_1.index t 1 = t.val % 32)
theorem index_block : ∀ t : Fin cfg0.N, win0_2.index t 0 = t.val / 32 ∧ win0_2.index t 1 = t.val % 32 :=
  (by decide +kernel : ∀ t : Fin grid0.N, win0_2.index t 0 = t.val / 32 ∧ win0_2.index t 1 = t.val % 32)

theorem point_lt (t : Fin cfg0.N) : t.val < 1088 := lt_of_lt_of_eq t.isLt (show cfg0.N = 1088 from N_0)

variable (m : (ℓ : Loc nD τ sig) → Buf (Elt Ideal) ℓ) (q : Dev nD)

/-- The rows. -/
abbrev rows : (⟨S17408x2048, .bf16⟩ : BufTy).Contents (Elt Ideal) := m ((q.tc : Thread nD τ).loc main_arg0)
/-- The weights. -/
abbrev weights : (⟨S2048x16384, .f32⟩ : BufTy).Contents (Elt Ideal) := m ((q.tc : Thread nD τ).loc main_arg1)

/-- The reference's product of the rows and the weights. -/
abbrev result : (⟨S17408x16384, .f32⟩ : BufTy).Contents (Elt Ideal) :=
  Host.dotGeneral (F := Ideal) (φ₂ := .f32) Cert.ReferenceInIdeal.dot_S17408x2048_S2048x16384_S17408x16384_1_0_0_1_n_n none (extf .f32 (rows m q) Cert.ReferenceInIdeal.Gen.bitsLt_bf16_f32) (weights m q)

/-- The product at an index. -/
theorem result_at (r : Fin 17408) (k : Fin 16384) :
    result m q (ix2 r k) = ∑ e : Fin 2048, rows m q (ix2 r e) * weights m q (ix2 e k) := by
  unfold result
  generalize rows m q = A
  generalize weights m q = W
  pointwise

/-- What the body leaves at an index of its block. -/
theorem block_at (x0 : Vec Ideal S512x2048 .bf16) (x1 : Vec Ideal S2048x512 .bf16) (i j : Fin 512) :
    out0_2 x0 x1 (ix2 i j) = ∑ e : Fin 2048, x0 (ix2 i e) * x1 (ix2 e j) := by
  unfold out0_2
  rw [View.canon_unit_zero z2]
  simp only [View.ld_unit_zero (S := S512x2048) z2, View.ld_unit_zero (S := S2048x512) z2]
  unfold k0_pay1
  pointwise

/-- The rows' block at a point. -/
theorem rows_block (t : Fin cfg0.N) (i : Fin 512) (e : Fin 2048) (r : Fin 17408) (hr : r.val = t.val / 32 * 512 + i.val) :
    iblk m q 0 t (ix2 i e) = rows m q (ix2 r e) := by
  have h0 := index_rows t
  blk_simp [iblk]
  refine (congrFun (V_main_arg0 m q) _).trans (congrArg _ ?_)
  funext a
  refine Fin.ext ?_
  match a with
  | ⟨0, _⟩ => blk_simp; show _ = r.val; omega
  | ⟨1, _⟩ => blk_simp; show _ = e.val; omega

/-- The weights the kernel is entered with: over the extended reals the cast changes nothing. -/
theorem cast_weights : V m q main_v0 = weights m q := by
  unfold V
  after_reads_simp
  rfl

/-- The weights' block at a point. -/
theorem weights_block (t : Fin cfg0.N) (e : Fin 2048) (j : Fin 512) (k : Fin 16384) (hk : k.val = t.val % 32 * 512 + j.val) :
    iblk m q 1 t (ix2 e j) = weights m q (ix2 e k) := by
  have h0 := index_columns t
  blk_simp [iblk]
  refine (congrFun (cast_weights m q) _).trans (congrArg _ ?_)
  funext a
  refine Fin.ext ?_
  match a with
  | ⟨0, _⟩ => blk_simp; show _ = e.val; omega
  | ⟨1, _⟩ => blk_simp; show _ = k.val; omega

/-- What a grid point writes back is its block of the product. -/
theorem written_at (t : Fin cfg0.N) (i j : Fin 512) :
    (dats m 0 q).after 2 t (ix2 i j) = result m q (((cfg0.win 2).blk t).view.emb (ix2 i j)) := by
  have ht := point_lt t
  have h0 := index_block t
  rw [after0_2]
  refine (block_at (iblk m q 0 t) (iblk m q 1 t) i j).trans ?_
  obtain ⟨r, hr⟩ : ∃ r : Fin 17408, r.val = t.val / 32 * 512 + i.val := ⟨⟨t.val / 32 * 512 + i.val, by omega⟩, rfl⟩
  obtain ⟨k, hk⟩ : ∃ k : Fin 16384, k.val = t.val % 32 * 512 + j.val := ⟨⟨t.val % 32 * 512 + j.val, by omega⟩, rfl⟩
  refine Eq.trans (Finset.sum_congr rfl fun e _ => ?_) ((result_at m q r k).symm.trans (congrArg (result m q) ?_))
  · exact congrArg₂ (· * ·) (rows_block m q t i e r hr) (weights_block m q t e j k hk)
  funext a
  refine Fin.ext ?_
  match a with
  | ⟨0, _⟩ => blk_simp; show r.val = _; omega
  | ⟨1, _⟩ => blk_simp; show k.val = _; omega

/-- Every index of the array lies in the block of some grid point. -/
theorem covered (x : S17408x16384.Idx) : ∃ t : Fin cfg0.N, (cfg0.win 2).flush t = true ∧ x ∈ ((cfg0.win 2).blk t).view.set := by
  have h0 : (x 0).val < 17408 := (x 0).isLt
  have h1 : (x 1).val < 16384 := (x 1).isLt
  obtain ⟨t, ht⟩ : ∃ t : Fin cfg0.N, t.val = (x 0).val / 512 * 32 + (x 1).val / 512 :=
    ⟨⟨(x 0).val / 512 * 32 + (x 1).val / 512, by rw [show cfg0.N = 1088 from N_0]; omega⟩, rfl⟩
  refine ⟨t, flush0_2 t, ?_⟩
  have hi := index_block t
  have e0 : t.val / 32 = (x 0).val / 512 := by rw [ht]; omega
  have e1 : t.val % 32 = (x 1).val / 512 := by rw [ht]; omega
  rw [e0, e1] at hi
  mem_blk
  omega

/-- The array the kernel leaves. -/
theorem array_eq : (dats m 0 q).arrAt 2 cfg0.N = result m q := by
  refine (dats m 0 q).arrAt_eq_of_emb 2 (result m q) (fun t _ y => ?_) covered
  have hy : ∃ (i j : Fin 512), y = ix2 i j := ⟨y 0, y 1, by
    funext a
    match a with
    | ⟨0, _⟩ => rfl
    | ⟨1, _⟩ => rfl⟩
  obtain ⟨i, j, rfl⟩ := hy
  exact written_at m q t i j

/-- The kernel ends on every run, its arguments unchanged and its counters at zero. -/
theorem frame_kernel : Cert.quiescent_KernelIn (hKernelIn := Cert.KernelIn.Gen.facts) :=
  fun m ρ _ => Cert.KernelIn.Gen.frame m ρ

/-- The same of the kernel read over the extended reals. -/
theorem frame_kernel_ideal : Cert.quiescent_KernelInIdeal (hKernelInIdeal := Cert.KernelInIdeal.Gen.facts) :=
  fun m ρ _ => Cert.KernelInIdeal.Gen.frame m ρ

/-- The same of the reference read over the extended reals; it declares no semaphore. -/
theorem frame_reference_ideal : Cert.quiescent_ReferenceInIdeal (hReferenceInIdeal := Cert.ReferenceInIdeal.Gen.facts) := fun m ρ _ =>
  (θ_run Cert.ReferenceInIdeal.defs _ _).mono
    (fun r h => ⟨fun c => (h c).2, Idealize.ShloMosaic.sem_eq_zero_of_no_sems (by decide) r.2⟩)
    (Cert.ReferenceInIdeal.Value.run (F := Ideal) m ρ)

/-- Over the extended reals the kernel's array is the reference's product, whatever the arguments. -/
theorem kernel_is_reference : Cert.algebraic_KernelInIdeal_ReferenceInIdeal (hKernelInIdeal := Cert.KernelInIdeal.Gen.facts)
    (hReferenceInIdeal := Cert.ReferenceInIdeal.Gen.facts) := by
  intro m ρ m' ρ' _ hagree
  refine ⟨fun c => result m c, ?_, ?_⟩
  · exact (θ_run Cert.KernelInIdeal.defs _ _).mono (fun _ h c => ⟨(h c).1.trans (array_eq m c), (h c).2⟩)
      (Cert.KernelInIdeal.Value.run_blocks (F := Ideal) m ρ)
  · refine (θ_run Cert.ReferenceInIdeal.defs _ _).mono (fun _ h c => ⟨(h c).1.trans ?_, (h c).2⟩)
      (Cert.ReferenceInIdeal.Value.run (F := Ideal) m' ρ')
    rw [(hagree c).1, (hagree c).2]

end Cert.KernelInIdeal.ProjValue

end
-- ==== Proof.RetMerge.lean ====
/-
  The retention's merge: each direction's output is normed head by head, gated by its silu gate, and the two are added.
  A grid point holds 256 rows of one head, whose 512 columns are all that its norm reads.
-/
module

public import proofs.«01_k».proof.Defs
public import proofs.«01_k».proof.Proof.Gen.KernelMerge.Frame
public import proofs.«01_k».proof.Proof.Gen.KernelMergeIdeal.Value
public import proofs.«01_k».proof.Proof.Gen.ReferenceMergeIdeal.Run
public import Idealize.ShloMosaic.Lib.Pipeline.ValueKit
public import Idealize.ShloMosaic.Lib.Quiescent

@[expose] public section

set_option maxRecDepth 16384

noncomputable section

namespace Cert.KernelMergeIdeal.MergeValue

open Idealize.ShloMosaic Idealize.ShloMosaic.TcCoe Idealize.SL.Sem Idealize.ShloMosaic.StableHlo
open Cert.KernelMergeIdeal Cert.KernelMergeIdeal.Gen

theorem z2 : (![0, 0] : Fin 2 → Nat) = fun _ => 0 := funext fun a => by fin_cases a <;> rfl

theorem index_outputs : ∀ t : Fin cfg0.N, win0_0.index t 0 = 0 ∧ win0_0.index t 1 = t.val / 8 ∧ win0_0.index t 2 = t.val % 8 :=
  (by decide +kernel : ∀ t : Fin grid0.N, win0_0.index t 0 = 0 ∧ win0_0.index t 1 = t.val / 8 ∧ win0_0.index t 2 = t.val % 8)
theorem index_gate0 : ∀ t : Fin cfg0.N, win0_1.index t 0 = t.val / 8 ∧ win0_1.index t 1 = 16 + t.val % 8 :=
  (by decide +kernel : ∀ t : Fin grid0.N, win0_1.index t 0 = t.val / 8 ∧ win0_1.index t 1 = 16 + t.val % 8)
theorem index_gate1 : ∀ t : Fin cfg0.N, win0_2.index t 0 = t.val / 8 ∧ win0_2.index t 1 = 24 + t.val % 8 :=
  (by decide +kernel : ∀ t : Fin grid0.N, win0_2.index t 0 = t.val / 8 ∧ win0_2.index t 1 = 24 + t.val % 8)
theorem index_block : ∀ t : Fin cfg0.N, win0_3.index t 0 = t.val / 8 ∧ win0_3.index t 1 = t.val % 8 :=
  (by decide +kernel : ∀ t : Fin grid0.N, win0_3.index t 0 = t.val / 8 ∧ win0_3.index t 1 = t.val % 8)

theorem point_lt (t : Fin cfg0.N) : t.val < 544 := lt_of_lt_of_eq t.isLt (show cfg0.N = 544 from N_0)

/-- The mean of a head's 512 values. -/
def mean (x : Fin 512 → EReal) : EReal := Ideal.div (∑ e, x e) (Ideal.ofBits FTy.f32 1140850688#32)

/-- A head's value less the mean, over the root of the variance and the program's small constant. -/
def normed (x : Fin 512 → EReal) (j : Fin 512) : EReal :=
  (x j - mean x) * Ideal.rsqrt (Ideal.div (∑ e, (x e - mean x) * (x e - mean x)) (Ideal.ofBits FTy.f32 1140850688#32)
    + Ideal.ofBits FTy.f32 925353388#32)

/-- A gate: the value times its logistic. -/
def silu (g : EReal) : EReal := g * Ideal.logistic g

/-- A direction's outputs as the reference's rows of heads. -/
abbrev Heads := (⟨Cert.ReferenceMergeIdeal.S17408x8x512, .f32⟩ : BufTy).Contents (Elt Ideal)
/-- Rows of all the heads' columns. -/
abbrev Rows := (⟨Cert.ReferenceMergeIdeal.S17408x4096, .f32⟩ : BufTy).Contents (Elt Ideal)

/-- The reference's mean over each head. -/
def headMean (A : Heads) : (⟨Cert.ReferenceMergeIdeal.S17408x8x1, .f32⟩ : BufTy).Contents (Elt Ideal) :=
  Host.divf (F := Ideal) (broadcastInDim Cert.ReferenceMergeIdeal.S17408x8x1 ![0, 1] Cert.ReferenceMergeIdeal.Gen.bcast_S17408x8_S17408x8x1_0_1
      (Host.reduceAdd A (constant Cert.ReferenceMergeIdeal.S_ .f32 0x00000000#32) Cert.ReferenceMergeIdeal.Gen.reducesTo_S17408x8x512_S17408x8_d2 Cert.ReferenceMergeIdeal.Gen.h_S_))
    (broadcastInDim Cert.ReferenceMergeIdeal.S17408x8x1 ![] Cert.ReferenceMergeIdeal.Gen.bcast_S_S17408x8x1 (constant Cert.ReferenceMergeIdeal.S_ .f32 0x44000000#32))

/-- The reference's heads less their means. -/
def headCentred (A : Heads) : Heads :=
  subf (F := Ideal) (φ := .f32) A (broadcastInDim Cert.ReferenceMergeIdeal.S17408x8x512 ![0, 1, 2] Cert.ReferenceMergeIdeal.Gen.bcast_S17408x8x1_S17408x8x512_0_1_2 (headMean A))

/-- The reference's normed heads. -/
def headNormed (A : Heads) : Heads :=
  mulf (F := Ideal) (φ := .f32) (headCentred A) (broadcastInDim Cert.ReferenceMergeIdeal.S17408x8x512 ![0, 1, 2] Cert.ReferenceMergeIdeal.Gen.bcast_S17408x8x1_S17408x8x512_0_1_2
    (Host.rsqrt (addf (headMean (mulf (F := Ideal) (φ := .f32) (headCentred A) (headCentred A)))
      (broadcastInDim Cert.ReferenceMergeIdeal.S17408x8x1 ![] Cert.ReferenceMergeIdeal.Gen.bcast_S_S17408x8x1 (constant Cert.ReferenceMergeIdeal.S_ .f32 0x3727C5AC#32)))))

/-- The reference's gate. -/
def gate (g : Rows) : Rows :=
  mulf (F := Ideal) (φ := .f32) g (Host.divf (broadcastInDim Cert.ReferenceMergeIdeal.S17408x4096 ![] Cert.ReferenceMergeIdeal.Gen.bcast_S_S17408x4096 (constant Cert.ReferenceMergeIdeal.S_ .f32 0x3F800000#32))
    (addf (broadcastInDim Cert.ReferenceMergeIdeal.S17408x4096 ![] Cert.ReferenceMergeIdeal.Gen.bcast_S_S17408x4096 (constant Cert.ReferenceMergeIdeal.S_ .f32 0x3F800000#32)) (Host.exp (Host.negf g))))

theorem headMean_at (A : Heads) (r : Fin 17408) (h : Fin 8) : headMean A (ix3 r h 0) = mean fun e => A (ix3 r h e) := by
  unfold headMean mean
  pointwise

theorem headCentred_at (A : Heads) (r : Fin 17408) (h : Fin 8) (j : Fin 512) :
    headCentred A (ix3 r h j) = A (ix3 r h j) - mean fun e => A (ix3 r h e) := by
  rw [← headMean_at]
  unfold headCentred
  generalize headMean A = M
  pointwise

theorem headNormed_at (A : Heads) (r : Fin 17408) (h : Fin 8) (j : Fin 512) :
    headNormed A (ix3 r h j) = normed (fun e => A (ix3 r h e)) j := by
  have hv := headMean_at (mulf (F := Ideal) (φ := .f32) (headCentred A) (headCentred A)) r h
  have hs : (mean fun e => mulf (F := Ideal) (φ := .f32) (headCentred A) (headCentred A) (ix3 r h e))
      = mean fun e => (A (ix3 r h e) - mean fun e => A (ix3 r h e)) * (A (ix3 r h e) - mean fun e => A (ix3 r h e)) :=
    congrArg mean (funext fun e => congrArg₂ (· * ·) (headCentred_at A r h e) (headCentred_at A r h e))
  have hc := headCentred_at A r h j
  rw [hs] at hv
  unfold headNormed
  generalize headMean (mulf (F := Ideal) (φ := .f32) (headCentred A) (headCentred A)) = M at hv ⊢
  generalize headCentred A = C at hc ⊢
  pointwise
  rw [hc, hv]
  rfl

theorem gate_at (g : Rows) (r : Fin 17408) (k : Fin 4096) : gate g (ix2 r k) = silu (g (ix2 r k)) := by
  unfold gate silu Ideal.logistic
  pointwise

variable (m : (ℓ : Loc nD τ sig) → Buf (Elt Ideal) ℓ) (q : Dev nD)

/-- The two directions' outputs. -/
abbrev outputs : (⟨S2x17408x4096, .f32⟩ : BufTy).Contents (Elt Ideal) := m ((q.tc : Thread nD τ).loc main_arg0)
/-- The projected rows, whose last two quarters are the gates. -/
abbrev projected : (⟨S17408x16384, .f32⟩ : BufTy).Contents (Elt Ideal) := m ((q.tc : Thread nD τ).loc main_arg1)

/-- The forward direction's outputs by heads. -/
def heads0 : Heads :=
  shapeCast _ (extractStridedSlice Cert.ReferenceMergeIdeal.S1x17408x8x512 ![0, 0, 0, 0] (shapeCast _ (outputs m q) Cert.ReferenceMergeIdeal.Gen.shapeCasts_S2x17408x4096_S2x17408x8x512)
    Cert.ReferenceMergeIdeal.Gen.slices_S2x17408x8x512_S1x17408x8x512_0_0_0_0) Cert.ReferenceMergeIdeal.Gen.shapeCasts_S1x17408x8x512_S17408x8x512
/-- The backward direction's outputs by heads. -/
def heads1 : Heads :=
  shapeCast _ (extractStridedSlice Cert.ReferenceMergeIdeal.S1x17408x8x512 ![1, 0, 0, 0] (shapeCast _ (outputs m q) Cert.ReferenceMergeIdeal.Gen.shapeCasts_S2x17408x4096_S2x17408x8x512)
    Cert.ReferenceMergeIdeal.Gen.slices_S2x17408x8x512_S1x17408x8x512_1_0_0_0) Cert.ReferenceMergeIdeal.Gen.shapeCasts_S1x17408x8x512_S17408x8x512
/-- The forward direction's gate values. -/
def gates0 : Rows := extractStridedSlice Cert.ReferenceMergeIdeal.S17408x4096 ![0, 8192] (projected m q) Cert.ReferenceMergeIdeal.Gen.slices_S17408x16384_S17408x4096_0_8192
/-- The backward direction's gate values. -/
def gates1 : Rows := extractStridedSlice Cert.ReferenceMergeIdeal.S17408x4096 ![0, 12288] (projected m q) Cert.ReferenceMergeIdeal.Gen.slices_S17408x16384_S17408x4096_0_12288

/-- The reference's result at the kernel's arguments. -/
def result : (⟨S17408x4096, .bf16⟩ : BufTy).Contents (Elt Ideal) :=
  truncf (F := Ideal) .bf16 (addf
    (mulf (F := Ideal) (φ := .f32) (gate (gates0 m q)) (shapeCast _ (headNormed (heads0 m q)) Cert.ReferenceMergeIdeal.Gen.shapeCasts_S17408x8x512_S17408x4096))
    (mulf (F := Ideal) (φ := .f32) (gate (gates1 m q)) (shapeCast _ (headNormed (heads1 m q)) Cert.ReferenceMergeIdeal.Gen.shapeCasts_S17408x8x512_S17408x4096)))
    Cert.ReferenceMergeIdeal.Gen.bitsLt_bf16_f32

theorem heads0_at (r : Fin 17408) (h : Fin 8) (e : Fin 512) (k : Fin 4096) (hk : k.val = h.val * 512 + e.val) :
    heads0 m q (ix3 r h e) = outputs m q (ix3 0 r k) := by
  unfold heads0
  generalize outputs m q = A
  pointwise
  exact congrArg (fun x => A (ix3 0 r x)) (Fin.ext hk.symm)

theorem heads1_at (r : Fin 17408) (h : Fin 8) (e : Fin 512) (k : Fin 4096) (hk : k.val = h.val * 512 + e.val) :
    heads1 m q (ix3 r h e) = outputs m q (ix3 1 r k) := by
  unfold heads1
  generalize outputs m q = A
  pointwise
  exact congrArg (fun x => A (ix3 1 r x)) (Fin.ext hk.symm)

theorem gates0_at (r : Fin 17408) (k : Fin 4096) (g : Fin 16384) (hg : g.val = 8192 + k.val) :
    gates0 m q (ix2 r k) = projected m q (ix2 r g) := by
  unfold gates0
  generalize projected m q = A
  pointwise
  exact congrArg (fun x => A (ix2 r x)) (Fin.ext (by show _ = g.val; rw [hg]))

theorem gates1_at (r : Fin 17408) (k : Fin 4096) (g : Fin 16384) (hg : g.val = 12288 + k.val) :
    gates1 m q (ix2 r k) = projected m q (ix2 r g) := by
  unfold gates1
  generalize projected m q = A
  pointwise
  exact congrArg (fun x => A (ix2 r x)) (Fin.ext (by show _ = g.val; rw [hg]))

/-- The result at an index: `h` is its head, `c` the head's columns, `g` and `g'` its two gates' columns. -/
theorem result_at (r : Fin 17408) (h : Fin 8) (j : Fin 512) (k : Fin 4096) (hk : k.val = h.val * 512 + j.val)
    (c : Fin 512 → Fin 4096) (hc : ∀ e, (c e).val = h.val * 512 + e.val)
    (g g' : Fin 16384) (hg : g.val = 8192 + k.val) (hg' : g'.val = 12288 + k.val) :
    result m q (ix2 r k) = silu (projected m q (ix2 r g)) * normed (fun e => outputs m q (ix3 0 r (c e))) j
      + silu (projected m q (ix2 r g')) * normed (fun e => outputs m q (ix3 1 r (c e))) j := by
  have e0 := headNormed_at (heads0 m q) r h j
  rw [show (fun e => heads0 m q (ix3 r h e)) = fun e => outputs m q (ix3 0 r (c e)) from
    funext fun e => heads0_at m q r h e (c e) (hc e)] at e0
  have e1 := headNormed_at (heads1 m q) r h j
  rw [show (fun e => heads1 m q (ix3 r h e)) = fun e => outputs m q (ix3 1 r (c e)) from
    funext fun e => heads1_at m q r h e (c e) (hc e)] at e1
  have a0 := gate_at (gates0 m q) r k
  rw [gates0_at m q r k g hg] at a0
  have a1 := gate_at (gates1 m q) r k
  rw [gates1_at m q r k g' hg'] at a1
  rw [← a0, ← a1, ← e0, ← e1]
  unfold result
  generalize headNormed (heads0 m q) = H0
  generalize headNormed (heads1 m q) = H1
  generalize gate (gates0 m q) = G0
  generalize gate (gates1 m q) = G1
  have hd (H : Heads) (p p') : H (ix3 r ⟨k.val / 512, p⟩ ⟨k.val % 512, p'⟩) = H (ix3 r h j) :=
    congrArg₂ (fun x y => H (ix3 r x y)) (Fin.ext (by show k.val / 512 = h.val; omega)) (Fin.ext (by show k.val % 512 = j.val; omega))
  pointwise
  rw [hd H0, hd H1]

/-- What the body leaves at an index of its block. -/
theorem block_at (x0 : Vec Ideal S2x256x512 .f32) (x1 x2 : Vec Ideal S256x512 .f32) (i : Fin 256) (j : Fin 512) :
    out0_3 x0 x1 x2 (ix2 i j) = silu (x1 (ix2 i j)) * normed (fun e => x0 (ix3 0 i e)) j
      + silu (x2 (ix2 i j)) * normed (fun e => x0 (ix3 1 i e)) j := by
  unfold out0_3
  rw [View.canon_unit_zero z2]
  simp only [View.ld_unit_zero (S := S256x512) z2]
  have h1 (e : Fin 512) : View.ld x0 r0_0 (ix3 0 i e) = x0 (ix3 0 i e) := by
    refine congrArg x0 ?_
    funext a
    refine Fin.ext ?_
    match a with
    | ⟨0, _⟩ => rfl
    | ⟨1, _⟩ => show 0 + 1 * i.val = i.val; omega
    | ⟨2, _⟩ => show 0 + 1 * e.val = e.val; omega
  have h2 (e : Fin 512) : View.ld x0 r0_2 (ix3 0 i e) = x0 (ix3 1 i e) := by
    refine congrArg x0 ?_
    funext a
    refine Fin.ext ?_
    match a with
    | ⟨0, _⟩ => rfl
    | ⟨1, _⟩ => show 0 + 1 * i.val = i.val; omega
    | ⟨2, _⟩ => show 0 + 1 * e.val = e.val; omega
  rw [show (fun e => x0 (ix3 0 i e)) = fun e => View.ld x0 r0_0 (ix3 0 i e) from funext fun e => (h1 e).symm,
    show (fun e => x0 (ix3 1 i e)) = fun e => View.ld x0 r0_2 (ix3 0 i e) from funext fun e => (h2 e).symm]
  generalize View.ld x0 r0_0 = y1
  generalize View.ld x0 r0_2 = y2
  unfold k0_pay1 k0_pay2 k0_pay4 k0_pay3 k0_pay5
  pointwise
  rfl

/-- The outputs' block at a point. -/
theorem outputs_block (t : Fin cfg0.N) (p : Fin 2) (i : Fin 256) (e : Fin 512) (r : Fin 17408) (k : Fin 4096)
    (hr : r.val = t.val / 8 * 256 + i.val) (hk : k.val = t.val % 8 * 512 + e.val) :
    iblk m q 0 t (ix3 p i e) = outputs m q (ix3 p r k) := by
  have h0 := index_outputs t
  blk_simp [iblk]
  refine (congrFun (V_main_arg0 m q) _).trans (congrArg _ ?_)
  funext a
  refine Fin.ext ?_
  match a with
  | ⟨0, _⟩ => blk_simp; show _ = p.val; omega
  | ⟨1, _⟩ => blk_simp; show _ = r.val; omega
  | ⟨2, _⟩ => blk_simp; show _ = k.val; omega

/-- The forward gate's block at a point. -/
theorem gate0_block (t : Fin cfg0.N) (i : Fin 256) (j : Fin 512) (r : Fin 17408) (g : Fin 16384)
    (hr : r.val = t.val / 8 * 256 + i.val) (hg : g.val = 8192 + (t.val % 8 * 512 + j.val)) :
    iblk m q 1 t (ix2 i j) = projected m q (ix2 r g) := by
  have h0 := index_gate0 t
  blk_simp [iblk]
  refine (congrFun (V_main_arg1 m q) _).trans (congrArg _ ?_)
  funext a
  refine Fin.ext ?_
  match a with
  | ⟨0, _⟩ => blk_simp; show _ = r.val; omega
  | ⟨1, _⟩ => blk_simp; show _ = g.val; omega

/-- The backward gate's block at a point. -/
theorem gate1_block (t : Fin cfg0.N) (i : Fin 256) (j : Fin 512) (r : Fin 17408) (g : Fin 16384)
    (hr : r.val = t.val / 8 * 256 + i.val) (hg : g.val = 12288 + (t.val % 8 * 512 + j.val)) :
    iblk m q 2 t (ix2 i j) = projected m q (ix2 r g) := by
  have h0 := index_gate1 t
  blk_simp [iblk]
  refine (congrFun (V_main_arg1 m q) _).trans (congrArg _ ?_)
  funext a
  refine Fin.ext ?_
  match a with
  | ⟨0, _⟩ => blk_simp; show _ = r.val; omega
  | ⟨1, _⟩ => blk_simp; show _ = g.val; omega

/-- What a grid point writes back is its block of the result. -/
theorem written_at (t : Fin cfg0.N) (i : Fin 256) (j : Fin 512) :
    (dats m 0 q).after 3 t (ix2 i j) = result m q (((cfg0.win 3).blk t).view.emb (ix2 i j)) := by
  have ht := point_lt t
  have h0 := index_block t
  rw [after0_3]
  refine (block_at (iblk m q 0 t) (iblk m q 1 t) (iblk m q 2 t) i j).trans ?_
  obtain ⟨r, hr⟩ : ∃ r : Fin 17408, r.val = t.val / 8 * 256 + i.val := ⟨⟨t.val / 8 * 256 + i.val, by omega⟩, rfl⟩
  obtain ⟨h, hh⟩ : ∃ h : Fin 8, h.val = t.val % 8 := ⟨⟨t.val % 8, by omega⟩, rfl⟩
  obtain ⟨c, hc⟩ : ∃ c : Fin 512 → Fin 4096, ∀ e, (c e).val = t.val % 8 * 512 + e.val :=
    ⟨fun e => ⟨t.val % 8 * 512 + e.val, by omega⟩, fun _ => rfl⟩
  obtain ⟨g, hg⟩ : ∃ g : Fin 16384, g.val = 8192 + (t.val % 8 * 512 + j.val) := ⟨⟨8192 + (t.val % 8 * 512 + j.val), by omega⟩, rfl⟩
  obtain ⟨g', hg'⟩ : ∃ g' : Fin 16384, g'.val = 12288 + (t.val % 8 * 512 + j.val) :=
    ⟨⟨12288 + (t.val % 8 * 512 + j.val), by omega⟩, rfl⟩
  rw [gate0_block m q t i j r g hr hg, gate1_block m q t i j r g' hr hg',
    show (fun e => iblk m q 0 t (ix3 0 i e)) = fun e => outputs m q (ix3 0 r (c e)) from
      funext fun e => outputs_block m q t 0 i e r (c e) hr (hc e),
    show (fun e => iblk m q 0 t (ix3 1 i e)) = fun e => outputs m q (ix3 1 r (c e)) from
      funext fun e => outputs_block m q t 1 i e r (c e) hr (hc e)]
  refine (result_at m q r h j (c j) (by rw [hc, hh]) c (fun e => by rw [hc, hh]) g g' (by rw [hg, hc]) (by rw [hg', hc])).symm.trans
    (congrArg (result m q) ?_)
  have hj := hc j
  funext a
  refine Fin.ext ?_
  match a with
  | ⟨0, _⟩ => blk_simp; show r.val = _; omega
  | ⟨1, _⟩ => blk_simp; show (c j).val = _; omega

/-- Every index of the array lies in the block of some grid point. -/
theorem covered (x : S17408x4096.Idx) : ∃ t : Fin cfg0.N, (cfg0.win 3).flush t = true ∧ x ∈ ((cfg0.win 3).blk t).view.set := by
  have h0 : (x 0).val < 17408 := (x 0).isLt
  have h1 : (x 1).val < 4096 := (x 1).isLt
  obtain ⟨t, ht⟩ : ∃ t : Fin cfg0.N, t.val = (x 0).val / 256 * 8 + (x 1).val / 512 :=
    ⟨⟨(x 0).val / 256 * 8 + (x 1).val / 512, by rw [show cfg0.N = 544 from N_0]; omega⟩, rfl⟩
  refine ⟨t, flush0_3 t, ?_⟩
  have hi := index_block t
  have e0 : t.val / 8 = (x 0).val / 256 := by rw [ht]; omega
  have e1 : t.val % 8 = (x 1).val / 512 := by rw [ht]; omega
  rw [e0, e1] at hi
  mem_blk
  omega

/-- The array the kernel leaves. -/
theorem array_eq : (dats m 0 q).arrAt 3 cfg0.N = result m q := by
  refine (dats m 0 q).arrAt_eq_of_emb 3 (result m q) (fun t _ y => ?_) covered
  have hy : ∃ (i : Fin 256) (j : Fin 512), y = ix2 i j := ⟨y 0, y 1, by
    funext a
    match a with
    | ⟨0, _⟩ => rfl
    | ⟨1, _⟩ => rfl⟩
  obtain ⟨i, j, rfl⟩ := hy
  exact written_at m q t i j

/-- The kernel ends on every run, its arguments unchanged and its counters at zero. -/
theorem frame_kernel : Cert.quiescent_KernelMerge (hKernelMerge := Cert.KernelMerge.Gen.facts) :=
  fun m ρ _ => Cert.KernelMerge.Gen.frame m ρ

/-- The same of the kernel read over the extended reals. -/
theorem frame_kernel_ideal : Cert.quiescent_KernelMergeIdeal (hKernelMergeIdeal := Cert.KernelMergeIdeal.Gen.facts) :=
  fun m ρ _ => Cert.KernelMergeIdeal.Gen.frame m ρ

/-- The same of the reference read over the extended reals; it declares no semaphore. -/
theorem frame_reference_ideal : Cert.quiescent_ReferenceMergeIdeal (hReferenceMergeIdeal := Cert.ReferenceMergeIdeal.Gen.facts) := fun m ρ _ =>
  (θ_run Cert.ReferenceMergeIdeal.defs _ _).mono
    (fun r h => ⟨fun c => (h c).2, Idealize.ShloMosaic.sem_eq_zero_of_no_sems (by decide) r.2⟩)
    (Cert.ReferenceMergeIdeal.Value.run (F := Ideal) m ρ)

/-- Over the extended reals the kernel's array is the reference's, whatever the arguments. -/
theorem kernel_is_reference : Cert.algebraic_KernelMergeIdeal_ReferenceMergeIdeal (hKernelMergeIdeal := Cert.KernelMergeIdeal.Gen.facts)
    (hReferenceMergeIdeal := Cert.ReferenceMergeIdeal.Gen.facts) := by
  intro m ρ m' ρ' _ hagree
  refine ⟨fun c => result m c, ?_, ?_⟩
  · exact (θ_run Cert.KernelMergeIdeal.defs _ _).mono (fun _ h c => ⟨(h c).1.trans (array_eq m c), (h c).2⟩)
      (Cert.KernelMergeIdeal.Value.run_blocks (F := Ideal) m ρ)
  · refine (θ_run Cert.ReferenceMergeIdeal.defs _ _).mono (fun _ h c => ⟨(h c).1.trans ?_, (h c).2⟩)
      (Cert.ReferenceMergeIdeal.Value.run (F := Ideal) m' ρ')
    unfold Cert.ReferenceMergeIdeal.Value.res_main_v50
    rw [(hagree c).1, (hagree c).2]
    rfl

end Cert.KernelMergeIdeal.MergeValue

end
-- ==== Proof.ProjOut.lean ====
/-
  The retention's output projection: 17408 rows of 4096 against the weights' 2048 columns.
  A grid point multiplies 512 rows by 512 columns over the whole depth, so its block is the block of the product.
-/
module

public import proofs.«01_k».proof.Defs
public import proofs.«01_k».proof.Proof.Gen.KernelOut.Frame
public import proofs.«01_k».proof.Proof.Gen.KernelOutIdeal.Value
public import proofs.«01_k».proof.Proof.Gen.ReferenceOutIdeal.Run
public import Idealize.ShloMosaic.Lib.Pipeline.ValueKit
public import Idealize.ShloMosaic.Lib.Quiescent

@[expose] public section

set_option maxRecDepth 16384

noncomputable section

namespace Cert.KernelOutIdeal.ProjValue

open Idealize.ShloMosaic Idealize.ShloMosaic.TcCoe Idealize.SL.Sem Idealize.ShloMosaic.StableHlo
open Cert.KernelOutIdeal Cert.KernelOutIdeal.Gen

theorem z2 : (![0, 0] : Fin 2 → Nat) = fun _ => 0 := funext fun a => by fin_cases a <;> rfl

theorem index_rows : ∀ t : Fin cfg0.N, win0_0.index t 0 = t.val / 4 ∧ win0_0.index t 1 = 0 :=
  (by decide +kernel : ∀ t : Fin grid0.N, win0_0.index t 0 = t.val / 4 ∧ win0_0.index t 1 = 0)
theorem index_columns : ∀ t : Fin cfg0.N, win0_1.index t 0 = 0 ∧ win0_1.index t 1 = t.val % 4 :=
  (by decide +kernel : ∀ t : Fin grid0.N, win0_1.index t 0 = 0 ∧ win0_1.index t 1 = t.val % 4)
theorem index_block : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem point_lt (t : Fin cfg0.N) : t.val < 136 := lt_of_lt_of_eq t.isLt (show cfg0.N = 136 from N_0)

variable (m : (ℓ : Loc nD τ sig) → Buf (Elt Ideal) ℓ) (q : Dev nD)

/-- The rows. -/
abbrev rows : (⟨S17408x4096, .bf16⟩ : BufTy).Contents (Elt Ideal) := m ((q.tc : Thread nD τ).loc main_arg0)
/-- The weights. -/
abbrev weights : (⟨S4096x2048, .f32⟩ : BufTy).Contents (Elt Ideal) := m ((q.tc : Thread nD τ).loc main_arg1)

/-- The reference's product of the rows and the weights. -/
abbrev result : (⟨S17408x2048, .f32⟩ : BufTy).Contents (Elt Ideal) :=
  Host.dotGeneral (F := Ideal) (φ₂ := .f32) Cert.ReferenceOutIdeal.dot_S17408x4096_S4096x2048_S17408x2048_1_0_0_1_n_n none (extf .f32 (rows m q) Cert.ReferenceOutIdeal.Gen.bitsLt_bf16_f32) (weights m q)

/-- The product at an index. -/
theorem result_at (r : Fin 17408) (k : Fin 2048) :
    result m q (ix2 r k) = ∑ e : Fin 4096, rows m q (ix2 r e) * weights m q (ix2 e k) := by
  unfold result
  generalize rows m q = A
  generalize weights m q = W
  pointwise

/-- What the body leaves at an index of its block. -/
theorem block_at (x0 : Vec Ideal S512x4096 .bf16) (x1 : Vec Ideal S4096x512 .bf16) (i j : Fin 512) :
    out0_2 x0 x1 (ix2 i j) = ∑ e : Fin 4096, x0 (ix2 i e) * x1 (ix2 e j) := by
  unfold out0_2
  rw [View.canon_unit_zero z2]
  simp only [View.ld_unit_zero (S := S512x4096) z2, View.ld_unit_zero (S := S4096x512) z2]
  unfold k0_pay1
  pointwise

/-- The rows' block at a point. -/
theorem rows_block (t : Fin cfg0.N) (i : Fin 512) (e : Fin 4096) (r : Fin 17408) (hr : r.val = t.val / 4 * 512 + i.val) :
    iblk m q 0 t (ix2 i e) = rows m q (ix2 r e) := by
  have h0 := index_rows t
  blk_simp [iblk]
  refine (congrFun (V_main_arg0 m q) _).trans (congrArg _ ?_)
  funext a
  refine Fin.ext ?_
  match a with
  | ⟨0, _⟩ => blk_simp; show _ = r.val; omega
  | ⟨1, _⟩ => blk_simp; show _ = e.val; omega

/-- The weights the kernel is entered with: over the extended reals the cast changes nothing. -/
theorem cast_weights : V m q main_v0 = weights m q := by
  unfold V
  after_reads_simp
  rfl

/-- The weights' block at a point. -/
theorem weights_block (t : Fin cfg0.N) (e : Fin 4096) (j : Fin 512) (k : Fin 2048) (hk : k.val = t.val % 4 * 512 + j.val) :
    iblk m q 1 t (ix2 e j) = weights m q (ix2 e k) := by
  have h0 := index_columns t
  blk_simp [iblk]
  refine (congrFun (cast_weights m q) _).trans (congrArg _ ?_)
  funext a
  refine Fin.ext ?_
  match a with
  | ⟨0, _⟩ => blk_simp; show _ = e.val; omega
  | ⟨1, _⟩ => blk_simp; show _ = k.val; omega

/-- What a grid point writes back is its block of the product. -/
theorem written_at (t : Fin cfg0.N) (i j : Fin 512) :
    (dats m 0 q).after 2 t (ix2 i j) = result m q (((cfg0.win 2).blk t).view.emb (ix2 i j)) := by
  have ht := point_lt t
  have h0 := index_block t
  rw [after0_2]
  refine (block_at (iblk m q 0 t) (iblk m q 1 t) i j).trans ?_
  obtain ⟨r, hr⟩ : ∃ r : Fin 17408, r.val = t.val / 4 * 512 + i.val := ⟨⟨t.val / 4 * 512 + i.val, by omega⟩, rfl⟩
  obtain ⟨k, hk⟩ : ∃ k : Fin 2048, k.val = t.val % 4 * 512 + j.val := ⟨⟨t.val % 4 * 512 + j.val, by omega⟩, rfl⟩
  refine Eq.trans (Finset.sum_congr rfl fun e _ => ?_) ((result_at m q r k).symm.trans (congrArg (result m q) ?_))
  · exact congrArg₂ (· * ·) (rows_block m q t i e r hr) (weights_block m q t e j k hk)
  funext a
  refine Fin.ext ?_
  match a with
  | ⟨0, _⟩ => blk_simp; show r.val = _; omega
  | ⟨1, _⟩ => blk_simp; show k.val = _; omega

/-- Every index of the array lies in the block of some grid point. -/
theorem covered (x : S17408x2048.Idx) : ∃ t : Fin cfg0.N, (cfg0.win 2).flush t = true ∧ x ∈ ((cfg0.win 2).blk t).view.set := by
  have h0 : (x 0).val < 17408 := (x 0).isLt
  have h1 : (x 1).val < 2048 := (x 1).isLt
  obtain ⟨t, ht⟩ : ∃ t : Fin cfg0.N, t.val = (x 0).val / 512 * 4 + (x 1).val / 512 :=
    ⟨⟨(x 0).val / 512 * 4 + (x 1).val / 512, by rw [show cfg0.N = 136 from N_0]; omega⟩, rfl⟩
  refine ⟨t, flush0_2 t, ?_⟩
  have hi := index_block t
  have e0 : t.val / 4 = (x 0).val / 512 := by rw [ht]; omega
  have e1 : t.val % 4 = (x 1).val / 512 := by rw [ht]; omega
  rw [e0, e1] at hi
  mem_blk
  omega

/-- The array the kernel leaves. -/
theorem array_eq : (dats m 0 q).arrAt 2 cfg0.N = result m q := by
  refine (dats m 0 q).arrAt_eq_of_emb 2 (result m q) (fun t _ y => ?_) covered
  have hy : ∃ (i j : Fin 512), y = ix2 i j := ⟨y 0, y 1, by
    funext a
    match a with
    | ⟨0, _⟩ => rfl
    | ⟨1, _⟩ => rfl⟩
  obtain ⟨i, j, rfl⟩ := hy
  exact written_at m q t i j

/-- The kernel ends on every run, its arguments unchanged and its counters at zero. -/
theorem frame_kernel : Cert.quiescent_KernelOut (hKernelOut := Cert.KernelOut.Gen.facts) :=
  fun m ρ _ => Cert.KernelOut.Gen.frame m ρ

/-- The same of the kernel read over the extended reals. -/
theorem frame_kernel_ideal : Cert.quiescent_KernelOutIdeal (hKernelOutIdeal := Cert.KernelOutIdeal.Gen.facts) :=
  fun m ρ _ => Cert.KernelOutIdeal.Gen.frame m ρ

/-- The same of the reference read over the extended reals; it declares no semaphore. -/
theorem frame_reference_ideal : Cert.quiescent_ReferenceOutIdeal (hReferenceOutIdeal := Cert.ReferenceOutIdeal.Gen.facts) := fun m ρ _ =>
  (θ_run Cert.ReferenceOutIdeal.defs _ _).mono
    (fun r h => ⟨fun c => (h c).2, Idealize.ShloMosaic.sem_eq_zero_of_no_sems (by decide) r.2⟩)
    (Cert.ReferenceOutIdeal.Value.run (F := Ideal) m ρ)

/-- Over the extended reals the kernel's array is the reference's product, whatever the arguments. -/
theorem kernel_is_reference : Cert.algebraic_KernelOutIdeal_ReferenceOutIdeal (hKernelOutIdeal := Cert.KernelOutIdeal.Gen.facts)
    (hReferenceOutIdeal := Cert.ReferenceOutIdeal.Gen.facts) := by
  intro m ρ m' ρ' _ hagree
  refine ⟨fun c => result m c, ?_, ?_⟩
  · exact (θ_run Cert.KernelOutIdeal.defs _ _).mono (fun _ h c => ⟨(h c).1.trans (array_eq m c), (h c).2⟩)
      (Cert.KernelOutIdeal.Value.run_blocks (F := Ideal) m ρ)
  · refine (θ_run Cert.ReferenceOutIdeal.defs _ _).mono (fun _ h c => ⟨(h c).1.trans ?_, (h c).2⟩)
      (Cert.ReferenceOutIdeal.Value.run (F := Ideal) m' ρ')
    rw [(hagree c).1, (hagree c).2]

end Cert.KernelOutIdeal.ProjValue

end
-- ==== Proof.ProjRgIn.lean ====
/-
  The linear recurrence's input projection: 17408 rows of 2048 against the weights' 4096 columns.
  A grid point multiplies 512 rows by 512 columns over the whole depth, so its block is the block of the product.
-/
module

public import proofs.«01_k».proof.Defs
public import proofs.«01_k».proof.Proof.Gen.KernelRgIn.Frame
public import proofs.«01_k».proof.Proof.Gen.KernelRgInIdeal.Value
public import proofs.«01_k».proof.Proof.Gen.ReferenceRgInIdeal.Run
public import Idealize.ShloMosaic.Lib.Pipeline.ValueKit
public import Idealize.ShloMosaic.Lib.Quiescent

@[expose] public section

set_option maxRecDepth 16384

noncomputable section

namespace Cert.KernelRgInIdeal.ProjValue

open Idealize.ShloMosaic Idealize.ShloMosaic.TcCoe Idealize.SL.Sem Idealize.ShloMosaic.StableHlo
open Cert.KernelRgInIdeal Cert.KernelRgInIdeal.Gen

theorem z2 : (![0, 0] : Fin 2 → Nat) = fun _ => 0 := funext fun a => by fin_cases a <;> rfl

theorem index_rows : ∀ t : Fin cfg0.N, win0_0.index t 0 = t.val / 8 ∧ win0_0.index t 1 = 0 :=
  (by decide +kernel : ∀ t : Fin grid0.N, win0_0.index t 0 = t.val / 8 ∧ win0_0.index t 1 = 0)
theorem index_columns : ∀ t : Fin cfg0.N, win0_1.index t 0 = 0 ∧ win0_1.index t 1 = t.val % 8 :=
  (by decide +kernel : ∀ t : Fin grid0.N, win0_1.index t 0 = 0 ∧ win0_1.index t 1 = t.val % 8)
theorem index_block : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

theorem point_lt (t : Fin cfg0.N) : t.val < 272 := lt_of_lt_of_eq t.isLt (show cfg0.N = 272 from N_0)

variable (m : (ℓ : Loc nD τ sig) → Buf (Elt Ideal) ℓ) (q : Dev nD)

/-- The rows. -/
abbrev rows : (⟨S17408x2048, .bf16⟩ : BufTy).Contents (Elt Ideal) := m ((q.tc : Thread nD τ).loc main_arg0)
/-- The weights. -/
abbrev weights : (⟨S2048x4096, .f32⟩ : BufTy).Contents (Elt Ideal) := m ((q.tc : Thread nD τ).loc main_arg1)

/-- The reference's product of the rows and the weights. -/
abbrev result : (⟨S17408x4096, .f32⟩ : BufTy).Contents (Elt Ideal) :=
  Host.dotGeneral (F := Ideal) (φ₂ := .f32) Cert.ReferenceRgInIdeal.dot_S17408x2048_S2048x4096_S17408x4096_1_0_0_1_n_n none (extf .f32 (rows m q) Cert.ReferenceRgInIdeal.Gen.bitsLt_bf16_f32) (weights m q)

/-- The product at an index. -/
theorem result_at (r : Fin 17408) (k : Fin 4096) :
    result m q (ix2 r k) = ∑ e : Fin 2048, rows m q (ix2 r e) * weights m q (ix2 e k) := by
  unfold result
  generalize rows m q = A
  generalize weights m q = W
  pointwise

/-- What the body leaves at an index of its block. -/
theorem block_at (x0 : Vec Ideal S512x2048 .bf16) (x1 : Vec Ideal S2048x512 .bf16) (i j : Fin 512) :
    out0_2 x0 x1 (ix2 i j) = ∑ e : Fin 2048, x0 (ix2 i e) * x1 (ix2 e j) := by
  unfold out0_2
  rw [View.canon_unit_zero z2]
  simp only [View.ld_unit_zero (S := S512x2048) z2, View.ld_unit_zero (S := S2048x512) z2]
  unfold k0_pay1
  pointwise

/-- The rows' block at a point. -/
theorem rows_block (t : Fin cfg0.N) (i : Fin 512) (e : Fin 2048) (r : Fin 17408) (hr : r.val = t.val / 8 * 512 + i.val) :
    iblk m q 0 t (ix2 i e) = rows m q (ix2 r e) := by
  have h0 := index_rows t
  blk_simp [iblk]
  refine (congrFun (V_main_arg0 m q) _).trans (congrArg _ ?_)
  funext a
  refine Fin.ext ?_
  match a with
  | ⟨0, _⟩ => blk_simp; show _ = r.val; omega
  | ⟨1, _⟩ => blk_simp; show _ = e.val; omega

/-- The weights the kernel is entered with: over the extended reals the cast changes nothing. -/
theorem cast_weights : V m q main_v0 = weights m q := by
  unfold V
  after_reads_simp
  rfl

/-- The weights' block at a point. -/
theorem weights_block (t : Fin cfg0.N) (e : Fin 2048) (j : Fin 512) (k : Fin 4096) (hk : k.val = t.val % 8 * 512 + j.val) :
    iblk m q 1 t (ix2 e j) = weights m q (ix2 e k) := by
  have h0 := index_columns t
  blk_simp [iblk]
  refine (congrFun (cast_weights m q) _).trans (congrArg _ ?_)
  funext a
  refine Fin.ext ?_
  match a with
  | ⟨0, _⟩ => blk_simp; show _ = e.val; omega
  | ⟨1, _⟩ => blk_simp; show _ = k.val; omega

/-- What a grid point writes back is its block of the product. -/
theorem written_at (t : Fin cfg0.N) (i j : Fin 512) :
    (dats m 0 q).after 2 t (ix2 i j) = result m q (((cfg0.win 2).blk t).view.emb (ix2 i j)) := by
  have ht := point_lt t
  have h0 := index_block t
  rw [after0_2]
  refine (block_at (iblk m q 0 t) (iblk m q 1 t) i j).trans ?_
  obtain ⟨r, hr⟩ : ∃ r : Fin 17408, r.val = t.val / 8 * 512 + i.val := ⟨⟨t.val / 8 * 512 + i.val, by omega⟩, rfl⟩
  obtain ⟨k, hk⟩ : ∃ k : Fin 4096, k.val = t.val % 8 * 512 + j.val := ⟨⟨t.val % 8 * 512 + j.val, by omega⟩, rfl⟩
  refine Eq.trans (Finset.sum_congr rfl fun e _ => ?_) ((result_at m q r k).symm.trans (congrArg (result m q) ?_))
  · exact congrArg₂ (· * ·) (rows_block m q t i e r hr) (weights_block m q t e j k hk)
  funext a
  refine Fin.ext ?_
  match a with
  | ⟨0, _⟩ => blk_simp; show r.val = _; omega
  | ⟨1, _⟩ => blk_simp; show k.val = _; omega

/-- Every index of the array lies in the block of some grid point. -/
theorem covered (x : S17408x4096.Idx) : ∃ t : Fin cfg0.N, (cfg0.win 2).flush t = true ∧ x ∈ ((cfg0.win 2).blk t).view.set := by
  have h0 : (x 0).val < 17408 := (x 0).isLt
  have h1 : (x 1).val < 4096 := (x 1).isLt
  obtain ⟨t, ht⟩ : ∃ t : Fin cfg0.N, t.val = (x 0).val / 512 * 8 + (x 1).val / 512 :=
    ⟨⟨(x 0).val / 512 * 8 + (x 1).val / 512, by rw [show cfg0.N = 272 from N_0]; omega⟩, rfl⟩
  refine ⟨t, flush0_2 t, ?_⟩
  have hi := index_block t
  have e0 : t.val / 8 = (x 0).val / 512 := by rw [ht]; omega
  have e1 : t.val % 8 = (x 1).val / 512 := by rw [ht]; omega
  rw [e0, e1] at hi
  mem_blk
  omega

/-- The array the kernel leaves. -/
theorem array_eq : (dats m 0 q).arrAt 2 cfg0.N = result m q := by
  refine (dats m 0 q).arrAt_eq_of_emb 2 (result m q) (fun t _ y => ?_) covered
  have hy : ∃ (i j : Fin 512), y = ix2 i j := ⟨y 0, y 1, by
    funext a
    match a with
    | ⟨0, _⟩ => rfl
    | ⟨1, _⟩ => rfl⟩
  obtain ⟨i, j, rfl⟩ := hy
  exact written_at m q t i j

/-- The kernel ends on every run, its arguments unchanged and its counters at zero. -/
theorem frame_kernel : Cert.quiescent_KernelRgIn (hKernelRgIn := Cert.KernelRgIn.Gen.facts) :=
  fun m ρ _ => Cert.KernelRgIn.Gen.frame m ρ

/-- The same of the kernel read over the extended reals. -/
theorem frame_kernel_ideal : Cert.quiescent_KernelRgInIdeal (hKernelRgInIdeal := Cert.KernelRgInIdeal.Gen.facts) :=
  fun m ρ _ => Cert.KernelRgInIdeal.Gen.frame m ρ

/-- The same of the reference read over the extended reals; it declares no semaphore. -/
theorem frame_reference_ideal : Cert.quiescent_ReferenceRgInIdeal (hReferenceRgInIdeal := Cert.ReferenceRgInIdeal.Gen.facts) := fun m ρ _ =>
  (θ_run Cert.ReferenceRgInIdeal.defs _ _).mono
    (fun r h => ⟨fun c => (h c).2, Idealize.ShloMosaic.sem_eq_zero_of_no_sems (by decide) r.2⟩)
    (Cert.ReferenceRgInIdeal.Value.run (F := Ideal) m ρ)

/-- Over the extended reals the kernel's array is the reference's product, whatever the arguments. -/
theorem kernel_is_reference : Cert.algebraic_KernelRgInIdeal_ReferenceRgInIdeal (hKernelRgInIdeal := Cert.KernelRgInIdeal.Gen.facts)
    (hReferenceRgInIdeal := Cert.ReferenceRgInIdeal.Gen.facts) := by
  intro m ρ m' ρ' _ hagree
  refine ⟨fun c => result m c, ?_, ?_⟩
  · exact (θ_run Cert.KernelRgInIdeal.defs _ _).mono (fun _ h c => ⟨(h c).1.trans (array_eq m c), (h c).2⟩)
      (Cert.KernelRgInIdeal.Value.run_blocks (F := Ideal) m ρ)
  · refine (θ_run Cert.ReferenceRgInIdeal.defs _ _).mono (fun _ h c => ⟨(h c).1.trans ?_, (h c).2⟩)
      (Cert.ReferenceRgInIdeal.Value.run (F := Ideal) m' ρ')
    rw [(hagree c).1, (hagree c).2]

end Cert.KernelRgInIdeal.ProjValue

end
-- ==== Proof.RgOut.lean ====
/-
  The gated recurrence's output: the branch's GELU times the sum of the two directions, projected by the weights.
  A grid point gates 256 rows and multiplies them by the whole of the weights, so its block is the reference's rows.
-/
module

public import proofs.«01_k».proof.Defs
public import proofs.«01_k».proof.Proof.Gen.KernelRgOut.Frame
public import proofs.«01_k».proof.Proof.Gen.KernelRgOutIdeal.Value
public import proofs.«01_k».proof.Proof.Gen.ReferenceRgOutIdeal.Run
public import Idealize.ShloMosaic.Lib.Pipeline.ValueKit
public import Idealize.ShloMosaic.Lib.Quiescent

@[expose] public section

set_option maxRecDepth 16384

noncomputable section

namespace Cert.KernelRgOutIdeal.GateValue

open Idealize.ShloMosaic Idealize.ShloMosaic.TcCoe Idealize.SL.Sem Idealize.ShloMosaic.StableHlo
open Cert.KernelRgOutIdeal Cert.KernelRgOutIdeal.Gen

theorem z2 : (![0, 0] : Fin 2 → Nat) = fun _ => 0 := funext fun a => by fin_cases a <;> rfl

theorem index_branch : ∀ t : Fin cfg0.N, win0_0.index t 0 = t.val ∧ win0_0.index t 1 = 0 :=
  (by decide +kernel : ∀ t : Fin grid0.N, win0_0.index t 0 = t.val ∧ win0_0.index t 1 = 0)
theorem index_states : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)
theorem index_weights : ∀ t : Fin cfg0.N, win0_2.index t 0 = 0 ∧ win0_2.index t 1 = 0 :=
  (by decide +kernel : ∀ t : Fin grid0.N, win0_2.index t 0 = 0 ∧ win0_2.index t 1 = 0)
theorem index_block : ∀ t : Fin cfg0.N, win0_3.index t 0 = t.val ∧ win0_3.index t 1 = 0 :=
  (by decide +kernel : ∀ t : Fin grid0.N, win0_3.index t 0 = t.val ∧ win0_3.index t 1 = 0)

theorem point_lt (t : Fin cfg0.N) : t.val < 68 := lt_of_lt_of_eq t.isLt (show cfg0.N = 68 from N_0)

/-- The GELU by the hyperbolic tangent, with the program's constants. -/
def gelu (x : EReal) : EReal :=
  x * (Ideal.ofBits FTy.f32 1056964608#32 *
    (1 + Ideal.tanh (Ideal.ofBits FTy.f32 1061962282#32 * (x + Ideal.ofBits FTy.f32 1027024659#32 * (x * (x * x))))))

variable (m : (ℓ : Loc nD τ sig) → Buf (Elt Ideal) ℓ) (q : Dev nD)

/-- The branch, beside the recurrence's own input. -/
abbrev branch : (⟨S17408x4096, .f32⟩ : BufTy).Contents (Elt Ideal) := m ((q.tc : Thread nD τ).loc main_arg0)
/-- The two directions' states. -/
abbrev states : (⟨S2x17408x2048, .f32⟩ : BufTy).Contents (Elt Ideal) := m ((q.tc : Thread nD τ).loc main_arg1)
/-- The weights. -/
abbrev weights : (⟨S2048x2048, .f32⟩ : BufTy).Contents (Elt Ideal) := m ((q.tc : Thread nD τ).loc main_arg2)

/-- The reference's result at the kernel's arguments. -/
def result : (⟨S17408x2048, .f32⟩ : BufTy).Contents (Elt Ideal) :=
  Host.dotGeneral (F := Ideal) (φ₂ := .f32) Cert.ReferenceRgOutIdeal.dot_S17408x2048_S2048x2048_S17408x2048_1_0_0_1_n_n none (mulf (mulf
    (extractStridedSlice Cert.ReferenceRgOutIdeal.S17408x2048 ![0, 0] (branch m q)
    Cert.ReferenceRgOutIdeal.Gen.slices_S17408x4096_S17408x2048_0_0) (mulf (broadcastInDim
    Cert.ReferenceRgOutIdeal.S17408x2048 ![] Cert.ReferenceRgOutIdeal.Gen.bcast_S_S17408x2048 (constant
    Cert.ReferenceRgOutIdeal.S_ .f32 0x3F000000#32)) (addf (broadcastInDim Cert.ReferenceRgOutIdeal.S17408x2048 ![]
    Cert.ReferenceRgOutIdeal.Gen.bcast_S_S17408x2048 (constant Cert.ReferenceRgOutIdeal.S_ .f32 0x3F800000#32))
    (Host.tanh (mulf (broadcastInDim Cert.ReferenceRgOutIdeal.S17408x2048 ![]
    Cert.ReferenceRgOutIdeal.Gen.bcast_S_S17408x2048 (constant Cert.ReferenceRgOutIdeal.S_ .f32 0x3F4C422A#32)) (addf
    (extractStridedSlice Cert.ReferenceRgOutIdeal.S17408x2048 ![0, 0] (branch m q)
    Cert.ReferenceRgOutIdeal.Gen.slices_S17408x4096_S17408x2048_0_0) (mulf (broadcastInDim
    Cert.ReferenceRgOutIdeal.S17408x2048 ![] Cert.ReferenceRgOutIdeal.Gen.bcast_S_S17408x2048 (constant
    Cert.ReferenceRgOutIdeal.S_ .f32 0x3D372713#32)) (mulf (mulf (extractStridedSlice
    Cert.ReferenceRgOutIdeal.S17408x2048 ![0, 0] (branch m q)
    Cert.ReferenceRgOutIdeal.Gen.slices_S17408x4096_S17408x2048_0_0) (extractStridedSlice
    Cert.ReferenceRgOutIdeal.S17408x2048 ![0, 0] (branch m q)
    Cert.ReferenceRgOutIdeal.Gen.slices_S17408x4096_S17408x2048_0_0)) (extractStridedSlice
    Cert.ReferenceRgOutIdeal.S17408x2048 ![0, 0] (branch m q)
    Cert.ReferenceRgOutIdeal.Gen.slices_S17408x4096_S17408x2048_0_0))))))))) (addf (shapeCast _ (extractStridedSlice
    Cert.ReferenceRgOutIdeal.S1x17408x2048 ![0, 0, 0] (states m q)
    Cert.ReferenceRgOutIdeal.Gen.slices_S2x17408x2048_S1x17408x2048_0_0_0)
    Cert.ReferenceRgOutIdeal.Gen.shapeCasts_S1x17408x2048_S17408x2048) (shapeCast _ (extractStridedSlice
    Cert.ReferenceRgOutIdeal.S1x17408x2048 ![1, 0, 0] (states m q)
    Cert.ReferenceRgOutIdeal.Gen.slices_S2x17408x2048_S1x17408x2048_1_0_0)
    Cert.ReferenceRgOutIdeal.Gen.shapeCasts_S1x17408x2048_S17408x2048))) (weights m q)

/-- The result at an index. -/
theorem result_at (r : Fin 17408) (k : Fin 2048) (b : Fin 2048 → Fin 4096) (hb : ∀ e, (b e).val = e.val) :
    result m q (ix2 r k) = ∑ e : Fin 2048, gelu (branch m q (ix2 r (b e)))
      * (states m q (ix3 0 r e) + states m q (ix3 1 r e)) * weights m q (ix2 e k) := by
  unfold result
  generalize branch m q = A
  generalize states m q = R
  generalize weights m q = W
  have hA (e : Fin 2048) (h) : A (ix2 r ⟨e.val, h⟩) = A (ix2 r (b e)) := congrArg (fun x => A (ix2 r x)) (Fin.ext (hb e).symm)
  pointwise
  refine Finset.sum_congr rfl fun e _ => ?_
  unfold gelu
  rw [hA e, mul_assoc (A (ix2 r (b e))) (A (ix2 r (b e))) (A (ix2 r (b e)))]

/-- What the body leaves at an index of its block. -/
theorem block_at (x0 : Vec Ideal S256x2048 .f32) (x1 : Vec Ideal S2x256x2048 .f32) (x2 : Vec Ideal S2048x2048 .bf16)
    (i : Fin 256) (j : Fin 2048) :
    out0_3 x0 x1 x2 (ix2 i j) = ∑ e : Fin 2048, gelu (x0 (ix2 i e)) * (x1 (ix3 0 i e) + x1 (ix3 1 i e)) * x2 (ix2 e j) := by
  unfold out0_3
  rw [View.canon_unit_zero z2]
  simp only [View.ld_unit_zero (S := S256x2048) z2, View.ld_unit_zero (S := S2048x2048) z2]
  have h1 (e : Fin 2048) : View.ld x1 r0_1 (ix3 0 i e) = x1 (ix3 0 i e) := by
    refine congrArg x1 ?_
    funext a
    refine Fin.ext ?_
    match a with
    | ⟨0, _⟩ => rfl
    | ⟨1, _⟩ => show 0 + 1 * i.val = i.val; omega
    | ⟨2, _⟩ => show 0 + 1 * e.val = e.val; omega
  have h2 (e : Fin 2048) : View.ld x1 r0_2 (ix3 0 i e) = x1 (ix3 1 i e) := by
    refine congrArg x1 ?_
    funext a
    refine Fin.ext ?_
    match a with
    | ⟨0, _⟩ => rfl
    | ⟨1, _⟩ => show 0 + 1 * i.val = i.val; omega
    | ⟨2, _⟩ => show 0 + 1 * e.val = e.val; omega
  generalize View.ld x1 r0_1 = y1 at h1 ⊢
  generalize View.ld x1 r0_2 = y2 at h2 ⊢
  unfold k0_pay1
  pointwise
  refine Finset.sum_congr rfl fun e _ => ?_
  rw [h1 e, h2 e]
  rfl

/-- The branch's block at a point. -/
theorem branch_block (t : Fin cfg0.N) (i : Fin 256) (e : Fin 2048) (r : Fin 17408) (b : Fin 4096)
    (hr : r.val = t.val * 256 + i.val) (hb : b.val = e.val) : iblk m q 0 t (ix2 i e) = branch m q (ix2 r b) := by
  have h0 := index_branch t
  blk_simp [iblk]
  refine (congrFun (V_main_arg0 m q) _).trans (congrArg _ ?_)
  funext a
  refine Fin.ext ?_
  match a with
  | ⟨0, _⟩ => blk_simp; show _ = r.val; omega
  | ⟨1, _⟩ => blk_simp; show _ = b.val; omega

/-- The states' block at a point. -/
theorem states_block (t : Fin cfg0.N) (p : Fin 2) (i : Fin 256) (e : Fin 2048) (r : Fin 17408)
    (hr : r.val = t.val * 256 + i.val) : iblk m q 1 t (ix3 p i e) = states m q (ix3 p r e) := by
  have h0 := index_states t
  blk_simp [iblk]
  refine (congrFun (V_main_arg1 m q) _).trans (congrArg _ ?_)
  funext a
  refine Fin.ext ?_
  match a with
  | ⟨0, _⟩ => blk_simp; show _ = p.val; omega
  | ⟨1, _⟩ => blk_simp; show _ = r.val; omega
  | ⟨2, _⟩ => blk_simp; show _ = e.val; omega

/-- The weights the kernel is entered with: over the extended reals the cast changes nothing. -/
theorem cast_weights : V m q main_v0 = weights m q := by
  unfold V
  after_reads_simp
  rfl

/-- The weights' block, the same at every point. -/
theorem weights_block (t : Fin cfg0.N) (e : Fin 2048) (k : Fin 2048) : iblk m q 2 t (ix2 e k) = weights m q (ix2 e k) := by
  have h0 := index_weights t
  blk_simp [iblk]
  refine (congrFun (cast_weights m q) _).trans (congrArg _ ?_)
  funext a
  refine Fin.ext ?_
  match a with
  | ⟨0, _⟩ => blk_simp; show _ = e.val; omega
  | ⟨1, _⟩ => blk_simp; show _ = k.val; omega

/-- What a grid point writes back is its block of the result. -/
theorem written_at (t : Fin cfg0.N) (i : Fin 256) (j : Fin 2048) :
    (dats m 0 q).after 3 t (ix2 i j) = result m q (((cfg0.win 3).blk t).view.emb (ix2 i j)) := by
  have ht := point_lt t
  have h0 := index_block t
  rw [after0_3]
  refine (block_at (iblk m q 0 t) (iblk m q 1 t) (iblk m q 2 t) i j).trans ?_
  obtain ⟨r, hr⟩ : ∃ r : Fin 17408, r.val = t.val * 256 + i.val := ⟨⟨t.val * 256 + i.val, by omega⟩, rfl⟩
  obtain ⟨b, hb⟩ : ∃ b : Fin 2048 → Fin 4096, ∀ e, (b e).val = e.val := ⟨fun e => ⟨e.val, by omega⟩, fun _ => rfl⟩
  refine Eq.trans (Finset.sum_congr rfl fun e _ => ?_) ((result_at m q r j b hb).symm.trans (congrArg (result m q) ?_))
  · exact congrArg₂ (· * ·) (congrArg₂ (· * ·) (congrArg gelu (branch_block m q t i e r (b e) hr (hb e)))
      (congrArg₂ (· + ·) (states_block m q t 0 i e r hr) (states_block m q t 1 i e r hr))) (weights_block m q t e j)
  funext a
  refine Fin.ext ?_
  match a with
  | ⟨0, _⟩ => blk_simp; show r.val = _; omega
  | ⟨1, _⟩ => blk_simp; show j.val = _; omega

/-- Every index of the array lies in the block of some grid point. -/
theorem covered (x : S17408x2048.Idx) : ∃ t : Fin cfg0.N, (cfg0.win 3).flush t = true ∧ x ∈ ((cfg0.win 3).blk t).view.set := by
  have h0 : (x 0).val < 17408 := (x 0).isLt
  have h1 : (x 1).val < 2048 := (x 1).isLt
  obtain ⟨t, ht⟩ : ∃ t : Fin cfg0.N, t.val = (x 0).val / 256 :=
    ⟨⟨(x 0).val / 256, by rw [show cfg0.N = 68 from N_0]; omega⟩, rfl⟩
  refine ⟨t, flush0_3 t, ?_⟩
  have hi := index_block t
  rw [ht] at hi
  mem_blk
  omega

/-- The array the kernel leaves. -/
theorem array_eq : (dats m 0 q).arrAt 3 cfg0.N = result m q := by
  refine (dats m 0 q).arrAt_eq_of_emb 3 (result m q) (fun t _ y => ?_) covered
  have hy : ∃ (i : Fin 256) (j : Fin 2048), y = ix2 i j := ⟨y 0, y 1, by
    funext a
    match a with
    | ⟨0, _⟩ => rfl
    | ⟨1, _⟩ => rfl⟩
  obtain ⟨i, j, rfl⟩ := hy
  exact written_at m q t i j

/-- The kernel ends on every run, its arguments unchanged and its counters at zero. -/
theorem frame_kernel : Cert.quiescent_KernelRgOut (hKernelRgOut := Cert.KernelRgOut.Gen.facts) :=
  fun m ρ _ => Cert.KernelRgOut.Gen.frame m ρ

/-- The same of the kernel read over the extended reals. -/
theorem frame_kernel_ideal : Cert.quiescent_KernelRgOutIdeal (hKernelRgOutIdeal := Cert.KernelRgOutIdeal.Gen.facts) :=
  fun m ρ _ => Cert.KernelRgOutIdeal.Gen.frame m ρ

/-- The same of the reference read over the extended reals; it declares no semaphore. -/
theorem frame_reference_ideal : Cert.quiescent_ReferenceRgOutIdeal (hReferenceRgOutIdeal := Cert.ReferenceRgOutIdeal.Gen.facts) := fun m ρ _ =>
  (θ_run Cert.ReferenceRgOutIdeal.defs _ _).mono
    (fun r h => ⟨fun c => (h c).2, Idealize.ShloMosaic.sem_eq_zero_of_no_sems (by decide) r.2⟩)
    (Cert.ReferenceRgOutIdeal.Value.run (F := Ideal) m ρ)

/-- Over the extended reals the kernel's array is the reference's, whatever the arguments. -/
theorem kernel_is_reference : Cert.algebraic_KernelRgOutIdeal_ReferenceRgOutIdeal (hKernelRgOutIdeal := Cert.KernelRgOutIdeal.Gen.facts)
    (hReferenceRgOutIdeal := Cert.ReferenceRgOutIdeal.Gen.facts) := by
  intro m ρ m' ρ' _ hagree
  refine ⟨fun c => result m c, ?_, ?_⟩
  · exact (θ_run Cert.KernelRgOutIdeal.defs _ _).mono (fun _ h c => ⟨(h c).1.trans (array_eq m c), (h c).2⟩)
      (Cert.KernelRgOutIdeal.Value.run_blocks (F := Ideal) m ρ)
  · refine (θ_run Cert.ReferenceRgOutIdeal.defs _ _).mono (fun _ h c => ⟨(h c).1.trans ?_, (h c).2⟩)
      (Cert.ReferenceRgOutIdeal.Value.run (F := Ideal) m' ρ')
    rw [(hagree c).1, (hagree c).2.1, (hagree c).2.2]
    rfl

end Cert.KernelRgOutIdeal.GateValue

end
-- ==== Proof.ProjSquare.lean ====
/-
  The delta rule's projections, each of 17408 rows of 2048 against the weights' 2048 columns.
  A grid point multiplies 512 rows by 512 columns over the whole depth, so its block is the block of the product.
-/
module

public import proofs.«01_k».proof.Defs
public import proofs.«01_k».proof.Proof.Gen.KernelSquare.Frame
public import proofs.«01_k».proof.Proof.Gen.KernelSquareIdeal.Value
public import proofs.«01_k».proof.Proof.Gen.ReferenceSquareIdeal.Run
public import Idealize.ShloMosaic.Lib.Pipeline.ValueKit
public import Idealize.ShloMosaic.Lib.Quiescent

@[expose] public section

set_option maxRecDepth 16384

noncomputable section

namespace Cert.KernelSquareIdeal.ProjValue

open Idealize.ShloMosaic Idealize.ShloMosaic.TcCoe Idealize.SL.Sem Idealize.ShloMosaic.StableHlo
open Cert.KernelSquareIdeal Cert.KernelSquareIdeal.Gen

theorem z2 : (![0, 0] : Fin 2 → Nat) = fun _ => 0 := funext fun a => by fin_cases a <;> rfl

theorem index_rows : ∀ t : Fin cfg0.N, win0_0.index t 0 = t.val / 4 ∧ win0_0.index t 1 = 0 :=
  (by decide +kernel : ∀ t : Fin grid0.N, win0_0.index t 0 = t.val / 4 ∧ win0_0.index t 1 = 0)
theorem index_columns : ∀ t : Fin cfg0.N, win0_1.index t 0 = 0 ∧ win0_1.index t 1 = t.val % 4 :=
  (by decide +kernel : ∀ t : Fin grid0.N, win0_1.index t 0 = 0 ∧ win0_1.index t 1 = t.val % 4)
theorem index_block : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem point_lt (t : Fin cfg0.N) : t.val < 136 := lt_of_lt_of_eq t.isLt (show cfg0.N = 136 from N_0)

variable (m : (ℓ : Loc nD τ sig) → Buf (Elt Ideal) ℓ) (q : Dev nD)

/-- The rows. -/
abbrev rows : (⟨S17408x2048, .bf16⟩ : BufTy).Contents (Elt Ideal) := m ((q.tc : Thread nD τ).loc main_arg0)
/-- The weights. -/
abbrev weights : (⟨S2048x2048, .f32⟩ : BufTy).Contents (Elt Ideal) := m ((q.tc : Thread nD τ).loc main_arg1)

/-- The reference's product of the rows and the weights. -/
abbrev result : (⟨S17408x2048, .f32⟩ : BufTy).Contents (Elt Ideal) :=
  Host.dotGeneral (F := Ideal) (φ₂ := .f32) Cert.ReferenceSquareIdeal.dot_S17408x2048_S2048x2048_S17408x2048_1_0_0_1_n_n none (extf .f32 (rows m q) Cert.ReferenceSquareIdeal.Gen.bitsLt_bf16_f32) (weights m q)

/-- The product at an index. -/
theorem result_at (r : Fin 17408) (k : Fin 2048) :
    result m q (ix2 r k) = ∑ e : Fin 2048, rows m q (ix2 r e) * weights m q (ix2 e k) := by
  unfold result
  generalize rows m q = A
  generalize weights m q = W
  pointwise

/-- What the body leaves at an index of its block. -/
theorem block_at (x0 : Vec Ideal S512x2048 .bf16) (x1 : Vec Ideal S2048x512 .bf16) (i j : Fin 512) :
    out0_2 x0 x1 (ix2 i j) = ∑ e : Fin 2048, x0 (ix2 i e) * x1 (ix2 e j) := by
  unfold out0_2
  rw [View.canon_unit_zero z2]
  simp only [View.ld_unit_zero (S := S512x2048) z2, View.ld_unit_zero (S := S2048x512) z2]
  unfold k0_pay1
  pointwise

/-- The rows' block at a point. -/
theorem rows_block (t : Fin cfg0.N) (i : Fin 512) (e : Fin 2048) (r : Fin 17408) (hr : r.val = t.val / 4 * 512 + i.val) :
    iblk m q 0 t (ix2 i e) = rows m q (ix2 r e) := by
  have h0 := index_rows t
  blk_simp [iblk]
  refine (congrFun (V_main_arg0 m q) _).trans (congrArg _ ?_)
  funext a
  refine Fin.ext ?_
  match a with
  | ⟨0, _⟩ => blk_simp; show _ = r.val; omega
  | ⟨1, _⟩ => blk_simp; show _ = e.val; omega

/-- The weights the kernel is entered with: over the extended reals the cast changes nothing. -/
theorem cast_weights : V m q main_v0 = weights m q := by
  unfold V
  after_reads_simp
  rfl

/-- The weights' block at a point. -/
theorem weights_block (t : Fin cfg0.N) (e : Fin 2048) (j : Fin 512) (k : Fin 2048) (hk : k.val = t.val % 4 * 512 + j.val) :
    iblk m q 1 t (ix2 e j) = weights m q (ix2 e k) := by
  have h0 := index_columns t
  blk_simp [iblk]
  refine (congrFun (cast_weights m q) _).trans (congrArg _ ?_)
  funext a
  refine Fin.ext ?_
  match a with
  | ⟨0, _⟩ => blk_simp; show _ = e.val; omega
  | ⟨1, _⟩ => blk_simp; show _ = k.val; omega

/-- What a grid point writes back is its block of the product. -/
theorem written_at (t : Fin cfg0.N) (i j : Fin 512) :
    (dats m 0 q).after 2 t (ix2 i j) = result m q (((cfg0.win 2).blk t).view.emb (ix2 i j)) := by
  have ht := point_lt t
  have h0 := index_block t
  rw [after0_2]
  refine (block_at (iblk m q 0 t) (iblk m q 1 t) i j).trans ?_
  obtain ⟨r, hr⟩ : ∃ r : Fin 17408, r.val = t.val / 4 * 512 + i.val := ⟨⟨t.val / 4 * 512 + i.val, by omega⟩, rfl⟩
  obtain ⟨k, hk⟩ : ∃ k : Fin 2048, k.val = t.val % 4 * 512 + j.val := ⟨⟨t.val % 4 * 512 + j.val, by omega⟩, rfl⟩
  refine Eq.trans (Finset.sum_congr rfl fun e _ => ?_) ((result_at m q r k).symm.trans (congrArg (result m q) ?_))
  · exact congrArg₂ (· * ·) (rows_block m q t i e r hr) (weights_block m q t e j k hk)
  funext a
  refine Fin.ext ?_
  match a with
  | ⟨0, _⟩ => blk_simp; show r.val = _; omega
  | ⟨1, _⟩ => blk_simp; show k.val = _; omega

/-- Every index of the array lies in the block of some grid point. -/
theorem covered (x : S17408x2048.Idx) : ∃ t : Fin cfg0.N, (cfg0.win 2).flush t = true ∧ x ∈ ((cfg0.win 2).blk t).view.set := by
  have h0 : (x 0).val < 17408 := (x 0).isLt
  have h1 : (x 1).val < 2048 := (x 1).isLt
  obtain ⟨t, ht⟩ : ∃ t : Fin cfg0.N, t.val = (x 0).val / 512 * 4 + (x 1).val / 512 :=
    ⟨⟨(x 0).val / 512 * 4 + (x 1).val / 512, by rw [show cfg0.N = 136 from N_0]; omega⟩, rfl⟩
  refine ⟨t, flush0_2 t, ?_⟩
  have hi := index_block t
  have e0 : t.val / 4 = (x 0).val / 512 := by rw [ht]; omega
  have e1 : t.val % 4 = (x 1).val / 512 := by rw [ht]; omega
  rw [e0, e1] at hi
  mem_blk
  omega

/-- The array the kernel leaves. -/
theorem array_eq : (dats m 0 q).arrAt 2 cfg0.N = result m q := by
  refine (dats m 0 q).arrAt_eq_of_emb 2 (result m q) (fun t _ y => ?_) covered
  have hy : ∃ (i j : Fin 512), y = ix2 i j := ⟨y 0, y 1, by
    funext a
    match a with
    | ⟨0, _⟩ => rfl
    | ⟨1, _⟩ => rfl⟩
  obtain ⟨i, j, rfl⟩ := hy
  exact written_at m q t i j

/-- The kernel ends on every run, its arguments unchanged and its counters at zero. -/
theorem frame_kernel : Cert.quiescent_KernelSquare (hKernelSquare := Cert.KernelSquare.Gen.facts) :=
  fun m ρ _ => Cert.KernelSquare.Gen.frame m ρ

/-- The same of the kernel read over the extended reals. -/
theorem frame_kernel_ideal : Cert.quiescent_KernelSquareIdeal (hKernelSquareIdeal := Cert.KernelSquareIdeal.Gen.facts) :=
  fun m ρ _ => Cert.KernelSquareIdeal.Gen.frame m ρ

/-- The same of the reference read over the extended reals; it declares no semaphore. -/
theorem frame_reference_ideal : Cert.quiescent_ReferenceSquareIdeal (hReferenceSquareIdeal := Cert.ReferenceSquareIdeal.Gen.facts) := fun m ρ _ =>
  (θ_run Cert.ReferenceSquareIdeal.defs _ _).mono
    (fun r h => ⟨fun c => (h c).2, Idealize.ShloMosaic.sem_eq_zero_of_no_sems (by decide) r.2⟩)
    (Cert.ReferenceSquareIdeal.Value.run (F := Ideal) m ρ)

/-- Over the extended reals the kernel's array is the reference's product, whatever the arguments. -/
theorem kernel_is_reference : Cert.algebraic_KernelSquareIdeal_ReferenceSquareIdeal (hKernelSquareIdeal := Cert.KernelSquareIdeal.Gen.facts)
    (hReferenceSquareIdeal := Cert.ReferenceSquareIdeal.Gen.facts) := by
  intro m ρ m' ρ' _ hagree
  refine ⟨fun c => result m c, ?_, ?_⟩
  · exact (θ_run Cert.KernelSquareIdeal.defs _ _).mono (fun _ h c => ⟨(h c).1.trans (array_eq m c), (h c).2⟩)
      (Cert.KernelSquareIdeal.Value.run_blocks (F := Ideal) m ρ)
  · refine (θ_run Cert.ReferenceSquareIdeal.defs _ _).mono (fun _ h c => ⟨(h c).1.trans ?_, (h c).2⟩)
      (Cert.ReferenceSquareIdeal.Value.run (F := Ideal) m' ρ')
    rw [(hagree c).1, (hagree c).2]

end Cert.KernelSquareIdeal.ProjValue

end
-- ==== Proof.ProjQuery.lean ====
/-
  The feed-forward part's queries: 17408 rows of 2048 against the weights' 2048 columns, the result in bf16.
  A grid point multiplies 512 rows by 512 columns over the whole depth, so its block is the block of the product.
-/
module

public import proofs.«01_k».proof.Defs
public import proofs.«01_k».proof.Proof.Gen.KernelQuery.Frame
public import proofs.«01_k».proof.Proof.Gen.KernelQueryIdeal.Value
public import proofs.«01_k».proof.Proof.Gen.ReferenceQueryIdeal.Run
public import Idealize.ShloMosaic.Lib.Pipeline.ValueKit
public import Idealize.ShloMosaic.Lib.Quiescent

@[expose] public section

set_option maxRecDepth 16384

noncomputable section

namespace Cert.KernelQueryIdeal.ProjValue

open Idealize.ShloMosaic Idealize.ShloMosaic.TcCoe Idealize.SL.Sem Idealize.ShloMosaic.StableHlo
open Cert.KernelQueryIdeal Cert.KernelQueryIdeal.Gen

theorem z2 : (![0, 0] : Fin 2 → Nat) = fun _ => 0 := funext fun a => by fin_cases a <;> rfl

theorem index_rows : ∀ t : Fin cfg0.N, win0_0.index t 0 = t.val / 4 ∧ win0_0.index t 1 = 0 :=
  (by decide +kernel : ∀ t : Fin grid0.N, win0_0.index t 0 = t.val / 4 ∧ win0_0.index t 1 = 0)
theorem index_columns : ∀ t : Fin cfg0.N, win0_1.index t 0 = 0 ∧ win0_1.index t 1 = t.val % 4 :=
  (by decide +kernel : ∀ t : Fin grid0.N, win0_1.index t 0 = 0 ∧ win0_1.index t 1 = t.val % 4)
theorem index_block : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem point_lt (t : Fin cfg0.N) : t.val < 136 := lt_of_lt_of_eq t.isLt (show cfg0.N = 136 from N_0)

variable (m : (ℓ : Loc nD τ sig) → Buf (Elt Ideal) ℓ) (q : Dev nD)

/-- The rows. -/
abbrev rows : (⟨S17408x2048, .bf16⟩ : BufTy).Contents (Elt Ideal) := m ((q.tc : Thread nD τ).loc main_arg0)
/-- The weights. -/
abbrev weights : (⟨S2048x2048, .f32⟩ : BufTy).Contents (Elt Ideal) := m ((q.tc : Thread nD τ).loc main_arg1)

/-- The reference's product of the rows and the weights. -/
abbrev result : (⟨S17408x2048, .bf16⟩ : BufTy).Contents (Elt Ideal) :=
  truncf .bf16 (Host.dotGeneral (F := Ideal) (φ₂ := .f32) Cert.ReferenceQueryIdeal.dot_S17408x2048_S2048x2048_S17408x2048_1_0_0_1_n_n none (extf .f32 (rows m q) Cert.ReferenceQueryIdeal.Gen.bitsLt_bf16_f32) (weights m q)) Cert.ReferenceQueryIdeal.Gen.bitsLt_bf16_f32

/-- The product at an index. -/
theorem result_at (r : Fin 17408) (k : Fin 2048) :
    result m q (ix2 r k) = ∑ e : Fin 2048, rows m q (ix2 r e) * weights m q (ix2 e k) := by
  unfold result
  generalize rows m q = A
  generalize weights m q = W
  pointwise

/-- What the body leaves at an index of its block. -/
theorem block_at (x0 : Vec Ideal S512x2048 .bf16) (x1 : Vec Ideal S2048x512 .bf16) (i j : Fin 512) :
    out0_2 x0 x1 (ix2 i j) = ∑ e : Fin 2048, x0 (ix2 i e) * x1 (ix2 e j) := by
  unfold out0_2
  rw [View.canon_unit_zero z2]
  simp only [View.ld_unit_zero (S := S512x2048) z2, View.ld_unit_zero (S := S2048x512) z2]
  unfold k0_pay1
  pointwise

/-- The rows' block at a point. -/
theorem rows_block (t : Fin cfg0.N) (i : Fin 512) (e : Fin 2048) (r : Fin 17408) (hr : r.val = t.val / 4 * 512 + i.val) :
    iblk m q 0 t (ix2 i e) = rows m q (ix2 r e) := by
  have h0 := index_rows t
  blk_simp [iblk]
  refine (congrFun (V_main_arg0 m q) _).trans (congrArg _ ?_)
  funext a
  refine Fin.ext ?_
  match a with
  | ⟨0, _⟩ => blk_simp; show _ = r.val; omega
  | ⟨1, _⟩ => blk_simp; show _ = e.val; omega

/-- The weights the kernel is entered with: over the extended reals the cast changes nothing. -/
theorem cast_weights : V m q main_v0 = weights m q := by
  unfold V
  after_reads_simp
  rfl

/-- The weights' block at a point. -/
theorem weights_block (t : Fin cfg0.N) (e : Fin 2048) (j : Fin 512) (k : Fin 2048) (hk : k.val = t.val % 4 * 512 + j.val) :
    iblk m q 1 t (ix2 e j) = weights m q (ix2 e k) := by
  have h0 := index_columns t
  blk_simp [iblk]
  refine (congrFun (cast_weights m q) _).trans (congrArg _ ?_)
  funext a
  refine Fin.ext ?_
  match a with
  | ⟨0, _⟩ => blk_simp; show _ = e.val; omega
  | ⟨1, _⟩ => blk_simp; show _ = k.val; omega

/-- What a grid point writes back is its block of the product. -/
theorem written_at (t : Fin cfg0.N) (i j : Fin 512) :
    (dats m 0 q).after 2 t (ix2 i j) = result m q (((cfg0.win 2).blk t).view.emb (ix2 i j)) := by
  have ht := point_lt t
  have h0 := index_block t
  rw [after0_2]
  refine (block_at (iblk m q 0 t) (iblk m q 1 t) i j).trans ?_
  obtain ⟨r, hr⟩ : ∃ r : Fin 17408, r.val = t.val / 4 * 512 + i.val := ⟨⟨t.val / 4 * 512 + i.val, by omega⟩, rfl⟩
  obtain ⟨k, hk⟩ : ∃ k : Fin 2048, k.val = t.val % 4 * 512 + j.val := ⟨⟨t.val % 4 * 512 + j.val, by omega⟩, rfl⟩
  refine Eq.trans (Finset.sum_congr rfl fun e _ => ?_) ((result_at m q r k).symm.trans (congrArg (result m q) ?_))
  · exact congrArg₂ (· * ·) (rows_block m q t i e r hr) (weights_block m q t e j k hk)
  funext a
  refine Fin.ext ?_
  match a with
  | ⟨0, _⟩ => blk_simp; show r.val = _; omega
  | ⟨1, _⟩ => blk_simp; show k.val = _; omega

/-- Every index of the array lies in the block of some grid point. -/
theorem covered (x : S17408x2048.Idx) : ∃ t : Fin cfg0.N, (cfg0.win 2).flush t = true ∧ x ∈ ((cfg0.win 2).blk t).view.set := by
  have h0 : (x 0).val < 17408 := (x 0).isLt
  have h1 : (x 1).val < 2048 := (x 1).isLt
  obtain ⟨t, ht⟩ : ∃ t : Fin cfg0.N, t.val = (x 0).val / 512 * 4 + (x 1).val / 512 :=
    ⟨⟨(x 0).val / 512 * 4 + (x 1).val / 512, by rw [show cfg0.N = 136 from N_0]; omega⟩, rfl⟩
  refine ⟨t, flush0_2 t, ?_⟩
  have hi := index_block t
  have e0 : t.val / 4 = (x 0).val / 512 := by rw [ht]; omega
  have e1 : t.val % 4 = (x 1).val / 512 := by rw [ht]; omega
  rw [e0, e1] at hi
  mem_blk
  omega

/-- The array the kernel leaves. -/
theorem array_eq : (dats m 0 q).arrAt 2 cfg0.N = result m q := by
  refine (dats m 0 q).arrAt_eq_of_emb 2 (result m q) (fun t _ y => ?_) covered
  have hy : ∃ (i j : Fin 512), y = ix2 i j := ⟨y 0, y 1, by
    funext a
    match a with
    | ⟨0, _⟩ => rfl
    | ⟨1, _⟩ => rfl⟩
  obtain ⟨i, j, rfl⟩ := hy
  exact written_at m q t i j

/-- The kernel ends on every run, its arguments unchanged and its counters at zero. -/
theorem frame_kernel : Cert.quiescent_KernelQuery (hKernelQuery := Cert.KernelQuery.Gen.facts) :=
  fun m ρ _ => Cert.KernelQuery.Gen.frame m ρ

/-- The same of the kernel read over the extended reals. -/
theorem frame_kernel_ideal : Cert.quiescent_KernelQueryIdeal (hKernelQueryIdeal := Cert.KernelQueryIdeal.Gen.facts) :=
  fun m ρ _ => Cert.KernelQueryIdeal.Gen.frame m ρ

/-- The same of the reference read over the extended reals; it declares no semaphore. -/
theorem frame_reference_ideal : Cert.quiescent_ReferenceQueryIdeal (hReferenceQueryIdeal := Cert.ReferenceQueryIdeal.Gen.facts) := fun m ρ _ =>
  (θ_run Cert.ReferenceQueryIdeal.defs _ _).mono
    (fun r h => ⟨fun c => (h c).2, Idealize.ShloMosaic.sem_eq_zero_of_no_sems (by decide) r.2⟩)
    (Cert.ReferenceQueryIdeal.Value.run (F := Ideal) m ρ)

/-- Over the extended reals the kernel's array is the reference's product, whatever the arguments. -/
theorem kernel_is_reference : Cert.algebraic_KernelQueryIdeal_ReferenceQueryIdeal (hKernelQueryIdeal := Cert.KernelQueryIdeal.Gen.facts)
    (hReferenceQueryIdeal := Cert.ReferenceQueryIdeal.Gen.facts) := by
  intro m ρ m' ρ' _ hagree
  refine ⟨fun c => result m c, ?_, ?_⟩
  · exact (θ_run Cert.KernelQueryIdeal.defs _ _).mono (fun _ h c => ⟨(h c).1.trans (array_eq m c), (h c).2⟩)
      (Cert.KernelQueryIdeal.Value.run_blocks (F := Ideal) m ρ)
  · refine (θ_run Cert.ReferenceQueryIdeal.defs _ _).mono (fun _ h c => ⟨(h c).1.trans ?_, (h c).2⟩)
      (Cert.ReferenceQueryIdeal.Value.run (F := Ideal) m' ρ')
    rw [(hagree c).1, (hagree c).2]

end Cert.KernelQueryIdeal.ProjValue

end
-- ==== Proof.Norm.lean ====
/-
  The layer's last call: the weighted sum of the stream and the gated feed-forward output, normed over its 2048 columns,
  and the same moved by the next layer's modulation. A grid point holds 256 whole rows, either all of the context or all
  of the latents, so it reads one modulation block; the reference treats the two kinds of row apart and joins them.
-/
module

public import proofs.«01_k».proof.Defs
public import proofs.«01_k».proof.Proof.Gen.KernelNorm.Frame
public import proofs.«01_k».proof.Proof.Gen.KernelNormIdeal.Value
public import proofs.«01_k».proof.Proof.Gen.ReferenceNormIdeal.Run
public import Idealize.ShloMosaic.Lib.Pipeline.ValueKit
public import Idealize.ShloMosaic.Lib.Quiescent

@[expose] public section

set_option maxRecDepth 16384

noncomputable section

namespace Cert.ReferenceNormIdeal.NormValue

open Idealize.ShloMosaic Idealize.ShloMosaic.TcCoe Idealize.SL.Sem Idealize.ShloMosaic.StableHlo
open Cert.ReferenceNormIdeal Cert.ReferenceNormIdeal.Gen

/-- The stream times the program's weight, plus the gated output. -/
def comb (x y gate : Fin 2048 → EReal) (e : Fin 2048) : EReal := Ideal.ofBits FTy.f32 1071072509#32 * x e + gate e * y e

/-- The mean of a row's 2048 values. -/
def mean (x : Fin 2048 → EReal) : EReal := Ideal.div (∑ e, x e) (Ideal.ofBits FTy.f32 1157627904#32)

/-- A row's value less the mean, over the root of the variance and the program's small constant, by the norm's weights. -/
def normed (x g b : Fin 2048 → EReal) (e : Fin 2048) : EReal :=
  (x e - mean x) * Ideal.rsqrt (Ideal.div (∑ e, (x e - mean x) * (x e - mean x)) (Ideal.ofBits FTy.f32 1157627904#32)
    + Ideal.ofBits FTy.f32 925353388#32) * g e + b e

/-- A value moved by a scale and a shift. -/
def moved (n sc sh : EReal) : EReal := n * (1 + sc) + sh

/-- An array of numbers of a shape. -/
abbrev Arr (s : Shape) := (⟨s, .f32⟩ : BufTy).Contents (Elt Ideal)

/-- The modulation vector of a row: the context's own, or that of the row's sequence. -/
def vecAt (M : Arr S6x2048) (L : Arr S4x6x2048) (k : Fin 6) (b : Fin 4) (p : Fin 4352) (e : Fin 2048) : EReal :=
  if p.val < 256 then M (ix2 k e) else L (ix3 b k e)

/-- The rows of each sequence. -/
def sequences (x : Arr S17408x2048) : Arr S4x4352x2048 := shapeCast _ x shapeCasts_S17408x2048_S4x4352x2048

theorem sequences_at (x : Arr S17408x2048) (b : Fin 4) (p : Fin 4352) (e : Fin 2048) (r : Fin 17408) (hr : r.val = b.val * 4352 + p.val) :
    sequences x (ix3 b p e) = x (ix2 r e) := by
  unfold sequences
  pointwise
  exact congrArg (fun y => x (ix2 y e)) (Fin.ext (by show b.val * 4352 + p.val = r.val; omega))

/-- The context's rows and the latents' joined again. -/
def joined (C : Arr S4x256x2048) (L : Arr S4x4096x2048) : Arr S17408x2048 :=
  shapeCast _ (concatenate S4x4352x2048 1 [⟨S4x256x2048, C⟩, ⟨S4x4096x2048, L⟩] concatenates_S4x256x2048_S4x4096x2048_S4x4352x2048_d1) shapeCasts_S4x4352x2048_S17408x2048

theorem joined_context (C : Arr S4x256x2048) (L : Arr S4x4096x2048) (r : Fin 17408) (b : Fin 4) (s : Fin 256) (e : Fin 2048)
    (hr : r.val = b.val * 4352 + s.val) : joined C L (ix2 r e) = C (ix3 b s e) := by
  unfold joined
  pointwise
  rw [dif_pos (show r.val % 4352 < 256 by omega)]
  exact congrArg₂ (fun x y => C (ix3 x y e)) (Fin.ext (by show r.val / 4352 = b.val; omega)) (Fin.ext (by show r.val % 4352 = s.val; omega))

theorem joined_latents (C : Arr S4x256x2048) (L : Arr S4x4096x2048) (r : Fin 17408) (b : Fin 4) (s : Fin 4096) (e : Fin 2048)
    (hr : r.val = b.val * 4352 + (256 + s.val)) : joined C L (ix2 r e) = L (ix3 b s e) := by
  unfold joined
  pointwise
  rw [dif_neg (show ¬ r.val % 4352 < 256 by omega)]
  exact congrArg₂ (fun x y => L (ix3 x y e)) (Fin.ext (by show r.val / 4352 = b.val; omega)) (Fin.ext (by show r.val % 4352 - 256 = s.val; omega))

/-- The context's modulation vector 5. -/
def contextVec5 (M : Arr S6x2048) : Arr S2048 :=
  shapeCast _ (extractStridedSlice S1x2048 ![5, 0] M slices_S6x2048_S1x2048_5_0) shapeCasts_S1x2048_S2048

theorem contextVec5_at (M : Arr S6x2048) (e : Fin 2048) : contextVec5 M (ix1 e) = M (ix2 5 e) := by
  unfold contextVec5
  pointwise

/-- The latents' modulation vector 5. -/
def latentsVec5 (M : Arr S4x6x2048) : Arr S4x1x2048 :=
  extractStridedSlice S4x1x2048 ![0, 0, 10240] (shapeCast _ (broadcastInDim S4x1x6x2048 ![0, 2, 3] bcast_S4x6x2048_S4x1x6x2048_0_2_3 M) shapeCasts_S4x1x6x2048_S4x1x12288) slices_S4x1x12288_S4x1x2048_0_0_10240

theorem latentsVec5_at (M : Arr S4x6x2048) (b : Fin 4) (e : Fin 2048) : latentsVec5 M (ix3 b 0 e) = M (ix3 b 5 e) := by
  unfold latentsVec5
  pointwise
  exact congrArg₂ (fun x y => M (ix3 b x y)) (Fin.ext (by show (10240 + e.val) / 2048 = 5; omega)) rfl

/-- The context's modulation vector 1. -/
def contextVec1 (M : Arr S6x2048) : Arr S2048 :=
  shapeCast _ (extractStridedSlice S1x2048 ![1, 0] M slices_S6x2048_S1x2048_1_0) shapeCasts_S1x2048_S2048

theorem contextVec1_at (M : Arr S6x2048) (e : Fin 2048) : contextVec1 M (ix1 e) = M (ix2 1 e) := by
  unfold contextVec1
  pointwise

/-- The latents' modulation vector 1. -/
def latentsVec1 (M : Arr S4x6x2048) : Arr S4x1x2048 :=
  extractStridedSlice S4x1x2048 ![0, 0, 2048] (shapeCast _ (broadcastInDim S4x1x6x2048 ![0, 2, 3] bcast_S4x6x2048_S4x1x6x2048_0_2_3 M) shapeCasts_S4x1x6x2048_S4x1x12288) slices_S4x1x12288_S4x1x2048_0_0_2048

theorem latentsVec1_at (M : Arr S4x6x2048) (b : Fin 4) (e : Fin 2048) : latentsVec1 M (ix3 b 0 e) = M (ix3 b 1 e) := by
  unfold latentsVec1
  pointwise
  exact congrArg₂ (fun x y => M (ix3 b x y)) (Fin.ext (by show (2048 + e.val) / 2048 = 1; omega)) rfl

/-- The context's modulation vector 0. -/
def contextVec0 (M : Arr S6x2048) : Arr S2048 :=
  shapeCast _ (extractStridedSlice S1x2048 ![0, 0] M slices_S6x2048_S1x2048_0_0) shapeCasts_S1x2048_S2048

theorem contextVec0_at (M : Arr S6x2048) (e : Fin 2048) : contextVec0 M (ix1 e) = M (ix2 0 e) := by
  unfold contextVec0
  pointwise

/-- The latents' modulation vector 0. -/
def latentsVec0 (M : Arr S4x6x2048) : Arr S4x1x2048 :=
  extractStridedSlice S4x1x2048 ![0, 0, 0] (shapeCast _ (broadcastInDim S4x1x6x2048 ![0, 2, 3] bcast_S4x6x2048_S4x1x6x2048_0_2_3 M) shapeCasts_S4x1x6x2048_S4x1x12288) slices_S4x1x12288_S4x1x2048_0_0_0

theorem latentsVec0_at (M : Arr S4x6x2048) (b : Fin 4) (e : Fin 2048) : latentsVec0 M (ix3 b 0 e) = M (ix3 b 0 e) := by
  unfold latentsVec0
  pointwise
  exact congrArg₂ (fun x y => M (ix3 b x y)) (Fin.ext (by show e.val / 2048 = 0; omega)) (Fin.ext (by show e.val % 2048 = e.val; omega))

/-- The context's weighted sums. -/
def contextComb (X Y : Arr S4x4352x2048) (g : Arr S2048) : Arr S4x256x2048 :=
  addf (F := Ideal) (φ := .f32) (mulf (broadcastInDim S4x256x2048 ![] bcast_S_S4x256x2048 (constant S_ .f32 0x3FD744FD#32)) (extractStridedSlice S4x256x2048 ![0, 0, 0] X slices_S4x4352x2048_S4x256x2048_0_0_0))
    (mulf (broadcastInDim S4x256x2048 ![0, 1, 2] bcast_S1x1x2048_S4x256x2048_0_1_2 (broadcastInDim S1x1x2048 ![2] bcast_S2048_S1x1x2048_2 g)) (extractStridedSlice S4x256x2048 ![0, 0, 0] Y slices_S4x4352x2048_S4x256x2048_0_0_0))

theorem contextComb_at (X Y : Arr S4x4352x2048) (g : Arr S2048) (b : Fin 4) (s : Fin 256) (p : Fin 4352) (hp : p.val = s.val) (e : Fin 2048) :
    contextComb X Y g (ix3 b s e) = comb (fun e => X (ix3 b p e)) (fun e => Y (ix3 b p e)) (fun e => g (ix1 e)) e := by
  have hd (Z : Arr S4x4352x2048) (h) : Z (ix3 b ⟨s.val, h⟩ e) = Z (ix3 b p e) := congrArg (fun y => Z (ix3 b y e)) (Fin.ext hp.symm)
  unfold contextComb comb
  pointwise
  rw [hd X, hd Y]

/-- The context's means. -/
def contextMean (C : Arr S4x256x2048) : Arr S4x256x1 :=
  Host.divf (F := Ideal) (broadcastInDim S4x256x1 ![0, 1] bcast_S4x256_S4x256x1_0_1 (Host.reduceAdd C (constant S_ .f32 0x00000000#32) reducesTo_S4x256x2048_S4x256_d2 h_S_))
    (broadcastInDim S4x256x1 ![] bcast_S_S4x256x1 (constant S_ .f32 0x45000000#32))

/-- The context less their means. -/
def contextCentred (C : Arr S4x256x2048) : Arr S4x256x2048 :=
  subf (F := Ideal) (φ := .f32) C (broadcastInDim S4x256x2048 ![0, 1, 2] bcast_S4x256x1_S4x256x2048_0_1_2 (contextMean C))

/-- The context normed. -/
def contextNormed (C : Arr S4x256x2048) (g b : Arr S2048) : Arr S4x256x2048 :=
  addf (F := Ideal) (φ := .f32) (mulf (mulf (contextCentred C) (broadcastInDim S4x256x2048 ![0, 1, 2] bcast_S4x256x1_S4x256x2048_0_1_2
    (Host.rsqrt (addf (contextMean (mulf (F := Ideal) (φ := .f32) (contextCentred C) (contextCentred C))) (broadcastInDim S4x256x1 ![] bcast_S_S4x256x1 (constant S_ .f32 0x3727C5AC#32))))))
    (broadcastInDim S4x256x2048 ![0, 1, 2] bcast_S1x1x2048_S4x256x2048_0_1_2 (broadcastInDim S1x1x2048 ![2] bcast_S2048_S1x1x2048_2 g)))
    (broadcastInDim S4x256x2048 ![0, 1, 2] bcast_S1x1x2048_S4x256x2048_0_1_2 (broadcastInDim S1x1x2048 ![2] bcast_S2048_S1x1x2048_2 b))

theorem contextMean_at (C : Arr S4x256x2048) (b : Fin 4) (s : Fin 256) : contextMean C (ix3 b s 0) = mean fun e => C (ix3 b s e) := by
  unfold contextMean mean
  pointwise

theorem contextCentred_at (C : Arr S4x256x2048) (b : Fin 4) (s : Fin 256) (e : Fin 2048) :
    contextCentred C (ix3 b s e) = C (ix3 b s e) - mean fun e => C (ix3 b s e) := by
  rw [← contextMean_at]
  unfold contextCentred
  generalize contextMean C = M
  pointwise

theorem contextNormed_at (C : Arr S4x256x2048) (g b : Arr S2048) (q : Fin 4) (s : Fin 256) (e : Fin 2048) :
    contextNormed C g b (ix3 q s e) = normed (fun e => C (ix3 q s e)) (fun e => g (ix1 e)) (fun e => b (ix1 e)) e := by
  have hv := contextMean_at (mulf (F := Ideal) (φ := .f32) (contextCentred C) (contextCentred C)) q s
  have hs : (mean fun e => mulf (F := Ideal) (φ := .f32) (contextCentred C) (contextCentred C) (ix3 q s e))
      = mean fun e => (C (ix3 q s e) - mean fun e => C (ix3 q s e)) * (C (ix3 q s e) - mean fun e => C (ix3 q s e)) :=
    congrArg mean (funext fun e => congrArg₂ (· * ·) (contextCentred_at C q s e) (contextCentred_at C q s e))
  have hc := contextCentred_at C q s e
  rw [hs] at hv
  unfold contextNormed
  generalize contextMean (mulf (F := Ideal) (φ := .f32) (contextCentred C) (contextCentred C)) = M at hv ⊢
  generalize contextCentred C = D at hc ⊢
  pointwise
  rw [hc, hv]
  rfl

/-- The context moved by a scale and a shift. -/
def contextMoved (N : Arr S4x256x2048) (sc sh : Arr S2048) : Arr S4x256x2048 :=
  addf (F := Ideal) (φ := .f32) (mulf N (broadcastInDim S4x256x2048 ![0, 1, 2] bcast_S1x1x2048_S4x256x2048_0_1_2 (broadcastInDim S1x1x2048 ![2] bcast_S2048_S1x1x2048_2 (addf (broadcastInDim S2048 ![] bcast_S_S2048 (constant S_ .f32 0x3F800000#32)) sc))))
    (broadcastInDim S4x256x2048 ![0, 1, 2] bcast_S1x1x2048_S4x256x2048_0_1_2 (broadcastInDim S1x1x2048 ![2] bcast_S2048_S1x1x2048_2 sh))

theorem contextMoved_at (N : Arr S4x256x2048) (sc sh : Arr S2048) (b : Fin 4) (s : Fin 256) (e : Fin 2048) :
    contextMoved N sc sh (ix3 b s e) = moved (N (ix3 b s e)) (sc (ix1 e)) (sh (ix1 e)) := by
  unfold contextMoved moved
  pointwise

/-- The latents's weighted sums. -/
def latentsComb (X Y : Arr S4x4352x2048) (g : Arr S4x1x2048) : Arr S4x4096x2048 :=
  addf (F := Ideal) (φ := .f32) (mulf (broadcastInDim S4x4096x2048 ![] bcast_S_S4x4096x2048 (constant S_ .f32 0x3FD744FD#32)) (extractStridedSlice S4x4096x2048 ![0, 256, 0] X slices_S4x4352x2048_S4x4096x2048_0_256_0))
    (mulf (broadcastInDim S4x4096x2048 ![0, 1, 2] bcast_S4x1x2048_S4x4096x2048_0_1_2 g) (extractStridedSlice S4x4096x2048 ![0, 256, 0] Y slices_S4x4352x2048_S4x4096x2048_0_256_0))

theorem latentsComb_at (X Y : Arr S4x4352x2048) (g : Arr S4x1x2048) (b : Fin 4) (s : Fin 4096) (p : Fin 4352) (hp : p.val = 256 + s.val) (e : Fin 2048) :
    latentsComb X Y g (ix3 b s e) = comb (fun e => X (ix3 b p e)) (fun e => Y (ix3 b p e)) (fun e => g (ix3 b 0 e)) e := by
  have hd (Z : Arr S4x4352x2048) (h) : Z (ix3 b ⟨256 + s.val, h⟩ e) = Z (ix3 b p e) := congrArg (fun y => Z (ix3 b y e)) (Fin.ext hp.symm)
  unfold latentsComb comb
  pointwise
  rw [hd X, hd Y]

/-- The latents's means. -/
def latentsMean (C : Arr S4x4096x2048) : Arr S4x4096x1 :=
  Host.divf (F := Ideal) (broadcastInDim S4x4096x1 ![0, 1] bcast_S4x4096_S4x4096x1_0_1 (Host.reduceAdd C (constant S_ .f32 0x00000000#32) reducesTo_S4x4096x2048_S4x4096_d2 h_S_))
    (broadcastInDim S4x4096x1 ![] bcast_S_S4x4096x1 (constant S_ .f32 0x45000000#32))

/-- The latents less their means. -/
def latentsCentred (C : Arr S4x4096x2048) : Arr S4x4096x2048 :=
  subf (F := Ideal) (φ := .f32) C (broadcastInDim S4x4096x2048 ![0, 1, 2] bcast_S4x4096x1_S4x4096x2048_0_1_2 (latentsMean C))

/-- The latents normed. -/
def latentsNormed (C : Arr S4x4096x2048) (g b : Arr S2048) : Arr S4x4096x2048 :=
  addf (F := Ideal) (φ := .f32) (mulf (mulf (latentsCentred C) (broadcastInDim S4x4096x2048 ![0, 1, 2] bcast_S4x4096x1_S4x4096x2048_0_1_2
    (Host.rsqrt (addf (latentsMean (mulf (F := Ideal) (φ := .f32) (latentsCentred C) (latentsCentred C))) (broadcastInDim S4x4096x1 ![] bcast_S_S4x4096x1 (constant S_ .f32 0x3727C5AC#32))))))
    (broadcastInDim S4x4096x2048 ![0, 1, 2] bcast_S1x1x2048_S4x4096x2048_0_1_2 (broadcastInDim S1x1x2048 ![2] bcast_S2048_S1x1x2048_2 g)))
    (broadcastInDim S4x4096x2048 ![0, 1, 2] bcast_S1x1x2048_S4x4096x2048_0_1_2 (broadcastInDim S1x1x2048 ![2] bcast_S2048_S1x1x2048_2 b))

theorem latentsMean_at (C : Arr S4x4096x2048) (b : Fin 4) (s : Fin 4096) : latentsMean C (ix3 b s 0) = mean fun e => C (ix3 b s e) := by
  unfold latentsMean mean
  pointwise

theorem latentsCentred_at (C : Arr S4x4096x2048) (b : Fin 4) (s : Fin 4096) (e : Fin 2048) :
    latentsCentred C (ix3 b s e) = C (ix3 b s e) - mean fun e => C (ix3 b s e) := by
  rw [← latentsMean_at]
  unfold latentsCentred
  generalize latentsMean C = M
  pointwise

theorem latentsNormed_at (C : Arr S4x4096x2048) (g b : Arr S2048) (q : Fin 4) (s : Fin 4096) (e : Fin 2048) :
    latentsNormed C g b (ix3 q s e) = normed (fun e => C (ix3 q s e)) (fun e => g (ix1 e)) (fun e => b (ix1 e)) e := by
  have hv := latentsMean_at (mulf (F := Ideal) (φ := .f32) (latentsCentred C) (latentsCentred C)) q s
  have hs : (mean fun e => mulf (F := Ideal) (φ := .f32) (latentsCentred C) (latentsCentred C) (ix3 q s e))
      = mean fun e => (C (ix3 q s e) - mean fun e => C (ix3 q s e)) * (C (ix3 q s e) - mean fun e => C (ix3 q s e)) :=
    congrArg mean (funext fun e => congrArg₂ (· * ·) (latentsCentred_at C q s e) (latentsCentred_at C q s e))
  have hc := latentsCentred_at C q s e
  rw [hs] at hv
  unfold latentsNormed
  generalize latentsMean (mulf (F := Ideal) (φ := .f32) (latentsCentred C) (latentsCentred C)) = M at hv ⊢
  generalize latentsCentred C = D at hc ⊢
  pointwise
  rw [hc, hv]
  rfl

/-- The latents moved by a scale and a shift. -/
def latentsMoved (N : Arr S4x4096x2048) (sc sh : Arr S4x1x2048) : Arr S4x4096x2048 :=
  addf (F := Ideal) (φ := .f32) (mulf N (broadcastInDim S4x4096x2048 ![0, 1, 2] bcast_S4x1x2048_S4x4096x2048_0_1_2 (addf (broadcastInDim S4x1x2048 ![] bcast_S_S4x1x2048 (constant S_ .f32 0x3F800000#32)) sc)))
    (broadcastInDim S4x4096x2048 ![0, 1, 2] bcast_S4x1x2048_S4x4096x2048_0_1_2 sh)

theorem latentsMoved_at (N : Arr S4x4096x2048) (sc sh : Arr S4x1x2048) (b : Fin 4) (s : Fin 4096) (e : Fin 2048) :
    latentsMoved N sc sh (ix3 b s e) = moved (N (ix3 b s e)) (sc (ix3 b 0 e)) (sh (ix3 b 0 e)) := by
  unfold latentsMoved moved
  pointwise

section

variable (x y : Arr S17408x2048) (M : Arr S6x2048) (L : Arr S4x6x2048) (M' : Arr S6x2048) (L' : Arr S4x6x2048) (g b : Arr S2048)

/-- The context's normed rows. -/
def context : Arr S4x256x2048 := contextNormed (contextComb (sequences x) (sequences y) (contextVec5 M)) g b
/-- The latents' normed rows. -/
def latents : Arr S4x4096x2048 := latentsNormed (latentsComb (sequences x) (sequences y) (latentsVec5 L)) g b

/-- The reference's normed rows. -/
def stream : Arr S17408x2048 := joined (context x y M g b) (latents x y L g b)

/-- The reference's normed and moved rows. -/
def next : Arr S17408x2048 :=
  joined (contextMoved (context x y M g b) (contextVec1 M') (contextVec0 M')) (latentsMoved (latents x y L g b) (latentsVec1 L') (latentsVec0 L'))

/-- A row's normed values. -/
def rowNormed (r : Fin 17408) (s : Fin 4) (p : Fin 4352) (e : Fin 2048) : EReal :=
  normed (comb (fun e => x (ix2 r e)) (fun e => y (ix2 r e)) (vecAt M L 5 s p)) (fun e => g (ix1 e)) (fun e => b (ix1 e)) e

theorem context_at (r : Fin 17408) (s : Fin 4) (p : Fin 4352) (hr : r.val = s.val * 4352 + p.val) (c : Fin 256) (hc : p.val = c.val) (e : Fin 2048) :
    context x y M g b (ix3 s c e) = rowNormed x y M L g b r s p e := by
  unfold context rowNormed
  rw [contextNormed_at]
  refine congrArg (fun u => normed u (fun e => g (ix1 e)) (fun e => b (ix1 e)) e) (funext fun e => ?_)
  rw [contextComb_at _ _ _ s c p hc e]
  unfold comb vecAt
  beta_reduce
  rw [if_pos (show p.val < 256 by omega), sequences_at x s p e r hr, sequences_at y s p e r hr, contextVec5_at]

theorem latents_at (r : Fin 17408) (s : Fin 4) (p : Fin 4352) (hr : r.val = s.val * 4352 + p.val) (c : Fin 4096) (hc : p.val = 256 + c.val) (e : Fin 2048) :
    latents x y L g b (ix3 s c e) = rowNormed x y M L g b r s p e := by
  unfold latents rowNormed
  rw [latentsNormed_at]
  refine congrArg (fun u => normed u (fun e => g (ix1 e)) (fun e => b (ix1 e)) e) (funext fun e => ?_)
  rw [latentsComb_at _ _ _ s c p hc e]
  unfold comb vecAt
  beta_reduce
  rw [if_neg (show ¬ p.val < 256 by omega), sequences_at x s p e r hr, sequences_at y s p e r hr, latentsVec5_at]

/-- The normed rows at an index: `s` is the row's sequence and `p` its place there. -/
theorem stream_at (r : Fin 17408) (s : Fin 4) (p : Fin 4352) (hr : r.val = s.val * 4352 + p.val) (e : Fin 2048) :
    stream x y M L g b (ix2 r e) = rowNormed x y M L g b r s p e := by
  unfold stream
  by_cases hp : p.val < 256
  · rw [joined_context _ _ r s ⟨p.val, hp⟩ e hr]
    exact context_at x y M L g b r s p hr ⟨p.val, hp⟩ rfl e
  · have hc : p.val = 256 + (p.val - 256) := by omega
    rw [joined_latents _ _ r s ⟨p.val - 256, by omega⟩ e (by show r.val = s.val * 4352 + (256 + (p.val - 256)); omega)]
    exact latents_at x y M L g b r s p hr ⟨p.val - 256, by omega⟩ hc e

/-- The moved rows at an index. -/
theorem next_at (r : Fin 17408) (s : Fin 4) (p : Fin 4352) (hr : r.val = s.val * 4352 + p.val) (e : Fin 2048) :
    next x y M L M' L' g b (ix2 r e) = moved (rowNormed x y M L g b r s p e) (vecAt M' L' 1 s p e) (vecAt M' L' 0 s p e) := by
  unfold next vecAt
  by_cases hp : p.val < 256
  · rw [joined_context _ _ r s ⟨p.val, hp⟩ e hr, contextMoved_at, contextVec1_at, contextVec0_at, if_pos hp, if_pos hp,
      context_at x y M L g b r s p hr ⟨p.val, hp⟩ rfl e]
  · have hc : p.val = 256 + (p.val - 256) := by omega
    rw [joined_latents _ _ r s ⟨p.val - 256, by omega⟩ e (by show r.val = s.val * 4352 + (256 + (p.val - 256)); omega),
      latentsMoved_at, latentsVec1_at, latentsVec0_at, if_neg hp, if_neg hp,
      latents_at x y M L g b r s p hr ⟨p.val - 256, by omega⟩ hc e]

end

end Cert.ReferenceNormIdeal.NormValue

namespace Cert.KernelNormIdeal.NormValue

open Idealize.ShloMosaic Idealize.ShloMosaic.TcCoe Idealize.SL.Sem Idealize.ShloMosaic.StableHlo
open Cert.KernelNormIdeal Cert.KernelNormIdeal.Gen
open Cert.ReferenceNormIdeal.NormValue (comb mean normed moved vecAt rowNormed stream next stream_at next_at Arr)

theorem z2 : (![0, 0] : Fin 2 → Nat) = fun _ => 0 := funext fun a => by fin_cases a <;> rfl

theorem index_stream : ∀ t : Fin cfg0.N, win0_0.index t 0 = t.val ∧ win0_0.index t 1 = 0 :=
  (by decide +kernel : ∀ t : Fin grid0.N, win0_0.index t 0 = t.val ∧ win0_0.index t 1 = 0)
theorem index_output : ∀ t : Fin cfg0.N, win0_1.index t 0 = t.val ∧ win0_1.index t 1 = 0 :=
  (by decide +kernel : ∀ t : Fin grid0.N, win0_1.index t 0 = t.val ∧ win0_1.index t 1 = 0)
theorem index_normed : ∀ t : Fin cfg0.N, win0_6.index t 0 = t.val ∧ win0_6.index t 1 = 0 :=
  (by decide +kernel : ∀ t : Fin grid0.N, win0_6.index t 0 = t.val ∧ win0_6.index t 1 = 0)
theorem index_moved : ∀ t : Fin cfg0.N, win0_7.index t 0 = t.val ∧ win0_7.index t 1 = 0 :=
  (by decide +kernel : ∀ t : Fin grid0.N, win0_7.index t 0 = t.val ∧ win0_7.index t 1 = 0)
theorem index_gate : ∀ t : Fin cfg0.N, win0_2.index t 0 = t.val / 17 ∧ win0_2.index t 1 = (if t.val % 17 = 0 then 0 else 1) ∧ win0_2.index t 2 = 0 ∧ win0_2.index t 3 = 0 :=
  (by decide +kernel : ∀ t : Fin grid0.N, win0_2.index t 0 = t.val / 17 ∧ win0_2.index t 1 = (if t.val % 17 = 0 then 0 else 1) ∧ win0_2.index t 2 = 0 ∧ win0_2.index t 3 = 0)
theorem index_next : ∀ t : Fin cfg0.N, win0_3.index t 0 = t.val / 17 ∧ win0_3.index t 1 = (if t.val % 17 = 0 then 0 else 1) ∧ win0_3.index t 2 = 0 ∧ win0_3.index t 3 = 0 :=
  (by decide +kernel : ∀ t : Fin grid0.N, win0_3.index t 0 = t.val / 17 ∧ win0_3.index t 1 = (if t.val % 17 = 0 then 0 else 1) ∧ win0_3.index t 2 = 0 ∧ win0_3.index t 3 = 0)
theorem index_weight : ∀ t : Fin cfg0.N, win0_4.index t 0 = 0 ∧ win0_4.index t 1 = 0 :=
  (by decide +kernel : ∀ t : Fin grid0.N, win0_4.index t 0 = 0 ∧ win0_4.index t 1 = 0)
theorem index_bias : ∀ t : Fin cfg0.N, win0_5.index t 0 = 0 ∧ win0_5.index t 1 = 0 :=
  (by decide +kernel : ∀ t : Fin grid0.N, win0_5.index t 0 = 0 ∧ win0_5.index t 1 = 0)

theorem point_lt (t : Fin cfg0.N) : t.val < 68 := lt_of_lt_of_eq t.isLt (show cfg0.N = 68 from N_0)

/-- What the body leaves of the normed rows at an index of its block. -/
theorem normed_block_at (x0 x1 : Vec Ideal S256x2048 .f32) (x2 x3 : Vec Ideal S1x1x6x2048 .f32) (x4 x5 : Vec Ideal S1x2048 .f32) (i : Fin 256) (j : Fin 2048) :
    k0_pay2 (View.ld x0 r0_0) (View.ld x2 r0_1) (View.ld x1 r0_0) (View.ld x4 r0_2) (View.ld x5 r0_2) (ix2 i j)
      = normed (comb (fun e => x0 (ix2 i e)) (fun e => x1 (ix2 i e)) (fun e => x2 (ix4 0 0 5 e))) (fun e => x4 (ix2 0 e)) (fun e => x5 (ix2 0 e)) j := by
  have h2 (e : Fin 2048) : View.ld x2 r0_1 (ix4 0 0 0 e) = x2 (ix4 0 0 5 e) := by
    refine congrArg x2 ?_
    funext a
    refine Fin.ext ?_
    match a with
    | ⟨0, _⟩ => rfl
    | ⟨1, _⟩ => rfl
    | ⟨2, _⟩ => rfl
    | ⟨3, _⟩ => show 0 + 1 * e.val = e.val; omega
  rw [show (fun e => x2 (ix4 0 0 5 e)) = fun e => View.ld x2 r0_1 (ix4 0 0 0 e) from funext fun e => (h2 e).symm]
  simp only [View.ld_unit_zero (S := S256x2048) z2, View.ld_unit_zero (S := S1x2048) z2]
  generalize View.ld x2 r0_1 = y2
  unfold k0_pay2
  pointwise
  rfl

theorem block6_at (x0 x1 : Vec Ideal S256x2048 .f32) (x2 x3 : Vec Ideal S1x1x6x2048 .f32) (x4 x5 : Vec Ideal S1x2048 .f32) (i : Fin 256) (j : Fin 2048) :
    out0_6 x0 x1 x2 x3 x4 x5 (ix2 i j)
      = normed (comb (fun e => x0 (ix2 i e)) (fun e => x1 (ix2 i e)) (fun e => x2 (ix4 0 0 5 e))) (fun e => x4 (ix2 0 e)) (fun e => x5 (ix2 0 e)) j := by
  unfold out0_6
  rw [View.canon_unit_zero z2]
  exact normed_block_at x0 x1 x2 x3 x4 x5 i j

theorem block7_at (x0 x1 : Vec Ideal S256x2048 .f32) (x2 x3 : Vec Ideal S1x1x6x2048 .f32) (x4 x5 : Vec Ideal S1x2048 .f32) (i : Fin 256) (j : Fin 2048) :
    out0_7 x0 x1 x2 x3 x4 x5 (ix2 i j)
      = moved (normed (comb (fun e => x0 (ix2 i e)) (fun e => x1 (ix2 i e)) (fun e => x2 (ix4 0 0 5 e))) (fun e => x4 (ix2 0 e)) (fun e => x5 (ix2 0 e)) j)
        (x3 (ix4 0 0 1 j)) (x3 (ix4 0 0 0 j)) := by
  unfold out0_7
  rw [View.canon_unit_zero z2, ← normed_block_at x0 x1 x2 x3 x4 x5 i j]
  have h1 : View.ld x3 r0_3 (ix4 0 0 0 j) = x3 (ix4 0 0 1 j) := by
    refine congrArg x3 ?_
    funext a
    refine Fin.ext ?_
    match a with
    | ⟨0, _⟩ => rfl
    | ⟨1, _⟩ => rfl
    | ⟨2, _⟩ => rfl
    | ⟨3, _⟩ => show 0 + 1 * j.val = j.val; omega
  have h0 : View.ld x3 r0_4 (ix4 0 0 0 j) = x3 (ix4 0 0 0 j) := by
    refine congrArg x3 ?_
    funext a
    refine Fin.ext ?_
    match a with
    | ⟨0, _⟩ => rfl
    | ⟨1, _⟩ => rfl
    | ⟨2, _⟩ => rfl
    | ⟨3, _⟩ => show 0 + 1 * j.val = j.val; omega
  rw [← h1, ← h0]
  generalize k0_pay2 (View.ld x0 r0_0) (View.ld x2 r0_1) (View.ld x1 r0_0) (View.ld x4 r0_2) (View.ld x5 r0_2) = N
  generalize View.ld x3 r0_3 = y1
  generalize View.ld x3 r0_4 = y0
  unfold k0_pay1
  pointwise
  rfl

variable (m : (ℓ : Loc nD τ sig) → Buf (Elt Ideal) ℓ) (q : Dev nD)

/-- The stream. -/
abbrev xs : Arr S17408x2048 := m ((q.tc : Thread nD τ).loc main_arg0)
/-- The feed-forward part's output. -/
abbrev ys : Arr S17408x2048 := m ((q.tc : Thread nD τ).loc main_arg1)
/-- The context's modulation vectors. -/
abbrev own : Arr S6x2048 := m ((q.tc : Thread nD τ).loc main_arg2)
/-- The sequences' modulation vectors. -/
abbrev each : Arr S4x6x2048 := m ((q.tc : Thread nD τ).loc main_arg3)
/-- The context's modulation vectors of the next layer. -/
abbrev own' : Arr S6x2048 := m ((q.tc : Thread nD τ).loc main_arg4)
/-- The sequences' modulation vectors of the next layer. -/
abbrev each' : Arr S4x6x2048 := m ((q.tc : Thread nD τ).loc main_arg5)
/-- The norm's weights. -/
abbrev gs : Arr S2048 := m ((q.tc : Thread nD τ).loc main_arg6)
/-- The norm's biases. -/
abbrev bs : Arr S2048 := m ((q.tc : Thread nD τ).loc main_arg7)

/-- The reference's first result at the kernel's arguments. -/
def result0 : Arr S17408x2048 := stream (xs m q) (ys m q) (own m q) (each m q) (gs m q) (bs m q)
/-- The reference's second result at the kernel's arguments. -/
def result1 : Arr S17408x2048 := next (xs m q) (ys m q) (own m q) (each m q) (own' m q) (each' m q) (gs m q) (bs m q)

/-- The modulation vectors as the kernel is entered with: for each sequence, the context's beside its own. -/
def beside (M : Arr S6x2048) (L : Arr S4x6x2048) : Arr S4x2x6x2048 :=
  concatenate S4x2x6x2048 1 [⟨S4x1x6x2048, (broadcastInDim S4x1x6x2048 ![0, 2, 3] bcast_S4x6x2048_S4x1x6x2048_0_2_3 (broadcastInDim S4x6x2048 ![1, 2] bcast_S6x2048_S4x6x2048_1_2 M))⟩,
    ⟨S4x1x6x2048, (broadcastInDim S4x1x6x2048 ![0, 2, 3] bcast_S4x6x2048_S4x1x6x2048_0_2_3 L)⟩] concatenates_S4x1x6x2048_S4x1x6x2048_S4x2x6x2048_d1

theorem beside_at (M : Arr S6x2048) (L : Arr S4x6x2048) (b : Fin 4) (d : Fin 2) (k : Fin 6) (e : Fin 2048) :
    beside M L (ix4 b d k e) = if d.val < 1 then M (ix2 k e) else L (ix3 b k e) := by
  unfold beside
  pointwise
  by_cases h : d.val < 1
  · rw [dif_pos h, if_pos h]
  · rw [dif_neg h, if_neg h]

theorem gate_entered : V m q main_v3 = beside (own m q) (each m q) := by
  unfold V
  after_reads_simp
  rfl

theorem next_entered : V m q main_v7 = beside (own' m q) (each' m q) := by
  unfold V
  after_reads_simp
  rfl

theorem weight_entered : V m q main_v8 = shapeCast _ (gs m q) shapeCasts_S2048_S1x2048 := by
  unfold V
  after_reads_simp
  rfl

theorem bias_entered : V m q main_v9 = shapeCast _ (bs m q) shapeCasts_S2048_S1x2048 := by
  unfold V
  after_reads_simp
  rfl

theorem asRow_at (x : Arr S2048) (e : Fin 2048) : shapeCast S1x2048 x shapeCasts_S2048_S1x2048 (ix2 0 e) = x (ix1 e) := by
  pointwise

/-- The stream's block at a point. -/
theorem stream_block (t : Fin cfg0.N) (i : Fin 256) (e : Fin 2048) (r : Fin 17408) (hr : r.val = t.val * 256 + i.val) :
    iblk m q 0 t (ix2 i e) = xs m q (ix2 r e) := by
  have h0 := index_stream t
  blk_simp [iblk]
  refine (congrFun (V_main_arg0 m q) _).trans (congrArg _ ?_)
  funext a
  refine Fin.ext ?_
  match a with
  | ⟨0, _⟩ => blk_simp; show _ = r.val; omega
  | ⟨1, _⟩ => blk_simp; show _ = e.val; omega

/-- The output's block at a point. -/
theorem output_block (t : Fin cfg0.N) (i : Fin 256) (e : Fin 2048) (r : Fin 17408) (hr : r.val = t.val * 256 + i.val) :
    iblk m q 1 t (ix2 i e) = ys m q (ix2 r e) := by
  have h0 := index_output t
  blk_simp [iblk]
  refine (congrFun (V_main_arg1 m q) _).trans (congrArg _ ?_)
  funext a
  refine Fin.ext ?_
  match a with
  | ⟨0, _⟩ => blk_simp; show _ = r.val; omega
  | ⟨1, _⟩ => blk_simp; show _ = e.val; omega

/-- The modulation block a point reads for the gate. -/
theorem gate_block (t : Fin cfg0.N) (k : Fin 6) (e : Fin 2048) (s : Fin 4) (p : Fin 4352) (hs : s.val = t.val / 17)
    (hp : p.val / 256 = t.val % 17) : iblk m q 2 t (ix4 0 0 k e) = vecAt (own m q) (each m q) k s p e := by
  have h0 := index_gate t
  obtain ⟨d, hd⟩ : ∃ d : Fin 2, d.val = if t.val % 17 = 0 then 0 else 1 := ⟨⟨if t.val % 17 = 0 then 0 else 1, by split <;> omega⟩, rfl⟩
  rw [← hd] at h0
  have hb := beside_at (own m q) (each m q) s d k e
  have hv : (if d.val < 1 then own m q (ix2 k e) else each m q (ix3 s k e)) = vecAt (own m q) (each m q) k s p e := by
    unfold vecAt
    by_cases ht : t.val % 17 = 0
    · rw [if_pos ht] at hd
      rw [if_pos (show d.val < 1 by omega), if_pos (show p.val < 256 by omega)]
    · rw [if_neg ht] at hd
      rw [if_neg (show ¬ d.val < 1 by omega), if_neg (show ¬ p.val < 256 by omega)]
  refine Eq.trans ?_ (hb.trans hv)
  blk_simp [iblk]
  refine (congrFun (gate_entered m q) _).trans (congrArg _ ?_)
  funext a
  refine Fin.ext ?_
  match a with
  | ⟨0, _⟩ => blk_simp; show _ = s.val; omega
  | ⟨1, _⟩ => blk_simp; show _ = d.val; omega
  | ⟨2, _⟩ => blk_simp; show _ = k.val; omega
  | ⟨3, _⟩ => blk_simp; show _ = e.val; omega

/-- The modulation block a point reads for the next. -/
theorem next_block (t : Fin cfg0.N) (k : Fin 6) (e : Fin 2048) (s : Fin 4) (p : Fin 4352) (hs : s.val = t.val / 17)
    (hp : p.val / 256 = t.val % 17) : iblk m q 3 t (ix4 0 0 k e) = vecAt (own' m q) (each' m q) k s p e := by
  have h0 := index_next t
  obtain ⟨d, hd⟩ : ∃ d : Fin 2, d.val = if t.val % 17 = 0 then 0 else 1 := ⟨⟨if t.val % 17 = 0 then 0 else 1, by split <;> omega⟩, rfl⟩
  rw [← hd] at h0
  have hb := beside_at (own' m q) (each' m q) s d k e
  have hv : (if d.val < 1 then own' m q (ix2 k e) else each' m q (ix3 s k e)) = vecAt (own' m q) (each' m q) k s p e := by
    unfold vecAt
    by_cases ht : t.val % 17 = 0
    · rw [if_pos ht] at hd
      rw [if_pos (show d.val < 1 by omega), if_pos (show p.val < 256 by omega)]
    · rw [if_neg ht] at hd
      rw [if_neg (show ¬ d.val < 1 by omega), if_neg (show ¬ p.val < 256 by omega)]
  refine Eq.trans ?_ (hb.trans hv)
  blk_simp [iblk]
  refine (congrFun (next_entered m q) _).trans (congrArg _ ?_)
  funext a
  refine Fin.ext ?_
  match a with
  | ⟨0, _⟩ => blk_simp; show _ = s.val; omega
  | ⟨1, _⟩ => blk_simp; show _ = d.val; omega
  | ⟨2, _⟩ => blk_simp; show _ = k.val; omega
  | ⟨3, _⟩ => blk_simp; show _ = e.val; omega

/-- The norm's weight block, the same at every point. -/
theorem weight_block (t : Fin cfg0.N) (e : Fin 2048) : iblk m q 4 t (ix2 0 e) = gs m q (ix1 e) := by
  have h0 := index_weight t
  refine Eq.trans ?_ (asRow_at (gs m q) e)
  blk_simp [iblk]
  refine (congrFun (weight_entered m q) _).trans (congrArg _ ?_)
  funext a
  refine Fin.ext ?_
  match a with
  | ⟨0, _⟩ => blk_simp; show _ = 0; omega
  | ⟨1, _⟩ => blk_simp; show _ = e.val; omega

/-- The norm's bias block, the same at every point. -/
theorem bias_block (t : Fin cfg0.N) (e : Fin 2048) : iblk m q 5 t (ix2 0 e) = bs m q (ix1 e) := by
  have h0 := index_bias t
  refine Eq.trans ?_ (asRow_at (bs m q) e)
  blk_simp [iblk]
  refine (congrFun (bias_entered m q) _).trans (congrArg _ ?_)
  funext a
  refine Fin.ext ?_
  match a with
  | ⟨0, _⟩ => blk_simp; show _ = 0; omega
  | ⟨1, _⟩ => blk_simp; show _ = e.val; omega

/-- A block's normed values are the reference's of the row. -/
theorem row_eq (t : Fin cfg0.N) (i : Fin 256) (j : Fin 2048) (r : Fin 17408) (hr : r.val = t.val * 256 + i.val) (s : Fin 4) (p : Fin 4352)
    (hs : s.val = t.val / 17) (hp : p.val / 256 = t.val % 17) :
    normed (comb (fun e => iblk m q 0 t (ix2 i e)) (fun e => iblk m q 1 t (ix2 i e)) (fun e => iblk m q 2 t (ix4 0 0 5 e)))
      (fun e => iblk m q 4 t (ix2 0 e)) (fun e => iblk m q 5 t (ix2 0 e)) j
      = rowNormed (xs m q) (ys m q) (own m q) (each m q) (gs m q) (bs m q) r s p j := by
  rw [show (fun e => iblk m q 0 t (ix2 i e)) = fun e => xs m q (ix2 r e) from funext fun e => stream_block m q t i e r hr,
    show (fun e => iblk m q 1 t (ix2 i e)) = fun e => ys m q (ix2 r e) from funext fun e => output_block m q t i e r hr,
    show (fun e => iblk m q 2 t (ix4 0 0 5 e)) = vecAt (own m q) (each m q) 5 s p from funext fun e => gate_block m q t 5 e s p hs hp,
    show (fun e => iblk m q 4 t (ix2 0 e)) = fun e => gs m q (ix1 e) from funext fun e => weight_block m q t e,
    show (fun e => iblk m q 5 t (ix2 0 e)) = fun e => bs m q (ix1 e) from funext fun e => bias_block m q t e]
  rfl

/-- The row of a block's line, its sequence and its place there. -/
theorem row_of (t : Fin cfg0.N) (i : Fin 256) : ∃ (r : Fin 17408) (s : Fin 4) (p : Fin 4352), r.val = t.val * 256 + i.val
    ∧ r.val = s.val * 4352 + p.val ∧ s.val = t.val / 17 ∧ p.val / 256 = t.val % 17 := by
  have ht := point_lt t
  refine ⟨⟨t.val * 256 + i.val, by omega⟩, ⟨t.val / 17, by omega⟩, ⟨t.val % 17 * 256 + i.val, by omega⟩, rfl, ?_, rfl, ?_⟩
  · show t.val * 256 + i.val = t.val / 17 * 4352 + (t.val % 17 * 256 + i.val)
    omega
  · show (t.val % 17 * 256 + i.val) / 256 = t.val % 17
    omega

/-- What a grid point writes back of the normed rows is its block of the result. -/
theorem written6_at (t : Fin cfg0.N) (i : Fin 256) (j : Fin 2048) :
    (dats m 0 q).after 6 t (ix2 i j) = result0 m q (((cfg0.win 6).blk t).view.emb (ix2 i j)) := by
  have ht := point_lt t
  have h0 := index_normed t
  rw [after0_6]
  refine (block6_at (iblk m q 0 t) (iblk m q 1 t) (iblk m q 2 t) (iblk m q 3 t) (iblk m q 4 t) (iblk m q 5 t) i j).trans ?_
  obtain ⟨r, s, p, hr, hsp, hs, hp⟩ := row_of t i
  rw [row_eq m q t i j r hr s p hs hp]
  refine (stream_at (xs m q) (ys m q) (own m q) (each m q) (gs m q) (bs m q) r s p hsp j).symm.trans (congrArg (result0 m q) ?_)
  funext a
  refine Fin.ext ?_
  match a with
  | ⟨0, _⟩ => blk_simp; show r.val = _; omega
  | ⟨1, _⟩ => blk_simp; show j.val = _; omega

theorem covered6 (x : S17408x2048.Idx) : ∃ t : Fin cfg0.N, (cfg0.win 6).flush t = true ∧ x ∈ ((cfg0.win 6).blk t).view.set := by
  have h0 : (x 0).val < 17408 := (x 0).isLt
  have h1 : (x 1).val < 2048 := (x 1).isLt
  obtain ⟨t, ht⟩ : ∃ t : Fin cfg0.N, t.val = (x 0).val / 256 :=
    ⟨⟨(x 0).val / 256, by rw [show cfg0.N = 68 from N_0]; omega⟩, rfl⟩
  refine ⟨t, flush0_6 t, ?_⟩
  have hi := index_normed t
  rw [ht] at hi
  mem_blk
  omega

/-- The array the kernel leaves of the normed rows. -/
theorem array6_eq : (dats m 0 q).arrAt 6 cfg0.N = result0 m q := by
  refine (dats m 0 q).arrAt_eq_of_emb 6 (result0 m q) (fun t _ y => ?_) covered6
  have hy : ∃ (i : Fin 256) (j : Fin 2048), y = ix2 i j := ⟨y 0, y 1, by
    funext a
    match a with
    | ⟨0, _⟩ => rfl
    | ⟨1, _⟩ => rfl⟩
  obtain ⟨i, j, rfl⟩ := hy
  exact written6_at m q t i j

/-- What a grid point writes back of the moved rows is its block of the result. -/
theorem written7_at (t : Fin cfg0.N) (i : Fin 256) (j : Fin 2048) :
    (dats m 0 q).after 7 t (ix2 i j) = result1 m q (((cfg0.win 7).blk t).view.emb (ix2 i j)) := by
  have ht := point_lt t
  have h0 := index_moved t
  rw [after0_7]
  refine (block7_at (iblk m q 0 t) (iblk m q 1 t) (iblk m q 2 t) (iblk m q 3 t) (iblk m q 4 t) (iblk m q 5 t) i j).trans ?_
  obtain ⟨r, s, p, hr, hsp, hs, hp⟩ := row_of t i
  rw [row_eq m q t i j r hr s p hs hp, next_block m q t 1 j s p hs hp, next_block m q t 0 j s p hs hp]
  refine (next_at (xs m q) (ys m q) (own m q) (each m q) (own' m q) (each' m q) (gs m q) (bs m q) r s p hsp j).symm.trans (congrArg (result1 m q) ?_)
  funext a
  refine Fin.ext ?_
  match a with
  | ⟨0, _⟩ => blk_simp; show r.val = _; omega
  | ⟨1, _⟩ => blk_simp; show j.val = _; omega

theorem covered7 (x : S17408x2048.Idx) : ∃ t : Fin cfg0.N, (cfg0.win 7).flush t = true ∧ x ∈ ((cfg0.win 7).blk t).view.set := by
  have h0 : (x 0).val < 17408 := (x 0).isLt
  have h1 : (x 1).val < 2048 := (x 1).isLt
  obtain ⟨t, ht⟩ : ∃ t : Fin cfg0.N, t.val = (x 0).val / 256 :=
    ⟨⟨(x 0).val / 256, by rw [show cfg0.N = 68 from N_0]; omega⟩, rfl⟩
  refine ⟨t, flush0_7 t, ?_⟩
  have hi := index_moved t
  rw [ht] at hi
  mem_blk
  omega

/-- The array the kernel leaves of the moved rows. -/
theorem array7_eq : (dats m 0 q).arrAt 7 cfg0.N = result1 m q := by
  refine (dats m 0 q).arrAt_eq_of_emb 7 (result1 m q) (fun t _ y => ?_) covered7
  have hy : ∃ (i : Fin 256) (j : Fin 2048), y = ix2 i j := ⟨y 0, y 1, by
    funext a
    match a with
    | ⟨0, _⟩ => rfl
    | ⟨1, _⟩ => rfl⟩
  obtain ⟨i, j, rfl⟩ := hy
  exact written7_at m q t i j

/-- The kernel ends on every run, its arguments unchanged and its counters at zero. -/
theorem frame_kernel : Cert.quiescent_KernelNorm (hKernelNorm := Cert.KernelNorm.Gen.facts) :=
  fun m ρ _ => Cert.KernelNorm.Gen.frame m ρ

/-- The same of the kernel read over the extended reals. -/
theorem frame_kernel_ideal : Cert.quiescent_KernelNormIdeal (hKernelNormIdeal := Cert.KernelNormIdeal.Gen.facts) :=
  fun m ρ _ => Cert.KernelNormIdeal.Gen.frame m ρ

/-- The same of the reference read over the extended reals; it declares no semaphore. -/
theorem frame_reference_ideal : Cert.quiescent_ReferenceNormIdeal (hReferenceNormIdeal := Cert.ReferenceNormIdeal.Gen.facts) := fun m ρ _ =>
  (θ_run Cert.ReferenceNormIdeal.defs _ _).mono
    (fun r h => ⟨fun c => (h c).2.2, Idealize.ShloMosaic.sem_eq_zero_of_no_sems (by decide) r.2⟩)
    (Cert.ReferenceNormIdeal.Value.run (F := Ideal) m ρ)

/-- Over the extended reals the kernel's two arrays are the reference's, whatever the arguments. -/
theorem kernel_is_reference : Cert.algebraic_KernelNormIdeal_ReferenceNormIdeal (hKernelNormIdeal := Cert.KernelNormIdeal.Gen.facts)
    (hReferenceNormIdeal := Cert.ReferenceNormIdeal.Gen.facts) := by
  intro m ρ m' ρ' _ hagree
  refine ⟨fun c => result0 m c, fun c => result1 m c, ?_, ?_⟩
  · exact (θ_run Cert.KernelNormIdeal.defs _ _).mono
      (fun _ h c => ⟨(h c).1.trans (array6_eq m c), (h c).2.1.trans (array7_eq m c), (h c).2.2⟩)
      (Cert.KernelNormIdeal.Value.run_blocks (F := Ideal) m ρ)
  · refine (θ_run Cert.ReferenceNormIdeal.defs _ _).mono (fun _ h c => ⟨(h c).1.trans ?_, (h c).2.1.trans ?_, (h c).2.2⟩)
      (Cert.ReferenceNormIdeal.Value.run (F := Ideal) m' ρ')
    · unfold Cert.ReferenceNormIdeal.Value.res_main_v102
      obtain ⟨e0, e1, e2, e3, e4, e5, e6, e7⟩ := hagree c
      rw [e0, e1, e2, e3, e6, e7]
      rfl
    · unfold Cert.ReferenceNormIdeal.Value.res_main_v104
      obtain ⟨e0, e1, e2, e3, e4, e5, e6, e7⟩ := hagree c
      rw [e0, e1, e2, e3, e4, e5, e6, e7]
      rfl

end Cert.KernelNormIdeal.NormValue

end
-- ==== Proof.ProjGateDown.lean ====
/-
  The first half of the delta rule's gate projection: 17408 rows of 2048 against the weights' 256 columns, then the logistic, in bf16.
  A grid point multiplies 512 rows by all 256 columns over the whole depth, so its block is the logistic of the product's rows.
-/
module

public import proofs.«01_k».proof.Defs
public import proofs.«01_k».proof.Proof.Gen.KernelGateDown.Frame
public import proofs.«01_k».proof.Proof.Gen.KernelGateDownIdeal.Value
public import proofs.«01_k».proof.Proof.Gen.ReferenceGateDownIdeal.Run
public import Idealize.ShloMosaic.Lib.Pipeline.ValueKit
public import Idealize.ShloMosaic.Lib.Quiescent

@[expose] public section

set_option maxRecDepth 16384

noncomputable section

namespace Cert.KernelGateDownIdeal.ProjValue

open Idealize.ShloMosaic Idealize.ShloMosaic.TcCoe Idealize.SL.Sem Idealize.ShloMosaic.StableHlo
open Cert.KernelGateDownIdeal Cert.KernelGateDownIdeal.Gen

theorem z2 : (![0, 0] : Fin 2 → Nat) = fun _ => 0 := funext fun a => by fin_cases a <;> rfl

theorem index_rows : ∀ t : Fin cfg0.N, win0_0.index t 0 = t.val ∧ win0_0.index t 1 = 0 :=
  (by decide +kernel : ∀ t : Fin grid0.N, win0_0.index t 0 = t.val ∧ win0_0.index t 1 = 0)
theorem index_columns : ∀ t : Fin cfg0.N, win0_1.index t 0 = 0 ∧ win0_1.index t 1 = 0 :=
  (by decide +kernel : ∀ t : Fin grid0.N, win0_1.index t 0 = 0 ∧ win0_1.index t 1 = 0)
theorem index_block : ∀ t : Fin cfg0.N, win0_2.index t 0 = t.val ∧ win0_2.index t 1 = 0 :=
  (by decide +kernel : ∀ t : Fin grid0.N, win0_2.index t 0 = t.val ∧ win0_2.index t 1 = 0)

theorem point_lt (t : Fin cfg0.N) : t.val < 34 := lt_of_lt_of_eq t.isLt (show cfg0.N = 34 from N_0)

variable (m : (ℓ : Loc nD τ sig) → Buf (Elt Ideal) ℓ) (q : Dev nD)

/-- The rows. -/
abbrev rows : (⟨S17408x2048, .bf16⟩ : BufTy).Contents (Elt Ideal) := m ((q.tc : Thread nD τ).loc main_arg0)
/-- The weights. -/
abbrev weights : (⟨S2048x256, .f32⟩ : BufTy).Contents (Elt Ideal) := m ((q.tc : Thread nD τ).loc main_arg1)

/-- The reference's logistic of the rows' product with the weights. -/
abbrev result : (⟨S17408x256, .bf16⟩ : BufTy).Contents (Elt Ideal) :=
  truncf .bf16 (Host.divf (broadcastInDim Cert.ReferenceGateDownIdeal.S17408x256 ![] Cert.ReferenceGateDownIdeal.Gen.bcast_S_S17408x256 (constant Cert.ReferenceGateDownIdeal.S_ .f32 0x3F800000#32))
    (addf (broadcastInDim Cert.ReferenceGateDownIdeal.S17408x256 ![] Cert.ReferenceGateDownIdeal.Gen.bcast_S_S17408x256 (constant Cert.ReferenceGateDownIdeal.S_ .f32 0x3F800000#32))
      (Host.exp (Host.negf (Host.dotGeneral (F := Ideal) (φ₂ := .f32) Cert.ReferenceGateDownIdeal.dot_S17408x2048_S2048x256_S17408x256_1_0_0_1_n_n none (extf .f32 (rows m q) Cert.ReferenceGateDownIdeal.Gen.bitsLt_bf16_f32) (weights m q)))))) Cert.ReferenceGateDownIdeal.Gen.bitsLt_bf16_f32

/-- The result at an index. -/
theorem result_at (r : Fin 17408) (k : Fin 256) :
    result m q (ix2 r k) = Ideal.logistic (∑ e : Fin 2048, rows m q (ix2 r e) * weights m q (ix2 e k)) := by
  unfold result Ideal.logistic
  generalize rows m q = A
  generalize weights m q = W
  pointwise

/-- What the body leaves at an index of its block. -/
theorem block_at (x0 : Vec Ideal S512x2048 .bf16) (x1 : Vec Ideal S2048x256 .bf16) (i : Fin 512) (j : Fin 256) :
    out0_2 x0 x1 (ix2 i j) = Ideal.logistic (∑ e : Fin 2048, x0 (ix2 i e) * x1 (ix2 e j)) := by
  unfold out0_2
  rw [View.canon_unit_zero z2]
  simp only [View.ld_unit_zero (S := S512x2048) z2, View.ld_unit_zero (S := S2048x256) z2]
  unfold k0_pay1
  pointwise

/-- The rows' block at a point. -/
theorem rows_block (t : Fin cfg0.N) (i : Fin 512) (e : Fin 2048) (r : Fin 17408) (hr : r.val = t.val * 512 + i.val) :
    iblk m q 0 t (ix2 i e) = rows m q (ix2 r e) := by
  have h0 := index_rows t
  blk_simp [iblk]
  refine (congrFun (V_main_arg0 m q) _).trans (congrArg _ ?_)
  funext a
  refine Fin.ext ?_
  match a with
  | ⟨0, _⟩ => blk_simp; show _ = r.val; omega
  | ⟨1, _⟩ => blk_simp; show _ = e.val; omega

/-- The weights the kernel is entered with: over the extended reals the cast changes nothing. -/
theorem cast_weights : V m q main_v0 = weights m q := by
  unfold V
  after_reads_simp
  rfl

/-- The weights' block at a point. -/
theorem weights_block (t : Fin cfg0.N) (e : Fin 2048) (j : Fin 256) (k : Fin 256) (hk : k.val = j.val) :
    iblk m q 1 t (ix2 e j) = weights m q (ix2 e k) := by
  have h0 := index_columns t
  blk_simp [iblk]
  refine (congrFun (cast_weights m q) _).trans (congrArg _ ?_)
  funext a
  refine Fin.ext ?_
  match a with
  | ⟨0, _⟩ => blk_simp; show _ = e.val; omega
  | ⟨1, _⟩ => blk_simp; show _ = k.val; omega

/-- What a grid point writes back is its block of the result. -/
theorem written_at (t : Fin cfg0.N) (i : Fin 512) (j : Fin 256) :
    (dats m 0 q).after 2 t (ix2 i j) = result m q (((cfg0.win 2).blk t).view.emb (ix2 i j)) := by
  have ht := point_lt t
  have h0 := index_block t
  rw [after0_2]
  refine (block_at (iblk m q 0 t) (iblk m q 1 t) i j).trans ?_
  obtain ⟨r, hr⟩ : ∃ r : Fin 17408, r.val = t.val * 512 + i.val := ⟨⟨t.val * 512 + i.val, by omega⟩, rfl⟩
  obtain ⟨k, hk⟩ : ∃ k : Fin 256, k.val = j.val := ⟨j, rfl⟩
  refine Eq.trans (congrArg Ideal.logistic (Finset.sum_congr rfl fun e _ => ?_)) ((result_at m q r k).symm.trans (congrArg (result m q) ?_))
  · exact congrArg₂ (· * ·) (rows_block m q t i e r hr) (weights_block m q t e j k hk)
  funext a
  refine Fin.ext ?_
  match a with
  | ⟨0, _⟩ => blk_simp; show r.val = _; omega
  | ⟨1, _⟩ => blk_simp; show k.val = _; omega

/-- Every index of the array lies in the block of some grid point. -/
theorem covered (x : S17408x256.Idx) : ∃ t : Fin cfg0.N, (cfg0.win 2).flush t = true ∧ x ∈ ((cfg0.win 2).blk t).view.set := by
  have h0 : (x 0).val < 17408 := (x 0).isLt
  have h1 : (x 1).val < 256 := (x 1).isLt
  obtain ⟨t, ht⟩ : ∃ t : Fin cfg0.N, t.val = (x 0).val / 512 :=
    ⟨⟨(x 0).val / 512, by rw [show cfg0.N = 34 from N_0]; omega⟩, rfl⟩
  refine ⟨t, flush0_2 t, ?_⟩
  have hi := index_block t
  rw [ht] at hi
  mem_blk
  omega

/-- The array the kernel leaves. -/
theorem array_eq : (dats m 0 q).arrAt 2 cfg0.N = result m q := by
  refine (dats m 0 q).arrAt_eq_of_emb 2 (result m q) (fun t _ y => ?_) covered
  have hy : ∃ (i : Fin 512) (j : Fin 256), y = ix2 i j := ⟨y 0, y 1, by
    funext a
    match a with
    | ⟨0, _⟩ => rfl
    | ⟨1, _⟩ => rfl⟩
  obtain ⟨i, j, rfl⟩ := hy
  exact written_at m q t i j

/-- The kernel ends on every run, its arguments unchanged and its counters at zero. -/
theorem frame_kernel : Cert.quiescent_KernelGateDown (hKernelGateDown := Cert.KernelGateDown.Gen.facts) :=
  fun m ρ _ => Cert.KernelGateDown.Gen.frame m ρ

/-- The same of the kernel read over the extended reals. -/
theorem frame_kernel_ideal : Cert.quiescent_KernelGateDownIdeal (hKernelGateDownIdeal := Cert.KernelGateDownIdeal.Gen.facts) :=
  fun m ρ _ => Cert.KernelGateDownIdeal.Gen.frame m ρ

/-- The same of the reference read over the extended reals; it declares no semaphore. -/
theorem frame_reference_ideal : Cert.quiescent_ReferenceGateDownIdeal (hReferenceGateDownIdeal := Cert.ReferenceGateDownIdeal.Gen.facts) := fun m ρ _ =>
  (θ_run Cert.ReferenceGateDownIdeal.defs _ _).mono
    (fun r h => ⟨fun c => (h c).2, Idealize.ShloMosaic.sem_eq_zero_of_no_sems (by decide) r.2⟩)
    (Cert.ReferenceGateDownIdeal.Value.run (F := Ideal) m ρ)

/-- Over the extended reals the kernel's array is the reference's, whatever the arguments. -/
theorem kernel_is_reference : Cert.algebraic_KernelGateDownIdeal_ReferenceGateDownIdeal (hKernelGateDownIdeal := Cert.KernelGateDownIdeal.Gen.facts)
    (hReferenceGateDownIdeal := Cert.ReferenceGateDownIdeal.Gen.facts) := by
  intro m ρ m' ρ' _ hagree
  refine ⟨fun c => result m c, ?_, ?_⟩
  · exact (θ_run Cert.KernelGateDownIdeal.defs _ _).mono (fun _ h c => ⟨(h c).1.trans (array_eq m c), (h c).2⟩)
      (Cert.KernelGateDownIdeal.Value.run_blocks (F := Ideal) m ρ)
  · refine (θ_run Cert.ReferenceGateDownIdeal.defs _ _).mono (fun _ h c => ⟨(h c).1.trans ?_, (h c).2⟩)
      (Cert.ReferenceGateDownIdeal.Value.run (F := Ideal) m' ρ')
    rw [(hagree c).1, (hagree c).2]

end Cert.KernelGateDownIdeal.ProjValue

end
-- ==== Proof.ProjGateUp.lean ====
/-
  The second half of the delta rule's gate projection: 17408 rows of 256 against the weights' 2048 columns.
  A grid point multiplies 512 rows by 512 columns over the whole depth, so its block is the block of the product.
-/
module

public import proofs.«01_k».proof.Defs
public import proofs.«01_k».proof.Proof.Gen.KernelGateUp.Frame
public import proofs.«01_k».proof.Proof.Gen.KernelGateUpIdeal.Value
public import proofs.«01_k».proof.Proof.Gen.ReferenceGateUpIdeal.Run
public import Idealize.ShloMosaic.Lib.Pipeline.ValueKit
public import Idealize.ShloMosaic.Lib.Quiescent

@[expose] public section

set_option maxRecDepth 16384

noncomputable section

namespace Cert.KernelGateUpIdeal.ProjValue

open Idealize.ShloMosaic Idealize.ShloMosaic.TcCoe Idealize.SL.Sem Idealize.ShloMosaic.StableHlo
open Cert.KernelGateUpIdeal Cert.KernelGateUpIdeal.Gen

theorem z2 : (![0, 0] : Fin 2 → Nat) = fun _ => 0 := funext fun a => by fin_cases a <;> rfl

theorem index_rows : ∀ t : Fin cfg0.N, win0_0.index t 0 = t.val / 4 ∧ win0_0.index t 1 = 0 :=
  (by decide +kernel : ∀ t : Fin grid0.N, win0_0.index t 0 = t.val / 4 ∧ win0_0.index t 1 = 0)
theorem index_columns : ∀ t : Fin cfg0.N, win0_1.index t 0 = 0 ∧ win0_1.index t 1 = t.val % 4 :=
  (by decide +kernel : ∀ t : Fin grid0.N, win0_1.index t 0 = 0 ∧ win0_1.index t 1 = t.val % 4)
theorem index_block : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem point_lt (t : Fin cfg0.N) : t.val < 136 := lt_of_lt_of_eq t.isLt (show cfg0.N = 136 from N_0)

variable (m : (ℓ : Loc nD τ sig) → Buf (Elt Ideal) ℓ) (q : Dev nD)

/-- The rows. -/
abbrev rows : (⟨S17408x256, .bf16⟩ : BufTy).Contents (Elt Ideal) := m ((q.tc : Thread nD τ).loc main_arg0)
/-- The weights. -/
abbrev weights : (⟨S256x2048, .f32⟩ : BufTy).Contents (Elt Ideal) := m ((q.tc : Thread nD τ).loc main_arg1)

/-- The reference's product of the rows and the weights. -/
abbrev result : (⟨S17408x2048, .f32⟩ : BufTy).Contents (Elt Ideal) :=
  Host.dotGeneral (F := Ideal) (φ₂ := .f32) Cert.ReferenceGateUpIdeal.dot_S17408x256_S256x2048_S17408x2048_1_0_0_1_n_n none (extf .f32 (rows m q) Cert.ReferenceGateUpIdeal.Gen.bitsLt_bf16_f32) (weights m q)

/-- The product at an index. -/
theorem result_at (r : Fin 17408) (k : Fin 2048) :
    result m q (ix2 r k) = ∑ e : Fin 256, rows m q (ix2 r e) * weights m q (ix2 e k) := by
  unfold result
  generalize rows m q = A
  generalize weights m q = W
  pointwise

/-- What the body leaves at an index of its block. -/
theorem block_at (x0 : Vec Ideal S512x256 .bf16) (x1 : Vec Ideal S256x512 .bf16) (i j : Fin 512) :
    out0_2 x0 x1 (ix2 i j) = ∑ e : Fin 256, x0 (ix2 i e) * x1 (ix2 e j) := by
  unfold out0_2
  rw [View.canon_unit_zero z2]
  simp only [View.ld_unit_zero (S := S512x256) z2, View.ld_unit_zero (S := S256x512) z2]
  unfold k0_pay1
  pointwise

/-- The rows' block at a point. -/
theorem rows_block (t : Fin cfg0.N) (i : Fin 512) (e : Fin 256) (r : Fin 17408) (hr : r.val = t.val / 4 * 512 + i.val) :
    iblk m q 0 t (ix2 i e) = rows m q (ix2 r e) := by
  have h0 := index_rows t
  blk_simp [iblk]
  refine (congrFun (V_main_arg0 m q) _).trans (congrArg _ ?_)
  funext a
  refine Fin.ext ?_
  match a with
  | ⟨0, _⟩ => blk_simp; show _ = r.val; omega
  | ⟨1, _⟩ => blk_simp; show _ = e.val; omega

/-- The weights the kernel is entered with: over the extended reals the cast changes nothing. -/
theorem cast_weights : V m q main_v0 = weights m q := by
  unfold V
  after_reads_simp
  rfl

/-- The weights' block at a point. -/
theorem weights_block (t : Fin cfg0.N) (e : Fin 256) (j : Fin 512) (k : Fin 2048) (hk : k.val = t.val % 4 * 512 + j.val) :
    iblk m q 1 t (ix2 e j) = weights m q (ix2 e k) := by
  have h0 := index_columns t
  blk_simp [iblk]
  refine (congrFun (cast_weights m q) _).trans (congrArg _ ?_)
  funext a
  refine Fin.ext ?_
  match a with
  | ⟨0, _⟩ => blk_simp; show _ = e.val; omega
  | ⟨1, _⟩ => blk_simp; show _ = k.val; omega

/-- What a grid point writes back is its block of the product. -/
theorem written_at (t : Fin cfg0.N) (i j : Fin 512) :
    (dats m 0 q).after 2 t (ix2 i j) = result m q (((cfg0.win 2).blk t).view.emb (ix2 i j)) := by
  have ht := point_lt t
  have h0 := index_block t
  rw [after0_2]
  refine (block_at (iblk m q 0 t) (iblk m q 1 t) i j).trans ?_
  obtain ⟨r, hr⟩ : ∃ r : Fin 17408, r.val = t.val / 4 * 512 + i.val := ⟨⟨t.val / 4 * 512 + i.val, by omega⟩, rfl⟩
  obtain ⟨k, hk⟩ : ∃ k : Fin 2048, k.val = t.val % 4 * 512 + j.val := ⟨⟨t.val % 4 * 512 + j.val, by omega⟩, rfl⟩
  refine Eq.trans (Finset.sum_congr rfl fun e _ => ?_) ((result_at m q r k).symm.trans (congrArg (result m q) ?_))
  · exact congrArg₂ (· * ·) (rows_block m q t i e r hr) (weights_block m q t e j k hk)
  funext a
  refine Fin.ext ?_
  match a with
  | ⟨0, _⟩ => blk_simp; show r.val = _; omega
  | ⟨1, _⟩ => blk_simp; show k.val = _; omega

/-- Every index of the array lies in the block of some grid point. -/
theorem covered (x : S17408x2048.Idx) : ∃ t : Fin cfg0.N, (cfg0.win 2).flush t = true ∧ x ∈ ((cfg0.win 2).blk t).view.set := by
  have h0 : (x 0).val < 17408 := (x 0).isLt
  have h1 : (x 1).val < 2048 := (x 1).isLt
  obtain ⟨t, ht⟩ : ∃ t : Fin cfg0.N, t.val = (x 0).val / 512 * 4 + (x 1).val / 512 :=
    ⟨⟨(x 0).val / 512 * 4 + (x 1).val / 512, by rw [show cfg0.N = 136 from N_0]; omega⟩, rfl⟩
  refine ⟨t, flush0_2 t, ?_⟩
  have hi := index_block t
  have e0 : t.val / 4 = (x 0).val / 512 := by rw [ht]; omega
  have e1 : t.val % 4 = (x 1).val / 512 := by rw [ht]; omega
  rw [e0, e1] at hi
  mem_blk
  omega

/-- The array the kernel leaves. -/
theorem array_eq : (dats m 0 q).arrAt 2 cfg0.N = result m q := by
  refine (dats m 0 q).arrAt_eq_of_emb 2 (result m q) (fun t _ y => ?_) covered
  have hy : ∃ (i j : Fin 512), y = ix2 i j := ⟨y 0, y 1, by
    funext a
    match a with
    | ⟨0, _⟩ => rfl
    | ⟨1, _⟩ => rfl⟩
  obtain ⟨i, j, rfl⟩ := hy
  exact written_at m q t i j

/-- The kernel ends on every run, its arguments unchanged and its counters at zero. -/
theorem frame_kernel : Cert.quiescent_KernelGateUp (hKernelGateUp := Cert.KernelGateUp.Gen.facts) :=
  fun m ρ _ => Cert.KernelGateUp.Gen.frame m ρ

/-- The same of the kernel read over the extended reals. -/
theorem frame_kernel_ideal : Cert.quiescent_KernelGateUpIdeal (hKernelGateUpIdeal := Cert.KernelGateUpIdeal.Gen.facts) :=
  fun m ρ _ => Cert.KernelGateUpIdeal.Gen.frame m ρ

/-- The same of the reference read over the extended reals; it declares no semaphore. -/
theorem frame_reference_ideal : Cert.quiescent_ReferenceGateUpIdeal (hReferenceGateUpIdeal := Cert.ReferenceGateUpIdeal.Gen.facts) := fun m ρ _ =>
  (θ_run Cert.ReferenceGateUpIdeal.defs _ _).mono
    (fun r h => ⟨fun c => (h c).2, Idealize.ShloMosaic.sem_eq_zero_of_no_sems (by decide) r.2⟩)
    (Cert.ReferenceGateUpIdeal.Value.run (F := Ideal) m ρ)

/-- Over the extended reals the kernel's array is the reference's product, whatever the arguments. -/
theorem kernel_is_reference : Cert.algebraic_KernelGateUpIdeal_ReferenceGateUpIdeal (hKernelGateUpIdeal := Cert.KernelGateUpIdeal.Gen.facts)
    (hReferenceGateUpIdeal := Cert.ReferenceGateUpIdeal.Gen.facts) := by
  intro m ρ m' ρ' _ hagree
  refine ⟨fun c => result m c, ?_, ?_⟩
  · exact (θ_run Cert.KernelGateUpIdeal.defs _ _).mono (fun _ h c => ⟨(h c).1.trans (array_eq m c), (h c).2⟩)
      (Cert.KernelGateUpIdeal.Value.run_blocks (F := Ideal) m ρ)
  · refine (θ_run Cert.ReferenceGateUpIdeal.defs _ _).mono (fun _ h c => ⟨(h c).1.trans ?_, (h c).2⟩)
      (Cert.ReferenceGateUpIdeal.Value.run (F := Ideal) m' ρ')
    rw [(hagree c).1, (hagree c).2]

end Cert.KernelGateUpIdeal.ProjValue

end
-- ==== Proof.GatesAt.lean ====
/-
  The linear recurrence's coefficients at an index, as the kernel's body and the reference both come down to them: the
  convolution's four taps, a gate's logistic, the decay's logarithm, and the input's scale in its two forms.
-/
module

public import Idealize.ShloMosaic.Lib.Pipeline.ValueKit

@[expose] public section

noncomputable section

namespace Cert.Gates

open Idealize.ShloMosaic

/-- The convolution at an index: four taps by their weights, and the bias. -/
def taps (w0 w1 w2 w3 b m2 m1 m0 n1 : EReal) : EReal := w0 * m2 + w1 * m1 + w2 * m0 + w3 * n1 + b

/-- A gate: the logistic of a column's product and its bias. -/
def gate (x w : Fin 256 → EReal) (b : EReal) : EReal := Ideal.logistic (∑ k, x k * w k + b)

/-- The larger of a number and zero, plus the logarithm that completes it. -/
def softplus (y : EReal) : EReal := max y 0 + Ideal.log1p (Ideal.exp (0 - max y (-y)))

/-- The decay's logarithm. -/
def logDecay (r lam : EReal) : EReal := Ideal.ofBits FTy.f32 3238002688#32 * r * softplus (0 - lam)

/-- The input's scale as the kernel computes it. -/
def scale (l : EReal) : EReal := Ideal.sqrt ((0 - Ideal.tanh l) * (Ideal.exp l * Ideal.exp l + 1))

theorem tanh_real (r : ℝ) : (0 - Real.tanh r) * (Real.exp r * Real.exp r + 1) = -(Real.exp (2 * r) - 1) := by
  have h1 : Real.exp r ≠ 0 := Real.exp_ne_zero r
  have h2 : Real.exp (2 * r) = Real.exp r * Real.exp r := by rw [← Real.exp_add]; congr 1; ring
  have h3 : Real.exp r * Real.exp r + 1 ≠ 0 := by positivity
  have h4 : Real.tanh r * (Real.exp r * Real.exp r + 1) = Real.exp r * Real.exp r - 1 := by
    rw [Real.tanh_eq_sinh_div_cosh, Real.sinh_eq, Real.cosh_eq, Real.exp_neg]
    field_simp
  rw [h2]
  linear_combination -h4

/-- The kernel's form of the scale is the reference's, at every number and at both infinities. -/
theorem scale_eq (l : EReal) : scale l = Ideal.sqrt (-(Ideal.expm1 (Ideal.ofBits FTy.f32 1073741824#32 * l))) := by
  have h2 : Ideal.ofBits FTy.f32 1073741824#32 = ((2 : ℝ) : EReal) := by
    simp [Ideal.ofBits, Ideal.ieee, -EReal.coe_mul]
    norm_num
  unfold scale Ideal.expm1
  rw [h2]
  refine congrArg Ideal.sqrt ?_
  induction l with
  | bot =>
    rw [EReal.coe_mul_bot_of_pos (by norm_num : (0 : ℝ) < 2)]
    show (0 - (-1 : EReal)) * (0 * 0 + 1) = -((0 : EReal) - 1)
    norm_num
  | top =>
    rw [EReal.coe_mul_top_of_pos (by norm_num : (0 : ℝ) < 2)]
    show (0 - (1 : EReal)) * (⊤ * ⊤ + 1) = -((⊤ : EReal) - 1)
    rw [EReal.top_mul_top, EReal.top_add_of_ne_bot (by decide), show (0 - (1 : EReal)) = ((-1 : ℝ) : EReal) by norm_num,
      EReal.coe_mul_top_of_neg (by norm_num)]
    rfl
  | coe r =>
    show ((0 : EReal) - ((Real.tanh r : ℝ) : EReal)) * (((Real.exp r : ℝ) : EReal) * ((Real.exp r : ℝ) : EReal) + 1)
      = -((Ideal.exp (((2 : ℝ) : EReal) * (r : EReal)) : EReal) - 1)
    rw [← EReal.coe_mul 2 r]
    show _ = -(((Real.exp (2 * r) : ℝ) : EReal) - 1)
    have h := congrArg (fun x : ℝ => (x : EReal)) (tanh_real r)
    push_cast at h
    exact h

end Cert.Gates

end
-- ==== Proof.GatesBlock.lean ====
/-
  What the body of the coefficients' kernel leaves in its two blocks, index by index: eight blocks of 256 columns, each
  stored once for either direction, all computed alike from their own columns of the inputs.
-/
module

public import proofs.«01_k».proof.Proof.Gen.KernelGatesIdeal.Value
public import proofs.«01_k».proof.Proof.GatesAt
public import Idealize.ShloMosaic.Lib.Pipeline.ValueKit

@[expose] public section

set_option maxRecDepth 16384

noncomputable section

namespace Cert.KernelGatesIdeal.GatesBlock

open Idealize.ShloMosaic Idealize.ShloMosaic.TcCoe Idealize.SL.Sem Idealize.ShloMosaic.StableHlo
open Cert.KernelGatesIdeal Cert.KernelGatesIdeal.Gen
open Cert.Gates (taps gate softplus logDecay scale)

/-- Whether a grid point's block is the first of the context or of the latents, as the body computes it. -/
def isFirst (i : grid0.Coords) : BitVec 1 :=
  let c : BitVec 32 := BitVec.ofNat 32 (i 0).val
  let n : BitVec 32 := Scalar.select (Scalar.cmpi .eq 17#32 0#32) 1#32 17#32
  let p : BitVec 32 := Scalar.remsi c n
  let w : BitVec 32 := Scalar.select (Scalar.andi (Scalar.xori (Scalar.cmpi .slt p 0#32) (Scalar.cmpi .slt n 0#32)) (Scalar.cmpi .ne p 0#32)) (Scalar.addi p n) p
  Scalar.ori (Scalar.cmpi .eq w 0#32) (Scalar.cmpi .eq w 1#32)

/-- Whether it is the last of either. -/
def isLast (i : grid0.Coords) : BitVec 1 :=
  let c : BitVec 32 := BitVec.ofNat 32 (i 0).val
  let n : BitVec 32 := Scalar.select (Scalar.cmpi .eq 17#32 0#32) 1#32 17#32
  let p : BitVec 32 := Scalar.remsi c n
  let w : BitVec 32 := Scalar.select (Scalar.andi (Scalar.xori (Scalar.cmpi .slt p 0#32) (Scalar.cmpi .slt n 0#32)) (Scalar.cmpi .ne p 0#32)) (Scalar.addi p n) p
  Scalar.ori (Scalar.cmpi .eq w 0#32) (Scalar.cmpi .eq w 16#32)

theorem isFirst_at : ∀ t : Fin cfg0.N, isFirst (grid0.coords t) = if t.val % 17 = 0 ∨ t.val % 17 = 1 then 1#1 else 0#1 :=
  (by decide +kernel : ∀ t : Fin grid0.N, isFirst (grid0.coords t) = if t.val % 17 = 0 ∨ t.val % 17 = 1 then 1#1 else 0#1)

theorem isLast_at : ∀ t : Fin cfg0.N, isLast (grid0.coords t) = if t.val % 17 = 0 ∨ t.val % 17 = 16 then 1#1 else 0#1 :=
  (by decide +kernel : ∀ t : Fin grid0.N, isLast (grid0.coords t) = if t.val % 17 = 0 ∨ t.val % 17 = 16 then 1#1 else 0#1)

/-- The factor of the rows before: zero in a first block, one elsewhere. -/
theorem before_at (t : Fin cfg0.N) : k0_pay3 (F := Ideal) (grid0.coords t) = if t.val % 17 = 0 ∨ t.val % 17 = 1 then (0 : EReal) else 1 := by
  have h : k0_pay3 (F := Ideal) (grid0.coords t) = Scalar.select (isFirst (grid0.coords t)) (Ideal.ofBits FTy.f32 0#32) (Ideal.ofBits FTy.f32 1065353216#32) := rfl
  rw [h, isFirst_at, Ideal.ofBits_zero_f32, Ideal.ofBits_one_f32]
  split <;> rfl

/-- The factor of the row after: zero in a last block, one elsewhere. -/
theorem after_at (t : Fin cfg0.N) : k0_pay4 (F := Ideal) (grid0.coords t) = if t.val % 17 = 0 ∨ t.val % 17 = 16 then (0 : EReal) else 1 := by
  have h : k0_pay4 (F := Ideal) (grid0.coords t) = Scalar.select (isLast (grid0.coords t)) (Ideal.ofBits FTy.f32 0#32) (Ideal.ofBits FTy.f32 1065353216#32) := rfl
  rw [h, isLast_at, Ideal.ofBits_zero_f32, Ideal.ofBits_one_f32]
  split <;> rfl

/-- A choice by a row's number. -/
theorem select_row (a : Fin 256) (n : Nat) (hn : n < 256) (u v : EReal) :
    Scalar.select (IntOp.cmpi CmpIPredicate.eq (BitVec.ofNat 32 a.val) (BitVec.ofNat 32 n)) u v = if a.val = n then u else v := by
  have ha := a.isLt
  by_cases h : a.val = n
  · rw [if_pos h, h]
    simp [Scalar.select, IntOp.cmpi]
  · have hne : BitVec.ofNat 32 a.val ≠ BitVec.ofNat 32 n := by
      intro e
      have e' := congrArg BitVec.toNat e
      simp only [BitVec.toNat_ofNat] at e'
      omega
    rw [if_neg h]
    show (if BitVec.ofBool (BitVec.ofNat 32 a.val == BitVec.ofNat 32 n) = 1#1 then u else v) = v
    rw [show (BitVec.ofNat 32 a.val == BitVec.ofNat 32 n) = false from beq_eq_false_iff_ne.mpr hne]
    rfl

theorem inb2 {p o s0 s1 t0 t1 : Nat} (h0 : p + s0 ≤ t0) (h1 : o + s1 ≤ t1) : ∀ a : Fin 2, (![p, o] : Fin 2 → Nat) a + (![s0, s1] : Fin 2 → Nat) a ≤ (![t0, t1] : Fin 2 → Nat) a := by
  intro a
  match a with
  | ⟨0, _⟩ => exact h0
  | ⟨1, _⟩ => exact h1

/-- A block of 256 columns of the inputs. -/
def xCols (x : Vec Ideal S256x2048 .f32) (o : Nat) (ho : o + 256 ≤ 2048) : Vec Ideal S256x256 .f32 :=
  View.ld x (Rect.unit (s := S256x2048) ![0, o] S256x256.size (inb2 (by omega) ho))

def rowCols8 (x : Vec Ideal S8x2048 .f32) (p o : Nat) (hp : p + 1 ≤ 8) (ho : o + 256 ≤ 2048) : Vec Ideal S1x256 .f32 :=
  View.ld x (Rect.unit (s := S8x2048) ![p, o] S1x256.size (inb2 hp ho))

def rowCols4 (x : Vec Ideal S4x2048 .f32) (p o : Nat) (hp : p + 1 ≤ 4) (ho : o + 256 ≤ 2048) : Vec Ideal S1x256 .f32 :=
  View.ld x (Rect.unit (s := S4x2048) ![p, o] S1x256.size (inb2 hp ho))

def rowCols2 (x : Vec Ideal S2x2048 .f32) (p o : Nat) (hp : p + 1 ≤ 2) (ho : o + 256 ≤ 2048) : Vec Ideal S1x256 .f32 :=
  View.ld x (Rect.unit (s := S2x2048) ![p, o] S1x256.size (inb2 hp ho))

def rowCols1 (x : Vec Ideal S1x2048 .f32) (o : Nat) (ho : o + 256 ≤ 2048) : Vec Ideal S1x256 .f32 :=
  View.ld x (Rect.unit (s := S1x2048) ![0, o] S1x256.size (inb2 (by omega) ho))

def biasCols (x : Vec Ideal S2x2x2048 .f32) (p g o : Nat) (hp : p + 1 ≤ 2) (hg : g + 1 ≤ 2) (ho : o + 256 ≤ 2048) : Vec Ideal S1x1x256 .f32 :=
  View.ld x (Rect.unit (s := S2x2x2048) ![p, g, o] S1x1x256.size (by
    intro a
    match a with
    | ⟨0, _⟩ => exact hp
    | ⟨1, _⟩ => exact hg
    | ⟨2, _⟩ => exact ho))

def weightOf (x : Vec Ideal S2x2x8x256x256 .bf16) (p g n : Nat) (hp : p + 1 ≤ 2) (hg : g + 1 ≤ 2) (hn : n + 1 ≤ 8) : Vec Ideal S1x1x1x256x256 .bf16 :=
  View.ld x (Rect.unit (s := S2x2x8x256x256) ![p, g, n, 0, 0] S1x1x1x256x256.size (by
    intro a
    match a with
    | ⟨0, _⟩ => exact hp
    | ⟨1, _⟩ => exact hg
    | ⟨2, _⟩ => exact hn
    | ⟨3, _⟩ => exact Nat.le_refl 256
    | ⟨4, _⟩ => exact Nat.le_refl 256))

theorem xCols_at (x : Vec Ideal S256x2048 .f32) (o : Nat) (ho : o + 256 ≤ 2048) (i j : Fin 256) : xCols x o ho (ix2 i j) = x (ix2 i ⟨o + j.val, by omega⟩) := by
  refine congrArg x ?_
  funext a
  refine Fin.ext ?_
  match a with
  | ⟨0, _⟩ => show 0 + 1 * i.val = i.val; omega
  | ⟨1, _⟩ => show o + 1 * j.val = o + j.val; omega

theorem rowCols8_at (x : Vec Ideal S8x2048 .f32) (p o : Nat) (hp : p + 1 ≤ 8) (ho : o + 256 ≤ 2048) (j : Fin 256) : rowCols8 x p o hp ho (ix2 0 j) = x (ix2 ⟨p, by omega⟩ ⟨o + j.val, by omega⟩) := by
  refine congrArg x ?_
  funext a
  refine Fin.ext ?_
  match a with
  | ⟨0, _⟩ => show p + 1 * 0 = p; omega
  | ⟨1, _⟩ => show o + 1 * j.val = o + j.val; omega

theorem rowCols4_at (x : Vec Ideal S4x2048 .f32) (p o : Nat) (hp : p + 1 ≤ 4) (ho : o + 256 ≤ 2048) (j : Fin 256) : rowCols4 x p o hp ho (ix2 0 j) = x (ix2 ⟨p, by omega⟩ ⟨o + j.val, by omega⟩) := by
  refine congrArg x ?_
  funext a
  refine Fin.ext ?_
  match a with
  | ⟨0, _⟩ => show p + 1 * 0 = p; omega
  | ⟨1, _⟩ => show o + 1 * j.val = o + j.val; omega

theorem rowCols2_at (x : Vec Ideal S2x2048 .f32) (p o : Nat) (hp : p + 1 ≤ 2) (ho : o + 256 ≤ 2048) (j : Fin 256) : rowCols2 x p o hp ho (ix2 0 j) = x (ix2 ⟨p, by omega⟩ ⟨o + j.val, by omega⟩) := by
  refine congrArg x ?_
  funext a
  refine Fin.ext ?_
  match a with
  | ⟨0, _⟩ => show p + 1 * 0 = p; omega
  | ⟨1, _⟩ => show o + 1 * j.val = o + j.val; omega

theorem rowCols1_at (x : Vec Ideal S1x2048 .f32) (o : Nat) (ho : o + 256 ≤ 2048) (j : Fin 256) : rowCols1 x o ho (ix2 0 j) = x (ix2 0 ⟨o + j.val, by omega⟩) := by
  refine congrArg x ?_
  funext a
  refine Fin.ext ?_
  match a with
  | ⟨0, _⟩ => show 0 + 1 * 0 = 0; omega
  | ⟨1, _⟩ => show o + 1 * j.val = o + j.val; omega

theorem biasCols_at (x : Vec Ideal S2x2x2048 .f32) (p g o : Nat) (hp : p + 1 ≤ 2) (hg : g + 1 ≤ 2) (ho : o + 256 ≤ 2048) (j : Fin 256) : biasCols x p g o hp hg ho (ix3 0 0 j) = x (ix3 ⟨p, by omega⟩ ⟨g, by omega⟩ ⟨o + j.val, by omega⟩) := by
  refine congrArg x ?_
  funext a
  refine Fin.ext ?_
  match a with
  | ⟨0, _⟩ => show p + 1 * 0 = p; omega
  | ⟨1, _⟩ => show g + 1 * 0 = g; omega
  | ⟨2, _⟩ => show o + 1 * j.val = o + j.val; omega

theorem weightOf_at (x : Vec Ideal S2x2x8x256x256 .bf16) (p g n : Nat) (hp : p + 1 ≤ 2) (hg : g + 1 ≤ 2) (hn : n + 1 ≤ 8) (k j : Fin 256) : weightOf x p g n hp hg hn (ix5 0 0 0 k j) = x (ix5 ⟨p, by omega⟩ ⟨g, by omega⟩ ⟨n, by omega⟩ k j) := by
  refine congrArg x ?_
  funext a
  refine Fin.ext ?_
  match a with
  | ⟨0, _⟩ => show p + 1 * 0 = p; omega
  | ⟨1, _⟩ => show g + 1 * 0 = g; omega
  | ⟨2, _⟩ => show n + 1 * 0 = n; omega
  | ⟨3, _⟩ => show 0 + 1 * k.val = k.val; omega
  | ⟨4, _⟩ => show 0 + 1 * j.val = j.val; omega

section

variable (i : grid0.Coords) (x0 : Vec Ideal S256x2048 .f32) (x1 x2 : Vec Ideal S8x2048 .f32) (x3 : Vec Ideal S4x2048 .f32) (x4 : Vec Ideal S1x2048 .f32)

/-- The row two before, at a block's row `a` and column `c`. -/
def twoBefore (a : Fin 256) (c : Fin 2048) : EReal :=
  if a.val = 0 then x1 (ix2 6 c) * k0_pay3 (F := Ideal) i
  else if a.val = 1 then x1 (ix2 7 c) * k0_pay3 (F := Ideal) i
  else x0 (ix2 ⟨(a.val + 256 - 2) % 256, Nat.mod_lt _ (by omega)⟩ c)

/-- The row before. -/
def oneBefore (a : Fin 256) (c : Fin 2048) : EReal :=
  if a.val = 0 then x1 (ix2 7 c) * k0_pay3 (F := Ideal) i
  else x0 (ix2 ⟨(a.val + 256 - 1) % 256, Nat.mod_lt _ (by omega)⟩ c)

/-- The row after. -/
def oneAfter (a : Fin 256) (c : Fin 2048) : EReal :=
  if a.val = 255 then x2 (ix2 0 c) * k0_pay4 (F := Ideal) i
  else x0 (ix2 ⟨(a.val + 256 - 255) % 256, Nat.mod_lt _ (by omega)⟩ c)

/-- The convolution at a block's row and column. -/
def convAt (a : Fin 256) (c : Fin 2048) : EReal :=
  taps (x3 (ix2 0 c)) (x3 (ix2 1 c)) (x3 (ix2 2 c)) (x3 (ix2 3 c)) (x4 (ix2 0 c))
    (twoBefore i x0 x1 a c) (oneBefore i x0 x1 a c) (x0 (ix2 a c)) (oneAfter i x0 x2 a c)

/-- The convolution over a block of columns. -/
def conv (o : Nat) (ho : o + 256 ≤ 2048) : FVec Ideal S256x256 .f32 :=
  k0_pay9 (iota .tc S256x256 32 [0] iota_S256x256_d0_w32) (xCols x0 o ho) (k0_pay5 i (rowCols8 x1 6 o (by omega) ho)) (k0_pay6 i (rowCols8 x1 7 o (by omega) ho))
    (k0_pay7 i (rowCols8 x2 0 o (by omega) ho)) (k0_pay8 i (xCols x0 o ho) (rowCols8 x1 7 o (by omega) ho))
    (rowCols4 x3 0 o (by omega) ho) (rowCols4 x3 1 o (by omega) ho) (rowCols4 x3 2 o (by omega) ho) (rowCols4 x3 3 o (by omega) ho) (rowCols1 x4 o ho)

theorem conv_at (o : Nat) (ho : o + 256 ≤ 2048) (a b : Fin 256) :
    conv i x0 x1 x2 x3 x4 o ho (ix2 a b) = convAt i x0 x1 x2 x3 x4 a ⟨o + b.val, by omega⟩ := by
  have e0 := fun a => xCols_at x0 o ho a b
  have e1 := rowCols8_at x1 6 o (by omega) ho b
  have e2 := rowCols8_at x1 7 o (by omega) ho b
  have e3 := rowCols8_at x2 0 o (by omega) ho b
  have e4 := rowCols4_at x3 0 o (by omega) ho b
  have e5 := rowCols4_at x3 1 o (by omega) ho b
  have e6 := rowCols4_at x3 2 o (by omega) ho b
  have e7 := rowCols4_at x3 3 o (by omega) ho b
  have e8 := rowCols1_at x4 o ho b
  unfold conv convAt taps twoBefore oneBefore oneAfter k0_pay9 k0_pay8 k0_pay7 k0_pay6 k0_pay5
  generalize xCols x0 o ho = y0 at e0 ⊢
  generalize rowCols8 x1 6 o _ ho = y1 at e1 ⊢
  generalize rowCols8 x1 7 o _ ho = y2 at e2 ⊢
  generalize rowCols8 x2 0 o _ ho = y3 at e3 ⊢
  generalize rowCols4 x3 0 o _ ho = y4 at e4 ⊢
  generalize rowCols4 x3 1 o _ ho = y5 at e5 ⊢
  generalize rowCols4 x3 2 o _ ho = y6 at e6 ⊢
  generalize rowCols4 x3 3 o _ ho = y7 at e7 ⊢
  generalize rowCols1 x4 o ho = y8 at e8 ⊢
  generalize k0_pay3 (F := Ideal) i = hp
  generalize k0_pay4 (F := Ideal) i = hn
  pointwise
  rw [e1, e2, e3, e4, e5, e6, e7, e8, e0, e0, e0, e0]
  rw [select_row a 0 (by omega), select_row a 1 (by omega), select_row a 0 (by omega), select_row a 255 (by omega)]
  rfl

end

theorem gate_at (c : FVec Ideal S256x256 .bf16) (w : Vec Ideal S1x1x1x256x256 .bf16) (gb : Vec Ideal S1x1x256 .f32) (a b : Fin 256) :
    k0_pay12 c w gb (ix2 a b) = gate (fun k => c (ix2 a k)) (fun k => w (ix5 0 0 0 k b)) (gb (ix3 0 0 b)) := by
  unfold k0_pay12 gate
  pointwise

theorem log_at (c : FVec Ideal S256x256 .bf16) (w : Vec Ideal S1x1x1x256x256 .bf16) (gb : Vec Ideal S1x1x256 .f32) (lam : Vec Ideal S1x256 .f32) (a b : Fin 256) :
    k0_pay13 c (k0_pay11 w) (constant S256x256 .f32 0x00000000#32) gb lam (ix2 a b)
      = logDecay (gate (fun k => c (ix2 a k)) (fun k => w (ix5 0 0 0 k b)) (gb (ix3 0 0 b))) (lam (ix2 0 b)) := by
  unfold k0_pay13 k0_pay11 logDecay gate softplus
  pointwise
  rfl

theorem input_at (c v l : FVec Ideal S256x256 .f32) (a b : Fin 256) :
    k0_pay18 c v (subf (broadcast S256x256 (Scalar.ofBits .f32 0x00000000#32)) (tanh l)) (mulf (exp l) (exp l)) (ix3 0 a b)
      = scale (l (ix2 a b)) * (v (ix2 a b) * c (ix2 a b)) := by
  unfold k0_pay18 scale
  pointwise

theorem decay_at (l : FVec Ideal S256x256 .f32) (a b : Fin 256) :
    (shapeCast S1x256x256 (exp l) shapeCasts_S256x256_S1x256x256 : FVec Ideal S1x256x256 .f32) (ix3 0 a b) = Ideal.exp (l (ix2 a b)) := by
  pointwise

section

variable (i : grid0.Coords) (x0 : Vec Ideal S256x2048 .f32) (x1 x2 : Vec Ideal S8x2048 .f32) (x3 : Vec Ideal S4x2048 .f32) (x4 : Vec Ideal S1x2048 .f32) (x5 : Vec Ideal S2x2x8x256x256 .bf16) (x6 : Vec Ideal S2x2x2048 .f32) (x7 : Vec Ideal S2x2048 .f32)

/-- The decay's logarithm at a direction, a block's row and a column. -/
def logAt (d : Fin 2) (a : Fin 256) (n : Fin 8) (j : Fin 256) : EReal :=
  logDecay (gate (fun k => convAt i x0 x1 x2 x3 x4 a ⟨n.val * 256 + k.val, by omega⟩) (fun k => x5 (ix5 d 0 n k j)) (x6 (ix3 d 0 ⟨n.val * 256 + j.val, by omega⟩)))
    (x7 (ix2 d ⟨n.val * 256 + j.val, by omega⟩))

/-- The input's coefficient there. -/
def inputAt (d : Fin 2) (a : Fin 256) (n : Fin 8) (j : Fin 256) : EReal :=
  scale (logAt i x0 x1 x2 x3 x4 x5 x6 x7 d a n j)
    * (gate (fun k => convAt i x0 x1 x2 x3 x4 a ⟨n.val * 256 + k.val, by omega⟩) (fun k => x5 (ix5 d 1 n k j)) (x6 (ix3 d 1 ⟨n.val * 256 + j.val, by omega⟩))
      * convAt i x0 x1 x2 x3 x4 a ⟨n.val * 256 + j.val, by omega⟩)

/-- The decay's logarithm over a block of columns. -/
def logs (p n o : Nat) (hp : p + 1 ≤ 2) (hn : n + 1 ≤ 8) (ho : o + 256 ≤ 2048) : FVec Ideal S256x256 .f32 :=
  k0_pay13 (truncf .bf16 (conv i x0 x1 x2 x3 x4 o ho) bitsLt_bf16_f32) (k0_pay11 (weightOf x5 p 0 n hp (by omega) hn)) (constant S256x256 .f32 0x00000000#32)
    (biasCols x6 p 0 o hp (by omega) ho) (rowCols2 x7 p o hp ho)

theorem logs_at (p n o : Nat) (hp : p + 1 ≤ 2) (hn : n + 1 ≤ 8) (ho : o + 256 ≤ 2048) (hno : o = n * 256) (a j : Fin 256) :
    logs i x0 x1 x2 x3 x4 x5 x6 x7 p n o hp hn ho (ix2 a j) = logAt i x0 x1 x2 x3 x4 x5 x6 x7 ⟨p, by omega⟩ a ⟨n, by omega⟩ j := by
  subst hno
  unfold logs
  rw [log_at, biasCols_at, rowCols2_at]
  have e : (fun k : Fin 256 => (truncf .bf16 (conv i x0 x1 x2 x3 x4 (n * 256) ho) bitsLt_bf16_f32 : FVec Ideal S256x256 .bf16) (ix2 a k)) = fun k => convAt i x0 x1 x2 x3 x4 a ⟨n * 256 + k.val, by omega⟩ :=
    funext fun k => conv_at i x0 x1 x2 x3 x4 (n * 256) ho a k
  have e' : (fun k : Fin 256 => weightOf x5 p 0 n hp (by omega) hn (ix5 0 0 0 k j)) = fun k => x5 (ix5 ⟨p, by omega⟩ 0 ⟨n, by omega⟩ k j) :=
    funext fun k => weightOf_at x5 p 0 n hp (by omega) hn k j
  rw [e, e']
  rfl

/-- A stored block of decays. -/
def decays (p n o : Nat) (hp : p + 1 ≤ 2) (hn : n + 1 ≤ 8) (ho : o + 256 ≤ 2048) : FVec Ideal S1x256x256 .f32 :=
  shapeCast S1x256x256 (exp (logs i x0 x1 x2 x3 x4 x5 x6 x7 p n o hp hn ho)) shapeCasts_S256x256_S1x256x256

/-- A stored block of input coefficients. -/
def inputs (p n o : Nat) (hp : p + 1 ≤ 2) (hn : n + 1 ≤ 8) (ho : o + 256 ≤ 2048) : FVec Ideal S1x256x256 .f32 :=
  k0_pay18 (conv i x0 x1 x2 x3 x4 o ho)
    (k0_pay12 (truncf .bf16 (conv i x0 x1 x2 x3 x4 o ho) bitsLt_bf16_f32) (weightOf x5 p 1 n hp (by omega) hn) (biasCols x6 p 1 o hp (by omega) ho))
    (subf (broadcast S256x256 (Scalar.ofBits .f32 0x00000000#32)) (tanh (logs i x0 x1 x2 x3 x4 x5 x6 x7 p n o hp hn ho)))
    (mulf (exp (logs i x0 x1 x2 x3 x4 x5 x6 x7 p n o hp hn ho)) (exp (logs i x0 x1 x2 x3 x4 x5 x6 x7 p n o hp hn ho)))

theorem decays_at (p n o : Nat) (hp : p + 1 ≤ 2) (hn : n + 1 ≤ 8) (ho : o + 256 ≤ 2048) (hno : o = n * 256) (a j : Fin 256) :
    decays i x0 x1 x2 x3 x4 x5 x6 x7 p n o hp hn ho (ix3 0 a j) = Ideal.exp (logAt i x0 x1 x2 x3 x4 x5 x6 x7 ⟨p, by omega⟩ a ⟨n, by omega⟩ j) := by
  unfold decays
  rw [decay_at, logs_at i x0 x1 x2 x3 x4 x5 x6 x7 p n o hp hn ho hno]

theorem inputs_at (p n o : Nat) (hp : p + 1 ≤ 2) (hn : n + 1 ≤ 8) (ho : o + 256 ≤ 2048) (hno : o = n * 256) (a j : Fin 256) :
    inputs i x0 x1 x2 x3 x4 x5 x6 x7 p n o hp hn ho (ix3 0 a j) = inputAt i x0 x1 x2 x3 x4 x5 x6 x7 ⟨p, by omega⟩ a ⟨n, by omega⟩ j := by
  unfold inputs inputAt
  rw [input_at, logs_at i x0 x1 x2 x3 x4 x5 x6 x7 p n o hp hn ho hno, gate_at, biasCols_at]
  subst hno
  have e : (fun k : Fin 256 => (truncf .bf16 (conv i x0 x1 x2 x3 x4 (n * 256) ho) bitsLt_bf16_f32 : FVec Ideal S256x256 .bf16) (ix2 a k)) = fun k => convAt i x0 x1 x2 x3 x4 a ⟨n * 256 + k.val, by omega⟩ :=
    funext fun k => conv_at i x0 x1 x2 x3 x4 (n * 256) ho a k
  have e' : (fun k : Fin 256 => weightOf x5 p 1 n hp (by omega) hn (ix5 0 0 0 k j)) = fun k => x5 (ix5 ⟨p, by omega⟩ 1 ⟨n, by omega⟩ k j) :=
    funext fun k => weightOf_at x5 p 1 n hp (by omega) hn k j
  rw [e, e', conv_at]
  rfl

/-- An index of a stored block. -/
theorem index_eq (x : S1x256x256.Idx) : x = ix3 0 (x 1) (x 2) := by
  funext a
  match a with
  | ⟨0, _⟩ => exact Fin.ext (by have h := (x 0).isLt; show (x 0).val = 0; have : (x 0).val < 1 := h; omega)
  | ⟨1, _⟩ => rfl
  | ⟨2, _⟩ => rfl

theorem decays_tile (p n o : Nat) (hp : p + 1 ≤ 2) (hn : n + 1 ≤ 8) (ho : o + 256 ≤ 2048) (hno : o = n * 256) (d : Fin 2) (a : Fin 256) (m : Fin 8) (j : Fin 256)
    (x : S1x256x256.Idx) (h0 : d.val = p) (h1 : a.val = (x 1).val) (h2 : m.val * 256 + j.val = o + (x 2).val) (hx : (x 2).val < 256) :
    decays i x0 x1 x2 x3 x4 x5 x6 x7 p n o hp hn ho x = Ideal.exp (logAt i x0 x1 x2 x3 x4 x5 x6 x7 d a m j) := by
  have e0 : d = ⟨p, by omega⟩ := Fin.ext h0
  have e1 : a = x 1 := Fin.ext h1
  have e2 : m = ⟨n, by omega⟩ := Fin.ext (by show m.val = n; omega)
  have e3 : j = x 2 := Fin.ext (by rw [e2] at h2; have h2' : n * 256 + j.val = o + (x 2).val := h2; omega)
  rw [index_eq x, e0, e1, e2, e3]
  exact decays_at i x0 x1 x2 x3 x4 x5 x6 x7 p n o hp hn ho hno (x 1) (x 2)

theorem inputs_tile (p n o : Nat) (hp : p + 1 ≤ 2) (hn : n + 1 ≤ 8) (ho : o + 256 ≤ 2048) (hno : o = n * 256) (d : Fin 2) (a : Fin 256) (m : Fin 8) (j : Fin 256)
    (x : S1x256x256.Idx) (h0 : d.val = p) (h1 : a.val = (x 1).val) (h2 : m.val * 256 + j.val = o + (x 2).val) (hx : (x 2).val < 256) :
    inputs i x0 x1 x2 x3 x4 x5 x6 x7 p n o hp hn ho x = inputAt i x0 x1 x2 x3 x4 x5 x6 x7 d a m j := by
  have e0 : d = ⟨p, by omega⟩ := Fin.ext h0
  have e1 : a = x 1 := Fin.ext h1
  have e2 : m = ⟨n, by omega⟩ := Fin.ext (by show m.val = n; omega)
  have e3 : j = x 2 := Fin.ext (by rw [e2] at h2; have h2' : n * 256 + j.val = o + (x 2).val := h2; omega)
  rw [index_eq x, e0, e1, e2, e3]
  exact inputs_at i x0 x1 x2 x3 x4 x5 x6 x7 p n o hp hn ho hno (x 1) (x 2)

theorem block8_at (d : Fin 2) (a : Fin 256) (m : Fin 8) (j : Fin 256) (b : Fin 2048) (hb : b.val = m.val * 256 + j.val) :
    out0_8 i x0 x1 x2 x3 x4 x5 x6 x7 (ix3 d a b) = Ideal.exp (logAt i x0 x1 x2 x3 x4 x5 x6 x7 d a m j) := by
  canon_tiles x h using Gen.cover0_8 ..
  case piece0 =>
    have h0' : d.val = 1 := by have e : d.val = 1 + (x 0).val := h0; omega
    have h2' : b.val = 1792 + (x 2).val := by have e : b.val = 1792 + (x 2).val := h2; omega
    exact Eq.trans (b := decays i x0 x1 x2 x3 x4 x5 x6 x7 1 7 1792 (by omega) (by omega) (by omega) x) (congrFun (by rfl) x)
      (decays_tile i x0 x1 x2 x3 x4 x5 x6 x7 1 7 1792 (by omega) (by omega) (by omega) (by omega) d a m j x h0' h1 (by omega) x2_lt)
  case piece1 =>
    have h0' : d.val = 0 := by have e : d.val = (x 0).val := h0; omega
    have h2' : b.val = 1792 + (x 2).val := by have e : b.val = 1792 + (x 2).val := h2; omega
    exact Eq.trans (b := decays i x0 x1 x2 x3 x4 x5 x6 x7 0 7 1792 (by omega) (by omega) (by omega) x) (congrFun (by rfl) x)
      (decays_tile i x0 x1 x2 x3 x4 x5 x6 x7 0 7 1792 (by omega) (by omega) (by omega) (by omega) d a m j x h0' h1 (by omega) x2_lt)
  case piece2 =>
    have h0' : d.val = 1 := by have e : d.val = 1 + (x 0).val := h0; omega
    have h2' : b.val = 1536 + (x 2).val := by have e : b.val = 1536 + (x 2).val := h2; omega
    exact Eq.trans (b := decays i x0 x1 x2 x3 x4 x5 x6 x7 1 6 1536 (by omega) (by omega) (by omega) x) (congrFun (by rfl) x)
      (decays_tile i x0 x1 x2 x3 x4 x5 x6 x7 1 6 1536 (by omega) (by omega) (by omega) (by omega) d a m j x h0' h1 (by omega) x2_lt)
  case piece3 =>
    have h0' : d.val = 0 := by have e : d.val = (x 0).val := h0; omega
    have h2' : b.val = 1536 + (x 2).val := by have e : b.val = 1536 + (x 2).val := h2; omega
    exact Eq.trans (b := decays i x0 x1 x2 x3 x4 x5 x6 x7 0 6 1536 (by omega) (by omega) (by omega) x) (congrFun (by rfl) x)
      (decays_tile i x0 x1 x2 x3 x4 x5 x6 x7 0 6 1536 (by omega) (by omega) (by omega) (by omega) d a m j x h0' h1 (by omega) x2_lt)
  case piece4 =>
    have h0' : d.val = 1 := by have e : d.val = 1 + (x 0).val := h0; omega
    have h2' : b.val = 1280 + (x 2).val := by have e : b.val = 1280 + (x 2).val := h2; omega
    exact Eq.trans (b := decays i x0 x1 x2 x3 x4 x5 x6 x7 1 5 1280 (by omega) (by omega) (by omega) x) (congrFun (by rfl) x)
      (decays_tile i x0 x1 x2 x3 x4 x5 x6 x7 1 5 1280 (by omega) (by omega) (by omega) (by omega) d a m j x h0' h1 (by omega) x2_lt)
  case piece5 =>
    have h0' : d.val = 0 := by have e : d.val = (x 0).val := h0; omega
    have h2' : b.val = 1280 + (x 2).val := by have e : b.val = 1280 + (x 2).val := h2; omega
    exact Eq.trans (b := decays i x0 x1 x2 x3 x4 x5 x6 x7 0 5 1280 (by omega) (by omega) (by omega) x) (congrFun (by rfl) x)
      (decays_tile i x0 x1 x2 x3 x4 x5 x6 x7 0 5 1280 (by omega) (by omega) (by omega) (by omega) d a m j x h0' h1 (by omega) x2_lt)
  case piece6 =>
    have h0' : d.val = 1 := by have e : d.val = 1 + (x 0).val := h0; omega
    have h2' : b.val = 1024 + (x 2).val := by have e : b.val = 1024 + (x 2).val := h2; omega
    exact Eq.trans (b := decays i x0 x1 x2 x3 x4 x5 x6 x7 1 4 1024 (by omega) (by omega) (by omega) x) (congrFun (by rfl) x)
      (decays_tile i x0 x1 x2 x3 x4 x5 x6 x7 1 4 1024 (by omega) (by omega) (by omega) (by omega) d a m j x h0' h1 (by omega) x2_lt)
  case piece7 =>
    have h0' : d.val = 0 := by have e : d.val = (x 0).val := h0; omega
    have h2' : b.val = 1024 + (x 2).val := by have e : b.val = 1024 + (x 2).val := h2; omega
    exact Eq.trans (b := decays i x0 x1 x2 x3 x4 x5 x6 x7 0 4 1024 (by omega) (by omega) (by omega) x) (congrFun (by rfl) x)
      (decays_tile i x0 x1 x2 x3 x4 x5 x6 x7 0 4 1024 (by omega) (by omega) (by omega) (by omega) d a m j x h0' h1 (by omega) x2_lt)
  case piece8 =>
    have h0' : d.val = 1 := by have e : d.val = 1 + (x 0).val := h0; omega
    have h2' : b.val = 768 + (x 2).val := by have e : b.val = 768 + (x 2).val := h2; omega
    exact Eq.trans (b := decays i x0 x1 x2 x3 x4 x5 x6 x7 1 3 768 (by omega) (by omega) (by omega) x) (congrFun (by rfl) x)
      (decays_tile i x0 x1 x2 x3 x4 x5 x6 x7 1 3 768 (by omega) (by omega) (by omega) (by omega) d a m j x h0' h1 (by omega) x2_lt)
  case piece9 =>
    have h0' : d.val = 0 := by have e : d.val = (x 0).val := h0; omega
    have h2' : b.val = 768 + (x 2).val := by have e : b.val = 768 + (x 2).val := h2; omega
    exact Eq.trans (b := decays i x0 x1 x2 x3 x4 x5 x6 x7 0 3 768 (by omega) (by omega) (by omega) x) (congrFun (by rfl) x)
      (decays_tile i x0 x1 x2 x3 x4 x5 x6 x7 0 3 768 (by omega) (by omega) (by omega) (by omega) d a m j x h0' h1 (by omega) x2_lt)
  case piece10 =>
    have h0' : d.val = 1 := by have e : d.val = 1 + (x 0).val := h0; omega
    have h2' : b.val = 512 + (x 2).val := by have e : b.val = 512 + (x 2).val := h2; omega
    exact Eq.trans (b := decays i x0 x1 x2 x3 x4 x5 x6 x7 1 2 512 (by omega) (by omega) (by omega) x) (congrFun (by rfl) x)
      (decays_tile i x0 x1 x2 x3 x4 x5 x6 x7 1 2 512 (by omega) (by omega) (by omega) (by omega) d a m j x h0' h1 (by omega) x2_lt)
  case piece11 =>
    have h0' : d.val = 0 := by have e : d.val = (x 0).val := h0; omega
    have h2' : b.val = 512 + (x 2).val := by have e : b.val = 512 + (x 2).val := h2; omega
    exact Eq.trans (b := decays i x0 x1 x2 x3 x4 x5 x6 x7 0 2 512 (by omega) (by omega) (by omega) x) (congrFun (by rfl) x)
      (decays_tile i x0 x1 x2 x3 x4 x5 x6 x7 0 2 512 (by omega) (by omega) (by omega) (by omega) d a m j x h0' h1 (by omega) x2_lt)
  case piece12 =>
    have h0' : d.val = 1 := by have e : d.val = 1 + (x 0).val := h0; omega
    have h2' : b.val = 256 + (x 2).val := by have e : b.val = 256 + (x 2).val := h2; omega
    exact Eq.trans (b := decays i x0 x1 x2 x3 x4 x5 x6 x7 1 1 256 (by omega) (by omega) (by omega) x) (congrFun (by rfl) x)
      (decays_tile i x0 x1 x2 x3 x4 x5 x6 x7 1 1 256 (by omega) (by omega) (by omega) (by omega) d a m j x h0' h1 (by omega) x2_lt)
  case piece13 =>
    have h0' : d.val = 0 := by have e : d.val = (x 0).val := h0; omega
    have h2' : b.val = 256 + (x 2).val := by have e : b.val = 256 + (x 2).val := h2; omega
    exact Eq.trans (b := decays i x0 x1 x2 x3 x4 x5 x6 x7 0 1 256 (by omega) (by omega) (by omega) x) (congrFun (by rfl) x)
      (decays_tile i x0 x1 x2 x3 x4 x5 x6 x7 0 1 256 (by omega) (by omega) (by omega) (by omega) d a m j x h0' h1 (by omega) x2_lt)
  case piece14 =>
    have h0' : d.val = 1 := by have e : d.val = 1 + (x 0).val := h0; omega
    have h2' : b.val = 0 + (x 2).val := by have e : b.val = (x 2).val := h2; omega
    exact Eq.trans (b := decays i x0 x1 x2 x3 x4 x5 x6 x7 1 0 0 (by omega) (by omega) (by omega) x) (congrFun (by rfl) x)
      (decays_tile i x0 x1 x2 x3 x4 x5 x6 x7 1 0 0 (by omega) (by omega) (by omega) (by omega) d a m j x h0' h1 (by omega) x2_lt)
  case piece15 =>
    have h0' : d.val = 0 := by have e : d.val = (x 0).val := h0; omega
    have h2' : b.val = 0 + (x 2).val := by have e : b.val = (x 2).val := h2; omega
    exact Eq.trans (b := decays i x0 x1 x2 x3 x4 x5 x6 x7 0 0 0 (by omega) (by omega) (by omega) x) (congrFun (by rfl) x)
      (decays_tile i x0 x1 x2 x3 x4 x5 x6 x7 0 0 0 (by omega) (by omega) (by omega) (by omega) d a m j x h0' h1 (by omega) x2_lt)

theorem block9_at (d : Fin 2) (a : Fin 256) (m : Fin 8) (j : Fin 256) (b : Fin 2048) (hb : b.val = m.val * 256 + j.val) :
    out0_9 i x0 x1 x2 x3 x4 x5 x6 x7 (ix3 d a b) = inputAt i x0 x1 x2 x3 x4 x5 x6 x7 d a m j := by
  canon_tiles x h using Gen.cover0_9 ..
  case piece0 =>
    have h0' : d.val = 1 := by have e : d.val = 1 + (x 0).val := h0; omega
    have h2' : b.val = 1792 + (x 2).val := by have e : b.val = 1792 + (x 2).val := h2; omega
    exact Eq.trans (b := inputs i x0 x1 x2 x3 x4 x5 x6 x7 1 7 1792 (by omega) (by omega) (by omega) x) (congrFun (by rfl) x)
      (inputs_tile i x0 x1 x2 x3 x4 x5 x6 x7 1 7 1792 (by omega) (by omega) (by omega) (by omega) d a m j x h0' h1 (by omega) x2_lt)
  case piece1 =>
    have h0' : d.val = 0 := by have e : d.val = (x 0).val := h0; omega
    have h2' : b.val = 1792 + (x 2).val := by have e : b.val = 1792 + (x 2).val := h2; omega
    exact Eq.trans (b := inputs i x0 x1 x2 x3 x4 x5 x6 x7 0 7 1792 (by omega) (by omega) (by omega) x) (congrFun (by rfl) x)
      (inputs_tile i x0 x1 x2 x3 x4 x5 x6 x7 0 7 1792 (by omega) (by omega) (by omega) (by omega) d a m j x h0' h1 (by omega) x2_lt)
  case piece2 =>
    have h0' : d.val = 1 := by have e : d.val = 1 + (x 0).val := h0; omega
    have h2' : b.val = 1536 + (x 2).val := by have e : b.val = 1536 + (x 2).val := h2; omega
    exact Eq.trans (b := inputs i x0 x1 x2 x3 x4 x5 x6 x7 1 6 1536 (by omega) (by omega) (by omega) x) (congrFun (by rfl) x)
      (inputs_tile i x0 x1 x2 x3 x4 x5 x6 x7 1 6 1536 (by omega) (by omega) (by omega) (by omega) d a m j x h0' h1 (by omega) x2_lt)
  case piece3 =>
    have h0' : d.val = 0 := by have e : d.val = (x 0).val := h0; omega
    have h2' : b.val = 1536 + (x 2).val := by have e : b.val = 1536 + (x 2).val := h2; omega
    exact Eq.trans (b := inputs i x0 x1 x2 x3 x4 x5 x6 x7 0 6 1536 (by omega) (by omega) (by omega) x) (congrFun (by rfl) x)
      (inputs_tile i x0 x1 x2 x3 x4 x5 x6 x7 0 6 1536 (by omega) (by omega) (by omega) (by omega) d a m j x h0' h1 (by omega) x2_lt)
  case piece4 =>
    have h0' : d.val = 1 := by have e : d.val = 1 + (x 0).val := h0; omega
    have h2' : b.val = 1280 + (x 2).val := by have e : b.val = 1280 + (x 2).val := h2; omega
    exact Eq.trans (b := inputs i x0 x1 x2 x3 x4 x5 x6 x7 1 5 1280 (by omega) (by omega) (by omega) x) (congrFun (by rfl) x)
      (inputs_tile i x0 x1 x2 x3 x4 x5 x6 x7 1 5 1280 (by omega) (by omega) (by omega) (by omega) d a m j x h0' h1 (by omega) x2_lt)
  case piece5 =>
    have h0' : d.val = 0 := by have e : d.val = (x 0).val := h0; omega
    have h2' : b.val = 1280 + (x 2).val := by have e : b.val = 1280 + (x 2).val := h2; omega
    exact Eq.trans (b := inputs i x0 x1 x2 x3 x4 x5 x6 x7 0 5 1280 (by omega) (by omega) (by omega) x) (congrFun (by rfl) x)
      (inputs_tile i x0 x1 x2 x3 x4 x5 x6 x7 0 5 1280 (by omega) (by omega) (by omega) (by omega) d a m j x h0' h1 (by omega) x2_lt)
  case piece6 =>
    have h0' : d.val = 1 := by have e : d.val = 1 + (x 0).val := h0; omega
    have h2' : b.val = 1024 + (x 2).val := by have e : b.val = 1024 + (x 2).val := h2; omega
    exact Eq.trans (b := inputs i x0 x1 x2 x3 x4 x5 x6 x7 1 4 1024 (by omega) (by omega) (by omega) x) (congrFun (by rfl) x)
      (inputs_tile i x0 x1 x2 x3 x4 x5 x6 x7 1 4 1024 (by omega) (by omega) (by omega) (by omega) d a m j x h0' h1 (by omega) x2_lt)
  case piece7 =>
    have h0' : d.val = 0 := by have e : d.val = (x 0).val := h0; omega
    have h2' : b.val = 1024 + (x 2).val := by have e : b.val = 1024 + (x 2).val := h2; omega
    exact Eq.trans (b := inputs i x0 x1 x2 x3 x4 x5 x6 x7 0 4 1024 (by omega) (by omega) (by omega) x) (congrFun (by rfl) x)
      (inputs_tile i x0 x1 x2 x3 x4 x5 x6 x7 0 4 1024 (by omega) (by omega) (by omega) (by omega) d a m j x h0' h1 (by omega) x2_lt)
  case piece8 =>
    have h0' : d.val = 1 := by have e : d.val = 1 + (x 0).val := h0; omega
    have h2' : b.val = 768 + (x 2).val := by have e : b.val = 768 + (x 2).val := h2; omega
    exact Eq.trans (b := inputs i x0 x1 x2 x3 x4 x5 x6 x7 1 3 768 (by omega) (by omega) (by omega) x) (congrFun (by rfl) x)
      (inputs_tile i x0 x1 x2 x3 x4 x5 x6 x7 1 3 768 (by omega) (by omega) (by omega) (by omega) d a m j x h0' h1 (by omega) x2_lt)
  case piece9 =>
    have h0' : d.val = 0 := by have e : d.val = (x 0).val := h0; omega
    have h2' : b.val = 768 + (x 2).val := by have e : b.val = 768 + (x 2).val := h2; omega
    exact Eq.trans (b := inputs i x0 x1 x2 x3 x4 x5 x6 x7 0 3 768 (by omega) (by omega) (by omega) x) (congrFun (by rfl) x)
      (inputs_tile i x0 x1 x2 x3 x4 x5 x6 x7 0 3 768 (by omega) (by omega) (by omega) (by omega) d a m j x h0' h1 (by omega) x2_lt)
  case piece10 =>
    have h0' : d.val = 1 := by have e : d.val = 1 + (x 0).val := h0; omega
    have h2' : b.val = 512 + (x 2).val := by have e : b.val = 512 + (x 2).val := h2; omega
    exact Eq.trans (b := inputs i x0 x1 x2 x3 x4 x5 x6 x7 1 2 512 (by omega) (by omega) (by omega) x) (congrFun (by rfl) x)
      (inputs_tile i x0 x1 x2 x3 x4 x5 x6 x7 1 2 512 (by omega) (by omega) (by omega) (by omega) d a m j x h0' h1 (by omega) x2_lt)
  case piece11 =>
    have h0' : d.val = 0 := by have e : d.val = (x 0).val := h0; omega
    have h2' : b.val = 512 + (x 2).val := by have e : b.val = 512 + (x 2).val := h2; omega
    exact Eq.trans (b := inputs i x0 x1 x2 x3 x4 x5 x6 x7 0 2 512 (by omega) (by omega) (by omega) x) (congrFun (by rfl) x)
      (inputs_tile i x0 x1 x2 x3 x4 x5 x6 x7 0 2 512 (by omega) (by omega) (by omega) (by omega) d a m j x h0' h1 (by omega) x2_lt)
  case piece12 =>
    have h0' : d.val = 1 := by have e : d.val = 1 + (x 0).val := h0; omega
    have h2' : b.val = 256 + (x 2).val := by have e : b.val = 256 + (x 2).val := h2; omega
    exact Eq.trans (b := inputs i x0 x1 x2 x3 x4 x5 x6 x7 1 1 256 (by omega) (by omega) (by omega) x) (congrFun (by rfl) x)
      (inputs_tile i x0 x1 x2 x3 x4 x5 x6 x7 1 1 256 (by omega) (by omega) (by omega) (by omega) d a m j x h0' h1 (by omega) x2_lt)
  case piece13 =>
    have h0' : d.val = 0 := by have e : d.val = (x 0).val := h0; omega
    have h2' : b.val = 256 + (x 2).val := by have e : b.val = 256 + (x 2).val := h2; omega
    exact Eq.trans (b := inputs i x0 x1 x2 x3 x4 x5 x6 x7 0 1 256 (by omega) (by omega) (by omega) x) (congrFun (by rfl) x)
      (inputs_tile i x0 x1 x2 x3 x4 x5 x6 x7 0 1 256 (by omega) (by omega) (by omega) (by omega) d a m j x h0' h1 (by omega) x2_lt)
  case piece14 =>
    have h0' : d.val = 1 := by have e : d.val = 1 + (x 0).val := h0; omega
    have h2' : b.val = 0 + (x 2).val := by have e : b.val = (x 2).val := h2; omega
    exact Eq.trans (b := inputs i x0 x1 x2 x3 x4 x5 x6 x7 1 0 0 (by omega) (by omega) (by omega) x) (congrFun (by rfl) x)
      (inputs_tile i x0 x1 x2 x3 x4 x5 x6 x7 1 0 0 (by omega) (by omega) (by omega) (by omega) d a m j x h0' h1 (by omega) x2_lt)
  case piece15 =>
    have h0' : d.val = 0 := by have e : d.val = (x 0).val := h0; omega
    have h2' : b.val = 0 + (x 2).val := by have e : b.val = (x 2).val := h2; omega
    exact Eq.trans (b := inputs i x0 x1 x2 x3 x4 x5 x6 x7 0 0 0 (by omega) (by omega) (by omega) x) (congrFun (by rfl) x)
      (inputs_tile i x0 x1 x2 x3 x4 x5 x6 x7 0 0 0 (by omega) (by omega) (by omega) (by omega) d a m j x h0' h1 (by omega) x2_lt)

end

end Cert.KernelGatesIdeal.GatesBlock

end
-- ==== Proof.GatesRef.lean ====
/-
  The reference's two coefficient arrays at an index: the convolution runs over the context and over the latents apart,
  each with two rows of zeros before it and one after, and the two are joined; the rest is row by row.
-/
module

public import proofs.«01_k».proof.Proof.Gen.ReferenceGatesIdeal.Run
public import proofs.«01_k».proof.Proof.GatesAt
public import Idealize.ShloMosaic.Lib.Pipeline.ValueKit

@[expose] public section

set_option maxRecDepth 16384

noncomputable section

namespace Cert.ReferenceGatesIdeal.GatesValue

open Idealize.ShloMosaic Idealize.ShloMosaic.TcCoe Idealize.SL.Sem Idealize.ShloMosaic.StableHlo
open Cert.ReferenceGatesIdeal Cert.ReferenceGatesIdeal.Gen Cert.ReferenceGatesIdeal.Value
open Cert.Gates (taps gate softplus logDecay scale scale_eq)

/-- An array of numbers of a shape. -/
abbrev Arr (s : Shape) := (⟨s, .f32⟩ : BufTy).Contents (Elt Ideal)

/-- A row of the second half of the projected stream. -/
def row (u : Arr S17408x4096) (r : Nat) (c : Fin 2048) : EReal :=
  if h : r < 17408 then u (ix2 ⟨r, h⟩ ⟨2048 + c.val, by omega⟩) else 0

/-- The convolution's row `j`, counted from two before place `p` of sequence `s`: zero outside the part `p` lies in. -/
def tap (u : Arr S17408x4096) (s p j : Nat) (c : Fin 2048) : EReal :=
  if (p < 256 ∧ 2 ≤ p + j ∧ p + j < 258) ∨ (256 ≤ p ∧ 258 ≤ p + j ∧ p + j < 4354) then row u (s * 4352 + p + j - 2) c else 0

section

variable (u : Arr S17408x4096) (w : Arr S4x2048) (b : Arr S2048) (gw : Arr S2x2x8x256x256) (gb : Arr S2x2x2048) (lam : Arr S2x2048)

/-- The convolution at a place of a sequence and a column. -/
def convOf (s p : Nat) (c : Fin 2048) : EReal :=
  taps (w (ix2 0 c)) (w (ix2 1 c)) (w (ix2 2 c)) (w (ix2 3 c)) (b (ix1 c)) (tap u s p 0 c) (tap u s p 1 c) (tap u s p 2 c) (tap u s p 3 c)

/-- A gate there. -/
def gateOf (d g : Fin 2) (s p : Nat) (c : Fin 2048) : EReal :=
  gate (fun x => convOf u w b s p ⟨c.val / 256 * 256 + x.val, by omega⟩) (fun x => gw (ix5 d g ⟨c.val / 256, by omega⟩ x ⟨c.val % 256, by omega⟩)) (gb (ix3 d g c))

/-- The decay's logarithm there. -/
def logOf (d : Fin 2) (s p : Nat) (c : Fin 2048) : EReal := logDecay (gateOf u w b gw gb d 0 s p c) (lam (ix2 d c))

/-- The decays. -/
def decays : Arr S2x17408x2048 := fun y => Ideal.exp (logOf u w b gw gb lam (y 0) ((y 1).val / 4352) ((y 1).val % 4352) (y 2))

/-- The input's coefficients. -/
def inputs : Arr S2x17408x2048 := fun y =>
  scale (logOf u w b gw gb lam (y 0) ((y 1).val / 4352) ((y 1).val % 4352) (y 2))
    * (gateOf u w b gw gb (y 0) 1 ((y 1).val / 4352) ((y 1).val % 4352) (y 2) * convOf u w b ((y 1).val / 4352) ((y 1).val % 4352) (y 2))

end

section

variable (V0 : Valuation τ sig (Elt Ideal))

/-- The arguments. -/
abbrev us : Arr S17408x4096 := V0 (Proc.devRef .tc main_arg0)
abbrev ws : Arr S4x2048 := V0 (Proc.devRef .tc main_arg1)
abbrev bs : Arr S2048 := V0 (Proc.devRef .tc main_arg2)
abbrev gws : Arr S2x2x8x256x256 := V0 (Proc.devRef .tc main_arg3)
abbrev gbs : Arr S2x2x2048 := V0 (Proc.devRef .tc main_arg4)
abbrev lams : Arr S2x2048 := V0 (Proc.devRef .tc main_arg5)

theorem sequences_at (s : Fin 4) (p : Fin 4352) (k : Fin 4096) (r : Fin 17408) (hr : r.val = s.val * 4352 + p.val) :
    res_main_v0 V0 (ix3 s p k) = us V0 (ix2 r k) := by
  unfold res_main_v0
  show shapeCast S4x4352x4096 (us V0) _ _ = _
  generalize us V0 = x
  pointwise
  exact congrArg (fun y => x (ix2 y k)) (Fin.ext (by show s.val * 4352 + p.val = r.val; omega))

theorem no_number : (FloatOps.sitofp FTy.f32 0#32 : Ideal FTy.f32) = (0 : EReal) := by
  show (((0#32 : BitVec 32).toInt : ℝ) : EReal) = 0
  simp

/-- The context with its zeros. -/
theorem context_at (s : Fin 4) (q : Fin 259) (k : Fin 2048) :
    res_main_v2 V0 (ix3 s q k) = if 2 ≤ q.val ∧ q.val - 2 < 256 then row (us V0) (s.val * 4352 + q.val - 2) k else (0 : EReal) := by
  have e := fun (p : Fin 4352) (k : Fin 4096) => sequences_at V0 s p k ⟨s.val * 4352 + p.val, by omega⟩ rfl
  unfold res_main_v2
  generalize res_main_v0 V0 = x at e ⊢
  pointwise
  by_cases h : 2 ≤ q.val ∧ q.val - 2 < 256
  · rw [dif_pos h, if_pos h]
    refine (e _ _).trans ?_
    unfold row
    rw [dif_pos (by omega)]
    exact congrArg (fun y => us V0 (ix2 y _)) (Fin.ext (by show s.val * 4352 + (q.val - 2) = s.val * 4352 + q.val - 2; omega))
  · rw [dif_neg h, if_neg h]
    exact no_number

/-- The latents with theirs. -/
theorem latents_at (s : Fin 4) (q : Fin 4099) (k : Fin 2048) :
    res_main_v36 V0 (ix3 s q k) = if 2 ≤ q.val ∧ q.val - 2 < 4096 then row (us V0) (s.val * 4352 + 256 + q.val - 2) k else (0 : EReal) := by
  have e := fun (p : Fin 4352) (k : Fin 4096) => sequences_at V0 s p k ⟨s.val * 4352 + p.val, by omega⟩ rfl
  unfold res_main_v36
  generalize res_main_v0 V0 = x at e ⊢
  pointwise
  by_cases h : 2 ≤ q.val ∧ q.val - 2 < 4096
  · rw [dif_pos h, if_pos h]
    refine (e _ _).trans ?_
    unfold row
    rw [dif_pos (by omega)]
    exact congrArg (fun y => us V0 (ix2 y _)) (Fin.ext (by show s.val * 4352 + (256 + (q.val - 2)) = s.val * 4352 + 256 + q.val - 2; omega))
  · rw [dif_neg h, if_neg h]
    exact no_number

theorem tap_context (s : Fin 4) (p : Fin 4352) (j : Nat) (c : Fin 2048) (hp : p.val < 256) (q : Fin 259) (hq : q.val = j + p.val) :
    res_main_v2 V0 (ix3 s q c) = tap (us V0) s.val p.val j c := by
  rw [context_at]
  unfold tap
  by_cases h : 2 ≤ q.val ∧ q.val - 2 < 256
  · rw [if_pos h, if_pos (by omega), show s.val * 4352 + q.val - 2 = s.val * 4352 + p.val + j - 2 by omega]
  · rw [if_neg h, if_neg (by omega)]

theorem tap_latents (s : Fin 4) (p : Fin 4352) (j : Nat) (c : Fin 2048) (hp : ¬ p.val < 256) (q : Fin 4099) (hq : q.val = j + (p.val - 256)) :
    res_main_v36 V0 (ix3 s q c) = tap (us V0) s.val p.val j c := by
  rw [latents_at]
  unfold tap
  by_cases h : 2 ≤ q.val ∧ q.val - 2 < 4096
  · rw [if_pos h, if_pos (by omega), show s.val * 4352 + 256 + q.val - 2 = s.val * 4352 + p.val + j - 2 by omega]
  · rw [if_neg h, if_neg (by omega)]

/-- The reference's convolution. -/
theorem conv_at (s : Fin 4) (p : Fin 4352) (c : Fin 2048) :
    res_main_v69 V0 (ix3 s p c) = convOf (us V0) (ws V0) (bs V0) s.val p.val c := by
  have eC := tap_context V0 s p
  have eL := tap_latents V0 s p
  unfold res_main_v69 convOf taps
  generalize res_main_v2 V0 = C at eC ⊢
  generalize res_main_v36 V0 = L at eL ⊢
  generalize us V0 = x at eC eL ⊢
  pointwise
  by_cases h : p.val < 256
  · rw [dif_pos h, eC 0 c h ⟨p.val, by omega⟩ (by show p.val = 0 + p.val; omega), eC 1 c h ⟨1 + p.val, by omega⟩ rfl, eC 2 c h ⟨2 + p.val, by omega⟩ rfl, eC 3 c h ⟨3 + p.val, by omega⟩ rfl,
      mul_comm (G := EReal) (ws V0 (ix2 0 c)), mul_comm (G := EReal) (ws V0 (ix2 1 c)), mul_comm (G := EReal) (ws V0 (ix2 2 c)), mul_comm (G := EReal) (ws V0 (ix2 3 c))]
  · rw [dif_neg h, eL 0 c h ⟨p.val - 256, by omega⟩ (by show p.val - 256 = 0 + (p.val - 256); omega), eL 1 c h ⟨1 + (p.val - 256), by omega⟩ rfl, eL 2 c h ⟨2 + (p.val - 256), by omega⟩ rfl, eL 3 c h ⟨3 + (p.val - 256), by omega⟩ rfl,
      mul_comm (G := EReal) (ws V0 (ix2 0 c)), mul_comm (G := EReal) (ws V0 (ix2 1 c)), mul_comm (G := EReal) (ws V0 (ix2 2 c)), mul_comm (G := EReal) (ws V0 (ix2 3 c))]

theorem gate0_at (g : Fin 2) (s : Fin 4) (p : Fin 4352) (c : Fin 2048) :
    Ideal.logistic (res_main_v82 V0 (ix4 g s p c)) = gateOf (us V0) (ws V0) (bs V0) (gws V0) (gbs V0) 0 g s.val p.val c := by
  have e := fun c => conv_at V0 s p c
  unfold res_main_v82 gateOf gate
  generalize convOf (us V0) (ws V0) (bs V0) s.val p.val = f at e ⊢
  generalize res_main_v69 V0 = x at e ⊢
  pointwise
  refine congrArg (fun z => Ideal.logistic (z + gbs V0 (ix3 0 g c))) (Finset.sum_congr rfl fun k _ => ?_)
  rw [e]
  exact mul_comm _ _

theorem log0_at (s : Fin 4) (p : Fin 4352) (c : Fin 2048) :
    res_main_v105 V0 (ix3 s p c) = logOf (us V0) (ws V0) (bs V0) (gws V0) (gbs V0) (lams V0) 0 s.val p.val c := by
  have e := gate0_at V0 0 s p c
  unfold res_main_v105 res_main_call2_v3 res_main_call2_cst res_main_v101 logOf
  rw [← e]
  generalize res_main_v82 V0 = x
  pointwise
  rw [if_neg (fun h => h rfl)]
  unfold logDecay softplus
  rw [zero_sub, zero_sub]
  rfl

theorem gate1_at (g : Fin 2) (s : Fin 4) (p : Fin 4352) (c : Fin 2048) :
    Ideal.logistic (res_main_v126 V0 (ix4 g s p c)) = gateOf (us V0) (ws V0) (bs V0) (gws V0) (gbs V0) 1 g s.val p.val c := by
  have e := fun c => conv_at V0 s p c
  unfold res_main_v126 gateOf gate
  generalize convOf (us V0) (ws V0) (bs V0) s.val p.val = f at e ⊢
  generalize res_main_v69 V0 = x at e ⊢
  pointwise
  refine congrArg (fun z => Ideal.logistic (z + gbs V0 (ix3 1 g c))) (Finset.sum_congr rfl fun k _ => ?_)
  rw [e]
  exact mul_comm _ _

theorem log1_at (s : Fin 4) (p : Fin 4352) (c : Fin 2048) :
    res_main_v149 V0 (ix3 s p c) = logOf (us V0) (ws V0) (bs V0) (gws V0) (gbs V0) (lams V0) 1 s.val p.val c := by
  have e := gate1_at V0 0 s p c
  unfold res_main_v149 res_main_call3_v3 res_main_call3_cst res_main_v145 logOf
  rw [← e]
  generalize res_main_v126 V0 = x
  pointwise
  rw [if_neg (fun h => h rfl)]
  unfold logDecay softplus
  rw [zero_sub, zero_sub]
  rfl

/-- The reference's first array. -/
theorem decays_eq : shapeCast _ (concatenate S2x4x4352x2048 0 [⟨S1x4x4352x2048, (broadcastInDim S1x4x4352x2048 ![1, 2, 3] bcast_S4x4352x2048_S1x4x4352x2048_1_2_3 (Host.exp (res_main_v105 (V0))))⟩, ⟨S1x4x4352x2048, (broadcastInDim S1x4x4352x2048 ![1, 2, 3] bcast_S4x4352x2048_S1x4x4352x2048_1_2_3 (Host.exp (res_main_v149 (V0))))⟩] concatenates_S1x4x4352x2048_S1x4x4352x2048_S2x4x4352x2048_d0) shapeCasts_S2x4x4352x2048_S2x17408x2048 = decays (us V0) (ws V0) (bs V0) (gws V0) (gbs V0) (lams V0) := by
  funext y
  obtain ⟨d, r, c, rfl⟩ : ∃ (d : Fin 2) (r : Fin 17408) (c : Fin 2048), y = ix3 d r c := ⟨y 0, y 1, y 2, by
    funext a
    match a with
    | ⟨0, _⟩ => rfl
    | ⟨1, _⟩ => rfl
    | ⟨2, _⟩ => rfl⟩
  have e0 := log0_at V0 ⟨r.val / 4352, by omega⟩ ⟨r.val % 4352, by omega⟩ c
  have e1 := log1_at V0 ⟨r.val / 4352, by omega⟩ ⟨r.val % 4352, by omega⟩ c
  show _ = Ideal.exp (logOf (us V0) (ws V0) (bs V0) (gws V0) (gbs V0) (lams V0) d (r.val / 4352) (r.val % 4352) c)
  generalize logOf (us V0) (ws V0) (bs V0) (gws V0) (gbs V0) (lams V0) = f at e0 e1 ⊢
  generalize res_main_v105 V0 = x at e0 ⊢
  generalize res_main_v149 V0 = x' at e1 ⊢
  pointwise
  by_cases h : d.val < 1
  · rw [dif_pos h, e0, show d = 0 from Fin.ext (by show d.val = 0; omega)]
  · rw [dif_neg h, e1, show d = 1 from Fin.ext (by show d.val = 1; omega)]

set_option maxHeartbeats 1000000 in
/-- The reference's second array. -/
theorem inputs_eq : shapeCast _ (concatenate S2x4x4352x2048 0 [⟨S1x4x4352x2048, (broadcastInDim S1x4x4352x2048 ![1, 2, 3] bcast_S4x4352x2048_S1x4x4352x2048_1_2_3 (mulf (Host.sqrt (Host.negf (Host.expm1 (mulf (broadcastInDim S4x4352x2048 ![] bcast_S_S4x4352x2048 (constant S_ .f32 0x40000000#32)) (res_main_v105 (V0)))))) (mulf (Host.divf (broadcastInDim S4x4352x2048 ![] bcast_S_S4x4352x2048 (constant S_ .f32 0x3F800000#32)) (addf (broadcastInDim S4x4352x2048 ![] bcast_S_S4x4352x2048 (constant S_ .f32 0x3F800000#32)) (Host.exp (Host.negf (shapeCast _ (extractStridedSlice S1x4x4352x2048 ![1, 0, 0, 0] (res_main_v82 (V0)) slices_S2x4x4352x2048_S1x4x4352x2048_1_0_0_0) shapeCasts_S1x4x4352x2048_S4x4352x2048))))) (res_main_v69 (V0)))))⟩, ⟨S1x4x4352x2048, (broadcastInDim S1x4x4352x2048 ![1, 2, 3] bcast_S4x4352x2048_S1x4x4352x2048_1_2_3 (mulf (Host.sqrt (Host.negf (Host.expm1 (mulf (broadcastInDim S4x4352x2048 ![] bcast_S_S4x4352x2048 (constant S_ .f32 0x40000000#32)) (res_main_v149 (V0)))))) (mulf (Host.divf (broadcastInDim S4x4352x2048 ![] bcast_S_S4x4352x2048 (constant S_ .f32 0x3F800000#32)) (addf (broadcastInDim S4x4352x2048 ![] bcast_S_S4x4352x2048 (constant S_ .f32 0x3F800000#32)) (Host.exp (Host.negf (shapeCast _ (extractStridedSlice S1x4x4352x2048 ![1, 0, 0, 0] (res_main_v126 (V0)) slices_S2x4x4352x2048_S1x4x4352x2048_1_0_0_0) shapeCasts_S1x4x4352x2048_S4x4352x2048))))) (res_main_v69 (V0)))))⟩] concatenates_S1x4x4352x2048_S1x4x4352x2048_S2x4x4352x2048_d0) shapeCasts_S2x4x4352x2048_S2x17408x2048 = inputs (us V0) (ws V0) (bs V0) (gws V0) (gbs V0) (lams V0) := by
  funext y
  obtain ⟨d, r, c, rfl⟩ : ∃ (d : Fin 2) (r : Fin 17408) (c : Fin 2048), y = ix3 d r c := ⟨y 0, y 1, y 2, by
    funext a
    match a with
    | ⟨0, _⟩ => rfl
    | ⟨1, _⟩ => rfl
    | ⟨2, _⟩ => rfl⟩
  have e0 := log0_at V0 ⟨r.val / 4352, by omega⟩ ⟨r.val % 4352, by omega⟩ c
  have e1 := log1_at V0 ⟨r.val / 4352, by omega⟩ ⟨r.val % 4352, by omega⟩ c
  have g0 := gate0_at V0 1 ⟨r.val / 4352, by omega⟩ ⟨r.val % 4352, by omega⟩ c
  have g1 := gate1_at V0 1 ⟨r.val / 4352, by omega⟩ ⟨r.val % 4352, by omega⟩ c
  have ec := conv_at V0 ⟨r.val / 4352, by omega⟩ ⟨r.val % 4352, by omega⟩ c
  show _ = scale (logOf (us V0) (ws V0) (bs V0) (gws V0) (gbs V0) (lams V0) d (r.val / 4352) (r.val % 4352) c)
    * (gateOf (us V0) (ws V0) (bs V0) (gws V0) (gbs V0) d 1 (r.val / 4352) (r.val % 4352) c * convOf (us V0) (ws V0) (bs V0) (r.val / 4352) (r.val % 4352) c)
  rw [scale_eq]
  generalize logOf (us V0) (ws V0) (bs V0) (gws V0) (gbs V0) (lams V0) = f at e0 e1 ⊢
  generalize gateOf (us V0) (ws V0) (bs V0) (gws V0) (gbs V0) = g at g0 g1 ⊢
  generalize convOf (us V0) (ws V0) (bs V0) = k at ec ⊢
  generalize res_main_v105 V0 = x at e0 ⊢
  generalize res_main_v149 V0 = x' at e1 ⊢
  generalize res_main_v82 V0 = z at g0 ⊢
  generalize res_main_v126 V0 = z' at g1 ⊢
  generalize res_main_v69 V0 = v at ec ⊢
  unfold Ideal.logistic at g0 g1
  pointwise
  by_cases h : d.val < 1
  · obtain rfl : d = 0 := Fin.ext (by show d.val = 0; omega)
    rw [dif_pos h]
    exact congrArg₂ (fun a b : EReal => a * b) (congrArg (fun l : EReal => Ideal.sqrt (-(Ideal.exp (Ideal.ofBits FTy.f32 1073741824#32 * l) - 1))) e0)
      (congrArg₂ (fun a b : EReal => a * b) g0 ec)
  · obtain rfl : d = 1 := Fin.ext (by show d.val = 1; omega)
    rw [dif_neg h]
    exact congrArg₂ (fun a b : EReal => a * b) (congrArg (fun l : EReal => Ideal.sqrt (-(Ideal.exp (Ideal.ofBits FTy.f32 1073741824#32 * l) - 1))) e1)
      (congrArg₂ (fun a b : EReal => a * b) g1 ec)

end

end Cert.ReferenceGatesIdeal.GatesValue

end
-- ==== Proof.Gates.lean ====
/-
  The coefficients of the layer's linear recurrence: a depthwise convolution over four rows, two gates by blocks of 256
  columns for either direction, and the decay and the input's coefficient of each. A grid point holds 256 whole rows and
  reads the eight rows before and after them, which count as zero where the context or the latents begin and end.
-/
module

public import proofs.«01_k».proof.Defs
public import proofs.«01_k».proof.Proof.Gen.KernelGates.Frame
public import proofs.«01_k».proof.Proof.GatesBlock
public import proofs.«01_k».proof.Proof.GatesRef
public import Idealize.ShloMosaic.Lib.Pipeline.ValueKit
public import Idealize.ShloMosaic.Lib.Quiescent

@[expose] public section

set_option maxRecDepth 16384

noncomputable section

namespace Cert.KernelGatesIdeal.GatesValue

open Idealize.ShloMosaic Idealize.ShloMosaic.TcCoe Idealize.SL.Sem Idealize.ShloMosaic.StableHlo
open Cert.KernelGatesIdeal Cert.KernelGatesIdeal.Gen Cert.KernelGatesIdeal.GatesBlock
open Cert.ReferenceGatesIdeal.GatesValue (Arr row tap convOf gateOf logOf)
open Cert.Gates (taps gate logDecay scale)

theorem index_rows : ∀ t : Fin cfg0.N, win0_0.index t 0 = t.val ∧ win0_0.index t 1 = 1 :=
  (by decide +kernel : ∀ t : Fin grid0.N, win0_0.index t 0 = t.val ∧ win0_0.index t 1 = 1)
theorem index_before : ∀ t : Fin cfg0.N, win0_1.index t 0 = t.val * 32 - 1 ∧ win0_1.index t 1 = 1 :=
  (by decide +kernel : ∀ t : Fin grid0.N, win0_1.index t 0 = t.val * 32 - 1 ∧ win0_1.index t 1 = 1)
theorem index_after : ∀ t : Fin cfg0.N, win0_2.index t 0 = min ((t.val + 1) * 32) 2175 ∧ win0_2.index t 1 = 1 :=
  (by decide +kernel : ∀ t : Fin grid0.N, win0_2.index t 0 = min ((t.val + 1) * 32) 2175 ∧ win0_2.index t 1 = 1)
theorem index_taps : ∀ t : Fin cfg0.N, win0_3.index t 0 = 0 ∧ win0_3.index t 1 = 0 :=
  (by decide +kernel : ∀ t : Fin grid0.N, win0_3.index t 0 = 0 ∧ win0_3.index t 1 = 0)
theorem index_bias : ∀ t : Fin cfg0.N, win0_4.index t 0 = 0 ∧ win0_4.index t 1 = 0 :=
  (by decide +kernel : ∀ t : Fin grid0.N, win0_4.index t 0 = 0 ∧ win0_4.index t 1 = 0)
theorem index_weight : ∀ t : Fin cfg0.N, win0_5.index t 0 = 0 ∧ win0_5.index t 1 = 0 ∧ win0_5.index t 2 = 0 ∧ win0_5.index t 3 = 0 ∧ win0_5.index t 4 = 0 :=
  (by decide +kernel : ∀ t : Fin grid0.N, win0_5.index t 0 = 0 ∧ win0_5.index t 1 = 0 ∧ win0_5.index t 2 = 0 ∧ win0_5.index t 3 = 0 ∧ win0_5.index t 4 = 0)
theorem index_gate_bias : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)
theorem index_lam : ∀ t : Fin cfg0.N, win0_7.index t 0 = 0 ∧ win0_7.index t 1 = 0 :=
  (by decide +kernel : ∀ t : Fin grid0.N, win0_7.index t 0 = 0 ∧ win0_7.index t 1 = 0)
theorem index_decays : ∀ t : Fin cfg0.N, win0_8.index t 0 = 0 ∧ win0_8.index t 1 = t.val ∧ win0_8.index t 2 = 0 :=
  (by decide +kernel : ∀ t : Fin grid0.N, win0_8.index t 0 = 0 ∧ win0_8.index t 1 = t.val ∧ win0_8.index t 2 = 0)
theorem index_inputs : ∀ t : Fin cfg0.N, win0_9.index t 0 = 0 ∧ win0_9.index t 1 = t.val ∧ win0_9.index t 2 = 0 :=
  (by decide +kernel : ∀ t : Fin grid0.N, win0_9.index t 0 = 0 ∧ win0_9.index t 1 = t.val ∧ win0_9.index t 2 = 0)

theorem point_lt (t : Fin cfg0.N) : t.val < 68 := lt_of_lt_of_eq t.isLt (show cfg0.N = 68 from N_0)

variable (m : (ℓ : Loc nD τ sig) → Buf (Elt Ideal) ℓ) (q : Dev nD)

/-- The projected stream. -/
abbrev us : Arr S17408x4096 := m ((q.tc : Thread nD τ).loc main_arg0)
/-- The convolution's weights. -/
abbrev ws : Arr S4x2048 := m ((q.tc : Thread nD τ).loc main_arg1)
/-- The convolution's biases. -/
abbrev bs : Arr S2048 := m ((q.tc : Thread nD τ).loc main_arg2)
/-- The gates' weights. -/
abbrev gws : Arr S2x2x8x256x256 := m ((q.tc : Thread nD τ).loc main_arg3)
/-- The gates' biases. -/
abbrev gbs : Arr S2x2x2048 := m ((q.tc : Thread nD τ).loc main_arg4)
/-- The decays' parameters. -/
abbrev lams : Arr S2x2048 := m ((q.tc : Thread nD τ).loc main_arg5)

/-- The reference's first result at the kernel's arguments. -/
def result0 : Arr S2x17408x2048 := Cert.ReferenceGatesIdeal.GatesValue.decays (us m q) (ws m q) (bs m q) (gws m q) (gbs m q) (lams m q)
/-- The reference's second result at the kernel's arguments. -/
def result1 : Arr S2x17408x2048 := Cert.ReferenceGatesIdeal.GatesValue.inputs (us m q) (ws m q) (bs m q) (gws m q) (gbs m q) (lams m q)

theorem bias_entered : V m q main_v0 = shapeCast _ (bs m q) shapeCasts_S2048_S1x2048 := by
  unfold V
  after_reads_simp
  rfl

/-- The gates' weights the kernel is entered with: over the extended reals the cast changes nothing. -/
theorem weights_entered : V m q main_v1 = gws m q := by
  unfold V
  after_reads_simp
  rfl

theorem asRow_at (x : Arr S2048) (e : Fin 2048) : shapeCast S1x2048 x shapeCasts_S2048_S1x2048 (ix2 0 e) = x (ix1 e) := by
  pointwise

/-- The stream's block at a point. -/
theorem rows_block (t : Fin cfg0.N) (i : Fin 256) (c : Fin 2048) (r : Fin 17408) (hr : r.val = t.val * 256 + i.val) :
    iblk m q 0 t (ix2 i c) = us m q (ix2 r ⟨2048 + c.val, by omega⟩) := by
  have h0 := index_rows t
  have ht := point_lt t
  blk_simp [iblk]
  refine (congrFun (V_main_arg0 m q) _).trans (congrArg _ ?_)
  funext a
  refine Fin.ext ?_
  match a with
  | ⟨0, _⟩ => blk_simp; show _ = r.val; omega
  | ⟨1, _⟩ => blk_simp; show _ = 2048 + c.val; omega

/-- The eight rows before it. -/
theorem before_block (t : Fin cfg0.N) (i : Fin 8) (c : Fin 2048) (r : Fin 17408) (hr : r.val = (t.val * 32 - 1) * 8 + i.val) :
    iblk m q 1 t (ix2 i c) = us m q (ix2 r ⟨2048 + c.val, by omega⟩) := by
  have h0 := index_before t
  have ht := point_lt t
  blk_simp [iblk]
  refine (congrFun (V_main_arg0 m q) _).trans (congrArg _ ?_)
  funext a
  refine Fin.ext ?_
  match a with
  | ⟨0, _⟩ => blk_simp; show _ = r.val; omega
  | ⟨1, _⟩ => blk_simp; show _ = 2048 + c.val; omega

/-- The eight rows after it. -/
theorem after_block (t : Fin cfg0.N) (i : Fin 8) (c : Fin 2048) (r : Fin 17408) (hr : r.val = min ((t.val + 1) * 32) 2175 * 8 + i.val) :
    iblk m q 2 t (ix2 i c) = us m q (ix2 r ⟨2048 + c.val, by omega⟩) := by
  have h0 := index_after t
  have ht := point_lt t
  blk_simp [iblk]
  refine (congrFun (V_main_arg0 m q) _).trans (congrArg _ ?_)
  funext a
  refine Fin.ext ?_
  match a with
  | ⟨0, _⟩ => blk_simp; show _ = r.val; omega
  | ⟨1, _⟩ => blk_simp; show _ = 2048 + c.val; omega

/-- The convolution's weights, the same at every point. -/
theorem taps_block (t : Fin cfg0.N) (i : Fin 4) (c : Fin 2048) :
    iblk m q 3 t (ix2 i c) = ws m q (ix2 i c) := by
  have h0 := index_taps t
  have ht := point_lt t
  blk_simp [iblk]
  refine (congrFun (V_main_arg1 m q) _).trans (congrArg _ ?_)
  funext a
  refine Fin.ext ?_
  match a with
  | ⟨0, _⟩ => blk_simp; show _ = i.val; omega
  | ⟨1, _⟩ => blk_simp; show _ = c.val; omega

/-- Its biases. -/
theorem bias_block (t : Fin cfg0.N) (c : Fin 2048) :
    iblk m q 4 t (ix2 0 c) = bs m q (ix1 c) := by
  have h0 := index_bias t
  have ht := point_lt t
  refine Eq.trans ?_ (asRow_at (bs m q) c)
  blk_simp [iblk]
  refine (congrFun (bias_entered m q) _).trans (congrArg _ ?_)
  funext a
  refine Fin.ext ?_
  match a with
  | ⟨0, _⟩ => blk_simp; show _ = 0; omega
  | ⟨1, _⟩ => blk_simp; show _ = c.val; omega

/-- The gates' weights. -/
theorem weight_block (t : Fin cfg0.N) (d g : Fin 2) (n : Fin 8) (k j : Fin 256) :
    iblk m q 5 t (ix5 d g n k j) = gws m q (ix5 d g n k j) := by
  have h0 := index_weight t
  have ht := point_lt t
  blk_simp [iblk]
  refine (congrFun (weights_entered m q) _).trans (congrArg _ ?_)
  funext a
  refine Fin.ext ?_
  match a with
  | ⟨0, _⟩ => blk_simp; show _ = d.val; omega
  | ⟨1, _⟩ => blk_simp; show _ = g.val; omega
  | ⟨2, _⟩ => blk_simp; show _ = n.val; omega
  | ⟨3, _⟩ => blk_simp; show _ = k.val; omega
  | ⟨4, _⟩ => blk_simp; show _ = j.val; omega

/-- Their biases. -/
theorem gate_bias_block (t : Fin cfg0.N) (d g : Fin 2) (c : Fin 2048) :
    iblk m q 6 t (ix3 d g c) = gbs m q (ix3 d g c) := by
  have h0 := index_gate_bias t
  have ht := point_lt t
  blk_simp [iblk]
  refine (congrFun (V_main_arg4 m q) _).trans (congrArg _ ?_)
  funext a
  refine Fin.ext ?_
  match a with
  | ⟨0, _⟩ => blk_simp; show _ = d.val; omega
  | ⟨1, _⟩ => blk_simp; show _ = g.val; omega
  | ⟨2, _⟩ => blk_simp; show _ = c.val; omega

/-- The decays' parameters. -/
theorem lam_block (t : Fin cfg0.N) (d : Fin 2) (c : Fin 2048) :
    iblk m q 7 t (ix2 d c) = lams m q (ix2 d c) := by
  have h0 := index_lam t
  have ht := point_lt t
  blk_simp [iblk]
  refine (congrFun (V_main_arg5 m q) _).trans (congrArg _ ?_)
  funext a
  refine Fin.ext ?_
  match a with
  | ⟨0, _⟩ => blk_simp; show _ = d.val; omega
  | ⟨1, _⟩ => blk_simp; show _ = c.val; omega

theorem row_eq (u : Arr S17408x4096) (n : Nat) (c : Fin 2048) (r : Fin 17408) (hr : r.val = n) : row u n c = u (ix2 r ⟨2048 + c.val, by omega⟩) := by
  subst hr
  unfold row
  rw [dif_pos r.isLt]

/-- The row two before, which the body takes from the eight before where it lies outside the block. -/
theorem twoBefore_eq (t : Fin cfg0.N) (a : Fin 256) (c : Fin 2048) :
    twoBefore (grid0.coords t) (iblk m q 0 t) (iblk m q 1 t) a c = tap (us m q) (t.val / 17) (t.val % 17 * 256 + a.val) 0 c := by
  have ht := point_lt t
  unfold twoBefore tap
  rw [before_at]
  by_cases h0 : a.val = 0
  · rw [if_pos h0]
    by_cases hf : t.val % 17 = 0 ∨ t.val % 17 = 1
    · rw [if_pos hf, if_neg (by omega)]
      exact mul_zero _
    · rw [if_neg hf, if_pos (by omega), row_eq _ _ c ⟨(t.val * 32 - 1) * 8 + 6, by omega⟩ (by show (t.val * 32 - 1) * 8 + 6 = _; omega)]
      exact (mul_one _).trans (before_block m q t 6 c _ rfl)
  · rw [if_neg h0]
    by_cases h1 : a.val = 1
    · rw [if_pos h1]
      by_cases hf : t.val % 17 = 0 ∨ t.val % 17 = 1
      · rw [if_pos hf, if_neg (by omega)]
        exact mul_zero _
      · rw [if_neg hf, if_pos (by omega), row_eq _ _ c ⟨(t.val * 32 - 1) * 8 + 7, by omega⟩ (by show (t.val * 32 - 1) * 8 + 7 = _; omega)]
        exact (mul_one _).trans (before_block m q t 7 c _ rfl)
    · rw [if_neg h1, if_pos (by omega), row_eq _ _ c ⟨t.val * 256 + (a.val + 256 - 2) % 256, by omega⟩ (by show t.val * 256 + (a.val + 256 - 2) % 256 = _; omega)]
      exact rows_block m q t _ c _ rfl

/-- The row before. -/
theorem oneBefore_eq (t : Fin cfg0.N) (a : Fin 256) (c : Fin 2048) :
    oneBefore (grid0.coords t) (iblk m q 0 t) (iblk m q 1 t) a c = tap (us m q) (t.val / 17) (t.val % 17 * 256 + a.val) 1 c := by
  have ht := point_lt t
  unfold oneBefore tap
  rw [before_at]
  by_cases h0 : a.val = 0
  · rw [if_pos h0]
    by_cases hf : t.val % 17 = 0 ∨ t.val % 17 = 1
    · rw [if_pos hf, if_neg (by omega)]
      exact mul_zero _
    · rw [if_neg hf, if_pos (by omega), row_eq _ _ c ⟨(t.val * 32 - 1) * 8 + 7, by omega⟩ (by show (t.val * 32 - 1) * 8 + 7 = _; omega)]
      exact (mul_one _).trans (before_block m q t 7 c _ rfl)
  · rw [if_neg h0, if_pos (by omega), row_eq _ _ c ⟨t.val * 256 + (a.val + 256 - 1) % 256, by omega⟩ (by show t.val * 256 + (a.val + 256 - 1) % 256 = _; omega)]
    exact rows_block m q t _ c _ rfl

/-- The row itself. -/
theorem here_eq (t : Fin cfg0.N) (a : Fin 256) (c : Fin 2048) :
    iblk m q 0 t (ix2 a c) = tap (us m q) (t.val / 17) (t.val % 17 * 256 + a.val) 2 c := by
  have ht := point_lt t
  unfold tap
  rw [if_pos (by omega), row_eq _ _ c ⟨t.val * 256 + a.val, by omega⟩ (by show t.val * 256 + a.val = _; omega)]
  exact rows_block m q t _ c _ rfl

/-- The row after. -/
theorem oneAfter_eq (t : Fin cfg0.N) (a : Fin 256) (c : Fin 2048) :
    oneAfter (grid0.coords t) (iblk m q 0 t) (iblk m q 2 t) a c = tap (us m q) (t.val / 17) (t.val % 17 * 256 + a.val) 3 c := by
  have ht := point_lt t
  unfold oneAfter tap
  rw [after_at]
  by_cases h0 : a.val = 255
  · rw [if_pos h0]
    by_cases hf : t.val % 17 = 0 ∨ t.val % 17 = 16
    · rw [if_pos hf, if_neg (by omega)]
      exact mul_zero _
    · rw [if_neg hf, if_pos (by omega), row_eq _ _ c ⟨min ((t.val + 1) * 32) 2175 * 8 + 0, by omega⟩ (by show min ((t.val + 1) * 32) 2175 * 8 + 0 = _; omega)]
      exact (mul_one _).trans (after_block m q t 0 c _ rfl)
  · rw [if_neg h0, if_pos (by omega), row_eq _ _ c ⟨t.val * 256 + (a.val + 256 - 255) % 256, by omega⟩ (by show t.val * 256 + (a.val + 256 - 255) % 256 = _; omega)]
    exact rows_block m q t _ c _ rfl

/-- A block's convolution is the reference's at the block's rows. -/
theorem conv_eq (t : Fin cfg0.N) (a : Fin 256) (c : Fin 2048) :
    convAt (grid0.coords t) (iblk m q 0 t) (iblk m q 1 t) (iblk m q 2 t) (iblk m q 3 t) (iblk m q 4 t) a c = convOf (us m q) (ws m q) (bs m q) (t.val / 17) (t.val % 17 * 256 + a.val) c := by
  unfold convAt convOf
  rw [twoBefore_eq, oneBefore_eq, here_eq, oneAfter_eq, taps_block, taps_block, taps_block, taps_block, bias_block]

/-- A block's gates are the reference's. -/
theorem gate_eq (t : Fin cfg0.N) (d g : Fin 2) (a : Fin 256) (c : Fin 2048) :
    gate (fun k => convAt (grid0.coords t) (iblk m q 0 t) (iblk m q 1 t) (iblk m q 2 t) (iblk m q 3 t) (iblk m q 4 t) a ⟨c.val / 256 * 256 + k.val, by omega⟩)
      (fun k => iblk m q 5 t (ix5 d g ⟨c.val / 256, by omega⟩ k ⟨c.val % 256, by omega⟩)) (iblk m q 6 t (ix3 d g ⟨c.val / 256 * 256 + c.val % 256, by omega⟩))
      = gateOf (us m q) (ws m q) (bs m q) (gws m q) (gbs m q) d g (t.val / 17) (t.val % 17 * 256 + a.val) c := by
  unfold gateOf
  rw [show (fun k : Fin 256 => convAt (grid0.coords t) (iblk m q 0 t) (iblk m q 1 t) (iblk m q 2 t) (iblk m q 3 t) (iblk m q 4 t) a ⟨c.val / 256 * 256 + k.val, by omega⟩) = fun k => convOf (us m q) (ws m q) (bs m q) (t.val / 17) (t.val % 17 * 256 + a.val) ⟨c.val / 256 * 256 + k.val, by omega⟩
      from funext fun k => conv_eq m q t a _,
    show (fun k : Fin 256 => iblk m q 5 t (ix5 d g ⟨c.val / 256, by omega⟩ k ⟨c.val % 256, by omega⟩)) = fun k => gws m q (ix5 d g ⟨c.val / 256, by omega⟩ k ⟨c.val % 256, by omega⟩)
      from funext fun k => weight_block m q t d g _ k _,
    gate_bias_block, show (⟨c.val / 256 * 256 + c.val % 256, by omega⟩ : Fin 2048) = c from Fin.ext (by show c.val / 256 * 256 + c.val % 256 = c.val; omega)]

/-- And its decays' logarithms. -/
theorem log_eq (t : Fin cfg0.N) (d : Fin 2) (a : Fin 256) (c : Fin 2048) :
    logAt (grid0.coords t) (iblk m q 0 t) (iblk m q 1 t) (iblk m q 2 t) (iblk m q 3 t) (iblk m q 4 t) (iblk m q 5 t) (iblk m q 6 t) (iblk m q 7 t) d a ⟨c.val / 256, by omega⟩ ⟨c.val % 256, by omega⟩
      = logOf (us m q) (ws m q) (bs m q) (gws m q) (gbs m q) (lams m q) d (t.val / 17) (t.val % 17 * 256 + a.val) c := by
  unfold logAt logOf
  rw [← gate_eq m q t d 0 a c, lam_block]
  refine congrArg (fun z => logDecay _ (lams m q (ix2 d z))) (Fin.ext ?_)
  show c.val / 256 * 256 + c.val % 256 = c.val
  omega

/-- And its inputs' coefficients. -/
theorem input_eq (t : Fin cfg0.N) (d : Fin 2) (a : Fin 256) (c : Fin 2048) :
    inputAt (grid0.coords t) (iblk m q 0 t) (iblk m q 1 t) (iblk m q 2 t) (iblk m q 3 t) (iblk m q 4 t) (iblk m q 5 t) (iblk m q 6 t) (iblk m q 7 t) d a ⟨c.val / 256, by omega⟩ ⟨c.val % 256, by omega⟩
      = scale (logOf (us m q) (ws m q) (bs m q) (gws m q) (gbs m q) (lams m q) d (t.val / 17) (t.val % 17 * 256 + a.val) c)
        * (gateOf (us m q) (ws m q) (bs m q) (gws m q) (gbs m q) d 1 (t.val / 17) (t.val % 17 * 256 + a.val) c * convOf (us m q) (ws m q) (bs m q) (t.val / 17) (t.val % 17 * 256 + a.val) c) := by
  unfold inputAt
  rw [log_eq, ← gate_eq m q t d 1 a c, ← conv_eq m q t a c]
  refine congrArg (fun z => _ * (_ * convAt (grid0.coords t) (iblk m q 0 t) (iblk m q 1 t) (iblk m q 2 t) (iblk m q 3 t) (iblk m q 4 t) a z)) (Fin.ext ?_)
  show c.val / 256 * 256 + c.val % 256 = c.val
  omega

theorem result0_at (d : Fin 2) (r : Fin 17408) (c : Fin 2048) (s p : Nat) (hs : s = r.val / 4352) (hp : p = r.val % 4352) :
    result0 m q (ix3 d r c) = Ideal.exp (logOf (us m q) (ws m q) (bs m q) (gws m q) (gbs m q) (lams m q) d s p c) := by
  subst hs
  subst hp
  rfl

/-- What a grid point writes back of the decays is its block of the result. -/
theorem written8_at (t : Fin cfg0.N) (d : Fin 2) (a : Fin 256) (c : Fin 2048) :
    (dats m 0 q).after 8 t (ix3 d a c) = result0 m q (((cfg0.win 8).blk t).view.emb (ix3 d a c)) := by
  have ht := point_lt t
  have h0 := index_decays t
  rw [after0_8]
  refine (block8_at (grid0.coords t) (iblk m q 0 t) (iblk m q 1 t) (iblk m q 2 t) (iblk m q 3 t) (iblk m q 4 t) (iblk m q 5 t) (iblk m q 6 t) (iblk m q 7 t) d a ⟨c.val / 256, by omega⟩ ⟨c.val % 256, by omega⟩ c
    (by show c.val = c.val / 256 * 256 + c.val % 256; omega)).trans ?_
  rw [log_eq m q t d a c]
  obtain ⟨r, hr⟩ : ∃ r : Fin 17408, r.val = t.val * 256 + a.val := ⟨⟨t.val * 256 + a.val, by omega⟩, rfl⟩
  refine (result0_at m q d r c (t.val / 17) (t.val % 17 * 256 + a.val) (by omega) (by omega)).symm.trans (congrArg (result0 m q) ?_)
  funext z
  refine Fin.ext ?_
  match z with
  | ⟨0, _⟩ => blk_simp; show d.val = _; omega
  | ⟨1, _⟩ => blk_simp; show r.val = _; omega
  | ⟨2, _⟩ => blk_simp; show c.val = _; omega

theorem covered8 (x : S2x17408x2048.Idx) : ∃ t : Fin cfg0.N, (cfg0.win 8).flush t = true ∧ x ∈ ((cfg0.win 8).blk t).view.set := by
  have h0 : (x 0).val < 2 := (x 0).isLt
  have h1 : (x 1).val < 17408 := (x 1).isLt
  have h2 : (x 2).val < 2048 := (x 2).isLt
  obtain ⟨t, ht⟩ : ∃ t : Fin cfg0.N, t.val = (x 1).val / 256 :=
    ⟨⟨(x 1).val / 256, by rw [show cfg0.N = 68 from N_0]; omega⟩, rfl⟩
  refine ⟨t, flush0_8 t, ?_⟩
  have hi := index_decays t
  rw [ht] at hi
  mem_blk
  omega

/-- The array the kernel leaves of the decays. -/
theorem array8_eq : (dats m 0 q).arrAt 8 cfg0.N = result0 m q := by
  refine (dats m 0 q).arrAt_eq_of_emb 8 (result0 m q) (fun t _ y => ?_) covered8
  have hy : ∃ (d : Fin 2) (i : Fin 256) (j : Fin 2048), y = ix3 d i j := ⟨y 0, y 1, y 2, by
    funext a
    match a with
    | ⟨0, _⟩ => rfl
    | ⟨1, _⟩ => rfl
    | ⟨2, _⟩ => rfl⟩
  obtain ⟨d, i, j, rfl⟩ := hy
  exact written8_at m q t d i j

theorem result1_at (d : Fin 2) (r : Fin 17408) (c : Fin 2048) (s p : Nat) (hs : s = r.val / 4352) (hp : p = r.val % 4352) :
    result1 m q (ix3 d r c) = scale (logOf (us m q) (ws m q) (bs m q) (gws m q) (gbs m q) (lams m q) d s p c) * (gateOf (us m q) (ws m q) (bs m q) (gws m q) (gbs m q) d 1 s p c * convOf (us m q) (ws m q) (bs m q) s p c) := by
  subst hs
  subst hp
  rfl

/-- What a grid point writes back of the inputs is its block of the result. -/
theorem written9_at (t : Fin cfg0.N) (d : Fin 2) (a : Fin 256) (c : Fin 2048) :
    (dats m 0 q).after 9 t (ix3 d a c) = result1 m q (((cfg0.win 9).blk t).view.emb (ix3 d a c)) := by
  have ht := point_lt t
  have h0 := index_inputs t
  rw [after0_9]
  refine (block9_at (grid0.coords t) (iblk m q 0 t) (iblk m q 1 t) (iblk m q 2 t) (iblk m q 3 t) (iblk m q 4 t) (iblk m q 5 t) (iblk m q 6 t) (iblk m q 7 t) d a ⟨c.val / 256, by omega⟩ ⟨c.val % 256, by omega⟩ c
    (by show c.val = c.val / 256 * 256 + c.val % 256; omega)).trans ?_
  rw [input_eq m q t d a c]
  obtain ⟨r, hr⟩ : ∃ r : Fin 17408, r.val = t.val * 256 + a.val := ⟨⟨t.val * 256 + a.val, by omega⟩, rfl⟩
  refine (result1_at m q d r c (t.val / 17) (t.val % 17 * 256 + a.val) (by omega) (by omega)).symm.trans (congrArg (result1 m q) ?_)
  funext z
  refine Fin.ext ?_
  match z with
  | ⟨0, _⟩ => blk_simp; show d.val = _; omega
  | ⟨1, _⟩ => blk_simp; show r.val = _; omega
  | ⟨2, _⟩ => blk_simp; show c.val = _; omega

theorem covered9 (x : S2x17408x2048.Idx) : ∃ t : Fin cfg0.N, (cfg0.win 9).flush t = true ∧ x ∈ ((cfg0.win 9).blk t).view.set := by
  have h0 : (x 0).val < 2 := (x 0).isLt
  have h1 : (x 1).val < 17408 := (x 1).isLt
  have h2 : (x 2).val < 2048 := (x 2).isLt
  obtain ⟨t, ht⟩ : ∃ t : Fin cfg0.N, t.val = (x 1).val / 256 :=
    ⟨⟨(x 1).val / 256, by rw [show cfg0.N = 68 from N_0]; omega⟩, rfl⟩
  refine ⟨t, flush0_9 t, ?_⟩
  have hi := index_inputs t
  rw [ht] at hi
  mem_blk
  omega

/-- The array the kernel leaves of the inputs. -/
theorem array9_eq : (dats m 0 q).arrAt 9 cfg0.N = result1 m q := by
  refine (dats m 0 q).arrAt_eq_of_emb 9 (result1 m q) (fun t _ y => ?_) covered9
  have hy : ∃ (d : Fin 2) (i : Fin 256) (j : Fin 2048), y = ix3 d i j := ⟨y 0, y 1, y 2, by
    funext a
    match a with
    | ⟨0, _⟩ => rfl
    | ⟨1, _⟩ => rfl
    | ⟨2, _⟩ => rfl⟩
  obtain ⟨d, i, j, rfl⟩ := hy
  exact written9_at m q t d i j

/-- The kernel ends on every run, its arguments unchanged and its counters at zero. -/
theorem frame_kernel : Cert.quiescent_KernelGates (hKernelGates := Cert.KernelGates.Gen.facts) :=
  fun m ρ _ => Cert.KernelGates.Gen.frame m ρ

/-- The same of the kernel read over the extended reals. -/
theorem frame_kernel_ideal : Cert.quiescent_KernelGatesIdeal (hKernelGatesIdeal := Cert.KernelGatesIdeal.Gen.facts) :=
  fun m ρ _ => Cert.KernelGatesIdeal.Gen.frame m ρ

/-- The same of the reference read over the extended reals; it declares no semaphore. -/
theorem frame_reference_ideal : Cert.quiescent_ReferenceGatesIdeal (hReferenceGatesIdeal := Cert.ReferenceGatesIdeal.Gen.facts) := fun m ρ _ =>
  (θ_run Cert.ReferenceGatesIdeal.defs _ _).mono
    (fun r h => ⟨fun c => (h c).2.2, Idealize.ShloMosaic.sem_eq_zero_of_no_sems (by decide) r.2⟩)
    (Cert.ReferenceGatesIdeal.Value.run (F := Ideal) m ρ)

/-- Over the extended reals the kernel's two arrays are the reference's, whatever the arguments. -/
theorem kernel_is_reference : Cert.algebraic_KernelGatesIdeal_ReferenceGatesIdeal (hKernelGatesIdeal := Cert.KernelGatesIdeal.Gen.facts)
    (hReferenceGatesIdeal := Cert.ReferenceGatesIdeal.Gen.facts) := by
  intro m ρ m' ρ' _ hagree
  refine ⟨fun c => result0 m c, fun c => result1 m c, ?_, ?_⟩
  · exact (θ_run Cert.KernelGatesIdeal.defs _ _).mono
      (fun _ h c => ⟨(h c).1.trans (array8_eq m c), (h c).2.1.trans (array9_eq m c), (h c).2.2⟩)
      (Cert.KernelGatesIdeal.Value.run_blocks (F := Ideal) m ρ)
  · refine (θ_run Cert.ReferenceGatesIdeal.defs _ _).mono (fun _ h c =>
        ⟨(h c).1.trans ((Cert.ReferenceGatesIdeal.GatesValue.decays_eq (launchContents m' c)).trans ?_),
          (h c).2.1.trans ((Cert.ReferenceGatesIdeal.GatesValue.inputs_eq (launchContents m' c)).trans ?_), (h c).2.2⟩)
      (Cert.ReferenceGatesIdeal.Value.run (F := Ideal) m' ρ')
    · obtain ⟨e0, e1, e2, e3, e4, e5⟩ := hagree c
      show Cert.ReferenceGatesIdeal.GatesValue.decays
        (m' ((c.tc : Thread Cert.ReferenceGatesIdeal.nD Cert.ReferenceGatesIdeal.τ).loc Cert.ReferenceGatesIdeal.main_arg0))
        (m' ((c.tc : Thread Cert.ReferenceGatesIdeal.nD Cert.ReferenceGatesIdeal.τ).loc Cert.ReferenceGatesIdeal.main_arg1))
        (m' ((c.tc : Thread Cert.ReferenceGatesIdeal.nD Cert.ReferenceGatesIdeal.τ).loc Cert.ReferenceGatesIdeal.main_arg2))
        (m' ((c.tc : Thread Cert.ReferenceGatesIdeal.nD Cert.ReferenceGatesIdeal.τ).loc Cert.ReferenceGatesIdeal.main_arg3))
        (m' ((c.tc : Thread Cert.ReferenceGatesIdeal.nD Cert.ReferenceGatesIdeal.τ).loc Cert.ReferenceGatesIdeal.main_arg4))
        (m' ((c.tc : Thread Cert.ReferenceGatesIdeal.nD Cert.ReferenceGatesIdeal.τ).loc Cert.ReferenceGatesIdeal.main_arg5)) = _
      rw [e0, e1, e2, e3, e4, e5]
      rfl
    · obtain ⟨e0, e1, e2, e3, e4, e5⟩ := hagree c
      show Cert.ReferenceGatesIdeal.GatesValue.inputs
        (m' ((c.tc : Thread Cert.ReferenceGatesIdeal.nD Cert.ReferenceGatesIdeal.τ).loc Cert.ReferenceGatesIdeal.main_arg0))
        (m' ((c.tc : Thread Cert.ReferenceGatesIdeal.nD Cert.ReferenceGatesIdeal.τ).loc Cert.ReferenceGatesIdeal.main_arg1))
        (m' ((c.tc : Thread Cert.ReferenceGatesIdeal.nD Cert.ReferenceGatesIdeal.τ).loc Cert.ReferenceGatesIdeal.main_arg2))
        (m' ((c.tc : Thread Cert.ReferenceGatesIdeal.nD Cert.ReferenceGatesIdeal.τ).loc Cert.ReferenceGatesIdeal.main_arg3))
        (m' ((c.tc : Thread Cert.ReferenceGatesIdeal.nD Cert.ReferenceGatesIdeal.τ).loc Cert.ReferenceGatesIdeal.main_arg4))
        (m' ((c.tc : Thread Cert.ReferenceGatesIdeal.nD Cert.ReferenceGatesIdeal.τ).loc Cert.ReferenceGatesIdeal.main_arg5)) = _
      rw [e0, e1, e2, e3, e4, e5]
      rfl

end Cert.KernelGatesIdeal.GatesValue

end
-- ==== Proof.ProjDecayDown.lean ====
/-
  The first half of the delta rule's low-rank decay: 17408 rows of 2048 against the two directions' 96 columns, then `tanh`, in bf16. The
  kernel puts the directions' weights side by side, each filled up to 128 columns with zeros, and multiplies 512 rows by all of them.
-/
module

public import proofs.«01_k».proof.Defs
public import proofs.«01_k».proof.Proof.Gen.KernelDecayDown.Frame
public import proofs.«01_k».proof.Proof.Gen.KernelDecayDownIdeal.Value
public import proofs.«01_k».proof.Proof.Gen.ReferenceDecayDownIdeal.Run
public import Idealize.ShloMosaic.Lib.Pipeline.ValueKit
public import Idealize.ShloMosaic.Lib.Quiescent

@[expose] public section

set_option maxRecDepth 16384

noncomputable section

namespace Cert.KernelDecayDownIdeal.ProjValue

open Idealize.ShloMosaic Idealize.ShloMosaic.TcCoe Idealize.SL.Sem Idealize.ShloMosaic.StableHlo
open Cert.KernelDecayDownIdeal Cert.KernelDecayDownIdeal.Gen

theorem z2 : (![0, 0] : Fin 2 → Nat) = fun _ => 0 := funext fun a => by fin_cases a <;> rfl

theorem index_rows : ∀ t : Fin cfg0.N, win0_0.index t 0 = t.val ∧ win0_0.index t 1 = 0 :=
  (by decide +kernel : ∀ t : Fin grid0.N, win0_0.index t 0 = t.val ∧ win0_0.index t 1 = 0)
theorem index_columns : ∀ t : Fin cfg0.N, win0_1.index t 0 = 0 ∧ win0_1.index t 1 = 0 :=
  (by decide +kernel : ∀ t : Fin grid0.N, win0_1.index t 0 = 0 ∧ win0_1.index t 1 = 0)
theorem index_block : ∀ t : Fin cfg0.N, win0_2.index t 0 = t.val ∧ win0_2.index t 1 = 0 :=
  (by decide +kernel : ∀ t : Fin grid0.N, win0_2.index t 0 = t.val ∧ win0_2.index t 1 = 0)

theorem point_lt (t : Fin cfg0.N) : t.val < 34 := lt_of_lt_of_eq t.isLt (show cfg0.N = 34 from N_0)

variable (m : (ℓ : Loc nD τ sig) → Buf (Elt Ideal) ℓ) (q : Dev nD)

/-- The rows. -/
abbrev rows : (⟨S17408x2048, .bf16⟩ : BufTy).Contents (Elt Ideal) := m ((q.tc : Thread nD τ).loc main_arg0)
/-- The weights. -/
abbrev weights : (⟨S2x2048x96, .f32⟩ : BufTy).Contents (Elt Ideal) := m ((q.tc : Thread nD τ).loc main_arg1)

/-- The reference's array: the two directions' `tanh`s side by side, each with 32 columns of zeros. -/
abbrev result : (⟨S17408x256, .bf16⟩ : BufTy).Contents (Elt Ideal) :=
  truncf .bf16 (concatenate Cert.ReferenceDecayDownIdeal.S17408x256 1 [⟨Cert.ReferenceDecayDownIdeal.S17408x128, (pad Cert.ReferenceDecayDownIdeal.S17408x128 ![0, 0] ![0, 32] ![0, 0] (Host.tanh (Host.dotGeneral (F := Ideal) (φ₂ := .f32) Cert.ReferenceDecayDownIdeal.dot_S17408x2048_S2048x96_S17408x96_1_0_0_1_n_n none (extf .f32 (rows m q) Cert.ReferenceDecayDownIdeal.Gen.bitsLt_bf16_f32) (shapeCast _ (extractStridedSlice Cert.ReferenceDecayDownIdeal.S1x2048x96 ![0, 0, 0] (weights m q) Cert.ReferenceDecayDownIdeal.Gen.slices_S2x2048x96_S1x2048x96_0_0_0) Cert.ReferenceDecayDownIdeal.Gen.shapeCasts_S1x2048x96_S2048x96))) (sitofp .f32 (constantI Cert.ReferenceDecayDownIdeal.S_ 32 0#32)) Cert.ReferenceDecayDownIdeal.Gen.pads_S17408x96_S17408x128_000_0320 Cert.ReferenceDecayDownIdeal.Gen.h_S_)⟩,
    ⟨Cert.ReferenceDecayDownIdeal.S17408x128, (pad Cert.ReferenceDecayDownIdeal.S17408x128 ![0, 0] ![0, 32] ![0, 0] (Host.tanh (Host.dotGeneral (F := Ideal) (φ₂ := .f32) Cert.ReferenceDecayDownIdeal.dot_S17408x2048_S2048x96_S17408x96_1_0_0_1_n_n none (extf .f32 (rows m q) Cert.ReferenceDecayDownIdeal.Gen.bitsLt_bf16_f32) (shapeCast _ (extractStridedSlice Cert.ReferenceDecayDownIdeal.S1x2048x96 ![1, 0, 0] (weights m q) Cert.ReferenceDecayDownIdeal.Gen.slices_S2x2048x96_S1x2048x96_1_0_0) Cert.ReferenceDecayDownIdeal.Gen.shapeCasts_S1x2048x96_S2048x96))) (sitofp .f32 (constantI Cert.ReferenceDecayDownIdeal.S_ 32 0#32)) Cert.ReferenceDecayDownIdeal.Gen.pads_S17408x96_S17408x128_000_0320 Cert.ReferenceDecayDownIdeal.Gen.h_S_)⟩] Cert.ReferenceDecayDownIdeal.Gen.concatenates_S17408x128_S17408x128_S17408x256_d1) Cert.ReferenceDecayDownIdeal.Gen.bitsLt_bf16_f32

/-- The weights the kernel is entered with: the two directions' side by side, each with 32 columns of zeros. -/
def padded (w : (⟨S2x2048x96, .f32⟩ : BufTy).Contents (Elt Ideal)) : (⟨S2048x256, .bf16⟩ : BufTy).Contents (Elt Ideal) :=
  truncf .bf16 (concatenate S2048x256 1 [⟨S2048x128, (pad S2048x128 ![0, 0] ![0, 32] ![0, 0] (shapeCast S2048x96 (extractStridedSlice S1x2048x96 ![0, 0, 0] w slices_S2x2048x96_S1x2048x96_0_0_0) shapeCasts_S1x2048x96_S2048x96) (sitofp (F := Ideal) .f32 (constantI S_ 32 0#32)) pads_S2048x96_S2048x128_000_0320 h_S_)⟩,
    ⟨S2048x128, (pad S2048x128 ![0, 0] ![0, 32] ![0, 0] (shapeCast S2048x96 (extractStridedSlice S1x2048x96 ![1, 0, 0] w slices_S2x2048x96_S1x2048x96_1_0_0) shapeCasts_S1x2048x96_S2048x96) (sitofp (F := Ideal) .f32 (constantI S_ 32 0#32)) pads_S2048x96_S2048x128_000_0320 h_S_)⟩] concatenates_S2048x128_S2048x128_S2048x256_d1) bitsLt_bf16_f32

theorem no_number : (FloatOps.sitofp FTy.f32 0#32 : Ideal FTy.f32) = (0 : EReal) := by
  show (((0#32 : BitVec 32).toInt : ℝ) : EReal) = 0
  simp

/-- The entered weights at a column of direction `d`. -/
theorem padded_at (w : (⟨S2x2048x96, .f32⟩ : BufTy).Contents (Elt Ideal)) (e : Fin 2048) (k : Fin 256) (d : Fin 2) (c : Fin 96)
    (hk : k.val = d.val * 128 + c.val) : padded w (ix2 e k) = w (ix3 d e c) := by
  unfold padded
  pointwise
  by_cases h : k.val < 128
  · rw [dif_pos h, dif_pos (by omega)]
    exact congrArg₂ (fun (a : Fin 2) (b : Fin 96) => w (ix3 a e b)) (Fin.ext (by show 0 = d.val; omega)) (Fin.ext (by show k.val = c.val; omega))
  · rw [dif_neg h, dif_pos (by omega)]
    exact congrArg₂ (fun (a : Fin 2) (b : Fin 96) => w (ix3 a e b)) (Fin.ext (by show 1 = d.val; omega)) (Fin.ext (by show k.val - 128 = c.val; omega))

/-- And at a column of zeros. -/
theorem padded_zero (w : (⟨S2x2048x96, .f32⟩ : BufTy).Contents (Elt Ideal)) (e : Fin 2048) (k : Fin 256) (hk : 96 ≤ k.val % 128) :
    padded w (ix2 e k) = (0 : EReal) := by
  unfold padded
  pointwise
  by_cases h : k.val < 128
  · rw [dif_pos h, dif_neg (by omega)]
    exact no_number
  · rw [dif_neg h, dif_neg (by omega)]
    exact no_number

/-- The result at a column of direction `d`. -/
theorem result_at (r : Fin 17408) (k : Fin 256) (d : Fin 2) (c : Fin 96) (hk : k.val = d.val * 128 + c.val) :
    result m q (ix2 r k) = Ideal.tanh (∑ e : Fin 2048, rows m q (ix2 r e) * weights m q (ix3 d e c)) := by
  unfold result
  generalize rows m q = A
  generalize weights m q = W
  pointwise
  by_cases h : k.val < 128
  · rw [dif_pos h, dif_pos (by omega)]
    exact congrArg₂ (fun (a : Fin 2) (b : Fin 96) => Ideal.tanh (∑ x : Fin 2048, A (ix2 r x) * W (ix3 a x b))) (Fin.ext (by show 0 = d.val; omega)) (Fin.ext (by show k.val = c.val; omega))
  · rw [dif_neg h, dif_pos (by omega)]
    exact congrArg₂ (fun (a : Fin 2) (b : Fin 96) => Ideal.tanh (∑ x : Fin 2048, A (ix2 r x) * W (ix3 a x b))) (Fin.ext (by show 1 = d.val; omega)) (Fin.ext (by show k.val - 128 = c.val; omega))

/-- And at a column of zeros. -/
theorem result_zero (r : Fin 17408) (k : Fin 256) (hk : 96 ≤ k.val % 128) : result m q (ix2 r k) = (0 : EReal) := by
  unfold result
  generalize rows m q = A
  generalize weights m q = W
  pointwise
  by_cases h : k.val < 128
  · rw [dif_pos h, dif_neg (by omega)]
    exact no_number
  · rw [dif_neg h, dif_neg (by omega)]
    exact no_number

/-- What the body leaves at an index of its block. -/
theorem block_at (x0 : Vec Ideal S512x2048 .bf16) (x1 : Vec Ideal S2048x256 .bf16) (i : Fin 512) (j : Fin 256) :
    out0_2 x0 x1 (ix2 i j) = Ideal.tanh (∑ e : Fin 2048, x0 (ix2 i e) * x1 (ix2 e j)) := by
  unfold out0_2
  rw [View.canon_unit_zero z2]
  simp only [View.ld_unit_zero (S := S512x2048) z2, View.ld_unit_zero (S := S2048x256) z2]
  unfold k0_pay1
  pointwise

/-- The rows' block at a point. -/
theorem rows_block (t : Fin cfg0.N) (i : Fin 512) (e : Fin 2048) (r : Fin 17408) (hr : r.val = t.val * 512 + i.val) :
    iblk m q 0 t (ix2 i e) = rows m q (ix2 r e) := by
  have h0 := index_rows t
  blk_simp [iblk]
  refine (congrFun (V_main_arg0 m q) _).trans (congrArg _ ?_)
  funext a
  refine Fin.ext ?_
  match a with
  | ⟨0, _⟩ => blk_simp; show _ = r.val; omega
  | ⟨1, _⟩ => blk_simp; show _ = e.val; omega

theorem cast_weights : V m q main_v7 = padded (weights m q) := by
  unfold V
  after_reads_simp
  rfl

/-- The weights' block at a point. -/
theorem weights_block (t : Fin cfg0.N) (e : Fin 2048) (j : Fin 256) (k : Fin 256) (hk : k.val = j.val) :
    iblk m q 1 t (ix2 e j) = padded (weights m q) (ix2 e k) := by
  have h0 := index_columns t
  blk_simp [iblk]
  refine (congrFun (cast_weights m q) _).trans (congrArg _ ?_)
  funext a
  refine Fin.ext ?_
  match a with
  | ⟨0, _⟩ => blk_simp; show _ = e.val; omega
  | ⟨1, _⟩ => blk_simp; show _ = k.val; omega

theorem tanh_zero : Ideal.tanh (0 : EReal) = 0 := by
  show ((Real.tanh 0 : ℝ) : EReal) = 0
  rw [Real.tanh_zero, EReal.coe_zero]

/-- The product of a row with an entered column is the result's, at the columns of zeros as well. -/
theorem block_result (i : Fin 512) (j : Fin 256) (r : Fin 17408) (k : Fin 256) (x0 : Vec Ideal S512x2048 .bf16) (x1 : Vec Ideal S2048x256 .bf16)
    (h0 : ∀ e, x0 (ix2 i e) = rows m q (ix2 r e)) (h1 : ∀ e, x1 (ix2 e j) = padded (weights m q) (ix2 e k)) :
    Ideal.tanh (∑ e : Fin 2048, x0 (ix2 i e) * x1 (ix2 e j)) = result m q (ix2 r k) := by
  by_cases h : 96 ≤ k.val % 128
  · refine Eq.trans ?_ (result_zero m q r k h).symm
    have hz : ∑ e : Fin 2048, x0 (ix2 i e) * x1 (ix2 e j) = (0 : EReal) :=
      (Finset.sum_congr rfl fun e _ => (congrArg (x0 (ix2 i e) * ·) ((h1 e).trans (padded_zero _ e k h))).trans (mul_zero (M₀ := EReal) _)).trans Finset.sum_const_zero
    rw [hz]
    exact tanh_zero
  · have hc : k.val = (⟨k.val / 128, by omega⟩ : Fin 2).val * 128 + (⟨k.val % 128, by omega⟩ : Fin 96).val := by
      show k.val = k.val / 128 * 128 + k.val % 128
      omega
    refine Eq.trans ?_ (result_at m q r k _ _ hc).symm
    refine congrArg Ideal.tanh (Finset.sum_congr rfl fun e _ => ?_)
    exact congrArg₂ (· * ·) (h0 e) ((h1 e).trans (padded_at _ e k _ _ hc))

/-- What a grid point writes back is its block of the result. -/
theorem written_at (t : Fin cfg0.N) (i : Fin 512) (j : Fin 256) :
    (dats m 0 q).after 2 t (ix2 i j) = result m q (((cfg0.win 2).blk t).view.emb (ix2 i j)) := by
  have ht := point_lt t
  have h0 := index_block t
  rw [after0_2]
  refine (block_at (iblk m q 0 t) (iblk m q 1 t) i j).trans ?_
  obtain ⟨r, hr⟩ : ∃ r : Fin 17408, r.val = t.val * 512 + i.val := ⟨⟨t.val * 512 + i.val, by omega⟩, rfl⟩
  obtain ⟨k, hk⟩ : ∃ k : Fin 256, k.val = j.val := ⟨j, rfl⟩
  refine (block_result m q i j r k (iblk m q 0 t) (iblk m q 1 t) (fun e => rows_block m q t i e r hr) (fun e => weights_block m q t e j k hk)).trans (congrArg (result m q) ?_)
  funext a
  refine Fin.ext ?_
  match a with
  | ⟨0, _⟩ => blk_simp; show r.val = _; omega
  | ⟨1, _⟩ => blk_simp; show k.val = _; omega

/-- Every index of the array lies in the block of some grid point. -/
theorem covered (x : S17408x256.Idx) : ∃ t : Fin cfg0.N, (cfg0.win 2).flush t = true ∧ x ∈ ((cfg0.win 2).blk t).view.set := by
  have h0 : (x 0).val < 17408 := (x 0).isLt
  have h1 : (x 1).val < 256 := (x 1).isLt
  obtain ⟨t, ht⟩ : ∃ t : Fin cfg0.N, t.val = (x 0).val / 512 :=
    ⟨⟨(x 0).val / 512, by rw [show cfg0.N = 34 from N_0]; omega⟩, rfl⟩
  refine ⟨t, flush0_2 t, ?_⟩
  have hi := index_block t
  rw [ht] at hi
  mem_blk
  omega

/-- The array the kernel leaves. -/
theorem array_eq : (dats m 0 q).arrAt 2 cfg0.N = result m q := by
  refine (dats m 0 q).arrAt_eq_of_emb 2 (result m q) (fun t _ y => ?_) covered
  have hy : ∃ (i : Fin 512) (j : Fin 256), y = ix2 i j := ⟨y 0, y 1, by
    funext a
    match a with
    | ⟨0, _⟩ => rfl
    | ⟨1, _⟩ => rfl⟩
  obtain ⟨i, j, rfl⟩ := hy
  exact written_at m q t i j

/-- The kernel ends on every run, its arguments unchanged and its counters at zero. -/
theorem frame_kernel : Cert.quiescent_KernelDecayDown (hKernelDecayDown := Cert.KernelDecayDown.Gen.facts) :=
  fun m ρ _ => Cert.KernelDecayDown.Gen.frame m ρ

/-- The same of the kernel read over the extended reals. -/
theorem frame_kernel_ideal : Cert.quiescent_KernelDecayDownIdeal (hKernelDecayDownIdeal := Cert.KernelDecayDownIdeal.Gen.facts) :=
  fun m ρ _ => Cert.KernelDecayDownIdeal.Gen.frame m ρ

/-- The same of the reference read over the extended reals; it declares no semaphore. -/
theorem frame_reference_ideal : Cert.quiescent_ReferenceDecayDownIdeal (hReferenceDecayDownIdeal := Cert.ReferenceDecayDownIdeal.Gen.facts) := fun m ρ _ =>
  (θ_run Cert.ReferenceDecayDownIdeal.defs _ _).mono
    (fun r h => ⟨fun c => (h c).2, Idealize.ShloMosaic.sem_eq_zero_of_no_sems (by decide) r.2⟩)
    (Cert.ReferenceDecayDownIdeal.Value.run (F := Ideal) m ρ)

/-- Over the extended reals the kernel's array is the reference's, whatever the arguments. -/
theorem kernel_is_reference : Cert.algebraic_KernelDecayDownIdeal_ReferenceDecayDownIdeal (hKernelDecayDownIdeal := Cert.KernelDecayDownIdeal.Gen.facts)
    (hReferenceDecayDownIdeal := Cert.ReferenceDecayDownIdeal.Gen.facts) := by
  intro m ρ m' ρ' _ hagree
  refine ⟨fun c => result m c, ?_, ?_⟩
  · exact (θ_run Cert.KernelDecayDownIdeal.defs _ _).mono (fun _ h c => ⟨(h c).1.trans (array_eq m c), (h c).2⟩)
      (Cert.KernelDecayDownIdeal.Value.run_blocks (F := Ideal) m ρ)
  · refine (θ_run Cert.ReferenceDecayDownIdeal.defs _ _).mono (fun _ h c => ⟨(h c).1.trans ?_, (h c).2⟩)
      (Cert.ReferenceDecayDownIdeal.Value.run (F := Ideal) m' ρ')
    rw [(hagree c).1, (hagree c).2]

end Cert.KernelDecayDownIdeal.ProjValue

end
-- ==== Proof.ProjRateDown.lean ====
/-
  The first half of the delta rule's low-rank rate: 17408 rows of 2048 against the two directions' 96 columns, in bf16. The kernel puts
  the directions' weights side by side, each filled up to 128 columns with zeros, and multiplies 512 rows by all of them.
-/
module

public import proofs.«01_k».proof.Defs
public import proofs.«01_k».proof.Proof.Gen.KernelRateDown.Frame
public import proofs.«01_k».proof.Proof.Gen.KernelRateDownIdeal.Value
public import proofs.«01_k».proof.Proof.Gen.ReferenceRateDownIdeal.Run
public import Idealize.ShloMosaic.Lib.Pipeline.ValueKit
public import Idealize.ShloMosaic.Lib.Quiescent

@[expose] public section

set_option maxRecDepth 16384

noncomputable section

namespace Cert.KernelRateDownIdeal.ProjValue

open Idealize.ShloMosaic Idealize.ShloMosaic.TcCoe Idealize.SL.Sem Idealize.ShloMosaic.StableHlo
open Cert.KernelRateDownIdeal Cert.KernelRateDownIdeal.Gen

theorem z2 : (![0, 0] : Fin 2 → Nat) = fun _ => 0 := funext fun a => by fin_cases a <;> rfl

theorem index_rows : ∀ t : Fin cfg0.N, win0_0.index t 0 = t.val ∧ win0_0.index t 1 = 0 :=
  (by decide +kernel : ∀ t : Fin grid0.N, win0_0.index t 0 = t.val ∧ win0_0.index t 1 = 0)
theorem index_columns : ∀ t : Fin cfg0.N, win0_1.index t 0 = 0 ∧ win0_1.index t 1 = 0 :=
  (by decide +kernel : ∀ t : Fin grid0.N, win0_1.index t 0 = 0 ∧ win0_1.index t 1 = 0)
theorem index_block : ∀ t : Fin cfg0.N, win0_2.index t 0 = t.val ∧ win0_2.index t 1 = 0 :=
  (by decide +kernel : ∀ t : Fin grid0.N, win0_2.index t 0 = t.val ∧ win0_2.index t 1 = 0)

theorem point_lt (t : Fin cfg0.N) : t.val < 34 := lt_of_lt_of_eq t.isLt (show cfg0.N = 34 from N_0)

variable (m : (ℓ : Loc nD τ sig) → Buf (Elt Ideal) ℓ) (q : Dev nD)

/-- The rows. -/
abbrev rows : (⟨S17408x2048, .bf16⟩ : BufTy).Contents (Elt Ideal) := m ((q.tc : Thread nD τ).loc main_arg0)
/-- The weights. -/
abbrev weights : (⟨S2x2048x96, .f32⟩ : BufTy).Contents (Elt Ideal) := m ((q.tc : Thread nD τ).loc main_arg1)

/-- The reference's array: the two directions' products side by side, each with 32 columns of zeros. -/
abbrev result : (⟨S17408x256, .bf16⟩ : BufTy).Contents (Elt Ideal) :=
  truncf .bf16 (concatenate Cert.ReferenceRateDownIdeal.S17408x256 1 [⟨Cert.ReferenceRateDownIdeal.S17408x128, (pad Cert.ReferenceRateDownIdeal.S17408x128 ![0, 0] ![0, 32] ![0, 0] (Host.dotGeneral (F := Ideal) (φ₂ := .f32) Cert.ReferenceRateDownIdeal.dot_S17408x2048_S2048x96_S17408x96_1_0_0_1_n_n none (extf .f32 (rows m q) Cert.ReferenceRateDownIdeal.Gen.bitsLt_bf16_f32) (shapeCast _ (extractStridedSlice Cert.ReferenceRateDownIdeal.S1x2048x96 ![0, 0, 0] (weights m q) Cert.ReferenceRateDownIdeal.Gen.slices_S2x2048x96_S1x2048x96_0_0_0) Cert.ReferenceRateDownIdeal.Gen.shapeCasts_S1x2048x96_S2048x96)) (sitofp .f32 (constantI Cert.ReferenceRateDownIdeal.S_ 32 0#32)) Cert.ReferenceRateDownIdeal.Gen.pads_S17408x96_S17408x128_000_0320 Cert.ReferenceRateDownIdeal.Gen.h_S_)⟩,
    ⟨Cert.ReferenceRateDownIdeal.S17408x128, (pad Cert.ReferenceRateDownIdeal.S17408x128 ![0, 0] ![0, 32] ![0, 0] (Host.dotGeneral (F := Ideal) (φ₂ := .f32) Cert.ReferenceRateDownIdeal.dot_S17408x2048_S2048x96_S17408x96_1_0_0_1_n_n none (extf .f32 (rows m q) Cert.ReferenceRateDownIdeal.Gen.bitsLt_bf16_f32) (shapeCast _ (extractStridedSlice Cert.ReferenceRateDownIdeal.S1x2048x96 ![1, 0, 0] (weights m q) Cert.ReferenceRateDownIdeal.Gen.slices_S2x2048x96_S1x2048x96_1_0_0) Cert.ReferenceRateDownIdeal.Gen.shapeCasts_S1x2048x96_S2048x96)) (sitofp .f32 (constantI Cert.ReferenceRateDownIdeal.S_ 32 0#32)) Cert.ReferenceRateDownIdeal.Gen.pads_S17408x96_S17408x128_000_0320 Cert.ReferenceRateDownIdeal.Gen.h_S_)⟩] Cert.ReferenceRateDownIdeal.Gen.concatenates_S17408x128_S17408x128_S17408x256_d1) Cert.ReferenceRateDownIdeal.Gen.bitsLt_bf16_f32

/-- The weights the kernel is entered with: the two directions' side by side, each with 32 columns of zeros. -/
def padded (w : (⟨S2x2048x96, .f32⟩ : BufTy).Contents (Elt Ideal)) : (⟨S2048x256, .bf16⟩ : BufTy).Contents (Elt Ideal) :=
  truncf .bf16 (concatenate S2048x256 1 [⟨S2048x128, (pad S2048x128 ![0, 0] ![0, 32] ![0, 0] (shapeCast S2048x96 (extractStridedSlice S1x2048x96 ![0, 0, 0] w slices_S2x2048x96_S1x2048x96_0_0_0) shapeCasts_S1x2048x96_S2048x96) (sitofp (F := Ideal) .f32 (constantI S_ 32 0#32)) pads_S2048x96_S2048x128_000_0320 h_S_)⟩,
    ⟨S2048x128, (pad S2048x128 ![0, 0] ![0, 32] ![0, 0] (shapeCast S2048x96 (extractStridedSlice S1x2048x96 ![1, 0, 0] w slices_S2x2048x96_S1x2048x96_1_0_0) shapeCasts_S1x2048x96_S2048x96) (sitofp (F := Ideal) .f32 (constantI S_ 32 0#32)) pads_S2048x96_S2048x128_000_0320 h_S_)⟩] concatenates_S2048x128_S2048x128_S2048x256_d1) bitsLt_bf16_f32

theorem no_number : (FloatOps.sitofp FTy.f32 0#32 : Ideal FTy.f32) = (0 : EReal) := by
  show (((0#32 : BitVec 32).toInt : ℝ) : EReal) = 0
  simp

/-- The entered weights at a column of direction `d`. -/
theorem padded_at (w : (⟨S2x2048x96, .f32⟩ : BufTy).Contents (Elt Ideal)) (e : Fin 2048) (k : Fin 256) (d : Fin 2) (c : Fin 96)
    (hk : k.val = d.val * 128 + c.val) : padded w (ix2 e k) = w (ix3 d e c) := by
  unfold padded
  pointwise
  by_cases h : k.val < 128
  · rw [dif_pos h, dif_pos (by omega)]
    exact congrArg₂ (fun (a : Fin 2) (b : Fin 96) => w (ix3 a e b)) (Fin.ext (by show 0 = d.val; omega)) (Fin.ext (by show k.val = c.val; omega))
  · rw [dif_neg h, dif_pos (by omega)]
    exact congrArg₂ (fun (a : Fin 2) (b : Fin 96) => w (ix3 a e b)) (Fin.ext (by show 1 = d.val; omega)) (Fin.ext (by show k.val - 128 = c.val; omega))

/-- And at a column of zeros. -/
theorem padded_zero (w : (⟨S2x2048x96, .f32⟩ : BufTy).Contents (Elt Ideal)) (e : Fin 2048) (k : Fin 256) (hk : 96 ≤ k.val % 128) :
    padded w (ix2 e k) = (0 : EReal) := by
  unfold padded
  pointwise
  by_cases h : k.val < 128
  · rw [dif_pos h, dif_neg (by omega)]
    exact no_number
  · rw [dif_neg h, dif_neg (by omega)]
    exact no_number

/-- The result at a column of direction `d`. -/
theorem result_at (r : Fin 17408) (k : Fin 256) (d : Fin 2) (c : Fin 96) (hk : k.val = d.val * 128 + c.val) :
    result m q (ix2 r k) = ∑ e : Fin 2048, rows m q (ix2 r e) * weights m q (ix3 d e c) := by
  unfold result
  generalize rows m q = A
  generalize weights m q = W
  pointwise
  by_cases h : k.val < 128
  · rw [dif_pos h, dif_pos (by omega)]
    exact congrArg₂ (fun (a : Fin 2) (b : Fin 96) => ∑ x : Fin 2048, A (ix2 r x) * W (ix3 a x b)) (Fin.ext (by show 0 = d.val; omega)) (Fin.ext (by show k.val = c.val; omega))
  · rw [dif_neg h, dif_pos (by omega)]
    exact congrArg₂ (fun (a : Fin 2) (b : Fin 96) => ∑ x : Fin 2048, A (ix2 r x) * W (ix3 a x b)) (Fin.ext (by show 1 = d.val; omega)) (Fin.ext (by show k.val - 128 = c.val; omega))

/-- And at a column of zeros. -/
theorem result_zero (r : Fin 17408) (k : Fin 256) (hk : 96 ≤ k.val % 128) : result m q (ix2 r k) = (0 : EReal) := by
  unfold result
  generalize rows m q = A
  generalize weights m q = W
  pointwise
  by_cases h : k.val < 128
  · rw [dif_pos h, dif_neg (by omega)]
    exact no_number
  · rw [dif_neg h, dif_neg (by omega)]
    exact no_number

/-- What the body leaves at an index of its block. -/
theorem block_at (x0 : Vec Ideal S512x2048 .bf16) (x1 : Vec Ideal S2048x256 .bf16) (i : Fin 512) (j : Fin 256) :
    out0_2 x0 x1 (ix2 i j) = ∑ e : Fin 2048, x0 (ix2 i e) * x1 (ix2 e j) := by
  unfold out0_2
  rw [View.canon_unit_zero z2]
  simp only [View.ld_unit_zero (S := S512x2048) z2, View.ld_unit_zero (S := S2048x256) z2]
  unfold k0_pay1
  pointwise

/-- The rows' block at a point. -/
theorem rows_block (t : Fin cfg0.N) (i : Fin 512) (e : Fin 2048) (r : Fin 17408) (hr : r.val = t.val * 512 + i.val) :
    iblk m q 0 t (ix2 i e) = rows m q (ix2 r e) := by
  have h0 := index_rows t
  blk_simp [iblk]
  refine (congrFun (V_main_arg0 m q) _).trans (congrArg _ ?_)
  funext a
  refine Fin.ext ?_
  match a with
  | ⟨0, _⟩ => blk_simp; show _ = r.val; omega
  | ⟨1, _⟩ => blk_simp; show _ = e.val; omega

theorem cast_weights : V m q main_v7 = padded (weights m q) := by
  unfold V
  after_reads_simp
  rfl

/-- The weights' block at a point. -/
theorem weights_block (t : Fin cfg0.N) (e : Fin 2048) (j : Fin 256) (k : Fin 256) (hk : k.val = j.val) :
    iblk m q 1 t (ix2 e j) = padded (weights m q) (ix2 e k) := by
  have h0 := index_columns t
  blk_simp [iblk]
  refine (congrFun (cast_weights m q) _).trans (congrArg _ ?_)
  funext a
  refine Fin.ext ?_
  match a with
  | ⟨0, _⟩ => blk_simp; show _ = e.val; omega
  | ⟨1, _⟩ => blk_simp; show _ = k.val; omega

/-- The product of a row with an entered column is the result's, at the columns of zeros as well. -/
theorem block_result (i : Fin 512) (j : Fin 256) (r : Fin 17408) (k : Fin 256) (x0 : Vec Ideal S512x2048 .bf16) (x1 : Vec Ideal S2048x256 .bf16)
    (h0 : ∀ e, x0 (ix2 i e) = rows m q (ix2 r e)) (h1 : ∀ e, x1 (ix2 e j) = padded (weights m q) (ix2 e k)) :
    ∑ e : Fin 2048, x0 (ix2 i e) * x1 (ix2 e j) = result m q (ix2 r k) := by
  by_cases h : 96 ≤ k.val % 128
  · refine Eq.trans ?_ (result_zero m q r k h).symm
    have hz : ∑ e : Fin 2048, x0 (ix2 i e) * x1 (ix2 e j) = (0 : EReal) :=
      (Finset.sum_congr rfl fun e _ => (congrArg (x0 (ix2 i e) * ·) ((h1 e).trans (padded_zero _ e k h))).trans (mul_zero (M₀ := EReal) _)).trans Finset.sum_const_zero
    exact hz
  · have hc : k.val = (⟨k.val / 128, by omega⟩ : Fin 2).val * 128 + (⟨k.val % 128, by omega⟩ : Fin 96).val := by
      show k.val = k.val / 128 * 128 + k.val % 128
      omega
    refine Eq.trans ?_ (result_at m q r k _ _ hc).symm
    refine Finset.sum_congr rfl fun e _ => ?_
    exact congrArg₂ (· * ·) (h0 e) ((h1 e).trans (padded_at _ e k _ _ hc))

/-- What a grid point writes back is its block of the result. -/
theorem written_at (t : Fin cfg0.N) (i : Fin 512) (j : Fin 256) :
    (dats m 0 q).after 2 t (ix2 i j) = result m q (((cfg0.win 2).blk t).view.emb (ix2 i j)) := by
  have ht := point_lt t
  have h0 := index_block t
  rw [after0_2]
  refine (block_at (iblk m q 0 t) (iblk m q 1 t) i j).trans ?_
  obtain ⟨r, hr⟩ : ∃ r : Fin 17408, r.val = t.val * 512 + i.val := ⟨⟨t.val * 512 + i.val, by omega⟩, rfl⟩
  obtain ⟨k, hk⟩ : ∃ k : Fin 256, k.val = j.val := ⟨j, rfl⟩
  refine (block_result m q i j r k (iblk m q 0 t) (iblk m q 1 t) (fun e => rows_block m q t i e r hr) (fun e => weights_block m q t e j k hk)).trans (congrArg (result m q) ?_)
  funext a
  refine Fin.ext ?_
  match a with
  | ⟨0, _⟩ => blk_simp; show r.val = _; omega
  | ⟨1, _⟩ => blk_simp; show k.val = _; omega

/-- Every index of the array lies in the block of some grid point. -/
theorem covered (x : S17408x256.Idx) : ∃ t : Fin cfg0.N, (cfg0.win 2).flush t = true ∧ x ∈ ((cfg0.win 2).blk t).view.set := by
  have h0 : (x 0).val < 17408 := (x 0).isLt
  have h1 : (x 1).val < 256 := (x 1).isLt
  obtain ⟨t, ht⟩ : ∃ t : Fin cfg0.N, t.val = (x 0).val / 512 :=
    ⟨⟨(x 0).val / 512, by rw [show cfg0.N = 34 from N_0]; omega⟩, rfl⟩
  refine ⟨t, flush0_2 t, ?_⟩
  have hi := index_block t
  rw [ht] at hi
  mem_blk
  omega

/-- The array the kernel leaves. -/
theorem array_eq : (dats m 0 q).arrAt 2 cfg0.N = result m q := by
  refine (dats m 0 q).arrAt_eq_of_emb 2 (result m q) (fun t _ y => ?_) covered
  have hy : ∃ (i : Fin 512) (j : Fin 256), y = ix2 i j := ⟨y 0, y 1, by
    funext a
    match a with
    | ⟨0, _⟩ => rfl
    | ⟨1, _⟩ => rfl⟩
  obtain ⟨i, j, rfl⟩ := hy
  exact written_at m q t i j

/-- The kernel ends on every run, its arguments unchanged and its counters at zero. -/
theorem frame_kernel : Cert.quiescent_KernelRateDown (hKernelRateDown := Cert.KernelRateDown.Gen.facts) :=
  fun m ρ _ => Cert.KernelRateDown.Gen.frame m ρ

/-- The same of the kernel read over the extended reals. -/
theorem frame_kernel_ideal : Cert.quiescent_KernelRateDownIdeal (hKernelRateDownIdeal := Cert.KernelRateDownIdeal.Gen.facts) :=
  fun m ρ _ => Cert.KernelRateDownIdeal.Gen.frame m ρ

/-- The same of the reference read over the extended reals; it declares no semaphore. -/
theorem frame_reference_ideal : Cert.quiescent_ReferenceRateDownIdeal (hReferenceRateDownIdeal := Cert.ReferenceRateDownIdeal.Gen.facts) := fun m ρ _ =>
  (θ_run Cert.ReferenceRateDownIdeal.defs _ _).mono
    (fun r h => ⟨fun c => (h c).2, Idealize.ShloMosaic.sem_eq_zero_of_no_sems (by decide) r.2⟩)
    (Cert.ReferenceRateDownIdeal.Value.run (F := Ideal) m ρ)

/-- Over the extended reals the kernel's array is the reference's, whatever the arguments. -/
theorem kernel_is_reference : Cert.algebraic_KernelRateDownIdeal_ReferenceRateDownIdeal (hKernelRateDownIdeal := Cert.KernelRateDownIdeal.Gen.facts)
    (hReferenceRateDownIdeal := Cert.ReferenceRateDownIdeal.Gen.facts) := by
  intro m ρ m' ρ' _ hagree
  refine ⟨fun c => result m c, ?_, ?_⟩
  · exact (θ_run Cert.KernelRateDownIdeal.defs _ _).mono (fun _ h c => ⟨(h c).1.trans (array_eq m c), (h c).2⟩)
      (Cert.KernelRateDownIdeal.Value.run_blocks (F := Ideal) m ρ)
  · refine (θ_run Cert.ReferenceRateDownIdeal.defs _ _).mono (fun _ h c => ⟨(h c).1.trans ?_, (h c).2⟩)
      (Cert.ReferenceRateDownIdeal.Value.run (F := Ideal) m' ρ')
    rw [(hagree c).1, (hagree c).2]

end Cert.KernelRateDownIdeal.ProjValue

end
-- ==== Proof.ProjPairUp.lean ====
/-
  The second half of the delta rule's low-rank pairs: of 17408 rows either direction's 96 columns against its weights. The kernel reads
  128 columns for a direction and fills the weights up to 128 rows with zeros.
-/
module

public import proofs.«01_k».proof.Defs
public import proofs.«01_k».proof.Proof.Gen.KernelPairUp.Frame
public import proofs.«01_k».proof.Proof.Gen.KernelPairUpIdeal.Value
public import proofs.«01_k».proof.Proof.Gen.ReferencePairUpIdeal.Run
public import Idealize.ShloMosaic.Lib.Pipeline.ValueKit
public import Idealize.ShloMosaic.Lib.Quiescent

@[expose] public section

set_option maxRecDepth 16384

noncomputable section

namespace Cert.KernelPairUpIdeal.ProjValue

open Idealize.ShloMosaic Idealize.ShloMosaic.TcCoe Idealize.SL.Sem Idealize.ShloMosaic.StableHlo
open Cert.KernelPairUpIdeal Cert.KernelPairUpIdeal.Gen

theorem z2 : (![0, 0] : Fin 2 → Nat) = fun _ => 0 := funext fun a => by fin_cases a <;> rfl
theorem z3 : (![0, 0, 0] : Fin 3 → Nat) = fun _ => 0 := funext fun a => by fin_cases a <;> rfl

theorem index_rows : ∀ t : Fin cfg0.N, win0_0.index t 0 = t.val % 136 / 4 ∧ win0_0.index t 1 = t.val / 136 :=
  (by decide +kernel : ∀ t : Fin grid0.N, win0_0.index t 0 = t.val % 136 / 4 ∧ win0_0.index t 1 = t.val / 136)
theorem index_columns : ∀ t : Fin cfg0.N, win0_1.index t 0 = t.val / 136 ∧ win0_1.index t 1 = 0 ∧ win0_1.index t 2 = t.val % 4 :=
  (by decide +kernel : ∀ t : Fin grid0.N, win0_1.index t 0 = t.val / 136 ∧ win0_1.index t 1 = 0 ∧ win0_1.index t 2 = t.val % 4)
theorem index_block : ∀ t : Fin cfg0.N, win0_2.index t 0 = t.val / 136 ∧ win0_2.index t 1 = t.val % 136 / 4 ∧ win0_2.index t 2 = t.val % 4 :=
  (by decide +kernel : ∀ t : Fin grid0.N, win0_2.index t 0 = t.val / 136 ∧ win0_2.index t 1 = t.val % 136 / 4 ∧ win0_2.index t 2 = t.val % 4)

theorem point_lt (t : Fin cfg0.N) : t.val < 272 := lt_of_lt_of_eq t.isLt (show cfg0.N = 272 from N_0)

variable (m : (ℓ : Loc nD τ sig) → Buf (Elt Ideal) ℓ) (q : Dev nD)

/-- The rows. -/
abbrev rows : (⟨S17408x256, .bf16⟩ : BufTy).Contents (Elt Ideal) := m ((q.tc : Thread nD τ).loc main_arg0)
/-- The weights. -/
abbrev weights : (⟨S2x96x2048, .f32⟩ : BufTy).Contents (Elt Ideal) := m ((q.tc : Thread nD τ).loc main_arg1)

/-- The reference's array: the two directions' products. -/
abbrev result : (⟨S2x17408x2048, .f32⟩ : BufTy).Contents (Elt Ideal) :=
  concatenate Cert.ReferencePairUpIdeal.S2x17408x2048 0 [⟨Cert.ReferencePairUpIdeal.S1x17408x2048, (broadcastInDim Cert.ReferencePairUpIdeal.S1x17408x2048 ![1, 2] Cert.ReferencePairUpIdeal.Gen.bcast_S17408x2048_S1x17408x2048_1_2 (Host.dotGeneral (F := Ideal) (φ₂ := .f32) Cert.ReferencePairUpIdeal.dot_S17408x96_S96x2048_S17408x2048_1_0_0_1_n_n none (extractStridedSlice Cert.ReferencePairUpIdeal.S17408x96 ![0, 0] (extf .f32 (rows m q) Cert.ReferencePairUpIdeal.Gen.bitsLt_bf16_f32) Cert.ReferencePairUpIdeal.Gen.slices_S17408x256_S17408x96_0_0) (shapeCast _ (extractStridedSlice Cert.ReferencePairUpIdeal.S1x96x2048 ![0, 0, 0] (weights m q) Cert.ReferencePairUpIdeal.Gen.slices_S2x96x2048_S1x96x2048_0_0_0) Cert.ReferencePairUpIdeal.Gen.shapeCasts_S1x96x2048_S96x2048)))⟩,
    ⟨Cert.ReferencePairUpIdeal.S1x17408x2048, (broadcastInDim Cert.ReferencePairUpIdeal.S1x17408x2048 ![1, 2] Cert.ReferencePairUpIdeal.Gen.bcast_S17408x2048_S1x17408x2048_1_2 (Host.dotGeneral (F := Ideal) (φ₂ := .f32) Cert.ReferencePairUpIdeal.dot_S17408x96_S96x2048_S17408x2048_1_0_0_1_n_n none (extractStridedSlice Cert.ReferencePairUpIdeal.S17408x96 ![0, 128] (extf .f32 (rows m q) Cert.ReferencePairUpIdeal.Gen.bitsLt_bf16_f32) Cert.ReferencePairUpIdeal.Gen.slices_S17408x256_S17408x96_0_128) (shapeCast _ (extractStridedSlice Cert.ReferencePairUpIdeal.S1x96x2048 ![1, 0, 0] (weights m q) Cert.ReferencePairUpIdeal.Gen.slices_S2x96x2048_S1x96x2048_1_0_0) Cert.ReferencePairUpIdeal.Gen.shapeCasts_S1x96x2048_S96x2048)))⟩] Cert.ReferencePairUpIdeal.Gen.concatenates_S1x17408x2048_S1x17408x2048_S2x17408x2048_d0

/-- The weights the kernel is entered with: either direction's filled up with 32 rows of zeros. -/
def padded (w : (⟨S2x96x2048, .f32⟩ : BufTy).Contents (Elt Ideal)) : (⟨S2x128x2048, .bf16⟩ : BufTy).Contents (Elt Ideal) :=
  truncf .bf16 (concatenate S2x128x2048 0 [⟨S1x128x2048, (broadcastInDim S1x128x2048 ![1, 2] bcast_S128x2048_S1x128x2048_1_2 (pad S128x2048 ![0, 0] ![32, 0] ![0, 0] (shapeCast S96x2048 (extractStridedSlice S1x96x2048 ![0, 0, 0] w slices_S2x96x2048_S1x96x2048_0_0_0) shapeCasts_S1x96x2048_S96x2048) (sitofp (F := Ideal) .f32 (constantI S_ 32 0#32)) pads_S96x2048_S128x2048_0320_000 h_S_))⟩,
    ⟨S1x128x2048, (broadcastInDim S1x128x2048 ![1, 2] bcast_S128x2048_S1x128x2048_1_2 (pad S128x2048 ![0, 0] ![32, 0] ![0, 0] (shapeCast S96x2048 (extractStridedSlice S1x96x2048 ![1, 0, 0] w slices_S2x96x2048_S1x96x2048_1_0_0) shapeCasts_S1x96x2048_S96x2048) (sitofp (F := Ideal) .f32 (constantI S_ 32 0#32)) pads_S96x2048_S128x2048_0320_000 h_S_))⟩] concatenates_S1x128x2048_S1x128x2048_S2x128x2048_d0) bitsLt_bf16_f32

theorem no_number : (FloatOps.sitofp FTy.f32 0#32 : Ideal FTy.f32) = (0 : EReal) := by
  show (((0#32 : BitVec 32).toInt : ℝ) : EReal) = 0
  simp

/-- The entered weights at a row of the weights. -/
theorem padded_at (w : (⟨S2x96x2048, .f32⟩ : BufTy).Contents (Elt Ideal)) (d : Fin 2) (e : Fin 128) (k : Fin 2048) (c : Fin 96)
    (he : e.val = c.val) : padded w (ix3 d e k) = w (ix3 d c k) := by
  unfold padded
  pointwise
  by_cases h : d.val < 1
  · rw [dif_pos h, dif_pos (by omega)]
    exact congrArg₂ (fun (a : Fin 2) (b : Fin 96) => w (ix3 a b k)) (Fin.ext (by show 0 = d.val; omega)) (Fin.ext he)
  · rw [dif_neg h, dif_pos (by omega)]
    exact congrArg₂ (fun (a : Fin 2) (b : Fin 96) => w (ix3 a b k)) (Fin.ext (by show 1 = d.val; omega)) (Fin.ext he)

/-- And at a row of zeros. -/
theorem padded_zero (w : (⟨S2x96x2048, .f32⟩ : BufTy).Contents (Elt Ideal)) (d : Fin 2) (e : Fin 128) (k : Fin 2048) (he : 96 ≤ e.val) :
    padded w (ix3 d e k) = (0 : EReal) := by
  unfold padded
  pointwise
  by_cases h : d.val < 1
  · rw [dif_pos h, dif_neg (by omega)]
    exact no_number
  · rw [dif_neg h, dif_neg (by omega)]
    exact no_number

/-- The result at an index. -/
theorem result_at (d : Fin 2) (r : Fin 17408) (k : Fin 2048) :
    result m q (ix3 d r k) = ∑ c : Fin 96, rows m q (ix2 r ⟨d.val * 128 + c.val, by omega⟩) * weights m q (ix3 d c k) := by
  unfold result
  generalize rows m q = A
  generalize weights m q = W
  pointwise
  by_cases h : d.val < 1
  · rw [dif_pos h]
    refine Finset.sum_congr rfl fun c _ => congrArg₂ (fun (a : Fin 256) (b : Fin 2) => A (ix2 r a) * W (ix3 b c k)) (Fin.ext ?_) (Fin.ext ?_)
    · show c.val = d.val * 128 + c.val
      omega
    · show 0 = d.val
      omega
  · rw [dif_neg h]
    refine Finset.sum_congr rfl fun c _ => congrArg₂ (fun (a : Fin 256) (b : Fin 2) => A (ix2 r a) * W (ix3 b c k)) (Fin.ext ?_) (Fin.ext ?_)
    · show 128 + c.val = d.val * 128 + c.val
      omega
    · show 1 = d.val
      omega

/-- What the body leaves at an index of its block. -/
theorem block_at (x0 : Vec Ideal S512x128 .bf16) (x1 : Vec Ideal S1x128x512 .bf16) (i j : Fin 512) :
    out0_2 x0 x1 (ix3 0 i j) = ∑ e : Fin 128, x0 (ix2 i e) * x1 (ix3 0 e j) := by
  unfold out0_2
  rw [View.canon_unit_zero z3]
  simp only [View.ld_unit_zero (S := S512x128) z2, View.ld_unit_zero (S := S1x128x512) z3]
  unfold k0_pay1
  pointwise

/-- The rows' block at a point. -/
theorem rows_block (t : Fin cfg0.N) (i : Fin 512) (e : Fin 128) (r : Fin 17408) (hr : r.val = t.val % 136 / 4 * 512 + i.val)
    (b : Fin 256) (hb : b.val = t.val / 136 * 128 + e.val) : iblk m q 0 t (ix2 i e) = rows m q (ix2 r b) := by
  have h0 := index_rows t
  blk_simp [iblk]
  refine (congrFun (V_main_arg0 m q) _).trans (congrArg _ ?_)
  funext a
  refine Fin.ext ?_
  match a with
  | ⟨0, _⟩ => blk_simp; show _ = r.val; omega
  | ⟨1, _⟩ => blk_simp; show _ = b.val; omega

theorem cast_weights : V m q main_v9 = padded (weights m q) := by
  unfold V
  after_reads_simp
  rfl

/-- The weights' block at a point. -/
theorem weights_block (t : Fin cfg0.N) (e : Fin 128) (j : Fin 512) (d : Fin 2) (hd : d.val = t.val / 136) (k : Fin 2048)
    (hk : k.val = t.val % 4 * 512 + j.val) : iblk m q 1 t (ix3 0 e j) = padded (weights m q) (ix3 d e k) := by
  have h0 := index_columns t
  blk_simp [iblk]
  refine (congrFun (cast_weights m q) _).trans (congrArg _ ?_)
  funext a
  refine Fin.ext ?_
  match a with
  | ⟨0, _⟩ => blk_simp; show _ = d.val; omega
  | ⟨1, _⟩ => blk_simp; show _ = e.val; omega
  | ⟨2, _⟩ => blk_simp; show _ = k.val; omega

/-- The product over 128 columns is the result's over 96: the others meet zeros. -/
theorem block_result (i j : Fin 512) (d : Fin 2) (r : Fin 17408) (k : Fin 2048) (x0 : Vec Ideal S512x128 .bf16) (x1 : Vec Ideal S1x128x512 .bf16)
    (h0 : ∀ e : Fin 128, x0 (ix2 i e) = rows m q (ix2 r ⟨d.val * 128 + e.val, by omega⟩))
    (h1 : ∀ e : Fin 128, x1 (ix3 0 e j) = padded (weights m q) (ix3 d e k)) :
    ∑ e : Fin 128, x0 (ix2 i e) * x1 (ix3 0 e j) = result m q (ix3 d r k) := by
  rw [result_at]
  refine (Fin.sum_univ_add (M := EReal) (a := 96) (b := 32) (fun e : Fin (96 + 32) => x0 (ix2 i e) * x1 (ix3 0 e j))).trans ?_
  have hz : ∑ e : Fin 32, x0 (ix2 i (Fin.natAdd 96 e)) * x1 (ix3 0 (Fin.natAdd 96 e) j) = (0 : EReal) :=
    (Finset.sum_congr rfl fun e _ => (congrArg (x0 (ix2 i (Fin.natAdd 96 e)) * ·) ((h1 (Fin.natAdd 96 e)).trans (padded_zero _ d _ k (by show 96 ≤ 96 + e.val; omega)))).trans (mul_zero (M₀ := EReal) _)).trans Finset.sum_const_zero
  refine (congrArg (∑ e : Fin 96, x0 (ix2 i (Fin.castAdd 32 e)) * x1 (ix3 0 (Fin.castAdd 32 e) j) + ·) hz).trans ((add_zero (M := EReal) _).trans ?_)
  exact Finset.sum_congr rfl fun e _ => congrArg₂ (· * ·) (h0 (Fin.castAdd 32 e)) ((h1 (Fin.castAdd 32 e)).trans (padded_at _ d _ k e rfl))

/-- What a grid point writes back is its block of the result. -/
theorem written_at (t : Fin cfg0.N) (i j : Fin 512) :
    (dats m 0 q).after 2 t (ix3 0 i j) = result m q (((cfg0.win 2).blk t).view.emb (ix3 0 i j)) := by
  have ht := point_lt t
  have h0 := index_block t
  rw [after0_2]
  refine (block_at (iblk m q 0 t) (iblk m q 1 t) i j).trans ?_
  obtain ⟨d, hd⟩ : ∃ d : Fin 2, d.val = t.val / 136 := ⟨⟨t.val / 136, by omega⟩, rfl⟩
  obtain ⟨r, hr⟩ : ∃ r : Fin 17408, r.val = t.val % 136 / 4 * 512 + i.val := ⟨⟨t.val % 136 / 4 * 512 + i.val, by omega⟩, rfl⟩
  obtain ⟨k, hk⟩ : ∃ k : Fin 2048, k.val = t.val % 4 * 512 + j.val := ⟨⟨t.val % 4 * 512 + j.val, by omega⟩, rfl⟩
  refine (block_result m q i j d r k (iblk m q 0 t) (iblk m q 1 t)
    (fun e => rows_block m q t i e r hr _ (by show d.val * 128 + e.val = _; omega)) (fun e => weights_block m q t e j d hd k hk)).trans (congrArg (result m q) ?_)
  funext a
  refine Fin.ext ?_
  match a with
  | ⟨0, _⟩ => blk_simp; show d.val = _; omega
  | ⟨1, _⟩ => blk_simp; show r.val = _; omega
  | ⟨2, _⟩ => blk_simp; show k.val = _; omega

/-- Every index of the array lies in the block of some grid point. -/
theorem covered (x : S2x17408x2048.Idx) : ∃ t : Fin cfg0.N, (cfg0.win 2).flush t = true ∧ x ∈ ((cfg0.win 2).blk t).view.set := by
  have h0 : (x 0).val < 2 := (x 0).isLt
  have h1 : (x 1).val < 17408 := (x 1).isLt
  have h2 : (x 2).val < 2048 := (x 2).isLt
  obtain ⟨t, ht⟩ : ∃ t : Fin cfg0.N, t.val = (x 0).val * 136 + (x 1).val / 512 * 4 + (x 2).val / 512 :=
    ⟨⟨(x 0).val * 136 + (x 1).val / 512 * 4 + (x 2).val / 512, by rw [show cfg0.N = 272 from N_0]; omega⟩, rfl⟩
  refine ⟨t, flush0_2 t, ?_⟩
  have hi := index_block t
  rw [ht] at hi
  mem_blk
  omega

/-- The array the kernel leaves. -/
theorem array_eq : (dats m 0 q).arrAt 2 cfg0.N = result m q := by
  refine (dats m 0 q).arrAt_eq_of_emb 2 (result m q) (fun t _ y => ?_) covered
  have hy : ∃ (i j : Fin 512), y = ix3 0 i j := ⟨y 1, y 2, by
    funext a
    match a with
    | ⟨0, _⟩ => exact Subsingleton.elim (α := Fin 1) _ _
    | ⟨1, _⟩ => rfl
    | ⟨2, _⟩ => rfl⟩
  obtain ⟨i, j, rfl⟩ := hy
  exact written_at m q t i j

/-- The kernel ends on every run, its arguments unchanged and its counters at zero. -/
theorem frame_kernel : Cert.quiescent_KernelPairUp (hKernelPairUp := Cert.KernelPairUp.Gen.facts) :=
  fun m ρ _ => Cert.KernelPairUp.Gen.frame m ρ

/-- The same of the kernel read over the extended reals. -/
theorem frame_kernel_ideal : Cert.quiescent_KernelPairUpIdeal (hKernelPairUpIdeal := Cert.KernelPairUpIdeal.Gen.facts) :=
  fun m ρ _ => Cert.KernelPairUpIdeal.Gen.frame m ρ

/-- The same of the reference read over the extended reals; it declares no semaphore. -/
theorem frame_reference_ideal : Cert.quiescent_ReferencePairUpIdeal (hReferencePairUpIdeal := Cert.ReferencePairUpIdeal.Gen.facts) := fun m ρ _ =>
  (θ_run Cert.ReferencePairUpIdeal.defs _ _).mono
    (fun r h => ⟨fun c => (h c).2, Idealize.ShloMosaic.sem_eq_zero_of_no_sems (by decide) r.2⟩)
    (Cert.ReferencePairUpIdeal.Value.run (F := Ideal) m ρ)

/-- Over the extended reals the kernel's array is the reference's, whatever the arguments. -/
theorem kernel_is_reference : Cert.algebraic_KernelPairUpIdeal_ReferencePairUpIdeal (hKernelPairUpIdeal := Cert.KernelPairUpIdeal.Gen.facts)
    (hReferencePairUpIdeal := Cert.ReferencePairUpIdeal.Gen.facts) := by
  intro m ρ m' ρ' _ hagree
  refine ⟨fun c => result m c, ?_, ?_⟩
  · exact (θ_run Cert.KernelPairUpIdeal.defs _ _).mono (fun _ h c => ⟨(h c).1.trans (array_eq m c), (h c).2⟩)
      (Cert.KernelPairUpIdeal.Value.run_blocks (F := Ideal) m ρ)
  · refine (θ_run Cert.ReferencePairUpIdeal.defs _ _).mono (fun _ h c => ⟨(h c).1.trans ?_, (h c).2⟩)
      (Cert.ReferencePairUpIdeal.Value.run (F := Ideal) m' ρ')
    rw [(hagree c).1, (hagree c).2]

end Cert.KernelPairUpIdeal.ProjValue

end
-- ==== Proof.Mid.lean ====
/-
  The norm before the feed-forward part: the weighted sum of the stream and the mixer's gated output, normed over its 2048 columns, and
  the same moved by the layer's own modulation, once by rows and once by columns. The tables and lemmas of the layer's last call serve
  here as well; only the vectors, the casts to bf16 and the transposed array differ.
-/
module

public import proofs.«01_k».proof.Defs
public import proofs.«01_k».proof.Proof.Gen.KernelMid.Frame
public import proofs.«01_k».proof.Proof.Gen.KernelMidIdeal.Value
public import proofs.«01_k».proof.Proof.Gen.ReferenceMidIdeal.Run
public import proofs.«01_k».proof.Proof.Norm
public import Idealize.ShloMosaic.Lib.Pipeline.ValueKit
public import Idealize.ShloMosaic.Lib.Quiescent

@[expose] public section

set_option maxRecDepth 16384

noncomputable section

namespace Cert.ReferenceMidIdeal.MidValue

open Idealize.ShloMosaic Idealize.ShloMosaic.TcCoe Idealize.SL.Sem Idealize.ShloMosaic.StableHlo
open Cert.ReferenceMidIdeal Cert.ReferenceMidIdeal.Gen
open Cert.ReferenceNormIdeal.NormValue (comb mean normed moved vecAt Arr sequences sequences_at joined joined_context joined_latents
  contextComb contextComb_at contextNormed contextNormed_at contextMoved contextMoved_at latentsComb latentsComb_at latentsNormed
  latentsNormed_at latentsMoved latentsMoved_at)

/-- The context's modulation vector 2. -/
def contextVec2 (M : Arr S6x2048) : Arr S2048 :=
  shapeCast _ (extractStridedSlice S1x2048 ![2, 0] M slices_S6x2048_S1x2048_2_0) shapeCasts_S1x2048_S2048

theorem contextVec2_at (M : Arr S6x2048) (e : Fin 2048) : contextVec2 M (ix1 e) = M (ix2 2 e) := by
  unfold contextVec2
  pointwise

/-- The latents' modulation vector 2. -/
def latentsVec2 (M : Arr S4x6x2048) : Arr S4x1x2048 :=
  extractStridedSlice S4x1x2048 ![0, 0, 4096] (shapeCast _ (broadcastInDim S4x1x6x2048 ![0, 2, 3] bcast_S4x6x2048_S4x1x6x2048_0_2_3 M) shapeCasts_S4x1x6x2048_S4x1x12288) slices_S4x1x12288_S4x1x2048_0_0_4096

theorem latentsVec2_at (M : Arr S4x6x2048) (b : Fin 4) (e : Fin 2048) : latentsVec2 M (ix3 b 0 e) = M (ix3 b 2 e) := by
  unfold latentsVec2
  pointwise
  exact congrArg₂ (fun x y => M (ix3 b x y)) (Fin.ext (by show (4096 + e.val) / 2048 = 2; omega)) rfl

/-- The context's modulation vector 4. -/
def contextVec4 (M : Arr S6x2048) : Arr S2048 :=
  shapeCast _ (extractStridedSlice S1x2048 ![4, 0] M slices_S6x2048_S1x2048_4_0) shapeCasts_S1x2048_S2048

theorem contextVec4_at (M : Arr S6x2048) (e : Fin 2048) : contextVec4 M (ix1 e) = M (ix2 4 e) := by
  unfold contextVec4
  pointwise

/-- The latents' modulation vector 4. -/
def latentsVec4 (M : Arr S4x6x2048) : Arr S4x1x2048 :=
  extractStridedSlice S4x1x2048 ![0, 0, 8192] (shapeCast _ (broadcastInDim S4x1x6x2048 ![0, 2, 3] bcast_S4x6x2048_S4x1x6x2048_0_2_3 M) shapeCasts_S4x1x6x2048_S4x1x12288) slices_S4x1x12288_S4x1x2048_0_0_8192

theorem latentsVec4_at (M : Arr S4x6x2048) (b : Fin 4) (e : Fin 2048) : latentsVec4 M (ix3 b 0 e) = M (ix3 b 4 e) := by
  unfold latentsVec4
  pointwise
  exact congrArg₂ (fun x y => M (ix3 b x y)) (Fin.ext (by show (8192 + e.val) / 2048 = 4; omega)) rfl

/-- The context's modulation vector 3. -/
def contextVec3 (M : Arr S6x2048) : Arr S2048 :=
  shapeCast _ (extractStridedSlice S1x2048 ![3, 0] M slices_S6x2048_S1x2048_3_0) shapeCasts_S1x2048_S2048

theorem contextVec3_at (M : Arr S6x2048) (e : Fin 2048) : contextVec3 M (ix1 e) = M (ix2 3 e) := by
  unfold contextVec3
  pointwise

/-- The latents' modulation vector 3. -/
def latentsVec3 (M : Arr S4x6x2048) : Arr S4x1x2048 :=
  extractStridedSlice S4x1x2048 ![0, 0, 6144] (shapeCast _ (broadcastInDim S4x1x6x2048 ![0, 2, 3] bcast_S4x6x2048_S4x1x6x2048_0_2_3 M) shapeCasts_S4x1x6x2048_S4x1x12288) slices_S4x1x12288_S4x1x2048_0_0_6144

theorem latentsVec3_at (M : Arr S4x6x2048) (b : Fin 4) (e : Fin 2048) : latentsVec3 M (ix3 b 0 e) = M (ix3 b 3 e) := by
  unfold latentsVec3
  pointwise
  exact congrArg₂ (fun x y => M (ix3 b x y)) (Fin.ext (by show (6144 + e.val) / 2048 = 3; omega)) rfl

section

variable (x y : Arr S17408x2048) (M : Arr S6x2048) (L : Arr S4x6x2048) (g b : Arr S2048)

/-- The context's normed rows. -/
def context : Arr S4x256x2048 := contextNormed (contextComb (sequences x) (sequences y) (contextVec2 M)) g b
/-- The latents' normed rows. -/
def latents : Arr S4x4096x2048 := latentsNormed (latentsComb (sequences x) (sequences y) (latentsVec2 L)) g b

/-- The reference's normed rows. -/
def stream : Arr S17408x2048 := joined (context x y M g b) (latents x y L g b)

/-- The reference's normed and moved rows. -/
def next : Arr S17408x2048 :=
  joined (contextMoved (context x y M g b) (contextVec4 M) (contextVec3 M)) (latentsMoved (latents x y L g b) (latentsVec4 L) (latentsVec3 L))

/-- A row's normed values. -/
def rowNormed (r : Fin 17408) (s : Fin 4) (p : Fin 4352) (e : Fin 2048) : EReal :=
  normed (comb (fun e => x (ix2 r e)) (fun e => y (ix2 r e)) (vecAt M L 2 s p)) (fun e => g (ix1 e)) (fun e => b (ix1 e)) e

theorem context_at (r : Fin 17408) (s : Fin 4) (p : Fin 4352) (hr : r.val = s.val * 4352 + p.val) (c : Fin 256) (hc : p.val = c.val) (e : Fin 2048) :
    context x y M g b (ix3 s c e) = rowNormed x y M L g b r s p e := by
  unfold context rowNormed
  rw [contextNormed_at]
  refine congrArg (fun u => normed u (fun e => g (ix1 e)) (fun e => b (ix1 e)) e) (funext fun e => ?_)
  rw [contextComb_at _ _ _ s c p hc e]
  unfold comb vecAt
  beta_reduce
  rw [if_pos (show p.val < 256 by omega), sequences_at x s p e r hr, sequences_at y s p e r hr, contextVec2_at]

theorem latents_at (r : Fin 17408) (s : Fin 4) (p : Fin 4352) (hr : r.val = s.val * 4352 + p.val) (c : Fin 4096) (hc : p.val = 256 + c.val) (e : Fin 2048) :
    latents x y L g b (ix3 s c e) = rowNormed x y M L g b r s p e := by
  unfold latents rowNormed
  rw [latentsNormed_at]
  refine congrArg (fun u => normed u (fun e => g (ix1 e)) (fun e => b (ix1 e)) e) (funext fun e => ?_)
  rw [latentsComb_at _ _ _ s c p hc e]
  unfold comb vecAt
  beta_reduce
  rw [if_neg (show ¬ p.val < 256 by omega), sequences_at x s p e r hr, sequences_at y s p e r hr, latentsVec2_at]

/-- The normed rows at an index: `s` is the row's sequence and `p` its place there. -/
theorem stream_at (r : Fin 17408) (s : Fin 4) (p : Fin 4352) (hr : r.val = s.val * 4352 + p.val) (e : Fin 2048) :
    stream x y M L g b (ix2 r e) = rowNormed x y M L g b r s p e := by
  unfold stream
  by_cases hp : p.val < 256
  · rw [joined_context _ _ r s ⟨p.val, hp⟩ e hr]
    exact context_at x y M L g b r s p hr ⟨p.val, hp⟩ rfl e
  · have hc : p.val = 256 + (p.val - 256) := by omega
    rw [joined_latents _ _ r s ⟨p.val - 256, by omega⟩ e (by show r.val = s.val * 4352 + (256 + (p.val - 256)); omega)]
    exact latents_at x y M L g b r s p hr ⟨p.val - 256, by omega⟩ hc e

/-- The moved rows at an index. -/
theorem next_at (r : Fin 17408) (s : Fin 4) (p : Fin 4352) (hr : r.val = s.val * 4352 + p.val) (e : Fin 2048) :
    next x y M L g b (ix2 r e) = moved (rowNormed x y M L g b r s p e) (vecAt M L 4 s p e) (vecAt M L 3 s p e) := by
  unfold next vecAt
  by_cases hp : p.val < 256
  · rw [joined_context _ _ r s ⟨p.val, hp⟩ e hr, contextMoved_at, contextVec4_at, contextVec3_at, if_pos hp, if_pos hp,
      context_at x y M L g b r s p hr ⟨p.val, hp⟩ rfl e]
  · have hc : p.val = 256 + (p.val - 256) := by omega
    rw [joined_latents _ _ r s ⟨p.val - 256, by omega⟩ e (by show r.val = s.val * 4352 + (256 + (p.val - 256)); omega),
      latentsMoved_at, latentsVec4_at, latentsVec3_at, if_neg hp, if_neg hp,
      latents_at x y M L g b r s p hr ⟨p.val - 256, by omega⟩ hc e]

/-- The same by columns. -/
def turned : Arr S2048x17408 := transpose S2048x17408 [1, 0] (next x y M L g b) transposes_S17408x2048_S2048x17408_1_0

theorem turned_at (e : Fin 2048) (r : Fin 17408) : turned x y M L g b (ix2 e r) = next x y M L g b (ix2 r e) := by
  unfold turned
  pointwise

end

end Cert.ReferenceMidIdeal.MidValue

namespace Cert.KernelMidIdeal.MidValue

open Idealize.ShloMosaic Idealize.ShloMosaic.TcCoe Idealize.SL.Sem Idealize.ShloMosaic.StableHlo
open Cert.KernelMidIdeal Cert.KernelMidIdeal.Gen
open Cert.ReferenceNormIdeal.NormValue (comb mean normed moved vecAt Arr)
open Cert.ReferenceMidIdeal.MidValue (rowNormed stream next turned stream_at next_at turned_at)

theorem z2 : (![0, 0] : Fin 2 → Nat) = fun _ => 0 := funext fun a => by fin_cases a <;> rfl

theorem index_stream : ∀ t : Fin cfg0.N, win0_0.index t 0 = t.val ∧ win0_0.index t 1 = 0 :=
  (by decide +kernel : ∀ t : Fin grid0.N, win0_0.index t 0 = t.val ∧ win0_0.index t 1 = 0)
theorem index_output : ∀ t : Fin cfg0.N, win0_1.index t 0 = t.val ∧ win0_1.index t 1 = 0 :=
  (by decide +kernel : ∀ t : Fin grid0.N, win0_1.index t 0 = t.val ∧ win0_1.index t 1 = 0)
theorem index_normed : ∀ t : Fin cfg0.N, win0_6.index t 0 = t.val ∧ win0_6.index t 1 = 0 :=
  (by decide +kernel : ∀ t : Fin grid0.N, win0_6.index t 0 = t.val ∧ win0_6.index t 1 = 0)
theorem index_moved : ∀ t : Fin cfg0.N, win0_7.index t 0 = t.val ∧ win0_7.index t 1 = 0 :=
  (by decide +kernel : ∀ t : Fin grid0.N, win0_7.index t 0 = t.val ∧ win0_7.index t 1 = 0)
theorem index_turned : ∀ t : Fin cfg0.N, win0_8.index t 0 = 0 ∧ win0_8.index t 1 = t.val :=
  (by decide +kernel : ∀ t : Fin grid0.N, win0_8.index t 0 = 0 ∧ win0_8.index t 1 = t.val)
theorem index_gate : ∀ t : Fin cfg0.N, win0_2.index t 0 = t.val / 17 ∧ win0_2.index t 1 = (if t.val % 17 = 0 then 0 else 1) ∧ win0_2.index t 2 = 0 ∧ win0_2.index t 3 = 0 :=
  (by decide +kernel : ∀ t : Fin grid0.N, win0_2.index t 0 = t.val / 17 ∧ win0_2.index t 1 = (if t.val % 17 = 0 then 0 else 1) ∧ win0_2.index t 2 = 0 ∧ win0_2.index t 3 = 0)
theorem index_next : ∀ t : Fin cfg0.N, win0_3.index t 0 = t.val / 17 ∧ win0_3.index t 1 = (if t.val % 17 = 0 then 0 else 1) ∧ win0_3.index t 2 = 0 ∧ win0_3.index t 3 = 0 :=
  (by decide +kernel : ∀ t : Fin grid0.N, win0_3.index t 0 = t.val / 17 ∧ win0_3.index t 1 = (if t.val % 17 = 0 then 0 else 1) ∧ win0_3.index t 2 = 0 ∧ win0_3.index t 3 = 0)
theorem index_weight : ∀ t : Fin cfg0.N, win0_4.index t 0 = 0 ∧ win0_4.index t 1 = 0 :=
  (by decide +kernel : ∀ t : Fin grid0.N, win0_4.index t 0 = 0 ∧ win0_4.index t 1 = 0)
theorem index_bias : ∀ t : Fin cfg0.N, win0_5.index t 0 = 0 ∧ win0_5.index t 1 = 0 :=
  (by decide +kernel : ∀ t : Fin grid0.N, win0_5.index t 0 = 0 ∧ win0_5.index t 1 = 0)

theorem point_lt (t : Fin cfg0.N) : t.val < 68 := lt_of_lt_of_eq t.isLt (show cfg0.N = 68 from N_0)

/-- What the body leaves of the normed rows at an index of its block. -/
theorem normed_block_at (x0 x1 : Vec Ideal S256x2048 .f32) (x2 x3 : Vec Ideal S1x1x6x2048 .f32) (x4 x5 : Vec Ideal S1x2048 .f32) (i : Fin 256) (j : Fin 2048) :
    k0_pay4 (View.ld x0 r0_0) (View.ld x2 r0_1) (View.ld x1 r0_0) (View.ld x4 r0_2) (View.ld x5 r0_2) (ix2 i j)
      = normed (comb (fun e => x0 (ix2 i e)) (fun e => x1 (ix2 i e)) (fun e => x2 (ix4 0 0 2 e))) (fun e => x4 (ix2 0 e)) (fun e => x5 (ix2 0 e)) j := by
  have h2 (e : Fin 2048) : View.ld x2 r0_1 (ix4 0 0 0 e) = x2 (ix4 0 0 2 e) := by
    refine congrArg x2 ?_
    funext a
    refine Fin.ext ?_
    match a with
    | ⟨0, _⟩ => rfl
    | ⟨1, _⟩ => rfl
    | ⟨2, _⟩ => rfl
    | ⟨3, _⟩ => show 0 + 1 * e.val = e.val; omega
  rw [show (fun e => x2 (ix4 0 0 2 e)) = fun e => View.ld x2 r0_1 (ix4 0 0 0 e) from funext fun e => (h2 e).symm]
  simp only [View.ld_unit_zero (S := S256x2048) z2, View.ld_unit_zero (S := S1x2048) z2]
  generalize View.ld x2 r0_1 = y2
  unfold k0_pay4
  pointwise
  rfl

theorem block6_at (x0 x1 : Vec Ideal S256x2048 .f32) (x2 x3 : Vec Ideal S1x1x6x2048 .f32) (x4 x5 : Vec Ideal S1x2048 .f32) (i : Fin 256) (j : Fin 2048) :
    out0_6 x0 x1 x2 x3 x4 x5 (ix2 i j)
      = normed (comb (fun e => x0 (ix2 i e)) (fun e => x1 (ix2 i e)) (fun e => x2 (ix4 0 0 2 e))) (fun e => x4 (ix2 0 e)) (fun e => x5 (ix2 0 e)) j := by
  unfold out0_6
  rw [View.canon_unit_zero z2]
  exact normed_block_at x0 x1 x2 x3 x4 x5 i j

theorem block7_at (x0 x1 : Vec Ideal S256x2048 .f32) (x2 x3 : Vec Ideal S1x1x6x2048 .f32) (x4 x5 : Vec Ideal S1x2048 .f32) (i : Fin 256) (j : Fin 2048) :
    out0_7 x0 x1 x2 x3 x4 x5 (ix2 i j) = moved (normed (comb (fun e => x0 (ix2 i e)) (fun e => x1 (ix2 i e)) (fun e => x2 (ix4 0 0 2 e))) (fun e => x4 (ix2 0 e)) (fun e => x5 (ix2 0 e)) j)
        (x3 (ix4 0 0 4 j)) (x3 (ix4 0 0 3 j)) := by
  unfold out0_7
  rw [View.canon_unit_zero z2, ← normed_block_at x0 x1 x2 x3 x4 x5 i j]
  unfold k0_pay5
  have h1 : View.ld x3 r0_3 (ix4 0 0 0 j) = x3 (ix4 0 0 4 j) := by
    refine congrArg x3 ?_
    funext a
    refine Fin.ext ?_
    match a with
    | ⟨0, _⟩ => rfl
    | ⟨1, _⟩ => rfl
    | ⟨2, _⟩ => rfl
    | ⟨3, _⟩ => show 0 + 1 * j.val = j.val; omega
  have h0 : View.ld x3 r0_4 (ix4 0 0 0 j) = x3 (ix4 0 0 3 j) := by
    refine congrArg x3 ?_
    funext a
    refine Fin.ext ?_
    match a with
    | ⟨0, _⟩ => rfl
    | ⟨1, _⟩ => rfl
    | ⟨2, _⟩ => rfl
    | ⟨3, _⟩ => show 0 + 1 * j.val = j.val; omega
  rw [← h1, ← h0]
  generalize k0_pay4 (View.ld x0 r0_0) (View.ld x2 r0_1) (View.ld x1 r0_0) (View.ld x4 r0_2) (View.ld x5 r0_2) = N
  generalize View.ld x3 r0_3 = y1
  generalize View.ld x3 r0_4 = y0
  unfold k0_pay2 k0_pay1
  pointwise
  rfl

theorem block8_at (x0 x1 : Vec Ideal S256x2048 .f32) (x2 x3 : Vec Ideal S1x1x6x2048 .f32) (x4 x5 : Vec Ideal S1x2048 .f32) (i : Fin 256) (j : Fin 2048) :
    out0_8 x0 x1 x2 x3 x4 x5 (ix2 j i) = moved (normed (comb (fun e => x0 (ix2 i e)) (fun e => x1 (ix2 i e)) (fun e => x2 (ix4 0 0 2 e))) (fun e => x4 (ix2 0 e)) (fun e => x5 (ix2 0 e)) j)
        (x3 (ix4 0 0 4 j)) (x3 (ix4 0 0 3 j)) := by
  unfold out0_8
  rw [View.canon_unit_zero z2, ← normed_block_at x0 x1 x2 x3 x4 x5 i j]
  unfold k0_pay5
  have h1 : View.ld x3 r0_3 (ix4 0 0 0 j) = x3 (ix4 0 0 4 j) := by
    refine congrArg x3 ?_
    funext a
    refine Fin.ext ?_
    match a with
    | ⟨0, _⟩ => rfl
    | ⟨1, _⟩ => rfl
    | ⟨2, _⟩ => rfl
    | ⟨3, _⟩ => show 0 + 1 * j.val = j.val; omega
  have h0 : View.ld x3 r0_4 (ix4 0 0 0 j) = x3 (ix4 0 0 3 j) := by
    refine congrArg x3 ?_
    funext a
    refine Fin.ext ?_
    match a with
    | ⟨0, _⟩ => rfl
    | ⟨1, _⟩ => rfl
    | ⟨2, _⟩ => rfl
    | ⟨3, _⟩ => show 0 + 1 * j.val = j.val; omega
  rw [← h1, ← h0]
  generalize k0_pay4 (View.ld x0 r0_0) (View.ld x2 r0_1) (View.ld x1 r0_0) (View.ld x4 r0_2) (View.ld x5 r0_2) = N
  generalize View.ld x3 r0_3 = y1
  generalize View.ld x3 r0_4 = y0
  unfold k0_pay3 k0_pay1
  pointwise
  rfl

variable (m : (ℓ : Loc nD τ sig) → Buf (Elt Ideal) ℓ) (q : Dev nD)

/-- The stream. -/
abbrev xs : Arr S17408x2048 := m ((q.tc : Thread nD τ).loc main_arg0)
/-- The mixer's output. -/
abbrev ys : Arr S17408x2048 := m ((q.tc : Thread nD τ).loc main_arg1)
/-- The context's modulation vectors. -/
abbrev own : Arr S6x2048 := m ((q.tc : Thread nD τ).loc main_arg2)
/-- The sequences' modulation vectors. -/
abbrev each : Arr S4x6x2048 := m ((q.tc : Thread nD τ).loc main_arg3)
/-- The norm's weights. -/
abbrev gs : Arr S2048 := m ((q.tc : Thread nD τ).loc main_arg4)
/-- The norm's biases. -/
abbrev bs : Arr S2048 := m ((q.tc : Thread nD τ).loc main_arg5)

/-- The reference's first result at the kernel's arguments. -/
def result0 : Arr S17408x2048 := stream (xs m q) (ys m q) (own m q) (each m q) (gs m q) (bs m q)
/-- The reference's second result at the kernel's arguments. -/
def result1 : (⟨S17408x2048, .bf16⟩ : BufTy).Contents (Elt Ideal) := next (xs m q) (ys m q) (own m q) (each m q) (gs m q) (bs m q)

/-- The reference's third result at the kernel's arguments. -/
def result2 : (⟨S2048x17408, .bf16⟩ : BufTy).Contents (Elt Ideal) := turned (xs m q) (ys m q) (own m q) (each m q) (gs m q) (bs m q)

/-- The modulation vectors as the kernel is entered with: for each sequence, the context's beside its own. -/
def beside (M : Arr S6x2048) (L : Arr S4x6x2048) : Arr S4x2x6x2048 :=
  concatenate S4x2x6x2048 1 [⟨S4x1x6x2048, (broadcastInDim S4x1x6x2048 ![0, 2, 3] bcast_S4x6x2048_S4x1x6x2048_0_2_3 (broadcastInDim S4x6x2048 ![1, 2] bcast_S6x2048_S4x6x2048_1_2 M))⟩,
    ⟨S4x1x6x2048, (broadcastInDim S4x1x6x2048 ![0, 2, 3] bcast_S4x6x2048_S4x1x6x2048_0_2_3 L)⟩] concatenates_S4x1x6x2048_S4x1x6x2048_S4x2x6x2048_d1

theorem beside_at (M : Arr S6x2048) (L : Arr S4x6x2048) (b : Fin 4) (d : Fin 2) (k : Fin 6) (e : Fin 2048) :
    beside M L (ix4 b d k e) = if d.val < 1 then M (ix2 k e) else L (ix3 b k e) := by
  unfold beside
  pointwise
  by_cases h : d.val < 1
  · rw [dif_pos h, if_pos h]
  · rw [dif_neg h, if_neg h]

theorem gate_entered : V m q main_v3 = beside (own m q) (each m q) := by
  unfold V
  after_reads_simp
  rfl

theorem weight_entered : V m q main_v4 = shapeCast _ (gs m q) shapeCasts_S2048_S1x2048 := by
  unfold V
  after_reads_simp
  rfl

theorem bias_entered : V m q main_v5 = shapeCast _ (bs m q) shapeCasts_S2048_S1x2048 := by
  unfold V
  after_reads_simp
  rfl

theorem asRow_at (x : Arr S2048) (e : Fin 2048) : shapeCast S1x2048 x shapeCasts_S2048_S1x2048 (ix2 0 e) = x (ix1 e) := by
  pointwise

/-- The stream's block at a point. -/
theorem stream_block (t : Fin cfg0.N) (i : Fin 256) (e : Fin 2048) (r : Fin 17408) (hr : r.val = t.val * 256 + i.val) :
    iblk m q 0 t (ix2 i e) = xs m q (ix2 r e) := by
  have h0 := index_stream t
  blk_simp [iblk]
  refine (congrFun (V_main_arg0 m q) _).trans (congrArg _ ?_)
  funext a
  refine Fin.ext ?_
  match a with
  | ⟨0, _⟩ => blk_simp; show _ = r.val; omega
  | ⟨1, _⟩ => blk_simp; show _ = e.val; omega

/-- The output's block at a point. -/
theorem output_block (t : Fin cfg0.N) (i : Fin 256) (e : Fin 2048) (r : Fin 17408) (hr : r.val = t.val * 256 + i.val) :
    iblk m q 1 t (ix2 i e) = ys m q (ix2 r e) := by
  have h0 := index_output t
  blk_simp [iblk]
  refine (congrFun (V_main_arg1 m q) _).trans (congrArg _ ?_)
  funext a
  refine Fin.ext ?_
  match a with
  | ⟨0, _⟩ => blk_simp; show _ = r.val; omega
  | ⟨1, _⟩ => blk_simp; show _ = e.val; omega

/-- The modulation block a point reads for the gate. -/
theorem gate_block (t : Fin cfg0.N) (k : Fin 6) (e : Fin 2048) (s : Fin 4) (p : Fin 4352) (hs : s.val = t.val / 17)
    (hp : p.val / 256 = t.val % 17) : iblk m q 2 t (ix4 0 0 k e) = vecAt (own m q) (each m q) k s p e := by
  have h0 := index_gate t
  obtain ⟨d, hd⟩ : ∃ d : Fin 2, d.val = if t.val % 17 = 0 then 0 else 1 := ⟨⟨if t.val % 17 = 0 then 0 else 1, by split <;> omega⟩, rfl⟩
  rw [← hd] at h0
  have hb := beside_at (own m q) (each m q) s d k e
  have hv : (if d.val < 1 then own m q (ix2 k e) else each m q (ix3 s k e)) = vecAt (own m q) (each m q) k s p e := by
    unfold vecAt
    by_cases ht : t.val % 17 = 0
    · rw [if_pos ht] at hd
      rw [if_pos (show d.val < 1 by omega), if_pos (show p.val < 256 by omega)]
    · rw [if_neg ht] at hd
      rw [if_neg (show ¬ d.val < 1 by omega), if_neg (show ¬ p.val < 256 by omega)]
  refine Eq.trans ?_ (hb.trans hv)
  blk_simp [iblk]
  refine (congrFun (gate_entered m q) _).trans (congrArg _ ?_)
  funext a
  refine Fin.ext ?_
  match a with
  | ⟨0, _⟩ => blk_simp; show _ = s.val; omega
  | ⟨1, _⟩ => blk_simp; show _ = d.val; omega
  | ⟨2, _⟩ => blk_simp; show _ = k.val; omega
  | ⟨3, _⟩ => blk_simp; show _ = e.val; omega

/-- The modulation block a point reads for the next. -/
theorem next_block (t : Fin cfg0.N) (k : Fin 6) (e : Fin 2048) (s : Fin 4) (p : Fin 4352) (hs : s.val = t.val / 17)
    (hp : p.val / 256 = t.val % 17) : iblk m q 3 t (ix4 0 0 k e) = vecAt (own m q) (each m q) k s p e := by
  have h0 := index_next t
  obtain ⟨d, hd⟩ : ∃ d : Fin 2, d.val = if t.val % 17 = 0 then 0 else 1 := ⟨⟨if t.val % 17 = 0 then 0 else 1, by split <;> omega⟩, rfl⟩
  rw [← hd] at h0
  have hb := beside_at (own m q) (each m q) s d k e
  have hv : (if d.val < 1 then own m q (ix2 k e) else each m q (ix3 s k e)) = vecAt (own m q) (each m q) k s p e := by
    unfold vecAt
    by_cases ht : t.val % 17 = 0
    · rw [if_pos ht] at hd
      rw [if_pos (show d.val < 1 by omega), if_pos (show p.val < 256 by omega)]
    · rw [if_neg ht] at hd
      rw [if_neg (show ¬ d.val < 1 by omega), if_neg (show ¬ p.val < 256 by omega)]
  refine Eq.trans ?_ (hb.trans hv)
  blk_simp [iblk]
  refine (congrFun (gate_entered m q) _).trans (congrArg _ ?_)
  funext a
  refine Fin.ext ?_
  match a with
  | ⟨0, _⟩ => blk_simp; show _ = s.val; omega
  | ⟨1, _⟩ => blk_simp; show _ = d.val; omega
  | ⟨2, _⟩ => blk_simp; show _ = k.val; omega
  | ⟨3, _⟩ => blk_simp; show _ = e.val; omega

/-- The norm's weight block, the same at every point. -/
theorem weight_block (t : Fin cfg0.N) (e : Fin 2048) : iblk m q 4 t (ix2 0 e) = gs m q (ix1 e) := by
  have h0 := index_weight t
  refine Eq.trans ?_ (asRow_at (gs m q) e)
  blk_simp [iblk]
  refine (congrFun (weight_entered m q) _).trans (congrArg _ ?_)
  funext a
  refine Fin.ext ?_
  match a with
  | ⟨0, _⟩ => blk_simp; show _ = 0; omega
  | ⟨1, _⟩ => blk_simp; show _ = e.val; omega

/-- The norm's bias block, the same at every point. -/
theorem bias_block (t : Fin cfg0.N) (e : Fin 2048) : iblk m q 5 t (ix2 0 e) = bs m q (ix1 e) := by
  have h0 := index_bias t
  refine Eq.trans ?_ (asRow_at (bs m q) e)
  blk_simp [iblk]
  refine (congrFun (bias_entered m q) _).trans (congrArg _ ?_)
  funext a
  refine Fin.ext ?_
  match a with
  | ⟨0, _⟩ => blk_simp; show _ = 0; omega
  | ⟨1, _⟩ => blk_simp; show _ = e.val; omega

/-- A block's normed values are the reference's of the row. -/
theorem row_eq (t : Fin cfg0.N) (i : Fin 256) (j : Fin 2048) (r : Fin 17408) (hr : r.val = t.val * 256 + i.val) (s : Fin 4) (p : Fin 4352)
    (hs : s.val = t.val / 17) (hp : p.val / 256 = t.val % 17) :
    normed (comb (fun e => iblk m q 0 t (ix2 i e)) (fun e => iblk m q 1 t (ix2 i e)) (fun e => iblk m q 2 t (ix4 0 0 2 e)))
      (fun e => iblk m q 4 t (ix2 0 e)) (fun e => iblk m q 5 t (ix2 0 e)) j
      = rowNormed (xs m q) (ys m q) (own m q) (each m q) (gs m q) (bs m q) r s p j := by
  rw [show (fun e => iblk m q 0 t (ix2 i e)) = fun e => xs m q (ix2 r e) from funext fun e => stream_block m q t i e r hr,
    show (fun e => iblk m q 1 t (ix2 i e)) = fun e => ys m q (ix2 r e) from funext fun e => output_block m q t i e r hr,
    show (fun e => iblk m q 2 t (ix4 0 0 2 e)) = vecAt (own m q) (each m q) 2 s p from funext fun e => gate_block m q t 2 e s p hs hp,
    show (fun e => iblk m q 4 t (ix2 0 e)) = fun e => gs m q (ix1 e) from funext fun e => weight_block m q t e,
    show (fun e => iblk m q 5 t (ix2 0 e)) = fun e => bs m q (ix1 e) from funext fun e => bias_block m q t e]
  rfl

/-- The row of a block's line, its sequence and its place there. -/
theorem row_of (t : Fin cfg0.N) (i : Fin 256) : ∃ (r : Fin 17408) (s : Fin 4) (p : Fin 4352), r.val = t.val * 256 + i.val
    ∧ r.val = s.val * 4352 + p.val ∧ s.val = t.val / 17 ∧ p.val / 256 = t.val % 17 := by
  have ht := point_lt t
  refine ⟨⟨t.val * 256 + i.val, by omega⟩, ⟨t.val / 17, by omega⟩, ⟨t.val % 17 * 256 + i.val, by omega⟩, rfl, ?_, rfl, ?_⟩
  · show t.val * 256 + i.val = t.val / 17 * 4352 + (t.val % 17 * 256 + i.val)
    omega
  · show (t.val % 17 * 256 + i.val) / 256 = t.val % 17
    omega

/-- What a grid point writes back of the normed rows is its block of the result. -/
theorem written6_at (t : Fin cfg0.N) (i : Fin 256) (j : Fin 2048) :
    (dats m 0 q).after 6 t (ix2 i j) = result0 m q (((cfg0.win 6).blk t).view.emb (ix2 i j)) := by
  have ht := point_lt t
  have h0 := index_normed t
  rw [after0_6]
  refine (block6_at (iblk m q 0 t) (iblk m q 1 t) (iblk m q 2 t) (iblk m q 3 t) (iblk m q 4 t) (iblk m q 5 t) i j).trans ?_
  obtain ⟨r, s, p, hr, hsp, hs, hp⟩ := row_of t i
  rw [row_eq m q t i j r hr s p hs hp]
  refine (stream_at (xs m q) (ys m q) (own m q) (each m q) (gs m q) (bs m q) r s p hsp j).symm.trans (congrArg (result0 m q) ?_)
  funext a
  refine Fin.ext ?_
  match a with
  | ⟨0, _⟩ => blk_simp; show r.val = _; omega
  | ⟨1, _⟩ => blk_simp; show j.val = _; omega

theorem covered6 (x : S17408x2048.Idx) : ∃ t : Fin cfg0.N, (cfg0.win 6).flush t = true ∧ x ∈ ((cfg0.win 6).blk t).view.set := by
  have h0 : (x 0).val < 17408 := (x 0).isLt
  have h1 : (x 1).val < 2048 := (x 1).isLt
  obtain ⟨t, ht⟩ : ∃ t : Fin cfg0.N, t.val = (x 0).val / 256 :=
    ⟨⟨(x 0).val / 256, by rw [show cfg0.N = 68 from N_0]; omega⟩, rfl⟩
  refine ⟨t, flush0_6 t, ?_⟩
  have hi := index_normed t
  rw [ht] at hi
  mem_blk
  omega

/-- The array the kernel leaves of the normed rows. -/
theorem array6_eq : (dats m 0 q).arrAt 6 cfg0.N = result0 m q := by
  refine (dats m 0 q).arrAt_eq_of_emb 6 (result0 m q) (fun t _ y => ?_) covered6
  have hy : ∃ (i : Fin 256) (j : Fin 2048), y = ix2 i j := ⟨y 0, y 1, by
    funext a
    match a with
    | ⟨0, _⟩ => rfl
    | ⟨1, _⟩ => rfl⟩
  obtain ⟨i, j, rfl⟩ := hy
  exact written6_at m q t i j

/-- What a grid point writes back of the moved rows is its block of the result. -/
theorem written7_at (t : Fin cfg0.N) (i : Fin 256) (j : Fin 2048) :
    (dats m 0 q).after 7 t (ix2 i j) = result1 m q (((cfg0.win 7).blk t).view.emb (ix2 i j)) := by
  have ht := point_lt t
  have h0 := index_moved t
  rw [after0_7]
  refine (block7_at (iblk m q 0 t) (iblk m q 1 t) (iblk m q 2 t) (iblk m q 3 t) (iblk m q 4 t) (iblk m q 5 t) i j).trans ?_
  obtain ⟨r, s, p, hr, hsp, hs, hp⟩ := row_of t i
  rw [row_eq m q t i j r hr s p hs hp, next_block m q t 4 j s p hs hp, next_block m q t 3 j s p hs hp]
  refine (next_at (xs m q) (ys m q) (own m q) (each m q) (gs m q) (bs m q) r s p hsp j).symm.trans (congrArg (result1 m q) ?_)
  funext a
  refine Fin.ext ?_
  match a with
  | ⟨0, _⟩ => blk_simp; show r.val = _; omega
  | ⟨1, _⟩ => blk_simp; show j.val = _; omega

theorem covered7 (x : S17408x2048.Idx) : ∃ t : Fin cfg0.N, (cfg0.win 7).flush t = true ∧ x ∈ ((cfg0.win 7).blk t).view.set := by
  have h0 : (x 0).val < 17408 := (x 0).isLt
  have h1 : (x 1).val < 2048 := (x 1).isLt
  obtain ⟨t, ht⟩ : ∃ t : Fin cfg0.N, t.val = (x 0).val / 256 :=
    ⟨⟨(x 0).val / 256, by rw [show cfg0.N = 68 from N_0]; omega⟩, rfl⟩
  refine ⟨t, flush0_7 t, ?_⟩
  have hi := index_moved t
  rw [ht] at hi
  mem_blk
  omega

/-- The array the kernel leaves of the moved rows. -/
theorem array7_eq : (dats m 0 q).arrAt 7 cfg0.N = result1 m q := by
  refine (dats m 0 q).arrAt_eq_of_emb 7 (result1 m q) (fun t _ y => ?_) covered7
  have hy : ∃ (i : Fin 256) (j : Fin 2048), y = ix2 i j := ⟨y 0, y 1, by
    funext a
    match a with
    | ⟨0, _⟩ => rfl
    | ⟨1, _⟩ => rfl⟩
  obtain ⟨i, j, rfl⟩ := hy
  exact written7_at m q t i j

/-- What a grid point writes back of the columns is its block of the result. -/
theorem written8_at (t : Fin cfg0.N) (i : Fin 256) (j : Fin 2048) :
    (dats m 0 q).after 8 t (ix2 j i) = result2 m q (((cfg0.win 8).blk t).view.emb (ix2 j i)) := by
  have ht := point_lt t
  have h0 := index_turned t
  rw [after0_8]
  refine (block8_at (iblk m q 0 t) (iblk m q 1 t) (iblk m q 2 t) (iblk m q 3 t) (iblk m q 4 t) (iblk m q 5 t) i j).trans ?_
  obtain ⟨r, s, p, hr, hsp, hs, hp⟩ := row_of t i
  rw [row_eq m q t i j r hr s p hs hp, next_block m q t 4 j s p hs hp, next_block m q t 3 j s p hs hp]
  refine ((turned_at (xs m q) (ys m q) (own m q) (each m q) (gs m q) (bs m q) j r).trans (next_at (xs m q) (ys m q) (own m q) (each m q) (gs m q) (bs m q) r s p hsp j)).symm.trans (congrArg (result2 m q) ?_)
  funext a
  refine Fin.ext ?_
  match a with
  | ⟨0, _⟩ => blk_simp; show j.val = _; omega
  | ⟨1, _⟩ => blk_simp; show r.val = _; omega

theorem covered8 (x : S2048x17408.Idx) : ∃ t : Fin cfg0.N, (cfg0.win 8).flush t = true ∧ x ∈ ((cfg0.win 8).blk t).view.set := by
  have h0 : (x 0).val < 2048 := (x 0).isLt
  have h1 : (x 1).val < 17408 := (x 1).isLt
  obtain ⟨t, ht⟩ : ∃ t : Fin cfg0.N, t.val = (x 1).val / 256 :=
    ⟨⟨(x 1).val / 256, by rw [show cfg0.N = 68 from N_0]; omega⟩, rfl⟩
  refine ⟨t, flush0_8 t, ?_⟩
  have hi := index_turned t
  rw [ht] at hi
  mem_blk
  omega

/-- The array the kernel leaves of the columns. -/
theorem array8_eq : (dats m 0 q).arrAt 8 cfg0.N = result2 m q := by
  refine (dats m 0 q).arrAt_eq_of_emb 8 (result2 m q) (fun t _ y => ?_) covered8
  have hy : ∃ (i : Fin 256) (j : Fin 2048), y = ix2 j i := ⟨y 1, y 0, by
    funext a
    match a with
    | ⟨0, _⟩ => rfl
    | ⟨1, _⟩ => rfl⟩
  obtain ⟨i, j, rfl⟩ := hy
  exact written8_at m q t i j

/-- The kernel ends on every run, its arguments unchanged and its counters at zero. -/
theorem frame_kernel : Cert.quiescent_KernelMid (hKernelMid := Cert.KernelMid.Gen.facts) :=
  fun m ρ _ => Cert.KernelMid.Gen.frame m ρ

/-- The same of the kernel read over the extended reals. -/
theorem frame_kernel_ideal : Cert.quiescent_KernelMidIdeal (hKernelMidIdeal := Cert.KernelMidIdeal.Gen.facts) :=
  fun m ρ _ => Cert.KernelMidIdeal.Gen.frame m ρ

/-- The same of the reference read over the extended reals; it declares no semaphore. -/
theorem frame_reference_ideal : Cert.quiescent_ReferenceMidIdeal (hReferenceMidIdeal := Cert.ReferenceMidIdeal.Gen.facts) := fun m ρ _ =>
  (θ_run Cert.ReferenceMidIdeal.defs _ _).mono
    (fun r h => ⟨fun c => (h c).2.2.2, Idealize.ShloMosaic.sem_eq_zero_of_no_sems (by decide) r.2⟩)
    (Cert.ReferenceMidIdeal.Value.run (F := Ideal) m ρ)

/-- Over the extended reals the kernel's three arrays are the reference's, whatever the arguments. -/
theorem kernel_is_reference : Cert.algebraic_KernelMidIdeal_ReferenceMidIdeal (hKernelMidIdeal := Cert.KernelMidIdeal.Gen.facts)
    (hReferenceMidIdeal := Cert.ReferenceMidIdeal.Gen.facts) := by
  intro m ρ m' ρ' _ hagree
  refine ⟨fun c => result0 m c, fun c => result1 m c, fun c => result2 m c, ?_, ?_⟩
  · exact (θ_run Cert.KernelMidIdeal.defs _ _).mono
      (fun _ h c => ⟨(h c).1.trans (array6_eq m c), (h c).2.1.trans (array7_eq m c), (h c).2.2.1.trans (array8_eq m c), (h c).2.2.2⟩)
      (Cert.KernelMidIdeal.Value.run_blocks (F := Ideal) m ρ)
  · refine (θ_run Cert.ReferenceMidIdeal.defs _ _).mono (fun _ h c => ⟨(h c).1.trans ?_, (h c).2.1.trans ?_, (h c).2.2.1.trans ?_, (h c).2.2.2⟩)
      (Cert.ReferenceMidIdeal.Value.run (F := Ideal) m' ρ')
    · unfold Cert.ReferenceMidIdeal.Value.res_main_v96
      obtain ⟨e0, e1, e2, e3, e4, e5⟩ := hagree c
      rw [e0, e1, e2, e3, e4, e5]
      rfl
    · unfold Cert.ReferenceMidIdeal.Value.res_main_v98
      obtain ⟨e0, e1, e2, e3, e4, e5⟩ := hagree c
      rw [e0, e1, e2, e3, e4, e5]
      rfl
    · unfold Cert.ReferenceMidIdeal.Value.res_main_v99
      obtain ⟨e0, e1, e2, e3, e4, e5⟩ := hagree c
      rw [e0, e1, e2, e3, e4, e5]
      rfl

end Cert.KernelMidIdeal.MidValue

end
-- ==== Proof.lean ====
/-
  The proof of `Cert.Claim`: for each call the three frames, the idealization's claim (which rewrites nothing) and the value claim.
-/
module

public import proofs.«01_k».proof.Defs
public import proofs.«01_k».proof.Proof.RetClaims
public import proofs.«01_k».proof.Proof.ProjIn
public import proofs.«01_k».proof.Proof.RetMerge
public import proofs.«01_k».proof.Proof.ProjOut
public import proofs.«01_k».proof.Proof.ProjRgIn
public import proofs.«01_k».proof.Proof.RgOut
public import proofs.«01_k».proof.Proof.ProjSquare
public import proofs.«01_k».proof.Proof.ProjQuery
public import proofs.«01_k».proof.Proof.Norm
public import proofs.«01_k».proof.Proof.ProjGateDown
public import proofs.«01_k».proof.Proof.ProjGateUp
public import proofs.«01_k».proof.Proof.Gates
public import proofs.«01_k».proof.Proof.ProjDecayDown
public import proofs.«01_k».proof.Proof.ProjRateDown
public import proofs.«01_k».proof.Proof.ProjPairUp
public import proofs.«01_k».proof.Proof.Mid

@[expose] public section

noncomputable section

namespace Cert.Proof

/-- Everything the certificate claims, call by call. -/
theorem claim : Cert.Claim := ⟨
  Cert.Kernel.Gen.facts, Cert.KernelIdeal.Gen.facts, Cert.ReferenceIdeal.Gen.facts,
  Cert.KernelIn.Gen.facts, Cert.KernelInIdeal.Gen.facts, Cert.ReferenceInIdeal.Gen.facts,
  Cert.KernelMerge.Gen.facts, Cert.KernelMergeIdeal.Gen.facts, Cert.ReferenceMergeIdeal.Gen.facts,
  Cert.KernelOut.Gen.facts, Cert.KernelOutIdeal.Gen.facts, Cert.ReferenceOutIdeal.Gen.facts,
  Cert.KernelRgIn.Gen.facts, Cert.KernelRgInIdeal.Gen.facts, Cert.ReferenceRgInIdeal.Gen.facts,
  Cert.KernelRgOut.Gen.facts, Cert.KernelRgOutIdeal.Gen.facts, Cert.ReferenceRgOutIdeal.Gen.facts,
  Cert.KernelSquare.Gen.facts, Cert.KernelSquareIdeal.Gen.facts, Cert.ReferenceSquareIdeal.Gen.facts,
  Cert.KernelQuery.Gen.facts, Cert.KernelQueryIdeal.Gen.facts, Cert.ReferenceQueryIdeal.Gen.facts,
  Cert.KernelNorm.Gen.facts, Cert.KernelNormIdeal.Gen.facts, Cert.ReferenceNormIdeal.Gen.facts,
  Cert.KernelGateDown.Gen.facts, Cert.KernelGateDownIdeal.Gen.facts, Cert.ReferenceGateDownIdeal.Gen.facts,
  Cert.KernelGateUp.Gen.facts, Cert.KernelGateUpIdeal.Gen.facts, Cert.ReferenceGateUpIdeal.Gen.facts,
  Cert.KernelGates.Gen.facts, Cert.KernelGatesIdeal.Gen.facts, Cert.ReferenceGatesIdeal.Gen.facts,
  Cert.KernelDecayDown.Gen.facts, Cert.KernelDecayDownIdeal.Gen.facts, Cert.ReferenceDecayDownIdeal.Gen.facts,
  Cert.KernelRateDown.Gen.facts, Cert.KernelRateDownIdeal.Gen.facts, Cert.ReferenceRateDownIdeal.Gen.facts,
  Cert.KernelPairUp.Gen.facts, Cert.KernelPairUpIdeal.Gen.facts, Cert.ReferencePairUpIdeal.Gen.facts,
  Cert.KernelMid.Gen.facts, Cert.KernelMidIdeal.Gen.facts, Cert.ReferenceMidIdeal.Gen.facts,
  Cert.Retention.frame_kernel, Cert.Retention.frame_kernel_ideal,
    Cert.Retention.frame_reference_ideal,
  Cert.KernelInIdeal.ProjValue.frame_kernel, Cert.KernelInIdeal.ProjValue.frame_kernel_ideal,
    Cert.KernelInIdeal.ProjValue.frame_reference_ideal,
  Cert.KernelMergeIdeal.MergeValue.frame_kernel, Cert.KernelMergeIdeal.MergeValue.frame_kernel_ideal,
    Cert.KernelMergeIdeal.MergeValue.frame_reference_ideal,
  Cert.KernelOutIdeal.ProjValue.frame_kernel, Cert.KernelOutIdeal.ProjValue.frame_kernel_ideal,
    Cert.KernelOutIdeal.ProjValue.frame_reference_ideal,
  Cert.KernelRgInIdeal.ProjValue.frame_kernel, Cert.KernelRgInIdeal.ProjValue.frame_kernel_ideal,
    Cert.KernelRgInIdeal.ProjValue.frame_reference_ideal,
  Cert.KernelRgOutIdeal.GateValue.frame_kernel, Cert.KernelRgOutIdeal.GateValue.frame_kernel_ideal,
    Cert.KernelRgOutIdeal.GateValue.frame_reference_ideal,
  Cert.KernelSquareIdeal.ProjValue.frame_kernel, Cert.KernelSquareIdeal.ProjValue.frame_kernel_ideal,
    Cert.KernelSquareIdeal.ProjValue.frame_reference_ideal,
  Cert.KernelQueryIdeal.ProjValue.frame_kernel, Cert.KernelQueryIdeal.ProjValue.frame_kernel_ideal,
    Cert.KernelQueryIdeal.ProjValue.frame_reference_ideal,
  Cert.KernelNormIdeal.NormValue.frame_kernel, Cert.KernelNormIdeal.NormValue.frame_kernel_ideal,
    Cert.KernelNormIdeal.NormValue.frame_reference_ideal,
  Cert.KernelGateDownIdeal.ProjValue.frame_kernel, Cert.KernelGateDownIdeal.ProjValue.frame_kernel_ideal,
    Cert.KernelGateDownIdeal.ProjValue.frame_reference_ideal,
  Cert.KernelGateUpIdeal.ProjValue.frame_kernel, Cert.KernelGateUpIdeal.ProjValue.frame_kernel_ideal,
    Cert.KernelGateUpIdeal.ProjValue.frame_reference_ideal,
  Cert.KernelGatesIdeal.GatesValue.frame_kernel, Cert.KernelGatesIdeal.GatesValue.frame_kernel_ideal,
    Cert.KernelGatesIdeal.GatesValue.frame_reference_ideal,
  Cert.KernelDecayDownIdeal.ProjValue.frame_kernel, Cert.KernelDecayDownIdeal.ProjValue.frame_kernel_ideal,
    Cert.KernelDecayDownIdeal.ProjValue.frame_reference_ideal,
  Cert.KernelRateDownIdeal.ProjValue.frame_kernel, Cert.KernelRateDownIdeal.ProjValue.frame_kernel_ideal,
    Cert.KernelRateDownIdeal.ProjValue.frame_reference_ideal,
  Cert.KernelPairUpIdeal.ProjValue.frame_kernel, Cert.KernelPairUpIdeal.ProjValue.frame_kernel_ideal,
    Cert.KernelPairUpIdeal.ProjValue.frame_reference_ideal,
  Cert.KernelMidIdeal.MidValue.frame_kernel, Cert.KernelMidIdeal.MidValue.frame_kernel_ideal,
    Cert.KernelMidIdeal.MidValue.frame_reference_ideal,
  trivial, Cert.Retention.kernel_is_reference,
  trivial, Cert.KernelInIdeal.ProjValue.kernel_is_reference,
  trivial, Cert.KernelMergeIdeal.MergeValue.kernel_is_reference,
  trivial, Cert.KernelOutIdeal.ProjValue.kernel_is_reference,
  trivial, Cert.KernelRgInIdeal.ProjValue.kernel_is_reference,
  trivial, Cert.KernelRgOutIdeal.GateValue.kernel_is_reference,
  trivial, Cert.KernelSquareIdeal.ProjValue.kernel_is_reference,
  trivial, Cert.KernelQueryIdeal.ProjValue.kernel_is_reference,
  trivial, Cert.KernelNormIdeal.NormValue.kernel_is_reference,
  trivial, Cert.KernelGateDownIdeal.ProjValue.kernel_is_reference,
  trivial, Cert.KernelGateUpIdeal.ProjValue.kernel_is_reference,
  trivial, Cert.KernelGatesIdeal.GatesValue.kernel_is_reference,
  trivial, Cert.KernelDecayDownIdeal.ProjValue.kernel_is_reference,
  trivial, Cert.KernelRateDownIdeal.ProjValue.kernel_is_reference,
  trivial, Cert.KernelPairUpIdeal.ProjValue.kernel_is_reference,
  trivial, Cert.KernelMidIdeal.MidValue.kernel_is_reference⟩

end Cert.Proof

end
